-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7)
      ∧ r.2.mem ((c.tc : Thread Cert.Kernel13.nD Cert.Kernel13.τ).loc Cert.Kernel13.main_arg8) = m ((c.tc : Thread Cert.Kernel13.nD Cert.Kernel13.τ).loc Cert.Kernel13.main_arg8)
      ∧ r.2.mem ((c.tc : Thread Cert.Kernel13.nD Cert.Kernel13.τ).loc Cert.Kernel13.main_arg9) = m ((c.tc : Thread Cert.Kernel13.nD Cert.Kernel13.τ).loc Cert.Kernel13.main_arg9))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
      ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
      ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7)
      ∧ r.2.mem ((c.tc : Thread Cert.Reference13Ideal.nD Cert.Reference13Ideal.τ).loc Cert.Reference13Ideal.main_arg8) = m ((c.tc : Thread Cert.Reference13Ideal.nD Cert.Reference13Ideal.τ).loc Cert.Reference13Ideal.main_arg8)
      ∧ r.2.mem ((c.tc : Thread Cert.Reference13Ideal.nD Cert.Reference13Ideal.τ).loc Cert.Reference13Ideal.main_arg9) = m ((c.tc : Thread Cert.Reference13Ideal.nD Cert.Reference13Ideal.τ).loc Cert.Reference13Ideal.main_arg9))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v107_0)) (v1 : (c : Dev Cert.KernelIdeal.nD) → Buf (Elt Ideal) ((c.tc : Thread Cert.KernelIdeal.nD Cert.KernelIdeal.τ).loc Cert.KernelIdeal.main_v107_1)) (v2 : (c : Dev Cert.KernelIdeal.nD) → Buf (Elt Ideal) ((c.tc : Thread Cert.KernelIdeal.nD Cert.KernelIdeal.τ).loc Cert.KernelIdeal.main_v107_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107_0) = v0 c
          ∧ r.2.mem ((c.tc : Thread Cert.KernelIdeal.nD Cert.KernelIdeal.τ).loc Cert.KernelIdeal.main_v107_1) = v1 c
          ∧ r.2.mem ((c.tc : Thread Cert.KernelIdeal.nD Cert.KernelIdeal.τ).loc Cert.KernelIdeal.main_v107_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v208) = v0 c
          ∧ r.2.mem ((c.tc : Thread Cert.ReferenceIdeal.nD Cert.ReferenceIdeal.τ).loc Cert.ReferenceIdeal.main_v210) = v1 c
          ∧ r.2.mem ((c.tc : Thread Cert.ReferenceIdeal.nD Cert.ReferenceIdeal.τ).loc Cert.ReferenceIdeal.main_v211) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v52_0)) (v1 : (c : Dev Cert.Kernel2Ideal.nD) → Buf (Elt Ideal) ((c.tc : Thread Cert.Kernel2Ideal.nD Cert.Kernel2Ideal.τ).loc Cert.Kernel2Ideal.main_v52_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v52_0) = v0 c
          ∧ r.2.mem ((c.tc : Thread Cert.Kernel2Ideal.nD Cert.Kernel2Ideal.τ).loc Cert.Kernel2Ideal.main_v52_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v76) = v0 c
          ∧ r.2.mem ((c.tc : Thread Cert.Reference2Ideal.nD Cert.Reference2Ideal.τ).loc Cert.Reference2Ideal.main_v77) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v4_0)) (v1 : (c : Dev Cert.Kernel11Ideal.nD) → Buf (Elt Ideal) ((c.tc : Thread Cert.Kernel11Ideal.nD Cert.Kernel11Ideal.τ).loc Cert.Kernel11Ideal.main_v4_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4_0) = v0 c
          ∧ r.2.mem ((c.tc : Thread Cert.Kernel11Ideal.nD Cert.Kernel11Ideal.τ).loc Cert.Kernel11Ideal.main_v4_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v53) = v0 c
          ∧ r.2.mem ((c.tc : Thread Cert.Reference11Ideal.nD Cert.Reference11Ideal.τ).loc Cert.Reference11Ideal.main_v54) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v4_0)) (v1 : (c : Dev Cert.Kernel12Ideal.nD) → Buf (Elt Ideal) ((c.tc : Thread Cert.Kernel12Ideal.nD Cert.Kernel12Ideal.τ).loc Cert.Kernel12Ideal.main_v4_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4_0) = v0 c
          ∧ r.2.mem ((c.tc : Thread Cert.Kernel12Ideal.nD Cert.Kernel12Ideal.τ).loc Cert.Kernel12Ideal.main_v4_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v51) = v0 c
          ∧ r.2.mem ((c.tc : Thread Cert.Reference12Ideal.nD Cert.Reference12Ideal.τ).loc Cert.Reference12Ideal.main_v52) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)
      ∧ m' ((c.tc : Thread Cert.Reference13Ideal.nD Cert.Reference13Ideal.τ).loc Cert.Reference13Ideal.main_arg8) = m ((c.tc : Thread Cert.Kernel13Ideal.nD Cert.Kernel13Ideal.τ).loc Cert.Kernel13Ideal.main_arg8)
      ∧ m' ((c.tc : Thread Cert.Reference13Ideal.nD Cert.Reference13Ideal.τ).loc Cert.Reference13Ideal.main_arg9) = m ((c.tc : Thread Cert.Kernel13Ideal.nD Cert.Kernel13Ideal.τ).loc Cert.Kernel13Ideal.main_arg9)) →
    ∃ (v0 : (c : Dev Cert.Kernel13Ideal.nD) → Buf (Elt Ideal) ((c.tc : Thread Cert.Kernel13Ideal.nD Cert.Kernel13Ideal.τ).loc Cert.Kernel13Ideal.main_v6_1)) (v1 : (c : Dev Cert.Kernel13Ideal.nD) → Buf (Elt Ideal) ((c.tc : Thread Cert.Kernel13Ideal.nD Cert.Kernel13Ideal.τ).loc Cert.Kernel13Ideal.main_v6_2)) (v2 : (c : Dev Cert.Kernel13Ideal.nD) → Buf (Elt Ideal) ((c.tc : Thread Cert.Kernel13Ideal.nD Cert.Kernel13Ideal.τ).loc Cert.Kernel13Ideal.main_v6_3)) (v3 : (c : Dev Cert.Kernel13Ideal.nD) → Buf (Elt Ideal) ((c.tc : Thread Cert.Kernel13Ideal.nD Cert.Kernel13Ideal.τ).loc Cert.Kernel13Ideal.main_v6_4)) (v4 : (c : Dev Cert.Kernel13Ideal.nD) → Buf (Elt Ideal) ((c.tc : Thread Cert.Kernel13Ideal.nD Cert.Kernel13Ideal.τ).loc Cert.Kernel13Ideal.main_v6_5)) (v5 : (c : Dev Cert.Kernel13Ideal.nD) → Buf (Elt Ideal) ((c.tc : Thread Cert.Kernel13Ideal.nD Cert.Kernel13Ideal.τ).loc Cert.Kernel13Ideal.main_v6_6)) (v6 : (c : Dev Cert.Kernel13Ideal.nD) → Buf (Elt Ideal) ((c.tc : Thread Cert.Kernel13Ideal.nD Cert.Kernel13Ideal.τ).loc Cert.Kernel13Ideal.main_v6_7)) (v7 : (c : Dev Cert.Kernel13Ideal.nD) → Buf (Elt Ideal) ((c.tc : Thread Cert.Kernel13Ideal.nD Cert.Kernel13Ideal.τ).loc Cert.Kernel13Ideal.main_v6_8)) (v8 : (c : Dev Cert.Kernel13Ideal.nD) → Buf (Elt Ideal) ((c.tc : Thread Cert.Kernel13Ideal.nD Cert.Kernel13Ideal.τ).loc Cert.Kernel13Ideal.main_v6_9)) (v9 : (c : Dev Cert.Kernel13Ideal.nD) → Buf (Elt Ideal) ((c.tc : Thread Cert.Kernel13Ideal.nD Cert.Kernel13Ideal.τ).loc Cert.Kernel13Ideal.main_v6_10)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v6_1) = v0 c
          ∧ r.2.mem ((c.tc : Thread Cert.Kernel13Ideal.nD Cert.Kernel13Ideal.τ).loc Cert.Kernel13Ideal.main_v6_2) = v1 c
          ∧ r.2.mem ((c.tc : Thread Cert.Kernel13Ideal.nD Cert.Kernel13Ideal.τ).loc Cert.Kernel13Ideal.main_v6_3) = v2 c
          ∧ r.2.mem ((c.tc : Thread Cert.Kernel13Ideal.nD Cert.Kernel13Ideal.τ).loc Cert.Kernel13Ideal.main_v6_4) = v3 c
          ∧ r.2.mem ((c.tc : Thread Cert.Kernel13Ideal.nD Cert.Kernel13Ideal.τ).loc Cert.Kernel13Ideal.main_v6_5) = v4 c
          ∧ r.2.mem ((c.tc : Thread Cert.Kernel13Ideal.nD Cert.Kernel13Ideal.τ).loc Cert.Kernel13Ideal.main_v6_6) = v5 c
          ∧ r.2.mem ((c.tc : Thread Cert.Kernel13Ideal.nD Cert.Kernel13Ideal.τ).loc Cert.Kernel13Ideal.main_v6_7) = v6 c
          ∧ r.2.mem ((c.tc : Thread Cert.Kernel13Ideal.nD Cert.Kernel13Ideal.τ).loc Cert.Kernel13Ideal.main_v6_8) = v7 c
          ∧ r.2.mem ((c.tc : Thread Cert.Kernel13Ideal.nD Cert.Kernel13Ideal.τ).loc Cert.Kernel13Ideal.main_v6_9) = v8 c
          ∧ r.2.mem ((c.tc : Thread Cert.Kernel13Ideal.nD Cert.Kernel13Ideal.τ).loc Cert.Kernel13Ideal.main_v6_10) = v9 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
          ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
          ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
          ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v99) = v0 c
          ∧ r.2.mem ((c.tc : Thread Cert.Reference13Ideal.nD Cert.Reference13Ideal.τ).loc Cert.Reference13Ideal.main_v133) = v1 c
          ∧ r.2.mem ((c.tc : Thread Cert.Reference13Ideal.nD Cert.Reference13Ideal.τ).loc Cert.Reference13Ideal.main_v135) = v2 c
          ∧ r.2.mem ((c.tc : Thread Cert.Reference13Ideal.nD Cert.Reference13Ideal.τ).loc Cert.Reference13Ideal.main_v111) = v3 c
          ∧ r.2.mem ((c.tc : Thread Cert.Reference13Ideal.nD Cert.Reference13Ideal.τ).loc Cert.Reference13Ideal.main_v140) = v4 c
          ∧ r.2.mem ((c.tc : Thread Cert.Reference13Ideal.nD Cert.Reference13Ideal.τ).loc Cert.Reference13Ideal.main_v141) = v5 c
          ∧ r.2.mem ((c.tc : Thread Cert.Reference13Ideal.nD Cert.Reference13Ideal.τ).loc Cert.Reference13Ideal.main_v142) = v6 c
          ∧ r.2.mem ((c.tc : Thread Cert.Reference13Ideal.nD Cert.Reference13Ideal.τ).loc Cert.Reference13Ideal.main_v143) = v7 c
          ∧ r.2.mem ((c.tc : Thread Cert.Reference13Ideal.nD Cert.Reference13Ideal.τ).loc Cert.Reference13Ideal.main_v119) = v8 c
          ∧ r.2.mem ((c.tc : Thread Cert.Reference13Ideal.nD Cert.Reference13Ideal.τ).loc Cert.Reference13Ideal.main_v107) = v9 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6)
          ∧ r.2.mem ((c.tc : Thread Cert.Reference13Ideal.nD Cert.Reference13Ideal.τ).loc Cert.Reference13Ideal.main_arg7) = m' ((c.tc : Thread Cert.Reference13Ideal.nD Cert.Reference13Ideal.τ).loc Cert.Reference13Ideal.main_arg7)
          ∧ r.2.mem ((c.tc : Thread Cert.Reference13Ideal.nD Cert.Reference13Ideal.τ).loc Cert.Reference13Ideal.main_arg8) = m' ((c.tc : Thread Cert.Reference13Ideal.nD Cert.Reference13Ideal.τ).loc Cert.Reference13Ideal.main_arg8)
          ∧ r.2.mem ((c.tc : Thread Cert.Reference13Ideal.nD Cert.Reference13Ideal.τ).loc Cert.Reference13Ideal.main_arg9) = m' ((c.tc : Thread Cert.Reference13Ideal.nD Cert.Reference13Ideal.τ).loc Cert.Reference13Ideal.main_arg9))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)) →
    ∃ (v0 : (c : Dev Cert.Kernel14Ideal.nD) → Buf (Elt Ideal) ((c.tc : Thread Cert.Kernel14Ideal.nD Cert.Kernel14Ideal.τ).loc Cert.Kernel14Ideal.main_v2_0)) (v1 : (c : Dev Cert.Kernel14Ideal.nD) → Buf (Elt Ideal) ((c.tc : Thread Cert.Kernel14Ideal.nD Cert.Kernel14Ideal.τ).loc Cert.Kernel14Ideal.main_v2_1)) (v2 : (c : Dev Cert.Kernel14Ideal.nD) → Buf (Elt Ideal) ((c.tc : Thread Cert.Kernel14Ideal.nD Cert.Kernel14Ideal.τ).loc Cert.Kernel14Ideal.main_v2_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2_0) = v0 c
          ∧ r.2.mem ((c.tc : Thread Cert.Kernel14Ideal.nD Cert.Kernel14Ideal.τ).loc Cert.Kernel14Ideal.main_v2_1) = v1 c
          ∧ r.2.mem ((c.tc : Thread Cert.Kernel14Ideal.nD Cert.Kernel14Ideal.τ).loc Cert.Kernel14Ideal.main_v2_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v18) = v0 c
          ∧ r.2.mem ((c.tc : Thread Cert.Reference14Ideal.nD Cert.Reference14Ideal.τ).loc Cert.Reference14Ideal.main_v19) = v1 c
          ∧ r.2.mem ((c.tc : Thread Cert.Reference14Ideal.nD Cert.Reference14Ideal.τ).loc Cert.Reference14Ideal.main_v3) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_finite.lean ====
abbrev S2304x16x96 : Shape := ⟨3, ![2304, 16, 96]⟩
abbrev S2304x16x64 : Shape := ⟨3, ![2304, 16, 64]⟩
abbrev S2048x16 : Shape := ⟨2, ![2048, 16]⟩
abbrev S2304x1024 : Shape := ⟨2, ![2304, 1024]⟩
abbrev S_ : Shape := ⟨0, ![]⟩

class Facts : Prop where
  bcast_S_S2304x16x96 : S_.BroadcastsInDim S2304x16x96 (![] : Fin 0 → Fin S2304x16x96.rank)
  bcast_S_S2304x16x64 : S_.BroadcastsInDim S2304x16x64 (![] : Fin 0 → Fin S2304x16x64.rank)
  bcast_S_S2048x16 : S_.BroadcastsInDim S2048x16 (![] : Fin 0 → Fin S2048x16.rank)
  bcast_S_S2304x1024 : S_.BroadcastsInDim S2304x1024 (![] : Fin 0 → Fin S2304x1024.rank)

variable [Facts]

def fn {F : FTy → Type} [FloatOps F] (main_arg0 : FVec F S2304x16x96 .f32) (main_arg1 : FVec F S2304x16x96 .f32) (main_arg2 : FVec F S2304x16x64 .f32) (main_arg3 : FVec F S2048x16 .f32) (main_arg4 : FVec F S2048x16 .f32) (main_arg5 : FVec F S2304x1024 .f32) : IVec S2304x16x96 1 × IVec S2304x16x96 1 × IVec S2304x16x64 1 × IVec S2048x16 1 × IVec S2048x16 1 × IVec S2304x1024 1 :=
  let main_v0 : FVec F S2304x16x96 .f32 := Host.absf main_arg0
  let main_cst : FVec F S_ .f32 := constant S_ .f32 0x7F800000#32
  let main_v1 : FVec F S2304x16x96 .f32 := broadcastInDim S2304x16x96 ![] bcast_S_S2304x16x96 main_cst
  let main_v2 : IVec S2304x16x96 1 := cmpf .olt main_v0 main_v1
  let main_v3 : FVec F S2304x16x96 .f32 := Host.absf main_arg1
  let main_cst_0 : FVec F S_ .f32 := constant S_ .f32 0x7F800000#32
  let main_v4 : FVec F S2304x16x96 .f32 := broadcastInDim S2304x16x96 ![] bcast_S_S2304x16x96 main_cst_0
  let main_v5 : IVec S2304x16x96 1 := cmpf .olt main_v3 main_v4
  let main_v6 : FVec F S2304x16x64 .f32 := Host.absf main_arg2
  let main_cst_1 : FVec F S_ .f32 := constant S_ .f32 0x7F800000#32
  let main_v7 : FVec F S2304x16x64 .f32 := broadcastInDim S2304x16x64 ![] bcast_S_S2304x16x64 main_cst_1
  let main_v8 : IVec S2304x16x64 1 := cmpf .olt main_v6 main_v7
  let main_v9 : FVec F S2048x16 .f32 := Host.absf main_arg3
  let main_cst_2 : FVec F S_ .f32 := constant S_ .f32 0x7F800000#32
  let main_v10 : FVec F S2048x16 .f32 := broadcastInDim S2048x16 ![] bcast_S_S2048x16 main_cst_2
  let main_v11 : IVec S2048x16 1 := cmpf .olt main_v9 main_v10
  let main_v12 : FVec F S2048x16 .f32 := Host.absf main_arg4
  let main_cst_3 : FVec F S_ .f32 := constant S_ .f32 0x7F800000#32
  let main_v13 : FVec F S2048x16 .f32 := broadcastInDim S2048x16 ![] bcast_S_S2048x16 main_cst_3
  let main_v14 : IVec S2048x16 1 := cmpf .olt main_v12 main_v13
  let main_v15 : FVec F S2304x1024 .f32 := Host.absf main_arg5
  let main_cst_4 : FVec F S_ .f32 := constant S_ .f32 0x7F800000#32
  let main_v16 : FVec F S2304x1024 .f32 := broadcastInDim S2304x1024 ![] bcast_S_S2304x1024 main_cst_4
  let main_v17 : IVec S2304x1024 1 := cmpf .olt main_v15 main_v16
  (main_v2, main_v5, main_v8, main_v11, main_v14, main_v17)
-- ==== Pre_finite2.lean ====
abbrev S2304x16x96 : Shape := ⟨3, ![2304, 16, 96]⟩
abbrev S2304x16x64 : Shape := ⟨3, ![2304, 16, 64]⟩
abbrev S2048x16 : Shape := ⟨2, ![2048, 16]⟩
abbrev S_ : Shape := ⟨0, ![]⟩

class Facts : Prop where
  bcast_S_S2304x16x96 : S_.BroadcastsInDim S2304x16x96 (![] : Fin 0 → Fin S2304x16x96.rank)
  bcast_S_S2304x16x64 : S_.BroadcastsInDim S2304x16x64 (![] : Fin 0 → Fin S2304x16x64.rank)
  bcast_S_S2048x16 : S_.BroadcastsInDim S2048x16 (![] : Fin 0 → Fin S2048x16.rank)

variable [Facts]

def fn {F : FTy → Type} [FloatOps F] (main_arg0 : FVec F S2304x16x96 .f32) (main_arg1 : FVec F S2304x16x96 .f32) (main_arg2 : FVec F S2304x16x64 .f32) (main_arg3 : FVec F S2048x16 .f32) (main_arg4 : FVec F S2048x16 .f32) : IVec S2304x16x96 1 × IVec S2304x16x96 1 × IVec S2304x16x64 1 × IVec S2048x16 1 × IVec S2048x16 1 :=
  let main_v0 : FVec F S2304x16x96 .f32 := Host.absf main_arg0
  let main_cst : FVec F S_ .f32 := constant S_ .f32 0x7F800000#32
  let main_v1 : FVec F S2304x16x96 .f32 := broadcastInDim S2304x16x96 ![] bcast_S_S2304x16x96 main_cst
  let main_v2 : IVec S2304x16x96 1 := cmpf .olt main_v0 main_v1
  let main_v3 : FVec F S2304x16x96 .f32 := Host.absf main_arg1
  let main_cst_0 : FVec F S_ .f32 := constant S_ .f32 0x7F800000#32
  let main_v4 : FVec F S2304x16x96 .f32 := broadcastInDim S2304x16x96 ![] bcast_S_S2304x16x96 main_cst_0
  let main_v5 : IVec S2304x16x96 1 := cmpf .olt main_v3 main_v4
  let main_v6 : FVec F S2304x16x64 .f32 := Host.absf main_arg2
  let main_cst_1 : FVec F S_ .f32 := constant S_ .f32 0x7F800000#32
  let main_v7 : FVec F S2304x16x64 .f32 := broadcastInDim S2304x16x64 ![] bcast_S_S2304x16x64 main_cst_1
  let main_v8 : IVec S2304x16x64 1 := cmpf .olt main_v6 main_v7
  let main_v9 : FVec F S2048x16 .f32 := Host.absf main_arg3
  let main_cst_2 : FVec F S_ .f32 := constant S_ .f32 0x7F800000#32
  let main_v10 : FVec F S2048x16 .f32 := broadcastInDim S2048x16 ![] bcast_S_S2048x16 main_cst_2
  let main_v11 : IVec S2048x16 1 := cmpf .olt main_v9 main_v10
  let main_v12 : FVec F S2048x16 .f32 := Host.absf main_arg4
  let main_cst_3 : FVec F S_ .f32 := constant S_ .f32 0x7F800000#32
  let main_v13 : FVec F S2048x16 .f32 := broadcastInDim S2048x16 ![] bcast_S_S2048x16 main_cst_3
  let main_v14 : IVec S2048x16 1 := cmpf .olt main_v12 main_v13
  (main_v2, main_v5, main_v8, main_v11, main_v14)
-- ==== Kernel.lean ====
abbrev S2304x16x96 : Shape := ⟨3, ![2304, 16, 96]⟩
abbrev S2304x16x64 : Shape := ⟨3, ![2304, 16, 64]⟩
abbrev S2048x16 : Shape := ⟨2, ![2048, 16]⟩
abbrev S2304x1024 : Shape := ⟨2, ![2304, 1024]⟩
abbrev S2048x16x64 : Shape := ⟨3, ![2048, 16, 64]⟩
abbrev S2048x16x32 : Shape := ⟨3, ![2048, 16, 32]⟩
abbrev S2048x16x16 : Shape := ⟨3, ![2048, 16, 16]⟩
abbrev S2048x8 : Shape := ⟨2, ![2048, 8]⟩
abbrev S2048x1x8 : Shape := ⟨3, ![2048, 1, 8]⟩
abbrev S2048x16x8 : Shape := ⟨3, ![2048, 16, 8]⟩
abbrev S2048x16x96 : Shape := ⟨3, ![2048, 16, 96]⟩
abbrev S16x2048x2304 : Shape := ⟨3, ![16, 2048, 2304]⟩
abbrev S_ : Shape := ⟨0, ![]⟩
abbrev S16x2048 : Shape := ⟨2, ![16, 2048]⟩
abbrev S16x2048x1 : Shape := ⟨3, ![16, 2048, 1]⟩
abbrev S16x64x2048 : Shape := ⟨3, ![16, 64, 2048]⟩
abbrev S256x16x96 : Shape := ⟨3, ![256, 16, 96]⟩
abbrev S256x16x64 : Shape := ⟨3, ![256, 16, 64]⟩
abbrev S16x256x256 : Shape := ⟨3, ![16, 256, 256]⟩
abbrev S16x256 : Shape := ⟨2, ![16, 256]⟩
abbrev S16x256x1 : Shape := ⟨3, ![16, 256, 1]⟩
abbrev S16x64x256 : Shape := ⟨3, ![16, 64, 256]⟩
abbrev S16x2304x1 : Shape := ⟨3, ![16, 2304, 1]⟩
abbrev S2304x16x128 : Shape := ⟨3, ![2304, 16, 128]⟩
abbrev S2304x2048 : Shape := ⟨2, ![2304, 2048]⟩
abbrev S2304x16x3 : Shape := ⟨3, ![2304, 16, 3]⟩
abbrev S2304x16x99 : Shape := ⟨3, ![2304, 16, 99]⟩
abbrev S256x16 : Shape := ⟨2, ![256, 16]⟩
abbrev S2304x16 : Shape := ⟨2, ![2304, 16]⟩
abbrev S2304x64 : Shape := ⟨2, ![2304, 64]⟩
abbrev S2304x32 : Shape := ⟨2, ![2304, 32]⟩
abbrev S2304x8 : Shape := ⟨2, ![2304, 8]⟩
abbrev S2304x128 : Shape := ⟨2, ![2304, 128]⟩
abbrev S256x256 : Shape := ⟨2, ![256, 256]⟩
abbrev S2304x256 : Shape := ⟨2, ![2304, 256]⟩
abbrev S256x128 : Shape := ⟨2, ![256, 128]⟩
abbrev S2x256x1 : Shape := ⟨3, ![2, 256, 1]⟩
abbrev S256x2304 : Shape := ⟨2, ![256, 2304]⟩
abbrev S128x2304 : Shape := ⟨2, ![128, 2304]⟩
abbrev S256 : Shape := ⟨1, ![256]⟩
abbrev S256x1 : Shape := ⟨2, ![256, 1]⟩
abbrev S1x256x1 : Shape := ⟨3, ![1, 256, 1]⟩
abbrev S128x256 : Shape := ⟨2, ![128, 256]⟩

abbrev nBuf : Space → Nat
  | .hbm => 133
  | .vmem => 26
  | .smem => 0
  | _ => 0

abbrev hbmTy0_0 (i : Nat) : BufTy := match i % 128 with
  | 0 => ⟨S2304x16x96, .f32⟩
  | 1 => ⟨S2304x16x96, .f32⟩
  | 2 => ⟨S2304x16x64, .f32⟩
  | 3 => ⟨S2048x16, .f32⟩
  | 4 => ⟨S2048x16, .f32⟩
  | 5 => ⟨S2304x1024, .f32⟩
  | 6 => ⟨S2048x16x64, .f32⟩
  | 7 => ⟨S2048x16x32, .f32⟩
  | 8 => ⟨S2048x16x16, .f32⟩
  | 9 => ⟨S2048x8, .f32⟩
  | 10 => ⟨S2048x8, .f32⟩
  | 11 => ⟨S2048x1x8, .f32⟩
  | 12 => ⟨S2048x1x8, .f32⟩
  | 13 => ⟨S2048x16x8, .f32⟩
  | 14 => ⟨S2048x16x8, .f32⟩
  | 15 => ⟨S2048x16x8, .f32⟩
  | 16 => ⟨S2048x16x8, .f32⟩
  | 17 => ⟨S2048x16x8, .f32⟩
  | 18 => ⟨S2048x16x8, .f32⟩
  | 19 => ⟨S2048x16x8, .f32⟩
  | 20 => ⟨S2048x16x8, .f32⟩
  | 21 => ⟨S2048x16x8, .f32⟩
  | 22 => ⟨S2048x16x8, .f32⟩
  | 23 => ⟨S2048x16x8, .f32⟩
  | 24 => ⟨S2048x16x8, .f32⟩
  | 25 => ⟨S2048x16x16, .f32⟩
  | 26 => ⟨S2048x16x16, .f32⟩
  | 27 => ⟨S2048x8, .f32⟩
  | 28 => ⟨S2048x8, .f32⟩
  | 29 => ⟨S2048x1x8, .f32⟩
  | 30 => ⟨S2048x1x8, .f32⟩
  | 31 => ⟨S2048x16x8, .f32⟩
  | 32 => ⟨S2048x16x8, .f32⟩
  | 33 => ⟨S2048x16x8, .f32⟩
  | 34 => ⟨S2048x16x8, .f32⟩
  | 35 => ⟨S2048x16x8, .f32⟩
  | 36 => ⟨S2048x16x8, .f32⟩
  | 37 => ⟨S2048x16x8, .f32⟩
  | 38 => ⟨S2048x16x8, .f32⟩
  | 39 => ⟨S2048x16x8, .f32⟩
  | 40 => ⟨S2048x16x8, .f32⟩
  | 41 => ⟨S2048x16x8, .f32⟩
  | 42 => ⟨S2048x16x8, .f32⟩
  | 43 => ⟨S2048x16x16, .f32⟩
  | 44 => ⟨S2048x16x32, .f32⟩
  | 45 => ⟨S2048x16x96, .f32⟩
  | 46 => ⟨S16x2048x2304, .f32⟩
  | 47 => ⟨S_, .f32⟩
  | 48 => ⟨S16x2048x2304, .f32⟩
  | 49 => ⟨S16x2048x2304, .f32⟩
  | 50 => ⟨S_, .f32⟩
  | 51 => ⟨S16x2048, .f32⟩
  | 52 => ⟨S16x2048x1, .f32⟩
  | 53 => ⟨S16x2048x2304, .f32⟩
  | 54 => ⟨S16x2048x2304, .f32⟩
  | 55 => ⟨S16x2048x2304, .f32⟩
  | 56 => ⟨S_, .f32⟩
  | 57 => ⟨S16x2048, .f32⟩
  | 58 => ⟨S16x2048x1, .f32⟩
  | 59 => ⟨S16x2048x2304, .f32⟩
  | 60 => ⟨S16x2048x2304, .f32⟩
  | 61 => ⟨S16x64x2048, .f32⟩
  | 62 => ⟨S2048x16x64, .f32⟩
  | 63 => ⟨S16x2048x1, .f32⟩
  | 64 => ⟨S16x2048x1, .f32⟩
  | 65 => ⟨S256x16x96, .f32⟩
  | 66 => ⟨S256x16x96, .f32⟩
  | 67 => ⟨S256x16x64, .f32⟩
  | 68 => ⟨S16x256x256, .f32⟩
  | 69 => ⟨S_, .f32⟩
  | 70 => ⟨S16x256x256, .f32⟩
  | 71 => ⟨S16x256x256, .f32⟩
  | 72 => ⟨S_, .f32⟩
  | 73 => ⟨S16x256, .f32⟩
  | 74 => ⟨S16x256x1, .f32⟩
  | 75 => ⟨S16x256x256, .f32⟩
  | 76 => ⟨S16x256x256, .f32⟩
  | 77 => ⟨S16x256x256, .f32⟩
  | 78 => ⟨S_, .f32⟩
  | 79 => ⟨S16x256, .f32⟩
  | 80 => ⟨S16x256x1, .f32⟩
  | 81 => ⟨S16x256x256, .f32⟩
  | 82 => ⟨S16x256x256, .f32⟩
  | 83 => ⟨S16x64x256, .f32⟩
  | 84 => ⟨S256x16x64, .f32⟩
  | 85 => ⟨S16x256x1, .f32⟩
  | 86 => ⟨S16x256x1, .f32⟩
  | 87 => ⟨S2304x16x64, .f32⟩
  | 88 => ⟨S2304x1024, .f32⟩
  | 89 => ⟨S16x2304x1, .f32⟩
  | 90 => ⟨S256x16x96, .f32⟩
  | 91 => ⟨S2304x16x96, .f32⟩
  | 92 => ⟨S_, .i32⟩
  | 93 => ⟨S_, .f32⟩
  | 94 => ⟨S2304x16x128, .f32⟩
  | 95 => ⟨S2304x2048, .f32⟩
  | 96 => ⟨S2304x2048, .bf16⟩
  | 97 => ⟨S_, .f32⟩
  | 98 => ⟨S2304x16x3, .f32⟩
  | 99 => ⟨S2304x16x99, .f32⟩
  | 100 => ⟨S_, .i32⟩
  | 101 => ⟨S_, .f32⟩
  | 102 => ⟨S2304x16x128, .f32⟩
  | 103 => ⟨S2304x2048, .f32⟩
  | 104 => ⟨S2304x2048, .bf16⟩
  | 105 => ⟨S2304x1024, .f32⟩
  | 106 => ⟨S2304x1024, .bf16⟩
  | 107 => ⟨S_, .f32⟩
  | 108 => ⟨S256x16, .f32⟩
  | 109 => ⟨S2304x16, .f32⟩
  | 110 => ⟨S_, .f32⟩
  | 111 => ⟨S256x16, .f32⟩
  | 112 => ⟨S2304x16, .f32⟩
  | 113 => ⟨S_, .f32⟩
  | 114 => ⟨S2304x64, .f32⟩
  | 115 => ⟨S_, .f32⟩
  | 116 => ⟨S2304x64, .f32⟩
  | 117 => ⟨S_, .f32⟩
  | 118 => ⟨S2304x32, .f32⟩
  | 119 => ⟨S_, .f32⟩
  | 120 => ⟨S2304x8, .f32⟩
  | 121 => ⟨S2304x8, .f32⟩
  | 122 => ⟨S2304x8, .f32⟩
  | 123 => ⟨S2304x8, .f32⟩
  | 124 => ⟨S2304x8, .f32⟩
  | 125 => ⟨S2304x128, .f32⟩
  | 126 => ⟨S2304x8, .f32⟩
  | 127 => ⟨S2304x8, .f32⟩
  | _ => ⟨S2304x16x96, .f32⟩

abbrev hbmTy0_1 (i : Nat) : BufTy := match i % 128 with
  | 0 => ⟨S2304x128, .f32⟩
  | 1 => ⟨S2304x128, .f32⟩
  | 2 => ⟨S2304x2048, .bf16⟩
  | 3 => ⟨S2304x2048, .f32⟩
  | 4 => ⟨S2304x1024, .f32⟩
  | _ => ⟨S2304x16x96, .f32⟩

abbrev hbmTy (i : Nat) : BufTy := match i / 128 with
  | 0 => hbmTy0_0 i
  | 1 => hbmTy0_1 i
  | _ => ⟨S2304x16x96, .f32⟩

abbrev bufTy : (tb : Table) → Fin (tcTables nBuf tb) → BufTy
  | .hbm, ⟨i, _⟩ => hbmTy i
  | .local _ .vmem, ⟨0, _⟩ => ⟨S256x256, .bf16⟩
  | .local _ .vmem, ⟨1, _⟩ => ⟨S256x256, .bf16⟩
  | .local _ .vmem, ⟨2, _⟩ => ⟨S2304x256, .bf16⟩
  | .local _ .vmem, ⟨3, _⟩ => ⟨S2304x256, .bf16⟩
  | .local _ .vmem, ⟨4, _⟩ => ⟨S2304x128, .bf16⟩
  | .local _ .vmem, ⟨5, _⟩ => ⟨S2304x128, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S2x256x1, .f32⟩
  | .local _ .vmem, ⟨11, _⟩ => ⟨S2x256x1, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x256, .bf16⟩
  | .local _ .vmem, ⟨19, _⟩ => ⟨S256x256, .bf16⟩
  | .local _ .vmem, ⟨20, _⟩ => ⟨S2304x256, .f32⟩
  | .local _ .vmem, ⟨21, _⟩ => ⟨S2304x256, .f32⟩
  | .local _ .vmem, ⟨22, _⟩ => ⟨S2304x128, .f32⟩
  | .local _ .vmem, ⟨23, _⟩ => ⟨S2304x128, .f32⟩
  | .local _ .vmem, ⟨24, _⟩ => ⟨S256x2304, .f32⟩
  | .local _ .vmem, ⟨25, _⟩ => ⟨S128x2304, .f32⟩
  | _, _ => ⟨S2304x16x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_cst : Ref sig .tc := ⟨.hbm, 47, rfl⟩
abbrev main_v41 : Ref sig .tc := ⟨.hbm, 48, rfl⟩
abbrev main_v42 : Ref sig .tc := ⟨.hbm, 49, rfl⟩
abbrev main_cst_0 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_cst_1 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_cst_2 : Ref sig .tc := ⟨.hbm, 69, rfl⟩
abbrev main_v60 : Ref sig .tc := ⟨.hbm, 70, rfl⟩
abbrev main_v61 : Ref sig .tc := ⟨.hbm, 71, rfl⟩
abbrev main_cst_3 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_cst_4 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_c : Ref sig .tc := ⟨.hbm, 92, rfl⟩
abbrev main_call0_v0 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_cst_5 : Ref sig .tc := ⟨.hbm, 97, rfl⟩
abbrev main_v83 : Ref sig .tc := ⟨.hbm, 98, rfl⟩
abbrev main_v84 : Ref sig .tc := ⟨.hbm, 99, rfl⟩
abbrev main_c_6 : Ref sig .tc := ⟨.hbm, 100, rfl⟩
abbrev main_call1_v0 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_cst_7 : Ref sig .tc := ⟨.hbm, 107, rfl⟩
abbrev main_v90 : Ref sig .tc := ⟨.hbm, 108, rfl⟩
abbrev main_v91 : Ref sig .tc := ⟨.hbm, 109, rfl⟩
abbrev main_cst_8 : Ref sig .tc := ⟨.hbm, 110, rfl⟩
abbrev main_v92 : Ref sig .tc := ⟨.hbm, 111, rfl⟩
abbrev main_v93 : Ref sig .tc := ⟨.hbm, 112, rfl⟩
abbrev main_cst_9 : Ref sig .tc := ⟨.hbm, 113, rfl⟩
abbrev main_v94 : Ref sig .tc := ⟨.hbm, 114, rfl⟩
abbrev main_cst_10 : Ref sig .tc := ⟨.hbm, 115, rfl⟩
abbrev main_v95 : Ref sig .tc := ⟨.hbm, 116, rfl⟩
abbrev main_cst_11 : Ref sig .tc := ⟨.hbm, 117, rfl⟩
abbrev main_v96 : Ref sig .tc := ⟨.hbm, 118, rfl⟩
abbrev main_cst_12 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107_0 : Ref sig .tc := ⟨.hbm, 130, rfl⟩
abbrev main_v107_1 : Ref sig .tc := ⟨.hbm, 131, rfl⟩
abbrev main_v107_2 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 9], ![false, false]⟩

def k0_cond2 (i : grid0.Coords) : BitVec 1 :=
  let arg1 : BitVec 32 := BitVec.ofNat 32 (i 1).val
  let c1_i32 : BitVec 32 := 1#32
  let v3 : BitVec 1 := Scalar.cmpi .slt arg1 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c1_i32_2 : BitVec 32 := 1#32
  let v6 : BitVec 1 := Scalar.cmpi .sge arg1 c1_i32_2
  let v7 : BitVec 32 := Scalar.extui v6
  let c0_i32_3 : BitVec 32 := 0#32
  let v8 : BitVec 1 := Scalar.cmpi .ne v7 c0_i32_3
  v8

def k0_cond4 (i : grid0.Coords) : BitVec 1 :=
  let arg1 : BitVec 32 := BitVec.ofNat 32 (i 1).val
  let c8_i32 : BitVec 32 := 8#32
  let v9 : BitVec 1 := Scalar.cmpi .eq arg1 c8_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2304x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2304x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S2304x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S2304x16x96 : Shape := ⟨3, ![2304, 16, 96]⟩
abbrev S2304x16x64 : Shape := ⟨3, ![2304, 16, 64]⟩
abbrev S2048x16 : Shape := ⟨2, ![2048, 16]⟩
abbrev S2304x1024 : Shape := ⟨2, ![2304, 1024]⟩
abbrev S2048x16x64 : Shape := ⟨3, ![2048, 16, 64]⟩
abbrev S2048x16x32 : Shape := ⟨3, ![2048, 16, 32]⟩
abbrev S2048x16x16 : Shape := ⟨3, ![2048, 16, 16]⟩
abbrev S2048x8 : Shape := ⟨2, ![2048, 8]⟩
abbrev S2048x1x8 : Shape := ⟨3, ![2048, 1, 8]⟩
abbrev S2048x16x8 : Shape := ⟨3, ![2048, 16, 8]⟩
abbrev S2048x16x96 : Shape := ⟨3, ![2048, 16, 96]⟩
abbrev S16x2048x2304 : Shape := ⟨3, ![16, 2048, 2304]⟩
abbrev S_ : Shape := ⟨0, ![]⟩
abbrev S16x2048 : Shape := ⟨2, ![16, 2048]⟩
abbrev S16x2048x1 : Shape := ⟨3, ![16, 2048, 1]⟩
abbrev S16x64x2048 : Shape := ⟨3, ![16, 64, 2048]⟩
abbrev S256x16x96 : Shape := ⟨3, ![256, 16, 96]⟩
abbrev S256x16x64 : Shape := ⟨3, ![256, 16, 64]⟩
abbrev S16x256x256 : Shape := ⟨3, ![16, 256, 256]⟩
abbrev S16x256 : Shape := ⟨2, ![16, 256]⟩
abbrev S16x256x1 : Shape := ⟨3, ![16, 256, 1]⟩
abbrev S16x64x256 : Shape := ⟨3, ![16, 64, 256]⟩
abbrev S16x256x96 : Shape := ⟨3, ![16, 256, 96]⟩
abbrev S16x64x2304 : Shape := ⟨3, ![16, 64, 2304]⟩
abbrev S16x2304x96 : Shape := ⟨3, ![16, 2304, 96]⟩
abbrev S16x2048x96 : Shape := ⟨3, ![16, 2048, 96]⟩
abbrev S2304x16x128 : Shape := ⟨3, ![2304, 16, 128]⟩
abbrev S2304x2048 : Shape := ⟨2, ![2304, 2048]⟩

abbrev nBuf : Space → Nat
  | .hbm => 261
  | .vmem => 0
  | .smem => 0
  | _ => 0

abbrev hbmTy0_0 (i : Nat) : BufTy := match i % 128 with
  | 0 => ⟨S2304x16x96, .f32⟩
  | 1 => ⟨S2304x16x96, .f32⟩
  | 2 => ⟨S2304x16x64, .f32⟩
  | 3 => ⟨S2048x16, .f32⟩
  | 4 => ⟨S2048x16, .f32⟩
  | 5 => ⟨S2304x1024, .f32⟩
  | 6 => ⟨S2048x16x64, .f32⟩
  | 7 => ⟨S2048x16x32, .f32⟩
  | 8 => ⟨S2048x16x16, .f32⟩
  | 9 => ⟨S2048x8, .f32⟩
  | 10 => ⟨S2048x8, .f32⟩
  | 11 => ⟨S2048x1x8, .f32⟩
  | 12 => ⟨S2048x1x8, .f32⟩
  | 13 => ⟨S2048x16x8, .f32⟩
  | 14 => ⟨S2048x16x8, .f32⟩
  | 15 => ⟨S2048x16x8, .f32⟩
  | 16 => ⟨S2048x16x8, .f32⟩
  | 17 => ⟨S2048x16x8, .f32⟩
  | 18 => ⟨S2048x16x8, .f32⟩
  | 19 => ⟨S2048x16x8, .f32⟩
  | 20 => ⟨S2048x16x8, .f32⟩
  | 21 => ⟨S2048x16x8, .f32⟩
  | 22 => ⟨S2048x16x8, .f32⟩
  | 23 => ⟨S2048x16x8, .f32⟩
  | 24 => ⟨S2048x16x8, .f32⟩
  | 25 => ⟨S2048x16x16, .f32⟩
  | 26 => ⟨S2048x16x16, .f32⟩
  | 27 => ⟨S2048x8, .f32⟩
  | 28 => ⟨S2048x8, .f32⟩
  | 29 => ⟨S2048x1x8, .f32⟩
  | 30 => ⟨S2048x1x8, .f32⟩
  | 31 => ⟨S2048x16x8, .f32⟩
  | 32 => ⟨S2048x16x8, .f32⟩
  | 33 => ⟨S2048x16x8, .f32⟩
  | 34 => ⟨S2048x16x8, .f32⟩
  | 35 => ⟨S2048x16x8, .f32⟩
  | 36 => ⟨S2048x16x8, .f32⟩
  | 37 => ⟨S2048x16x8, .f32⟩
  | 38 => ⟨S2048x16x8, .f32⟩
  | 39 => ⟨S2048x16x8, .f32⟩
  | 40 => ⟨S2048x16x8, .f32⟩
  | 41 => ⟨S2048x16x8, .f32⟩
  | 42 => ⟨S2048x16x8, .f32⟩
  | 43 => ⟨S2048x16x16, .f32⟩
  | 44 => ⟨S2048x16x32, .f32⟩
  | 45 => ⟨S2048x16x96, .f32⟩
  | 46 => ⟨S16x2048x2304, .f32⟩
  | 47 => ⟨S_, .f32⟩
  | 48 => ⟨S16x2048x2304, .f32⟩
  | 49 => ⟨S16x2048x2304, .f32⟩
  | 50 => ⟨S_, .f32⟩
  | 51 => ⟨S16x2048, .f32⟩
  | 52 => ⟨S16x2048x1, .f32⟩
  | 53 => ⟨S16x2048x2304, .f32⟩
  | 54 => ⟨S16x2048x2304, .i1⟩
  | 55 => ⟨S16x2048x2304, .f32⟩
  | 56 => ⟨S_, .f32⟩
  | 57 => ⟨S16x2048, .f32⟩
  | 58 => ⟨S_, .f32⟩
  | 59 => ⟨S16x2048, .f32⟩
  | 60 => ⟨S16x2048, .f32⟩
  | 61 => ⟨S_, .f32⟩
  | 62 => ⟨S16x2048, .f32⟩
  | 63 => ⟨S16x2048, .i1⟩
  | 64 => ⟨S_, .f32⟩
  | 65 => ⟨S16x2048, .f32⟩
  | 66 => ⟨S16x2048, .i1⟩
  | 67 => ⟨S_, .f32⟩
  | 68 => ⟨S16x2048, .f32⟩
  | 69 => ⟨S_, .f32⟩
  | 70 => ⟨S16x2048, .f32⟩
  | 71 => ⟨S_, .f32⟩
  | 72 => ⟨S16x2048, .f32⟩
  | 73 => ⟨S16x2048, .f32⟩
  | 74 => ⟨S16x2048, .f32⟩
  | 75 => ⟨S16x2048x1, .f32⟩
  | 76 => ⟨S16x2048x2304, .f32⟩
  | 77 => ⟨S16x2048x2304, .f32⟩
  | 78 => ⟨S16x2048x2304, .f32⟩
  | 79 => ⟨S_, .f32⟩
  | 80 => ⟨S16x2048, .f32⟩
  | 81 => ⟨S16x2048x1, .f32⟩
  | 82 => ⟨S16x2048x2304, .f32⟩
  | 83 => ⟨S16x2048x2304, .f32⟩
  | 84 => ⟨S16x2048x1, .f32⟩
  | 85 => ⟨S_, .f32⟩
  | 86 => ⟨S16x2048x1, .f32⟩
  | 87 => ⟨S16x2048x1, .f32⟩
  | 88 => ⟨S16x64x2048, .f32⟩
  | 89 => ⟨S2048x16x64, .f32⟩
  | 90 => ⟨S256x16x96, .f32⟩
  | 91 => ⟨S256x16x96, .f32⟩
  | 92 => ⟨S256x16x64, .f32⟩
  | 93 => ⟨S16x256x256, .f32⟩
  | 94 => ⟨S_, .f32⟩
  | 95 => ⟨S16x256x256, .f32⟩
  | 96 => ⟨S16x256x256, .f32⟩
  | 97 => ⟨S_, .f32⟩
  | 98 => ⟨S16x256, .f32⟩
  | 99 => ⟨S16x256x1, .f32⟩
  | 100 => ⟨S16x256x256, .f32⟩
  | 101 => ⟨S16x256x256, .i1⟩
  | 102 => ⟨S16x256x256, .f32⟩
  | 103 => ⟨S_, .f32⟩
  | 104 => ⟨S16x256, .f32⟩
  | 105 => ⟨S_, .f32⟩
  | 106 => ⟨S16x256, .f32⟩
  | 107 => ⟨S16x256, .f32⟩
  | 108 => ⟨S_, .f32⟩
  | 109 => ⟨S16x256, .f32⟩
  | 110 => ⟨S16x256, .i1⟩
  | 111 => ⟨S_, .f32⟩
  | 112 => ⟨S16x256, .f32⟩
  | 113 => ⟨S16x256, .i1⟩
  | 114 => ⟨S_, .f32⟩
  | 115 => ⟨S16x256, .f32⟩
  | 116 => ⟨S_, .f32⟩
  | 117 => ⟨S16x256, .f32⟩
  | 118 => ⟨S_, .f32⟩
  | 119 => ⟨S16x256, .f32⟩
  | 120 => ⟨S16x256, .f32⟩
  | 121 => ⟨S16x256, .f32⟩
  | 122 => ⟨S16x256x1, .f32⟩
  | 123 => ⟨S16x256x256, .f32⟩
  | 124 => ⟨S16x256x256, .f32⟩
  | 125 => ⟨S16x256x256, .f32⟩
  | 126 => ⟨S_, .f32⟩
  | 127 => ⟨S16x256, .f32⟩
  | _ => ⟨S2304x16x96, .f32⟩

abbrev hbmTy0_1 (i : Nat) : BufTy := match i % 128 with
  | 0 => ⟨S16x256x1, .f32⟩
  | 1 => ⟨S16x256x256, .f32⟩
  | 2 => ⟨S16x256x256, .f32⟩
  | 3 => ⟨S16x256x1, .f32⟩
  | 4 => ⟨S_, .f32⟩
  | 5 => ⟨S16x256x1, .f32⟩
  | 6 => ⟨S16x256x1, .f32⟩
  | 7 => ⟨S16x64x256, .f32⟩
  | 8 => ⟨S256x16x64, .f32⟩
  | 9 => ⟨S2304x16x64, .f32⟩
  | 10 => ⟨S2304x1024, .f32⟩
  | 11 => ⟨S2304x16x64, .f32⟩
  | 12 => ⟨S256x16x64, .f32⟩
  | 13 => ⟨S2048x16x64, .f32⟩
  | 14 => ⟨S16x64x256, .f32⟩
  | 15 => ⟨S16x256x256, .f32⟩
  | 16 => ⟨S16x64x256, .f32⟩
  | 17 => ⟨S256x16x64, .f32⟩
  | 18 => ⟨S16x256x256, .f32⟩
  | 19 => ⟨S16x256x256, .f32⟩
  | 20 => ⟨S16x256x256, .f32⟩
  | 21 => ⟨S_, .f32⟩
  | 22 => ⟨S16x256, .f32⟩
  | 23 => ⟨S16x256x1, .f32⟩
  | 24 => ⟨S16x256x1, .f32⟩
  | 25 => ⟨S16x256x256, .f32⟩
  | 26 => ⟨S16x256x256, .f32⟩
  | 27 => ⟨S_, .f32⟩
  | 28 => ⟨S16x256, .f32⟩
  | 29 => ⟨S16x256x256, .f32⟩
  | 30 => ⟨S16x256x256, .f32⟩
  | 31 => ⟨S16x256x256, .f32⟩
  | 32 => ⟨S_, .f32⟩
  | 33 => ⟨S16x256x256, .f32⟩
  | 34 => ⟨S16x256x256, .f32⟩
  | 35 => ⟨S16x256x96, .f32⟩
  | 36 => ⟨S256x16x96, .f32⟩
  | 37 => ⟨S16x256x96, .f32⟩
  | 38 => ⟨S256x16x96, .f32⟩
  | 39 => ⟨S_, .f32⟩
  | 40 => ⟨S2304x16x64, .f32⟩
  | 41 => ⟨S_, .f32⟩
  | 42 => ⟨S2304x16x96, .f32⟩
  | 43 => ⟨S_, .f32⟩
  | 44 => ⟨S2304x16x96, .f32⟩
  | 45 => ⟨S16x64x2048, .f32⟩
  | 46 => ⟨S16x2048x2304, .f32⟩
  | 47 => ⟨S16x64x2304, .f32⟩
  | 48 => ⟨S2304x16x64, .f32⟩
  | 49 => ⟨S2304x16x64, .f32⟩
  | 50 => ⟨S16x2048x2304, .f32⟩
  | 51 => ⟨S16x2048x2304, .f32⟩
  | 52 => ⟨S16x2048x2304, .f32⟩
  | 53 => ⟨S_, .f32⟩
  | 54 => ⟨S16x2048, .f32⟩
  | 55 => ⟨S16x2048x1, .f32⟩
  | 56 => ⟨S16x2048x1, .f32⟩
  | 57 => ⟨S16x2048x2304, .f32⟩
  | 58 => ⟨S16x2048x2304, .f32⟩
  | 59 => ⟨S_, .f32⟩
  | 60 => ⟨S16x2048, .f32⟩
  | 61 => ⟨S16x2048x2304, .f32⟩
  | 62 => ⟨S16x2048x2304, .f32⟩
  | 63 => ⟨S16x2048x2304, .f32⟩
  | 64 => ⟨S_, .f32⟩
  | 65 => ⟨S16x2048x2304, .f32⟩
  | 66 => ⟨S16x2048x2304, .f32⟩
  | 67 => ⟨S16x2304x96, .f32⟩
  | 68 => ⟨S2304x16x96, .f32⟩
  | 69 => ⟨S2304x16x96, .f32⟩
  | 70 => ⟨S16x2048x96, .f32⟩
  | 71 => ⟨S2048x16x96, .f32⟩
  | 72 => ⟨S2048x16x64, .f32⟩
  | 73 => ⟨S2048x16x32, .f32⟩
  | 74 => ⟨S2048x16x16, .f32⟩
  | 75 => ⟨S2048x16x16, .f32⟩
  | 76 => ⟨S2048x16x8, .f32⟩
  | 77 => ⟨S2048x16x8, .f32⟩
  | 78 => ⟨S2048x16x8, .f32⟩
  | 79 => ⟨S2048x16x8, .f32⟩
  | 80 => ⟨S2048x16x8, .f32⟩
  | 81 => ⟨S2048x16x8, .f32⟩
  | 82 => ⟨S2048x16x8, .f32⟩
  | 83 => ⟨S2048x16x8, .f32⟩
  | 84 => ⟨S2048x16x8, .f32⟩
  | 85 => ⟨S2048x16x8, .f32⟩
  | 86 => ⟨S2048x16x8, .f32⟩
  | 87 => ⟨S2048x16x8, .f32⟩
  | 88 => ⟨S2048x16x8, .f32⟩
  | 89 => ⟨S_, .f32⟩
  | 90 => ⟨S2048x16x16, .f32⟩
  | 91 => ⟨S_, .f32⟩
  | 92 => ⟨S2048x16x16, .f32⟩
  | 93 => ⟨S2048x16x16, .f32⟩
  | 94 => ⟨S_, .f32⟩
  | 95 => ⟨S2048x16x32, .f32⟩
  | 96 => ⟨S2048x16x8, .f32⟩
  | 97 => ⟨S2048x16x8, .f32⟩
  | 98 => ⟨S2048x16x8, .f32⟩
  | 99 => ⟨S2048x16x8, .f32⟩
  | 100 => ⟨S2048x16x8, .f32⟩
  | 101 => ⟨S2048x16x8, .f32⟩
  | 102 => ⟨S2048x16x8, .f32⟩
  | 103 => ⟨S2048x16x8, .f32⟩
  | 104 => ⟨S2048x16x8, .f32⟩
  | 105 => ⟨S2048x16x8, .f32⟩
  | 106 => ⟨S2048x16x8, .f32⟩
  | 107 => ⟨S2048x16x8, .f32⟩
  | 108 => ⟨S2048x16x8, .f32⟩
  | 109 => ⟨S_, .f32⟩
  | 110 => ⟨S2048x16x16, .f32⟩
  | 111 => ⟨S_, .f32⟩
  | 112 => ⟨S2048x16x16, .f32⟩
  | 113 => ⟨S2048x16x16, .f32⟩
  | 114 => ⟨S_, .f32⟩
  | 115 => ⟨S2048x16x32, .f32⟩
  | 116 => ⟨S2048x16x32, .f32⟩
  | 117 => ⟨S_, .f32⟩
  | 118 => ⟨S2304x16x96, .f32⟩
  | 119 => ⟨S2304x16x96, .f32⟩
  | 120 => ⟨S_, .f32⟩
  | 121 => ⟨S2304x16x96, .f32⟩
  | 122 => ⟨S2304x16x96, .f32⟩
  | 123 => ⟨S_, .i32⟩
  | 124 => ⟨S_, .f32⟩
  | 125 => ⟨S2304x16x128, .f32⟩
  | 126 => ⟨S2304x2048, .f32⟩
  | 127 => ⟨S2304x2048, .bf16⟩
  | _ => ⟨S2304x16x96, .f32⟩

abbrev hbmTy0_2 (i : Nat) : BufTy := match i % 128 with
  | 0 => ⟨S_, .i32⟩
  | 1 => ⟨S_, .f32⟩
  | 2 => ⟨S2304x16x128, .f32⟩
  | 3 => ⟨S2304x2048, .f32⟩
  | 4 => ⟨S2304x1024, .f32⟩
  | _ => ⟨S2304x16x96, .f32⟩

abbrev hbmTy (i : Nat) : BufTy := match i / 128 with
  | 0 => hbmTy0_0 i
  | 1 => hbmTy0_1 i
  | 2 => hbmTy0_2 i
  | _ => ⟨S2304x16x96, .f32⟩

abbrev bufTy : (tb : Table) → Fin (tcTables nBuf tb) → BufTy
  | .hbm, ⟨i, _⟩ => hbmTy i
  | _, _ => ⟨S2304x16x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_cst : Ref sig .tc := ⟨.hbm, 47, rfl⟩
abbrev main_v41 : Ref sig .tc := ⟨.hbm, 48, rfl⟩
abbrev main_v42 : Ref sig .tc := ⟨.hbm, 49, rfl⟩
abbrev main_cst_0 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_cst_1 : Ref sig .tc := ⟨.hbm, 56, rfl⟩
abbrev main_v48 : Ref sig .tc := ⟨.hbm, 57, rfl⟩
abbrev main_cst_2 : Ref sig .tc := ⟨.hbm, 58, rfl⟩
abbrev main_v49 : Ref sig .tc := ⟨.hbm, 59, rfl⟩
abbrev main_v50 : Ref sig .tc := ⟨.hbm, 60, rfl⟩
abbrev main_cst_3 : Ref sig .tc := ⟨.hbm, 61, rfl⟩
abbrev main_v51 : Ref sig .tc := ⟨.hbm, 62, rfl⟩
abbrev main_v52 : Ref sig .tc := ⟨.hbm, 63, rfl⟩
abbrev main_cst_4 : Ref sig .tc := ⟨.hbm, 64, rfl⟩
abbrev main_v53 : Ref sig .tc := ⟨.hbm, 65, rfl⟩
abbrev main_v54 : Ref sig .tc := ⟨.hbm, 66, rfl⟩
abbrev main_cst_5 : Ref sig .tc := ⟨.hbm, 67, rfl⟩
abbrev main_v55 : Ref sig .tc := ⟨.hbm, 68, rfl⟩
abbrev main_cst_6 : Ref sig .tc := ⟨.hbm, 69, rfl⟩
abbrev main_v56 : Ref sig .tc := ⟨.hbm, 70, rfl⟩
abbrev main_cst_7 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_8 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_9 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_cst_10 : Ref sig .tc := ⟨.hbm, 94, rfl⟩
abbrev main_v77 : Ref sig .tc := ⟨.hbm, 95, rfl⟩
abbrev main_v78 : Ref sig .tc := ⟨.hbm, 96, rfl⟩
abbrev main_cst_11 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_cst_12 : Ref sig .tc := ⟨.hbm, 103, rfl⟩
abbrev main_v84 : Ref sig .tc := ⟨.hbm, 104, rfl⟩
abbrev main_cst_13 : Ref sig .tc := ⟨.hbm, 105, rfl⟩
abbrev main_v85 : Ref sig .tc := ⟨.hbm, 106, rfl⟩
abbrev main_v86 : Ref sig .tc := ⟨.hbm, 107, rfl⟩
abbrev main_cst_14 : Ref sig .tc := ⟨.hbm, 108, rfl⟩
abbrev main_v87 : Ref sig .tc := ⟨.hbm, 109, rfl⟩
abbrev main_v88 : Ref sig .tc := ⟨.hbm, 110, rfl⟩
abbrev main_cst_15 : Ref sig .tc := ⟨.hbm, 111, rfl⟩
abbrev main_v89 : Ref sig .tc := ⟨.hbm, 112, rfl⟩
abbrev main_v90 : Ref sig .tc := ⟨.hbm, 113, rfl⟩
abbrev main_cst_16 : Ref sig .tc := ⟨.hbm, 114, rfl⟩
abbrev main_v91 : Ref sig .tc := ⟨.hbm, 115, rfl⟩
abbrev main_cst_17 : Ref sig .tc := ⟨.hbm, 116, rfl⟩
abbrev main_v92 : Ref sig .tc := ⟨.hbm, 117, rfl⟩
abbrev main_cst_18 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_cst_19 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_cst_20 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_cst_21 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_cst_22 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_cst_23 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_cst_24 : Ref sig .tc := ⟨.hbm, 167, rfl⟩
abbrev main_v136 : Ref sig .tc := ⟨.hbm, 168, rfl⟩
abbrev main_cst_25 : Ref sig .tc := ⟨.hbm, 169, rfl⟩
abbrev main_v137 : Ref sig .tc := ⟨.hbm, 170, rfl⟩
abbrev main_cst_26 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_cst_27 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_cst_28 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_cst_29 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_cst_30 : Ref sig .tc := ⟨.hbm, 217, rfl⟩
abbrev main_v180 : Ref sig .tc := ⟨.hbm, 218, rfl⟩
abbrev main_cst_31 : Ref sig .tc := ⟨.hbm, 219, rfl⟩
abbrev main_v181 : Ref sig .tc := ⟨.hbm, 220, rfl⟩
abbrev main_v182 : Ref sig .tc := ⟨.hbm, 221, rfl⟩
abbrev main_cst_32 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩
abbrev main_v191 : Ref sig .tc := ⟨.hbm, 231, rfl⟩
abbrev main_v192 : Ref sig .tc := ⟨.hbm, 232, rfl⟩
abbrev main_v193 : Ref sig .tc := ⟨.hbm, 233, rfl⟩
abbrev main_v194 : Ref sig .tc := ⟨.hbm, 234, rfl⟩
abbrev main_v195 : Ref sig .tc := ⟨.hbm, 235, rfl⟩
abbrev main_v196 : Ref sig .tc := ⟨.hbm, 236, rfl⟩
abbrev main_cst_33 : Ref sig .tc := ⟨.hbm, 237, rfl⟩
abbrev main_v197 : Ref sig .tc := ⟨.hbm, 238, rfl⟩
abbrev main_cst_34 : Ref sig .tc := ⟨.hbm, 239, rfl⟩
abbrev main_v198 : Ref sig .tc := ⟨.hbm, 240, rfl⟩
abbrev main_v199 : Ref sig .tc := ⟨.hbm, 241, rfl⟩
abbrev main_cst_35 : Ref sig .tc := ⟨.hbm, 242, rfl⟩
abbrev main_v200 : Ref sig .tc := ⟨.hbm, 243, rfl⟩
abbrev main_v201 : Ref sig .tc := ⟨.hbm, 244, rfl⟩
abbrev main_cst_36 : Ref sig .tc := ⟨.hbm, 245, rfl⟩
abbrev main_v202 : Ref sig .tc := ⟨.hbm, 246, rfl⟩
abbrev main_v203 : Ref sig .tc := ⟨.hbm, 247, rfl⟩
abbrev main_cst_37 : Ref sig .tc := ⟨.hbm, 248, rfl⟩
abbrev main_v204 : Ref sig .tc := ⟨.hbm, 249, rfl⟩
abbrev main_v205 : Ref sig .tc := ⟨.hbm, 250, rfl⟩
abbrev main_c : Ref sig .tc := ⟨.hbm, 251, rfl⟩
abbrev main_call0_v0 : Ref sig .tc := ⟨.hbm, 252, rfl⟩
abbrev main_v206 : Ref sig .tc := ⟨.hbm, 253, rfl⟩
abbrev main_v207 : Ref sig .tc := ⟨.hbm, 254, rfl⟩
abbrev main_v208 : Ref sig .tc := ⟨.hbm, 255, rfl⟩
abbrev main_c_38 : Ref sig .tc := ⟨.hbm, 256, rfl⟩
abbrev main_call1_v0 : Ref sig .tc := ⟨.hbm, 257, rfl⟩
abbrev main_v209 : Ref sig .tc := ⟨.hbm, 258, rfl⟩
abbrev main_v210 : Ref sig .tc := ⟨.hbm, 259, rfl⟩
abbrev main_v211 : Ref sig .tc := ⟨.hbm, 260, rfl⟩

abbrev nD : Nat := 1
abbrev τ : Topo := Topo.v7x

variable {F : FTy → Type} [FloatOps F]
-- ==== Kernel2.lean ====
abbrev S2304x16x96 : Shape := ⟨3, ![2304, 16, 96]⟩
abbrev S2304x16x64 : Shape := ⟨3, ![2304, 16, 64]⟩
abbrev S2048x16 : Shape := ⟨2, ![2048, 16]⟩
abbrev S2048x16x64 : Shape := ⟨3, ![2048, 16, 64]⟩
abbrev S2048x16x32 : Shape := ⟨3, ![2048, 16, 32]⟩
abbrev S2048x16x16 : Shape := ⟨3, ![2048, 16, 16]⟩
abbrev S2048x8 : Shape := ⟨2, ![2048, 8]⟩
abbrev S2048x1x8 : Shape := ⟨3, ![2048, 1, 8]⟩
abbrev S2048x16x8 : Shape := ⟨3, ![2048, 16, 8]⟩
abbrev S2048x16x96 : Shape := ⟨3, ![2048, 16, 96]⟩
abbrev S256x16x96 : Shape := ⟨3, ![256, 16, 96]⟩
abbrev S_ : Shape := ⟨0, ![]⟩
abbrev S2304x16x128 : Shape := ⟨3, ![2304, 16, 128]⟩
abbrev S2304x2048 : Shape := ⟨2, ![2304, 2048]⟩
abbrev S2304x16x3 : Shape := ⟨3, ![2304, 16, 3]⟩
abbrev S2304x16x99 : Shape := ⟨3, ![2304, 16, 99]⟩
abbrev S2304x1024 : Shape := ⟨2, ![2304, 1024]⟩
abbrev S16x2304x1 : Shape := ⟨3, ![16, 2304, 1]⟩
abbrev S256x256 : Shape := ⟨2, ![256, 256]⟩
abbrev S2304x256 : Shape := ⟨2, ![2304, 256]⟩
abbrev S2304x128 : Shape := ⟨2, ![2304, 128]⟩
abbrev S256x128 : Shape := ⟨2, ![256, 128]⟩
abbrev S2x256x1 : Shape := ⟨3, ![2, 256, 1]⟩
abbrev S256 : Shape := ⟨1, ![256]⟩
abbrev S256x1 : Shape := ⟨2, ![256, 1]⟩
abbrev S1x256x1 : Shape := ⟨3, ![1, 256, 1]⟩
abbrev S256x2304 : Shape := ⟨2, ![256, 2304]⟩

abbrev nBuf : Space → Nat
  | .hbm => 64
  | .vmem => 10
  | .smem => 0
  | _ => 0

abbrev bufTy : (tb : Table) → Fin (tcTables nBuf tb) → BufTy
  | .hbm, ⟨0, _⟩ => ⟨S2304x16x96, .f32⟩
  | .hbm, ⟨1, _⟩ => ⟨S2304x16x96, .f32⟩
  | .hbm, ⟨2, _⟩ => ⟨S2304x16x64, .f32⟩
  | .hbm, ⟨3, _⟩ => ⟨S2048x16, .f32⟩
  | .hbm, ⟨4, _⟩ => ⟨S2048x16, .f32⟩
  | .hbm, ⟨5, _⟩ => ⟨S2048x16x64, .f32⟩
  | .hbm, ⟨6, _⟩ => ⟨S2048x16x32, .f32⟩
  | .hbm, ⟨7, _⟩ => ⟨S2048x16x16, .f32⟩
  | .hbm, ⟨8, _⟩ => ⟨S2048x8, .f32⟩
  | .hbm, ⟨9, _⟩ => ⟨S2048x8, .f32⟩
  | .hbm, ⟨10, _⟩ => ⟨S2048x1x8, .f32⟩
  | .hbm, ⟨11, _⟩ => ⟨S2048x1x8, .f32⟩
  | .hbm, ⟨12, _⟩ => ⟨S2048x16x8, .f32⟩
  | .hbm, ⟨13, _⟩ => ⟨S2048x16x8, .f32⟩
  | .hbm, ⟨14, _⟩ => ⟨S2048x16x8, .f32⟩
  | .hbm, ⟨15, _⟩ => ⟨S2048x16x8, .f32⟩
  | .hbm, ⟨16, _⟩ => ⟨S2048x16x8, .f32⟩
  | .hbm, ⟨17, _⟩ => ⟨S2048x16x8, .f32⟩
  | .hbm, ⟨18, _⟩ => ⟨S2048x16x8, .f32⟩
  | .hbm, ⟨19, _⟩ => ⟨S2048x16x8, .f32⟩
  | .hbm, ⟨20, _⟩ => ⟨S2048x16x8, .f32⟩
  | .hbm, ⟨21, _⟩ => ⟨S2048x16x8, .f32⟩
  | .hbm, ⟨22, _⟩ => ⟨S2048x16x8, .f32⟩
  | .hbm, ⟨23, _⟩ => ⟨S2048x16x8, .f32⟩
  | .hbm, ⟨24, _⟩ => ⟨S2048x16x16, .f32⟩
  | .hbm, ⟨25, _⟩ => ⟨S2048x16x16, .f32⟩
  | .hbm, ⟨26, _⟩ => ⟨S2048x8, .f32⟩
  | .hbm, ⟨27, _⟩ => ⟨S2048x8, .f32⟩
  | .hbm, ⟨28, _⟩ => ⟨S2048x1x8, .f32⟩
  | .hbm, ⟨29, _⟩ => ⟨S2048x1x8, .f32⟩
  | .hbm, ⟨30, _⟩ => ⟨S2048x16x8, .f32⟩
  | .hbm, ⟨31, _⟩ => ⟨S2048x16x8, .f32⟩
  | .hbm, ⟨32, _⟩ => ⟨S2048x16x8, .f32⟩
  | .hbm, ⟨33, _⟩ => ⟨S2048x16x8, .f32⟩
  | .hbm, ⟨34, _⟩ => ⟨S2048x16x8, .f32⟩
  | .hbm, ⟨35, _⟩ => ⟨S2048x16x8, .f32⟩
  | .hbm, ⟨36, _⟩ => ⟨S2048x16x8, .f32⟩
  | .hbm, ⟨37, _⟩ => ⟨S2048x16x8, .f32⟩
  | .hbm, ⟨38, _⟩ => ⟨S2048x16x8, .f32⟩
  | .hbm, ⟨39, _⟩ => ⟨S2048x16x8, .f32⟩
  | .hbm, ⟨40, _⟩ => ⟨S2048x16x8, .f32⟩
  | .hbm, ⟨41, _⟩ => ⟨S2048x16x8, .f32⟩
  | .hbm, ⟨42, _⟩ => ⟨S2048x16x16, .f32⟩
  | .hbm, ⟨43, _⟩ => ⟨S2048x16x32, .f32⟩
  | .hbm, ⟨44, _⟩ => ⟨S2048x16x96, .f32⟩
  | .hbm, ⟨45, _⟩ => ⟨S256x16x96, .f32⟩
  | .hbm, ⟨46, _⟩ => ⟨S2304x16x96, .f32⟩
  | .hbm, ⟨47, _⟩ => ⟨S_, .i32⟩
  | .hbm, ⟨48, _⟩ => ⟨S_, .f32⟩
  | .hbm, ⟨49, _⟩ => ⟨S2304x16x128, .f32⟩
  | .hbm, ⟨50, _⟩ => ⟨S2304x2048, .f32⟩
  | .hbm, ⟨51, _⟩ => ⟨S2304x2048, .bf16⟩
  | .hbm, ⟨52, _⟩ => ⟨S_, .f32⟩
  | .hbm, ⟨53, _⟩ => ⟨S2304x16x3, .f32⟩
  | .hbm, ⟨54, _⟩ => ⟨S2304x16x99, .f32⟩
  | .hbm, ⟨55, _⟩ => ⟨S_, .i32⟩
  | .hbm, ⟨56, _⟩ => ⟨S_, .f32⟩
  | .hbm, ⟨57, _⟩ => ⟨S2304x16x128, .f32⟩
  | .hbm, ⟨58, _⟩ => ⟨S2304x2048, .f32⟩
  | .hbm, ⟨59, _⟩ => ⟨S2304x2048, .bf16⟩
  | .hbm, ⟨60, _⟩ => ⟨S2304x1024, .f32⟩
  | .hbm, ⟨61, _⟩ => ⟨S2304x1024, .bf16⟩
  | .hbm, ⟨62, _⟩ => ⟨S2304x1024, .f32⟩
  | .hbm, ⟨63, _⟩ => ⟨S16x2304x1, .f32⟩
  | .local _ .vmem, ⟨0, _⟩ => ⟨S256x256, .bf16⟩
  | .local _ .vmem, ⟨1, _⟩ => ⟨S256x256, .bf16⟩
  | .local _ .vmem, ⟨2, _⟩ => ⟨S2304x256, .bf16⟩
  | .local _ .vmem, ⟨3, _⟩ => ⟨S2304x256, .bf16⟩
  | .local _ .vmem, ⟨4, _⟩ => ⟨S2304x128, .bf16⟩
  | .local _ .vmem, ⟨5, _⟩ => ⟨S2304x128, .bf16⟩
  | .local _ .vmem, ⟨6, _⟩ => ⟨S256x128, .f32⟩
  | .local _ .vmem, ⟨7, _⟩ => ⟨S256x128, .f32⟩
  | .local _ .vmem, ⟨8, _⟩ => ⟨S2x256x1, .f32⟩
  | .local _ .vmem, ⟨9, _⟩ => ⟨S2x256x1, .f32⟩
  | _, _ => ⟨S2304x16x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_c : Ref sig .tc := ⟨.hbm, 47, rfl⟩
abbrev main_call0_v0 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_cst : Ref sig .tc := ⟨.hbm, 52, rfl⟩
abbrev main_v45 : Ref sig .tc := ⟨.hbm, 53, rfl⟩
abbrev main_v46 : Ref sig .tc := ⟨.hbm, 54, rfl⟩
abbrev main_c_0 : Ref sig .tc := ⟨.hbm, 55, rfl⟩
abbrev main_call1_v0 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52_0 : Ref sig .tc := ⟨.hbm, 62, rfl⟩
abbrev main_v52_1 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 9], ![false, false]⟩

def k0_cond1 (i : grid0.Coords) : BitVec 1 :=
  let arg1 : BitVec 32 := BitVec.ofNat 32 (i 1).val
  let c1_i32 : BitVec 32 := 1#32
  let v0 : BitVec 1 := Scalar.cmpi .slt arg1 c1_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c1_i32_0 : BitVec 32 := 1#32
  let v3 : BitVec 1 := Scalar.cmpi .sge arg1 c1_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2304x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S2304x16x96 : Shape := ⟨3, ![2304, 16, 96]⟩
abbrev S2304x16x64 : Shape := ⟨3, ![2304, 16, 64]⟩
abbrev S2048x16 : Shape := ⟨2, ![2048, 16]⟩
abbrev S2048x16x64 : Shape := ⟨3, ![2048, 16, 64]⟩
abbrev S2048x16x32 : Shape := ⟨3, ![2048, 16, 32]⟩
abbrev S2048x16x16 : Shape := ⟨3, ![2048, 16, 16]⟩
abbrev S2048x8 : Shape := ⟨2, ![2048, 8]⟩
abbrev S2048x1x8 : Shape := ⟨3, ![2048, 1, 8]⟩
abbrev S2048x16x8 : Shape := ⟨3, ![2048, 16, 8]⟩
abbrev S2048x16x96 : Shape := ⟨3, ![2048, 16, 96]⟩
abbrev S16x2048x2304 : Shape := ⟨3, ![16, 2048, 2304]⟩
abbrev S_ : Shape := ⟨0, ![]⟩
abbrev S16x2048 : Shape := ⟨2, ![16, 2048]⟩
abbrev S16x2048x1 : Shape := ⟨3, ![16, 2048, 1]⟩
abbrev S16x64x2048 : Shape := ⟨3, ![16, 64, 2048]⟩
abbrev S256x16x96 : Shape := ⟨3, ![256, 16, 96]⟩
abbrev S256x16x64 : Shape := ⟨3, ![256, 16, 64]⟩
abbrev S16x256x256 : Shape := ⟨3, ![16, 256, 256]⟩
abbrev S16x256 : Shape := ⟨2, ![16, 256]⟩
abbrev S16x256x1 : Shape := ⟨3, ![16, 256, 1]⟩
abbrev S16x64x256 : Shape := ⟨3, ![16, 64, 256]⟩
abbrev S2304x1024 : Shape := ⟨2, ![2304, 1024]⟩
abbrev S16x2304x1 : Shape := ⟨3, ![16, 2304, 1]⟩

abbrev nBuf : Space → Nat
  | .hbm => 89
  | .vmem => 0
  | .smem => 0
  | _ => 0

abbrev bufTy : (tb : Table) → Fin (tcTables nBuf tb) → BufTy
  | .hbm, ⟨0, _⟩ => ⟨S2304x16x96, .f32⟩
  | .hbm, ⟨1, _⟩ => ⟨S2304x16x96, .f32⟩
  | .hbm, ⟨2, _⟩ => ⟨S2304x16x64, .f32⟩
  | .hbm, ⟨3, _⟩ => ⟨S2048x16, .f32⟩
  | .hbm, ⟨4, _⟩ => ⟨S2048x16, .f32⟩
  | .hbm, ⟨5, _⟩ => ⟨S2048x16x64, .f32⟩
  | .hbm, ⟨6, _⟩ => ⟨S2048x16x32, .f32⟩
  | .hbm, ⟨7, _⟩ => ⟨S2048x16x16, .f32⟩
  | .hbm, ⟨8, _⟩ => ⟨S2048x8, .f32⟩
  | .hbm, ⟨9, _⟩ => ⟨S2048x8, .f32⟩
  | .hbm, ⟨10, _⟩ => ⟨S2048x1x8, .f32⟩
  | .hbm, ⟨11, _⟩ => ⟨S2048x1x8, .f32⟩
  | .hbm, ⟨12, _⟩ => ⟨S2048x16x8, .f32⟩
  | .hbm, ⟨13, _⟩ => ⟨S2048x16x8, .f32⟩
  | .hbm, ⟨14, _⟩ => ⟨S2048x16x8, .f32⟩
  | .hbm, ⟨15, _⟩ => ⟨S2048x16x8, .f32⟩
  | .hbm, ⟨16, _⟩ => ⟨S2048x16x8, .f32⟩
  | .hbm, ⟨17, _⟩ => ⟨S2048x16x8, .f32⟩
  | .hbm, ⟨18, _⟩ => ⟨S2048x16x8, .f32⟩
  | .hbm, ⟨19, _⟩ => ⟨S2048x16x8, .f32⟩
  | .hbm, ⟨20, _⟩ => ⟨S2048x16x8, .f32⟩
  | .hbm, ⟨21, _⟩ => ⟨S2048x16x8, .f32⟩
  | .hbm, ⟨22, _⟩ => ⟨S2048x16x8, .f32⟩
  | .hbm, ⟨23, _⟩ => ⟨S2048x16x8, .f32⟩
  | .hbm, ⟨24, _⟩ => ⟨S2048x16x16, .f32⟩
  | .hbm, ⟨25, _⟩ => ⟨S2048x16x16, .f32⟩
  | .hbm, ⟨26, _⟩ => ⟨S2048x8, .f32⟩
  | .hbm, ⟨27, _⟩ => ⟨S2048x8, .f32⟩
  | .hbm, ⟨28, _⟩ => ⟨S2048x1x8, .f32⟩
  | .hbm, ⟨29, _⟩ => ⟨S2048x1x8, .f32⟩
  | .hbm, ⟨30, _⟩ => ⟨S2048x16x8, .f32⟩
  | .hbm, ⟨31, _⟩ => ⟨S2048x16x8, .f32⟩
  | .hbm, ⟨32, _⟩ => ⟨S2048x16x8, .f32⟩
  | .hbm, ⟨33, _⟩ => ⟨S2048x16x8, .f32⟩
  | .hbm, ⟨34, _⟩ => ⟨S2048x16x8, .f32⟩
  | .hbm, ⟨35, _⟩ => ⟨S2048x16x8, .f32⟩
  | .hbm, ⟨36, _⟩ => ⟨S2048x16x8, .f32⟩
  | .hbm, ⟨37, _⟩ => ⟨S2048x16x8, .f32⟩
  | .hbm, ⟨38, _⟩ => ⟨S2048x16x8, .f32⟩
  | .hbm, ⟨39, _⟩ => ⟨S2048x16x8, .f32⟩
  | .hbm, ⟨40, _⟩ => ⟨S2048x16x8, .f32⟩
  | .hbm, ⟨41, _⟩ => ⟨S2048x16x8, .f32⟩
  | .hbm, ⟨42, _⟩ => ⟨S2048x16x16, .f32⟩
  | .hbm, ⟨43, _⟩ => ⟨S2048x16x32, .f32⟩
  | .hbm, ⟨44, _⟩ => ⟨S2048x16x96, .f32⟩
  | .hbm, ⟨45, _⟩ => ⟨S16x2048x2304, .f32⟩
  | .hbm, ⟨46, _⟩ => ⟨S_, .f32⟩
  | .hbm, ⟨47, _⟩ => ⟨S16x2048x2304, .f32⟩
  | .hbm, ⟨48, _⟩ => ⟨S16x2048x2304, .f32⟩
  | .hbm, ⟨49, _⟩ => ⟨S_, .f32⟩
  | .hbm, ⟨50, _⟩ => ⟨S16x2048, .f32⟩
  | .hbm, ⟨51, _⟩ => ⟨S16x2048x1, .f32⟩
  | .hbm, ⟨52, _⟩ => ⟨S16x2048x2304, .f32⟩
  | .hbm, ⟨53, _⟩ => ⟨S16x2048x2304, .f32⟩
  | .hbm, ⟨54, _⟩ => ⟨S16x2048x2304, .f32⟩
  | .hbm, ⟨55, _⟩ => ⟨S_, .f32⟩
  | .hbm, ⟨56, _⟩ => ⟨S16x2048, .f32⟩
  | .hbm, ⟨57, _⟩ => ⟨S16x2048x1, .f32⟩
  | .hbm, ⟨58, _⟩ => ⟨S16x2048x2304, .f32⟩
  | .hbm, ⟨59, _⟩ => ⟨S16x2048x2304, .f32⟩
  | .hbm, ⟨60, _⟩ => ⟨S16x64x2048, .f32⟩
  | .hbm, ⟨61, _⟩ => ⟨S2048x16x64, .f32⟩
  | .hbm, ⟨62, _⟩ => ⟨S16x2048x1, .f32⟩
  | .hbm, ⟨63, _⟩ => ⟨S16x2048x1, .f32⟩
  | .hbm, ⟨64, _⟩ => ⟨S256x16x96, .f32⟩
  | .hbm, ⟨65, _⟩ => ⟨S256x16x96, .f32⟩
  | .hbm, ⟨66, _⟩ => ⟨S256x16x64, .f32⟩
  | .hbm, ⟨67, _⟩ => ⟨S16x256x256, .f32⟩
  | .hbm, ⟨68, _⟩ => ⟨S_, .f32⟩
  | .hbm, ⟨69, _⟩ => ⟨S16x256x256, .f32⟩
  | .hbm, ⟨70, _⟩ => ⟨S16x256x256, .f32⟩
  | .hbm, ⟨71, _⟩ => ⟨S_, .f32⟩
  | .hbm, ⟨72, _⟩ => ⟨S16x256, .f32⟩
  | .hbm, ⟨73, _⟩ => ⟨S16x256x1, .f32⟩
  | .hbm, ⟨74, _⟩ => ⟨S16x256x256, .f32⟩
  | .hbm, ⟨75, _⟩ => ⟨S16x256x256, .f32⟩
  | .hbm, ⟨76, _⟩ => ⟨S16x256x256, .f32⟩
  | .hbm, ⟨77, _⟩ => ⟨S_, .f32⟩
  | .hbm, ⟨78, _⟩ => ⟨S16x256, .f32⟩
  | .hbm, ⟨79, _⟩ => ⟨S16x256x1, .f32⟩
  | .hbm, ⟨80, _⟩ => ⟨S16x256x256, .f32⟩
  | .hbm, ⟨81, _⟩ => ⟨S16x256x256, .f32⟩
  | .hbm, ⟨82, _⟩ => ⟨S16x64x256, .f32⟩
  | .hbm, ⟨83, _⟩ => ⟨S256x16x64, .f32⟩
  | .hbm, ⟨84, _⟩ => ⟨S16x256x1, .f32⟩
  | .hbm, ⟨85, _⟩ => ⟨S16x256x1, .f32⟩
  | .hbm, ⟨86, _⟩ => ⟨S2304x16x64, .f32⟩
  | .hbm, ⟨87, _⟩ => ⟨S2304x1024, .f32⟩
  | .hbm, ⟨88, _⟩ => ⟨S16x2304x1, .f32⟩
  | _, _ => ⟨S2304x16x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_cst : Ref sig .tc := ⟨.hbm, 46, rfl⟩
abbrev main_v41 : Ref sig .tc := ⟨.hbm, 47, rfl⟩
abbrev main_v42 : Ref sig .tc := ⟨.hbm, 48, rfl⟩
abbrev main_cst_0 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_cst_1 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_cst_2 : Ref sig .tc := ⟨.hbm, 68, rfl⟩
abbrev main_v60 : Ref sig .tc := ⟨.hbm, 69, rfl⟩
abbrev main_v61 : Ref sig .tc := ⟨.hbm, 70, rfl⟩
abbrev main_cst_3 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_cst_4 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩

abbrev nD : Nat := 1
abbrev τ : Topo := Topo.v7x

variable {F : FTy → Type} [FloatOps F]
-- ==== Kernel3.lean ====
abbrev S2304x1024 : Shape := ⟨2, ![2304, 1024]⟩
abbrev S2048x1024 : Shape := ⟨2, ![2048, 1024]⟩
abbrev S1024x2048 : Shape := ⟨2, ![1024, 2048]⟩
abbrev S2304x512 : Shape := ⟨2, ![2304, 512]⟩
abbrev S2048x512 : Shape := ⟨2, ![2048, 512]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S2304x1024, .f32⟩
  | .hbm, ⟨1, _⟩ => ⟨S2304x1024, .f32⟩
  | .hbm, ⟨2, _⟩ => ⟨S2048x1024, .f32⟩
  | .hbm, ⟨3, _⟩ => ⟨S2304x1024, .bf16⟩
  | .hbm, ⟨4, _⟩ => ⟨S1024x2048, .f32⟩
  | .local _ .vmem, ⟨0, _⟩ => ⟨S2304x1024, .bf16⟩
  | .local _ .vmem, ⟨1, _⟩ => ⟨S2304x512, .f32⟩
  | .local _ .vmem, ⟨2, _⟩ => ⟨S2304x512, .f32⟩
  | .local _ .vmem, ⟨3, _⟩ => ⟨S2048x512, .f32⟩
  | .local _ .vmem, ⟨4, _⟩ => ⟨S2048x512, .f32⟩
  | .local _ .vmem, ⟨5, _⟩ => ⟨S1024x512, .f32⟩
  | .local _ .vmem, ⟨6, _⟩ => ⟨S1024x512, .f32⟩
  | _, _ => ⟨S2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k0_cond2 (i : grid0.Coords) : BitVec 1 :=
  let arg0 : BitVec 32 := BitVec.ofNat 32 (i 0).val
  let c0_i32_7 : BitVec 32 := 0#32
  let v21 : BitVec 1 := Scalar.cmpi .sgt arg0 c0_i32_7
  let v22 : BitVec 32 := Scalar.extui v21
  let c0_i32_8 : BitVec 32 := 0#32
  let v23 : BitVec 1 := Scalar.cmpi .slt arg0 c0_i32_8
  let v24 : BitVec 32 := Scalar.extui v23
  let v25 : BitVec 32 := Scalar.subi v22 v24
  let c2_i32_6 : BitVec 32 := 2#32
  let c0_i32_9 : BitVec 32 := 0#32
  let v26 : BitVec 1 := Scalar.cmpi .sgt c2_i32_6 c0_i32_9
  let v27 : BitVec 32 := Scalar.extui v26
  let c0_i32_10 : BitVec 32 := 0#32
  let v28 : BitVec 1 := Scalar.cmpi .slt c2_i32_6 c0_i32_10
  let v29 : BitVec 32 := Scalar.extui v28
  let v30 : BitVec 32 := Scalar.subi v27 v29
  let v31 : BitVec 1 := Scalar.cmpi .ne v25 v30
  let v32 : BitVec 32 := Scalar.remsi arg0 c2_i32_6
  let c0_i32_11 : BitVec 32 := 0#32
  let v33 : BitVec 1 := Scalar.cmpi .ne v32 c0_i32_11
  let v34 : BitVec 1 := Scalar.andi v31 v33
  let v20 : BitVec 32 := Scalar.divsi arg0 c2_i32_6
  let c1_i32_12 : BitVec 32 := 1#32
  let v35 : BitVec 32 := Scalar.subi v20 c1_i32_12
  let v36 : BitVec 32 := Scalar.select v34 v35 v20
  let c1_i32_13 : BitVec 32 := 1#32
  let v37 : BitVec 1 := Scalar.cmpi .eq v36 c1_i32_13
  let v38 : BitVec 32 := Scalar.extui v37
  let c0_i32_14 : BitVec 32 := 0#32
  let v39 : BitVec 1 := Scalar.cmpi .ne v38 c0_i32_14
  v39

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2304x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2304x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S2304x1024 : Shape := ⟨2, ![2304, 1024]⟩
abbrev S2048x1024 : Shape := ⟨2, ![2048, 1024]⟩
abbrev S_ : Shape := ⟨0, ![]⟩
abbrev S1024x2048 : Shape := ⟨2, ![1024, 2048]⟩
abbrev S256x1024 : Shape := ⟨2, ![256, 1024]⟩
abbrev S1024x1024 : Shape := ⟨2, ![1024, 1024]⟩
abbrev S2048x2048 : Shape := ⟨2, ![2048, 2048]⟩

abbrev nBuf : Space → Nat
  | .hbm => 27
  | .vmem => 0
  | .smem => 0
  | _ => 0

abbrev bufTy : (tb : Table) → Fin (tcTables nBuf tb) → BufTy
  | .hbm, ⟨0, _⟩ => ⟨S2304x1024, .f32⟩
  | .hbm, ⟨1, _⟩ => ⟨S2304x1024, .f32⟩
  | .hbm, ⟨2, _⟩ => ⟨S2048x1024, .f32⟩
  | .hbm, ⟨3, _⟩ => ⟨S_, .f32⟩
  | .hbm, ⟨4, _⟩ => ⟨S1024x2048, .f32⟩
  | .hbm, ⟨5, _⟩ => ⟨S256x1024, .f32⟩
  | .hbm, ⟨6, _⟩ => ⟨S1024x1024, .f32⟩
  | .hbm, ⟨7, _⟩ => ⟨S256x1024, .f32⟩
  | .hbm, ⟨8, _⟩ => ⟨S2048x1024, .f32⟩
  | .hbm, ⟨9, _⟩ => ⟨S2048x2048, .f32⟩
  | .hbm, ⟨10, _⟩ => ⟨S2048x1024, .f32⟩
  | .hbm, ⟨11, _⟩ => ⟨S2304x1024, .f32⟩
  | .hbm, ⟨12, _⟩ => ⟨S2048x1024, .f32⟩
  | .hbm, ⟨13, _⟩ => ⟨S_, .f32⟩
  | .hbm, ⟨14, _⟩ => ⟨S2048x2048, .f32⟩
  | .hbm, ⟨15, _⟩ => ⟨S256x1024, .f32⟩
  | .hbm, ⟨16, _⟩ => ⟨S2048x1024, .f32⟩
  | .hbm, ⟨17, _⟩ => ⟨S_, .f32⟩
  | .hbm, ⟨18, _⟩ => ⟨S2048x2048, .f32⟩
  | .hbm, ⟨19, _⟩ => ⟨S2048x2048, .f32⟩
  | .hbm, ⟨20, _⟩ => ⟨S2048x1024, .f32⟩
  | .hbm, ⟨21, _⟩ => ⟨S1024x2048, .f32⟩
  | .hbm, ⟨22, _⟩ => ⟨S1024x1024, .f32⟩
  | .hbm, ⟨23, _⟩ => ⟨S1024x1024, .f32⟩
  | .hbm, ⟨24, _⟩ => ⟨S_, .f32⟩
  | .hbm, ⟨25, _⟩ => ⟨S1024x2048, .f32⟩
  | .hbm, ⟨26, _⟩ => ⟨S1024x2048, .f32⟩
  | _, _ => ⟨S2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel4.lean ====
abbrev S2304x1024 : Shape := ⟨2, ![2304, 1024]⟩
abbrev S1024x1024 : Shape := ⟨2, ![1024, 1024]⟩
abbrev S2304x512 : Shape := ⟨2, ![2304, 512]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S2304x1024, .f32⟩
  | .hbm, ⟨1, _⟩ => ⟨S2304x1024, .f32⟩
  | .hbm, ⟨2, _⟩ => ⟨S2304x1024, .bf16⟩
  | .hbm, ⟨3, _⟩ => ⟨S1024x1024, .f32⟩
  | .local _ .vmem, ⟨0, _⟩ => ⟨S2304x1024, .bf16⟩
  | .local _ .vmem, ⟨1, _⟩ => ⟨S2304x512, .f32⟩
  | .local _ .vmem, ⟨2, _⟩ => ⟨S2304x512, .f32⟩
  | .local _ .vmem, ⟨3, _⟩ => ⟨S1024x512, .f32⟩
  | .local _ .vmem, ⟨4, _⟩ => ⟨S1024x512, .f32⟩
  | _, _ => ⟨S2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2304x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2304x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S2304x1024 : Shape := ⟨2, ![2304, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2304x1024, .f32⟩
  | .hbm, ⟨1, _⟩ => ⟨S2304x1024, .f32⟩
  | .hbm, ⟨2, _⟩ => ⟨S_, .f32⟩
  | .hbm, ⟨3, _⟩ => ⟨S1024x1024, .f32⟩
  | .hbm, ⟨4, _⟩ => ⟨S2304x1024, .f32⟩
  | .hbm, ⟨5, _⟩ => ⟨S1024x1024, .f32⟩
  | .hbm, ⟨6, _⟩ => ⟨S1024x1024, .f32⟩
  | _, _ => ⟨S2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S2304x1024 : Shape := ⟨2, ![2304, 1024]⟩
abbrev S2304x512 : Shape := ⟨2, ![2304, 512]⟩
abbrev S1024x512 : Shape := ⟨2, ![1024, 512]⟩

abbrev nBuf : Space → Nat
  | .hbm => 4
  | .vmem => 3
  | .smem => 0
  | _ => 0

abbrev bufTy : (tb : Table) → Fin (tcTables nBuf tb) → BufTy
  | .hbm, ⟨0, _⟩ => ⟨S2304x1024, .f32⟩
  | .hbm, ⟨1, _⟩ => ⟨S2304x512, .f32⟩
  | .hbm, ⟨2, _⟩ => ⟨S2304x1024, .bf16⟩
  | .hbm, ⟨3, _⟩ => ⟨S1024x512, .f32⟩
  | .local _ .vmem, ⟨0, _⟩ => ⟨S2304x1024, .bf16⟩
  | .local _ .vmem, ⟨1, _⟩ => ⟨S2304x512, .f32⟩
  | .local _ .vmem, ⟨2, _⟩ => ⟨S1024x512, .f32⟩
  | _, _ => ⟨S2304x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![c0_i32_2.toNat, v2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2304x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2304x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference5Ideal.lean ====
abbrev S2304x1024 : Shape := ⟨2, ![2304, 1024]⟩
abbrev S2304x512 : Shape := ⟨2, ![2304, 512]⟩
abbrev S_ : Shape := ⟨0, ![]⟩
abbrev S1024x512 : Shape := ⟨2, ![1024, 512]⟩
abbrev S512x1024 : Shape := ⟨2, ![512, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2304x1024, .f32⟩
  | .hbm, ⟨1, _⟩ => ⟨S2304x512, .f32⟩
  | .hbm, ⟨2, _⟩ => ⟨S_, .f32⟩
  | .hbm, ⟨3, _⟩ => ⟨S1024x512, .f32⟩
  | .hbm, ⟨4, _⟩ => ⟨S2304x512, .f32⟩
  | .hbm, ⟨5, _⟩ => ⟨S512x1024, .f32⟩
  | .hbm, ⟨6, _⟩ => ⟨S1024x512, .f32⟩
  | _, _ => ⟨S2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S2304x256 : Shape := ⟨2, ![2304, 256]⟩
abbrev S2304x2048 : Shape := ⟨2, ![2304, 2048]⟩
abbrev S256x2048 : Shape := ⟨2, ![256, 2048]⟩
abbrev S2304x512 : Shape := ⟨2, ![2304, 512]⟩
abbrev S256x512 : Shape := ⟨2, ![256, 512]⟩

abbrev nBuf : Space → Nat
  | .hbm => 5
  | .vmem => 5
  | .smem => 0
  | _ => 0

abbrev bufTy : (tb : Table) → Fin (tcTables nBuf tb) → BufTy
  | .hbm, ⟨0, _⟩ => ⟨S2304x256, .f32⟩
  | .hbm, ⟨1, _⟩ => ⟨S2304x2048, .f32⟩
  | .hbm, ⟨2, _⟩ => ⟨S2304x256, .bf16⟩
  | .hbm, ⟨3, _⟩ => ⟨S2304x2048, .bf16⟩
  | .hbm, ⟨4, _⟩ => ⟨S256x2048, .f32⟩
  | .local _ .vmem, ⟨0, _⟩ => ⟨S2304x256, .bf16⟩
  | .local _ .vmem, ⟨1, _⟩ => ⟨S2304x512, .bf16⟩
  | .local _ .vmem, ⟨2, _⟩ => ⟨S2304x512, .bf16⟩
  | .local _ .vmem, ⟨3, _⟩ => ⟨S256x512, .f32⟩
  | .local _ .vmem, ⟨4, _⟩ => ⟨S256x512, .f32⟩
  | _, _ => ⟨S2304x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2304x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2304x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S2304x256 : Shape := ⟨2, ![2304, 256]⟩
abbrev S2304x2048 : Shape := ⟨2, ![2304, 2048]⟩
abbrev S_ : Shape := ⟨0, ![]⟩
abbrev S256x2048 : Shape := ⟨2, ![256, 2048]⟩
abbrev S2048x256 : Shape := ⟨2, ![2048, 256]⟩

abbrev nBuf : Space → Nat
  | .hbm => 7
  | .vmem => 0
  | .smem => 0
  | _ => 0

abbrev bufTy : (tb : Table) → Fin (tcTables nBuf tb) → BufTy
  | .hbm, ⟨0, _⟩ => ⟨S2304x256, .f32⟩
  | .hbm, ⟨1, _⟩ => ⟨S2304x2048, .f32⟩
  | .hbm, ⟨2, _⟩ => ⟨S_, .f32⟩
  | .hbm, ⟨3, _⟩ => ⟨S256x2048, .f32⟩
  | .hbm, ⟨4, _⟩ => ⟨S2304x2048, .f32⟩
  | .hbm, ⟨5, _⟩ => ⟨S2048x256, .f32⟩
  | .hbm, ⟨6, _⟩ => ⟨S256x2048, .f32⟩
  | _, _ => ⟨S2304x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S2304x128 : Shape := ⟨2, ![2304, 128]⟩
abbrev S2304x2048 : Shape := ⟨2, ![2304, 2048]⟩
abbrev S128x2048 : Shape := ⟨2, ![128, 2048]⟩
abbrev S2304x512 : Shape := ⟨2, ![2304, 512]⟩
abbrev S128x512 : Shape := ⟨2, ![128, 512]⟩

abbrev nBuf : Space → Nat
  | .hbm => 4
  | .vmem => 5
  | .smem => 0
  | _ => 0

abbrev bufTy : (tb : Table) → Fin (tcTables nBuf tb) → BufTy
  | .hbm, ⟨0, _⟩ => ⟨S2304x128, .f32⟩
  | .hbm, ⟨1, _⟩ => ⟨S2304x2048, .f32⟩
  | .hbm, ⟨2, _⟩ => ⟨S2304x128, .bf16⟩
  | .hbm, ⟨3, _⟩ => ⟨S128x2048, .f32⟩
  | .local _ .vmem, ⟨0, _⟩ => ⟨S2304x128, .bf16⟩
  | .local _ .vmem, ⟨1, _⟩ => ⟨S2304x512, .f32⟩
  | .local _ .vmem, ⟨2, _⟩ => ⟨S2304x512, .f32⟩
  | .local _ .vmem, ⟨3, _⟩ => ⟨S128x512, .f32⟩
  | .local _ .vmem, ⟨4, _⟩ => ⟨S128x512, .f32⟩
  | _, _ => ⟨S2304x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2304x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2304x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S2304x128 : Shape := ⟨2, ![2304, 128]⟩
abbrev S2304x2048 : Shape := ⟨2, ![2304, 2048]⟩
abbrev S_ : Shape := ⟨0, ![]⟩
abbrev S128x2048 : Shape := ⟨2, ![128, 2048]⟩
abbrev S2048x128 : Shape := ⟨2, ![2048, 128]⟩

abbrev nBuf : Space → Nat
  | .hbm => 7
  | .vmem => 0
  | .smem => 0
  | _ => 0

abbrev bufTy : (tb : Table) → Fin (tcTables nBuf tb) → BufTy
  | .hbm, ⟨0, _⟩ => ⟨S2304x128, .f32⟩
  | .hbm, ⟨1, _⟩ => ⟨S2304x2048, .f32⟩
  | .hbm, ⟨2, _⟩ => ⟨S_, .f32⟩
  | .hbm, ⟨3, _⟩ => ⟨S128x2048, .f32⟩
  | .hbm, ⟨4, _⟩ => ⟨S2304x2048, .f32⟩
  | .hbm, ⟨5, _⟩ => ⟨S2048x128, .f32⟩
  | .hbm, ⟨6, _⟩ => ⟨S128x2048, .f32⟩
  | _, _ => ⟨S2304x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S2304x128 : Shape := ⟨2, ![2304, 128]⟩
abbrev S2304x1024 : Shape := ⟨2, ![2304, 1024]⟩
abbrev S128x1024 : Shape := ⟨2, ![128, 1024]⟩
abbrev S2304x512 : Shape := ⟨2, ![2304, 512]⟩
abbrev S128x512 : Shape := ⟨2, ![128, 512]⟩

abbrev nBuf : Space → Nat
  | .hbm => 4
  | .vmem => 5
  | .smem => 0
  | _ => 0

abbrev bufTy : (tb : Table) → Fin (tcTables nBuf tb) → BufTy
  | .hbm, ⟨0, _⟩ => ⟨S2304x128, .f32⟩
  | .hbm, ⟨1, _⟩ => ⟨S2304x1024, .f32⟩
  | .hbm, ⟨2, _⟩ => ⟨S2304x128, .bf16⟩
  | .hbm, ⟨3, _⟩ => ⟨S128x1024, .f32⟩
  | .local _ .vmem, ⟨0, _⟩ => ⟨S2304x128, .bf16⟩
  | .local _ .vmem, ⟨1, _⟩ => ⟨S2304x512, .f32⟩
  | .local _ .vmem, ⟨2, _⟩ => ⟨S2304x512, .f32⟩
  | .local _ .vmem, ⟨3, _⟩ => ⟨S128x512, .f32⟩
  | .local _ .vmem, ⟨4, _⟩ => ⟨S128x512, .f32⟩
  | _, _ => ⟨S2304x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2304x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2304x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S2304x128 : Shape := ⟨2, ![2304, 128]⟩
abbrev S2304x1024 : Shape := ⟨2, ![2304, 1024]⟩
abbrev S_ : Shape := ⟨0, ![]⟩
abbrev S128x1024 : Shape := ⟨2, ![128, 1024]⟩
abbrev S1024x128 : Shape := ⟨2, ![1024, 128]⟩

abbrev nBuf : Space → Nat
  | .hbm => 7
  | .vmem => 0
  | .smem => 0
  | _ => 0

abbrev bufTy : (tb : Table) → Fin (tcTables nBuf tb) → BufTy
  | .hbm, ⟨0, _⟩ => ⟨S2304x128, .f32⟩
  | .hbm, ⟨1, _⟩ => ⟨S2304x1024, .f32⟩
  | .hbm, ⟨2, _⟩ => ⟨S_, .f32⟩
  | .hbm, ⟨3, _⟩ => ⟨S128x1024, .f32⟩
  | .hbm, ⟨4, _⟩ => ⟨S2304x1024, .f32⟩
  | .hbm, ⟨5, _⟩ => ⟨S1024x128, .f32⟩
  | .hbm, ⟨6, _⟩ => ⟨S128x1024, .f32⟩
  | _, _ => ⟨S2304x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S2304x2048 : Shape := ⟨2, ![2304, 2048]⟩
abbrev S256x2048 : Shape := ⟨2, ![256, 2048]⟩
abbrev S2304x256 : Shape := ⟨2, ![2304, 256]⟩
abbrev S256x256 : Shape := ⟨2, ![256, 256]⟩

abbrev nBuf : Space → Nat
  | .hbm => 5
  | .vmem => 5
  | .smem => 0
  | _ => 0

abbrev bufTy : (tb : Table) → Fin (tcTables nBuf tb) → BufTy
  | .hbm, ⟨0, _⟩ => ⟨S2304x2048, .f32⟩
  | .hbm, ⟨1, _⟩ => ⟨S256x2048, .f32⟩
  | .hbm, ⟨2, _⟩ => ⟨S2304x2048, .bf16⟩
  | .hbm, ⟨3, _⟩ => ⟨S256x2048, .bf16⟩
  | .hbm, ⟨4, _⟩ => ⟨S2304x256, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x256, .f32⟩
  | .local _ .vmem, ⟨4, _⟩ => ⟨S256x256, .f32⟩
  | _, _ => ⟨S2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S2304x2048 : Shape := ⟨2, ![2304, 2048]⟩
abbrev S256x2048 : Shape := ⟨2, ![256, 2048]⟩
abbrev S_ : Shape := ⟨0, ![]⟩
abbrev S2304x256 : Shape := ⟨2, ![2304, 256]⟩

abbrev nBuf : Space → Nat
  | .hbm => 6
  | .vmem => 0
  | .smem => 0
  | _ => 0

abbrev bufTy : (tb : Table) → Fin (tcTables nBuf tb) → BufTy
  | .hbm, ⟨0, _⟩ => ⟨S2304x2048, .f32⟩
  | .hbm, ⟨1, _⟩ => ⟨S256x2048, .f32⟩
  | .hbm, ⟨2, _⟩ => ⟨S_, .f32⟩
  | .hbm, ⟨3, _⟩ => ⟨S2304x256, .f32⟩
  | .hbm, ⟨4, _⟩ => ⟨S2304x2048, .f32⟩
  | .hbm, ⟨5, _⟩ => ⟨S2304x256, .f32⟩
  | _, _ => ⟨S2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel10.lean ====
abbrev S2304x2048 : Shape := ⟨2, ![2304, 2048]⟩
abbrev S128x2048 : Shape := ⟨2, ![128, 2048]⟩
abbrev S2304x1024 : Shape := ⟨2, ![2304, 1024]⟩
abbrev S128x1024 : Shape := ⟨2, ![128, 1024]⟩
abbrev S2304x128 : Shape := ⟨2, ![2304, 128]⟩
abbrev S256x2048 : Shape := ⟨2, ![256, 2048]⟩
abbrev S256x1024 : Shape := ⟨2, ![256, 1024]⟩
abbrev S256x128 : Shape := ⟨2, ![256, 128]⟩

abbrev nBuf : Space → Nat
  | .hbm => 7
  | .vmem => 8
  | .smem => 0
  | _ => 0

abbrev bufTy : (tb : Table) → Fin (tcTables nBuf tb) → BufTy
  | .hbm, ⟨0, _⟩ => ⟨S2304x2048, .f32⟩
  | .hbm, ⟨1, _⟩ => ⟨S128x2048, .f32⟩
  | .hbm, ⟨2, _⟩ => ⟨S2304x1024, .f32⟩
  | .hbm, ⟨3, _⟩ => ⟨S128x1024, .f32⟩
  | .hbm, ⟨4, _⟩ => ⟨S128x2048, .bf16⟩
  | .hbm, ⟨5, _⟩ => ⟨S128x1024, .bf16⟩
  | .hbm, ⟨6, _⟩ => ⟨S2304x128, .f32⟩
  | .local _ .vmem, ⟨0, _⟩ => ⟨S256x2048, .f32⟩
  | .local _ .vmem, ⟨1, _⟩ => ⟨S256x2048, .f32⟩
  | .local _ .vmem, ⟨2, _⟩ => ⟨S128x2048, .bf16⟩
  | .local _ .vmem, ⟨3, _⟩ => ⟨S256x1024, .f32⟩
  | .local _ .vmem, ⟨4, _⟩ => ⟨S256x1024, .f32⟩
  | .local _ .vmem, ⟨5, _⟩ => ⟨S128x1024, .bf16⟩
  | .local _ .vmem, ⟨6, _⟩ => ⟨S256x128, .f32⟩
  | .local _ .vmem, ⟨7, _⟩ => ⟨S256x128, .f32⟩
  | _, _ => ⟨S2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S2304x2048 : Shape := ⟨2, ![2304, 2048]⟩
abbrev S128x2048 : Shape := ⟨2, ![128, 2048]⟩
abbrev S2304x1024 : Shape := ⟨2, ![2304, 1024]⟩
abbrev S128x1024 : Shape := ⟨2, ![128, 1024]⟩
abbrev S_ : Shape := ⟨0, ![]⟩
abbrev S2304x128 : Shape := ⟨2, ![2304, 128]⟩

abbrev nBuf : Space → Nat
  | .hbm => 11
  | .vmem => 0
  | .smem => 0
  | _ => 0

abbrev bufTy : (tb : Table) → Fin (tcTables nBuf tb) → BufTy
  | .hbm, ⟨0, _⟩ => ⟨S2304x2048, .f32⟩
  | .hbm, ⟨1, _⟩ => ⟨S128x2048, .f32⟩
  | .hbm, ⟨2, _⟩ => ⟨S2304x1024, .f32⟩
  | .hbm, ⟨3, _⟩ => ⟨S128x1024, .f32⟩
  | .hbm, ⟨4, _⟩ => ⟨S_, .f32⟩
  | .hbm, ⟨5, _⟩ => ⟨S2304x128, .f32⟩
  | .hbm, ⟨6, _⟩ => ⟨S2304x2048, .f32⟩
  | .hbm, ⟨7, _⟩ => ⟨S2304x1024, .f32⟩
  | .hbm, ⟨8, _⟩ => ⟨S2304x128, .f32⟩
  | .hbm, ⟨9, _⟩ => ⟨S2304x128, .f32⟩
  | .hbm, ⟨10, _⟩ => ⟨S2304x128, .f32⟩
  | _, _ => ⟨S2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel11.lean ====
abbrev S2304x1024 : Shape := ⟨2, ![2304, 1024]⟩
abbrev S1024 : Shape := ⟨1, ![1024]⟩
abbrev S2x1024 : Shape := ⟨2, ![2, 1024]⟩
abbrev S1024x2048 : Shape := ⟨2, ![1024, 2048]⟩
abbrev S1x1x1024 : Shape := ⟨3, ![1, 1, 1024]⟩
abbrev S2x1x1024 : Shape := ⟨3, ![2, 1, 1024]⟩
abbrev S2304x2048 : Shape := ⟨2, ![2304, 2048]⟩
abbrev S256x1024 : Shape := ⟨2, ![256, 1024]⟩
abbrev S256x2048 : Shape := ⟨2, ![256, 2048]⟩
abbrev S1x1024 : Shape := ⟨2, ![1, 1024]⟩
abbrev S256 : Shape := ⟨1, ![256]⟩
abbrev S256x1 : Shape := ⟨2, ![256, 1]⟩

abbrev nBuf : Space → Nat
  | .hbm => 11
  | .vmem => 12
  | .smem => 0
  | _ => 0

abbrev bufTy : (tb : Table) → Fin (tcTables nBuf tb) → BufTy
  | .hbm, ⟨0, _⟩ => ⟨S2304x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1024x2048, .f32⟩
  | .hbm, ⟨5, _⟩ => ⟨S1x1x1024, .f32⟩
  | .hbm, ⟨6, _⟩ => ⟨S2x1x1024, .f32⟩
  | .hbm, ⟨7, _⟩ => ⟨S2x1x1024, .f32⟩
  | .hbm, ⟨8, _⟩ => ⟨S1024x2048, .bf16⟩
  | .hbm, ⟨9, _⟩ => ⟨S2304x1024, .bf16⟩
  | .hbm, ⟨10, _⟩ => ⟨S2304x2048, .f32⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2048, .bf16⟩
  | .local _ .vmem, ⟨8, _⟩ => ⟨S256x1024, .bf16⟩
  | .local _ .vmem, ⟨9, _⟩ => ⟨S256x1024, .bf16⟩
  | .local _ .vmem, ⟨10, _⟩ => ⟨S256x2048, .f32⟩
  | .local _ .vmem, ⟨11, _⟩ => ⟨S256x2048, .f32⟩
  | _, _ => ⟨S2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c1_i32 : BitVec 32 := 1#32
  let v0 : BitVec 1 := Scalar.cmpi .sge arg0 c1_i32
  let v1 : BitVec 32 := Scalar.extui v0
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let c1_i32 : BitVec 32 := 1#32
  let v0 : BitVec 1 := Scalar.cmpi .sge arg0 c1_i32
  let v1 : BitVec 32 := Scalar.extui v0
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference11Ideal.lean ====
abbrev S2304x1024 : Shape := ⟨2, ![2304, 1024]⟩
abbrev S1024 : Shape := ⟨1, ![1024]⟩
abbrev S2x1024 : Shape := ⟨2, ![2, 1024]⟩
abbrev S1024x2048 : Shape := ⟨2, ![1024, 2048]⟩
abbrev S256x1024 : Shape := ⟨2, ![256, 1024]⟩
abbrev S2048x1024 : Shape := ⟨2, ![2048, 1024]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S2048 : Shape := ⟨1, ![2048]⟩
abbrev S2048x1 : Shape := ⟨2, ![2048, 1]⟩
abbrev S2304x2048 : Shape := ⟨2, ![2304, 2048]⟩

abbrev nBuf : Space → Nat
  | .hbm => 68
  | .vmem => 0
  | .smem => 0
  | _ => 0

abbrev bufTy : (tb : Table) → Fin (tcTables nBuf tb) → BufTy
  | .hbm, ⟨0, _⟩ => ⟨S2304x1024, .f32⟩
  | .hbm, ⟨1, _⟩ => ⟨S1024, .f32⟩
  | .hbm, ⟨2, _⟩ => ⟨S2x1024, .f32⟩
  | .hbm, ⟨3, _⟩ => ⟨S2x1024, .f32⟩
  | .hbm, ⟨4, _⟩ => ⟨S1024x2048, .f32⟩
  | .hbm, ⟨5, _⟩ => ⟨S256x1024, .f32⟩
  | .hbm, ⟨6, _⟩ => ⟨S2048x1024, .f32⟩
  | .hbm, ⟨7, _⟩ => ⟨S256x1024, .f32⟩
  | .hbm, ⟨8, _⟩ => ⟨S_, .f32⟩
  | .hbm, ⟨9, _⟩ => ⟨S256, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S_, .f32⟩
  | .hbm, ⟨15, _⟩ => ⟨S256x1, .f32⟩
  | .hbm, ⟨16, _⟩ => ⟨S256x1, .f32⟩
  | .hbm, ⟨17, _⟩ => ⟨S256x1, .f32⟩
  | .hbm, ⟨18, _⟩ => ⟨S256x1024, .f32⟩
  | .hbm, ⟨19, _⟩ => ⟨S256x1024, .f32⟩
  | .hbm, ⟨20, _⟩ => ⟨S1x1024, .f32⟩
  | .hbm, ⟨21, _⟩ => ⟨S256x1024, .f32⟩
  | .hbm, ⟨22, _⟩ => ⟨S256x1024, .f32⟩
  | .hbm, ⟨23, _⟩ => ⟨S1x1024, .f32⟩
  | .hbm, ⟨24, _⟩ => ⟨S1024, .f32⟩
  | .hbm, ⟨25, _⟩ => ⟨S_, .f32⟩
  | .hbm, ⟨26, _⟩ => ⟨S1024, .f32⟩
  | .hbm, ⟨27, _⟩ => ⟨S1024, .f32⟩
  | .hbm, ⟨28, _⟩ => ⟨S1x1024, .f32⟩
  | .hbm, ⟨29, _⟩ => ⟨S256x1024, .f32⟩
  | .hbm, ⟨30, _⟩ => ⟨S256x1024, .f32⟩
  | .hbm, ⟨31, _⟩ => ⟨S1x1024, .f32⟩
  | .hbm, ⟨32, _⟩ => ⟨S1024, .f32⟩
  | .hbm, ⟨33, _⟩ => ⟨S1x1024, .f32⟩
  | .hbm, ⟨34, _⟩ => ⟨S256x1024, .f32⟩
  | .hbm, ⟨35, _⟩ => ⟨S256x1024, .f32⟩
  | .hbm, ⟨36, _⟩ => ⟨S2048x1024, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S2048x1, .f32⟩
  | .hbm, ⟨47, _⟩ => ⟨S2048x1024, .f32⟩
  | .hbm, ⟨48, _⟩ => ⟨S2048x1024, .f32⟩
  | .hbm, ⟨49, _⟩ => ⟨S1x1024, .f32⟩
  | .hbm, ⟨50, _⟩ => ⟨S2048x1024, .f32⟩
  | .hbm, ⟨51, _⟩ => ⟨S2048x1024, .f32⟩
  | .hbm, ⟨52, _⟩ => ⟨S1x1024, .f32⟩
  | .hbm, ⟨53, _⟩ => ⟨S1024, .f32⟩
  | .hbm, ⟨54, _⟩ => ⟨S_, .f32⟩
  | .hbm, ⟨55, _⟩ => ⟨S1024, .f32⟩
  | .hbm, ⟨56, _⟩ => ⟨S1024, .f32⟩
  | .hbm, ⟨57, _⟩ => ⟨S1x1024, .f32⟩
  | .hbm, ⟨58, _⟩ => ⟨S2048x1024, .f32⟩
  | .hbm, ⟨59, _⟩ => ⟨S2048x1024, .f32⟩
  | .hbm, ⟨60, _⟩ => ⟨S1x1024, .f32⟩
  | .hbm, ⟨61, _⟩ => ⟨S1024, .f32⟩
  | .hbm, ⟨62, _⟩ => ⟨S1x1024, .f32⟩
  | .hbm, ⟨63, _⟩ => ⟨S2048x1024, .f32⟩
  | .hbm, ⟨64, _⟩ => ⟨S2048x1024, .f32⟩
  | .hbm, ⟨65, _⟩ => ⟨S2304x1024, .f32⟩
  | .hbm, ⟨66, _⟩ => ⟨S2304x1024, .bf16⟩
  | .hbm, ⟨67, _⟩ => ⟨S2304x2048, .f32⟩
  | _, _ => ⟨S2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩

abbrev nD : Nat := 1
abbrev τ : Topo := Topo.v7x

variable {F : FTy → Type} [FloatOps F]
-- ==== Kernel12.lean ====
abbrev S256x1024 : Shape := ⟨2, ![256, 1024]⟩
abbrev S2048x1024 : Shape := ⟨2, ![2048, 1024]⟩
abbrev S1024 : Shape := ⟨1, ![1024]⟩
abbrev S2x1024 : Shape := ⟨2, ![2, 1024]⟩
abbrev S1024x1536 : Shape := ⟨2, ![1024, 1536]⟩
abbrev S1x1x1024 : Shape := ⟨3, ![1, 1, 1024]⟩
abbrev S2x1x1024 : Shape := ⟨3, ![2, 1, 1024]⟩
abbrev S2304x1024 : Shape := ⟨2, ![2304, 1024]⟩
abbrev S2304x1536 : Shape := ⟨2, ![2304, 1536]⟩
abbrev S256x1536 : Shape := ⟨2, ![256, 1536]⟩
abbrev S1x1024 : Shape := ⟨2, ![1, 1024]⟩
abbrev S256 : Shape := ⟨1, ![256]⟩
abbrev S256x1 : Shape := ⟨2, ![256, 1]⟩

abbrev nBuf : Space → Nat
  | .hbm => 12
  | .vmem => 14
  | .smem => 0
  | _ => 0

abbrev bufTy : (tb : Table) → Fin (tcTables nBuf tb) → BufTy
  | .hbm, ⟨0, _⟩ => ⟨S256x1024, .f32⟩
  | .hbm, ⟨1, _⟩ => ⟨S2048x1024, .f32⟩
  | .hbm, ⟨2, _⟩ => ⟨S1024, .f32⟩
  | .hbm, ⟨3, _⟩ => ⟨S2x1024, .f32⟩
  | .hbm, ⟨4, _⟩ => ⟨S2x1024, .f32⟩
  | .hbm, ⟨5, _⟩ => ⟨S1024x1536, .f32⟩
  | .hbm, ⟨6, _⟩ => ⟨S1x1x1024, .f32⟩
  | .hbm, ⟨7, _⟩ => ⟨S2x1x1024, .f32⟩
  | .hbm, ⟨8, _⟩ => ⟨S2x1x1024, .f32⟩
  | .hbm, ⟨9, _⟩ => ⟨S1024x1536, .bf16⟩
  | .hbm, ⟨10, _⟩ => ⟨S2304x1024, .bf16⟩
  | .hbm, ⟨11, _⟩ => ⟨S2304x1536, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x1536, .bf16⟩
  | .local _ .vmem, ⟨10, _⟩ => ⟨S256x1024, .bf16⟩
  | .local _ .vmem, ⟨11, _⟩ => ⟨S256x1024, .bf16⟩
  | .local _ .vmem, ⟨12, _⟩ => ⟨S256x1536, .f32⟩
  | .local _ .vmem, ⟨13, _⟩ => ⟨S256x1536, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let v0 : BitVec 32 := Scalar.minsi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c1_i32 : BitVec 32 := 1#32
  let v0 : BitVec 1 := Scalar.cmpi .sge arg0 c1_i32
  let v1 : BitVec 32 := Scalar.extui v0
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let c1_i32 : BitVec 32 := 1#32
  let v0 : BitVec 1 := Scalar.cmpi .sge arg0 c1_i32
  let v1 : BitVec 32 := Scalar.extui v0
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S256x1024 : Shape := ⟨2, ![256, 1024]⟩
abbrev S2048x1024 : Shape := ⟨2, ![2048, 1024]⟩
abbrev S1024 : Shape := ⟨1, ![1024]⟩
abbrev S2x1024 : Shape := ⟨2, ![2, 1024]⟩
abbrev S1024x1536 : Shape := ⟨2, ![1024, 1536]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S2048 : Shape := ⟨1, ![2048]⟩
abbrev S2048x1 : Shape := ⟨2, ![2048, 1]⟩
abbrev S2304x1024 : Shape := ⟨2, ![2304, 1024]⟩
abbrev S2304x1536 : Shape := ⟨2, ![2304, 1536]⟩

abbrev nBuf : Space → Nat
  | .hbm => 67
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S2048x1024, .f32⟩
  | .hbm, ⟨2, _⟩ => ⟨S1024, .f32⟩
  | .hbm, ⟨3, _⟩ => ⟨S2x1024, .f32⟩
  | .hbm, ⟨4, _⟩ => ⟨S2x1024, .f32⟩
  | .hbm, ⟨5, _⟩ => ⟨S1024x1536, .f32⟩
  | .hbm, ⟨6, _⟩ => ⟨S256x1024, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x1024, .f32⟩
  | .hbm, ⟨18, _⟩ => ⟨S256x1024, .f32⟩
  | .hbm, ⟨19, _⟩ => ⟨S1x1024, .f32⟩
  | .hbm, ⟨20, _⟩ => ⟨S256x1024, .f32⟩
  | .hbm, ⟨21, _⟩ => ⟨S256x1024, .f32⟩
  | .hbm, ⟨22, _⟩ => ⟨S1x1024, .f32⟩
  | .hbm, ⟨23, _⟩ => ⟨S1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S1x1024, .f32⟩
  | .hbm, ⟨28, _⟩ => ⟨S256x1024, .f32⟩
  | .hbm, ⟨29, _⟩ => ⟨S256x1024, .f32⟩
  | .hbm, ⟨30, _⟩ => ⟨S1x1024, .f32⟩
  | .hbm, ⟨31, _⟩ => ⟨S1024, .f32⟩
  | .hbm, ⟨32, _⟩ => ⟨S1x1024, .f32⟩
  | .hbm, ⟨33, _⟩ => ⟨S256x1024, .f32⟩
  | .hbm, ⟨34, _⟩ => ⟨S256x1024, .f32⟩
  | .hbm, ⟨35, _⟩ => ⟨S2048x1024, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S2048x1, .f32⟩
  | .hbm, ⟨46, _⟩ => ⟨S2048x1024, .f32⟩
  | .hbm, ⟨47, _⟩ => ⟨S2048x1024, .f32⟩
  | .hbm, ⟨48, _⟩ => ⟨S1x1024, .f32⟩
  | .hbm, ⟨49, _⟩ => ⟨S2048x1024, .f32⟩
  | .hbm, ⟨50, _⟩ => ⟨S2048x1024, .f32⟩
  | .hbm, ⟨51, _⟩ => ⟨S1x1024, .f32⟩
  | .hbm, ⟨52, _⟩ => ⟨S1024, .f32⟩
  | .hbm, ⟨53, _⟩ => ⟨S_, .f32⟩
  | .hbm, ⟨54, _⟩ => ⟨S1024, .f32⟩
  | .hbm, ⟨55, _⟩ => ⟨S1024, .f32⟩
  | .hbm, ⟨56, _⟩ => ⟨S1x1024, .f32⟩
  | .hbm, ⟨57, _⟩ => ⟨S2048x1024, .f32⟩
  | .hbm, ⟨58, _⟩ => ⟨S2048x1024, .f32⟩
  | .hbm, ⟨59, _⟩ => ⟨S1x1024, .f32⟩
  | .hbm, ⟨60, _⟩ => ⟨S1024, .f32⟩
  | .hbm, ⟨61, _⟩ => ⟨S1x1024, .f32⟩
  | .hbm, ⟨62, _⟩ => ⟨S2048x1024, .f32⟩
  | .hbm, ⟨63, _⟩ => ⟨S2048x1024, .f32⟩
  | .hbm, ⟨64, _⟩ => ⟨S2304x1024, .f32⟩
  | .hbm, ⟨65, _⟩ => ⟨S2304x1024, .bf16⟩
  | .hbm, ⟨66, _⟩ => ⟨S2304x1536, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩

abbrev nD : Nat := 1
abbrev τ : Topo := Topo.v7x

variable {F : FTy → Type} [FloatOps F]
-- ==== Kernel13.lean ====
abbrev S2048x1024 : Shape := ⟨2, ![2048, 1024]⟩
abbrev S2304x2048 : Shape := ⟨2, ![2304, 2048]⟩
abbrev S2304x1024 : Shape := ⟨2, ![2304, 1024]⟩
abbrev S1024 : Shape := ⟨1, ![1024]⟩
abbrev S1024x1024 : Shape := ⟨2, ![1024, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 27
  | .vmem => 31
  | .smem => 0
  | _ => 0

abbrev bufTy : (tb : Table) → Fin (tcTables nBuf tb) → BufTy
  | .hbm, ⟨0, _⟩ => ⟨S2048x1024, .f32⟩
  | .hbm, ⟨1, _⟩ => ⟨S2304x2048, .f32⟩
  | .hbm, ⟨2, _⟩ => ⟨S2304x1024, .f32⟩
  | .hbm, ⟨3, _⟩ => ⟨S2048x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1024x1024, .bf16⟩
  | .hbm, ⟨15, _⟩ => ⟨S1024x1024, .bf16⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1024x1024, .f32⟩
  | .hbm, ⟨26, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1024x1024, .bf16⟩
  | .local _ .vmem, ⟨15, _⟩ => ⟨S1024x1024, .bf16⟩
  | .local _ .vmem, ⟨16, _⟩ => ⟨S1x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | .local _ .vmem, ⟨28, _⟩ => ⟨S1x1024, .f32⟩
  | .local _ .vmem, ⟨29, _⟩ => ⟨S1024x1024, .f32⟩
  | .local _ .vmem, ⟨30, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v6_3 : Ref sig .tc := ⟨.hbm, 19, rfl⟩
abbrev main_v6_4 : Ref sig .tc := ⟨.hbm, 20, rfl⟩
abbrev main_v6_5 : Ref sig .tc := ⟨.hbm, 21, rfl⟩
abbrev main_v6_6 : Ref sig .tc := ⟨.hbm, 22, rfl⟩
abbrev main_v6_7 : Ref sig .tc := ⟨.hbm, 23, rfl⟩
abbrev main_v6_8 : Ref sig .tc := ⟨.hbm, 24, rfl⟩
abbrev main_v6_9 : Ref sig .tc := ⟨.hbm, 25, rfl⟩
abbrev main_v6_10 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg20_0 : Ref sig .tc := ⟨.vmem, 29, rfl⟩
abbrev cc0_stg21_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem20_0 : DmaSem sig := 29
abbrev cc0_sem21_0 : DmaSem sig := 30

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c1_i32_0 : BitVec 32 := 1#32
  let c0_i32 : BitVec 32 := 0#32
  ![v0.toNat, c1_i32_0.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1024x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1024x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== Reference13Ideal.lean ====
abbrev S2048x1024 : Shape := ⟨2, ![2048, 1024]⟩
abbrev S2304x2048 : Shape := ⟨2, ![2304, 2048]⟩
abbrev S2304x1024 : Shape := ⟨2, ![2304, 1024]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 205
  | .vmem => 0
  | .smem => 0
  | _ => 0

abbrev hbmTy0_0 (i : Nat) : BufTy := match i % 128 with
  | 0 => ⟨S2048x1024, .f32⟩
  | 1 => ⟨S2304x2048, .f32⟩
  | 2 => ⟨S2304x1024, .f32⟩
  | 3 => ⟨S2048x1024, .f32⟩
  | 4 => ⟨S1024, .f32⟩
  | 5 => ⟨S1024, .f32⟩
  | 6 => ⟨S1024, .f32⟩
  | 7 => ⟨S1024, .f32⟩
  | 8 => ⟨S1024x1024, .f32⟩
  | 9 => ⟨S1024x1024, .f32⟩
  | 10 => ⟨S2048x1024, .f32⟩
  | 11 => ⟨S2048x1024, .f32⟩
  | 12 => ⟨S2048x1024, .f32⟩
  | 13 => ⟨S1x1024, .f32⟩
  | 14 => ⟨S2048x1024, .f32⟩
  | 15 => ⟨S2048x1024, .f32⟩
  | 16 => ⟨S2048x1024, .f32⟩
  | 17 => ⟨S2048x1024, .f32⟩
  | 18 => ⟨S2048x1024, .f32⟩
  | 19 => ⟨S2048x1024, .f32⟩
  | 20 => ⟨S_, .f32⟩
  | 21 => ⟨S2048x1024, .f32⟩
  | 22 => ⟨S2048x1024, .f32⟩
  | 23 => ⟨S_, .f32⟩
  | 24 => ⟨S2048x1024, .f32⟩
  | 25 => ⟨S2048x1024, .f32⟩
  | 26 => ⟨S2048x1024, .f32⟩
  | 27 => ⟨S_, .f32⟩
  | 28 => ⟨S2048x1024, .f32⟩
  | 29 => ⟨S2048x1024, .f32⟩
  | 30 => ⟨S2048x1024, .f32⟩
  | 31 => ⟨S_, .f32⟩
  | 32 => ⟨S2048x1024, .f32⟩
  | 33 => ⟨S2048x1024, .f32⟩
  | 34 => ⟨S_, .f32⟩
  | 35 => ⟨S2048x1024, .f32⟩
  | 36 => ⟨S2048x1024, .f32⟩
  | 37 => ⟨S2048x1024, .f32⟩
  | 38 => ⟨S_, .f32⟩
  | 39 => ⟨S2048x1024, .f32⟩
  | 40 => ⟨S2048x1024, .f32⟩
  | 41 => ⟨S_, .f32⟩
  | 42 => ⟨S2048x1024, .f32⟩
  | 43 => ⟨S2048x1024, .f32⟩
  | 44 => ⟨S2048x1024, .f32⟩
  | 45 => ⟨S2048x1024, .f32⟩
  | 46 => ⟨S1x1024, .f32⟩
  | 47 => ⟨S2048x1024, .f32⟩
  | 48 => ⟨S2048x1024, .f32⟩
  | 49 => ⟨S2048x1024, .f32⟩
  | 50 => ⟨S2048x1024, .f32⟩
  | 51 => ⟨S_, .f32⟩
  | 52 => ⟨S2048x1024, .f32⟩
  | 53 => ⟨S2048x1024, .f32⟩
  | 54 => ⟨S_, .f32⟩
  | 55 => ⟨S2048x1024, .f32⟩
  | 56 => ⟨S2048x1024, .f32⟩
  | 57 => ⟨S_, .f32⟩
  | 58 => ⟨S2048x1024, .f32⟩
  | 59 => ⟨S2048x1024, .f32⟩
  | 60 => ⟨S2048x1024, .f32⟩
  | 61 => ⟨S2048x1024, .f32⟩
  | 62 => ⟨S2048x1024, .f32⟩
  | 63 => ⟨S2048x1024, .f32⟩
  | 64 => ⟨S_, .f32⟩
  | 65 => ⟨S2048x1024, .f32⟩
  | 66 => ⟨S2048x1024, .f32⟩
  | 67 => ⟨S_, .f32⟩
  | 68 => ⟨S2048x1024, .f32⟩
  | 69 => ⟨S2048x1024, .f32⟩
  | 70 => ⟨S_, .f32⟩
  | 71 => ⟨S2048x1024, .f32⟩
  | 72 => ⟨S2048x1024, .f32⟩
  | 73 => ⟨S2048x1024, .f32⟩
  | 74 => ⟨S2048x1024, .f32⟩
  | 75 => ⟨S2048x1024, .f32⟩
  | 76 => ⟨S2048x1024, .f32⟩
  | 77 => ⟨S1x1024, .f32⟩
  | 78 => ⟨S2048x1024, .f32⟩
  | 79 => ⟨S2048x1024, .f32⟩
  | 80 => ⟨S2048x1024, .f32⟩
  | 81 => ⟨S2048x1024, .f32⟩
  | 82 => ⟨S_, .f32⟩
  | 83 => ⟨S2048, .f32⟩
  | 84 => ⟨S2048x1, .f32⟩
  | 85 => ⟨S_, .f32⟩
  | 86 => ⟨S2048x1, .f32⟩
  | 87 => ⟨S2048x1, .f32⟩
  | 88 => ⟨S_, .f32⟩
  | 89 => ⟨S2048x1, .f32⟩
  | 90 => ⟨S2048x1, .f32⟩
  | 91 => ⟨S2048x1, .f32⟩
  | 92 => ⟨S2048x1, .f32⟩
  | 93 => ⟨S_, .f32⟩
  | 94 => ⟨S2048x1, .f32⟩
  | 95 => ⟨S2048x1, .f32⟩
  | 96 => ⟨S2048x1024, .f32⟩
  | 97 => ⟨S2048x1024, .f32⟩
  | 98 => ⟨S1x1024, .f32⟩
  | 99 => ⟨S2048x1024, .f32⟩
  | 100 => ⟨S2048x1024, .f32⟩
  | 101 => ⟨S2048x1024, .f32⟩
  | 102 => ⟨S2048x1024, .f32⟩
  | 103 => ⟨S_, .f32⟩
  | 104 => ⟨S2048x1024, .f32⟩
  | 105 => ⟨S2048x1024, .f32⟩
  | 106 => ⟨S_, .f32⟩
  | 107 => ⟨S2048, .f32⟩
  | 108 => ⟨S_, .f32⟩
  | 109 => ⟨S2048, .f32⟩
  | 110 => ⟨S2048, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S2048, .f32⟩
  | 119 => ⟨S_, .f32⟩
  | 120 => ⟨S2048, .f32⟩
  | 121 => ⟨S2048, .f32⟩
  | 122 => ⟨S2048x1024, .f32⟩
  | 123 => ⟨S2048x1024, .f32⟩
  | 124 => ⟨S2048x1024, .f32⟩
  | 125 => ⟨S_, .f32⟩
  | 126 => ⟨S1024, .f32⟩
  | 127 => ⟨S1x1024, .f32⟩
  | _ => ⟨S2048x1024, .f32⟩

abbrev hbmTy0_1 (i : Nat) : BufTy := match i % 128 with
  | 0 => ⟨S2048x1024, .f32⟩
  | 1 => ⟨S2048x1024, .f32⟩
  | 2 => ⟨S_, .f32⟩
  | 3 => ⟨S1024, .f32⟩
  | 4 => ⟨S2048x1024, .f32⟩
  | 5 => ⟨S_, .f32⟩
  | 6 => ⟨S2048, .f32⟩
  | 7 => ⟨S2048x1, .f32⟩
  | 8 => ⟨S2048x1024, .f32⟩
  | 9 => ⟨S2048x1024, .f32⟩
  | 10 => ⟨S2048x1, .f32⟩
  | 11 => ⟨S_, .f32⟩
  | 12 => ⟨S2048x1, .f32⟩
  | 13 => ⟨S2048x1, .f32⟩
  | 14 => ⟨S_, .f32⟩
  | 15 => ⟨S2048, .f32⟩
  | 16 => ⟨S2048x1024, .f32⟩
  | 17 => ⟨S2048x1024, .f32⟩
  | 18 => ⟨S2048x1024, .f32⟩
  | 19 => ⟨S2048x1024, .f32⟩
  | 20 => ⟨S2048x1024, .f32⟩
  | 21 => ⟨S2048x1024, .f32⟩
  | 22 => ⟨S2048x1024, .f32⟩
  | 23 => ⟨S2048x1024, .f32⟩
  | 24 => ⟨S_, .f32⟩
  | 25 => ⟨S1024, .f32⟩
  | 26 => ⟨S1x1024, .f32⟩
  | 27 => ⟨S_, .f32⟩
  | 28 => ⟨S1024, .f32⟩
  | 29 => ⟨S1024x1024, .f32⟩
  | 30 => ⟨S1024x1024, .f32⟩
  | 31 => ⟨S2048x1024, .f32⟩
  | 32 => ⟨S2048x1024, .f32⟩
  | 33 => ⟨S2048x1024, .f32⟩
  | 34 => ⟨S2048x1024, .f32⟩
  | 35 => ⟨S2048x1024, .f32⟩
  | 36 => ⟨S2048x1024, .f32⟩
  | 37 => ⟨S2048x1024, .f32⟩
  | 38 => ⟨S2048x1024, .f32⟩
  | 39 => ⟨S2048x1024, .f32⟩
  | 40 => ⟨S2048x1024, .f32⟩
  | 41 => ⟨S_, .f32⟩
  | 42 => ⟨S1024, .f32⟩
  | 43 => ⟨S1x1024, .f32⟩
  | 44 => ⟨S_, .f32⟩
  | 45 => ⟨S1024, .f32⟩
  | 46 => ⟨S1024x1024, .f32⟩
  | 47 => ⟨S1024x1024, .f32⟩
  | 48 => ⟨S2048x1024, .f32⟩
  | 49 => ⟨S2048x1024, .f32⟩
  | 50 => ⟨S2048x1024, .f32⟩
  | 51 => ⟨S2048x1024, .f32⟩
  | 52 => ⟨S_, .f32⟩
  | 53 => ⟨S2048x1024, .f32⟩
  | 54 => ⟨S2048x1024, .f32⟩
  | 55 => ⟨S2048x1024, .f32⟩
  | 56 => ⟨S_, .f32⟩
  | 57 => ⟨S2048x1024, .f32⟩
  | 58 => ⟨S2048x1024, .f32⟩
  | 59 => ⟨S2048x1024, .f32⟩
  | 60 => ⟨S_, .f32⟩
  | 61 => ⟨S2048x1024, .f32⟩
  | 62 => ⟨S2048x1024, .f32⟩
  | 63 => ⟨S2048x1024, .f32⟩
  | 64 => ⟨S2048x1024, .f32⟩
  | 65 => ⟨S2048x1024, .f32⟩
  | 66 => ⟨S2048x1024, .f32⟩
  | 67 => ⟨S2048x1024, .f32⟩
  | 68 => ⟨S_, .f32⟩
  | 69 => ⟨S1024, .f32⟩
  | 70 => ⟨S1x1024, .f32⟩
  | 71 => ⟨S_, .f32⟩
  | 72 => ⟨S1024, .f32⟩
  | 73 => ⟨S1x1024, .f32⟩
  | 74 => ⟨S1x1024, .f32⟩
  | 75 => ⟨S1x1024, .f32⟩
  | 76 => ⟨S1x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_call0_v0 : Ref sig .tc := ⟨.hbm, 62, rfl⟩
abbrev main_call0_v1 : Ref sig .tc := ⟨.hbm, 63, rfl⟩
abbrev main_call0_cst : Ref sig .tc := ⟨.hbm, 64, rfl⟩
abbrev main_call0_v2 : Ref sig .tc := ⟨.hbm, 65, rfl⟩
abbrev main_call0_v3 : Ref sig .tc := ⟨.hbm, 66, rfl⟩
abbrev main_call0_cst_0 : Ref sig .tc := ⟨.hbm, 67, rfl⟩
abbrev main_call0_v4 : Ref sig .tc := ⟨.hbm, 68, rfl⟩
abbrev main_v42_2 : Ref sig .tc := ⟨.hbm, 69, rfl⟩
abbrev main_call0_cst_1 : Ref sig .tc := ⟨.hbm, 70, rfl⟩
abbrev main_call0_v6 : Ref sig .tc := ⟨.hbm, 71, rfl⟩
abbrev main_call0_v7 : Ref sig .tc := ⟨.hbm, 72, rfl⟩
abbrev main_v42_1 : Ref sig .tc := ⟨.hbm, 73, rfl⟩
abbrev main_v42_0 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_9 : Ref sig .tc := ⟨.hbm, 82, rfl⟩
abbrev main_v50 : Ref sig .tc := ⟨.hbm, 83, rfl⟩
abbrev main_v51 : Ref sig .tc := ⟨.hbm, 84, rfl⟩
abbrev main_cst_10 : Ref sig .tc := ⟨.hbm, 85, rfl⟩
abbrev main_v52 : Ref sig .tc := ⟨.hbm, 86, rfl⟩
abbrev main_v53 : Ref sig .tc := ⟨.hbm, 87, rfl⟩
abbrev main_cst_11 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_12 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_cst_13 : Ref sig .tc := ⟨.hbm, 103, rfl⟩
abbrev main_v67 : Ref sig .tc := ⟨.hbm, 104, rfl⟩
abbrev main_v68 : Ref sig .tc := ⟨.hbm, 105, rfl⟩
abbrev main_cst_14 : Ref sig .tc := ⟨.hbm, 106, rfl⟩
abbrev main_v69 : Ref sig .tc := ⟨.hbm, 107, rfl⟩
abbrev main_cst_15 : Ref sig .tc := ⟨.hbm, 108, rfl⟩
abbrev main_v70 : Ref sig .tc := ⟨.hbm, 109, rfl⟩
abbrev main_v71 : Ref sig .tc := ⟨.hbm, 110, rfl⟩
abbrev main_cst_16 : Ref sig .tc := ⟨.hbm, 111, rfl⟩
abbrev main_v72 : Ref sig .tc := ⟨.hbm, 112, rfl⟩
abbrev main_cst_17 : Ref sig .tc := ⟨.hbm, 113, rfl⟩
abbrev main_v73 : Ref sig .tc := ⟨.hbm, 114, rfl⟩
abbrev main_cst_18 : Ref sig .tc := ⟨.hbm, 115, rfl⟩
abbrev main_cst_19 : Ref sig .tc := ⟨.hbm, 116, rfl⟩
abbrev main_v74 : Ref sig .tc := ⟨.hbm, 117, rfl⟩
abbrev main_v75 : Ref sig .tc := ⟨.hbm, 118, rfl⟩
abbrev main_cst_20 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_cst_21 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_cst_22 : Ref sig .tc := ⟨.hbm, 130, rfl⟩
abbrev main_v85 : Ref sig .tc := ⟨.hbm, 131, rfl⟩
abbrev main_v86 : Ref sig .tc := ⟨.hbm, 132, rfl⟩
abbrev main_cst_23 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_cst_24 : Ref sig .tc := ⟨.hbm, 139, rfl⟩
abbrev main_v92 : Ref sig .tc := ⟨.hbm, 140, rfl⟩
abbrev main_v93 : Ref sig .tc := ⟨.hbm, 141, rfl⟩
abbrev main_cst_25 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_cst_26 : Ref sig .tc := ⟨.hbm, 152, rfl⟩
abbrev main_v103 : Ref sig .tc := ⟨.hbm, 153, rfl⟩
abbrev main_v104 : Ref sig .tc := ⟨.hbm, 154, rfl⟩
abbrev main_cst_27 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_call1_v0 : Ref sig .tc := ⟨.hbm, 162, rfl⟩
abbrev main_call1_v1 : Ref sig .tc := ⟨.hbm, 163, rfl⟩
abbrev main_call1_v2 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_cst_28 : Ref sig .tc := ⟨.hbm, 169, rfl⟩
abbrev main_v115 : Ref sig .tc := ⟨.hbm, 170, rfl⟩
abbrev main_v116 : Ref sig .tc := ⟨.hbm, 171, rfl⟩
abbrev main_cst_29 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_cst_30 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_cst_31 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_cst_32 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_cst_33 : Ref sig .tc := ⟨.hbm, 196, rfl⟩
abbrev main_v137 : Ref sig .tc := ⟨.hbm, 197, rfl⟩
abbrev main_v138 : Ref sig .tc := ⟨.hbm, 198, rfl⟩
abbrev main_cst_34 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩

abbrev nD : Nat := 1
abbrev τ : Topo := Topo.v7x

variable {F : FTy → Type} [FloatOps F]
-- ==== Kernel14.lean ====
abbrev S2304x1024 : Shape := ⟨2, ![2304, 1024]⟩
abbrev S2304x1536 : Shape := ⟨2, ![2304, 1536]⟩
abbrev S256x1024 : Shape := ⟨2, ![256, 1024]⟩
abbrev S2048x1024 : Shape := ⟨2, ![2048, 1024]⟩
abbrev S2x1024 : Shape := ⟨2, ![2, 1024]⟩
abbrev S1024x1024 : Shape := ⟨2, ![1024, 1024]⟩
abbrev S2x1x1024 : Shape := ⟨3, ![2, 1, 1024]⟩
abbrev S1x1x1024 : Shape := ⟨3, ![1, 1, 1024]⟩
abbrev S1x1024 : Shape := ⟨2, ![1, 1024]⟩

abbrev nBuf : Space → Nat
  | .hbm => 11
  | .vmem => 17
  | .smem => 0
  | _ => 0

abbrev bufTy : (tb : Table) → Fin (tcTables nBuf tb) → BufTy
  | .hbm, ⟨0, _⟩ => ⟨S2304x1024, .f32⟩
  | .hbm, ⟨1, _⟩ => ⟨S2304x1536, .f32⟩
  | .hbm, ⟨2, _⟩ => ⟨S256x1024, .f32⟩
  | .hbm, ⟨3, _⟩ => ⟨S2048x1024, .f32⟩
  | .hbm, ⟨4, _⟩ => ⟨S2x1024, .f32⟩
  | .hbm, ⟨5, _⟩ => ⟨S1024x1024, .f32⟩
  | .hbm, ⟨6, _⟩ => ⟨S2x1x1024, .f32⟩
  | .hbm, ⟨7, _⟩ => ⟨S1024x1024, .bf16⟩
  | .hbm, ⟨8, _⟩ => ⟨S2304x1024, .f32⟩
  | .hbm, ⟨9, _⟩ => ⟨S2304x1024, .bf16⟩
  | .hbm, ⟨10, _⟩ => ⟨S2304x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1x1024, .f32⟩
  | .local _ .vmem, ⟨9, _⟩ => ⟨S1x1x1024, .f32⟩
  | .local _ .vmem, ⟨10, _⟩ => ⟨S1024x1024, .bf16⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S256x1024, .f32⟩
  | .local _ .vmem, ⟨16, _⟩ => ⟨S256x1024, .f32⟩
  | _, _ => ⟨S2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let v0 : BitVec 32 := Scalar.minsi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 3 → Nat :=
  let arg0 : BitVec 32 := BitVec.ofNat 32 (i 0).val
  let c1_i32 : BitVec 32 := 1#32
  let v0 : BitVec 1 := Scalar.cmpi .sge arg0 c1_i32
  let v1 : BitVec 32 := Scalar.extui v0
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference14Ideal.lean ====
abbrev S2304x1024 : Shape := ⟨2, ![2304, 1024]⟩
abbrev S2304x1536 : Shape := ⟨2, ![2304, 1536]⟩
abbrev S256x1024 : Shape := ⟨2, ![256, 1024]⟩
abbrev S2048x1024 : Shape := ⟨2, ![2048, 1024]⟩
abbrev S2x1024 : Shape := ⟨2, ![2, 1024]⟩
abbrev S1024x1024 : Shape := ⟨2, ![1024, 1024]⟩
abbrev S_ : Shape := ⟨0, ![]⟩
abbrev S1x1024 : Shape := ⟨2, ![1, 1024]⟩
abbrev S1024 : Shape := ⟨1, ![1024]⟩

abbrev nBuf : Space → Nat
  | .hbm => 34
  | .vmem => 0
  | .smem => 0
  | _ => 0

abbrev bufTy : (tb : Table) → Fin (tcTables nBuf tb) → BufTy
  | .hbm, ⟨0, _⟩ => ⟨S2304x1024, .f32⟩
  | .hbm, ⟨1, _⟩ => ⟨S2304x1536, .f32⟩
  | .hbm, ⟨2, _⟩ => ⟨S256x1024, .f32⟩
  | .hbm, ⟨3, _⟩ => ⟨S2048x1024, .f32⟩
  | .hbm, ⟨4, _⟩ => ⟨S2x1024, .f32⟩
  | .hbm, ⟨5, _⟩ => ⟨S1024x1024, .f32⟩
  | .hbm, ⟨6, _⟩ => ⟨S2304x1024, .f32⟩
  | .hbm, ⟨7, _⟩ => ⟨S2304x1024, .f32⟩
  | .hbm, ⟨8, _⟩ => ⟨S2304x1024, .f32⟩
  | .hbm, ⟨9, _⟩ => ⟨S_, .f32⟩
  | .hbm, ⟨10, _⟩ => ⟨S2304x1024, .f32⟩
  | .hbm, ⟨11, _⟩ => ⟨S2304x1024, .f32⟩
  | .hbm, ⟨12, _⟩ => ⟨S_, .f32⟩
  | .hbm, ⟨13, _⟩ => ⟨S2304x1024, .f32⟩
  | .hbm, ⟨14, _⟩ => ⟨S2304x1024, .f32⟩
  | .hbm, ⟨15, _⟩ => ⟨S2304x1024, .f32⟩
  | .hbm, ⟨16, _⟩ => ⟨S2304x1024, .f32⟩
  | .hbm, ⟨17, _⟩ => ⟨S2304x1024, .f32⟩
  | .hbm, ⟨18, _⟩ => ⟨S1x1024, .f32⟩
  | .hbm, ⟨19, _⟩ => ⟨S1024, .f32⟩
  | .hbm, ⟨20, _⟩ => ⟨S256x1024, .f32⟩
  | .hbm, ⟨21, _⟩ => ⟨S1x1024, .f32⟩
  | .hbm, ⟨22, _⟩ => ⟨S256x1024, .f32⟩
  | .hbm, ⟨23, _⟩ => ⟨S256x1024, .f32⟩
  | .hbm, ⟨24, _⟩ => ⟨S256x1024, .f32⟩
  | .hbm, ⟨25, _⟩ => ⟨S1x1024, .f32⟩
  | .hbm, ⟨26, _⟩ => ⟨S1024, .f32⟩
  | .hbm, ⟨27, _⟩ => ⟨S2048x1024, .f32⟩
  | .hbm, ⟨28, _⟩ => ⟨S1x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2304x1024, .f32⟩
  | .hbm, ⟨33, _⟩ => ⟨S2304x1024, .bf16⟩
  | _, _ => ⟨S2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]
-- ==== Proof.Coe.lean ====
/-
  Real numbers inside the extended reals: how sums, products, exponentials and quotients of finite entries stay finite,
  and the scale of the attention as a real number.
-/
module

public import Idealize.ShloMosaic.Lib.Pointwise

@[expose] public section

noncomputable section
open Idealize.ShloMosaic

namespace Attn

/-- A finite sum of real numbers is the same sum read in the extended reals. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The scale of the scores: the real number its float word stands for. -/
def SC : ℝ := (Ideal.ofBits .f32 0x3DD105EC#32 : EReal).toReal

theorem scale_eq : (Ideal.ofBits .f32 0x3DD105EC#32 : EReal) = ((SC : ℝ) : EReal) := by
  have h : ∃ r : ℝ, (Ideal.ofBits .f32 0x3DD105EC#32 : EReal) = ((r : ℝ) : EReal) := by
    unfold Ideal.ofBits Ideal.ieee
    simp only []
    rw [if_neg (by decide), if_neg (by decide)]
    exact ⟨_, rfl⟩
  obtain ⟨r, hr⟩ := h
  unfold SC
  rw [hr, EReal.toReal_coe]

/-- The quotient of two real numbers whose divisor is not zero. -/
theorem div_real (x : ℝ) {y : ℝ} (h : y ≠ 0) : Ideal.div (x : EReal) (y : EReal) = ((x / y : ℝ) : EReal) := by
  rw [Ideal.div_coe h, ← EReal.coe_mul]; congr 1; ring

theorem log_real {x : ℝ} (h : 0 < x) : Ideal.log (x : EReal) = ((Real.log x : ℝ) : EReal) := by
  rw [Ideal.log_coe, if_neg (not_le.mpr h)]

/-- The largest of finitely many real numbers, started from −∞, is a real number. -/
theorem fold_max_real {n : ℕ} (f : Fin (n + 1) → ℝ) :
    ∃ M : ℝ, (Finset.univ.fold max (⊥ : EReal) fun k => ((f k : ℝ) : EReal)) = ((M : ℝ) : EReal) := by
  classical
  have key : ∀ s : Finset (Fin (n + 1)), (s.fold max (⊥ : EReal) fun k => ((f k : ℝ) : EReal)) = ⊥ ∨
      ∃ M : ℝ, (s.fold max (⊥ : EReal) fun k => ((f k : ℝ) : EReal)) = ((M : ℝ) : EReal) := by
    intro s
    induction s using Finset.induction_on with
    | empty => left; simp
    | insert a s ha ih =>
      right
      rw [Finset.fold_insert ha]
      rcases ih with h | ⟨M, h⟩
      · exact ⟨f a, by rw [h]; simp⟩
      · exact ⟨max (f a) M, by rw [h]; norm_cast⟩
  rcases key Finset.univ with h | h
  · exfalso
    have h1 : ((f 0 : ℝ) : EReal) ≤ Finset.univ.fold max (⊥ : EReal) fun k => ((f k : ℝ) : EReal) :=
      (Finset.le_fold_max _).mpr (Or.inr ⟨0, Finset.mem_univ _, le_refl _⟩)
    rw [h] at h1
    exact absurd (le_bot_iff.mp h1) (EReal.coe_ne_bot _)
  · exact h

/-- One row block's probabilities from its queries, keys and the rows' logarithmic sums. -/
def pR (qq kk : ℕ → ℕ → ℝ) (ll : ℕ → ℝ) (i n : ℕ) : ℝ :=
  Real.exp ((∑ l : Fin 128, qq i l.val * kk n l.val) * SC - ll i)

/-- The gradient of the scores of one row block from the probabilities, the cotangents, the outputs and the values. -/
def dsR (p gm oo vv : ℕ → ℕ → ℝ) (i n : ℕ) : ℝ :=
  p i n * ((∑ l : Fin 128, gm i l.val * vv n l.val) - ∑ l : Fin 128, gm i l.val * oo i l.val) * SC

/-- A pair of heads holds the lanes below 64 of a block for its first head, the others for its second. -/
def ownLo (g : ℕ → ℕ → ℝ) (i l : ℕ) : ℝ := if l < 64 then g i l else 0
@[inherit_doc ownLo] def ownHi (g : ℕ → ℕ → ℝ) (i l : ℕ) : ℝ := if 64 ≤ l then g i l else 0

/-- A gradient turned back through the rotary tables: a lane times its cosine, and two neighbours eight lanes away. -/
def turnA (y c s : ℕ → ℕ → ℝ) (i l : ℕ) : ℝ :=
  y i l * c i (l % 128) + y i ((l + 256 - 8) % 256) * s i ((l + 256 - 8) % 256 % 128)
@[inherit_doc turnA] def turnB (y s : ℕ → ℕ → ℝ) (i l : ℕ) : ℝ :=
  y i ((l + 256 - 248) % 256) * s i ((l + 256 - 248) % 256 % 128)

theorem lane_lt (n : Fin 128) :
    IntOp.cmpi CmpIPredicate.slt (BitVec.ofNat 32 n.val) 64#32 = if n.val < 64 then 1#1 else 0#1 := by
  revert n; decide
theorem lane_ge (n : Fin 128) :
    IntOp.cmpi CmpIPredicate.sge (BitVec.ofNat 32 n.val) 64#32 = if 64 ≤ n.val then 1#1 else 0#1 := by
  revert n; decide
theorem select_if (p : Prop) [Decidable p] (a b : EReal) :
    (Scalar.select (if p then 1#1 else 0#1) a b : EReal) = if p then a else b := by
  by_cases h : p <;> simp [h, Scalar.select]
theorem mod128 {n : ℕ} (h : n < 256) : n % 128 = if n < 128 then n else n - 128 := by
  split_ifs <;> omega

end Attn
-- ==== Proof.Keys2304.lean ====
/-
  What the kernel's body computes from one block of 256 queries and all 2304 keys, read at an entry in the real numbers: the
  probabilities, the gradient of the scores, and the products that make the gradients.
-/
module

public import proofs.«01_k».proof.Proof.Coe
public import proofs.«01_k».proof.Proof.Gen.KernelIdeal.Frame
public import Idealize.ShloMosaic.Lib.Pipeline.ValueKit
public import Idealize.ShloMosaic.Lib.Pointwise

@[expose] public section

set_option maxRecDepth 16384
noncomputable section
open Idealize.ShloMosaic Idealize.ShloMosaic.TcCoe Idealize.SL.Sem

namespace Attn.Keys2304
open Cert.KernelIdeal Cert.KernelIdeal.Gen

/-- The probabilities of the first head. -/
theorem prob0 (x : Vec Ideal S2304x128 .bf16) (y : Vec Ideal S256x128 .bf16) (z : Vec Ideal S1x256x1 .f32)
    (kk qq : ℕ → ℕ → ℝ) (ll : ℕ → ℝ)
    (hx : ∀ a b, x (ix2 a b) = ((kk a.val b.val : ℝ) : EReal))
    (hy : ∀ a b, y (ix2 a b) = ((qq a.val b.val : ℝ) : EReal))
    (hz : ∀ a b c, z (ix3 a b c) = ((ll b.val : ℝ) : EReal)) (i : Fin 256) (n : Fin 2304) :
    k0_pay34 x y z (ix2 i n) = ((pR qq kk ll i.val n.val : ℝ) : EReal) := by
  pointwise [k0_pay34, k0_pay32, k0_pay31]
  simp only [hx, hy, hz, scale_eq, ← EReal.coe_mul, coe_sum, ← EReal.coe_sub, Ideal.exp_coe, pR]

/-- The probabilities of the second head. -/
theorem prob1 (x : Vec Ideal S2304x128 .bf16) (y : Vec Ideal S256x128 .bf16) (z : Vec Ideal S1x256x1 .f32)
    (kk qq : ℕ → ℕ → ℝ) (ll : ℕ → ℝ)
    (hx : ∀ a b, x (ix2 a b) = ((kk a.val b.val : ℝ) : EReal))
    (hy : ∀ a b, y (ix2 a b) = ((qq a.val b.val : ℝ) : EReal))
    (hz : ∀ a b c, z (ix3 a b c) = ((ll b.val : ℝ) : EReal)) (i : Fin 256) (n : Fin 2304) :
    k0_pay45 x y z (ix2 i n) = ((pR qq kk ll i.val n.val : ℝ) : EReal) := by
  pointwise [k0_pay45, k0_pay41, k0_pay42]
  simp only [hx, hy, hz, scale_eq, ← EReal.coe_mul, coe_sum, ← EReal.coe_sub, Ideal.exp_coe, pR]

theorem own0f (x : Vec Ideal S256x128 .f32) (gg : ℕ → ℕ → ℝ)
    (hx : ∀ a b, x (ix2 a b) = ((gg a.val b.val : ℝ) : EReal)) (i : Fin 256) (n : Fin 128) :
    (k0_pay33 x (ix2 i n) : EReal) = ((ownLo gg i.val n.val : ℝ) : EReal) := by
  pointwise [k0_pay33]
  simp only [hx, lane_lt, select_if, ownLo]
  split_ifs <;> rfl

theorem own1f (x : Vec Ideal S256x128 .f32) (gg : ℕ → ℕ → ℝ)
    (hx : ∀ a b, x (ix2 a b) = ((gg a.val b.val : ℝ) : EReal)) (i : Fin 256) (n : Fin 128) :
    (k0_pay43 x (ix2 i n) : EReal) = ((ownHi gg i.val n.val : ℝ) : EReal) := by
  pointwise [k0_pay43]
  simp only [hx, lane_ge, select_if, ownHi]
  split_ifs <;> rfl

/-- The cotangents of the first head's lanes. -/
theorem own0 (x : Vec Ideal S256x128 .f32) (gg : ℕ → ℕ → ℝ)
    (hx : ∀ a b, x (ix2 a b) = ((gg a.val b.val : ℝ) : EReal)) (i : Fin 256) (n : Fin 128) :
    (k0_pay35 x (ix2 i n) : EReal) = ((ownLo gg i.val n.val : ℝ) : EReal) := by
  pointwise [k0_pay35]
  exact own0f x gg hx i n

/-- The cotangents of the second head's lanes. -/
theorem own1 (x : Vec Ideal S256x128 .f32) (gg : ℕ → ℕ → ℝ)
    (hx : ∀ a b, x (ix2 a b) = ((gg a.val b.val : ℝ) : EReal)) (i : Fin 256) (n : Fin 128) :
    (k0_pay46 x (ix2 i n) : EReal) = ((ownHi gg i.val n.val : ℝ) : EReal) := by
  pointwise [k0_pay46]
  exact own1f x gg hx i n

/-- The gradient of the first head's scores. -/
theorem ds0 (v12 v14 : Vec Ideal S2304x128 .bf16) (v16 : Vec Ideal S256x128 .bf16) (v21 v24 : Vec Ideal S256x128 .f32)
    (v32 : Vec Ideal S1x256x1 .f32) (vv kk qq gg oo : ℕ → ℕ → ℝ) (ll : ℕ → ℝ)
    (h12 : ∀ a b, v12 (ix2 a b) = ((vv a.val b.val : ℝ) : EReal))
    (h14 : ∀ a b, v14 (ix2 a b) = ((kk a.val b.val : ℝ) : EReal))
    (h16 : ∀ a b, v16 (ix2 a b) = ((qq a.val b.val : ℝ) : EReal))
    (h21 : ∀ a b, v21 (ix2 a b) = ((gg a.val b.val : ℝ) : EReal))
    (h24 : ∀ a b, v24 (ix2 a b) = ((oo a.val b.val : ℝ) : EReal))
    (h32 : ∀ a b c, v32 (ix3 a b c) = ((ll b.val : ℝ) : EReal)) (i : Fin 256) (n : Fin 2304) :
    (k0_pay36 v12 v14 v16 v21 v24 v32 (ix2 i n) : EReal)
      = ((dsR (pR qq kk ll) (ownLo gg) oo vv i.val n.val : ℝ) : EReal) := by
  have hp := prob0 v14 v16 v32 kk qq ll h14 h16 h32
  have ho := own0 v21 gg h21
  have hf := own0f v21 gg h21
  pointwise [k0_pay36, k0_pay30]
  simp only [hp, ho, hf, h12, h24, scale_eq, ← EReal.coe_mul, coe_sum, ← EReal.coe_sub, dsR]

/-- The first head's part of the gradient of the queries, before it is turned back. -/
theorem dq0 (v12 v14 : Vec Ideal S2304x128 .bf16) (v16 : Vec Ideal S256x128 .bf16) (v21 v24 : Vec Ideal S256x128 .f32)
    (v32 : Vec Ideal S1x256x1 .f32) (ds kk : ℕ → ℕ → ℝ)
    (h14 : ∀ a b, v14 (ix2 a b) = ((kk a.val b.val : ℝ) : EReal))
    (hd : ∀ i n, (k0_pay36 v12 v14 v16 v21 v24 v32 (ix2 i n) : EReal) = ((ds i.val n.val : ℝ) : EReal))
    (i : Fin 256) (l : Fin 128) :
    (k0_pay37 v12 v14 v16 v21 v24 v32 (ix2 i l) : EReal)
      = ((∑ n : Fin 2304, ds i.val n.val * kk n.val l.val : ℝ) : EReal) := by
  pointwise [k0_pay37, k0_pay31]
  simp only [hd, h14, ← EReal.coe_mul, coe_sum]

/-- The first head's addend to the gradient of the keys. -/
theorem dk0 (v12 v14 : Vec Ideal S2304x128 .bf16) (v16 : Vec Ideal S256x128 .bf16) (v21 v24 : Vec Ideal S256x128 .f32)
    (v32 : Vec Ideal S1x256x1 .f32) (ds qq : ℕ → ℕ → ℝ)
    (h16 : ∀ a b, v16 (ix2 a b) = ((qq a.val b.val : ℝ) : EReal))
    (hd : ∀ i n, (k0_pay36 v12 v14 v16 v21 v24 v32 (ix2 i n) : EReal) = ((ds i.val n.val : ℝ) : EReal))
    (r : Fin 128) (n : Fin 2304) :
    (k0_pay38 v12 v14 v16 v21 v24 v32 (ix2 r n) : EReal)
      = ((∑ i : Fin 256, qq i.val r.val * ds i.val n.val : ℝ) : EReal) := by
  pointwise [k0_pay38, k0_pay32]
  simp only [hd, h16, ← EReal.coe_mul, coe_sum]

theorem add0 (a b : FVec Ideal S128x2304 .f32) (r : Fin 128) (n : Fin 2304) :
    (k0_pay39 a b (ix2 r n) : EReal) = a (ix2 r n) + b (ix2 r n) := by
  pointwise [k0_pay39]

/-- The first head's addend to the gradient of the values. -/
theorem dv0 (v36 : FVec Ideal S256x2304 .f32) (v37 : FVec Ideal S256x128 .bf16) (v52 : Vec Ideal S128x2304 .f32)
    (p g : ℕ → ℕ → ℝ)
    (hp : ∀ a b, v36 (ix2 a b) = ((p a.val b.val : ℝ) : EReal))
    (hg : ∀ a b, v37 (ix2 a b) = ((g a.val b.val : ℝ) : EReal)) (l : Fin 128) (n : Fin 2304) :
    (k0_pay40 v36 v37 v52 (ix2 l n) : EReal)
      = v52 (ix2 l n) + ((∑ i : Fin 256, g i.val l.val * p i.val n.val : ℝ) : EReal) := by
  pointwise [k0_pay40]
  simp only [hp, hg, ← EReal.coe_mul, coe_sum]

/-- The second head's addend to the gradient of the values. -/
theorem dv1 (v36 : FVec Ideal S256x2304 .f32) (v37 : FVec Ideal S256x128 .bf16) (v52 : Vec Ideal S128x2304 .f32)
    (p g : ℕ → ℕ → ℝ)
    (hp : ∀ a b, v36 (ix2 a b) = ((p a.val b.val : ℝ) : EReal))
    (hg : ∀ a b, v37 (ix2 a b) = ((g a.val b.val : ℝ) : EReal)) (l : Fin 128) (n : Fin 2304) :
    (k0_pay49 v36 v37 v52 (ix2 l n) : EReal)
      = v52 (ix2 l n) + ((∑ i : Fin 256, g i.val l.val * p i.val n.val : ℝ) : EReal) := by
  pointwise [k0_pay49]
  simp only [hp, hg, ← EReal.coe_mul, coe_sum]

/-- A row's product of cotangent and output over the second head's lanes. -/
theorem delta1 (v66 v69 : Vec Ideal S256x128 .f32) (gg oo : ℕ → ℕ → ℝ)
    (hg : ∀ a b, v66 (ix2 a b) = ((gg a.val b.val : ℝ) : EReal))
    (ho : ∀ a b, v69 (ix2 a b) = ((oo a.val b.val : ℝ) : EReal)) (i : Fin 256) (b : Fin 1) :
    (k0_pay44 v66 v69 (ix2 i b) : EReal)
      = ((∑ l : Fin 128, ownHi gg i.val l.val * oo i.val l.val : ℝ) : EReal) := by
  have hf := own1f v66 gg hg
  pointwise [k0_pay44]
  simp only [hf, ho, ← EReal.coe_mul, coe_sum]

/-- The gradient of the second head's scores. -/
theorem ds1 (v13 : FVec Ideal S2304x128 .bf16) (v73 : FVec Ideal S256x1 .f32) (v81 : FVec Ideal S256x2304 .f32)
    (v82 : FVec Ideal S256x128 .bf16) (vv p gm oo : ℕ → ℕ → ℝ)
    (h13 : ∀ a b, v13 (ix2 a b) = ((vv a.val b.val : ℝ) : EReal))
    (h73 : ∀ a b, v73 (ix2 a b) = ((∑ l : Fin 128, gm a.val l.val * oo a.val l.val : ℝ) : EReal))
    (h81 : ∀ a b, v81 (ix2 a b) = ((p a.val b.val : ℝ) : EReal))
    (h82 : ∀ a b, v82 (ix2 a b) = ((gm a.val b.val : ℝ) : EReal)) (i : Fin 256) (n : Fin 2304) :
    (k0_pay47 v13 v73 v81 v82 (ix2 i n) : EReal) = ((dsR p gm oo vv i.val n.val : ℝ) : EReal) := by
  pointwise [k0_pay47]
  simp only [h13, h73, h81, h82, scale_eq, ← EReal.coe_mul, coe_sum, ← EReal.coe_sub, dsR]

/-- The second head's addend to the gradient of the keys. -/
theorem dk1 (v13 : FVec Ideal S2304x128 .bf16) (v62 : FVec Ideal S256x128 .bf16) (v73 : FVec Ideal S256x1 .f32)
    (v81 : FVec Ideal S256x2304 .f32) (v82 : FVec Ideal S256x128 .bf16) (v91 : Vec Ideal S128x2304 .f32)
    (ds qq : ℕ → ℕ → ℝ)
    (hq : ∀ a b, v62 (ix2 a b) = ((qq a.val b.val : ℝ) : EReal))
    (hd : ∀ i n, (k0_pay47 v13 v73 v81 v82 (ix2 i n) : EReal) = ((ds i.val n.val : ℝ) : EReal))
    (r : Fin 128) (n : Fin 2304) :
    (k0_pay48 v13 v62 v73 v81 v82 v91 (ix2 r n) : EReal)
      = v91 (ix2 r n) + ((∑ i : Fin 256, qq i.val r.val * ds i.val n.val : ℝ) : EReal) := by
  pointwise [k0_pay48]
  simp only [hd, hq, ← EReal.coe_mul, coe_sum]

/-- The two heads' gradients of the queries side by side, before they are turned back. -/
theorem dq1 (v13 : FVec Ideal S2304x128 .bf16) (v45 : FVec Ideal S256x128 .f32) (v60 : FVec Ideal S2304x128 .bf16)
    (v73 : FVec Ideal S256x1 .f32) (v81 : FVec Ideal S256x2304 .f32) (v82 : FVec Ideal S256x128 .bf16)
    (d0 ds kk : ℕ → ℕ → ℝ)
    (h0 : ∀ a b, v45 (ix2 a b) = ((d0 a.val b.val : ℝ) : EReal))
    (hk : ∀ a b, v60 (ix2 a b) = ((kk a.val b.val : ℝ) : EReal))
    (hd : ∀ i n, (k0_pay47 v13 v73 v81 v82 (ix2 i n) : EReal) = ((ds i.val n.val : ℝ) : EReal))
    (i : Fin 256) (l : Fin 256) :
    (k0_pay50 v13 v45 v60 v73 v81 v82 (ix2 i l) : EReal)
      = ((if l.val < 128 then d0 i.val l.val
          else ∑ n : Fin 2304, ds i.val n.val * kk n.val (l.val - 128) : ℝ) : EReal) := by
  pointwise [k0_pay50]
  simp only [h0, hk, hd, ← EReal.coe_mul, coe_sum]
  split_ifs <;> rfl

theorem turn0 (v13 : FVec Ideal S2304x128 .bf16) (v45 : FVec Ideal S256x128 .f32) (v60 : FVec Ideal S2304x128 .bf16)
    (v73 : FVec Ideal S256x1 .f32) (v81 : FVec Ideal S256x2304 .f32) (v82 : FVec Ideal S256x128 .bf16)
    (v105 v107 : Vec Ideal S256x128 .f32) (y c s : ℕ → ℕ → ℝ)
    (hy : ∀ a b, (k0_pay50 v13 v45 v60 v73 v81 v82 (ix2 a b) : EReal) = ((y a.val b.val : ℝ) : EReal))
    (hc : ∀ a b, v105 (ix2 a b) = ((c a.val b.val : ℝ) : EReal))
    (hs : ∀ a b, v107 (ix2 a b) = ((s a.val b.val : ℝ) : EReal)) (i l : Fin 256) :
    (k0_pay51 v13 v45 v60 v73 v81 v82 v105 v107 (ix2 i l) : EReal) = ((turnA y c s i.val l.val : ℝ) : EReal) := by
  pointwise [k0_pay51]
  simp only [hy, hc, hs, turnA]
  rw [mod128 l.isLt, mod128 (Nat.mod_lt (l.val + 256 - 8) (by norm_num))]
  split_ifs <;> simp only [← EReal.coe_mul, ← EReal.coe_add]

theorem turn1 (v13 : FVec Ideal S2304x128 .bf16) (v45 : FVec Ideal S256x128 .f32) (v60 : FVec Ideal S2304x128 .bf16)
    (v73 : FVec Ideal S256x1 .f32) (v81 : FVec Ideal S256x2304 .f32) (v82 : FVec Ideal S256x128 .bf16)
    (v109 : Vec Ideal S256x128 .f32) (y s : ℕ → ℕ → ℝ)
    (hy : ∀ a b, (k0_pay50 v13 v45 v60 v73 v81 v82 (ix2 a b) : EReal) = ((y a.val b.val : ℝ) : EReal))
    (hs : ∀ a b, v109 (ix2 a b) = ((s a.val b.val : ℝ) : EReal)) (i l : Fin 256) :
    (k0_pay52 v13 v45 v60 v73 v81 v82 v109 (ix2 i l) : EReal) = ((turnB y s i.val l.val : ℝ) : EReal) := by
  pointwise [k0_pay52]
  simp only [hy, hs, turnB]
  rw [mod128 (Nat.mod_lt (l.val + 256 - 248) (by norm_num))]
  split_ifs <;> simp only [← EReal.coe_mul, ← EReal.coe_add]

theorem turned (a b : FVec Ideal S256x256 .f32) (i l : Fin 256) :
    (k0_pay4 a b (ix2 i l) : EReal) = a (ix2 i l) + b (ix2 i l) := by
  pointwise [k0_pay4]

/-- A block of values under its cast to its own shape. -/
theorem same_v (x : Vec Ideal S2304x128 .bf16) (i : Fin 2304) (l : Fin 128) :
    (k0_pay30 x (ix2 i l) : EReal) = x (ix2 i l) := by
  pointwise [k0_pay30]
@[inherit_doc same_v] theorem same_k (x : Vec Ideal S2304x128 .bf16) (i : Fin 2304) (l : Fin 128) :
    (k0_pay41 x (ix2 i l) : EReal) = x (ix2 i l) := by
  pointwise [k0_pay41]
@[inherit_doc same_v] theorem same_q (x : Vec Ideal S256x128 .bf16) (i : Fin 256) (l : Fin 128) :
    (k0_pay42 x (ix2 i l) : EReal) = x (ix2 i l) := by
  pointwise [k0_pay42]

end Attn.Keys2304
-- ==== Proof.BodyData.lean ====
/-
  The real numbers one grid point of the call works on, and what it computes from them.
-/
module

public import proofs.«01_k».proof.Proof.Coe
public import proofs.«01_k».proof.Proof.Gen.KernelIdeal.Frame
public import Idealize.ShloMosaic.Lib.Pointwise

@[expose] public section

noncomputable section
open Idealize.ShloMosaic
namespace Attn
open Cert.KernelIdeal Cert.KernelIdeal.Gen

/-- The blocks of one grid point: queries, keys, values, outputs, cotangents, the two heads' log sums, the three tables. -/
structure Data where
  qq : ℕ → ℕ → ℝ
  kk : ℕ → ℕ → ℝ
  vv : ℕ → ℕ → ℝ
  oo : ℕ → ℕ → ℝ
  gg : ℕ → ℕ → ℝ
  ll : ℕ → ℕ → ℝ
  c : ℕ → ℕ → ℝ
  s : ℕ → ℕ → ℝ
  p : ℕ → ℕ → ℝ

namespace Data
variable (D : Data)
/-- The second head's queries and keys: the upper half of the lanes. -/
def q1 (i l : ℕ) : ℝ := D.qq i (128 + l)
@[inherit_doc q1] def k1 (n l : ℕ) : ℝ := D.kk n (128 + l)
/-- The two heads' probabilities. -/
def P0 : ℕ → ℕ → ℝ := pR D.qq D.kk (D.ll 0)
@[inherit_doc P0] def P1 : ℕ → ℕ → ℝ := pR D.q1 D.k1 (D.ll 1)
/-- The two heads' gradients of the scores. -/
def D0 : ℕ → ℕ → ℝ := dsR D.P0 (ownLo D.gg) D.oo D.vv
@[inherit_doc D0] def D1 : ℕ → ℕ → ℝ := dsR D.P1 (ownHi D.gg) D.oo D.vv
/-- The gradient of the queries over the first `nk` keys. -/
def y (nk : ℕ) (i l : ℕ) : ℝ :=
  if l < 128 then ∑ n : Fin nk, D.D0 i n.val * D.kk n.val l else ∑ n : Fin nk, D.D1 i n.val * D.k1 n.val (l - 128)
/-- The addends of the gradients of keys and values. -/
def dk (r n : ℕ) : ℝ :=
  if r < 128 then ∑ i : Fin 256, D.qq i.val r * D.D0 i.val n else ∑ i : Fin 256, D.q1 i.val (r - 128) * D.D1 i.val n
@[inherit_doc dk] def dv (l n : ℕ) : ℝ :=
  (∑ i : Fin 256, ownLo D.gg i.val l * D.P0 i.val n) + ∑ i : Fin 256, ownHi D.gg i.val l * D.P1 i.val n
end Data

/-- The nine blocks hold the real numbers of `D`. -/
structure Held (D : Data) (x0 : Vec Ideal S256x256 .bf16) (x1 : Vec Ideal S2304x256 .bf16) (x2 : Vec Ideal S2304x128 .bf16)
    (x3 x4 : Vec Ideal S256x128 .f32) (x5 : Vec Ideal S2x256x1 .f32) (x6 x7 x8 : Vec Ideal S256x128 .f32) : Prop where
  q : ∀ a b, x0 (ix2 a b) = ((D.qq a.val b.val : ℝ) : EReal)
  k : ∀ a b, x1 (ix2 a b) = ((D.kk a.val b.val : ℝ) : EReal)
  v : ∀ a b, x2 (ix2 a b) = ((D.vv a.val b.val : ℝ) : EReal)
  o : ∀ a b, x3 (ix2 a b) = ((D.oo a.val b.val : ℝ) : EReal)
  g : ∀ a b, x4 (ix2 a b) = ((D.gg a.val b.val : ℝ) : EReal)
  l : ∀ a b e, x5 (ix3 a b e) = ((D.ll a.val b.val : ℝ) : EReal)
  c : ∀ a b, x6 (ix2 a b) = ((D.c a.val b.val : ℝ) : EReal)
  s : ∀ a b, x7 (ix2 a b) = ((D.s a.val b.val : ℝ) : EReal)
  p : ∀ a b, x8 (ix2 a b) = ((D.p a.val b.val : ℝ) : EReal)
end Attn
-- ==== Proof.Body2304.lean ====
/-
  What the call's body computes at one grid point over 2304 keys: the block's gradient of the queries, and its addends
  to the two running sums.
-/
module

public import proofs.«01_k».proof.Proof.Keys2304
public import proofs.«01_k».proof.Proof.BodyData

@[expose] public section

set_option maxRecDepth 16384
noncomputable section
open Idealize.ShloMosaic Idealize.ShloMosaic.TcCoe Idealize.SL.Sem
namespace Attn.Body2304
open Cert.KernelIdeal Cert.KernelIdeal.Gen
variable (D : Data) (x0 : Vec Ideal S256x256 .bf16) (x1 : Vec Ideal S2304x256 .bf16) (x2 : Vec Ideal S2304x128 .bf16)
  (x3 x4 x6 x7 x8 : Vec Ideal S256x128 .f32) (x5 : Vec Ideal S2x256x1 .f32)

theorem q0 (h : Held D x0 x1 x2 x3 x4 x5 x6 x7 x8) (a : Fin 256) (b : Fin 128) : (View.ld x0 (Rect.unit ![0, 0] ![256, 128] inb_S256x256_S256x128_0_0)) (ix2 a b) = ((D.qq a.val b.val : ℝ) : EReal) := by
  pointwise; rw [h.q]
theorem q1 (h : Held D x0 x1 x2 x3 x4 x5 x6 x7 x8) (a : Fin 256) (b : Fin 128) : (View.ld x0 (Rect.unit ![0, 128] ![256, 128] inb_S256x256_S256x128_0_128)) (ix2 a b) = ((D.q1 a.val b.val : ℝ) : EReal) := by
  pointwise; rw [h.q]; rfl
theorem k0 (h : Held D x0 x1 x2 x3 x4 x5 x6 x7 x8) (a : Fin 2304) (b : Fin 128) : (View.ld x1 (Rect.unit ![0, 0] ![2304, 128] inb_S2304x256_S2304x128_0_0)) (ix2 a b) = ((D.kk a.val b.val : ℝ) : EReal) := by
  pointwise; rw [h.k]
theorem k1 (h : Held D x0 x1 x2 x3 x4 x5 x6 x7 x8) (a : Fin 2304) (b : Fin 128) : (View.ld x1 (Rect.unit ![0, 128] ![2304, 128] inb_S2304x256_S2304x128_0_128)) (ix2 a b) = ((D.k1 a.val b.val : ℝ) : EReal) := by
  pointwise; rw [h.k]; rfl
theorem l0 (h : Held D x0 x1 x2 x3 x4 x5 x6 x7 x8) (a : Fin 1) (b : Fin 256) (c : Fin 1) : (View.ld x5 (Rect.unit ![0, 0, 0] ![1, 256, 1] inb_S2x256x1_S1x256x1_0_0_0)) (ix3 a b c) = ((D.ll 0 b.val : ℝ) : EReal) := by
  pointwise; rw [h.l]; congr 2
theorem l1 (h : Held D x0 x1 x2 x3 x4 x5 x6 x7 x8) (a : Fin 1) (b : Fin 256) (c : Fin 1) : (View.ld x5 (Rect.unit ![1, 0, 0] ![1, 256, 1] inb_S2x256x1_S1x256x1_1_0_0)) (ix3 a b c) = ((D.ll 1 b.val : ℝ) : EReal) := by
  pointwise; rw [h.l]; congr 2
theorem v0 (h : Held D x0 x1 x2 x3 x4 x5 x6 x7 x8) (a : Fin 2304) (b : Fin 128) : x2 (ix2 a b) = ((D.vv a.val b.val : ℝ) : EReal) := h.v a b

/-- The probabilities of the pair's two heads. -/
theorem p0 (h : Held D x0 x1 x2 x3 x4 x5 x6 x7 x8) (i : Fin 256) (n : Fin 2304) : ((k0_pay34 (View.ld x1 (Rect.unit ![0, 0] ![2304, 128] inb_S2304x256_S2304x128_0_0)) (View.ld x0 (Rect.unit ![0, 0] ![256, 128] inb_S256x256_S256x128_0_0)) (View.ld x5 (Rect.unit ![0, 0, 0] ![1, 256, 1] inb_S2x256x1_S1x256x1_0_0_0))) (ix2 i n) : EReal) = ((D.P0 i.val n.val : ℝ) : EReal) :=
  Keys2304.prob0 _ _ _ D.kk D.qq (D.ll 0) (k0 D x0 x1 x2 x3 x4 x6 x7 x8 x5 h) (q0 D x0 x1 x2 x3 x4 x6 x7 x8 x5 h) (l0 D x0 x1 x2 x3 x4 x6 x7 x8 x5 h) i n
@[inherit_doc p0] theorem p1 (h : Held D x0 x1 x2 x3 x4 x5 x6 x7 x8) (i : Fin 256) (n : Fin 2304) : ((k0_pay45 (View.ld x1 (Rect.unit ![0, 128] ![2304, 128] inb_S2304x256_S2304x128_0_128)) (View.ld x0 (Rect.unit ![0, 128] ![256, 128] inb_S256x256_S256x128_0_128)) (View.ld x5 (Rect.unit ![1, 0, 0] ![1, 256, 1] inb_S2x256x1_S1x256x1_1_0_0))) (ix2 i n) : EReal) = ((D.P1 i.val n.val : ℝ) : EReal) :=
  Keys2304.prob1 _ _ _ D.k1 D.q1 (D.ll 1) (k1 D x0 x1 x2 x3 x4 x6 x7 x8 x5 h) (q1 D x0 x1 x2 x3 x4 x6 x7 x8 x5 h) (l1 D x0 x1 x2 x3 x4 x6 x7 x8 x5 h) i n

/-- The gradients of the scores of the pair's two heads. -/
theorem d0 (h : Held D x0 x1 x2 x3 x4 x5 x6 x7 x8) (i : Fin 256) (n : Fin 2304) : (k0_pay36 x2 (View.ld x1 (Rect.unit ![0, 0] ![2304, 128] inb_S2304x256_S2304x128_0_0)) (View.ld x0 (Rect.unit ![0, 0] ![256, 128] inb_S256x256_S256x128_0_0)) x4 x3 (View.ld x5 (Rect.unit ![0, 0, 0] ![1, 256, 1] inb_S2x256x1_S1x256x1_0_0_0)) (ix2 i n) : EReal) = ((D.D0 i.val n.val : ℝ) : EReal) :=
  Keys2304.ds0 _ _ _ _ _ _ D.vv D.kk D.qq D.gg D.oo (D.ll 0) (v0 D x0 x1 x2 x3 x4 x6 x7 x8 x5 h) (k0 D x0 x1 x2 x3 x4 x6 x7 x8 x5 h) (q0 D x0 x1 x2 x3 x4 x6 x7 x8 x5 h) h.g h.o (l0 D x0 x1 x2 x3 x4 x6 x7 x8 x5 h) i n
@[inherit_doc d0] theorem d1 (h : Held D x0 x1 x2 x3 x4 x5 x6 x7 x8) (i : Fin 256) (n : Fin 2304) :
    (k0_pay47 (k0_pay30 x2) (k0_pay44 x4 x3) (k0_pay45 (View.ld x1 (Rect.unit ![0, 128] ![2304, 128] inb_S2304x256_S2304x128_0_128)) (View.ld x0 (Rect.unit ![0, 128] ![256, 128] inb_S256x256_S256x128_0_128)) (View.ld x5 (Rect.unit ![1, 0, 0] ![1, 256, 1] inb_S2x256x1_S1x256x1_1_0_0))) (k0_pay46 x4) (ix2 i n) : EReal) = ((D.D1 i.val n.val : ℝ) : EReal) :=
  Keys2304.ds1 _ _ _ _ D.vv D.P1 (ownHi D.gg) D.oo (fun a b => (Keys2304.same_v _ a b).trans (v0 D x0 x1 x2 x3 x4 x6 x7 x8 x5 h a b))
    (Keys2304.delta1 _ _ D.gg D.oo h.g h.o) (p1 D x0 x1 x2 x3 x4 x6 x7 x8 x5 h) (Keys2304.own1 _ D.gg h.g) i n

/-- The gradient of the pair's queries, before it is turned back. -/
theorem y (h : Held D x0 x1 x2 x3 x4 x5 x6 x7 x8) (i l : Fin 256) :
    (k0_pay50 (k0_pay30 x2) (k0_pay37 x2 (View.ld x1 (Rect.unit ![0, 0] ![2304, 128] inb_S2304x256_S2304x128_0_0)) (View.ld x0 (Rect.unit ![0, 0] ![256, 128] inb_S256x256_S256x128_0_0)) x4 x3 (View.ld x5 (Rect.unit ![0, 0, 0] ![1, 256, 1] inb_S2x256x1_S1x256x1_0_0_0))) (k0_pay41 (View.ld x1 (Rect.unit ![0, 128] ![2304, 128] inb_S2304x256_S2304x128_0_128))) (k0_pay44 x4 x3) (k0_pay45 (View.ld x1 (Rect.unit ![0, 128] ![2304, 128] inb_S2304x256_S2304x128_0_128)) (View.ld x0 (Rect.unit ![0, 128] ![256, 128] inb_S256x256_S256x128_0_128)) (View.ld x5 (Rect.unit ![1, 0, 0] ![1, 256, 1] inb_S2x256x1_S1x256x1_1_0_0))) (k0_pay46 x4) (ix2 i l) : EReal) = ((D.y 2304 i.val l.val : ℝ) : EReal) := by
  refine (Keys2304.dq1 _ _ _ _ _ _ (fun i l => ∑ n : Fin 2304, D.D0 i n.val * D.kk n.val l) D.D1 D.k1
    (Keys2304.dq0 _ _ _ _ _ _ D.D0 D.kk (k0 D x0 x1 x2 x3 x4 x6 x7 x8 x5 h) (d0 D x0 x1 x2 x3 x4 x6 x7 x8 x5 h)) (fun a b => (Keys2304.same_k _ a b).trans (k1 D x0 x1 x2 x3 x4 x6 x7 x8 x5 h a b)) (d1 D x0 x1 x2 x3 x4 x6 x7 x8 x5 h) i l).trans ?_
  rfl

/-- The gradient of the pair's queries, turned back. -/
theorem turn (h : Held D x0 x1 x2 x3 x4 x5 x6 x7 x8) (i l : Fin 256) :
    (k0_pay4 (k0_pay51 (k0_pay30 x2) (k0_pay37 x2 (View.ld x1 (Rect.unit ![0, 0] ![2304, 128] inb_S2304x256_S2304x128_0_0)) (View.ld x0 (Rect.unit ![0, 0] ![256, 128] inb_S256x256_S256x128_0_0)) x4 x3 (View.ld x5 (Rect.unit ![0, 0, 0] ![1, 256, 1] inb_S2x256x1_S1x256x1_0_0_0))) (k0_pay41 (View.ld x1 (Rect.unit ![0, 128] ![2304, 128] inb_S2304x256_S2304x128_0_128))) (k0_pay44 x4 x3) (k0_pay45 (View.ld x1 (Rect.unit ![0, 128] ![2304, 128] inb_S2304x256_S2304x128_0_128)) (View.ld x0 (Rect.unit ![0, 128] ![256, 128] inb_S256x256_S256x128_0_128)) (View.ld x5 (Rect.unit ![1, 0, 0] ![1, 256, 1] inb_S2x256x1_S1x256x1_1_0_0))) (k0_pay46 x4) x6 x7) (k0_pay52 (k0_pay30 x2) (k0_pay37 x2 (View.ld x1 (Rect.unit ![0, 0] ![2304, 128] inb_S2304x256_S2304x128_0_0)) (View.ld x0 (Rect.unit ![0, 0] ![256, 128] inb_S256x256_S256x128_0_0)) x4 x3 (View.ld x5 (Rect.unit ![0, 0, 0] ![1, 256, 1] inb_S2x256x1_S1x256x1_0_0_0))) (k0_pay41 (View.ld x1 (Rect.unit ![0, 128] ![2304, 128] inb_S2304x256_S2304x128_0_128))) (k0_pay44 x4 x3) (k0_pay45 (View.ld x1 (Rect.unit ![0, 128] ![2304, 128] inb_S2304x256_S2304x128_0_128)) (View.ld x0 (Rect.unit ![0, 128] ![256, 128] inb_S256x256_S256x128_0_128)) (View.ld x5 (Rect.unit ![1, 0, 0] ![1, 256, 1] inb_S2x256x1_S1x256x1_1_0_0))) (k0_pay46 x4) x8) (ix2 i l) : EReal)
      = ((turnA (D.y 2304) D.c D.s i.val l.val + turnB (D.y 2304) D.p i.val l.val : ℝ) : EReal) := by
  rw [Keys2304.turned, Keys2304.turn0 _ _ _ _ _ _ _ _ (D.y 2304) D.c D.s (y D x0 x1 x2 x3 x4 x6 x7 x8 x5 h) h.c h.s,
    Keys2304.turn1 _ _ _ _ _ _ _ (D.y 2304) D.p (y D x0 x1 x2 x3 x4 x6 x7 x8 x5 h) h.p, ← EReal.coe_add]

/-- The first head's addend to the gradient of the keys. -/
theorem addk0 (h : Held D x0 x1 x2 x3 x4 x5 x6 x7 x8) (w : Vec Ideal S128x2304 .f32) (r : Fin 128) (n : Fin 2304) :
    (k0_pay39 w (k0_pay38 x2 (View.ld x1 (Rect.unit ![0, 0] ![2304, 128] inb_S2304x256_S2304x128_0_0)) (View.ld x0 (Rect.unit ![0, 0] ![256, 128] inb_S256x256_S256x128_0_0)) x4 x3 (View.ld x5 (Rect.unit ![0, 0, 0] ![1, 256, 1] inb_S2x256x1_S1x256x1_0_0_0))) (ix2 r n) : EReal)
      = w (ix2 r n) + ((∑ i : Fin 256, D.qq i.val r.val * D.D0 i.val n.val : ℝ) : EReal) := by
  rw [Keys2304.add0, Keys2304.dk0 _ _ _ _ _ _ D.D0 D.qq (q0 D x0 x1 x2 x3 x4 x6 x7 x8 x5 h) (d0 D x0 x1 x2 x3 x4 x6 x7 x8 x5 h)]

/-- The second head's addend to the gradient of the keys. -/
theorem addk1 (h : Held D x0 x1 x2 x3 x4 x5 x6 x7 x8) (w : Vec Ideal S128x2304 .f32) (r : Fin 128) (n : Fin 2304) :
    (k0_pay48 (k0_pay30 x2) (k0_pay42 (View.ld x0 (Rect.unit ![0, 128] ![256, 128] inb_S256x256_S256x128_0_128))) (k0_pay44 x4 x3) (k0_pay45 (View.ld x1 (Rect.unit ![0, 128] ![2304, 128] inb_S2304x256_S2304x128_0_128)) (View.ld x0 (Rect.unit ![0, 128] ![256, 128] inb_S256x256_S256x128_0_128)) (View.ld x5 (Rect.unit ![1, 0, 0] ![1, 256, 1] inb_S2x256x1_S1x256x1_1_0_0))) (k0_pay46 x4) w (ix2 r n) : EReal)
      = w (ix2 r n) + ((∑ i : Fin 256, D.q1 i.val r.val * D.D1 i.val n.val : ℝ) : EReal) := by
  rw [Keys2304.dk1 _ _ _ _ _ _ D.D1 D.q1 (fun a b => (Keys2304.same_q _ a b).trans (q1 D x0 x1 x2 x3 x4 x6 x7 x8 x5 h a b)) (d1 D x0 x1 x2 x3 x4 x6 x7 x8 x5 h)]

/-- Both heads' addends to the gradient of the values. -/
theorem addv0 (h : Held D x0 x1 x2 x3 x4 x5 x6 x7 x8) (w : Vec Ideal S128x2304 .f32) (l : Fin 128) (n : Fin 2304) :
    (k0_pay40 (k0_pay34 (View.ld x1 (Rect.unit ![0, 0] ![2304, 128] inb_S2304x256_S2304x128_0_0)) (View.ld x0 (Rect.unit ![0, 0] ![256, 128] inb_S256x256_S256x128_0_0)) (View.ld x5 (Rect.unit ![0, 0, 0] ![1, 256, 1] inb_S2x256x1_S1x256x1_0_0_0))) (k0_pay35 x4) w (ix2 l n) : EReal)
      = w (ix2 l n) + ((∑ i : Fin 256, ownLo D.gg i.val l.val * D.P0 i.val n.val : ℝ) : EReal) := by
  rw [Keys2304.dv0 _ _ _ D.P0 (ownLo D.gg) (p0 D x0 x1 x2 x3 x4 x6 x7 x8 x5 h) (Keys2304.own0 _ D.gg h.g)]
@[inherit_doc addv0] theorem addv1 (h : Held D x0 x1 x2 x3 x4 x5 x6 x7 x8) (w : Vec Ideal S128x2304 .f32) (l : Fin 128) (n : Fin 2304) :
    (k0_pay49 (k0_pay45 (View.ld x1 (Rect.unit ![0, 128] ![2304, 128] inb_S2304x256_S2304x128_0_128)) (View.ld x0 (Rect.unit ![0, 128] ![256, 128] inb_S256x256_S256x128_0_128)) (View.ld x5 (Rect.unit ![1, 0, 0] ![1, 256, 1] inb_S2x256x1_S1x256x1_1_0_0))) (k0_pay46 x4) w (ix2 l n) : EReal)
      = w (ix2 l n) + ((∑ i : Fin 256, ownHi D.gg i.val l.val * D.P1 i.val n.val : ℝ) : EReal) := by
  rw [Keys2304.dv1 _ _ _ D.P1 (ownHi D.gg) (p1 D x0 x1 x2 x3 x4 x6 x7 x8 x5 h) (Keys2304.own1 _ D.gg h.g)]
end Attn.Body2304
-- ==== Proof.Keys256.lean ====
/-
  What the kernel's body computes from one block of 256 queries and the 256 context keys, read at an entry in the real numbers: the
  probabilities, the gradient of the scores, and the products that make the gradients.
-/
module

public import proofs.«01_k».proof.Proof.Coe
public import proofs.«01_k».proof.Proof.Gen.KernelIdeal.Frame
public import Idealize.ShloMosaic.Lib.Pipeline.ValueKit
public import Idealize.ShloMosaic.Lib.Pointwise

@[expose] public section

set_option maxRecDepth 16384
noncomputable section
open Idealize.ShloMosaic Idealize.ShloMosaic.TcCoe Idealize.SL.Sem

namespace Attn.Keys256
open Cert.KernelIdeal Cert.KernelIdeal.Gen

/-- The probabilities of the first head. -/
theorem prob0 (x : Vec Ideal S256x128 .bf16) (y : Vec Ideal S256x128 .bf16) (z : Vec Ideal S1x256x1 .f32)
    (kk qq : ℕ → ℕ → ℝ) (ll : ℕ → ℝ)
    (hx : ∀ a b, x (ix2 a b) = ((kk a.val b.val : ℝ) : EReal))
    (hy : ∀ a b, y (ix2 a b) = ((qq a.val b.val : ℝ) : EReal))
    (hz : ∀ a b c, z (ix3 a b c) = ((ll b.val : ℝ) : EReal)) (i : Fin 256) (n : Fin 256) :
    k0_pay11 x y z (ix2 i n) = ((pR qq kk ll i.val n.val : ℝ) : EReal) := by
  pointwise [k0_pay11, k0_pay9, k0_pay8]
  simp only [hx, hy, hz, scale_eq, ← EReal.coe_mul, coe_sum, ← EReal.coe_sub, Ideal.exp_coe, pR]

/-- The probabilities of the second head. -/
theorem prob1 (x : Vec Ideal S256x128 .bf16) (y : Vec Ideal S256x128 .bf16) (z : Vec Ideal S1x256x1 .f32)
    (kk qq : ℕ → ℕ → ℝ) (ll : ℕ → ℝ)
    (hx : ∀ a b, x (ix2 a b) = ((kk a.val b.val : ℝ) : EReal))
    (hy : ∀ a b, y (ix2 a b) = ((qq a.val b.val : ℝ) : EReal))
    (hz : ∀ a b c, z (ix3 a b c) = ((ll b.val : ℝ) : EReal)) (i : Fin 256) (n : Fin 256) :
    k0_pay22 x y z (ix2 i n) = ((pR qq kk ll i.val n.val : ℝ) : EReal) := by
  pointwise [k0_pay22, k0_pay18, k0_pay19]
  simp only [hx, hy, hz, scale_eq, ← EReal.coe_mul, coe_sum, ← EReal.coe_sub, Ideal.exp_coe, pR]

theorem own0f (x : Vec Ideal S256x128 .f32) (gg : ℕ → ℕ → ℝ)
    (hx : ∀ a b, x (ix2 a b) = ((gg a.val b.val : ℝ) : EReal)) (i : Fin 256) (n : Fin 128) :
    (k0_pay10 x (ix2 i n) : EReal) = ((ownLo gg i.val n.val : ℝ) : EReal) := by
  pointwise [k0_pay10]
  simp only [hx, lane_lt, select_if, ownLo]
  split_ifs <;> rfl

theorem own1f (x : Vec Ideal S256x128 .f32) (gg : ℕ → ℕ → ℝ)
    (hx : ∀ a b, x (ix2 a b) = ((gg a.val b.val : ℝ) : EReal)) (i : Fin 256) (n : Fin 128) :
    (k0_pay20 x (ix2 i n) : EReal) = ((ownHi gg i.val n.val : ℝ) : EReal) := by
  pointwise [k0_pay20]
  simp only [hx, lane_ge, select_if, ownHi]
  split_ifs <;> rfl

/-- The cotangents of the first head's lanes. -/
theorem own0 (x : Vec Ideal S256x128 .f32) (gg : ℕ → ℕ → ℝ)
    (hx : ∀ a b, x (ix2 a b) = ((gg a.val b.val : ℝ) : EReal)) (i : Fin 256) (n : Fin 128) :
    (k0_pay12 x (ix2 i n) : EReal) = ((ownLo gg i.val n.val : ℝ) : EReal) := by
  pointwise [k0_pay12]
  exact own0f x gg hx i n

/-- The cotangents of the second head's lanes. -/
theorem own1 (x : Vec Ideal S256x128 .f32) (gg : ℕ → ℕ → ℝ)
    (hx : ∀ a b, x (ix2 a b) = ((gg a.val b.val : ℝ) : EReal)) (i : Fin 256) (n : Fin 128) :
    (k0_pay23 x (ix2 i n) : EReal) = ((ownHi gg i.val n.val : ℝ) : EReal) := by
  pointwise [k0_pay23]
  exact own1f x gg hx i n

/-- The gradient of the first head's scores. -/
theorem ds0 (v12 v14 : Vec Ideal S256x128 .bf16) (v16 : Vec Ideal S256x128 .bf16) (v21 v24 : Vec Ideal S256x128 .f32)
    (v32 : Vec Ideal S1x256x1 .f32) (vv kk qq gg oo : ℕ → ℕ → ℝ) (ll : ℕ → ℝ)
    (h12 : ∀ a b, v12 (ix2 a b) = ((vv a.val b.val : ℝ) : EReal))
    (h14 : ∀ a b, v14 (ix2 a b) = ((kk a.val b.val : ℝ) : EReal))
    (h16 : ∀ a b, v16 (ix2 a b) = ((qq a.val b.val : ℝ) : EReal))
    (h21 : ∀ a b, v21 (ix2 a b) = ((gg a.val b.val : ℝ) : EReal))
    (h24 : ∀ a b, v24 (ix2 a b) = ((oo a.val b.val : ℝ) : EReal))
    (h32 : ∀ a b c, v32 (ix3 a b c) = ((ll b.val : ℝ) : EReal)) (i : Fin 256) (n : Fin 256) :
    (k0_pay13 v12 v14 v16 v21 v24 v32 (ix2 i n) : EReal)
      = ((dsR (pR qq kk ll) (ownLo gg) oo vv i.val n.val : ℝ) : EReal) := by
  have hp := prob0 v14 v16 v32 kk qq ll h14 h16 h32
  have ho := own0 v21 gg h21
  have hf := own0f v21 gg h21
  pointwise [k0_pay13, k0_pay7]
  simp only [hp, ho, hf, h12, h24, scale_eq, ← EReal.coe_mul, coe_sum, ← EReal.coe_sub, dsR]

/-- The first head's part of the gradient of the queries, before it is turned back. -/
theorem dq0 (v12 v14 : Vec Ideal S256x128 .bf16) (v16 : Vec Ideal S256x128 .bf16) (v21 v24 : Vec Ideal S256x128 .f32)
    (v32 : Vec Ideal S1x256x1 .f32) (ds kk : ℕ → ℕ → ℝ)
    (h14 : ∀ a b, v14 (ix2 a b) = ((kk a.val b.val : ℝ) : EReal))
    (hd : ∀ i n, (k0_pay13 v12 v14 v16 v21 v24 v32 (ix2 i n) : EReal) = ((ds i.val n.val : ℝ) : EReal))
    (i : Fin 256) (l : Fin 128) :
    (k0_pay14 v12 v14 v16 v21 v24 v32 (ix2 i l) : EReal)
      = ((∑ n : Fin 256, ds i.val n.val * kk n.val l.val : ℝ) : EReal) := by
  pointwise [k0_pay14, k0_pay8]
  simp only [hd, h14, ← EReal.coe_mul, coe_sum]

/-- The first head's addend to the gradient of the keys. -/
theorem dk0 (v12 v14 : Vec Ideal S256x128 .bf16) (v16 : Vec Ideal S256x128 .bf16) (v21 v24 : Vec Ideal S256x128 .f32)
    (v32 : Vec Ideal S1x256x1 .f32) (ds qq : ℕ → ℕ → ℝ)
    (h16 : ∀ a b, v16 (ix2 a b) = ((qq a.val b.val : ℝ) : EReal))
    (hd : ∀ i n, (k0_pay13 v12 v14 v16 v21 v24 v32 (ix2 i n) : EReal) = ((ds i.val n.val : ℝ) : EReal))
    (r : Fin 128) (n : Fin 256) :
    (k0_pay15 v12 v14 v16 v21 v24 v32 (ix2 r n) : EReal)
      = ((∑ i : Fin 256, qq i.val r.val * ds i.val n.val : ℝ) : EReal) := by
  pointwise [k0_pay15, k0_pay9]
  simp only [hd, h16, ← EReal.coe_mul, coe_sum]

theorem add0 (a b : FVec Ideal S128x256 .f32) (r : Fin 128) (n : Fin 256) :
    (k0_pay16 a b (ix2 r n) : EReal) = a (ix2 r n) + b (ix2 r n) := by
  pointwise [k0_pay16]

/-- The first head's addend to the gradient of the values. -/
theorem dv0 (v36 : FVec Ideal S256x256 .f32) (v37 : FVec Ideal S256x128 .bf16) (v52 : Vec Ideal S128x256 .f32)
    (p g : ℕ → ℕ → ℝ)
    (hp : ∀ a b, v36 (ix2 a b) = ((p a.val b.val : ℝ) : EReal))
    (hg : ∀ a b, v37 (ix2 a b) = ((g a.val b.val : ℝ) : EReal)) (l : Fin 128) (n : Fin 256) :
    (k0_pay17 v36 v37 v52 (ix2 l n) : EReal)
      = v52 (ix2 l n) + ((∑ i : Fin 256, g i.val l.val * p i.val n.val : ℝ) : EReal) := by
  pointwise [k0_pay17]
  simp only [hp, hg, ← EReal.coe_mul, coe_sum]

/-- The second head's addend to the gradient of the values. -/
theorem dv1 (v36 : FVec Ideal S256x256 .f32) (v37 : FVec Ideal S256x128 .bf16) (v52 : Vec Ideal S128x256 .f32)
    (p g : ℕ → ℕ → ℝ)
    (hp : ∀ a b, v36 (ix2 a b) = ((p a.val b.val : ℝ) : EReal))
    (hg : ∀ a b, v37 (ix2 a b) = ((g a.val b.val : ℝ) : EReal)) (l : Fin 128) (n : Fin 256) :
    (k0_pay26 v36 v37 v52 (ix2 l n) : EReal)
      = v52 (ix2 l n) + ((∑ i : Fin 256, g i.val l.val * p i.val n.val : ℝ) : EReal) := by
  pointwise [k0_pay26]
  simp only [hp, hg, ← EReal.coe_mul, coe_sum]

/-- A row's product of cotangent and output over the second head's lanes. -/
theorem delta1 (v66 v69 : Vec Ideal S256x128 .f32) (gg oo : ℕ → ℕ → ℝ)
    (hg : ∀ a b, v66 (ix2 a b) = ((gg a.val b.val : ℝ) : EReal))
    (ho : ∀ a b, v69 (ix2 a b) = ((oo a.val b.val : ℝ) : EReal)) (i : Fin 256) (b : Fin 1) :
    (k0_pay21 v66 v69 (ix2 i b) : EReal)
      = ((∑ l : Fin 128, ownHi gg i.val l.val * oo i.val l.val : ℝ) : EReal) := by
  have hf := own1f v66 gg hg
  pointwise [k0_pay21]
  simp only [hf, ho, ← EReal.coe_mul, coe_sum]

/-- The gradient of the second head's scores. -/
theorem ds1 (v13 : FVec Ideal S256x128 .bf16) (v73 : FVec Ideal S256x1 .f32) (v81 : FVec Ideal S256x256 .f32)
    (v82 : FVec Ideal S256x128 .bf16) (vv p gm oo : ℕ → ℕ → ℝ)
    (h13 : ∀ a b, v13 (ix2 a b) = ((vv a.val b.val : ℝ) : EReal))
    (h73 : ∀ a b, v73 (ix2 a b) = ((∑ l : Fin 128, gm a.val l.val * oo a.val l.val : ℝ) : EReal))
    (h81 : ∀ a b, v81 (ix2 a b) = ((p a.val b.val : ℝ) : EReal))
    (h82 : ∀ a b, v82 (ix2 a b) = ((gm a.val b.val : ℝ) : EReal)) (i : Fin 256) (n : Fin 256) :
    (k0_pay24 v13 v73 v81 v82 (ix2 i n) : EReal) = ((dsR p gm oo vv i.val n.val : ℝ) : EReal) := by
  pointwise [k0_pay24]
  simp only [h13, h73, h81, h82, scale_eq, ← EReal.coe_mul, coe_sum, ← EReal.coe_sub, dsR]

/-- The second head's addend to the gradient of the keys. -/
theorem dk1 (v13 : FVec Ideal S256x128 .bf16) (v62 : FVec Ideal S256x128 .bf16) (v73 : FVec Ideal S256x1 .f32)
    (v81 : FVec Ideal S256x256 .f32) (v82 : FVec Ideal S256x128 .bf16) (v91 : Vec Ideal S128x256 .f32)
    (ds qq : ℕ → ℕ → ℝ)
    (hq : ∀ a b, v62 (ix2 a b) = ((qq a.val b.val : ℝ) : EReal))
    (hd : ∀ i n, (k0_pay24 v13 v73 v81 v82 (ix2 i n) : EReal) = ((ds i.val n.val : ℝ) : EReal))
    (r : Fin 128) (n : Fin 256) :
    (k0_pay25 v13 v62 v73 v81 v82 v91 (ix2 r n) : EReal)
      = v91 (ix2 r n) + ((∑ i : Fin 256, qq i.val r.val * ds i.val n.val : ℝ) : EReal) := by
  pointwise [k0_pay25]
  simp only [hd, hq, ← EReal.coe_mul, coe_sum]

/-- The two heads' gradients of the queries side by side, before they are turned back. -/
theorem dq1 (v13 : FVec Ideal S256x128 .bf16) (v45 : FVec Ideal S256x128 .f32) (v60 : FVec Ideal S256x128 .bf16)
    (v73 : FVec Ideal S256x1 .f32) (v81 : FVec Ideal S256x256 .f32) (v82 : FVec Ideal S256x128 .bf16)
    (d0 ds kk : ℕ → ℕ → ℝ)
    (h0 : ∀ a b, v45 (ix2 a b) = ((d0 a.val b.val : ℝ) : EReal))
    (hk : ∀ a b, v60 (ix2 a b) = ((kk a.val b.val : ℝ) : EReal))
    (hd : ∀ i n, (k0_pay24 v13 v73 v81 v82 (ix2 i n) : EReal) = ((ds i.val n.val : ℝ) : EReal))
    (i : Fin 256) (l : Fin 256) :
    (k0_pay27 v13 v45 v60 v73 v81 v82 (ix2 i l) : EReal)
      = ((if l.val < 128 then d0 i.val l.val
          else ∑ n : Fin 256, ds i.val n.val * kk n.val (l.val - 128) : ℝ) : EReal) := by
  pointwise [k0_pay27]
  simp only [h0, hk, hd, ← EReal.coe_mul, coe_sum]
  split_ifs <;> rfl

theorem turn0 (v13 : FVec Ideal S256x128 .bf16) (v45 : FVec Ideal S256x128 .f32) (v60 : FVec Ideal S256x128 .bf16)
    (v73 : FVec Ideal S256x1 .f32) (v81 : FVec Ideal S256x256 .f32) (v82 : FVec Ideal S256x128 .bf16)
    (v105 v107 : Vec Ideal S256x128 .f32) (y c s : ℕ → ℕ → ℝ)
    (hy : ∀ a b, (k0_pay27 v13 v45 v60 v73 v81 v82 (ix2 a b) : EReal) = ((y a.val b.val : ℝ) : EReal))
    (hc : ∀ a b, v105 (ix2 a b) = ((c a.val b.val : ℝ) : EReal))
    (hs : ∀ a b, v107 (ix2 a b) = ((s a.val b.val : ℝ) : EReal)) (i l : Fin 256) :
    (k0_pay28 v13 v45 v60 v73 v81 v82 v105 v107 (ix2 i l) : EReal) = ((turnA y c s i.val l.val : ℝ) : EReal) := by
  pointwise [k0_pay28]
  simp only [hy, hc, hs, turnA]
  rw [mod128 l.isLt, mod128 (Nat.mod_lt (l.val + 256 - 8) (by norm_num))]
  split_ifs <;> simp only [← EReal.coe_mul, ← EReal.coe_add]

theorem turn1 (v13 : FVec Ideal S256x128 .bf16) (v45 : FVec Ideal S256x128 .f32) (v60 : FVec Ideal S256x128 .bf16)
    (v73 : FVec Ideal S256x1 .f32) (v81 : FVec Ideal S256x256 .f32) (v82 : FVec Ideal S256x128 .bf16)
    (v109 : Vec Ideal S256x128 .f32) (y s : ℕ → ℕ → ℝ)
    (hy : ∀ a b, (k0_pay27 v13 v45 v60 v73 v81 v82 (ix2 a b) : EReal) = ((y a.val b.val : ℝ) : EReal))
    (hs : ∀ a b, v109 (ix2 a b) = ((s a.val b.val : ℝ) : EReal)) (i l : Fin 256) :
    (k0_pay29 v13 v45 v60 v73 v81 v82 v109 (ix2 i l) : EReal) = ((turnB y s i.val l.val : ℝ) : EReal) := by
  pointwise [k0_pay29]
  simp only [hy, hs, turnB]
  rw [mod128 (Nat.mod_lt (l.val + 256 - 248) (by norm_num))]
  split_ifs <;> simp only [← EReal.coe_mul, ← EReal.coe_add]

theorem turned (a b : FVec Ideal S256x256 .f32) (i l : Fin 256) :
    (k0_pay3 a b (ix2 i l) : EReal) = a (ix2 i l) + b (ix2 i l) := by
  pointwise [k0_pay3]

/-- A block of values under its cast to its own shape. -/
theorem same_v (x : Vec Ideal S256x128 .bf16) (i : Fin 256) (l : Fin 128) :
    (k0_pay7 x (ix2 i l) : EReal) = x (ix2 i l) := by
  pointwise [k0_pay7]
@[inherit_doc same_v] theorem same_k (x : Vec Ideal S256x128 .bf16) (i : Fin 256) (l : Fin 128) :
    (k0_pay18 x (ix2 i l) : EReal) = x (ix2 i l) := by
  pointwise [k0_pay18]
@[inherit_doc same_v] theorem same_q (x : Vec Ideal S256x128 .bf16) (i : Fin 256) (l : Fin 128) :
    (k0_pay19 x (ix2 i l) : EReal) = x (ix2 i l) := by
  pointwise [k0_pay19]

end Attn.Keys256
-- ==== Proof.Body256.lean ====
/-
  What the call's body computes at one grid point over 256 keys: the block's gradient of the queries, and its addends
  to the two running sums.
-/
module

public import proofs.«01_k».proof.Proof.Keys256
public import proofs.«01_k».proof.Proof.BodyData

@[expose] public section

set_option maxRecDepth 16384
noncomputable section
open Idealize.ShloMosaic Idealize.ShloMosaic.TcCoe Idealize.SL.Sem
namespace Attn.Body256
open Cert.KernelIdeal Cert.KernelIdeal.Gen
variable (D : Data) (x0 : Vec Ideal S256x256 .bf16) (x1 : Vec Ideal S2304x256 .bf16) (x2 : Vec Ideal S2304x128 .bf16)
  (x3 x4 x6 x7 x8 : Vec Ideal S256x128 .f32) (x5 : Vec Ideal S2x256x1 .f32)

theorem q0 (h : Held D x0 x1 x2 x3 x4 x5 x6 x7 x8) (a : Fin 256) (b : Fin 128) : (View.ld x0 (Rect.unit ![0, 0] ![256, 128] inb_S256x256_S256x128_0_0)) (ix2 a b) = ((D.qq a.val b.val : ℝ) : EReal) := by
  pointwise; rw [h.q]
theorem q1 (h : Held D x0 x1 x2 x3 x4 x5 x6 x7 x8) (a : Fin 256) (b : Fin 128) : (View.ld x0 (Rect.unit ![0, 128] ![256, 128] inb_S256x256_S256x128_0_128)) (ix2 a b) = ((D.q1 a.val b.val : ℝ) : EReal) := by
  pointwise; rw [h.q]; rfl
theorem k0 (h : Held D x0 x1 x2 x3 x4 x5 x6 x7 x8) (a : Fin 256) (b : Fin 128) : (View.ld x1 (Rect.unit ![0, 0] ![256, 128] inb_S2304x256_S256x128_0_0)) (ix2 a b) = ((D.kk a.val b.val : ℝ) : EReal) := by
  pointwise; rw [h.k]
theorem k1 (h : Held D x0 x1 x2 x3 x4 x5 x6 x7 x8) (a : Fin 256) (b : Fin 128) : (View.ld x1 (Rect.unit ![0, 128] ![256, 128] inb_S2304x256_S256x128_0_128)) (ix2 a b) = ((D.k1 a.val b.val : ℝ) : EReal) := by
  pointwise; rw [h.k]; rfl
theorem l0 (h : Held D x0 x1 x2 x3 x4 x5 x6 x7 x8) (a : Fin 1) (b : Fin 256) (c : Fin 1) : (View.ld x5 (Rect.unit ![0, 0, 0] ![1, 256, 1] inb_S2x256x1_S1x256x1_0_0_0)) (ix3 a b c) = ((D.ll 0 b.val : ℝ) : EReal) := by
  pointwise; rw [h.l]; congr 2
theorem l1 (h : Held D x0 x1 x2 x3 x4 x5 x6 x7 x8) (a : Fin 1) (b : Fin 256) (c : Fin 1) : (View.ld x5 (Rect.unit ![1, 0, 0] ![1, 256, 1] inb_S2x256x1_S1x256x1_1_0_0)) (ix3 a b c) = ((D.ll 1 b.val : ℝ) : EReal) := by
  pointwise; rw [h.l]; congr 2
theorem v0 (h : Held D x0 x1 x2 x3 x4 x5 x6 x7 x8) (a : Fin 256) (b : Fin 128) : (View.ld x2 (Rect.unit ![0, 0] ![256, 128] inb_S2304x128_S256x128_0_0)) (ix2 a b) = ((D.vv a.val b.val : ℝ) : EReal) := by
  pointwise; rw [h.v]

/-- The probabilities of the pair's two heads. -/
theorem p0 (h : Held D x0 x1 x2 x3 x4 x5 x6 x7 x8) (i : Fin 256) (n : Fin 256) : ((k0_pay11 (View.ld x1 (Rect.unit ![0, 0] ![256, 128] inb_S2304x256_S256x128_0_0)) (View.ld x0 (Rect.unit ![0, 0] ![256, 128] inb_S256x256_S256x128_0_0)) (View.ld x5 (Rect.unit ![0, 0, 0] ![1, 256, 1] inb_S2x256x1_S1x256x1_0_0_0))) (ix2 i n) : EReal) = ((D.P0 i.val n.val : ℝ) : EReal) :=
  Keys256.prob0 _ _ _ D.kk D.qq (D.ll 0) (k0 D x0 x1 x2 x3 x4 x6 x7 x8 x5 h) (q0 D x0 x1 x2 x3 x4 x6 x7 x8 x5 h) (l0 D x0 x1 x2 x3 x4 x6 x7 x8 x5 h) i n
@[inherit_doc p0] theorem p1 (h : Held D x0 x1 x2 x3 x4 x5 x6 x7 x8) (i : Fin 256) (n : Fin 256) : ((k0_pay22 (View.ld x1 (Rect.unit ![0, 128] ![256, 128] inb_S2304x256_S256x128_0_128)) (View.ld x0 (Rect.unit ![0, 128] ![256, 128] inb_S256x256_S256x128_0_128)) (View.ld x5 (Rect.unit ![1, 0, 0] ![1, 256, 1] inb_S2x256x1_S1x256x1_1_0_0))) (ix2 i n) : EReal) = ((D.P1 i.val n.val : ℝ) : EReal) :=
  Keys256.prob1 _ _ _ D.k1 D.q1 (D.ll 1) (k1 D x0 x1 x2 x3 x4 x6 x7 x8 x5 h) (q1 D x0 x1 x2 x3 x4 x6 x7 x8 x5 h) (l1 D x0 x1 x2 x3 x4 x6 x7 x8 x5 h) i n

/-- The gradients of the scores of the pair's two heads. -/
theorem d0 (h : Held D x0 x1 x2 x3 x4 x5 x6 x7 x8) (i : Fin 256) (n : Fin 256) : (k0_pay13 (View.ld x2 (Rect.unit ![0, 0] ![256, 128] inb_S2304x128_S256x128_0_0)) (View.ld x1 (Rect.unit ![0, 0] ![256, 128] inb_S2304x256_S256x128_0_0)) (View.ld x0 (Rect.unit ![0, 0] ![256, 128] inb_S256x256_S256x128_0_0)) x4 x3 (View.ld x5 (Rect.unit ![0, 0, 0] ![1, 256, 1] inb_S2x256x1_S1x256x1_0_0_0)) (ix2 i n) : EReal) = ((D.D0 i.val n.val : ℝ) : EReal) :=
  Keys256.ds0 _ _ _ _ _ _ D.vv D.kk D.qq D.gg D.oo (D.ll 0) (v0 D x0 x1 x2 x3 x4 x6 x7 x8 x5 h) (k0 D x0 x1 x2 x3 x4 x6 x7 x8 x5 h) (q0 D x0 x1 x2 x3 x4 x6 x7 x8 x5 h) h.g h.o (l0 D x0 x1 x2 x3 x4 x6 x7 x8 x5 h) i n
@[inherit_doc d0] theorem d1 (h : Held D x0 x1 x2 x3 x4 x5 x6 x7 x8) (i : Fin 256) (n : Fin 256) :
    (k0_pay24 (k0_pay7 (View.ld x2 (Rect.unit ![0, 0] ![256, 128] inb_S2304x128_S256x128_0_0))) (k0_pay21 x4 x3) (k0_pay22 (View.ld x1 (Rect.unit ![0, 128] ![256, 128] inb_S2304x256_S256x128_0_128)) (View.ld x0 (Rect.unit ![0, 128] ![256, 128] inb_S256x256_S256x128_0_128)) (View.ld x5 (Rect.unit ![1, 0, 0] ![1, 256, 1] inb_S2x256x1_S1x256x1_1_0_0))) (k0_pay23 x4) (ix2 i n) : EReal) = ((D.D1 i.val n.val : ℝ) : EReal) :=
  Keys256.ds1 _ _ _ _ D.vv D.P1 (ownHi D.gg) D.oo (fun a b => (Keys256.same_v _ a b).trans (v0 D x0 x1 x2 x3 x4 x6 x7 x8 x5 h a b))
    (Keys256.delta1 _ _ D.gg D.oo h.g h.o) (p1 D x0 x1 x2 x3 x4 x6 x7 x8 x5 h) (Keys256.own1 _ D.gg h.g) i n

/-- The gradient of the pair's queries, before it is turned back. -/
theorem y (h : Held D x0 x1 x2 x3 x4 x5 x6 x7 x8) (i l : Fin 256) :
    (k0_pay27 (k0_pay7 (View.ld x2 (Rect.unit ![0, 0] ![256, 128] inb_S2304x128_S256x128_0_0))) (k0_pay14 (View.ld x2 (Rect.unit ![0, 0] ![256, 128] inb_S2304x128_S256x128_0_0)) (View.ld x1 (Rect.unit ![0, 0] ![256, 128] inb_S2304x256_S256x128_0_0)) (View.ld x0 (Rect.unit ![0, 0] ![256, 128] inb_S256x256_S256x128_0_0)) x4 x3 (View.ld x5 (Rect.unit ![0, 0, 0] ![1, 256, 1] inb_S2x256x1_S1x256x1_0_0_0))) (k0_pay18 (View.ld x1 (Rect.unit ![0, 128] ![256, 128] inb_S2304x256_S256x128_0_128))) (k0_pay21 x4 x3) (k0_pay22 (View.ld x1 (Rect.unit ![0, 128] ![256, 128] inb_S2304x256_S256x128_0_128)) (View.ld x0 (Rect.unit ![0, 128] ![256, 128] inb_S256x256_S256x128_0_128)) (View.ld x5 (Rect.unit ![1, 0, 0] ![1, 256, 1] inb_S2x256x1_S1x256x1_1_0_0))) (k0_pay23 x4) (ix2 i l) : EReal) = ((D.y 256 i.val l.val : ℝ) : EReal) := by
  refine (Keys256.dq1 _ _ _ _ _ _ (fun i l => ∑ n : Fin 256, D.D0 i n.val * D.kk n.val l) D.D1 D.k1
    (Keys256.dq0 _ _ _ _ _ _ D.D0 D.kk (k0 D x0 x1 x2 x3 x4 x6 x7 x8 x5 h) (d0 D x0 x1 x2 x3 x4 x6 x7 x8 x5 h)) (fun a b => (Keys256.same_k _ a b).trans (k1 D x0 x1 x2 x3 x4 x6 x7 x8 x5 h a b)) (d1 D x0 x1 x2 x3 x4 x6 x7 x8 x5 h) i l).trans ?_
  rfl

/-- The gradient of the pair's queries, turned back. -/
theorem turn (h : Held D x0 x1 x2 x3 x4 x5 x6 x7 x8) (i l : Fin 256) :
    (k0_pay3 (k0_pay28 (k0_pay7 (View.ld x2 (Rect.unit ![0, 0] ![256, 128] inb_S2304x128_S256x128_0_0))) (k0_pay14 (View.ld x2 (Rect.unit ![0, 0] ![256, 128] inb_S2304x128_S256x128_0_0)) (View.ld x1 (Rect.unit ![0, 0] ![256, 128] inb_S2304x256_S256x128_0_0)) (View.ld x0 (Rect.unit ![0, 0] ![256, 128] inb_S256x256_S256x128_0_0)) x4 x3 (View.ld x5 (Rect.unit ![0, 0, 0] ![1, 256, 1] inb_S2x256x1_S1x256x1_0_0_0))) (k0_pay18 (View.ld x1 (Rect.unit ![0, 128] ![256, 128] inb_S2304x256_S256x128_0_128))) (k0_pay21 x4 x3) (k0_pay22 (View.ld x1 (Rect.unit ![0, 128] ![256, 128] inb_S2304x256_S256x128_0_128)) (View.ld x0 (Rect.unit ![0, 128] ![256, 128] inb_S256x256_S256x128_0_128)) (View.ld x5 (Rect.unit ![1, 0, 0] ![1, 256, 1] inb_S2x256x1_S1x256x1_1_0_0))) (k0_pay23 x4) x6 x7) (k0_pay29 (k0_pay7 (View.ld x2 (Rect.unit ![0, 0] ![256, 128] inb_S2304x128_S256x128_0_0))) (k0_pay14 (View.ld x2 (Rect.unit ![0, 0] ![256, 128] inb_S2304x128_S256x128_0_0)) (View.ld x1 (Rect.unit ![0, 0] ![256, 128] inb_S2304x256_S256x128_0_0)) (View.ld x0 (Rect.unit ![0, 0] ![256, 128] inb_S256x256_S256x128_0_0)) x4 x3 (View.ld x5 (Rect.unit ![0, 0, 0] ![1, 256, 1] inb_S2x256x1_S1x256x1_0_0_0))) (k0_pay18 (View.ld x1 (Rect.unit ![0, 128] ![256, 128] inb_S2304x256_S256x128_0_128))) (k0_pay21 x4 x3) (k0_pay22 (View.ld x1 (Rect.unit ![0, 128] ![256, 128] inb_S2304x256_S256x128_0_128)) (View.ld x0 (Rect.unit ![0, 128] ![256, 128] inb_S256x256_S256x128_0_128)) (View.ld x5 (Rect.unit ![1, 0, 0] ![1, 256, 1] inb_S2x256x1_S1x256x1_1_0_0))) (k0_pay23 x4) x8) (ix2 i l) : EReal)
      = ((turnA (D.y 256) D.c D.s i.val l.val + turnB (D.y 256) D.p i.val l.val : ℝ) : EReal) := by
  rw [Keys256.turned, Keys256.turn0 _ _ _ _ _ _ _ _ (D.y 256) D.c D.s (y D x0 x1 x2 x3 x4 x6 x7 x8 x5 h) h.c h.s,
    Keys256.turn1 _ _ _ _ _ _ _ (D.y 256) D.p (y D x0 x1 x2 x3 x4 x6 x7 x8 x5 h) h.p, ← EReal.coe_add]

/-- The first head's addend to the gradient of the keys. -/
theorem addk0 (h : Held D x0 x1 x2 x3 x4 x5 x6 x7 x8) (w : Vec Ideal S128x256 .f32) (r : Fin 128) (n : Fin 256) :
    (k0_pay16 w (k0_pay15 (View.ld x2 (Rect.unit ![0, 0] ![256, 128] inb_S2304x128_S256x128_0_0)) (View.ld x1 (Rect.unit ![0, 0] ![256, 128] inb_S2304x256_S256x128_0_0)) (View.ld x0 (Rect.unit ![0, 0] ![256, 128] inb_S256x256_S256x128_0_0)) x4 x3 (View.ld x5 (Rect.unit ![0, 0, 0] ![1, 256, 1] inb_S2x256x1_S1x256x1_0_0_0))) (ix2 r n) : EReal)
      = w (ix2 r n) + ((∑ i : Fin 256, D.qq i.val r.val * D.D0 i.val n.val : ℝ) : EReal) := by
  rw [Keys256.add0, Keys256.dk0 _ _ _ _ _ _ D.D0 D.qq (q0 D x0 x1 x2 x3 x4 x6 x7 x8 x5 h) (d0 D x0 x1 x2 x3 x4 x6 x7 x8 x5 h)]

/-- The second head's addend to the gradient of the keys. -/
theorem addk1 (h : Held D x0 x1 x2 x3 x4 x5 x6 x7 x8) (w : Vec Ideal S128x256 .f32) (r : Fin 128) (n : Fin 256) :
    (k0_pay25 (k0_pay7 (View.ld x2 (Rect.unit ![0, 0] ![256, 128] inb_S2304x128_S256x128_0_0))) (k0_pay19 (View.ld x0 (Rect.unit ![0, 128] ![256, 128] inb_S256x256_S256x128_0_128))) (k0_pay21 x4 x3) (k0_pay22 (View.ld x1 (Rect.unit ![0, 128] ![256, 128] inb_S2304x256_S256x128_0_128)) (View.ld x0 (Rect.unit ![0, 128] ![256, 128] inb_S256x256_S256x128_0_128)) (View.ld x5 (Rect.unit ![1, 0, 0] ![1, 256, 1] inb_S2x256x1_S1x256x1_1_0_0))) (k0_pay23 x4) w (ix2 r n) : EReal)
      = w (ix2 r n) + ((∑ i : Fin 256, D.q1 i.val r.val * D.D1 i.val n.val : ℝ) : EReal) := by
  rw [Keys256.dk1 _ _ _ _ _ _ D.D1 D.q1 (fun a b => (Keys256.same_q _ a b).trans (q1 D x0 x1 x2 x3 x4 x6 x7 x8 x5 h a b)) (d1 D x0 x1 x2 x3 x4 x6 x7 x8 x5 h)]

/-- Both heads' addends to the gradient of the values. -/
theorem addv0 (h : Held D x0 x1 x2 x3 x4 x5 x6 x7 x8) (w : Vec Ideal S128x256 .f32) (l : Fin 128) (n : Fin 256) :
    (k0_pay17 (k0_pay11 (View.ld x1 (Rect.unit ![0, 0] ![256, 128] inb_S2304x256_S256x128_0_0)) (View.ld x0 (Rect.unit ![0, 0] ![256, 128] inb_S256x256_S256x128_0_0)) (View.ld x5 (Rect.unit ![0, 0, 0] ![1, 256, 1] inb_S2x256x1_S1x256x1_0_0_0))) (k0_pay12 x4) w (ix2 l n) : EReal)
      = w (ix2 l n) + ((∑ i : Fin 256, ownLo D.gg i.val l.val * D.P0 i.val n.val : ℝ) : EReal) := by
  rw [Keys256.dv0 _ _ _ D.P0 (ownLo D.gg) (p0 D x0 x1 x2 x3 x4 x6 x7 x8 x5 h) (Keys256.own0 _ D.gg h.g)]
@[inherit_doc addv0] theorem addv1 (h : Held D x0 x1 x2 x3 x4 x5 x6 x7 x8) (w : Vec Ideal S128x256 .f32) (l : Fin 128) (n : Fin 256) :
    (k0_pay26 (k0_pay22 (View.ld x1 (Rect.unit ![0, 128] ![256, 128] inb_S2304x256_S256x128_0_128)) (View.ld x0 (Rect.unit ![0, 128] ![256, 128] inb_S256x256_S256x128_0_128)) (View.ld x5 (Rect.unit ![1, 0, 0] ![1, 256, 1] inb_S2x256x1_S1x256x1_1_0_0))) (k0_pay23 x4) w (ix2 l n) : EReal)
      = w (ix2 l n) + ((∑ i : Fin 256, ownHi D.gg i.val l.val * D.P1 i.val n.val : ℝ) : EReal) := by
  rw [Keys256.dv1 _ _ _ D.P1 (ownHi D.gg) (p1 D x0 x1 x2 x3 x4 x6 x7 x8 x5 h) (Keys256.own1 _ D.gg h.g)]
end Attn.Body256
-- ==== Proof.Canon.lean ====
/-
  A rank-two buffer after stores of rectangles: the newest store that holds an entry decides it.
-/
module

public import proofs.«01_k».proof.Proof.Coe
public import Idealize.ShloMosaic.Lib.Pipeline.ValueKit
public import Idealize.ShloMosaic.Lib.Pipeline.ReadBack

@[expose] public section

noncomputable section
open Idealize.ShloMosaic
namespace Attn.Canon
variable {N M n k : ℕ} {e : EltTy} (o0 o1 : ℕ)
  (inb : ∀ a, (![o0, o1] : Fin 2 → ℕ) a + (![n, k] : Fin 2 → ℕ) a ≤ (⟨2, ![N, M]⟩ : Shape).size a)
  (w : (⟨2, ![n, k]⟩ : Shape).Idx → Elt Ideal e) (L : List (View.Piece (Elt Ideal) (⟨2, ![N, M]⟩ : Shape) e))

theorem place (a : Fin N) (b : Fin M) (a' : Fin n) (b' : Fin k) (ha : a.val = o0 + a'.val) (hb : b.val = o1 + b'.val) :
    (ix2 a b : (⟨2, ![N, M]⟩ : Shape).Idx) = (Rect.unit (s := (⟨2, ![N, M]⟩ : Shape)) ![o0, o1] ![n, k] inb).emb (ix2 a' b') := by
  funext x
  refine Fin.ext ?_
  fin_cases x
  · show a.val = o0 + 1 * a'.val; omega
  · show b.val = o1 + 1 * b'.val; omega

/-- An entry the newest store holds. -/
theorem hit (a : Fin N) (b : Fin M) (a' : Fin n) (b' : Fin k) (ha : a.val = o0 + a'.val) (hb : b.val = o1 + b'.val) :
    View.canon ((⟨Rect.unit ![o0, o1] ![n, k] inb, w⟩ : View.Piece (Elt Ideal) (⟨2, ![N, M]⟩ : Shape) e) :: L) (ix2 a b)
      = w (ix2 a' b') := by
  rw [place o0 o1 inb a b a' b' ha hb]
  exact View.canon_cons_emb (Rect.unit (s := (⟨2, ![N, M]⟩ : Shape)) ![o0, o1] ![n, k] inb) w L (ix2 a' b')

/-- An entry the newest store leaves alone, by its row or by its column. -/
theorem missRow (a : Fin N) (b : Fin M) (h : a.val < o0 ∨ o0 + n ≤ a.val) :
    View.canon ((⟨Rect.unit ![o0, o1] ![n, k] inb, w⟩ : View.Piece (Elt Ideal) (⟨2, ![N, M]⟩ : Shape) e) :: L) (ix2 a b)
      = View.canon L (ix2 a b) :=
  View.canon_cons_of_not_mem _ L (Rect.not_mem_set_of_axis (Rect.unit (s := (⟨2, ![N, M]⟩ : Shape)) ![o0, o1] ![n, k] inb) (ix2 a b) 0 o0 n
    rfl rfl rfl h)
@[inherit_doc missRow] theorem missCol (a : Fin N) (b : Fin M) (h : b.val < o1 ∨ o1 + k ≤ b.val) :
    View.canon ((⟨Rect.unit ![o0, o1] ![n, k] inb, w⟩ : View.Piece (Elt Ideal) (⟨2, ![N, M]⟩ : Shape) e) :: L) (ix2 a b)
      = View.canon L (ix2 a b) :=
  View.canon_cons_of_not_mem _ L (Rect.not_mem_set_of_axis (Rect.unit (s := (⟨2, ![N, M]⟩ : Shape)) ![o0, o1] ![n, k] inb) (ix2 a b) 1 o1 k
    rfl rfl rfl h)

/-- A load of a rectangle after stores, at an entry. -/
theorem load {sig : RefSig} {κ : Kind} {sp : Space} (v : View sig κ sp (⟨2, ![N, M]⟩ : Shape) e) (a' : Fin n) (b' : Fin k)
    (a : Fin N) (b : Fin M) (ha : a.val = o0 + a'.val) (hb : b.val = o1 + b'.val) :
    v.readCov L (Rect.unit (s := (⟨2, ![N, M]⟩ : Shape)) ![o0, o1] ![n, k] inb).toLoadRect (ix2 a' b') = View.canon L (ix2 a b) := by
  rw [View.readCov_eq_canon', place o0 o1 inb a b a' b' ha hb]
  rfl
end Attn.Canon
-- ==== Proof.Outs.lean ====
/-
  What one grid point of the call leaves: the block of the queries' gradient, and the two running sums.
-/
module

public import proofs.«01_k».proof.Proof.Body2304
public import proofs.«01_k».proof.Proof.Body256
public import proofs.«01_k».proof.Proof.Canon
public import Idealize.ShloMosaic.Lib.Claim

@[expose] public section

set_option maxRecDepth 16384
noncomputable section
open Idealize.ShloMosaic Idealize.ShloMosaic.TcCoe Idealize.SL.Sem
namespace Attn.Outs
open Cert.KernelIdeal Cert.KernelIdeal.Gen
variable (m : (ℓ : Loc nD τ sig) → Buf (Elt Ideal) ℓ)
variable (D : Data) (c : Dev nD) (t : Fin cfg0.N)

/-- A grid point's nine blocks hold the real numbers of `D`. -/
abbrev At : Prop := Held D (iblk m c 0 t) (iblk m c 1 t) (iblk m c 2 t) (iblk m c 3 t) (iblk m c 4 t) (iblk m c 5 t)
  (iblk m c 6 t) (iblk m c 7 t) (iblk m c 8 t)

/-- The block of the queries' gradient. -/
theorem dq_A (h : At m D c t) (h0 : t.val % 9 = 0) (i l : Fin 256) : (show EReal from (outsAt0 m c t.val t.isLt).1 (ix2 i l))
    = ((turnA (D.y 256) D.c D.s i.val l.val + turnB (D.y 256) D.p i.val l.val : ℝ) : EReal) := by
  rw [outsAt0_A m c t h0 h0 (by omega) (by omega)]; frame_out
  exact Body256.turn D _ _ _ _ _ _ _ _ _ h i l

/-- The block of the queries' gradient. -/
theorem dq_B (h : At m D c t) (h2 : 1 ≤ t.val % 9) (h3 : ¬t.val % 9 = 8) (i l : Fin 256) : (show EReal from (outsAt0 m c t.val t.isLt).1 (ix2 i l))
    = ((turnA (D.y 2304) D.c D.s i.val l.val + turnB (D.y 2304) D.p i.val l.val : ℝ) : EReal) := by
  rw [outsAt0_B m c t (by omega) (by omega) h2 h3]; frame_out
  exact Body2304.turn D _ _ _ _ _ _ _ _ _ h i l

/-- The block of the queries' gradient. -/
theorem dq_C (h : At m D c t) (h3 : t.val % 9 = 8) (i l : Fin 256) : (show EReal from (outsAt0 m c t.val t.isLt).1 (ix2 i l))
    = ((turnA (D.y 2304) D.c D.s i.val l.val + turnB (D.y 2304) D.p i.val l.val : ℝ) : EReal) := by
  rw [outsAt0_C m c t (by omega) (by omega) (by omega) h3]; frame_out
  exact Body2304.turn D _ _ _ _ _ _ _ _ _ h i l

theorem zero1 (r : Fin 256) (n : Fin 2304) : ((k0_pay1 : FVec Ideal S256x2304 .f32) (ix2 r n) : EReal) = 0 := by pointwise [k0_pay1]
theorem zero2 (r : Fin 128) (n : Fin 2304) : ((k0_pay2 : FVec Ideal S128x2304 .f32) (ix2 r n) : EReal) = 0 := by pointwise [k0_pay2]

/-- The running sum of the keys' gradient after the first block of queries. -/
theorem dk_A (h : At m D c t) (h0 : t.val % 9 = 0) (r : Fin 256) (n : Fin 2304) : (show EReal from (outsAt0 m c t.val t.isLt).2.2.2.1 (ix2 r n))
    = ((if n.val < 256 then D.dk r.val n.val else 0 : ℝ) : EReal) := by
  rw [outsAt0_A m c t h0 h0 (by omega) (by omega)]; frame_out
  have q0 := Body256.addk0 D _ _ _ _ _ _ _ _ _ h
  have q1 := Body256.addk1 D _ _ _ _ _ _ _ _ _ h
  generalize iblk m c 0 t = x0 at *
  generalize iblk m c 1 t = x1 at *
  generalize iblk m c 2 t = x2 at *
  generalize iblk m c 3 t = x3 at *
  generalize iblk m c 4 t = x4 at *
  generalize iblk m c 5 t = x5 at *
  by_cases hn : n.val < 256
  · rw [if_pos hn]
    by_cases hr : r.val < 128
    · rw [Canon.missRow _ _ _ _ _ _ _ (by omega), Canon.hit _ _ _ _ _ _ _ ⟨r.val, hr⟩ ⟨n.val, hn⟩ (by simp) (by simp)]
      refine (q0 _ _ _).trans ?_
      rw [Canon.load 0 0 _ _ _ ⟨r.val, hr⟩ ⟨n.val, hn⟩ r n (by simp) (by simp), Canon.hit _ _ _ _ _ _ _ r n (by simp) (by simp), zero1,
        zero_add, Data.dk, if_pos hr]
    · rw [Canon.hit _ _ _ _ _ _ _ ⟨r.val - 128, by omega⟩ ⟨n.val, hn⟩ (by simp; omega) (by simp)]
      refine (q1 _ _ _).trans ?_
      rw [Canon.load 128 0 _ _ _ ⟨r.val - 128, by omega⟩ ⟨n.val, hn⟩ r n (by simp; omega) (by simp),
        Canon.missRow _ _ _ _ _ _ _ (by omega), Canon.hit _ _ _ _ _ _ _ r n (by simp) (by simp), zero1, zero_add, Data.dk, if_neg hr]
  · rw [if_neg hn, Canon.missCol _ _ _ _ _ _ _ (by omega), Canon.missCol _ _ _ _ _ _ _ (by omega),
      Canon.hit _ _ _ _ _ _ _ r n (by simp) (by simp)]
    exact zero1 r n

/-- The running sum of the values' gradient after the first block of queries. -/
theorem dv_A (h : At m D c t) (h0 : t.val % 9 = 0) (r : Fin 128) (n : Fin 2304) : (show EReal from (outsAt0 m c t.val t.isLt).2.2.2.2 (ix2 r n))
    = ((if n.val < 256 then D.dv r.val n.val else 0 : ℝ) : EReal) := by
  rw [outsAt0_A m c t h0 h0 (by omega) (by omega)]; frame_out
  have q0 := Body256.addv0 D _ _ _ _ _ _ _ _ _ h
  have q1 := Body256.addv1 D _ _ _ _ _ _ _ _ _ h
  generalize iblk m c 0 t = x0 at *
  generalize iblk m c 1 t = x1 at *
  generalize iblk m c 2 t = x2 at *
  generalize iblk m c 3 t = x3 at *
  generalize iblk m c 4 t = x4 at *
  generalize iblk m c 5 t = x5 at *
  by_cases hn : n.val < 256
  · rw [if_pos hn, Canon.hit _ _ _ _ _ _ _ r ⟨n.val, hn⟩ (by simp) (by simp)]
    refine (q1 _ _ _).trans ?_
    rw [Canon.load 0 0 _ _ _ r ⟨n.val, hn⟩ r n (by simp) (by simp), Canon.hit _ _ _ _ _ _ _ r ⟨n.val, hn⟩ (by simp) (by simp)]
    refine (congrArg (· + _) (q0 _ _ _)).trans ?_
    rw [Canon.load 0 0 _ _ _ r ⟨n.val, hn⟩ r n (by simp) (by simp), Canon.hit _ _ _ _ _ _ _ r n (by simp) (by simp), zero2, zero_add,
      ← EReal.coe_add]
    rfl
  · rw [if_neg hn, Canon.missCol _ _ _ _ _ _ _ (by omega), Canon.missCol _ _ _ _ _ _ _ (by omega),
      Canon.hit _ _ _ _ _ _ _ r n (by simp) (by simp)]
    exact zero2 r n

/-- A later block of queries adds its part to the running sum of the keys' gradient. -/
theorem dk_B (h : At m D c t) (h2 : 1 ≤ t.val % 9) (h3 : ¬t.val % 9 = 8) (r : Fin 256) (n : Fin 2304) : (show EReal from (outsAt0 m c t.val t.isLt).2.2.2.1 (ix2 r n))
    = (show EReal from (outsAt0 m c (t.val - 1) (by omega)).2.2.2.1 (ix2 r n)) + ((D.dk r.val n.val : ℝ) : EReal) := by
  rw [outsAt0_B m c t (by omega) (by omega) h2 h3]; frame_out
  have q0 := Body2304.addk0 D _ _ _ _ _ _ _ _ _ h
  have q1 := Body2304.addk1 D _ _ _ _ _ _ _ _ _ h
  generalize iblk m c 0 t = x0 at *
  generalize iblk m c 1 t = x1 at *
  generalize iblk m c 2 t = x2 at *
  generalize iblk m c 3 t = x3 at *
  generalize iblk m c 4 t = x4 at *
  generalize iblk m c 5 t = x5 at *
  simp only [read_unread_whole]
  generalize outsAt0 m c (t.val - 1) _ = prev
  by_cases hr : r.val < 128
  · rw [Canon.missRow _ _ _ _ _ _ _ (by omega), Canon.hit _ _ _ _ _ _ _ ⟨r.val, hr⟩ n (by simp) (by simp)]
    refine (q0 _ _ _).trans ?_
    rw [Data.dk, if_pos hr]
    congr 1
    refine congrArg prev.2.2.2.1 ?_
    exact (Canon.place 0 0 _ r n ⟨r.val, hr⟩ n (by simp) (by simp)).symm
  · rw [Canon.hit _ _ _ _ _ _ _ ⟨r.val - 128, by omega⟩ n (by simp; omega) (by simp)]
    refine (q1 _ _ _).trans ?_
    rw [Data.dk, if_neg hr]
    congr 1
    refine congrArg prev.2.2.2.1 ?_
    exact (Canon.place 128 0 _ r n ⟨r.val - 128, by omega⟩ n (by simp; omega) (by simp)).symm

/-- A later block of queries adds its part to the running sum of the values' gradient. -/
theorem dv_B (h : At m D c t) (h2 : 1 ≤ t.val % 9) (h3 : ¬t.val % 9 = 8) (r : Fin 128) (n : Fin 2304) : (show EReal from (outsAt0 m c t.val t.isLt).2.2.2.2 (ix2 r n))
    = (show EReal from (outsAt0 m c (t.val - 1) (by omega)).2.2.2.2 (ix2 r n)) + ((D.dv r.val n.val : ℝ) : EReal) := by
  rw [outsAt0_B m c t (by omega) (by omega) h2 h3]; frame_out
  have q0 := Body2304.addv0 D _ _ _ _ _ _ _ _ _ h
  have q1 := Body2304.addv1 D _ _ _ _ _ _ _ _ _ h
  generalize iblk m c 0 t = x0 at *
  generalize iblk m c 1 t = x1 at *
  generalize iblk m c 2 t = x2 at *
  generalize iblk m c 3 t = x3 at *
  generalize iblk m c 4 t = x4 at *
  generalize iblk m c 5 t = x5 at *
  simp only [read_unread_whole]
  generalize outsAt0 m c (t.val - 1) _ = prev
  refine (q1 _ _ _).trans ?_
  refine (congrArg (· + _) (q0 _ _ _)).trans ?_
  rw [add_assoc, ← EReal.coe_add]
  rfl

theorem flip5 (w : Vec Ideal S256x2304 .f32) (n : Fin 2304) (r : Fin 256) : (k0_pay5 w (ix2 n r) : EReal) = w (ix2 r n) := by
  pointwise [k0_pay5]
theorem flip6 (w : Vec Ideal S128x2304 .f32) (n : Fin 2304) (r : Fin 128) : (k0_pay6 w (ix2 n r) : EReal) = w (ix2 r n) := by
  pointwise [k0_pay6]

/-- The last block of queries: the keys' gradient is written out, the last part added. -/
theorem dk_C (h : At m D c t) (h3 : t.val % 9 = 8) (r : Fin 256) (n : Fin 2304) : (show EReal from (outsAt0 m c t.val t.isLt).2.1 (ix2 n r))
    = (show EReal from (outsAt0 m c (t.val - 1) (by omega)).2.2.2.1 (ix2 r n)) + ((D.dk r.val n.val : ℝ) : EReal) := by
  rw [outsAt0_C m c t (by omega) (by omega) (by omega) h3]; frame_out
  have q0 := Body2304.addk0 D _ _ _ _ _ _ _ _ _ h
  have q1 := Body2304.addk1 D _ _ _ _ _ _ _ _ _ h
  generalize iblk m c 0 t = x0 at *
  generalize iblk m c 1 t = x1 at *
  generalize iblk m c 2 t = x2 at *
  generalize iblk m c 3 t = x3 at *
  generalize iblk m c 4 t = x4 at *
  generalize iblk m c 5 t = x5 at *
  simp only [read_unread_whole]
  generalize outsAt0 m c (t.val - 1) _ = prev
  refine (flip5 _ n r).trans ?_
  rw [Canon.load 0 0 _ _ _ r n r n (by simp) (by simp)]
  by_cases hr : r.val < 128
  · rw [Canon.missRow _ _ _ _ _ _ _ (by omega), Canon.hit _ _ _ _ _ _ _ ⟨r.val, hr⟩ n (by simp) (by simp)]
    refine (q0 _ _ _).trans ?_
    rw [Data.dk, if_pos hr]
    congr 1
    refine congrArg prev.2.2.2.1 ?_
    exact (Canon.place 0 0 _ r n ⟨r.val, hr⟩ n (by simp) (by simp)).symm
  · rw [Canon.hit _ _ _ _ _ _ _ ⟨r.val - 128, by omega⟩ n (by simp; omega) (by simp)]
    refine (q1 _ _ _).trans ?_
    rw [Data.dk, if_neg hr]
    congr 1
    refine congrArg prev.2.2.2.1 ?_
    exact (Canon.place 128 0 _ r n ⟨r.val - 128, by omega⟩ n (by simp; omega) (by simp)).symm

/-- The last block of queries: the values' gradient is written out, the last part added. -/
theorem dv_C (h : At m D c t) (h3 : t.val % 9 = 8) (r : Fin 128) (n : Fin 2304) : (show EReal from (outsAt0 m c t.val t.isLt).2.2.1 (ix2 n r))
    = (show EReal from (outsAt0 m c (t.val - 1) (by omega)).2.2.2.2 (ix2 r n)) + ((D.dv r.val n.val : ℝ) : EReal) := by
  rw [outsAt0_C m c t (by omega) (by omega) (by omega) h3]; frame_out
  have q0 := Body2304.addv0 D _ _ _ _ _ _ _ _ _ h
  have q1 := Body2304.addv1 D _ _ _ _ _ _ _ _ _ h
  generalize iblk m c 0 t = x0 at *
  generalize iblk m c 1 t = x1 at *
  generalize iblk m c 2 t = x2 at *
  generalize iblk m c 3 t = x3 at *
  generalize iblk m c 4 t = x4 at *
  generalize iblk m c 5 t = x5 at *
  simp only [read_unread_whole]
  generalize outsAt0 m c (t.val - 1) _ = prev
  refine (flip6 _ n r).trans ?_
  refine (q1 _ _ _).trans ?_
  refine (congrArg (· + _) (q0 _ _ _)).trans ?_
  rw [add_assoc, ← EReal.coe_add]
  rfl

end Attn.Outs
-- ==== Proof.Attn.lean ====
/-
  The attention of the problem and its gradient, in the real numbers: a context of 256 rows that sees itself, latents that
  see all 2304 rows, and rotary lanes turned at the latents only. The scores' gradient is
  `p · (dp − Σ p · dp) · scale`, and the gradients of the queries, keys and values are its products.
-/
module

public import proofs.«01_k».proof.Proof.Coe

@[expose] public section

noncomputable section

namespace Attn

/-- The six arrays as functions of their coordinates: queries, keys and values by row, head and lane, the latents'
    cosines and sines by row and frequency, the cotangent by row and lane. -/
structure Inp where
  (q k v : ℕ → ℕ → ℕ → ℝ)
  (cs sn : ℕ → ℕ → ℝ)
  (g : ℕ → ℕ → ℝ)

variable (X : Inp)

/-- A latent row's query with its 32 rotary lanes turned: eight pairs by the row's angle, eight by the column's. -/
def qlat (n h d : ℕ) : ℝ :=
  if d < 64 then X.q (256 + n) h d
  else if d < 72 then X.q (256 + n) h d * X.cs n (d - 64) - X.q (256 + n) h (d + 8) * X.sn n (d - 64)
  else if d < 80 then X.q (256 + n) h (d - 8) * X.sn n (d - 72) + X.q (256 + n) h d * X.cs n (d - 72)
  else if d < 88 then X.q (256 + n) h d * X.cs n (d - 72) - X.q (256 + n) h (d + 8) * X.sn n (d - 72)
  else X.q (256 + n) h (d - 8) * X.sn n (d - 80) + X.q (256 + n) h d * X.cs n (d - 80)

/-- A row's query as the scores read it. -/
def qr (n h d : ℕ) : ℝ := if n < 256 then X.q n h d else qlat X (n - 256) h d

/-- How many rows a row sees. -/
def seen (n : ℕ) : ℕ := if n < 256 then 256 else 2304

/-- The score of a row against a key. -/
def sc (n h j : ℕ) : ℝ := (∑ d : Fin 96, qr X n h d.val * X.k j h d.val) * SC

/-- The logarithm of a row's sum of exponentials. -/
def lse (n h : ℕ) : ℝ := Real.log (∑ j : Fin (seen n), Real.exp (sc X n h j.val))

/-- The attention's probabilities. -/
def prob (n h j : ℕ) : ℝ := Real.exp (sc X n h j - lse X n h)

/-- The attention's output. -/
def out (n h d : ℕ) : ℝ := ∑ j : Fin (seen n), X.v j.val h d * prob X n h j.val

/-- The gradient of a probability. -/
def dp (n h j : ℕ) : ℝ := ∑ d : Fin 64, X.g n (64 * h + d.val) * X.v j h d.val

/-- The gradient of a score. -/
def ds (n h j : ℕ) : ℝ :=
  prob X n h j * (dp X n h j - ∑ j' : Fin (seen n), prob X n h j'.val * dp X n h j'.val) * SC

/-- The gradient of a row's query as the scores read it. -/
def dqr (n h d : ℕ) : ℝ := ∑ j : Fin (seen n), ds X n h j.val * X.k j.val h d

/-- The gradient of the queries: the rotary lanes turned back. -/
def dq (n h d : ℕ) : ℝ :=
  if n < 256 ∨ d < 64 then dqr X n h d
  else if d < 72 then dqr X n h d * X.cs (n - 256) (d - 64) + dqr X n h (d + 8) * X.sn (n - 256) (d - 64)
  else if d < 80 then dqr X n h d * X.cs (n - 256) (d - 72) - dqr X n h (d - 8) * X.sn (n - 256) (d - 72)
  else if d < 88 then dqr X n h d * X.cs (n - 256) (d - 72) + dqr X n h (d + 8) * X.sn (n - 256) (d - 72)
  else dqr X n h d * X.cs (n - 256) (d - 80) - dqr X n h (d - 8) * X.sn (n - 256) (d - 80)

/-- The gradient of the keys: the sum over the rows that see the key. -/
def dk (j h d : ℕ) : ℝ :=
  (if j < 256 then ∑ n : Fin 256, ds X n.val h j * qr X n.val h d else 0)
    + ∑ n : Fin 2048, ds X (256 + n.val) h j * qr X (256 + n.val) h d

/-- The gradient of the values: the sum over the rows that see them. -/
def dv (j h d : ℕ) : ℝ :=
  (if j < 256 then ∑ n : Fin 256, X.g n.val (64 * h + d) * prob X n.val h j else 0)
    + ∑ n : Fin 2048, X.g (256 + n.val) (64 * h + d) * prob X (256 + n.val) h j

/-! ## The softmax shifted by any number -/

theorem sum_exp_pos (N : ℕ) (s : ℕ → ℝ) (M : ℝ) : 0 < ∑ j : Fin (N + 1), Real.exp (s j.val - M) :=
  Finset.sum_pos (fun _ _ => Real.exp_pos _) ⟨0, Finset.mem_univ _⟩

/-- A row's sum shifted by `M`, its logarithm put back. -/
theorem shift_log (N : ℕ) (s : ℕ → ℝ) (M : ℝ) :
    M + Real.log (∑ j : Fin (N + 1), Real.exp (s j.val - M)) = Real.log (∑ j : Fin (N + 1), Real.exp (s j.val)) := by
  have h0 : ∑ j : Fin (N + 1), Real.exp (s j.val) = Real.exp M * ∑ j : Fin (N + 1), Real.exp (s j.val - M) := by
    rw [Finset.mul_sum]
    refine Finset.sum_congr rfl fun j _ => ?_
    rw [← Real.exp_add]; congr 1; ring
  rw [h0, Real.log_mul (Real.exp_pos _).ne' (sum_exp_pos N s M).ne', Real.log_exp]

/-- A probability with the shift `M` is the exponential of the score less the logarithm of the row's sum. -/
theorem shift_div (N : ℕ) (s : ℕ → ℝ) (M x : ℝ) :
    Real.exp (x - M) / ∑ j : Fin (N + 1), Real.exp (s j.val - M)
      = Real.exp (x - Real.log (∑ j : Fin (N + 1), Real.exp (s j.val))) := by
  rw [← shift_log N s M, ← sub_sub, Real.exp_sub (x - M), Real.exp_log (sum_exp_pos N s M)]

/-! ## The rows a row sees -/

theorem seen_lat {n : ℕ} (hn : 256 ≤ n) : seen n = 2304 := if_neg (by omega)
theorem seen_ctx {n : ℕ} (hn : n < 256) : seen n = 256 := if_pos hn

theorem sum_lat {n : ℕ} (hn : 256 ≤ n) (f : ℕ → ℝ) : ∑ j : Fin (seen n), f j.val = ∑ j : Fin 2304, f j.val := by
  rw [seen_lat hn]
theorem sum_ctx {n : ℕ} (hn : n < 256) (f : ℕ → ℝ) : ∑ j : Fin (seen n), f j.val = ∑ j : Fin 256, f j.val := by
  rw [seen_ctx hn]

theorem prob_lat {n : ℕ} (hn : 256 ≤ n) (h j : ℕ) (M : ℝ) :
    Real.exp (sc X n h j - M) / ∑ j' : Fin 2304, Real.exp (sc X n h j'.val - M) = prob X n h j := by
  rw [prob, lse, sum_lat hn fun j => Real.exp (sc X n h j)]
  exact shift_div 2303 (sc X n h) M _
theorem prob_ctx {n : ℕ} (hn : n < 256) (h j : ℕ) (M : ℝ) :
    Real.exp (sc X n h j - M) / ∑ j' : Fin 256, Real.exp (sc X n h j'.val - M) = prob X n h j := by
  rw [prob, lse, sum_ctx hn fun j => Real.exp (sc X n h j)]
  exact shift_div 255 (sc X n h) M _

theorem lse_lat {n : ℕ} (hn : 256 ≤ n) (h : ℕ) (M : ℝ) :
    M + Real.log (∑ j' : Fin 2304, Real.exp (sc X n h j'.val - M)) = lse X n h := by
  rw [lse, sum_lat hn fun j => Real.exp (sc X n h j)]
  exact shift_log 2303 (sc X n h) M
theorem lse_ctx {n : ℕ} (hn : n < 256) (h : ℕ) (M : ℝ) :
    M + Real.log (∑ j' : Fin 256, Real.exp (sc X n h j'.val - M)) = lse X n h := by
  rw [lse, sum_ctx hn fun j => Real.exp (sc X n h j)]
  exact shift_log 255 (sc X n h) M

theorem out_lat {n : ℕ} (hn : 256 ≤ n) (h d : ℕ) :
    out X n h d = ∑ j : Fin 2304, X.v j.val h d * prob X n h j.val := sum_lat hn fun j => X.v j h d * prob X n h j
theorem out_ctx {n : ℕ} (hn : n < 256) (h d : ℕ) :
    out X n h d = ∑ j : Fin 256, X.v j.val h d * prob X n h j.val := sum_ctx hn fun j => X.v j h d * prob X n h j

/-! ## What the call is given: heads padded to 128 lanes, and the rotary tables -/

def qpad (n l : ℕ) : ℝ := if l % 128 < 96 then qr X n (l / 128) (l % 128) else 0
/-- The keys' lanes 96, 97 and 98 of a head hold ones. -/
def kpad (n l : ℕ) : ℝ := if l % 128 < 96 then X.k n (l / 128) (l % 128) else if l % 128 < 99 then 1 else 0
def vlane (n l : ℕ) : ℝ := X.v n (l / 64) (l % 64)
def olane (n l : ℕ) : ℝ := out X n (l / 64) (l % 64)
def cosX (n f : ℕ) : ℝ := if n < 256 then 1 else X.cs (n - 256) f
def sinX (n f : ℕ) : ℝ := if n < 256 then 0 else X.sn (n - 256) f
def tabC (n l : ℕ) : ℝ :=
  if l < 64 then 1 else if l < 72 then cosX X n (l - 64) else if l < 88 then cosX X n (l - 72)
  else if l < 96 then cosX X n (l - 80) else 0
def tabN (n l : ℕ) : ℝ :=
  if l < 64 then 0 else if l < 72 then -sinX X n (l - 64) else if l < 80 then 0
  else if l < 88 then -sinX X n (l - 72) else 0
def tabP (n l : ℕ) : ℝ :=
  if l < 72 then 0 else if l < 80 then sinX X n (l - 72) else if l < 88 then 0
  else if l < 96 then sinX X n (l - 80) else 0

end Attn
-- ==== Proof.HostSoftmax.lean ====
/-
  What the host lines before the call put in the call's operands: the rotated queries, the outputs and the logarithms
  of the rows' sums, the padded heads and the rotary tables, as real numbers of the arguments.
-/
module

public import proofs.«01_k».proof.Proof.Attn
public import proofs.«01_k».proof.Proof.Gen.KernelIdeal.Frame
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384
noncomputable section
open Idealize.ShloMosaic Idealize.ShloMosaic.TcCoe Idealize.SL.Sem Idealize.ShloMosaic.StableHlo
namespace Attn.Host
open Cert.KernelIdeal Cert.KernelIdeal.Gen
variable (X : Inp) (σ : Valuation τ sig (Elt Ideal))

/-! ## The host lines cut in stretches -/
def opsA : List (HloOp τ sig (Elt Ideal)) := (hostOps0.drop 0).take 40
def opsB : List (HloOp τ sig (Elt Ideal)) := (hostOps0.drop 40).take 4
def opsC : List (HloOp τ sig (Elt Ideal)) := (hostOps0.drop 44).take 3
def opsD : List (HloOp τ sig (Elt Ideal)) := (hostOps0.drop 47).take 12
def opsE : List (HloOp τ sig (Elt Ideal)) := (hostOps0.drop 59).take 7
def opsF : List (HloOp τ sig (Elt Ideal)) := (hostOps0.drop 66).take 3
def opsG : List (HloOp τ sig (Elt Ideal)) := (hostOps0.drop 69).take 12
def opsH : List (HloOp τ sig (Elt Ideal)) := hostOps0.drop 81 ++ (hostOps0_1 ++ (hostOps0_2 ++ (hostOps0_3 ++ hostOps0_4)))

set_option maxHeartbeats 4000000 in
/-- The latents' queries, turned. -/
theorem a39 (hq : ∀ a b c, (show EReal from σ main_arg0 (ix3 a b c)) = ((X.q a.val b.val c.val : ℝ) : EReal))
    (hc : ∀ a b, (show EReal from σ main_arg3 (ix2 a b)) = ((X.cs a.val b.val : ℝ) : EReal))
    (hs : ∀ a b, (show EReal from σ main_arg4 (ix2 a b)) = ((X.sn a.val b.val : ℝ) : EReal))
    (a : Fin 2048) (b : Fin 16) (c : Fin 96) :
    (show EReal from after opsA σ main_v39 (ix3 a b c)) = ((qlat X a.val b.val c.val : ℝ) : EReal) := by
  simp only at hq hc hs ⊢
  repeat (after_reads_simp; pointwise)
  simp only [hq, hc, hs, ← EReal.coe_mul, ← EReal.coe_add, ← EReal.coe_sub]
  unfold qlat
  split_ifs
  all_goals first
    | (exfalso; omega)
    | (congr! 4 <;> omega)

set_option maxHeartbeats 4000000 in
/-- The latents' scores. -/
theorem b42 (hq : ∀ a b c, (show EReal from σ main_v39 (ix3 a b c)) = ((qlat X a.val b.val c.val : ℝ) : EReal))
    (hk : ∀ a b c, (show EReal from σ main_arg1 (ix3 a b c)) = ((X.k a.val b.val c.val : ℝ) : EReal))
    (h : Fin 16) (n : Fin 2048) (j : Fin 2304) :
    (show EReal from after opsB σ main_v42 (ix3 h n j)) = ((sc X (256 + n.val) h.val j.val : ℝ) : EReal) := by
  simp only at hq hk ⊢
  repeat (after_reads_simp; pointwise)
  simp only [hq, hk, scale_eq, ← EReal.coe_mul, coe_sum]
  simp only [sc, qr, if_neg (show ¬ 256 + n.val < 256 by omega), show 256 + n.val - 256 = n.val by omega]

set_option maxHeartbeats 4000000 in
/-- The context's scores. -/
theorem e61 (hq : ∀ a b c, (show EReal from σ main_arg0 (ix3 a b c)) = ((X.q a.val b.val c.val : ℝ) : EReal))
    (hk : ∀ a b c, (show EReal from σ main_arg1 (ix3 a b c)) = ((X.k a.val b.val c.val : ℝ) : EReal))
    (h : Fin 16) (n : Fin 256) (j : Fin 256) :
    (show EReal from after opsE σ main_v61 (ix3 h n j)) = ((sc X n.val h.val j.val : ℝ) : EReal) := by
  simp only at hq hk ⊢
  repeat (after_reads_simp; pointwise)
  simp only [hq, hk, scale_eq, ← EReal.coe_mul, coe_sum, zero_add]
  simp only [sc, qr, if_pos n.isLt]
set_option maxHeartbeats 4000000 in
theorem e58 (hv : ∀ a b c, (show EReal from σ main_arg2 (ix3 a b c)) = ((X.v a.val b.val c.val : ℝ) : EReal))
    (n : Fin 256) (h : Fin 16) (d : Fin 64) :
    (show EReal from after opsE σ main_v58 (ix3 n h d)) = ((X.v n.val h.val d.val : ℝ) : EReal) := by
  simp only at hv ⊢
  repeat (after_reads_simp; pointwise)
  simp only [hv, zero_add]

set_option maxHeartbeats 4000000 in
/-- The largest score of a latent row is a real number. -/
theorem lat_max (hs : ∀ a b c, (show EReal from σ main_v42 (ix3 a b c)) = ((sc X (256 + b.val) a.val c.val : ℝ) : EReal))
    (h : Fin 16) (n : Fin 2048) (j : Fin 1) :
    ∃ M : ℝ, (show EReal from after opsC σ main_v44 (ix3 h n j)) = ((M : ℝ) : EReal) := by
  simp only at hs ⊢
  repeat (after_reads_simp; pointwise)
  simp only [hs]
  exact fold_max_real _

set_option maxHeartbeats 4000000 in
/-- The output of a latent row. -/
theorem lat_out (hs : ∀ a b c, (show EReal from σ main_v42 (ix3 a b c)) = ((sc X (256 + b.val) a.val c.val : ℝ) : EReal))
    (M : ℕ → ℕ → ℝ)
    (hm : ∀ a b c, (show EReal from σ main_v44 (ix3 a b c)) = ((M b.val a.val : ℝ) : EReal))
    (hv : ∀ a b c, (show EReal from σ main_arg2 (ix3 a b c)) = ((X.v a.val b.val c.val : ℝ) : EReal))
    (n : Fin 2048) (h : Fin 16) (d : Fin 64) :
    (show EReal from after opsD σ main_v53 (ix3 n h d)) = ((out X (256 + n.val) h.val d.val : ℝ) : EReal) := by
  simp only at hs hm hv ⊢
  repeat (after_reads_simp; pointwise)
  have hne : (∑ j : Fin 2304, Real.exp (sc X (256 + n.val) h.val j.val - M n.val h.val)) ≠ 0 :=
    (sum_exp_pos 2303 _ _).ne'
  simp only [hs, hm, hv, ← EReal.coe_mul, coe_sum, ← EReal.coe_sub, Ideal.exp_coe, div_real _ hne,
    prob_lat X (show 256 ≤ 256 + n.val by omega), out_lat X (show 256 ≤ 256 + n.val by omega)]

set_option maxHeartbeats 4000000 in
/-- The logarithm of the sum of a latent row. -/
theorem lat_lse (hs : ∀ a b c, (show EReal from σ main_v42 (ix3 a b c)) = ((sc X (256 + b.val) a.val c.val : ℝ) : EReal))
    (M : ℕ → ℕ → ℝ)
    (hm : ∀ a b c, (show EReal from σ main_v44 (ix3 a b c)) = ((M b.val a.val : ℝ) : EReal))
    (h : Fin 16) (n : Fin 2048) (d : Fin 1) :
    (show EReal from after opsD σ main_v55 (ix3 h n d)) = ((lse X (256 + n.val) h.val : ℝ) : EReal) := by
  simp only at hs hm ⊢
  repeat (after_reads_simp; pointwise)
  have hpos : 0 < ∑ j : Fin 2304, Real.exp (sc X (256 + n.val) h.val j.val - M n.val h.val) :=
    sum_exp_pos 2303 _ _
  simp only [hs, hm, ← EReal.coe_mul, coe_sum, ← EReal.coe_sub, Ideal.exp_coe, log_real hpos, ← EReal.coe_add,
    lse_lat X (show 256 ≤ 256 + n.val by omega)]

set_option maxHeartbeats 4000000 in
/-- The largest score of a context row is a real number. -/
theorem ctx_max (hs : ∀ a b c, (show EReal from σ main_v61 (ix3 a b c)) = ((sc X (b.val) a.val c.val : ℝ) : EReal))
    (h : Fin 16) (n : Fin 256) (j : Fin 1) :
    ∃ M : ℝ, (show EReal from after opsF σ main_v63 (ix3 h n j)) = ((M : ℝ) : EReal) := by
  simp only at hs ⊢
  repeat (after_reads_simp; pointwise)
  simp only [hs]
  exact fold_max_real _

set_option maxHeartbeats 4000000 in
/-- The output of a context row. -/
theorem ctx_out (hs : ∀ a b c, (show EReal from σ main_v61 (ix3 a b c)) = ((sc X (b.val) a.val c.val : ℝ) : EReal))
    (M : ℕ → ℕ → ℝ)
    (hm : ∀ a b c, (show EReal from σ main_v63 (ix3 a b c)) = ((M b.val a.val : ℝ) : EReal))
    (hv : ∀ a b c, (show EReal from σ main_v58 (ix3 a b c)) = ((X.v a.val b.val c.val : ℝ) : EReal))
    (n : Fin 256) (h : Fin 16) (d : Fin 64) :
    (show EReal from after opsG σ main_v72 (ix3 n h d)) = ((out X (n.val) h.val d.val : ℝ) : EReal) := by
  simp only at hs hm hv ⊢
  repeat (after_reads_simp; pointwise)
  have hne : (∑ j : Fin 256, Real.exp (sc X (n.val) h.val j.val - M n.val h.val)) ≠ 0 :=
    (sum_exp_pos 255 _ _).ne'
  simp only [hs, hm, hv, ← EReal.coe_mul, coe_sum, ← EReal.coe_sub, Ideal.exp_coe, div_real _ hne,
    prob_ctx X n.isLt, out_ctx X n.isLt]

set_option maxHeartbeats 4000000 in
/-- The logarithm of the sum of a context row. -/
theorem ctx_lse (hs : ∀ a b c, (show EReal from σ main_v61 (ix3 a b c)) = ((sc X (b.val) a.val c.val : ℝ) : EReal))
    (M : ℕ → ℕ → ℝ)
    (hm : ∀ a b c, (show EReal from σ main_v63 (ix3 a b c)) = ((M b.val a.val : ℝ) : EReal))
    (h : Fin 16) (n : Fin 256) (d : Fin 1) :
    (show EReal from after opsG σ main_v74 (ix3 h n d)) = ((lse X (n.val) h.val : ℝ) : EReal) := by
  simp only at hs hm ⊢
  repeat (after_reads_simp; pointwise)
  have hpos : 0 < ∑ j : Fin 256, Real.exp (sc X (n.val) h.val j.val - M n.val h.val) :=
    sum_exp_pos 255 _ _
  simp only [hs, hm, ← EReal.coe_mul, coe_sum, ← EReal.coe_sub, Ideal.exp_coe, log_real hpos, ← EReal.coe_add,
    lse_ctx X n.isLt]

end Attn.Host
-- ==== Proof.HostPads.lean ====
/-
  What the last stretch of the host lines puts in the call's operands: the padded heads, the outputs and logarithms of
  the rows' sums of context and latents together, and the rotary tables.
-/
module

public import proofs.«01_k».proof.Proof.HostSoftmax
public import proofs.«01_k».proof.Proof.Gen.KernelIdeal.Frame
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384
noncomputable section
open Idealize.ShloMosaic Idealize.ShloMosaic.TcCoe Idealize.SL.Sem Idealize.ShloMosaic.StableHlo
namespace Attn.Host
open Cert.KernelIdeal Cert.KernelIdeal.Gen
variable (X : Inp) (σ : Valuation τ sig (Elt Ideal))

theorem conv_zero : (FloatOps.sitofp FTy.f32 0#32 : Ideal .f32) = (0 : EReal) := by
  show (((0#32 : BitVec 32).toInt : ℝ) : EReal) = 0
  simp

set_option maxHeartbeats 4000000 in
/-- The queries' heads padded. -/
theorem h82 (hq : ∀ a b c, (show EReal from σ main_arg0 (ix3 a b c)) = ((X.q a.val b.val c.val : ℝ) : EReal))
    (hl : ∀ a b c, (show EReal from σ main_v39 (ix3 a b c)) = ((qlat X a.val b.val c.val : ℝ) : EReal))
    (a : Fin 2304) (b : Fin 2048) :
    (show EReal from after opsH σ main_v82 (ix2 a b)) = ((qpad X a.val b.val : ℝ) : EReal) := by
  simp only at hq hl ⊢
  repeat (after_reads_simp; (try simp -implicitDefEqProofs only [StableHlo.TRef.toBuf, StableHlo.TRef.ofBuf, cast_cast, cast_eq]); pointwise)
  simp only [hq, hl, conv_zero]
  unfold qpad qr
  split_ifs
  all_goals first
    | rfl
    | (exfalso; omega)
    | (congr! 2 <;> omega)
    | (congr! 3 <;> omega)
    | (congr! 4 <;> omega)
set_option maxHeartbeats 4000000 in
/-- The keys' heads padded, with ones at three lanes. -/
theorem h87 (hk : ∀ a b c, (show EReal from σ main_arg1 (ix3 a b c)) = ((X.k a.val b.val c.val : ℝ) : EReal))
    (a : Fin 2304) (b : Fin 2048) :
    (show EReal from after opsH σ main_v87 (ix2 a b)) = ((kpad X a.val b.val : ℝ) : EReal) := by
  simp only at hk ⊢
  repeat (after_reads_simp; (try simp -implicitDefEqProofs only [StableHlo.TRef.toBuf, StableHlo.TRef.ofBuf, cast_cast, cast_eq]); pointwise)
  simp only [hk, conv_zero]
  unfold kpad
  split_ifs
  all_goals first
    | rfl
    | (exfalso; omega)
    | (congr! 2 <;> omega)
    | (congr! 3 <;> omega)
    | (congr! 4 <;> omega)
set_option maxHeartbeats 4000000 in
/-- The values' heads side by side. -/
theorem h89 (hk : ∀ a b c, (show EReal from σ main_arg2 (ix3 a b c)) = ((X.v a.val b.val c.val : ℝ) : EReal))
    (a : Fin 2304) (b : Fin 1024) :
    (show EReal from after opsH σ main_v89 (ix2 a b)) = ((vlane X a.val b.val : ℝ) : EReal) := by
  simp only at hk ⊢
  repeat (after_reads_simp; pointwise)
  simp only [hk, vlane]
set_option maxHeartbeats 4000000 in
/-- The outputs' heads side by side. -/
theorem h76 (hk : ∀ a b c, (show EReal from σ main_v72 (ix3 a b c)) = ((out X a.val b.val c.val : ℝ) : EReal))
    (hl : ∀ a b c, (show EReal from σ main_v53 (ix3 a b c)) = ((out X (256 + a.val) b.val c.val : ℝ) : EReal))
    (a : Fin 2304) (b : Fin 1024) :
    (show EReal from after opsH σ main_v76 (ix2 a b)) = ((olane X a.val b.val : ℝ) : EReal) := by
  simp only at hk hl ⊢
  repeat (after_reads_simp; pointwise)
  simp only [hk, hl]
  unfold olane
  split_ifs
  all_goals first
    | rfl
    | (exfalso; omega)
    | (congr! 2 <;> omega)
    | (congr! 3 <;> omega)
    | (congr! 4 <;> omega)
set_option maxHeartbeats 4000000 in
/-- The logarithms of the rows' sums. -/
theorem h77 (hk : ∀ a b c, (show EReal from σ main_v74 (ix3 a b c)) = ((lse X b.val a.val : ℝ) : EReal))
    (hl : ∀ a b c, (show EReal from σ main_v55 (ix3 a b c)) = ((lse X (256 + b.val) a.val : ℝ) : EReal))
    (a : Fin 16) (b : Fin 2304) (c : Fin 1) :
    (show EReal from after opsH σ main_v77 (ix3 a b c)) = ((lse X b.val a.val : ℝ) : EReal) := by
  simp only at hk hl ⊢
  repeat (after_reads_simp; pointwise)
  simp only [hk, hl]
  split_ifs
  all_goals first
    | rfl
    | (exfalso; omega)
    | (congr! 2 <;> omega)
    | (congr! 3 <;> omega)
    | (congr! 4 <;> omega)
set_option maxHeartbeats 4000000 in
/-- The table of the cosines. -/
theorem h102 (hc : ∀ a b, (show EReal from σ main_arg3 (ix2 a b)) = ((X.cs a.val b.val : ℝ) : EReal))
    (a : Fin 2304) (b : Fin 128) :
    (show EReal from after opsH σ main_v102 (ix2 a b)) = ((tabC X a.val b.val : ℝ) : EReal) := by
  simp only at hc ⊢
  repeat (after_reads_simp; pointwise)
  simp only [hc]
  unfold tabC cosX
  split_ifs
  all_goals first
    | rfl
    | (exfalso; omega)
    | (congr! 2 <;> omega)
    | (congr! 3 <;> omega)
    | (congr! 4 <;> omega)
set_option maxHeartbeats 4000000 in
/-- The table for the lanes eight below. -/
theorem h105 (hc : ∀ a b, (show EReal from σ main_arg4 (ix2 a b)) = ((X.sn a.val b.val : ℝ) : EReal))
    (a : Fin 2304) (b : Fin 128) :
    (show EReal from after opsH σ main_v105 (ix2 a b)) = ((tabN X a.val b.val : ℝ) : EReal) := by
  simp only at hc ⊢
  repeat (after_reads_simp; pointwise)
  simp only [hc]
  unfold tabN sinX
  split_ifs
  all_goals first
    | rfl
    | (exfalso; omega)
    | (rw [← EReal.coe_neg]; congr! 3 <;> omega)
    | (congr! 2 <;> omega)
    | (congr! 3 <;> omega)
    | (congr! 4 <;> omega)

set_option maxHeartbeats 4000000 in
/-- The table for the lanes eight above. -/
theorem h106 (hc : ∀ a b, (show EReal from σ main_arg4 (ix2 a b)) = ((X.sn a.val b.val : ℝ) : EReal))
    (a : Fin 2304) (b : Fin 128) :
    (show EReal from after opsH σ main_v106 (ix2 a b)) = ((tabP X a.val b.val : ℝ) : EReal) := by
  simp only at hc ⊢
  repeat (after_reads_simp; pointwise)
  simp only [hc]
  unfold tabP sinX
  split_ifs
  all_goals first
    | rfl
    | (exfalso; omega)
    | (congr! 2 <;> omega)
    | (congr! 3 <;> omega)
    | (congr! 4 <;> omega)

end Attn.Host
-- ==== Proof.HostArgs.lean ====
/-
  The operands of the call when the call starts: every stretch of the host lines read in turn.
-/
module

public import proofs.«01_k».proof.Proof.HostPads
public import proofs.«01_k».proof.Proof.Gen.KernelIdeal.Frame
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384
noncomputable section
open Idealize.ShloMosaic Idealize.ShloMosaic.TcCoe Idealize.SL.Sem Idealize.ShloMosaic.StableHlo
namespace Attn.Host
open Cert.KernelIdeal Cert.KernelIdeal.Gen
variable (X : Inp)

/-- The arguments hold the real numbers of `X`. -/
structure Holds (σ : Valuation τ sig (Elt Ideal)) : Prop where
  q : ∀ a b e, (show EReal from σ main_arg0 (ix3 a b e)) = ((X.q a.val b.val e.val : ℝ) : EReal)
  k : ∀ a b e, (show EReal from σ main_arg1 (ix3 a b e)) = ((X.k a.val b.val e.val : ℝ) : EReal)
  v : ∀ a b e, (show EReal from σ main_arg2 (ix3 a b e)) = ((X.v a.val b.val e.val : ℝ) : EReal)
  cs : ∀ a b, (show EReal from σ main_arg3 (ix2 a b)) = ((X.cs a.val b.val : ℝ) : EReal)
  sn : ∀ a b, (show EReal from σ main_arg4 (ix2 a b)) = ((X.sn a.val b.val : ℝ) : EReal)
  g : ∀ a b, (show EReal from σ main_arg5 (ix2 a b)) = ((X.g a.val b.val : ℝ) : EReal)

theorem cut (V0 : Valuation τ sig (Elt Ideal)) :
    after ([hostOps0, hostOps0_1, hostOps0_2, hostOps0_3, hostOps0_4] : List (List (HloOp τ sig (Elt Ideal)))).flatten V0
      = after opsH (after opsG (after opsF (after opsE (after opsD (after opsC (after opsB (after opsA V0))))))) := by
  rw [← StableHlo.after_append, ← StableHlo.after_append, ← StableHlo.after_append, ← StableHlo.after_append, ← StableHlo.after_append, ← StableHlo.after_append, ← StableHlo.after_append]
  rfl

theorem keepA {σ : Valuation τ sig (Elt Ideal)} (h : Holds X σ) : Holds X (after opsA σ) := by
  refine ⟨?_, ?_, ?_, ?_, ?_, ?_⟩
  all_goals intros; simp only; after_reads_simp
  exacts [h.q _ _ _, h.k _ _ _, h.v _ _ _, h.cs _ _, h.sn _ _, h.g _ _]

theorem keepB {σ : Valuation τ sig (Elt Ideal)} (h : Holds X σ) : Holds X (after opsB σ) := by
  refine ⟨?_, ?_, ?_, ?_, ?_, ?_⟩
  all_goals intros; simp only; after_reads_simp
  exacts [h.q _ _ _, h.k _ _ _, h.v _ _ _, h.cs _ _, h.sn _ _, h.g _ _]

theorem keepC {σ : Valuation τ sig (Elt Ideal)} (h : Holds X σ) : Holds X (after opsC σ) := by
  refine ⟨?_, ?_, ?_, ?_, ?_, ?_⟩
  all_goals intros; simp only; after_reads_simp
  exacts [h.q _ _ _, h.k _ _ _, h.v _ _ _, h.cs _ _, h.sn _ _, h.g _ _]

theorem keepD {σ : Valuation τ sig (Elt Ideal)} (h : Holds X σ) : Holds X (after opsD σ) := by
  refine ⟨?_, ?_, ?_, ?_, ?_, ?_⟩
  all_goals intros; simp only; after_reads_simp
  exacts [h.q _ _ _, h.k _ _ _, h.v _ _ _, h.cs _ _, h.sn _ _, h.g _ _]

theorem keepE {σ : Valuation τ sig (Elt Ideal)} (h : Holds X σ) : Holds X (after opsE σ) := by
  refine ⟨?_, ?_, ?_, ?_, ?_, ?_⟩
  all_goals intros; simp only; after_reads_simp
  exacts [h.q _ _ _, h.k _ _ _, h.v _ _ _, h.cs _ _, h.sn _ _, h.g _ _]

theorem keepF {σ : Valuation τ sig (Elt Ideal)} (h : Holds X σ) : Holds X (after opsF σ) := by
  refine ⟨?_, ?_, ?_, ?_, ?_, ?_⟩
  all_goals intros; simp only; after_reads_simp
  exacts [h.q _ _ _, h.k _ _ _, h.v _ _ _, h.cs _ _, h.sn _ _, h.g _ _]

theorem keepG {σ : Valuation τ sig (Elt Ideal)} (h : Holds X σ) : Holds X (after opsG σ) := by
  refine ⟨?_, ?_, ?_, ?_, ?_, ?_⟩
  all_goals intros; simp only; after_reads_simp
  exacts [h.q _ _ _, h.k _ _ _, h.v _ _ _, h.cs _ _, h.sn _ _, h.g _ _]

theorem keepH {σ : Valuation τ sig (Elt Ideal)} (h : Holds X σ) : Holds X (after opsH σ) := by
  refine ⟨?_, ?_, ?_, ?_, ?_, ?_⟩
  all_goals intros; simp only; after_reads_simp
  exacts [h.q _ _ _, h.k _ _ _, h.v _ _ _, h.cs _ _, h.sn _ _, h.g _ _]

/-- What the call's operands hold. -/
structure Ready (σ : Valuation τ sig (Elt Ideal)) : Prop where
  q : ∀ a b, (show EReal from σ main_v82 (ix2 a b)) = ((qpad X a.val b.val : ℝ) : EReal)
  k : ∀ a b, (show EReal from σ main_v87 (ix2 a b)) = ((kpad X a.val b.val : ℝ) : EReal)
  v : ∀ a b, (show EReal from σ main_v89 (ix2 a b)) = ((vlane X a.val b.val : ℝ) : EReal)
  o : ∀ a b, (show EReal from σ main_v76 (ix2 a b)) = ((olane X a.val b.val : ℝ) : EReal)
  g : ∀ a b, (show EReal from σ main_arg5 (ix2 a b)) = ((X.g a.val b.val : ℝ) : EReal)
  l : ∀ a b e, (show EReal from σ main_v77 (ix3 a b e)) = ((lse X b.val a.val : ℝ) : EReal)
  c : ∀ a b, (show EReal from σ main_v102 (ix2 a b)) = ((tabC X a.val b.val : ℝ) : EReal)
  n : ∀ a b, (show EReal from σ main_v105 (ix2 a b)) = ((tabN X a.val b.val : ℝ) : EReal)
  p : ∀ a b, (show EReal from σ main_v106 (ix2 a b)) = ((tabP X a.val b.val : ℝ) : EReal)

/-- A family of real numbers picked at every row and head. -/
theorem pick {H N : ℕ} (f : Fin H → Fin N → EReal) (hf : ∀ h n, ∃ M : ℝ, f h n = ((M : ℝ) : EReal)) :
    ∃ M : ℕ → ℕ → ℝ, ∀ h n, f h n = ((M n.val h.val : ℝ) : EReal) := by
  choose M hM using hf
  refine ⟨fun n h => if hh : h < H ∧ n < N then M ⟨h, hh.1⟩ ⟨n, hh.2⟩ else 0, fun h n => ?_⟩
  rw [hM]
  simp [h.isLt, n.isLt]

theorem ready (m : (ℓ : Loc nD τ sig) → Buf (Elt Ideal) ℓ) (c : Dev nD) (h0 : Holds X (fun b => m (c, b))) :
    Ready X (fun b => after ([hostOps0, hostOps0_1, hostOps0_2, hostOps0_3, hostOps0_4] :
      List (List (HloOp τ sig (Elt Ideal)))).flatten (fun b => m (c, b)) b) := by
  rw [cut]
  generalize (fun b => m (c, b)) = σ at h0 ⊢
  have k := keepA X h0
  have f39 := a39 X σ h0.q h0.cs h0.sn
  clear h0
  generalize after opsA σ = σA at k f39 ⊢
  have g42 := b42 X σA f39 k.k
  have g39 : ∀ a b e, (show EReal from after opsB σA main_v39 (ix3 a b e)) = ((qlat X a.val b.val e.val : ℝ) : EReal) := by
    intros; simp only; after_reads_simp; exact f39 _ _ _
  replace k := keepB X k
  clear f39
  generalize after opsB σA = σB at k g39 g42 ⊢
  have f39 := g39
  clear g39
  have f42 := g42
  clear g42
  obtain ⟨M, gM⟩ := pick (fun h n => (show EReal from after opsC σB main_v44 (ix3 h n 0)))
    (fun h n => lat_max X σB f42 h n 0)
  have g44 : ∀ a b e, (show EReal from after opsC σB main_v44 (ix3 a b e)) = ((M b.val a.val : ℝ) : EReal) := by
    intro a b e; rw [Subsingleton.elim e 0]; exact gM a b
  clear gM
  have g39 : ∀ a b e, (show EReal from after opsC σB main_v39 (ix3 a b e)) = ((qlat X a.val b.val e.val : ℝ) : EReal) := by
    intros; simp only; after_reads_simp; exact f39 _ _ _
  have g42 : ∀ a b e, (show EReal from after opsC σB main_v42 (ix3 a b e)) = ((sc X (256 + b.val) a.val e.val : ℝ) : EReal) := by
    intros; simp only; after_reads_simp; exact f42 _ _ _
  replace k := keepC X k
  clear f39 f42
  generalize after opsC σB = σC at k g39 g42 g44 ⊢
  have f39 := g39
  clear g39
  have f42 := g42
  clear g42
  have f44 := g44
  clear g44
  have g53 := lat_out X σC f42 M f44 k.v
  have g55 := lat_lse X σC f42 M f44
  have g39 : ∀ a b e, (show EReal from after opsD σC main_v39 (ix3 a b e)) = ((qlat X a.val b.val e.val : ℝ) : EReal) := by
    intros; simp only; after_reads_simp; exact f39 _ _ _
  replace k := keepD X k
  clear f39 f42 f44
  generalize after opsD σC = σD at k g39 g53 g55 ⊢
  have f39 := g39
  clear g39
  have f53 := g53
  clear g53
  have f55 := g55
  clear g55
  have g61 := e61 X σD k.q k.k
  have g58 := e58 X σD k.v
  have g39 : ∀ a b e, (show EReal from after opsE σD main_v39 (ix3 a b e)) = ((qlat X a.val b.val e.val : ℝ) : EReal) := by
    intros; simp only; after_reads_simp; exact f39 _ _ _
  have g53 : ∀ a b e, (show EReal from after opsE σD main_v53 (ix3 a b e)) = ((out X (256 + a.val) b.val e.val : ℝ) : EReal) := by
    intros; simp only; after_reads_simp; exact f53 _ _ _
  have g55 : ∀ a b e, (show EReal from after opsE σD main_v55 (ix3 a b e)) = ((lse X (256 + b.val) a.val : ℝ) : EReal) := by
    intros; simp only; after_reads_simp; exact f55 _ _ _
  replace k := keepE X k
  clear f39 f53 f55
  generalize after opsE σD = σE at k g39 g53 g55 g61 g58 ⊢
  have f39 := g39
  clear g39
  have f53 := g53
  clear g53
  have f55 := g55
  clear g55
  have f61 := g61
  clear g61
  have f58 := g58
  clear g58
  obtain ⟨M', gM⟩ := pick (fun h n => (show EReal from after opsF σE main_v63 (ix3 h n 0)))
    (fun h n => ctx_max X σE f61 h n 0)
  have g63 : ∀ a b e, (show EReal from after opsF σE main_v63 (ix3 a b e)) = ((M' b.val a.val : ℝ) : EReal) := by
    intro a b e; rw [Subsingleton.elim e 0]; exact gM a b
  clear gM
  have g39 : ∀ a b e, (show EReal from after opsF σE main_v39 (ix3 a b e)) = ((qlat X a.val b.val e.val : ℝ) : EReal) := by
    intros; simp only; after_reads_simp; exact f39 _ _ _
  have g53 : ∀ a b e, (show EReal from after opsF σE main_v53 (ix3 a b e)) = ((out X (256 + a.val) b.val e.val : ℝ) : EReal) := by
    intros; simp only; after_reads_simp; exact f53 _ _ _
  have g55 : ∀ a b e, (show EReal from after opsF σE main_v55 (ix3 a b e)) = ((lse X (256 + b.val) a.val : ℝ) : EReal) := by
    intros; simp only; after_reads_simp; exact f55 _ _ _
  have g61 : ∀ a b e, (show EReal from after opsF σE main_v61 (ix3 a b e)) = ((sc X b.val a.val e.val : ℝ) : EReal) := by
    intros; simp only; after_reads_simp; exact f61 _ _ _
  have g58 : ∀ a b e, (show EReal from after opsF σE main_v58 (ix3 a b e)) = ((X.v a.val b.val e.val : ℝ) : EReal) := by
    intros; simp only; after_reads_simp; exact f58 _ _ _
  replace k := keepF X k
  clear f39 f53 f55 f61 f58
  generalize after opsF σE = σF at k g39 g53 g55 g61 g58 g63 ⊢
  have f39 := g39
  clear g39
  have f53 := g53
  clear g53
  have f55 := g55
  clear g55
  have f61 := g61
  clear g61
  have f58 := g58
  clear g58
  have f63 := g63
  clear g63
  have g72 := ctx_out X σF f61 M' f63 f58
  have g74 := ctx_lse X σF f61 M' f63
  have g39 : ∀ a b e, (show EReal from after opsG σF main_v39 (ix3 a b e)) = ((qlat X a.val b.val e.val : ℝ) : EReal) := by
    intros; simp only; after_reads_simp; exact f39 _ _ _
  have g53 : ∀ a b e, (show EReal from after opsG σF main_v53 (ix3 a b e)) = ((out X (256 + a.val) b.val e.val : ℝ) : EReal) := by
    intros; simp only; after_reads_simp; exact f53 _ _ _
  have g55 : ∀ a b e, (show EReal from after opsG σF main_v55 (ix3 a b e)) = ((lse X (256 + b.val) a.val : ℝ) : EReal) := by
    intros; simp only; after_reads_simp; exact f55 _ _ _
  replace k := keepG X k
  clear f39 f53 f55 f61 f58 f63
  generalize after opsG σF = σG at k g39 g53 g55 g72 g74 ⊢
  have f39 := g39
  clear g39
  have f53 := g53
  clear g53
  have f55 := g55
  clear g55
  have f72 := g72
  clear g72
  have f74 := g74
  clear g74
  exact ⟨h82 X σG k.q f39, h87 X σG k.k, h89 X σG k.v, h76 X σG f72 f53, (keepH X k).g, h77 X σG f74 f55,
    h102 X σG k.cs, h105 X σG k.sn, h106 X σG k.sn⟩
end Attn.Host
-- ==== Proof.Blocks.lean ====
/-
  The blocks the call's body reads at a grid point: pair of heads `t / 9`, block of 256 queries `t % 9`.
-/
module

public import proofs.«01_k».proof.Proof.HostArgs

@[expose] public section

set_option maxRecDepth 16384
noncomputable section
open Idealize.ShloMosaic Idealize.ShloMosaic.TcCoe Idealize.SL.Sem Idealize.ShloMosaic.StableHlo
namespace Attn.Blocks
open Cert.KernelIdeal Cert.KernelIdeal.Gen
variable (X : Inp) (m : (ℓ : Loc nD τ sig) → Buf (Elt Ideal) ℓ) (c : Dev nD)

/-- The launch arguments hold the real numbers of `X`. -/
abbrev Start : Prop := Host.Holds X (fun b => m (c, b))

theorem coords2 {N M : ℕ} (i : (⟨2, ![N, M]⟩ : Shape).Idx) : ∃ (a : Fin N) (b : Fin M), i = ix2 a b :=
  ⟨i 0, i 1, by funext k; fin_cases k <;> rfl⟩
theorem coords3 {N M K : ℕ} (i : (⟨3, ![N, M, K]⟩ : Shape).Idx) : ∃ (a : Fin N) (b : Fin M) (e : Fin K), i = ix3 a b e :=
  ⟨i 0, i 1, i 2, by funext k; fin_cases k <;> rfl⟩

theorem index0 : ∀ t : Fin cfg0.N, win0_0.index t (0 : Fin 2) = t.val % 9 ∧ win0_0.index t (1 : Fin 2) = t.val / 9 :=
  (by decide +kernel : ∀ t : Fin grid0.N, _)
theorem row0 (t : Fin cfg0.N) (a : Fin 256) (b : Fin 256) :
    (((cfg0.win 0).blk t).view.emb (ix2 a b) 0).val = win0_0.index t (0 : Fin 2) * 256 + 1 * a.val := rfl
theorem col0 (t : Fin cfg0.N) (a : Fin 256) (b : Fin 256) :
    (((cfg0.win 0).blk t).view.emb (ix2 a b) 1).val = win0_0.index t (1 : Fin 2) * 256 + 1 * b.val := rfl
theorem place0 (t : Fin cfg0.N) (a : Fin 256) (b : Fin 256) : ((cfg0.win 0).blk t).view.emb (ix2 a b) =
    (ix2 ⟨256 * (t.val % 9) + a.val, by have := t.isLt; have : cfg0.N = 72 := N_0; omega⟩ ⟨256 * (t.val / 9) + b.val, by have := t.isLt; have : cfg0.N = 72 := N_0; omega⟩ : (⟨2, ![2304, 2048]⟩ : Shape).Idx) := by
  funext k
  refine Fin.ext ?_
  have h := index0 t
  fin_cases k
  · refine (row0 t a b).trans ?_
    rw [h.1]; show _ = 256 * (t.val % 9) + a.val; omega
  · refine (col0 t a b).trans ?_
    rw [h.2]; show _ = 256 * (t.val / 9) + b.val; omega
theorem read0 (f : ℕ → ℕ → ℝ) (t : Fin cfg0.N) (A : Buf (Elt Ideal) ((c : Thread nD τ).loc main_v82))
    (hA : ∀ a b, (show EReal from A (ix2 a b)) = ((f a.val b.val : ℝ) : EReal)) (a : Fin 256) (b : Fin 256) :
    (show EReal from ((cfg0.win 0).blk t).view.read (Elt Ideal) A (ix2 a b)) = ((f (256 * (t.val % 9) + a.val) (256 * (t.val / 9) + b.val) : ℝ) : EReal) := by
  refine Eq.trans ?_ (hA ⟨256 * (t.val % 9) + a.val, by have := t.isLt; have : cfg0.N = 72 := N_0; omega⟩ ⟨256 * (t.val / 9) + b.val, by have := t.isLt; have : cfg0.N = 72 := N_0; omega⟩)
  exact congrArg A (place0 t a b)
theorem entry0 (hs : Start X m c) (a b) : (show EReal from V m c main_v82 (ix2 a b)) = ((qpad X a.val b.val : ℝ) : EReal) :=
  (Host.ready X m c hs).q a b
/-- Window 0's block at a grid point, at a row and a lane. -/
theorem blk0 (hs : Start X m c) (t : Fin cfg0.N) (a : Fin 256) (b : Fin 256) :
    (show EReal from iblk m c 0 t (ix2 a b)) = ((qpad X (256 * (t.val % 9) + a.val) (256 * (t.val / 9) + b.val) : ℝ) : EReal) := by
  have := entry0 X m c hs
  unfold iblk
  generalize V m c (Pipeline.arrRef spec0 0) = A at this ⊢
  exact read0 c (qpad X) t A this a b

theorem index1 : ∀ t : Fin cfg0.N, win0_1.index t (0 : Fin 2) = 0 ∧ win0_1.index t (1 : Fin 2) = t.val / 9 :=
  (by decide +kernel : ∀ t : Fin grid0.N, _)
theorem row1 (t : Fin cfg0.N) (a : Fin 2304) (b : Fin 256) :
    (((cfg0.win 1).blk t).view.emb (ix2 a b) 0).val = win0_1.index t (0 : Fin 2) * 2304 + 1 * a.val := rfl
theorem col1 (t : Fin cfg0.N) (a : Fin 2304) (b : Fin 256) :
    (((cfg0.win 1).blk t).view.emb (ix2 a b) 1).val = win0_1.index t (1 : Fin 2) * 256 + 1 * b.val := rfl
theorem place1 (t : Fin cfg0.N) (a : Fin 2304) (b : Fin 256) : ((cfg0.win 1).blk t).view.emb (ix2 a b) =
    (ix2 ⟨a.val, by have := t.isLt; have : cfg0.N = 72 := N_0; omega⟩ ⟨256 * (t.val / 9) + b.val, by have := t.isLt; have : cfg0.N = 72 := N_0; omega⟩ : (⟨2, ![2304, 2048]⟩ : Shape).Idx) := by
  funext k
  refine Fin.ext ?_
  have h := index1 t
  fin_cases k
  · refine (row1 t a b).trans ?_
    rw [h.1]; show _ = a.val; omega
  · refine (col1 t a b).trans ?_
    rw [h.2]; show _ = 256 * (t.val / 9) + b.val; omega
theorem read1 (f : ℕ → ℕ → ℝ) (t : Fin cfg0.N) (A : Buf (Elt Ideal) ((c : Thread nD τ).loc main_v87))
    (hA : ∀ a b, (show EReal from A (ix2 a b)) = ((f a.val b.val : ℝ) : EReal)) (a : Fin 2304) (b : Fin 256) :
    (show EReal from ((cfg0.win 1).blk t).view.read (Elt Ideal) A (ix2 a b)) = ((f (a.val) (256 * (t.val / 9) + b.val) : ℝ) : EReal) := by
  refine Eq.trans ?_ (hA ⟨a.val, by have := t.isLt; have : cfg0.N = 72 := N_0; omega⟩ ⟨256 * (t.val / 9) + b.val, by have := t.isLt; have : cfg0.N = 72 := N_0; omega⟩)
  exact congrArg A (place1 t a b)
theorem entry1 (hs : Start X m c) (a b) : (show EReal from V m c main_v87 (ix2 a b)) = ((kpad X a.val b.val : ℝ) : EReal) :=
  (Host.ready X m c hs).k a b
/-- Window 1's block at a grid point, at a row and a lane. -/
theorem blk1 (hs : Start X m c) (t : Fin cfg0.N) (a : Fin 2304) (b : Fin 256) :
    (show EReal from iblk m c 1 t (ix2 a b)) = ((kpad X (a.val) (256 * (t.val / 9) + b.val) : ℝ) : EReal) := by
  have := entry1 X m c hs
  unfold iblk
  generalize V m c (Pipeline.arrRef spec0 1) = A at this ⊢
  exact read1 c (kpad X) t A this a b

theorem index2 : ∀ t : Fin cfg0.N, win0_2.index t (0 : Fin 2) = 0 ∧ win0_2.index t (1 : Fin 2) = t.val / 9 :=
  (by decide +kernel : ∀ t : Fin grid0.N, _)
theorem row2 (t : Fin cfg0.N) (a : Fin 2304) (b : Fin 128) :
    (((cfg0.win 2).blk t).view.emb (ix2 a b) 0).val = win0_2.index t (0 : Fin 2) * 2304 + 1 * a.val := rfl
theorem col2 (t : Fin cfg0.N) (a : Fin 2304) (b : Fin 128) :
    (((cfg0.win 2).blk t).view.emb (ix2 a b) 1).val = win0_2.index t (1 : Fin 2) * 128 + 1 * b.val := rfl
theorem place2 (t : Fin cfg0.N) (a : Fin 2304) (b : Fin 128) : ((cfg0.win 2).blk t).view.emb (ix2 a b) =
    (ix2 ⟨a.val, by have := t.isLt; have : cfg0.N = 72 := N_0; omega⟩ ⟨128 * (t.val / 9) + b.val, by have := t.isLt; have : cfg0.N = 72 := N_0; omega⟩ : (⟨2, ![2304, 1024]⟩ : Shape).Idx) := by
  funext k
  refine Fin.ext ?_
  have h := index2 t
  fin_cases k
  · refine (row2 t a b).trans ?_
    rw [h.1]; show _ = a.val; omega
  · refine (col2 t a b).trans ?_
    rw [h.2]; show _ = 128 * (t.val / 9) + b.val; omega
theorem read2 (f : ℕ → ℕ → ℝ) (t : Fin cfg0.N) (A : Buf (Elt Ideal) ((c : Thread nD τ).loc main_v89))
    (hA : ∀ a b, (show EReal from A (ix2 a b)) = ((f a.val b.val : ℝ) : EReal)) (a : Fin 2304) (b : Fin 128) :
    (show EReal from ((cfg0.win 2).blk t).view.read (Elt Ideal) A (ix2 a b)) = ((f (a.val) (128 * (t.val / 9) + b.val) : ℝ) : EReal) := by
  refine Eq.trans ?_ (hA ⟨a.val, by have := t.isLt; have : cfg0.N = 72 := N_0; omega⟩ ⟨128 * (t.val / 9) + b.val, by have := t.isLt; have : cfg0.N = 72 := N_0; omega⟩)
  exact congrArg A (place2 t a b)
theorem entry2 (hs : Start X m c) (a b) : (show EReal from V m c main_v89 (ix2 a b)) = ((vlane X a.val b.val : ℝ) : EReal) :=
  (Host.ready X m c hs).v a b
/-- Window 2's block at a grid point, at a row and a lane. -/
theorem blk2 (hs : Start X m c) (t : Fin cfg0.N) (a : Fin 2304) (b : Fin 128) :
    (show EReal from iblk m c 2 t (ix2 a b)) = ((vlane X (a.val) (128 * (t.val / 9) + b.val) : ℝ) : EReal) := by
  have := entry2 X m c hs
  unfold iblk
  generalize V m c (Pipeline.arrRef spec0 2) = A at this ⊢
  exact read2 c (vlane X) t A this a b

theorem index3 : ∀ t : Fin cfg0.N, win0_3.index t (0 : Fin 2) = t.val % 9 ∧ win0_3.index t (1 : Fin 2) = t.val / 9 :=
  (by decide +kernel : ∀ t : Fin grid0.N, _)
theorem row3 (t : Fin cfg0.N) (a : Fin 256) (b : Fin 128) :
    (((cfg0.win 3).blk t).view.emb (ix2 a b) 0).val = win0_3.index t (0 : Fin 2) * 256 + 1 * a.val := rfl
theorem col3 (t : Fin cfg0.N) (a : Fin 256) (b : Fin 128) :
    (((cfg0.win 3).blk t).view.emb (ix2 a b) 1).val = win0_3.index t (1 : Fin 2) * 128 + 1 * b.val := rfl
theorem place3 (t : Fin cfg0.N) (a : Fin 256) (b : Fin 128) : ((cfg0.win 3).blk t).view.emb (ix2 a b) =
    (ix2 ⟨256 * (t.val % 9) + a.val, by have := t.isLt; have : cfg0.N = 72 := N_0; omega⟩ ⟨128 * (t.val / 9) + b.val, by have := t.isLt; have : cfg0.N = 72 := N_0; omega⟩ : (⟨2, ![2304, 1024]⟩ : Shape).Idx) := by
  funext k
  refine Fin.ext ?_
  have h := index3 t
  fin_cases k
  · refine (row3 t a b).trans ?_
    rw [h.1]; show _ = 256 * (t.val % 9) + a.val; omega
  · refine (col3 t a b).trans ?_
    rw [h.2]; show _ = 128 * (t.val / 9) + b.val; omega
theorem read3 (f : ℕ → ℕ → ℝ) (t : Fin cfg0.N) (A : Buf (Elt Ideal) ((c : Thread nD τ).loc main_v76))
    (hA : ∀ a b, (show EReal from A (ix2 a b)) = ((f a.val b.val : ℝ) : EReal)) (a : Fin 256) (b : Fin 128) :
    (show EReal from ((cfg0.win 3).blk t).view.read (Elt Ideal) A (ix2 a b)) = ((f (256 * (t.val % 9) + a.val) (128 * (t.val / 9) + b.val) : ℝ) : EReal) := by
  refine Eq.trans ?_ (hA ⟨256 * (t.val % 9) + a.val, by have := t.isLt; have : cfg0.N = 72 := N_0; omega⟩ ⟨128 * (t.val / 9) + b.val, by have := t.isLt; have : cfg0.N = 72 := N_0; omega⟩)
  exact congrArg A (place3 t a b)
theorem entry3 (hs : Start X m c) (a b) : (show EReal from V m c main_v76 (ix2 a b)) = ((olane X a.val b.val : ℝ) : EReal) :=
  (Host.ready X m c hs).o a b
/-- Window 3's block at a grid point, at a row and a lane. -/
theorem blk3 (hs : Start X m c) (t : Fin cfg0.N) (a : Fin 256) (b : Fin 128) :
    (show EReal from iblk m c 3 t (ix2 a b)) = ((olane X (256 * (t.val % 9) + a.val) (128 * (t.val / 9) + b.val) : ℝ) : EReal) := by
  have := entry3 X m c hs
  unfold iblk
  generalize V m c (Pipeline.arrRef spec0 3) = A at this ⊢
  exact read3 c (olane X) t A this a b

theorem index4 : ∀ t : Fin cfg0.N, win0_4.index t (0 : Fin 2) = t.val % 9 ∧ win0_4.index t (1 : Fin 2) = t.val / 9 :=
  (by decide +kernel : ∀ t : Fin grid0.N, _)
theorem row4 (t : Fin cfg0.N) (a : Fin 256) (b : Fin 128) :
    (((cfg0.win 4).blk t).view.emb (ix2 a b) 0).val = win0_4.index t (0 : Fin 2) * 256 + 1 * a.val := rfl
theorem col4 (t : Fin cfg0.N) (a : Fin 256) (b : Fin 128) :
    (((cfg0.win 4).blk t).view.emb (ix2 a b) 1).val = win0_4.index t (1 : Fin 2) * 128 + 1 * b.val := rfl
theorem place4 (t : Fin cfg0.N) (a : Fin 256) (b : Fin 128) : ((cfg0.win 4).blk t).view.emb (ix2 a b) =
    (ix2 ⟨256 * (t.val % 9) + a.val, by have := t.isLt; have : cfg0.N = 72 := N_0; omega⟩ ⟨128 * (t.val / 9) + b.val, by have := t.isLt; have : cfg0.N = 72 := N_0; omega⟩ : (⟨2, ![2304, 1024]⟩ : Shape).Idx) := by
  funext k
  refine Fin.ext ?_
  have h := index4 t
  fin_cases k
  · refine (row4 t a b).trans ?_
    rw [h.1]; show _ = 256 * (t.val % 9) + a.val; omega
  · refine (col4 t a b).trans ?_
    rw [h.2]; show _ = 128 * (t.val / 9) + b.val; omega
theorem read4 (f : ℕ → ℕ → ℝ) (t : Fin cfg0.N) (A : Buf (Elt Ideal) ((c : Thread nD τ).loc main_arg5))
    (hA : ∀ a b, (show EReal from A (ix2 a b)) = ((f a.val b.val : ℝ) : EReal)) (a : Fin 256) (b : Fin 128) :
    (show EReal from ((cfg0.win 4).blk t).view.read (Elt Ideal) A (ix2 a b)) = ((f (256 * (t.val % 9) + a.val) (128 * (t.val / 9) + b.val) : ℝ) : EReal) := by
  refine Eq.trans ?_ (hA ⟨256 * (t.val % 9) + a.val, by have := t.isLt; have : cfg0.N = 72 := N_0; omega⟩ ⟨128 * (t.val / 9) + b.val, by have := t.isLt; have : cfg0.N = 72 := N_0; omega⟩)
  exact congrArg A (place4 t a b)
theorem entry4 (hs : Start X m c) (a b) : (show EReal from V m c main_arg5 (ix2 a b)) = ((X.g a.val b.val : ℝ) : EReal) :=
  (Host.ready X m c hs).g a b
/-- Window 4's block at a grid point, at a row and a lane. -/
theorem blk4 (hs : Start X m c) (t : Fin cfg0.N) (a : Fin 256) (b : Fin 128) :
    (show EReal from iblk m c 4 t (ix2 a b)) = ((X.g (256 * (t.val % 9) + a.val) (128 * (t.val / 9) + b.val) : ℝ) : EReal) := by
  have := entry4 X m c hs
  unfold iblk
  generalize V m c (Pipeline.arrRef spec0 4) = A at this ⊢
  exact read4 c X.g t A this a b

theorem index6 : ∀ t : Fin cfg0.N, win0_6.index t (0 : Fin 2) = t.val % 9 ∧ win0_6.index t (1 : Fin 2) = 0 :=
  (by decide +kernel : ∀ t : Fin grid0.N, _)
theorem row6 (t : Fin cfg0.N) (a : Fin 256) (b : Fin 128) :
    (((cfg0.win 6).blk t).view.emb (ix2 a b) 0).val = win0_6.index t (0 : Fin 2) * 256 + 1 * a.val := rfl
theorem col6 (t : Fin cfg0.N) (a : Fin 256) (b : Fin 128) :
    (((cfg0.win 6).blk t).view.emb (ix2 a b) 1).val = win0_6.index t (1 : Fin 2) * 128 + 1 * b.val := rfl
theorem place6 (t : Fin cfg0.N) (a : Fin 256) (b : Fin 128) : ((cfg0.win 6).blk t).view.emb (ix2 a b) =
    (ix2 ⟨256 * (t.val % 9) + a.val, by have := t.isLt; have : cfg0.N = 72 := N_0; omega⟩ ⟨b.val, by have := t.isLt; have : cfg0.N = 72 := N_0; omega⟩ : (⟨2, ![2304, 128]⟩ : Shape).Idx) := by
  funext k
  refine Fin.ext ?_
  have h := index6 t
  fin_cases k
  · refine (row6 t a b).trans ?_
    rw [h.1]; show _ = 256 * (t.val % 9) + a.val; omega
  · refine (col6 t a b).trans ?_
    rw [h.2]; show _ = b.val; omega
theorem read6 (f : ℕ → ℕ → ℝ) (t : Fin cfg0.N) (A : Buf (Elt Ideal) ((c : Thread nD τ).loc main_v102))
    (hA : ∀ a b, (show EReal from A (ix2 a b)) = ((f a.val b.val : ℝ) : EReal)) (a : Fin 256) (b : Fin 128) :
    (show EReal from ((cfg0.win 6).blk t).view.read (Elt Ideal) A (ix2 a b)) = ((f (256 * (t.val % 9) + a.val) (b.val) : ℝ) : EReal) := by
  refine Eq.trans ?_ (hA ⟨256 * (t.val % 9) + a.val, by have := t.isLt; have : cfg0.N = 72 := N_0; omega⟩ ⟨b.val, by have := t.isLt; have : cfg0.N = 72 := N_0; omega⟩)
  exact congrArg A (place6 t a b)
theorem entry6 (hs : Start X m c) (a b) : (show EReal from V m c main_v102 (ix2 a b)) = ((tabC X a.val b.val : ℝ) : EReal) :=
  (Host.ready X m c hs).c a b
/-- Window 6's block at a grid point, at a row and a lane. -/
theorem blk6 (hs : Start X m c) (t : Fin cfg0.N) (a : Fin 256) (b : Fin 128) :
    (show EReal from iblk m c 6 t (ix2 a b)) = ((tabC X (256 * (t.val % 9) + a.val) (b.val) : ℝ) : EReal) := by
  have := entry6 X m c hs
  unfold iblk
  generalize V m c (Pipeline.arrRef spec0 6) = A at this ⊢
  exact read6 c (tabC X) t A this a b

theorem index7 : ∀ t : Fin cfg0.N, win0_7.index t (0 : Fin 2) = t.val % 9 ∧ win0_7.index t (1 : Fin 2) = 0 :=
  (by decide +kernel : ∀ t : Fin grid0.N, _)
theorem row7 (t : Fin cfg0.N) (a : Fin 256) (b : Fin 128) :
    (((cfg0.win 7).blk t).view.emb (ix2 a b) 0).val = win0_7.index t (0 : Fin 2) * 256 + 1 * a.val := rfl
theorem col7 (t : Fin cfg0.N) (a : Fin 256) (b : Fin 128) :
    (((cfg0.win 7).blk t).view.emb (ix2 a b) 1).val = win0_7.index t (1 : Fin 2) * 128 + 1 * b.val := rfl
theorem place7 (t : Fin cfg0.N) (a : Fin 256) (b : Fin 128) : ((cfg0.win 7).blk t).view.emb (ix2 a b) =
    (ix2 ⟨256 * (t.val % 9) + a.val, by have := t.isLt; have : cfg0.N = 72 := N_0; omega⟩ ⟨b.val, by have := t.isLt; have : cfg0.N = 72 := N_0; omega⟩ : (⟨2, ![2304, 128]⟩ : Shape).Idx) := by
  funext k
  refine Fin.ext ?_
  have h := index7 t
  fin_cases k
  · refine (row7 t a b).trans ?_
    rw [h.1]; show _ = 256 * (t.val % 9) + a.val; omega
  · refine (col7 t a b).trans ?_
    rw [h.2]; show _ = b.val; omega
theorem read7 (f : ℕ → ℕ → ℝ) (t : Fin cfg0.N) (A : Buf (Elt Ideal) ((c : Thread nD τ).loc main_v105))
    (hA : ∀ a b, (show EReal from A (ix2 a b)) = ((f a.val b.val : ℝ) : EReal)) (a : Fin 256) (b : Fin 128) :
    (show EReal from ((cfg0.win 7).blk t).view.read (Elt Ideal) A (ix2 a b)) = ((f (256 * (t.val % 9) + a.val) (b.val) : ℝ) : EReal) := by
  refine Eq.trans ?_ (hA ⟨256 * (t.val % 9) + a.val, by have := t.isLt; have : cfg0.N = 72 := N_0; omega⟩ ⟨b.val, by have := t.isLt; have : cfg0.N = 72 := N_0; omega⟩)
  exact congrArg A (place7 t a b)
theorem entry7 (hs : Start X m c) (a b) : (show EReal from V m c main_v105 (ix2 a b)) = ((tabN X a.val b.val : ℝ) : EReal) :=
  (Host.ready X m c hs).n a b
/-- Window 7's block at a grid point, at a row and a lane. -/
theorem blk7 (hs : Start X m c) (t : Fin cfg0.N) (a : Fin 256) (b : Fin 128) :
    (show EReal from iblk m c 7 t (ix2 a b)) = ((tabN X (256 * (t.val % 9) + a.val) (b.val) : ℝ) : EReal) := by
  have := entry7 X m c hs
  unfold iblk
  generalize V m c (Pipeline.arrRef spec0 7) = A at this ⊢
  exact read7 c (tabN X) t A this a b

theorem index8 : ∀ t : Fin cfg0.N, win0_8.index t (0 : Fin 2) = t.val % 9 ∧ win0_8.index t (1 : Fin 2) = 0 :=
  (by decide +kernel : ∀ t : Fin grid0.N, _)
theorem row8 (t : Fin cfg0.N) (a : Fin 256) (b : Fin 128) :
    (((cfg0.win 8).blk t).view.emb (ix2 a b) 0).val = win0_8.index t (0 : Fin 2) * 256 + 1 * a.val := rfl
theorem col8 (t : Fin cfg0.N) (a : Fin 256) (b : Fin 128) :
    (((cfg0.win 8).blk t).view.emb (ix2 a b) 1).val = win0_8.index t (1 : Fin 2) * 128 + 1 * b.val := rfl
theorem place8 (t : Fin cfg0.N) (a : Fin 256) (b : Fin 128) : ((cfg0.win 8).blk t).view.emb (ix2 a b) =
    (ix2 ⟨256 * (t.val % 9) + a.val, by have := t.isLt; have : cfg0.N = 72 := N_0; omega⟩ ⟨b.val, by have := t.isLt; have : cfg0.N = 72 := N_0; omega⟩ : (⟨2, ![2304, 128]⟩ : Shape).Idx) := by
  funext k
  refine Fin.ext ?_
  have h := index8 t
  fin_cases k
  · refine (row8 t a b).trans ?_
    rw [h.1]; show _ = 256 * (t.val % 9) + a.val; omega
  · refine (col8 t a b).trans ?_
    rw [h.2]; show _ = b.val; omega
theorem read8 (f : ℕ → ℕ → ℝ) (t : Fin cfg0.N) (A : Buf (Elt Ideal) ((c : Thread nD τ).loc main_v106))
    (hA : ∀ a b, (show EReal from A (ix2 a b)) = ((f a.val b.val : ℝ) : EReal)) (a : Fin 256) (b : Fin 128) :
    (show EReal from ((cfg0.win 8).blk t).view.read (Elt Ideal) A (ix2 a b)) = ((f (256 * (t.val % 9) + a.val) (b.val) : ℝ) : EReal) := by
  refine Eq.trans ?_ (hA ⟨256 * (t.val % 9) + a.val, by have := t.isLt; have : cfg0.N = 72 := N_0; omega⟩ ⟨b.val, by have := t.isLt; have : cfg0.N = 72 := N_0; omega⟩)
  exact congrArg A (place8 t a b)
theorem entry8 (hs : Start X m c) (a b) : (show EReal from V m c main_v106 (ix2 a b)) = ((tabP X a.val b.val : ℝ) : EReal) :=
  (Host.ready X m c hs).p a b
/-- Window 8's block at a grid point, at a row and a lane. -/
theorem blk8 (hs : Start X m c) (t : Fin cfg0.N) (a : Fin 256) (b : Fin 128) :
    (show EReal from iblk m c 8 t (ix2 a b)) = ((tabP X (256 * (t.val % 9) + a.val) (b.val) : ℝ) : EReal) := by
  have := entry8 X m c hs
  unfold iblk
  generalize V m c (Pipeline.arrRef spec0 8) = A at this ⊢
  exact read8 c (tabP X) t A this a b

theorem index5 : ∀ t : Fin cfg0.N, win0_5.index t (0 : Fin 3) = t.val / 9 ∧ win0_5.index t (1 : Fin 3) = t.val % 9 ∧ win0_5.index t (2 : Fin 3) = 0 :=
  (by decide +kernel : ∀ t : Fin grid0.N, _)
theorem head5 (t : Fin cfg0.N) (a : Fin 2) (b : Fin 256) (e : Fin 1) :
    (((cfg0.win 5).blk t).view.emb (ix3 a b e) 0).val = win0_5.index t (0 : Fin 3) * 2 + 1 * a.val := rfl
theorem row5 (t : Fin cfg0.N) (a : Fin 2) (b : Fin 256) (e : Fin 1) :
    (((cfg0.win 5).blk t).view.emb (ix3 a b e) 1).val = win0_5.index t (1 : Fin 3) * 256 + 1 * b.val := rfl
theorem col5 (t : Fin cfg0.N) (a : Fin 2) (b : Fin 256) (e : Fin 1) :
    (((cfg0.win 5).blk t).view.emb (ix3 a b e) 2).val = win0_5.index t (2 : Fin 3) * 1 + 1 * e.val := rfl
theorem place5 (t : Fin cfg0.N) (a : Fin 2) (b : Fin 256) (e : Fin 1) : ((cfg0.win 5).blk t).view.emb (ix3 a b e) =
    (ix3 ⟨2 * (t.val / 9) + a.val, by have := t.isLt; have : cfg0.N = 72 := N_0; omega⟩
      ⟨256 * (t.val % 9) + b.val, by omega⟩ e : (⟨3, ![16, 2304, 1]⟩ : Shape).Idx) := by
  funext k
  refine Fin.ext ?_
  have h := index5 t
  fin_cases k
  · refine (head5 t a b e).trans ?_
    rw [h.1]; show _ = 2 * (t.val / 9) + a.val; omega
  · refine (row5 t a b e).trans ?_
    rw [h.2.1]; show _ = 256 * (t.val % 9) + b.val; omega
  · refine (col5 t a b e).trans ?_
    rw [h.2.2]; show _ = e.val; omega
theorem read5 (f : ℕ → ℕ → ℝ) (t : Fin cfg0.N) (A : Buf (Elt Ideal) ((c : Thread nD τ).loc main_v77))
    (hA : ∀ a b e, (show EReal from A (ix3 a b e)) = ((f b.val a.val : ℝ) : EReal)) (a : Fin 2) (b : Fin 256) (e : Fin 1) :
    (show EReal from ((cfg0.win 5).blk t).view.read (Elt Ideal) A (ix3 a b e))
      = ((f (256 * (t.val % 9) + b.val) (2 * (t.val / 9) + a.val) : ℝ) : EReal) := by
  refine Eq.trans ?_ (hA ⟨2 * (t.val / 9) + a.val, by have := t.isLt; have : cfg0.N = 72 := N_0; omega⟩
    ⟨256 * (t.val % 9) + b.val, by omega⟩ e)
  exact congrArg A (place5 t a b e)
theorem entry5 (hs : Start X m c) (a b e) : (show EReal from V m c main_v77 (ix3 a b e)) = ((lse X b.val a.val : ℝ) : EReal) :=
  (Host.ready X m c hs).l a b e
/-- Window 5's block (the row log sums of the pair's two heads) at a grid point. -/
theorem blk5 (hs : Start X m c) (t : Fin cfg0.N) (a : Fin 2) (b : Fin 256) (e : Fin 1) :
    (show EReal from iblk m c 5 t (ix3 a b e)) = ((lse X (256 * (t.val % 9) + b.val) (2 * (t.val / 9) + a.val) : ℝ) : EReal) := by
  have := entry5 X m c hs
  unfold iblk
  generalize V m c (Pipeline.arrRef spec0 5) = A at this ⊢
  exact read5 c (lse X) t A this a b e

end Attn.Blocks
-- ==== Proof.Sweep.lean ====
/-
  The nine blocks of queries of one pair of heads, one after the other: the two running sums, and the arrays the call
  leaves.
-/
module

public import proofs.«01_k».proof.Proof.Outs
public import proofs.«01_k».proof.Proof.Blocks
public import proofs.«01_k».proof.Proof.Gen.KernelIdeal.Value

@[expose] public section

set_option maxRecDepth 16384
noncomputable section
open Idealize.ShloMosaic Idealize.ShloMosaic.TcCoe Idealize.SL.Sem
namespace Attn.Sweep
open Cert.KernelIdeal Cert.KernelIdeal.Gen
variable (X : Inp) (m : (ℓ : Loc nD τ sig) → Buf (Elt Ideal) ℓ) (c : Dev nD)

/-- The blocks of the pair of heads `p` and the block of queries `i`. -/
def blk (p i : ℕ) : Data where
  qq a b := qpad X (256 * i + a) (256 * p + b)
  kk n l := kpad X n (256 * p + l)
  vv n l := vlane X n (128 * p + l)
  oo a l := olane X (256 * i + a) (128 * p + l)
  gg a l := X.g (256 * i + a) (128 * p + l)
  ll e a := lse X (256 * i + a) (2 * p + e)
  c a l := tabC X (256 * i + a) l
  s a l := tabN X (256 * i + a) l
  p a l := tabP X (256 * i + a) l

theorem held (hs : Blocks.Start X m c) (t : Fin cfg0.N) : Outs.At m (blk X (t.val / 9) (t.val % 9)) c t :=
  ⟨Blocks.blk0 X m c hs t, Blocks.blk1 X m c hs t, Blocks.blk2 X m c hs t, Blocks.blk3 X m c hs t, Blocks.blk4 X m c hs t,
    Blocks.blk5 X m c hs t, Blocks.blk6 X m c hs t, Blocks.blk7 X m c hs t, Blocks.blk8 X m c hs t⟩

theorem held_at (hs : Blocks.Start X m c) (p i : ℕ) (hi : i < 9) (hn : 9 * p + i < cfg0.N) :
    Outs.At m (blk X p i) c ⟨9 * p + i, hn⟩ := by
  have h := held X m c hs ⟨9 * p + i, hn⟩
  have e1 : (9 * p + i) / 9 = p := by omega
  have e2 : (9 * p + i) % 9 = i := by omega
  simp only [e1, e2] at h
  exact h

/-- The running sum of the keys' gradient after the blocks of queries up to `i`. -/
def runK (p : ℕ) : ℕ → ℕ → ℕ → ℝ
  | 0, r, n => if n < 256 then (blk X p 0).dk r n else 0
  | i + 1, r, n => runK p i r n + (blk X p (i + 1)).dk r n
/-- The running sum of the values' gradient after the blocks of queries up to `i`. -/
def runV (p : ℕ) : ℕ → ℕ → ℕ → ℝ
  | 0, r, n => if n < 256 then (blk X p 0).dv r n else 0
  | i + 1, r, n => runV p i r n + (blk X p (i + 1)).dv r n

theorem sweepK (hs : Blocks.Start X m c) (p : ℕ) : ∀ (i : ℕ) (hi : i < 8) (hn : 9 * p + i < cfg0.N) (r : Fin 256) (n : Fin 2304),
    (show EReal from (outsAt0 m c (9 * p + i) hn).2.2.2.1 (ix2 r n)) = ((runK X p i r.val n.val : ℝ) : EReal)
  | 0, hi, hn, r, n => Outs.dk_A m _ c ⟨9 * p + 0, hn⟩ (held_at X m c hs p 0 (by omega) hn) (by show (9 * p + 0) % 9 = 0; omega) r n
  | i + 1, hi, hn, r, n => by
    have ih := sweepK hs p i (by omega) (by omega) r n
    have h := Outs.dk_B m _ c ⟨9 * p + (i + 1), hn⟩ (held_at X m c hs p (i + 1) (by omega) hn)
      (by show 1 ≤ (9 * p + (i + 1)) % 9; omega) (by show ¬ (9 * p + (i + 1)) % 9 = 8; omega) r n
    refine h.trans ?_
    refine (congrArg (· + _) ih).trans ?_
    rw [← EReal.coe_add]; rfl
theorem sweepV (hs : Blocks.Start X m c) (p : ℕ) : ∀ (i : ℕ) (hi : i < 8) (hn : 9 * p + i < cfg0.N) (r : Fin 128) (n : Fin 2304),
    (show EReal from (outsAt0 m c (9 * p + i) hn).2.2.2.2 (ix2 r n)) = ((runV X p i r.val n.val : ℝ) : EReal)
  | 0, hi, hn, r, n => Outs.dv_A m _ c ⟨9 * p + 0, hn⟩ (held_at X m c hs p 0 (by omega) hn) (by show (9 * p + 0) % 9 = 0; omega) r n
  | i + 1, hi, hn, r, n => by
    have ih := sweepV hs p i (by omega) (by omega) r n
    have h := Outs.dv_B m _ c ⟨9 * p + (i + 1), hn⟩ (held_at X m c hs p (i + 1) (by omega) hn)
      (by show 1 ≤ (9 * p + (i + 1)) % 9; omega) (by show ¬ (9 * p + (i + 1)) % 9 = 8; omega) r n
    refine h.trans ?_
    refine (congrArg (· + _) ih).trans ?_
    rw [← EReal.coe_add]; rfl

theorem lastK (hs : Blocks.Start X m c) (p : ℕ) (hn : 9 * p + 8 < cfg0.N) (r : Fin 256) (n : Fin 2304) :
    (show EReal from (outsAt0 m c (9 * p + 8) hn).2.1 (ix2 n r)) = ((runK X p 8 r.val n.val : ℝ) : EReal) := by
  have ih := sweepK X m c hs p 7 (by omega) (by omega) r n
  have h := Outs.dk_C m _ c ⟨9 * p + 8, hn⟩ (held_at X m c hs p 8 (by omega) hn) (by show (9 * p + 8) % 9 = 8; omega) r n
  refine h.trans ?_
  refine (congrArg (· + _) ih).trans ?_
  rw [← EReal.coe_add]; rfl
theorem lastV (hs : Blocks.Start X m c) (p : ℕ) (hn : 9 * p + 8 < cfg0.N) (r : Fin 128) (n : Fin 2304) :
    (show EReal from (outsAt0 m c (9 * p + 8) hn).2.2.1 (ix2 n r)) = ((runV X p 8 r.val n.val : ℝ) : EReal) := by
  have ih := sweepV X m c hs p 7 (by omega) (by omega) r n
  have h := Outs.dv_C m _ c ⟨9 * p + 8, hn⟩ (held_at X m c hs p 8 (by omega) hn) (by show (9 * p + 8) % 9 = 8; omega) r n
  refine h.trans ?_
  refine (congrArg (· + _) ih).trans ?_
  rw [← EReal.coe_add]; rfl

/-- How many keys a block of queries works on. -/
def keys (i : ℕ) : ℕ := if i = 0 then 256 else 2304
/-- The block of the queries' gradient. -/
def turned (p i a b : ℕ) : ℝ :=
  turnA ((blk X p i).y (keys i)) (blk X p i).c (blk X p i).s a b + turnB ((blk X p i).y (keys i)) (blk X p i).p a b

theorem eachQ (hs : Blocks.Start X m c) (p i : ℕ) (hi : i < 9) (hn : 9 * p + i < cfg0.N) (a b : Fin 256) :
    (show EReal from (outsAt0 m c (9 * p + i) hn).1 (ix2 a b)) = ((turned X p i a.val b.val : ℝ) : EReal) := by
  have h := held_at X m c hs p i hi hn
  unfold turned keys
  by_cases h0 : i = 0
  · rw [if_pos h0]
    exact Outs.dq_A m _ c ⟨9 * p + i, hn⟩ h (by show (9 * p + i) % 9 = 0; omega) a b
  · rw [if_neg h0]
    by_cases h8 : i = 8
    · exact Outs.dq_C m _ c ⟨9 * p + i, hn⟩ h (by show (9 * p + i) % 9 = 8; omega) a b
    · exact Outs.dq_B m _ c ⟨9 * p + i, hn⟩ h (by show 1 ≤ (9 * p + i) % 9; omega) (by show ¬ (9 * p + i) % 9 = 8; omega) a b

open Cert.KernelIdeal.Value

/-- The array of the queries' gradient, at a row and a lane. -/
theorem arrQ (hs : Blocks.Start X m c) (a : Fin 2304) (b : Fin 2048) :
    (show EReal from G9 m c (ix2 a b)) = ((turned X (b.val / 256) (a.val / 256) (a.val % 256) (b.val % 256) : ℝ) : EReal) := by
  have hp : pt9Of (ix2 a b) = 9 * (b.val / 256) + a.val / 256 := by
    show 1 * (a.val / 256 - 0) + 9 * (b.val / 256 - 0) = _; omega
  have hN : cfg0.N = 72 := N_0
  have hlt : 9 * (b.val / 256) + a.val / 256 < cfg0.N := by omega
  have h := eachQ X m c hs (b.val / 256) (a.val / 256) (by omega) hlt ⟨a.val % 256, by omega⟩ ⟨b.val % 256, by omega⟩
  rw [outsAt0_sweep] at h
  unfold G9
  simp only [hp]
  have hl : loc9Of (ix2 a b) = ix2 ⟨a.val % 256, by omega⟩ ⟨b.val % 256, by omega⟩ := by
    funext k
    fin_cases k <;> rfl
  rw [dif_pos hlt, hl]
  exact h
/-- The array of the keys' gradient, at a row and a lane. -/
theorem arrK (hs : Blocks.Start X m c) (a : Fin 2304) (b : Fin 2048) :
    (show EReal from G10 m c (ix2 a b)) = ((runK X (b.val / 256) 8 (b.val % 256) a.val : ℝ) : EReal) := by
  have hp : pt10Of (ix2 a b) = 9 * (b.val / 256) + 8 := by
    show 9 * (8 * (a.val / 2304 - 0) + 1 * (b.val / 256 - 0)) + 8 = _; omega
  have hN : cfg0.N = 72 := N_0
  have hlt : 9 * (b.val / 256) + 8 < cfg0.N := by omega
  have h := lastK X m c hs (b.val / 256) hlt ⟨b.val % 256, by omega⟩ a
  rw [outsAt0_sweep] at h
  unfold G10
  simp only [hp]
  have hl : loc10Of (ix2 a b) = ix2 a ⟨b.val % 256, by omega⟩ := by
    funext k
    refine Fin.ext ?_
    fin_cases k
    · show a.val % 2304 = a.val; omega
    · rfl
  rw [dif_pos hlt, hl]
  exact h
/-- The array of the values' gradient, at a row and a lane. -/
theorem arrV (hs : Blocks.Start X m c) (a : Fin 2304) (b : Fin 1024) :
    (show EReal from G11 m c (ix2 a b)) = ((runV X (b.val / 128) 8 (b.val % 128) a.val : ℝ) : EReal) := by
  have hp : pt11Of (ix2 a b) = 9 * (b.val / 128) + 8 := by
    show 9 * (8 * (a.val / 2304 - 0) + 1 * (b.val / 128 - 0)) + 8 = _; omega
  have hN : cfg0.N = 72 := N_0
  have hlt : 9 * (b.val / 128) + 8 < cfg0.N := by omega
  have h := lastV X m c hs (b.val / 128) hlt ⟨b.val % 128, by omega⟩ a
  rw [outsAt0_sweep] at h
  unfold G11
  simp only [hp]
  have hl : loc11Of (ix2 a b) = ix2 a ⟨b.val % 128, by omega⟩ := by
    funext k
    refine Fin.ext ?_
    fin_cases k
    · show a.val % 2304 = a.val; omega
    · rfl
  rw [dif_pos hlt, hl]
  exact h
end Attn.Sweep
-- ==== Proof.Real.lean ====
/-
  The call's sums over padded lanes and blocks of queries are the attention's gradients: pad lanes give nothing, a head's
  lanes are its own, the blocks together are all the rows.
-/
module

public import proofs.«01_k».proof.Proof.Sweep

@[expose] public section

noncomputable section
namespace Attn.Real'
open Attn.Sweep
variable (X : Inp)

/-! ## Sums over lanes -/

theorem sum_first (f : ℕ → ℝ) (h : ∀ l, 96 ≤ l → l < 128 → f l = 0) : ∑ l : Fin 128, f l.val = ∑ d : Fin 96, f d.val := by
  have e := Fin.sum_univ_add (fun l : Fin (96 + 32) => f l.val)
  refine e.trans ?_
  have z : ∑ i : Fin 32, f (Fin.natAdd 96 i).val = 0 :=
    Finset.sum_eq_zero fun i _ => h _ (by simp) (by simp; omega)
  rw [z, add_zero]
  rfl
theorem sum_lower (f : ℕ → ℝ) (h : ∀ l, 64 ≤ l → l < 128 → f l = 0) : ∑ l : Fin 128, f l.val = ∑ d : Fin 64, f d.val := by
  have e := Fin.sum_univ_add (fun l : Fin (64 + 64) => f l.val)
  refine e.trans ?_
  have z : ∑ i : Fin 64, f (Fin.natAdd 64 i).val = 0 :=
    Finset.sum_eq_zero fun i _ => h _ (by simp) (by simp; omega)
  rw [z, add_zero]
  rfl
theorem sum_upper (f : ℕ → ℝ) (h : ∀ l, l < 64 → f l = 0) : ∑ l : Fin 128, f l.val = ∑ d : Fin 64, f (64 + d.val) := by
  have e := Fin.sum_univ_add (fun l : Fin (64 + 64) => f l.val)
  refine e.trans ?_
  have z : ∑ i : Fin 64, f (Fin.castAdd 64 i).val = 0 :=
    Finset.sum_eq_zero fun i _ => h _ (by simp)
  rw [z, zero_add]
  rfl

/-- A head's padded query and key lanes. -/
theorem qpad_at (n h l : ℕ) (hl : l < 128) : qpad X n (128 * h + l) = if l < 96 then qr X n h l else 0 := by
  have e1 : (128 * h + l) % 128 = l := by omega
  have e2 : (128 * h + l) / 128 = h := by omega
  rw [qpad, e1, e2]
theorem kpad_at (n h l : ℕ) (hl : l < 96) : kpad X n (128 * h + l) = X.k n h l := by
  have e1 : (128 * h + l) % 128 = l := by omega
  have e2 : (128 * h + l) / 128 = h := by omega
  rw [kpad, e1, e2, if_pos hl]
theorem score (n h j : ℕ) : ∑ l : Fin 128, qpad X n (128 * h + l.val) * kpad X j (128 * h + l.val)
    = ∑ d : Fin 96, qr X n h d.val * X.k j h d.val := by
  rw [sum_first (fun l => qpad X n (128 * h + l) * kpad X j (128 * h + l)) fun l h1 h2 => by
    rw [qpad_at X n h l h2, if_neg (by omega), zero_mul]]
  refine Finset.sum_congr rfl fun d _ => ?_
  rw [qpad_at X n h d.val (by omega), kpad_at X j h d.val d.isLt, if_pos d.isLt]

/-! ## One block -/

theorem P0_eq (p i a n : ℕ) : (blk X p i).P0 a n = prob X (256 * i + a) (2 * p) n := by
  have h := score X (256 * i + a) (2 * p) n
  have e : 128 * (2 * p) = 256 * p := by ring
  rw [e] at h
  show Real.exp ((∑ l : Fin 128, qpad X (256 * i + a) (256 * p + l.val) * kpad X n (256 * p + l.val)) * SC - _) = _
  rw [h]; rfl
theorem P1_eq (p i a n : ℕ) : (blk X p i).P1 a n = prob X (256 * i + a) (2 * p + 1) n := by
  have h := score X (256 * i + a) (2 * p + 1) n
  have e : ∀ l : ℕ, 128 * (2 * p + 1) + l = 256 * p + (128 + l) := fun l => by ring
  simp only [e] at h
  show Real.exp ((∑ l : Fin 128, qpad X (256 * i + a) (256 * p + (128 + l.val)) * kpad X n (256 * p + (128 + l.val))) * SC - _) = _
  rw [h]; rfl

/-- A row's product of cotangent and output is its probabilities against their gradients. -/
theorem delta (n h : ℕ) : ∑ d : Fin 64, X.g n (64 * h + d.val) * out X n h d.val
    = ∑ j : Fin (seen n), prob X n h j.val * dp X n h j.val := by
  simp only [out, dp, Finset.mul_sum]
  rw [Finset.sum_comm]
  refine Finset.sum_congr rfl fun j _ => Finset.sum_congr rfl fun d _ => ?_
  ring

theorem low_lane (p l : ℕ) (hl : l < 64) : (128 * p + l) / 64 = 2 * p ∧ (128 * p + l) % 64 = l ∧ 128 * p + l = 64 * (2 * p) + l := by
  omega
theorem high_lane (p l : ℕ) (hl : l < 64) : (128 * p + (64 + l)) / 64 = 2 * p + 1 ∧ (128 * p + (64 + l)) % 64 = l
    ∧ 128 * p + (64 + l) = 64 * (2 * p + 1) + l := by
  omega

theorem D0_eq (p i a n : ℕ) : (blk X p i).D0 a n = ds X (256 * i + a) (2 * p) n := by
  have e1 : ∑ l : Fin 128, ownLo (blk X p i).gg a l.val * (blk X p i).vv n l.val = dp X (256 * i + a) (2 * p) n := by
    rw [sum_lower (fun l => ownLo (blk X p i).gg a l * (blk X p i).vv n l) fun l h1 _ => by
      rw [ownLo, if_neg (by omega), zero_mul]]
    refine Finset.sum_congr rfl fun d _ => ?_
    obtain ⟨h1, h2, h3⟩ := low_lane p d.val d.isLt
    rw [ownLo, if_pos d.isLt]
    show X.g (256 * i + a) (128 * p + d.val) * X.v n ((128 * p + d.val) / 64) ((128 * p + d.val) % 64) = _
    rw [h1, h2, h3]
  have e2 : ∑ l : Fin 128, ownLo (blk X p i).gg a l.val * (blk X p i).oo a l.val
      = ∑ j : Fin (seen (256 * i + a)), prob X (256 * i + a) (2 * p) j.val * dp X (256 * i + a) (2 * p) j.val := by
    rw [← delta, sum_lower (fun l => ownLo (blk X p i).gg a l * (blk X p i).oo a l) fun l h1 _ => by
      rw [ownLo, if_neg (by omega), zero_mul]]
    refine Finset.sum_congr rfl fun d _ => ?_
    obtain ⟨h1, h2, h3⟩ := low_lane p d.val d.isLt
    rw [ownLo, if_pos d.isLt]
    show X.g (256 * i + a) (128 * p + d.val) * out X (256 * i + a) ((128 * p + d.val) / 64) ((128 * p + d.val) % 64) = _
    rw [h1, h2, h3]
  rw [Data.D0, dsR, e1, e2, P0_eq]; rfl
theorem D1_eq (p i a n : ℕ) : (blk X p i).D1 a n = ds X (256 * i + a) (2 * p + 1) n := by
  have e1 : ∑ l : Fin 128, ownHi (blk X p i).gg a l.val * (blk X p i).vv n l.val = dp X (256 * i + a) (2 * p + 1) n := by
    rw [sum_upper (fun l => ownHi (blk X p i).gg a l * (blk X p i).vv n l) fun l h1 => by
      rw [ownHi, if_neg (by omega), zero_mul]]
    refine Finset.sum_congr rfl fun d _ => ?_
    obtain ⟨h1, h2, h3⟩ := high_lane p d.val d.isLt
    rw [ownHi, if_pos (by omega)]
    show X.g (256 * i + a) (128 * p + (64 + d.val)) * X.v n ((128 * p + (64 + d.val)) / 64) ((128 * p + (64 + d.val)) % 64) = _
    rw [h1, h2, h3]
  have e2 : ∑ l : Fin 128, ownHi (blk X p i).gg a l.val * (blk X p i).oo a l.val
      = ∑ j : Fin (seen (256 * i + a)), prob X (256 * i + a) (2 * p + 1) j.val * dp X (256 * i + a) (2 * p + 1) j.val := by
    rw [← delta, sum_upper (fun l => ownHi (blk X p i).gg a l * (blk X p i).oo a l) fun l h1 => by
      rw [ownHi, if_neg (by omega), zero_mul]]
    refine Finset.sum_congr rfl fun d _ => ?_
    obtain ⟨h1, h2, h3⟩ := high_lane p d.val d.isLt
    rw [ownHi, if_pos (by omega)]
    show X.g (256 * i + a) (128 * p + (64 + d.val)) * out X (256 * i + a) ((128 * p + (64 + d.val)) / 64) ((128 * p + (64 + d.val)) % 64) = _
    rw [h1, h2, h3]
  rw [Data.D1, dsR, e1, e2, P1_eq]; rfl

/-! ## The queries' gradient -/

theorem keys_seen (i a : ℕ) (ha : a < 256) : keys i = seen (256 * i + a) := by
  unfold keys seen
  by_cases h : i = 0
  · rw [if_pos h, if_pos (by omega)]
  · rw [if_neg h, if_neg (by omega)]

theorem y_eq (p i a l h d : ℕ) (ha : a < 256) (hl : 256 * p + l = 128 * h + d) (hd : d < 96) (hl' : l < 256) :
    (blk X p i).y (keys i) a l = dqr X (256 * i + a) h d := by
  unfold Data.y
  by_cases h0 : l < 128
  · obtain ⟨rfl, rfl⟩ : h = 2 * p ∧ d = l := by omega
    rw [if_pos h0, keys_seen i a ha]
    refine Finset.sum_congr rfl fun n _ => ?_
    rw [D0_eq]
    show _ * kpad X n.val (256 * p + d) = _
    rw [hl, kpad_at X _ _ _ hd]
  · obtain ⟨rfl, rfl⟩ : h = 2 * p + 1 ∧ l = 128 + d := by omega
    rw [if_neg h0, keys_seen i a ha]
    refine Finset.sum_congr rfl fun n _ => ?_
    rw [D1_eq]
    show _ * kpad X n.val (256 * p + (128 + (128 + d - 128))) = _
    rw [show 128 + (128 + d - 128) = 128 + d by omega, hl, kpad_at X _ _ _ hd]

/-- A lane's gradient from its own, turned by the tables, and its neighbours eight lanes below and above. -/
theorem turned_lane (n h d : ℕ) (hd : d < 128) :
    (if d < 96 then dqr X n h d * tabC X n d else 0) + (if 8 ≤ d ∧ d < 96 then dqr X n h (d - 8) * tabN X n (d - 8) else 0)
      + (if d < 88 then dqr X n h (d + 8) * tabP X n (d + 8) else 0) = if d < 96 then dq X n h d else 0 := by
  by_cases d96 : d < 96
  swap
  · rw [if_neg d96, if_neg (by omega), if_neg (by omega), if_neg d96]; ring
  rw [if_pos d96, if_pos d96]
  by_cases d64 : d < 64
  · have c1 : tabC X n d = 1 := by unfold tabC; rw [if_pos d64]
    have c2 : tabN X n (d - 8) = 0 := by unfold tabN; rw [if_pos (by omega)]
    have c3 : tabP X n (d + 8) = 0 := by unfold tabP; rw [if_pos (by omega)]
    rw [c1, c2, c3, dq, if_pos (Or.inr d64), mul_zero, mul_zero, ite_self, ite_self]; ring
  rw [if_pos (⟨by omega, d96⟩ : 8 ≤ d ∧ d < 96)]
  by_cases d72 : d < 72
  · have c1 : tabC X n d = cosX X n (d - 64) := by unfold tabC; rw [if_neg (by omega), if_pos (by omega)]
    have c2 : tabN X n (d - 8) = 0 := by unfold tabN; rw [if_pos (by omega)]
    have c3 : tabP X n (d + 8) = sinX X n (d - 64) := by unfold tabP; rw [if_neg (by omega), if_pos (by omega), show d + 8 - 72 = d - 64 by omega]
    have c4 : dq X n h d = dqr X n h d * cosX X n (d - 64) + dqr X n h (d + 8) * sinX X n (d - 64) := by
      by_cases hn : n < 256
      · rw [dq, if_pos (Or.inl hn), cosX, sinX, if_pos hn, if_pos hn]; ring
      · rw [dq, cosX, sinX, if_neg hn, if_neg hn, if_neg (by omega), if_pos (by omega)]
    rw [c1, c2, c3, c4, if_pos (by omega)]; ring
  by_cases d80 : d < 80
  · have c1 : tabC X n d = cosX X n (d - 72) := by unfold tabC; rw [if_neg (by omega), if_neg (by omega), if_pos (by omega)]
    have c2 : tabN X n (d - 8) = -sinX X n (d - 72) := by unfold tabN; rw [if_neg (by omega), if_pos (by omega), show d - 8 - 64 = d - 72 by omega]
    have c3 : tabP X n (d + 8) = 0 := by unfold tabP; rw [if_neg (by omega), if_neg (by omega), if_pos (by omega)]
    have c4 : dq X n h d = dqr X n h d * cosX X n (d - 72) - dqr X n h (d - 8) * sinX X n (d - 72) := by
      by_cases hn : n < 256
      · rw [dq, if_pos (Or.inl hn), cosX, sinX, if_pos hn, if_pos hn]; ring
      · rw [dq, cosX, sinX, if_neg hn, if_neg hn, if_neg (by omega), if_neg (by omega), if_pos (by omega)]
    rw [c1, c2, c3, c4, if_pos (by omega)]; ring
  by_cases d88 : d < 88
  · have c1 : tabC X n d = cosX X n (d - 72) := by unfold tabC; rw [if_neg (by omega), if_neg (by omega), if_pos (by omega)]
    have c2 : tabN X n (d - 8) = 0 := by unfold tabN; rw [if_neg (by omega), if_neg (by omega), if_pos (by omega)]
    have c3 : tabP X n (d + 8) = sinX X n (d - 72) := by unfold tabP; rw [if_neg (by omega), if_neg (by omega), if_neg (by omega), if_pos (by omega), show d + 8 - 80 = d - 72 by omega]
    have c4 : dq X n h d = dqr X n h d * cosX X n (d - 72) + dqr X n h (d + 8) * sinX X n (d - 72) := by
      by_cases hn : n < 256
      · rw [dq, if_pos (Or.inl hn), cosX, sinX, if_pos hn, if_pos hn]; ring
      · rw [dq, cosX, sinX, if_neg hn, if_neg hn, if_neg (by omega), if_neg (by omega), if_neg (by omega), if_pos (by omega)]
    rw [c1, c2, c3, c4, if_pos (by omega)]; ring
  · have c1 : tabC X n d = cosX X n (d - 80) := by unfold tabC; rw [if_neg (by omega), if_neg (by omega), if_neg (by omega), if_pos (by omega)]
    have c2 : tabN X n (d - 8) = -sinX X n (d - 80) := by unfold tabN; rw [if_neg (by omega), if_neg (by omega), if_neg (by omega), if_pos (by omega), show d - 8 - 72 = d - 80 by omega]
    have c4 : dq X n h d = dqr X n h d * cosX X n (d - 80) - dqr X n h (d - 8) * sinX X n (d - 80) := by
      by_cases hn : n < 256
      · rw [dq, if_pos (Or.inl hn), cosX, sinX, if_pos hn, if_pos hn]; ring
      · rw [dq, cosX, sinX, if_neg hn, if_neg hn, if_neg (by omega), if_neg (by omega), if_neg (by omega), if_neg (by omega)]
    rw [c1, c2, c4, if_neg (by omega)]; ring

/-- The call's array of the queries' gradient: each head's 96 lanes, zero in the pad lanes. -/
theorem turned_eq (p i a b : ℕ) (ha : a < 256) (hb : b < 256) : turned X p i a b
    = if b % 128 < 96 then dq X (256 * i + a) (2 * p + b / 128) (b % 128) else 0 := by
  have hd : b % 128 < 128 := Nat.mod_lt _ (by norm_num)
  have hy0 : b % 128 < 96 → (blk X p i).y (keys i) a b = dqr X (256 * i + a) (2 * p + b / 128) (b % 128) := fun h =>
    y_eq X p i a b _ _ ha (by omega) h hb
  have hlo : 8 ≤ b % 128 → (b + 256 - 8) % 256 = b - 8 ∧ (b - 8) % 128 = b % 128 - 8 := fun h => by omega
  have hlo' : ¬ 8 ≤ b % 128 → 120 ≤ (b + 256 - 8) % 256 % 128 := fun h => by omega
  have hhi : b % 128 + 8 < 128 → (b + 256 - 248) % 256 = b + 8 ∧ (b + 8) % 128 = b % 128 + 8 := fun h => by omega
  have hhi' : ¬ b % 128 + 8 < 128 → (b + 256 - 248) % 256 % 128 < 8 := fun h => by omega
  have hyl : 8 ≤ b % 128 → b % 128 < 96 + 8 → (blk X p i).y (keys i) a (b - 8) = dqr X (256 * i + a) (2 * p + b / 128) (b % 128 - 8) := fun h h' =>
    y_eq X p i a (b - 8) _ _ ha (by omega) (by omega) (by omega)
  have hyh : b % 128 + 8 < 96 → (blk X p i).y (keys i) a (b + 8) = dqr X (256 * i + a) (2 * p + b / 128) (b % 128 + 8) := fun h =>
    y_eq X p i a (b + 8) _ _ ha (by omega) (by omega) (by omega)
  have hA : (blk X p i).y (keys i) a ((b + 256 - 8) % 256) * tabN X (256 * i + a) ((b + 256 - 8) % 256 % 128)
      = if 8 ≤ b % 128 ∧ b % 128 < 96 then dqr X (256 * i + a) (2 * p + b / 128) (b % 128 - 8) * tabN X (256 * i + a) (b % 128 - 8) else 0 := by
    by_cases h : 8 ≤ b % 128
    · obtain ⟨e1, e2⟩ := hlo h
      rw [e1, e2]
      by_cases h' : b % 128 < 96
      · rw [if_pos ⟨h, h'⟩, hyl h (by omega)]
      · rw [if_neg (by omega), tabN, if_neg (by omega), if_neg (by omega), if_neg (by omega), if_neg (by omega), mul_zero]
    · have := hlo' h
      rw [if_neg (by omega), tabN, if_neg (by omega), if_neg (by omega), if_neg (by omega), if_neg (by omega), mul_zero]
  have hB : (blk X p i).y (keys i) a ((b + 256 - 248) % 256) * tabP X (256 * i + a) ((b + 256 - 248) % 256 % 128)
      = if b % 128 < 88 then dqr X (256 * i + a) (2 * p + b / 128) (b % 128 + 8) * tabP X (256 * i + a) (b % 128 + 8) else 0 := by
    by_cases h : b % 128 + 8 < 128
    · obtain ⟨e1, e2⟩ := hhi h
      rw [e1, e2]
      by_cases h' : b % 128 < 88
      · rw [if_pos h', hyh (by omega)]
      · rw [if_neg h', tabP, if_neg (by omega), if_neg (by omega), if_neg (by omega), if_neg (by omega), mul_zero]
    · have := hhi' h
      rw [if_neg (by omega), tabP, if_pos (by omega), mul_zero]
  have hC : (blk X p i).y (keys i) a b * tabC X (256 * i + a) (b % 128)
      = if b % 128 < 96 then dqr X (256 * i + a) (2 * p + b / 128) (b % 128) * tabC X (256 * i + a) (b % 128) else 0 := by
    by_cases h : b % 128 < 96
    · rw [if_pos h, hy0 h]
    · rw [if_neg h, tabC, if_neg (by omega), if_neg (by omega), if_neg (by omega), if_neg (by omega), mul_zero]
  unfold turned turnA turnB
  show (blk X p i).y (keys i) a b * tabC X (256 * i + a) (b % 128)
    + (blk X p i).y (keys i) a ((b + 256 - 8) % 256) * tabN X (256 * i + a) ((b + 256 - 8) % 256 % 128)
    + (blk X p i).y (keys i) a ((b + 256 - 248) % 256) * tabP X (256 * i + a) ((b + 256 - 248) % 256 % 128) = _
  rw [hA, hB, hC]
  clear hA hB hC hyl hyh hy0 hlo hlo' hhi hhi'
  generalize b % 128 = d at *
  generalize 2 * p + b / 128 = h
  generalize 256 * i + a = n
  exact turned_lane X n h d hd

/-! ## The keys' and the values' gradients -/

theorem more_rows (f : ℕ → ℝ) (k : ℕ) :
    ∑ n : Fin (256 * (k + 1)), f n.val = ∑ n : Fin (256 * k), f n.val + ∑ a : Fin 256, f (256 * k + a.val) :=
  Fin.sum_univ_add (fun n : Fin (256 * k + 256) => f n.val)

/-- A running sum over blocks of queries: the context's block where it counts, then the latents' blocks. -/
theorem run_sum (R : ℕ → ℝ) (F : ℕ → ℝ) (z : ℝ) (h0 : R 0 = z) (hs : ∀ i, R (i + 1) = R i + ∑ a : Fin 256, F (256 * (i + 1) + a.val)) :
    ∀ i, R i = z + ∑ n : Fin (256 * i), F (256 + n.val)
  | 0 => by rw [h0]; simp
  | i + 1 => by
    rw [hs, run_sum R F z h0 hs i, more_rows (fun n => F (256 + n)), add_assoc]
    congr 2
    refine Finset.sum_congr rfl fun a _ => ?_
    congr 1; ring

theorem blk_dk (p i r n h d : ℕ) (hr : 256 * p + r = 128 * h + d) (hd : d < 128) (hr' : r < 256) : (blk X p i).dk r n
    = ∑ a : Fin 256, ds X (256 * i + a.val) h n * qpad X (256 * i + a.val) (128 * h + d) := by
  unfold Data.dk
  by_cases h0 : r < 128
  · obtain rfl : h = 2 * p := by omega
    rw [if_pos h0]
    refine Finset.sum_congr rfl fun a _ => ?_
    rw [D0_eq, mul_comm, ← hr]; rfl
  · obtain rfl : h = 2 * p + 1 := by omega
    rw [if_neg h0]
    refine Finset.sum_congr rfl fun a _ => ?_
    rw [D1_eq, mul_comm, ← hr]
    show _ * qpad X _ (256 * p + (128 + (r - 128))) = _
    rw [show 128 + (r - 128) = r by omega]

/-- The call's array of the keys' gradient: each head's 96 lanes, zero in the pad lanes. -/
theorem runK_eq (p r n : ℕ) (hr : r < 256) :
    runK X p 8 r n = if r % 128 < 96 then dk X n (2 * p + r / 128) (r % 128) else 0 := by
  have hb := fun i => blk_dk X p i r n (2 * p + r / 128) (r % 128) (by omega) (by omega) hr
  have h := run_sum (fun i => runK X p i r n)
    (fun N => ds X N (2 * p + r / 128) n * qpad X N (128 * (2 * p + r / 128) + r % 128)) _ rfl
    (fun i => congrArg (runK X p i r n + ·) (hb (i + 1))) 8
  refine h.trans ?_
  show (if n < 256 then (blk X p 0).dk r n else 0) + ∑ N : Fin 2048, _ = _
  rw [hb 0]
  simp only [qpad_at X _ _ (r % 128) (Nat.mod_lt _ (by norm_num)), mul_zero, zero_add]
  by_cases h96 : r % 128 < 96
  · simp only [if_pos h96]; rfl
  · simp only [if_neg h96, mul_zero, Finset.sum_const_zero]; simp

theorem blk_dv (p i l n : ℕ) (hl : l < 128) : (blk X p i).dv l n
    = ∑ a : Fin 256, X.g (256 * i + a.val) (64 * (2 * p + l / 64) + l % 64) * prob X (256 * i + a.val) (2 * p + l / 64) n := by
  unfold Data.dv
  rw [← Finset.sum_add_distrib]
  refine Finset.sum_congr rfl fun a _ => ?_
  rw [P0_eq, P1_eq, ownLo, ownHi, show 64 * (2 * p + l / 64) + l % 64 = 128 * p + l by omega]
  show (if l < 64 then X.g (256 * i + a.val) (128 * p + l) else 0) * _ + (if 64 ≤ l then X.g (256 * i + a.val) (128 * p + l) else 0) * _ = _
  by_cases h : l < 64
  · rw [if_pos h, if_neg (by omega), show l / 64 = 0 by omega, zero_mul, add_zero, Nat.add_zero]
  · rw [if_neg h, if_pos (by omega), show l / 64 = 1 by omega, zero_mul, zero_add]

/-- The call's array of the values' gradient. -/
theorem runV_eq (p l n : ℕ) (hl : l < 128) : runV X p 8 l n = dv X n (2 * p + l / 64) (l % 64) := by
  have hb := fun i => blk_dv X p i l n hl
  have h := run_sum (fun i => runV X p i l n)
    (fun N => X.g N (64 * (2 * p + l / 64) + l % 64) * prob X N (2 * p + l / 64) n) _ rfl
    (fun i => congrArg (runV X p i l n + ·) (hb (i + 1))) 8
  refine h.trans ?_
  show (if n < 256 then (blk X p 0).dv l n else 0) + ∑ N : Fin 2048, _ = _
  rw [hb 0]
  simp only [mul_zero, zero_add]
  rfl
end Attn.Real'
-- ==== Proof.KernelValue.lean ====
/-
  The three arrays the kernel leaves, entry by entry.
-/
module

public import proofs.«01_k».proof.Proof.Real

@[expose] public section

set_option maxRecDepth 16384
noncomputable section
open Idealize.ShloMosaic Idealize.ShloMosaic.TcCoe Idealize.SL.Sem
namespace Attn.Kernel
open Cert.KernelIdeal Cert.KernelIdeal.Gen Cert.KernelIdeal.Value
variable (X : Inp) (m : (ℓ : Loc nD τ sig) → Buf (Elt Ideal) ℓ) (c : Dev nD)

theorem q_eq (hs : Blocks.Start X m c) (a : Fin 2304) (b : Fin 2048) : (show EReal from G9 m c (ix2 a b))
    = ((if b.val % 128 < 96 then dq X a.val (b.val / 128) (b.val % 128) else 0 : ℝ) : EReal) := by
  refine (Sweep.arrQ X m c hs a b).trans ?_
  rw [Real'.turned_eq X _ _ _ _ (Nat.mod_lt _ (by norm_num)) (Nat.mod_lt _ (by norm_num)),
    show b.val % 256 % 128 = b.val % 128 by omega, show 256 * (a.val / 256) + a.val % 256 = a.val by omega,
    show 2 * (b.val / 256) + b.val % 256 / 128 = b.val / 128 by omega]

theorem k_eq (hs : Blocks.Start X m c) (a : Fin 2304) (b : Fin 2048) : (show EReal from G10 m c (ix2 a b))
    = ((if b.val % 128 < 96 then dk X a.val (b.val / 128) (b.val % 128) else 0 : ℝ) : EReal) := by
  refine (Sweep.arrK X m c hs a b).trans ?_
  rw [Real'.runK_eq X _ _ _ (Nat.mod_lt _ (by norm_num)),
    show b.val % 256 % 128 = b.val % 128 by omega,
    show 2 * (b.val / 256) + b.val % 256 / 128 = b.val / 128 by omega]

theorem v_eq (hs : Blocks.Start X m c) (a : Fin 2304) (b : Fin 1024) : (show EReal from G11 m c (ix2 a b))
    = ((dv X a.val (b.val / 64) (b.val % 64) : ℝ) : EReal) := by
  refine (Sweep.arrV X m c hs a b).trans ?_
  rw [Real'.runV_eq X _ _ _ (Nat.mod_lt _ (by norm_num)),
    show b.val % 128 % 64 = b.val % 64 by omega,
    show 2 * (b.val / 128) + b.val % 128 / 64 = b.val / 64 by omega]

end Attn.Kernel
-- ==== Proof.RefArgs.lean ====
/-
  The reference's arguments as real numbers, its turned queries and its scores.
-/
module

public import proofs.«01_k».proof.Proof.Attn
public import proofs.«01_k».proof.Proof.Gen.ReferenceIdeal.Run
public import Idealize.ShloMosaic.Lib.Pipeline.ValueKit
public import Idealize.ShloMosaic.Lib.Pointwise
public import Idealize.ShloMosaic.Lib.Claim

@[expose] public section

set_option maxRecDepth 16384
noncomputable section
open Idealize.ShloMosaic Idealize.ShloMosaic.TcCoe Idealize.SL.Sem
namespace Attn.Ref
open Cert.ReferenceIdeal Cert.ReferenceIdeal.Gen Cert.ReferenceIdeal.Value
variable (X : Inp) (σ : Valuation τ sig (Elt Ideal))

/-- The reference's arguments hold the real numbers of `X`. -/
structure Holds : Prop where
  q : ∀ a b e, (show EReal from σ main_arg0 (ix3 a b e)) = ((X.q a.val b.val e.val : ℝ) : EReal)
  k : ∀ a b e, (show EReal from σ main_arg1 (ix3 a b e)) = ((X.k a.val b.val e.val : ℝ) : EReal)
  v : ∀ a b e, (show EReal from σ main_arg2 (ix3 a b e)) = ((X.v a.val b.val e.val : ℝ) : EReal)
  cs : ∀ a b, (show EReal from σ main_arg3 (ix2 a b)) = ((X.cs a.val b.val : ℝ) : EReal)
  sn : ∀ a b, (show EReal from σ main_arg4 (ix2 a b)) = ((X.sn a.val b.val : ℝ) : EReal)
  g : ∀ a b, (show EReal from σ main_arg5 (ix2 a b)) = ((X.g a.val b.val : ℝ) : EReal)

variable {X σ}

theorem coords2 {N M : ℕ} (i : (⟨2, ![N, M]⟩ : Shape).Idx) : ∃ (a : Fin N) (b : Fin M), i = ix2 a b :=
  ⟨i 0, i 1, by funext k; fin_cases k <;> rfl⟩
theorem coords3 {N M K : ℕ} (i : (⟨3, ![N, M, K]⟩ : Shape).Idx) : ∃ (a : Fin N) (b : Fin M) (e : Fin K), i = ix3 a b e :=
  ⟨i 0, i 1, i 2, by funext k; fin_cases k <;> rfl⟩

theorem bottom : (Ideal.ofBits .f32 0xFF800000#32 : EReal) = ⊥ := by simp [Ideal.ofBits, Ideal.ieee]

/-- The largest of a set of real numbers that is not empty, started from −∞, is a real number. -/
theorem max_real {ι : Type*} (s : Finset ι) (f : ι → EReal) (hf : ∀ i, ∃ r : ℝ, f i = ((r : ℝ) : EReal)) (i0 : ι)
    (h0 : i0 ∈ s) : ∃ M : ℝ, s.fold max (⊥ : EReal) f = ((M : ℝ) : EReal) := by
  classical
  have key : ∀ t : Finset ι, t = ∅ ∨ ∃ M : ℝ, t.fold max (⊥ : EReal) f = ((M : ℝ) : EReal) := by
    intro t
    induction t using Finset.induction_on with
    | empty => exact Or.inl rfl
    | insert a t ha ih =>
      obtain ⟨r, hr⟩ := hf a
      refine Or.inr ?_
      rw [Finset.fold_insert ha]
      rcases ih with h | ⟨M, h⟩
      · exact ⟨r, by rw [h, hr]; simp⟩
      · exact ⟨max r M, by rw [h, hr]; norm_cast⟩
  rcases key s with h | h
  · rw [h] at h0; exact absurd h0 (Finset.notMem_empty _)
  · exact h

set_option maxHeartbeats 4000000 in
/-- The latents' queries, turned. -/
theorem v39 (h : Holds X σ) (a : Fin 2048) (b : Fin 16) (e : Fin 96) :
    (show EReal from res_main_v39 σ (ix3 a b e)) = ((qlat X a.val b.val e.val : ℝ) : EReal) := by
  obtain ⟨hq, hk, hv, hc, hs, hg⟩ := h
  simp only at hq hc hs ⊢
  pointwise [res_main_v39, res_main_v7, res_main_v8, res_main_v5, res_main_v6, res_main_v2, res_main_v1, res_main_v20,
    res_main_v23, res_main_v24, res_main_v25, res_main_v26]
  simp only [hq, hc, hs, ← EReal.coe_mul, ← EReal.coe_add, ← EReal.coe_sub]
  unfold qlat
  split_ifs
  all_goals first
    | (exfalso; omega)
    | (congr! 4 <;> omega)

set_option maxHeartbeats 4000000 in
/-- The latents' scores. -/
theorem v42 (hh : Holds X σ) (h : Fin 16) (n : Fin 2048) (j : Fin 2304) :
    (show EReal from res_main_v42 σ (ix3 h n j)) = ((sc X (256 + n.val) h.val j.val : ℝ) : EReal) := by
  have hq := v39 hh
  have hk := hh.k
  simp only at hq hk ⊢
  pointwise [res_main_v42]
  simp only [hq, hk, scale_eq, ← EReal.coe_mul, coe_sum]
  simp only [sc, qr, if_neg (show ¬ 256 + n.val < 256 by omega), show 256 + n.val - 256 = n.val by omega]

set_option maxHeartbeats 4000000 in
/-- The context's scores. -/
theorem v78 (hh : Holds X σ) (h : Fin 16) (n : Fin 256) (j : Fin 256) :
    (show EReal from res_main_v78 σ (ix3 h n j)) = ((sc X n.val h.val j.val : ℝ) : EReal) := by
  have hq := hh.q
  have hk := hh.k
  simp only at hq hk ⊢
  pointwise [res_main_v78, res_main_v73, res_main_v74]
  simp only [hq, hk, scale_eq, ← EReal.coe_mul, coe_sum, zero_add]
  simp only [sc, qr, if_pos n.isLt]

set_option maxHeartbeats 4000000 in
/-- The largest score of a latent row is a real number. -/
theorem v43 (hh : Holds X σ) (h : Fin 16) (n : Fin 2048) :
    ∃ M : ℝ, (show EReal from res_main_v43 σ (ix2 h n)) = ((M : ℝ) : EReal) := by
  have hs := v42 hh
  simp only at hs ⊢
  pointwise [res_main_v43]
  rw [bottom]
  refine max_real _ _ (fun i => ?_) (ix3 h n (0 : Fin 2304)) ?_
  · obtain ⟨a, b, e, rfl⟩ := coords3 i
    exact ⟨_, hs a b e⟩
  · rw [Finset.mem_filter]
    exact ⟨Finset.mem_univ _, by funext k; fin_cases k <;> rfl⟩

set_option maxHeartbeats 4000000 in
/-- The largest score of a context row is a real number. -/
theorem v79 (hh : Holds X σ) (h : Fin 16) (n : Fin 256) :
    ∃ M : ℝ, (show EReal from res_main_v79 σ (ix2 h n)) = ((M : ℝ) : EReal) := by
  have hs := v78 hh
  simp only at hs ⊢
  pointwise [res_main_v79]
  rw [bottom]
  refine max_real _ _ (fun i => ?_) (ix3 h n (0 : Fin 256)) ?_
  · obtain ⟨a, b, e, rfl⟩ := coords3 i
    exact ⟨_, hs a b e⟩
  · rw [Finset.mem_filter]
    exact ⟨Finset.mem_univ _, by funext k; fin_cases k <;> rfl⟩

end Attn.Ref
-- ==== Proof.RefScores.lean ====
/-
  The reference's softmax and the gradient of its scores: whatever number the rows are shifted by, the probabilities and
  the scores' gradient are those of the mathematics.
-/
module

public import proofs.«01_k».proof.Proof.RefArgs

@[expose] public section

set_option maxRecDepth 16384
noncomputable section
open Idealize.ShloMosaic Idealize.ShloMosaic.TcCoe Idealize.SL.Sem
namespace Attn.Ref
open Cert.ReferenceIdeal Cert.ReferenceIdeal.Gen Cert.ReferenceIdeal.Value
variable {X : Inp} {σ : Valuation τ sig (Elt Ideal)}

theorem one_eq : (1 : EReal) = ((1 : ℝ) : EReal) := rfl

/-- A family of real numbers picked at every row and head. -/
theorem pick {H N : ℕ} (f : Fin H → Fin N → EReal) (hf : ∀ h n, ∃ M : ℝ, f h n = ((M : ℝ) : EReal)) :
    ∃ M : ℕ → ℕ → ℝ, ∀ h n, f h n = ((M n.val h.val : ℝ) : EReal) := by
  choose M hM using hf
  refine ⟨fun n h => if hh : h < H ∧ n < N then M ⟨h, hh.1⟩ ⟨n, hh.2⟩ else 0, fun h n => ?_⟩
  rw [hM]
  simp [h.isLt, n.isLt]

/-- The gradient of a softmax's scores as the quotient's rule gives it is the probability times the difference. -/
theorem quot_rule {N : ℕ} (e : Fin N → ℝ) (d p : Fin N → ℝ) (l : ℝ) (hl : l ≠ 0) (hp : ∀ j, e j / l = p j) (j : Fin N) :
    (d j / l + -∑ j', d j' * (1 / (l * l)) * e j') * e j = p j * (d j - ∑ j', p j' * d j') := by
  have hsum : ∑ j', d j' * (1 / (l * l)) * e j' = (∑ j', p j' * d j') / l := by
    rw [Finset.sum_div]
    refine Finset.sum_congr rfl fun j' _ => ?_
    rw [← hp]; field_simp
  rw [hsum, ← hp]
  field_simp
  ring

/-- The shift of a latent row, picked for all rows and heads. -/
theorem shift_lat (hh : Holds X σ) : ∃ M : ℕ → ℕ → ℝ, ∀ (h : Fin 16) (n : Fin 2048),
    (show EReal from res_main_v43 σ (ix2 h n)) = ((M n.val h.val : ℝ) : EReal) :=
  pick _ (v43 hh)

theorem shift_word_lat (B : FVec Ideal S16x2048 .f32) (h : Fin 16) (n : Fin 2048) :
    (show EReal from maximumf (broadcastInDim S16x2048 ![] bcast_S_S16x2048 (constant S_ .f32 0xFF800000#32)) B (ix2 h n))
      = max (Ideal.ofBits .f32 0xFF800000#32) (B (ix2 h n)) := by
  simp only
  pointwise

theorem spread_lat (B : FVec Ideal S16x2048 .f32) (h : Fin 16) (n : Fin 2048) (j : Fin 2304) :
    (show EReal from broadcastInDim S16x2048x2304 ![0, 1, 2] bcast_S16x2048x1_S16x2048x2304_0_1_2
      (broadcastInDim S16x2048x1 ![0, 1] bcast_S16x2048_S16x2048x1_0_1 B) (ix3 h n j)) = B (ix2 h n) := by
  simp only
  pointwise

/-- An exponential of a score less its row's shift. -/
theorem shifted_lat (A : FVec Ideal S16x2048x2304 .f32) (B : FVec Ideal S16x2048 .f32) (h : Fin 16) (n : Fin 2048) (j : Fin 2304) :
    (show EReal from Host.exp (subf A (broadcastInDim S16x2048x2304 ![0, 1, 2] bcast_S16x2048x1_S16x2048x2304_0_1_2
      (broadcastInDim S16x2048x1 ![0, 1] bcast_S16x2048_S16x2048x1_0_1
        (maximumf (broadcastInDim S16x2048 ![] bcast_S_S16x2048 (constant S_ .f32 0xFF800000#32)) B)))) (ix3 h n j))
      = Ideal.exp ((show EReal from A (ix3 h n j)) - max (Ideal.ofBits .f32 0xFF800000#32) (show EReal from B (ix2 h n))) := by
  have h1 := spread_lat (maximumf (broadcastInDim S16x2048 ![] bcast_S_S16x2048 (constant S_ .f32 0xFF800000#32)) B) h n j
  have h2 := shift_word_lat B h n
  simp only at h1 h2 ⊢
  rw [h2] at h1
  generalize broadcastInDim S16x2048x2304 ![0, 1, 2] bcast_S16x2048x1_S16x2048x2304_0_1_2
      (broadcastInDim S16x2048x1 ![0, 1] bcast_S16x2048_S16x2048x1_0_1
        (maximumf (broadcastInDim S16x2048 ![] bcast_S_S16x2048 (constant S_ .f32 0xFF800000#32)) B)) = C at h1 ⊢
  rw [← h1]
  pointwise

theorem v63 (hh : Holds X σ) {M : ℕ → ℕ → ℝ} (hM : ∀ (h : Fin 16) (n : Fin 2048),
    (show EReal from res_main_v43 σ (ix2 h n)) = ((M n.val h.val : ℝ) : EReal)) (h : Fin 16) (n : Fin 2048) (j : Fin 2304) :
    (show EReal from res_main_v63 σ (ix3 h n j)) = ((Real.exp (sc X (256 + n.val) h.val j.val - M n.val h.val) : ℝ) : EReal) := by
  refine (shifted_lat _ _ h n j).trans ?_
  have hs := v42 hh h n j
  have hm := hM h n
  simp only at hs hm
  rw [hs, hm, max_eq_right (bottom ▸ bot_le), ← EReal.coe_sub, Ideal.exp_coe]

set_option maxHeartbeats 4000000 in
theorem v65 (hh : Holds X σ) {M : ℕ → ℕ → ℝ} (hM : ∀ (h : Fin 16) (n : Fin 2048),
    (show EReal from res_main_v43 σ (ix2 h n)) = ((M n.val h.val : ℝ) : EReal)) (h : Fin 16) (n : Fin 2048) (e : Fin 1) :
    (show EReal from res_main_v65 σ (ix3 h n e))
      = ((∑ j : Fin 2304, Real.exp (sc X (256 + n.val) h.val j.val - M n.val h.val) : ℝ) : EReal) := by
  have he := v63 hh hM
  simp only at he ⊢
  pointwise [res_main_v65]
  simp only [he, coe_sum, zero_add]

set_option maxHeartbeats 4000000 in
/-- The probabilities of a latent row. -/
theorem v67 (hh : Holds X σ) (h : Fin 16) (n : Fin 2048) (j : Fin 2304) :
    (show EReal from res_main_v67 σ (ix3 h n j)) = ((prob X (256 + n.val) h.val j.val : ℝ) : EReal) := by
  obtain ⟨M, hM⟩ := shift_lat hh
  have he := v63 hh hM
  have hl := v65 hh hM
  simp only at he hl ⊢
  pointwise [res_main_v67]
  have hne : (∑ j : Fin 2304, Real.exp (sc X (256 + n.val) h.val j.val - M n.val h.val)) ≠ 0 := (sum_exp_pos 2303 _ _).ne'
  simp only [he, hl, div_real _ hne, prob_lat X (show 256 ≤ 256 + n.val by omega)]

set_option maxHeartbeats 4000000 in
/-- The cotangent of a latent row. -/
theorem v139 (hh : Holds X σ) (h : Fin 16) (d : Fin 64) (n : Fin 2048) :
    (show EReal from res_main_v139 σ (ix3 h d n)) = ((X.g (256 + n.val) (64 * h.val + d.val) : ℝ) : EReal) := by
  have hg := hh.g
  simp only at hg ⊢
  pointwise [res_main_v139, res_main_v111]
  simp only [hg]
  congr! 2 <;> omega

set_option maxHeartbeats 4000000 in
/-- The gradient of a latent row's probabilities. -/
theorem v140 (hh : Holds X σ) (h : Fin 16) (n : Fin 2048) (j : Fin 2304) :
    (show EReal from res_main_v140 σ (ix3 h n j)) = ((dp X (256 + n.val) h.val j.val : ℝ) : EReal) := by
  have hg := v139 hh
  have hv := hh.v
  simp only at hg hv ⊢
  pointwise [res_main_v140]
  simp only [hg, hv, ← EReal.coe_mul, coe_sum, zero_add]
  rfl

set_option maxHeartbeats 4000000 in
/-- The gradient of a latent row's scores. -/
theorem v157 (hh : Holds X σ) (h : Fin 16) (n : Fin 2048) (j : Fin 2304) :
    (show EReal from res_main_v157 σ (ix3 h n j)) = ((ds X (256 + n.val) h.val j.val : ℝ) : EReal) := by
  obtain ⟨M, hM⟩ := shift_lat hh
  have he := v63 hh hM
  have hl := v65 hh hM
  have hd := v140 hh
  simp only at he hl hd ⊢
  pointwise [res_main_v157]
  have hne : (∑ j : Fin 2304, Real.exp (sc X (256 + n.val) h.val j.val - M n.val h.val)) ≠ 0 := (sum_exp_pos 2303 _ _).ne'
  rw [one_eq]
  simp only [he, hl, hd, scale_eq, ← EReal.coe_mul, div_real _ hne, div_real _ (mul_ne_zero hne hne), coe_sum,
    ← EReal.coe_neg, ← EReal.coe_add, zero_add, Finset.univ_unique, Finset.sum_singleton]
  refine congrArg _ ?_
  rw [quot_rule _ (fun j => dp X (256 + n.val) h.val j.val) (fun j => prob X (256 + n.val) h.val j.val) _ hne
    (fun j => prob_lat X (show 256 ≤ 256 + n.val by omega) h.val j.val (M n.val h.val)) j]
  rw [ds, sum_lat (show 256 ≤ 256 + n.val by omega) fun j' => prob X (256 + n.val) h.val j' * dp X (256 + n.val) h.val j']

/-- The shift of a context row, picked for all rows and heads. -/
theorem shift_ctx (hh : Holds X σ) : ∃ M : ℕ → ℕ → ℝ, ∀ (h : Fin 16) (n : Fin 256),
    (show EReal from res_main_v79 σ (ix2 h n)) = ((M n.val h.val : ℝ) : EReal) :=
  pick _ (v79 hh)

theorem shift_word_ctx (B : FVec Ideal S16x256 .f32) (h : Fin 16) (n : Fin 256) :
    (show EReal from maximumf (broadcastInDim S16x256 ![] bcast_S_S16x256 (constant S_ .f32 0xFF800000#32)) B (ix2 h n))
      = max (Ideal.ofBits .f32 0xFF800000#32) (B (ix2 h n)) := by
  simp only
  pointwise

theorem spread_ctx (B : FVec Ideal S16x256 .f32) (h : Fin 16) (n : Fin 256) (j : Fin 256) :
    (show EReal from broadcastInDim S16x256x256 ![0, 1, 2] bcast_S16x256x1_S16x256x256_0_1_2
      (broadcastInDim S16x256x1 ![0, 1] bcast_S16x256_S16x256x1_0_1 B) (ix3 h n j)) = B (ix2 h n) := by
  simp only
  pointwise

/-- An exponential of a score less its row's shift. -/
theorem shifted_ctx (A : FVec Ideal S16x256x256 .f32) (B : FVec Ideal S16x256 .f32) (h : Fin 16) (n : Fin 256) (j : Fin 256) :
    (show EReal from Host.exp (subf A (broadcastInDim S16x256x256 ![0, 1, 2] bcast_S16x256x1_S16x256x256_0_1_2
      (broadcastInDim S16x256x1 ![0, 1] bcast_S16x256_S16x256x1_0_1
        (maximumf (broadcastInDim S16x256 ![] bcast_S_S16x256 (constant S_ .f32 0xFF800000#32)) B)))) (ix3 h n j))
      = Ideal.exp ((show EReal from A (ix3 h n j)) - max (Ideal.ofBits .f32 0xFF800000#32) (show EReal from B (ix2 h n))) := by
  have h1 := spread_ctx (maximumf (broadcastInDim S16x256 ![] bcast_S_S16x256 (constant S_ .f32 0xFF800000#32)) B) h n j
  have h2 := shift_word_ctx B h n
  simp only at h1 h2 ⊢
  rw [h2] at h1
  generalize broadcastInDim S16x256x256 ![0, 1, 2] bcast_S16x256x1_S16x256x256_0_1_2
      (broadcastInDim S16x256x1 ![0, 1] bcast_S16x256_S16x256x1_0_1
        (maximumf (broadcastInDim S16x256 ![] bcast_S_S16x256 (constant S_ .f32 0xFF800000#32)) B)) = C at h1 ⊢
  rw [← h1]
  pointwise

theorem v99 (hh : Holds X σ) {M : ℕ → ℕ → ℝ} (hM : ∀ (h : Fin 16) (n : Fin 256),
    (show EReal from res_main_v79 σ (ix2 h n)) = ((M n.val h.val : ℝ) : EReal)) (h : Fin 16) (n : Fin 256) (j : Fin 256) :
    (show EReal from res_main_v99 σ (ix3 h n j)) = ((Real.exp (sc X (n.val) h.val j.val - M n.val h.val) : ℝ) : EReal) := by
  refine (shifted_ctx _ _ h n j).trans ?_
  have hs := v78 hh h n j
  have hm := hM h n
  simp only at hs hm
  rw [hs, hm, max_eq_right (bottom ▸ bot_le), ← EReal.coe_sub, Ideal.exp_coe]

set_option maxHeartbeats 4000000 in
theorem v101 (hh : Holds X σ) {M : ℕ → ℕ → ℝ} (hM : ∀ (h : Fin 16) (n : Fin 256),
    (show EReal from res_main_v79 σ (ix2 h n)) = ((M n.val h.val : ℝ) : EReal)) (h : Fin 16) (n : Fin 256) (e : Fin 1) :
    (show EReal from res_main_v101 σ (ix3 h n e))
      = ((∑ j : Fin 256, Real.exp (sc X (n.val) h.val j.val - M n.val h.val) : ℝ) : EReal) := by
  have he := v99 hh hM
  simp only at he ⊢
  pointwise [res_main_v101]
  simp only [he, coe_sum, zero_add]

set_option maxHeartbeats 4000000 in
/-- The probabilities of a context row. -/
theorem v103 (hh : Holds X σ) (h : Fin 16) (n : Fin 256) (j : Fin 256) :
    (show EReal from res_main_v103 σ (ix3 h n j)) = ((prob X (n.val) h.val j.val : ℝ) : EReal) := by
  obtain ⟨M, hM⟩ := shift_ctx hh
  have he := v99 hh hM
  have hl := v101 hh hM
  simp only at he hl ⊢
  pointwise [res_main_v103]
  have hne : (∑ j : Fin 256, Real.exp (sc X (n.val) h.val j.val - M n.val h.val)) ≠ 0 := (sum_exp_pos 255 _ _).ne'
  simp only [he, hl, div_real _ hne, prob_ctx X n.isLt]

set_option maxHeartbeats 4000000 in
/-- The cotangent of a context row. -/
theorem v114 (hh : Holds X σ) (h : Fin 16) (d : Fin 64) (n : Fin 256) :
    (show EReal from res_main_v114 σ (ix3 h d n)) = ((X.g (n.val) (64 * h.val + d.val) : ℝ) : EReal) := by
  have hg := hh.g
  simp only at hg ⊢
  pointwise [res_main_v114, res_main_v111]
  simp only [hg]
  congr! 2 <;> omega

set_option maxHeartbeats 4000000 in
/-- The gradient of a context row's probabilities. -/
theorem v115 (hh : Holds X σ) (h : Fin 16) (n : Fin 256) (j : Fin 256) :
    (show EReal from res_main_v115 σ (ix3 h n j)) = ((dp X (n.val) h.val j.val : ℝ) : EReal) := by
  have hg := v114 hh
  have hv := hh.v
  simp only at hg hv ⊢
  pointwise [res_main_v115, res_main_v75]
  simp only [hg, hv, ← EReal.coe_mul, coe_sum, zero_add]
  rfl

set_option maxHeartbeats 4000000 in
/-- The gradient of a context row's scores. -/
theorem v131 (hh : Holds X σ) (h : Fin 16) (n : Fin 256) (j : Fin 256) :
    (show EReal from res_main_v131 σ (ix3 h n j)) = ((ds X (n.val) h.val j.val : ℝ) : EReal) := by
  obtain ⟨M, hM⟩ := shift_ctx hh
  have he := v99 hh hM
  have hl := v101 hh hM
  have hd := v115 hh
  simp only at he hl hd ⊢
  pointwise [res_main_v131]
  have hne : (∑ j : Fin 256, Real.exp (sc X (n.val) h.val j.val - M n.val h.val)) ≠ 0 := (sum_exp_pos 255 _ _).ne'
  rw [one_eq]
  simp only [he, hl, hd, scale_eq, ← EReal.coe_mul, div_real _ hne, div_real _ (mul_ne_zero hne hne), coe_sum,
    ← EReal.coe_neg, ← EReal.coe_add, zero_add, Finset.univ_unique, Finset.sum_singleton]
  refine congrArg _ ?_
  rw [quot_rule _ (fun j => dp X (n.val) h.val j.val) (fun j => prob X (n.val) h.val j.val) _ hne
    (fun j => prob_ctx X n.isLt h.val j.val (M n.val h.val)) j]
  rw [ds, sum_ctx n.isLt fun j' => prob X (n.val) h.val j' * dp X (n.val) h.val j']

end Attn.Ref
-- ==== Proof.RefOut.lean ====
/-
  The reference's three gradients as the real numbers of the mathematics.
-/
module

public import proofs.«01_k».proof.Proof.RefScores

@[expose] public section

set_option maxRecDepth 16384
noncomputable section
open Idealize.ShloMosaic Idealize.ShloMosaic.TcCoe Idealize.SL.Sem
namespace Attn.Ref
open Cert.ReferenceIdeal Cert.ReferenceIdeal.Gen Cert.ReferenceIdeal.Value
variable {X : Inp} {σ : Valuation τ sig (Elt Ideal)}

theorem conv_zero : (FloatOps.sitofp FTy.f32 0#32 : Ideal .f32) = (0 : EReal) := by
  show (((0#32 : BitVec 32).toInt : ℝ) : EReal) = 0
  simp

variable (σ) in
def ctxQ : FVec Ideal S256x16x96 .f32 := transpose S256x16x96 [1, 0, 2] (Host.dotGeneral (φ₁ := .f32) (φ₂ := .f32) dot_S16x256x256_S256x16x96_S16x256x96_2_0_1_2_0_1 none (res_main_v131 σ) (res_main_v74 σ)) transposes_S16x256x96_S256x16x96_1_0_2
variable (σ) in
def turnHi : FVec Ideal S2048x16x16 .f32 := addf (pad S2048x16x16 ![0, 0, 8] ![0, 0, 0] ![0, 0, 0] (addf (mulf (res_main_v168 σ) (broadcastInDim S2048x16x8 ![0, 1, 2] bcast_S2048x1x8_S2048x16x8_0_1_2 (res_main_v23 σ))) (mulf (Host.negf (res_main_v167 σ)) (broadcastInDim S2048x16x8 ![0, 1, 2] bcast_S2048x1x8_S2048x16x8_0_1_2 (res_main_v24 σ)))) (constant S_ .f32 0x00000000#32) pads_S2048x16x8_S2048x16x16_000_000_800 h_S_) (pad S2048x16x16 ![0, 0, 0] ![0, 0, 8] ![0, 0, 0] (addf (mulf (res_main_v168 σ) (broadcastInDim S2048x16x8 ![0, 1, 2] bcast_S2048x1x8_S2048x16x8_0_1_2 (res_main_v24 σ))) (mulf (res_main_v167 σ) (broadcastInDim S2048x16x8 ![0, 1, 2] bcast_S2048x1x8_S2048x16x8_0_1_2 (res_main_v23 σ)))) (constant S_ .f32 0x00000000#32) pads_S2048x16x8_S2048x16x16_000_000_080 h_S_)
variable (σ) in
def turnLo : FVec Ideal S2048x16x16 .f32 := addf (pad S2048x16x16 ![0, 0, 8] ![0, 0, 0] ![0, 0, 0] (addf (mulf (res_main_v185 σ) (broadcastInDim S2048x16x8 ![0, 1, 2] bcast_S2048x1x8_S2048x16x8_0_1_2 (res_main_v5 σ))) (mulf (Host.negf (res_main_v184 σ)) (broadcastInDim S2048x16x8 ![0, 1, 2] bcast_S2048x1x8_S2048x16x8_0_1_2 (res_main_v6 σ)))) (constant S_ .f32 0x00000000#32) pads_S2048x16x8_S2048x16x16_000_000_800 h_S_) (pad S2048x16x16 ![0, 0, 0] ![0, 0, 8] ![0, 0, 0] (addf (mulf (res_main_v185 σ) (broadcastInDim S2048x16x8 ![0, 1, 2] bcast_S2048x1x8_S2048x16x8_0_1_2 (res_main_v6 σ))) (mulf (res_main_v184 σ) (broadcastInDim S2048x16x8 ![0, 1, 2] bcast_S2048x1x8_S2048x16x8_0_1_2 (res_main_v5 σ)))) (constant S_ .f32 0x00000000#32) pads_S2048x16x8_S2048x16x16_000_000_080 h_S_)
variable (σ) in
def turnAll : FVec Ideal S2048x16x32 .f32 := addf (pad S2048x16x32 ![0, 0, 16] ![0, 0, 0] ![0, 0, 0] (turnHi σ) (constant S_ .f32 0x00000000#32) pads_S2048x16x16_S2048x16x32_000_000_1600 h_S_) (pad S2048x16x32 ![0, 0, 0] ![0, 0, 16] ![0, 0, 0] (turnLo σ) (constant S_ .f32 0x00000000#32) pads_S2048x16x16_S2048x16x32_000_000_0160 h_S_)
variable (σ) in
def sumQ : FVec Ideal S2304x16x96 .f32 := addf (addf (pad S2304x16x96 ![0, 0, 0] ![2048, 0, 0] ![0, 0, 0] (ctxQ σ) (constant S_ .f32 0x00000000#32) pads_S256x16x96_S2304x16x96_020480_000_000 h_S_) (pad S2304x16x96 ![256, 0, 64] ![0, 0, 0] ![0, 0, 0] (turnAll σ) (constant S_ .f32 0x00000000#32) pads_S2048x16x32_S2304x16x96_25600_000_6400 h_S_)) (pad S2304x16x96 ![256, 0, 0] ![0, 0, 32] ![0, 0, 0] (extractStridedSlice S2048x16x64 ![0, 0, 0] (res_main_v162 σ) slices_S2048x16x96_S2048x16x64_0_0_0) (constant S_ .f32 0x00000000#32) pads_S2048x16x64_S2304x16x96_25600_000_0320 h_S_)
variable (σ) in
/-- The queries' gradient as the reference computes it. -/
def gradQ : FVec Ideal S2304x2048 .bf16 := truncf .bf16 (shapeCast _ (pad S2304x16x128 ![0, 0, 0] ![0, 0, 32] ![0, 0, 0] (sumQ σ) (sitofp .f32 (constantI S_ 32 0#32)) pads_S2304x16x96_S2304x16x128_000_000_0320 h_S_) shapeCasts_S2304x16x128_S2304x2048) bitsLt_bf16_f32
variable (σ) in
def ctxK : FVec Ideal S256x16x96 .f32 := transpose S256x16x96 [1, 0, 2] (Host.dotGeneral (φ₁ := .f32) (φ₂ := .f32) dot_S16x256x256_S256x16x96_S16x256x96_1_0_2_2_0_1 none (res_main_v131 σ) (res_main_v73 σ)) transposes_S16x256x96_S256x16x96_1_0_2
variable (σ) in
def latK : FVec Ideal S2304x16x96 .f32 := transpose S2304x16x96 [1, 0, 2] (Host.dotGeneral (φ₁ := .f32) (φ₂ := .f32) dot_S16x2048x2304_S2048x16x96_S16x2304x96_1_0_2_2_0_1 none (res_main_v157 σ) (res_main_v39 σ)) transposes_S16x2304x96_S2304x16x96_1_0_2
variable (σ) in
/-- The keys' gradient as the reference computes it. -/
def gradK : FVec Ideal S2304x2048 .f32 := shapeCast _ (pad S2304x16x128 ![0, 0, 0] ![0, 0, 32] ![0, 0, 0] (addf (pad S2304x16x96 ![0, 0, 0] ![2048, 0, 0] ![0, 0, 0] (ctxK σ) (constant S_ .f32 0x00000000#32) pads_S256x16x96_S2304x16x96_020480_000_000 h_S_) (latK σ)) (sitofp .f32 (constantI S_ 32 0#32)) pads_S2304x16x96_S2304x16x128_000_000_0320 h_S_) shapeCasts_S2304x16x128_S2304x2048
variable (σ) in
def ctxV : FVec Ideal S256x16x64 .f32 := transpose S256x16x64 [2, 0, 1] (Host.dotGeneral (φ₁ := .f32) (φ₂ := .f32) dot_S16x64x256_S16x256x256_S16x64x256_2_1_1_2_0_0 none (res_main_v114 σ) (res_main_v103 σ)) transposes_S16x64x256_S256x16x64_2_0_1
variable (σ) in
def latV : FVec Ideal S2304x16x64 .f32 := transpose S2304x16x64 [2, 0, 1] (Host.dotGeneral (φ₁ := .f32) (φ₂ := .f32) dot_S16x64x2048_S16x2048x2304_S16x64x2304_2_1_1_2_0_0 none (res_main_v139 σ) (res_main_v67 σ)) transposes_S16x64x2304_S2304x16x64_2_0_1
variable (σ) in
/-- The values' gradient as the reference computes it. -/
def gradV : FVec Ideal S2304x1024 .f32 := shapeCast _ (addf (pad S2304x16x64 ![0, 0, 0] ![2048, 0, 0] ![0, 0, 0] (ctxV σ) (constant S_ .f32 0x00000000#32) pads_S256x16x64_S2304x16x64_020480_000_000 h_S_) (latV σ)) shapeCasts_S2304x16x64_S2304x1024

set_option maxHeartbeats 4000000 in
theorem ctxQ_eq (hh : Holds X σ) (n : Fin 256) (h : Fin 16) (d : Fin 96) :
    (show EReal from ctxQ σ (ix3 n h d)) = ((dqr X n.val h.val d.val : ℝ) : EReal) := by
  have hs := v131 hh
  have hk := hh.k
  simp only at hs hk ⊢
  pointwise [ctxQ, res_main_v74]
  simp only [hs, hk, ← EReal.coe_mul, coe_sum, zero_add]
  rw [dqr, sum_ctx n.isLt fun j => ds X n.val h.val j * X.k j h.val d.val]

set_option maxHeartbeats 4000000 in
theorem v162 (hh : Holds X σ) (n : Fin 2048) (h : Fin 16) (d : Fin 96) :
    (show EReal from res_main_v162 σ (ix3 n h d)) = ((dqr X (256 + n.val) h.val d.val : ℝ) : EReal) := by
  have hs := v157 hh
  have hk := hh.k
  simp only at hs hk ⊢
  pointwise [res_main_v162]
  simp only [hs, hk, ← EReal.coe_mul, coe_sum, zero_add]
  rw [dqr, sum_lat (show 256 ≤ 256 + n.val by omega) fun j => ds X (256 + n.val) h.val j * X.k j h.val d.val]

set_option maxHeartbeats 4000000 in
/-- Eight pairs turned back: the first eight lanes read the pairs' first halves. -/
theorem unturn (A B : FVec Ideal S2048x16x8 .f32) (C D : FVec Ideal S2048x1x8 .f32) (n : Fin 2048) (h f : Fin 16)
    (y : ℕ → ℝ) (c s : ℕ → ℝ) (hA : ∀ e : Fin 8, A (ix3 n h e) = ((y (e.val + 8) : ℝ) : EReal))
    (hB : ∀ e : Fin 8, B (ix3 n h e) = ((y e.val : ℝ) : EReal))
    (hC : ∀ e : Fin 8, C (ix3 n 0 e) = ((c e.val : ℝ) : EReal)) (hD : ∀ e : Fin 8, D (ix3 n 0 e) = ((s e.val : ℝ) : EReal)) :
    (show EReal from (addf (pad S2048x16x16 ![0, 0, 8] ![0, 0, 0] ![0, 0, 0] (addf (mulf A (broadcastInDim S2048x16x8 ![0, 1, 2] bcast_S2048x1x8_S2048x16x8_0_1_2 C)) (mulf (Host.negf B) (broadcastInDim S2048x16x8 ![0, 1, 2] bcast_S2048x1x8_S2048x16x8_0_1_2 D))) (constant S_ .f32 0x00000000#32) pads_S2048x16x8_S2048x16x16_000_000_800 h_S_) (pad S2048x16x16 ![0, 0, 0] ![0, 0, 8] ![0, 0, 0] (addf (mulf A (broadcastInDim S2048x16x8 ![0, 1, 2] bcast_S2048x1x8_S2048x16x8_0_1_2 D)) (mulf B (broadcastInDim S2048x16x8 ![0, 1, 2] bcast_S2048x1x8_S2048x16x8_0_1_2 C))) (constant S_ .f32 0x00000000#32) pads_S2048x16x8_S2048x16x16_000_000_080 h_S_) : FVec Ideal S2048x16x16 .f32) (ix3 n h f))
      = ((if f.val < 8 then y f.val * c f.val + y (f.val + 8) * s f.val
          else y f.val * c (f.val - 8) - y (f.val - 8) * s (f.val - 8) : ℝ) : EReal) := by
  simp only
  pointwise
  simp only [Fin.mk_zero, Fin.zero_eta, hA, hB, hC, hD, ← EReal.coe_neg, ← EReal.coe_mul, ← EReal.coe_add]
  split_ifs
  all_goals first
    | (exfalso; omega)
    | skip
  all_goals simp only [zero_add, add_zero, EReal.coe_eq_coe_iff]
  all_goals first
    | ring1
    | (rw [show f.val - 8 + 8 = f.val by omega]; ring1)

set_option maxHeartbeats 4000000 in
theorem turnLo_eq (hh : Holds X σ) (n : Fin 2048) (h : Fin 16) (f : Fin 16) :
    (show EReal from turnLo σ (ix3 n h f)) = ((dq X (256 + n.val) h.val (64 + f.val) : ℝ) : EReal) := by
  have hd := v162 hh
  obtain ⟨-, -, -, hc, hs, -⟩ := hh
  simp only at hd hc hs
  refine (unturn (res_main_v185 σ) (res_main_v184 σ) (res_main_v5 σ) (res_main_v6 σ) n h f
    (fun e => dqr X (256 + n.val) h.val (64 + e)) (fun e => X.cs n.val (0 + e)) (fun e => X.sn n.val (0 + e))
    ?_ ?_ ?_ ?_).trans ?_
  · intro e
    pointwise [res_main_v185, res_main_v165, res_main_v164]
    simp only [hd]
    all_goals (congr! 2 <;> omega)
  · intro e
    pointwise [res_main_v184, res_main_v165, res_main_v164]
    simp only [hd]
    all_goals (congr! 2 <;> omega)
  · intro e
    pointwise [res_main_v5]
    simp only [hc]
    all_goals (congr! 2 <;> omega)
  · intro e
    pointwise [res_main_v6]
    simp only [hs]
    all_goals (congr! 2 <;> omega)
  · beta_reduce
    rw [dq, if_neg (show ¬ (256 + n.val < 256 ∨ 64 + f.val < 64) by omega)]
    refine congrArg _ ?_
    have e1 : 256 + n.val - 256 = n.val := by omega
    rw [e1]
    split_ifs
    all_goals first
      | (exfalso; omega)
      | (congr! 3 <;> omega)
      | (congr! 4 <;> omega)

set_option maxHeartbeats 4000000 in
theorem turnHi_eq (hh : Holds X σ) (n : Fin 2048) (h : Fin 16) (f : Fin 16) :
    (show EReal from turnHi σ (ix3 n h f)) = ((dq X (256 + n.val) h.val (80 + f.val) : ℝ) : EReal) := by
  have hd := v162 hh
  obtain ⟨-, -, -, hc, hs, -⟩ := hh
  simp only at hd hc hs
  refine (unturn (res_main_v168 σ) (res_main_v167 σ) (res_main_v23 σ) (res_main_v24 σ) n h f
    (fun e => dqr X (256 + n.val) h.val (80 + e)) (fun e => X.cs n.val (8 + e)) (fun e => X.sn n.val (8 + e))
    ?_ ?_ ?_ ?_).trans ?_
  · intro e
    pointwise [res_main_v168, res_main_v166, res_main_v164]
    simp only [hd]
    all_goals (congr! 2 <;> omega)
  · intro e
    pointwise [res_main_v167, res_main_v166, res_main_v164]
    simp only [hd]
    all_goals (congr! 2 <;> omega)
  · intro e
    pointwise [res_main_v23]
    simp only [hc]
    all_goals (congr! 2 <;> omega)
  · intro e
    pointwise [res_main_v24]
    simp only [hs]
    all_goals (congr! 2 <;> omega)
  · beta_reduce
    rw [dq, if_neg (show ¬ (256 + n.val < 256 ∨ 80 + f.val < 64) by omega)]
    refine congrArg _ ?_
    have e1 : 256 + n.val - 256 = n.val := by omega
    rw [e1]
    split_ifs
    all_goals first
      | (exfalso; omega)
      | (congr! 3 <;> omega)
      | (congr! 4 <;> omega)

set_option maxHeartbeats 4000000 in
theorem turnAll_eq (hh : Holds X σ) (n : Fin 2048) (h : Fin 16) (f : Fin 32) :
    (show EReal from turnAll σ (ix3 n h f)) = ((dq X (256 + n.val) h.val (64 + f.val) : ℝ) : EReal) := by
  have hl := turnLo_eq hh
  have hu := turnHi_eq hh
  simp only at hl hu ⊢
  pointwise [turnAll]
  simp only [hl, hu]
  split_ifs
  all_goals first
    | (exfalso; omega)
    | skip
  all_goals simp only [zero_add, add_zero]
  all_goals congr! 2 <;> omega

set_option maxHeartbeats 4000000 in
theorem sumQ_eq (hh : Holds X σ) (n : Fin 2304) (h : Fin 16) (d : Fin 96) :
    (show EReal from sumQ σ (ix3 n h d)) = ((dq X n.val h.val d.val : ℝ) : EReal) := by
  have hl := turnAll_eq hh
  have hu := ctxQ_eq hh
  have hd := v162 hh
  simp only at hl hu hd ⊢
  pointwise [sumQ]
  simp only [hl, hu, hd]
  split_ifs
  all_goals first
    | (exfalso; omega)
    | skip
  all_goals simp only [zero_add, add_zero]
  all_goals first
    | (rw [dq, if_pos (by omega), show 256 + (n.val - 256) = n.val by omega]; done)
    | (rw [dq, if_pos (by omega)]; done)
    | (congr! 2 <;> omega)

set_option maxHeartbeats 4000000 in
theorem gradQ_eq (hh : Holds X σ) (n : Fin 2304) (l : Fin 2048) :
    (show EReal from gradQ σ (ix2 n l)) = ((if l.val % 128 < 96 then dq X n.val (l.val / 128) (l.val % 128) else 0 : ℝ) : EReal) := by
  have hd := sumQ_eq hh
  simp only at hd ⊢
  pointwise [gradQ]
  simp only [hd, conv_zero]
  split_ifs
  all_goals first
    | rfl
    | (exfalso; omega)
    | (congr! 2 <;> omega)

set_option maxHeartbeats 4000000 in
theorem ctxK_eq (hh : Holds X σ) (j : Fin 256) (h : Fin 16) (d : Fin 96) :
    (show EReal from ctxK σ (ix3 j h d))
      = ((∑ n : Fin 256, ds X n.val h.val j.val * qr X n.val h.val d.val : ℝ) : EReal) := by
  have hs := v131 hh
  have hq := hh.q
  simp only at hs hq ⊢
  pointwise [ctxK, res_main_v73]
  simp only [hs, hq, ← EReal.coe_mul, coe_sum, zero_add]
  refine congrArg _ (Finset.sum_congr rfl fun n _ => ?_)
  rw [qr, if_pos n.isLt]

set_option maxHeartbeats 4000000 in
theorem latK_eq (hh : Holds X σ) (j : Fin 2304) (h : Fin 16) (d : Fin 96) :
    (show EReal from latK σ (ix3 j h d))
      = ((∑ n : Fin 2048, ds X (256 + n.val) h.val j.val * qr X (256 + n.val) h.val d.val : ℝ) : EReal) := by
  have hs := v157 hh
  have hq := v39 hh
  simp only at hs hq ⊢
  pointwise [latK]
  simp only [hs, hq, ← EReal.coe_mul, coe_sum, zero_add]
  refine congrArg _ (Finset.sum_congr rfl fun n _ => ?_)
  rw [qr, if_neg (show ¬ 256 + n.val < 256 by omega), show 256 + n.val - 256 = n.val by omega]

set_option maxHeartbeats 4000000 in
theorem gradK_eq (hh : Holds X σ) (n : Fin 2304) (l : Fin 2048) :
    (show EReal from gradK σ (ix2 n l)) = ((if l.val % 128 < 96 then dk X n.val (l.val / 128) (l.val % 128) else 0 : ℝ) : EReal) := by
  have hc := ctxK_eq hh
  have hl := latK_eq hh
  simp only at hc hl ⊢
  pointwise [gradK]
  simp only [hc, hl, conv_zero, ← EReal.coe_add]
  unfold dk
  split_ifs
  all_goals first
    | rfl
    | (exfalso; omega)
    | skip
  all_goals (try simp only [zero_add, EReal.coe_eq_coe_iff])
  all_goals first
    | rfl
    | (congr! 4 <;> omega)
    | (congr! 5 <;> omega)

set_option maxHeartbeats 4000000 in
theorem ctxV_eq (hh : Holds X σ) (j : Fin 256) (h : Fin 16) (d : Fin 64) :
    (show EReal from ctxV σ (ix3 j h d))
      = ((∑ n : Fin 256, X.g n.val (64 * h.val + d.val) * prob X n.val h.val j.val : ℝ) : EReal) := by
  have hg := v114 hh
  have hp := v103 hh
  simp only at hg hp ⊢
  pointwise [ctxV]
  simp only [hg, hp, ← EReal.coe_mul, coe_sum, zero_add]

set_option maxHeartbeats 4000000 in
theorem latV_eq (hh : Holds X σ) (j : Fin 2304) (h : Fin 16) (d : Fin 64) :
    (show EReal from latV σ (ix3 j h d))
      = ((∑ n : Fin 2048, X.g (256 + n.val) (64 * h.val + d.val) * prob X (256 + n.val) h.val j.val : ℝ) : EReal) := by
  have hg := v139 hh
  have hp := v67 hh
  simp only at hg hp ⊢
  pointwise [latV]
  simp only [hg, hp, ← EReal.coe_mul, coe_sum, zero_add]

set_option maxHeartbeats 4000000 in
theorem gradV_eq (hh : Holds X σ) (n : Fin 2304) (l : Fin 1024) :
    (show EReal from gradV σ (ix2 n l)) = ((dv X n.val (l.val / 64) (l.val % 64) : ℝ) : EReal) := by
  have hc := ctxV_eq hh
  have hl := latV_eq hh
  simp only at hc hl ⊢
  pointwise [gradV]
  simp only [hc, hl, ← EReal.coe_add]
  unfold dv
  split_ifs
  all_goals first
    | (exfalso; omega)
    | skip
  all_goals (try simp only [zero_add, EReal.coe_eq_coe_iff])
  all_goals first
    | rfl
    | (congr! 4 <;> omega)
    | (congr! 5 <;> omega)

end Attn.Ref
-- ==== Proof.Finite.lean ====
/-
  Six finite arrays are arrays of real numbers: the input of the mathematics read from the arguments.
-/
module

public import proofs.«01_k».proof.Proof.Attn
public import proofs.«01_k».proof.Proof.Gen.Pre_finite
public import Idealize.ShloMosaic.Lib.Pointwise

@[expose] public section

set_option maxRecDepth 16384
noncomputable section
open Idealize.ShloMosaic
namespace Attn.Finite
open Cert.Pre_finite Cert.Pre_finite.Gen

theorem top_word : (Ideal.ofBits .f32 0x7F800000#32 : EReal) = ⊤ := by simp [Ideal.ofBits, Ideal.ieee]

/-- A number whose absolute value is below infinity is a real number. -/
theorem real_of_abs (x : EReal) (h : (FloatOps.cmpf (F := Ideal) (φ := .f32) .olt
    (FloatOps.hostAbsf (F := Ideal) (φ := .f32) x) (Ideal.ofBits .f32 0x7F800000#32) : BitVec 1) = 1#1) :
    ((x.toReal : ℝ) : EReal) = x := by
  rw [top_word] at h
  have h1 : (max x (-x) : EReal) < ⊤ := by
    by_contra hn
    have h2 : (FloatOps.cmpf (F := Ideal) (φ := .f32) .olt (max x (-x) : EReal) (⊤ : EReal) : BitVec 1) = 0#1 := by
      simp [FloatOps.cmpf, Ideal.cmp, hn]
    exact absurd (h2.symm.trans h) (by decide)
  refine EReal.coe_toReal (fun e => ?_) (fun e => ?_)
  · rw [e] at h1; simp at h1
  · rw [e] at h1; simp at h1

/-- An array read at natural numbers. -/
def at3 {N M K : ℕ} (A : FVec Ideal ⟨3, ![N, M, K]⟩ .f32) (n m k : ℕ) : ℝ :=
  if h : n < N ∧ m < M ∧ k < K then EReal.toReal (A (ix3 ⟨n, h.1⟩ ⟨m, h.2.1⟩ ⟨k, h.2.2⟩)) else 0
@[inherit_doc at3] def at2 {N M : ℕ} (A : FVec Ideal ⟨2, ![N, M]⟩ .f32) (n m : ℕ) : ℝ :=
  if h : n < N ∧ m < M then EReal.toReal (A (ix2 ⟨n, h.1⟩ ⟨m, h.2⟩)) else 0

theorem at3_eq {N M K : ℕ} (A : FVec Ideal ⟨3, ![N, M, K]⟩ .f32) (a : Fin N) (b : Fin M) (e : Fin K) :
    at3 A a.val b.val e.val = EReal.toReal (A (ix3 a b e)) := dif_pos ⟨a.isLt, b.isLt, e.isLt⟩
theorem at2_eq {N M : ℕ} (A : FVec Ideal ⟨2, ![N, M]⟩ .f32) (a : Fin N) (b : Fin M) :
    at2 A a.val b.val = EReal.toReal (A (ix2 a b)) := dif_pos ⟨a.isLt, b.isLt⟩

variable (q k : FVec Ideal S2304x16x96 .f32) (v : FVec Ideal S2304x16x64 .f32) (c s : FVec Ideal S2048x16 .f32)
  (g : FVec Ideal S2304x1024 .f32)

/-- The input the six arrays hold. -/
def inp : Inp := ⟨at3 q, at3 k, at3 v, at2 c, at2 s, at2 g⟩

theorem real_q (h : (fn q k v c s g).1 = fun _ => 1#1) (a b e) :
    (show EReal from q (ix3 a b e)) = (((inp q k v c s g).q a.val b.val e.val : ℝ) : EReal) := by
  have h1 := congrFun h (ix3 a b e)
  exact ((congrArg _ (at3_eq q a b e)).trans (real_of_abs _ h1)).symm
theorem real_k (h : (fn q k v c s g).2.1 = fun _ => 1#1) (a b e) :
    (show EReal from k (ix3 a b e)) = (((inp q k v c s g).k a.val b.val e.val : ℝ) : EReal) := by
  have h1 := congrFun h (ix3 a b e)
  exact ((congrArg _ (at3_eq k a b e)).trans (real_of_abs _ h1)).symm
theorem real_v (h : (fn q k v c s g).2.2.1 = fun _ => 1#1) (a b e) :
    (show EReal from v (ix3 a b e)) = (((inp q k v c s g).v a.val b.val e.val : ℝ) : EReal) := by
  have h1 := congrFun h (ix3 a b e)
  exact ((congrArg _ (at3_eq v a b e)).trans (real_of_abs _ h1)).symm
theorem real_c (h : (fn q k v c s g).2.2.2.1 = fun _ => 1#1) (a b) :
    (show EReal from c (ix2 a b)) = (((inp q k v c s g).cs a.val b.val : ℝ) : EReal) := by
  have h1 := congrFun h (ix2 a b)
  exact ((congrArg _ (at2_eq c a b)).trans (real_of_abs _ h1)).symm
theorem real_s (h : (fn q k v c s g).2.2.2.2.1 = fun _ => 1#1) (a b) :
    (show EReal from s (ix2 a b)) = (((inp q k v c s g).sn a.val b.val : ℝ) : EReal) := by
  have h1 := congrFun h (ix2 a b)
  exact ((congrArg _ (at2_eq s a b)).trans (real_of_abs _ h1)).symm
theorem real_g (h : (fn q k v c s g).2.2.2.2.2 = fun _ => 1#1) (a b) :
    (show EReal from g (ix2 a b)) = (((inp q k v c s g).g a.val b.val : ℝ) : EReal) := by
  have h1 := congrFun h (ix2 a b)
  exact ((congrArg _ (at2_eq g a b)).trans (real_of_abs _ h1)).symm

end Attn.Finite
-- ==== Proof.Assemble.lean ====
/-
  The two runs meet: what the kernel leaves and what the reference leaves are the same three gradients.
-/
module

public import proofs.«01_k».proof.Defs
public import proofs.«01_k».proof.Proof.KernelValue
public import proofs.«01_k».proof.Proof.RefOut
public import proofs.«01_k».proof.Proof.Finite
public import proofs.«01_k».proof.Proof.Gen.KernelIdeal
public import proofs.«01_k».proof.Proof.Gen.ReferenceIdeal
public import Idealize.ShloMosaic.Lib.Claim
public import Idealize.ShloMosaic.Adequacy

@[expose] public section

set_option maxRecDepth 16384
noncomputable section
open Idealize.ShloMosaic Idealize.ShloMosaic.TcCoe Idealize.SL.Sem
namespace Attn.Assemble

set_option maxHeartbeats 4000000 in
/-- The reference's host lines end, with the arguments as they were. -/
theorem frameRef : Cert.quiescent_ReferenceIdeal (hReferenceIdeal := Cert.ReferenceIdeal.Gen.facts) := by
  intro m g _
  exact (θ_run _ _ _).mono (fun r h => ⟨fun c => (h c).2.2.2, sem_eq_zero_of_no_sems (by decide) r.2⟩)
    (Cert.ReferenceIdeal.Value.run m g)

section Values
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The input the kernel's arguments hold on a device. -/
def X (c : Dev Cert.KernelIdeal.nD) : Inp :=
  Finite.inp (m (c.tc.loc Cert.KernelIdeal.main_arg0)) (m (c.tc.loc Cert.KernelIdeal.main_arg1))
    (m (c.tc.loc Cert.KernelIdeal.main_arg2)) (m (c.tc.loc Cert.KernelIdeal.main_arg3))
    (m (c.tc.loc Cert.KernelIdeal.main_arg4)) (m (c.tc.loc Cert.KernelIdeal.main_arg5))

theorem start (hpre : Cert.Pre_KernelIdeal_finite (hPre_finite := Cert.Pre_finite.Gen.facts) m) (c : Dev Cert.KernelIdeal.nD) : Blocks.Start (X m c) m c := by
  obtain ⟨h0, h1, h2, h3, h4, h5⟩ := hpre c
  exact ⟨Finite.real_q _ _ _ _ _ _ h0, Finite.real_k _ _ _ _ _ _ h1, Finite.real_v _ _ _ _ _ _ h2,
    Finite.real_c _ _ _ _ _ _ h3, Finite.real_s _ _ _ _ _ _ h4, Finite.real_g _ _ _ _ _ _ h5⟩

/-- The reference's arguments hold the same input. -/
theorem startRef (hs : ∀ c, Blocks.Start (X m c) m c) (c : Dev Cert.KernelIdeal.nD)
    (hag : m' (c.tc.loc Cert.ReferenceIdeal.main_arg0) = m (c.tc.loc Cert.KernelIdeal.main_arg0)
      ∧ m' (c.tc.loc Cert.ReferenceIdeal.main_arg1) = m (c.tc.loc Cert.KernelIdeal.main_arg1)
      ∧ m' (c.tc.loc Cert.ReferenceIdeal.main_arg2) = m (c.tc.loc Cert.KernelIdeal.main_arg2)
      ∧ m' (c.tc.loc Cert.ReferenceIdeal.main_arg3) = m (c.tc.loc Cert.KernelIdeal.main_arg3)
      ∧ m' (c.tc.loc Cert.ReferenceIdeal.main_arg4) = m (c.tc.loc Cert.KernelIdeal.main_arg4)
      ∧ m' (c.tc.loc Cert.ReferenceIdeal.main_arg5) = m (c.tc.loc Cert.KernelIdeal.main_arg5)) :
    Ref.Holds (X m c) (StableHlo.launchContents m' c) := by
  obtain ⟨e0, e1, e2, e3, e4, e5⟩ := hag
  exact ⟨fun a b e => (congrFun e0 (ix3 a b e)).trans ((hs c).q a b e),
    fun a b e => (congrFun e1 (ix3 a b e)).trans ((hs c).k a b e),
    fun a b e => (congrFun e2 (ix3 a b e)).trans ((hs c).v a b e),
    fun a b => (congrFun e3 (ix2 a b)).trans ((hs c).cs a b),
    fun a b => (congrFun e4 (ix2 a b)).trans ((hs c).sn a b),
    fun a b => (congrFun e5 (ix2 a b)).trans ((hs c).g a b)⟩

variable (c : Dev Cert.KernelIdeal.nD) (σ : Valuation Cert.ReferenceIdeal.τ Cert.ReferenceIdeal.sig (Elt Ideal))

theorem meetQ (hs : Blocks.Start (X m c) m c) (hr : Ref.Holds (X m c) σ) :
    Ref.gradQ σ = (Cert.KernelIdeal.Value.G9 m c : FVec Ideal Cert.ReferenceIdeal.S2304x2048 .bf16) := by
  funext i
  obtain ⟨a, b, rfl⟩ := Ref.coords2 i
  exact (Ref.gradQ_eq hr a b).trans (Kernel.q_eq _ m c hs a b).symm
theorem meetK (hs : Blocks.Start (X m c) m c) (hr : Ref.Holds (X m c) σ) :
    Ref.gradK σ = (Cert.KernelIdeal.Value.G10 m c : FVec Ideal Cert.ReferenceIdeal.S2304x2048 .f32) := by
  funext i
  obtain ⟨a, b, rfl⟩ := Ref.coords2 i
  exact (Ref.gradK_eq hr a b).trans (Kernel.k_eq _ m c hs a b).symm
theorem meetV (hs : Blocks.Start (X m c) m c) (hr : Ref.Holds (X m c) σ) :
    Ref.gradV σ = (Cert.KernelIdeal.Value.G11 m c : FVec Ideal Cert.ReferenceIdeal.S2304x1024 .f32) := by
  funext i
  obtain ⟨a, b, rfl⟩ := Ref.coords2 i
  exact (Ref.gradV_eq hr a b).trans (Kernel.v_eq _ m c hs a b).symm
end Values

set_option maxHeartbeats 4000000 in
/-- On finite arguments the kernel and the reference leave the same three arrays. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hag
  have hs := start m hpre
  refine ⟨fun c => Cert.KernelIdeal.Value.G9 m c, fun c => Cert.KernelIdeal.Value.G10 m c,
    fun c => Cert.KernelIdeal.Value.G11 m c, Cert.KernelIdeal.Value.run m g, ?_⟩
  refine (θ_run _ _ _).mono ?_ (Cert.ReferenceIdeal.Value.run m' g')
  intro r h c
  obtain ⟨h0, h1, h2, ha⟩ := h c
  have hr := startRef m m' hs c (hag c)
  exact ⟨h0.trans (meetQ m c _ (hs c) hr), h1.trans (meetK m c _ (hs c) hr), h2.trans (meetV m c _ (hs c) hr), ha⟩

end Attn.Assemble
-- ==== Proof.FwdHost.lean ====
/-
  What the host lines before the forward call put in its operands: the padded heads of queries and keys, and the values.
-/
module

public import proofs.«01_k».proof.Proof.Attn
public import proofs.«01_k».proof.Proof.Gen.Kernel2Ideal.Frame
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384
noncomputable section
open Idealize.ShloMosaic Idealize.ShloMosaic.TcCoe Idealize.SL.Sem Idealize.ShloMosaic.StableHlo
namespace Attn.FwdHost
open Cert.Kernel2Ideal Cert.Kernel2Ideal.Gen
variable (X : Inp) (σ : Valuation τ sig (Elt Ideal))

/-! ## The host lines cut in two stretches -/
def opsA : List (HloOp τ sig (Elt Ideal)) := hostOps0.take 40
def opsH : List (HloOp τ sig (Elt Ideal)) := hostOps0.drop 40 ++ (hostOps0_1 ++ (hostOps0_2 ++ (hostOps0_3 ++ hostOps0_4)))

/-- The arguments hold the real numbers of `X`. -/
structure Holds (σ : Valuation τ sig (Elt Ideal)) : Prop where
  q : ∀ a b e, (show EReal from σ main_arg0 (ix3 a b e)) = ((X.q a.val b.val e.val : ℝ) : EReal)
  k : ∀ a b e, (show EReal from σ main_arg1 (ix3 a b e)) = ((X.k a.val b.val e.val : ℝ) : EReal)
  v : ∀ a b e, (show EReal from σ main_arg2 (ix3 a b e)) = ((X.v a.val b.val e.val : ℝ) : EReal)
  cs : ∀ a b, (show EReal from σ main_arg3 (ix2 a b)) = ((X.cs a.val b.val : ℝ) : EReal)
  sn : ∀ a b, (show EReal from σ main_arg4 (ix2 a b)) = ((X.sn a.val b.val : ℝ) : EReal)

set_option maxHeartbeats 4000000 in
/-- The latents' queries, turned. -/
theorem a39 (hq : ∀ a b c, (show EReal from σ main_arg0 (ix3 a b c)) = ((X.q a.val b.val c.val : ℝ) : EReal))
    (hc : ∀ a b, (show EReal from σ main_arg3 (ix2 a b)) = ((X.cs a.val b.val : ℝ) : EReal))
    (hs : ∀ a b, (show EReal from σ main_arg4 (ix2 a b)) = ((X.sn a.val b.val : ℝ) : EReal))
    (a : Fin 2048) (b : Fin 16) (c : Fin 96) :
    (show EReal from after opsA σ main_v39 (ix3 a b c)) = ((qlat X a.val b.val c.val : ℝ) : EReal) := by
  simp only at hq hc hs ⊢
  repeat (after_reads_simp; pointwise)
  simp only [hq, hc, hs, ← EReal.coe_mul, ← EReal.coe_add, ← EReal.coe_sub]
  unfold qlat
  split_ifs
  all_goals first
    | (exfalso; omega)
    | (congr! 4 <;> omega)

theorem conv_zero : (FloatOps.sitofp FTy.f32 0#32 : Ideal .f32) = (0 : EReal) := by
  show (((0#32 : BitVec 32).toInt : ℝ) : EReal) = 0
  simp

set_option maxHeartbeats 4000000 in
/-- The queries' heads padded. -/
theorem h44 (hq : ∀ a b c, (show EReal from σ main_arg0 (ix3 a b c)) = ((X.q a.val b.val c.val : ℝ) : EReal))
    (hl : ∀ a b c, (show EReal from σ main_v39 (ix3 a b c)) = ((qlat X a.val b.val c.val : ℝ) : EReal))
    (a : Fin 2304) (b : Fin 2048) :
    (show EReal from after opsH σ main_v44 (ix2 a b)) = ((qpad X a.val b.val : ℝ) : EReal) := by
  simp only at hq hl ⊢
  repeat (after_reads_simp; (try simp -implicitDefEqProofs only [StableHlo.TRef.toBuf, StableHlo.TRef.ofBuf, cast_cast, cast_eq]); pointwise)
  simp only [hq, hl, conv_zero]
  unfold qpad qr
  split_ifs
  all_goals first
    | rfl
    | (exfalso; omega)
    | (congr! 2 <;> omega)
    | (congr! 3 <;> omega)
    | (congr! 4 <;> omega)

set_option maxHeartbeats 4000000 in
/-- The keys' heads padded, with ones at three lanes. -/
theorem h49 (hk : ∀ a b c, (show EReal from σ main_arg1 (ix3 a b c)) = ((X.k a.val b.val c.val : ℝ) : EReal))
    (a : Fin 2304) (b : Fin 2048) :
    (show EReal from after opsH σ main_v49 (ix2 a b)) = ((kpad X a.val b.val : ℝ) : EReal) := by
  simp only at hk ⊢
  repeat (after_reads_simp; (try simp -implicitDefEqProofs only [StableHlo.TRef.toBuf, StableHlo.TRef.ofBuf, cast_cast, cast_eq]); pointwise)
  simp only [hk, conv_zero]
  unfold kpad
  split_ifs
  all_goals first
    | rfl
    | (exfalso; omega)
    | (congr! 2 <;> omega)
    | (congr! 3 <;> omega)
    | (congr! 4 <;> omega)

set_option maxHeartbeats 4000000 in
/-- The values. -/
theorem h51 (hk : ∀ a b c, (show EReal from σ main_arg2 (ix3 a b c)) = ((X.v a.val b.val c.val : ℝ) : EReal))
    (a : Fin 2304) (b : Fin 1024) :
    (show EReal from after opsH σ main_v51 (ix2 a b)) = ((vlane X a.val b.val : ℝ) : EReal) := by
  simp only at hk ⊢
  repeat (after_reads_simp; pointwise)
  simp only [hk, vlane]

theorem keepA {σ : Valuation τ sig (Elt Ideal)} (h : Holds X σ) : Holds X (after opsA σ) := by
  refine ⟨?_, ?_, ?_, ?_, ?_⟩
  all_goals intros; simp only; after_reads_simp
  exacts [h.q _ _ _, h.k _ _ _, h.v _ _ _, h.cs _ _, h.sn _ _]

/-- What the call's operands hold. -/
structure Ready (σ : Valuation τ sig (Elt Ideal)) : Prop where
  q : ∀ a b, (show EReal from σ main_v44 (ix2 a b)) = ((qpad X a.val b.val : ℝ) : EReal)
  k : ∀ a b, (show EReal from σ main_v49 (ix2 a b)) = ((kpad X a.val b.val : ℝ) : EReal)
  v : ∀ a b, (show EReal from σ main_v51 (ix2 a b)) = ((vlane X a.val b.val : ℝ) : EReal)

theorem cut (V0 : Valuation τ sig (Elt Ideal)) :
    after ([hostOps0, hostOps0_1, hostOps0_2, hostOps0_3, hostOps0_4] : List (List (HloOp τ sig (Elt Ideal)))).flatten V0
      = after opsH (after opsA V0) := by
  rw [← StableHlo.after_append]
  rfl

theorem ready (m : (ℓ : Loc nD τ sig) → Buf (Elt Ideal) ℓ) (c : Dev nD) (h0 : Holds X (fun b => m (c, b))) :
    Ready X (fun b => after ([hostOps0, hostOps0_1, hostOps0_2, hostOps0_3, hostOps0_4] :
      List (List (HloOp τ sig (Elt Ideal)))).flatten (fun b => m (c, b)) b) := by
  rw [cut]
  generalize (fun b => m (c, b)) = σ at h0 ⊢
  have k := keepA X h0
  have f39 := a39 X σ h0.q h0.cs h0.sn
  clear h0
  generalize after opsA σ = σA at k f39 ⊢
  exact ⟨h44 X σA k.q f39, h49 X σA k.k, h51 X σA k.v⟩

end Attn.FwdHost
-- ==== Proof.FwdBlocks.lean ====
/-
  The blocks the forward call's body reads and writes at a grid point: pair of heads `t / 9`, block of 256 queries `t % 9`.
-/
module

public import proofs.«01_k».proof.Proof.FwdHost

@[expose] public section

set_option maxRecDepth 16384
noncomputable section
open Idealize.ShloMosaic Idealize.ShloMosaic.TcCoe Idealize.SL.Sem Idealize.ShloMosaic.StableHlo
namespace Attn.FwdBlocks
open Cert.Kernel2Ideal Cert.Kernel2Ideal.Gen
variable (X : Inp) (m : (ℓ : Loc nD τ sig) → Buf (Elt Ideal) ℓ) (c : Dev nD)

/-- The launch arguments hold the real numbers of `X`. -/
abbrev Start : Prop := FwdHost.Holds X (fun b => m (c, b))

theorem coords2 {N M : ℕ} (i : (⟨2, ![N, M]⟩ : Shape).Idx) : ∃ (a : Fin N) (b : Fin M), i = ix2 a b :=
  ⟨i 0, i 1, by funext k; fin_cases k <;> rfl⟩
theorem coords3 {N M K : ℕ} (i : (⟨3, ![N, M, K]⟩ : Shape).Idx) : ∃ (a : Fin N) (b : Fin M) (e : Fin K), i = ix3 a b e :=
  ⟨i 0, i 1, i 2, by funext k; fin_cases k <;> rfl⟩

theorem index0 : ∀ t : Fin cfg0.N, win0_0.index t (0 : Fin 2) = t.val % 9 ∧ win0_0.index t (1 : Fin 2) = t.val / 9 :=
  (by decide +kernel : ∀ t : Fin grid0.N, _)
theorem row0 (t : Fin cfg0.N) (a : Fin 256) (b : Fin 256) :
    (((cfg0.win 0).blk t).view.emb (ix2 a b) 0).val = win0_0.index t (0 : Fin 2) * 256 + 1 * a.val := rfl
theorem col0 (t : Fin cfg0.N) (a : Fin 256) (b : Fin 256) :
    (((cfg0.win 0).blk t).view.emb (ix2 a b) 1).val = win0_0.index t (1 : Fin 2) * 256 + 1 * b.val := rfl
theorem place0 (t : Fin cfg0.N) (a : Fin 256) (b : Fin 256) : ((cfg0.win 0).blk t).view.emb (ix2 a b) =
    (ix2 ⟨256 * (t.val % 9) + a.val, by have := t.isLt; have : cfg0.N = 72 := N_0; omega⟩ ⟨256 * (t.val / 9) + b.val, by have := t.isLt; have : cfg0.N = 72 := N_0; omega⟩ : (⟨2, ![2304, 2048]⟩ : Shape).Idx) := by
  funext k
  refine Fin.ext ?_
  have h := index0 t
  fin_cases k
  · refine (row0 t a b).trans ?_
    rw [h.1]; show _ = 256 * (t.val % 9) + a.val; omega
  · refine (col0 t a b).trans ?_
    rw [h.2]; show _ = 256 * (t.val / 9) + b.val; omega
theorem read0 (f : ℕ → ℕ → ℝ) (t : Fin cfg0.N) (A : Buf (Elt Ideal) ((c : Thread nD τ).loc main_v44))
    (hA : ∀ a b, (show EReal from A (ix2 a b)) = ((f a.val b.val : ℝ) : EReal)) (a : Fin 256) (b : Fin 256) :
    (show EReal from ((cfg0.win 0).blk t).view.read (Elt Ideal) A (ix2 a b)) = ((f (256 * (t.val % 9) + a.val) (256 * (t.val / 9) + b.val) : ℝ) : EReal) := by
  refine Eq.trans ?_ (hA ⟨256 * (t.val % 9) + a.val, by have := t.isLt; have : cfg0.N = 72 := N_0; omega⟩ ⟨256 * (t.val / 9) + b.val, by have := t.isLt; have : cfg0.N = 72 := N_0; omega⟩)
  exact congrArg A (place0 t a b)
theorem entry0 (hs : Start X m c) (a b) : (show EReal from V m c main_v44 (ix2 a b)) = ((qpad X a.val b.val : ℝ) : EReal) :=
  (FwdHost.ready X m c hs).q a b
/-- Window 0's block at a grid point, at a row and a lane. -/
theorem blk0 (hs : Start X m c) (t : Fin cfg0.N) (a : Fin 256) (b : Fin 256) :
    (show EReal from iblk m c 0 t (ix2 a b)) = ((qpad X (256 * (t.val % 9) + a.val) (256 * (t.val / 9) + b.val) : ℝ) : EReal) := by
  have := entry0 X m c hs
  unfold iblk
  generalize V m c (Pipeline.arrRef spec0 0) = A at this ⊢
  exact read0 c (qpad X) t A this a b

theorem index1 : ∀ t : Fin cfg0.N, win0_1.index t (0 : Fin 2) = 0 ∧ win0_1.index t (1 : Fin 2) = t.val / 9 :=
  (by decide +kernel : ∀ t : Fin grid0.N, _)
theorem row1 (t : Fin cfg0.N) (a : Fin 2304) (b : Fin 256) :
    (((cfg0.win 1).blk t).view.emb (ix2 a b) 0).val = win0_1.index t (0 : Fin 2) * 2304 + 1 * a.val := rfl
theorem col1 (t : Fin cfg0.N) (a : Fin 2304) (b : Fin 256) :
    (((cfg0.win 1).blk t).view.emb (ix2 a b) 1).val = win0_1.index t (1 : Fin 2) * 256 + 1 * b.val := rfl
theorem place1 (t : Fin cfg0.N) (a : Fin 2304) (b : Fin 256) : ((cfg0.win 1).blk t).view.emb (ix2 a b) =
    (ix2 ⟨a.val, by have := t.isLt; have : cfg0.N = 72 := N_0; omega⟩ ⟨256 * (t.val / 9) + b.val, by have := t.isLt; have : cfg0.N = 72 := N_0; omega⟩ : (⟨2, ![2304, 2048]⟩ : Shape).Idx) := by
  funext k
  refine Fin.ext ?_
  have h := index1 t
  fin_cases k
  · refine (row1 t a b).trans ?_
    rw [h.1]; show _ = a.val; omega
  · refine (col1 t a b).trans ?_
    rw [h.2]; show _ = 256 * (t.val / 9) + b.val; omega
theorem read1 (f : ℕ → ℕ → ℝ) (t : Fin cfg0.N) (A : Buf (Elt Ideal) ((c : Thread nD τ).loc main_v49))
    (hA : ∀ a b, (show EReal from A (ix2 a b)) = ((f a.val b.val : ℝ) : EReal)) (a : Fin 2304) (b : Fin 256) :
    (show EReal from ((cfg0.win 1).blk t).view.read (Elt Ideal) A (ix2 a b)) = ((f (a.val) (256 * (t.val / 9) + b.val) : ℝ) : EReal) := by
  refine Eq.trans ?_ (hA ⟨a.val, by have := t.isLt; have : cfg0.N = 72 := N_0; omega⟩ ⟨256 * (t.val / 9) + b.val, by have := t.isLt; have : cfg0.N = 72 := N_0; omega⟩)
  exact congrArg A (place1 t a b)
theorem entry1 (hs : Start X m c) (a b) : (show EReal from V m c main_v49 (ix2 a b)) = ((kpad X a.val b.val : ℝ) : EReal) :=
  (FwdHost.ready X m c hs).k a b
/-- Window 1's block at a grid point, at a row and a lane. -/
theorem blk1 (hs : Start X m c) (t : Fin cfg0.N) (a : Fin 2304) (b : Fin 256) :
    (show EReal from iblk m c 1 t (ix2 a b)) = ((kpad X (a.val) (256 * (t.val / 9) + b.val) : ℝ) : EReal) := by
  have := entry1 X m c hs
  unfold iblk
  generalize V m c (Pipeline.arrRef spec0 1) = A at this ⊢
  exact read1 c (kpad X) t A this a b

theorem index2 : ∀ t : Fin cfg0.N, win0_2.index t (0 : Fin 2) = 0 ∧ win0_2.index t (1 : Fin 2) = t.val / 9 :=
  (by decide +kernel : ∀ t : Fin grid0.N, _)
theorem row2 (t : Fin cfg0.N) (a : Fin 2304) (b : Fin 128) :
    (((cfg0.win 2).blk t).view.emb (ix2 a b) 0).val = win0_2.index t (0 : Fin 2) * 2304 + 1 * a.val := rfl
theorem col2 (t : Fin cfg0.N) (a : Fin 2304) (b : Fin 128) :
    (((cfg0.win 2).blk t).view.emb (ix2 a b) 1).val = win0_2.index t (1 : Fin 2) * 128 + 1 * b.val := rfl
theorem place2 (t : Fin cfg0.N) (a : Fin 2304) (b : Fin 128) : ((cfg0.win 2).blk t).view.emb (ix2 a b) =
    (ix2 ⟨a.val, by have := t.isLt; have : cfg0.N = 72 := N_0; omega⟩ ⟨128 * (t.val / 9) + b.val, by have := t.isLt; have : cfg0.N = 72 := N_0; omega⟩ : (⟨2, ![2304, 1024]⟩ : Shape).Idx) := by
  funext k
  refine Fin.ext ?_
  have h := index2 t
  fin_cases k
  · refine (row2 t a b).trans ?_
    rw [h.1]; show _ = a.val; omega
  · refine (col2 t a b).trans ?_
    rw [h.2]; show _ = 128 * (t.val / 9) + b.val; omega
theorem read2 (f : ℕ → ℕ → ℝ) (t : Fin cfg0.N) (A : Buf (Elt Ideal) ((c : Thread nD τ).loc main_v51))
    (hA : ∀ a b, (show EReal from A (ix2 a b)) = ((f a.val b.val : ℝ) : EReal)) (a : Fin 2304) (b : Fin 128) :
    (show EReal from ((cfg0.win 2).blk t).view.read (Elt Ideal) A (ix2 a b)) = ((f (a.val) (128 * (t.val / 9) + b.val) : ℝ) : EReal) := by
  refine Eq.trans ?_ (hA ⟨a.val, by have := t.isLt; have : cfg0.N = 72 := N_0; omega⟩ ⟨128 * (t.val / 9) + b.val, by have := t.isLt; have : cfg0.N = 72 := N_0; omega⟩)
  exact congrArg A (place2 t a b)
theorem entry2 (hs : Start X m c) (a b) : (show EReal from V m c main_v51 (ix2 a b)) = ((vlane X a.val b.val : ℝ) : EReal) :=
  (FwdHost.ready X m c hs).v a b
/-- Window 2's block at a grid point, at a row and a lane. -/
theorem blk2 (hs : Start X m c) (t : Fin cfg0.N) (a : Fin 2304) (b : Fin 128) :
    (show EReal from iblk m c 2 t (ix2 a b)) = ((vlane X (a.val) (128 * (t.val / 9) + b.val) : ℝ) : EReal) := by
  have := entry2 X m c hs
  unfold iblk
  generalize V m c (Pipeline.arrRef spec0 2) = A at this ⊢
  exact read2 c (vlane X) t A this a b

theorem index3 : ∀ t : Fin cfg0.N, win0_3.index t (0 : Fin 2) = t.val % 9 ∧ win0_3.index t (1 : Fin 2) = t.val / 9 :=
  (by decide +kernel : ∀ t : Fin grid0.N, _)
theorem row3 (t : Fin cfg0.N) (a : Fin 256) (b : Fin 128) :
    (((cfg0.win 3).blk t).view.emb (ix2 a b) 0).val = win0_3.index t (0 : Fin 2) * 256 + 1 * a.val := rfl
theorem col3 (t : Fin cfg0.N) (a : Fin 256) (b : Fin 128) :
    (((cfg0.win 3).blk t).view.emb (ix2 a b) 1).val = win0_3.index t (1 : Fin 2) * 128 + 1 * b.val := rfl
theorem place3 (t : Fin cfg0.N) (a : Fin 256) (b : Fin 128) : ((cfg0.win 3).blk t).view.emb (ix2 a b) =
    (ix2 ⟨256 * (t.val % 9) + a.val, by have := t.isLt; have : cfg0.N = 72 := N_0; omega⟩ ⟨128 * (t.val / 9) + b.val, by have := t.isLt; have : cfg0.N = 72 := N_0; omega⟩ : (⟨2, ![2304, 1024]⟩ : Shape).Idx) := by
  funext k
  refine Fin.ext ?_
  have h := index3 t
  fin_cases k
  · refine (row3 t a b).trans ?_
    rw [h.1]; show _ = 256 * (t.val % 9) + a.val; omega
  · refine (col3 t a b).trans ?_
    rw [h.2]; show _ = 128 * (t.val / 9) + b.val; omega
theorem index4 : ∀ t : Fin cfg0.N, win0_4.index t (0 : Fin 3) = t.val / 9 ∧ win0_4.index t (1 : Fin 3) = t.val % 9
    ∧ win0_4.index t (2 : Fin 3) = 0 := (by decide +kernel : ∀ t : Fin grid0.N, _)
theorem page4 (t : Fin cfg0.N) (a : Fin 2) (b : Fin 256) (e : Fin 1) :
    (((cfg0.win 4).blk t).view.emb (ix3 a b e) 0).val = win0_4.index t (0 : Fin 3) * 2 + 1 * a.val := rfl
theorem row4 (t : Fin cfg0.N) (a : Fin 2) (b : Fin 256) (e : Fin 1) :
    (((cfg0.win 4).blk t).view.emb (ix3 a b e) 1).val = win0_4.index t (1 : Fin 3) * 256 + 1 * b.val := rfl
theorem col4 (t : Fin cfg0.N) (a : Fin 2) (b : Fin 256) (e : Fin 1) :
    (((cfg0.win 4).blk t).view.emb (ix3 a b e) 2).val = win0_4.index t (2 : Fin 3) * 1 + 1 * e.val := rfl
theorem place4 (t : Fin cfg0.N) (a : Fin 2) (b : Fin 256) (e : Fin 1) : ((cfg0.win 4).blk t).view.emb (ix3 a b e) =
    (ix3 ⟨2 * (t.val / 9) + a.val, by have := t.isLt; have : cfg0.N = 72 := N_0; omega⟩ ⟨256 * (t.val % 9) + b.val, by have := t.isLt; have : cfg0.N = 72 := N_0; omega⟩ e : (⟨3, ![16, 2304, 1]⟩ : Shape).Idx) := by
  funext k
  refine Fin.ext ?_
  have h := index4 t
  fin_cases k
  · refine (page4 t a b e).trans ?_
    rw [h.1]; show _ = 2 * (t.val / 9) + a.val; omega
  · refine (row4 t a b e).trans ?_
    rw [h.2.1]; show _ = 256 * (t.val % 9) + b.val; omega
  · refine (col4 t a b e).trans ?_
    rw [h.2.2]; show _ = e.val; omega

theorem flush3 : ∀ t : Fin cfg0.N, (cfg0.win 3).flush t = true := (by decide +kernel : ∀ t : Fin grid0.N, _)
theorem flush4 : ∀ t : Fin cfg0.N, (cfg0.win 4).flush t = true := (by decide +kernel : ∀ t : Fin grid0.N, _)

end Attn.FwdBlocks
-- ==== Proof.FwdReal.lean ====
/-
  The forward call in the real numbers: a block's scores, the logarithms of its rows' sums, and its outputs.
-/
module

public import proofs.«01_k».proof.Proof.Attn

@[expose] public section

noncomputable section
open Idealize.ShloMosaic
namespace Attn

/-- A block's scores over padded lanes. -/
def sR (qq kk : ℕ → ℕ → ℝ) (i n : ℕ) : ℝ := (∑ l : Fin 128, qq i l.val * kk n l.val) * SC
/-- The logarithm of a row's sum of exponentials. -/
def lseR (N : ℕ) (s : ℕ → ℕ → ℝ) (i : ℕ) : ℝ := Real.log (∑ n : Fin N, Real.exp (s i n.val))
/-- A row's output at a lane. -/
def outR (N : ℕ) (s vv : ℕ → ℕ → ℝ) (i l : ℕ) : ℝ := ∑ n : Fin N, vv n.val l * Real.exp (s i n.val - lseR N s i)

/-- The output from shifted exponentials, divided once at the end. -/
theorem out_shift (N : ℕ) (s vv : ℕ → ℕ → ℝ) (M : ℝ) (i l : ℕ) :
    (∑ n : Fin (N + 1), Real.exp (s i n.val - M) * vv n.val l) / ∑ n : Fin (N + 1), Real.exp (s i n.val - M)
      = outR (N + 1) s vv i l := by
  rw [Finset.sum_div]
  refine Finset.sum_congr rfl fun n _ => ?_
  rw [lseR, ← shift_div N (s i) M]
  ring

/-- A family of real numbers picked at every row. -/
theorem pickRow {N : ℕ} (f : Fin N → Fin 1 → EReal) (hf : ∀ i e, ∃ M : ℝ, f i e = ((M : ℝ) : EReal)) :
    ∃ M : ℕ → ℝ, ∀ (i : Fin N) (e : Fin 1), f i e = ((M i.val : ℝ) : EReal) := by
  choose M hM using hf
  refine ⟨fun n => if h : n < N then M ⟨n, h⟩ 0 else 0, fun i e => ?_⟩
  rw [Subsingleton.elim e 0, hM]
  simp [i.isLt]

end Attn
-- ==== Proof.FwdKeys256.lean ====
/-
  What the forward call's body computes from one block of 256 queries and the first 256 keys, read at an entry in the real
  numbers: the scores, the shifted exponentials, their sum, and from them the output and the logarithm of the sum.
-/
module

public import proofs.«01_k».proof.Proof.FwdReal
public import proofs.«01_k».proof.Proof.Gen.Kernel2Ideal.Frame
public import Idealize.ShloMosaic.Lib.Pipeline.ValueKit
public import Idealize.ShloMosaic.Lib.Pointwise

@[expose] public section

set_option maxRecDepth 16384
noncomputable section
open Idealize.ShloMosaic Idealize.ShloMosaic.TcCoe Idealize.SL.Sem

namespace Attn.FwdKeys256
open Cert.Kernel2Ideal Cert.Kernel2Ideal.Gen
variable (x : Vec Ideal S256x128 .bf16) (y z : Vec Ideal S256x128 .bf16) (qq kk vv : ℕ → ℕ → ℝ)

/-! ## The first head -/

theorem score0 (hx : ∀ a b, x (ix2 a b) = ((qq a.val b.val : ℝ) : EReal)) (hy : ∀ a b, y (ix2 a b) = ((kk a.val b.val : ℝ) : EReal))
    (i : Fin 256) (n : Fin 256) : (k0_pay8 x y (ix2 i n) : EReal) = ((sR qq kk i.val n.val : ℝ) : EReal) := by
  pointwise [k0_pay8]
  simp only [hx, hy, scale_eq, ← EReal.coe_mul, coe_sum, sR]

/-- A row's largest score is a real number. -/
theorem max0 (hx : ∀ a b, x (ix2 a b) = ((qq a.val b.val : ℝ) : EReal)) (hy : ∀ a b, y (ix2 a b) = ((kk a.val b.val : ℝ) : EReal)) :
    ∃ M : ℕ → ℝ, ∀ (i : Fin 256) (e : Fin 1), (k0_pay9 x y (ix2 i e) : EReal) = ((M i.val : ℝ) : EReal) := by
  refine pickRow _ fun i e => ?_
  have hs := score0 x y qq kk hx hy
  pointwise [k0_pay9]
  simp only [hs]
  exact fold_max_real _

theorem exp0 (hx : ∀ a b, x (ix2 a b) = ((qq a.val b.val : ℝ) : EReal)) (hy : ∀ a b, y (ix2 a b) = ((kk a.val b.val : ℝ) : EReal))
    (M : ℕ → ℝ) (hM : ∀ (i : Fin 256) (e : Fin 1), (k0_pay9 x y (ix2 i e) : EReal) = ((M i.val : ℝ) : EReal))
    (i : Fin 256) (n : Fin 256) : (k0_pay10 x y (ix2 i n) : EReal) = ((Real.exp (sR qq kk i.val n.val - M i.val) : ℝ) : EReal) := by
  have hs := score0 x y qq kk hx hy
  pointwise [k0_pay10]
  simp only [hs, hM, ← EReal.coe_sub, Ideal.exp_coe]

theorem sum0 (f : ℕ → ℕ → ℝ) (he : ∀ i n, (k0_pay10 x y (ix2 i n) : EReal) = ((f i.val n.val : ℝ) : EReal)) (i : Fin 256) (e : Fin 1) :
    (k0_pay11 x y (ix2 i e) : EReal) = ((∑ n : Fin 256, f i.val n.val : ℝ) : EReal) := by
  pointwise [k0_pay11]
  simp only [he, coe_sum]

/-- The first head's output, before the two heads' lanes are put together. -/
theorem out0 (hx : ∀ a b, x (ix2 a b) = ((qq a.val b.val : ℝ) : EReal)) (hy : ∀ a b, y (ix2 a b) = ((kk a.val b.val : ℝ) : EReal))
    (hz : ∀ a b, z (ix2 a b) = ((vv a.val b.val : ℝ) : EReal)) (i : Fin 256) (l : Fin 128) :
    (k0_pay12 z x y (ix2 i l) : EReal) = ((outR 256 (sR qq kk) vv i.val l.val : ℝ) : EReal) := by
  obtain ⟨M, hM⟩ := max0 x y qq kk hx hy
  have he := exp0 x y qq kk hx hy M hM
  have hl := sum0 x y (fun i n => Real.exp (sR qq kk i n - M i)) he
  pointwise [k0_pay12, k0_pay7]
  have hne : (∑ n : Fin 256, Real.exp (sR qq kk i.val n.val - M i.val)) ≠ 0 := (sum_exp_pos 255 (sR qq kk i.val) _).ne'
  simp only [he, hl, hz, ← EReal.coe_mul, coe_sum, div_real _ hne]
  rw [out_shift 255]

/-- The logarithm of the first head's row sums. -/
theorem lse0 (hx : ∀ a b, x (ix2 a b) = ((qq a.val b.val : ℝ) : EReal)) (hy : ∀ a b, y (ix2 a b) = ((kk a.val b.val : ℝ) : EReal))
    (e : Fin 1) (i : Fin 256) (d : Fin 1) : (k0_pay13 x y (ix3 e i d) : EReal) = ((lseR 256 (sR qq kk) i.val : ℝ) : EReal) := by
  obtain ⟨M, hM⟩ := max0 x y qq kk hx hy
  have he := exp0 x y qq kk hx hy M hM
  have hl := sum0 x y (fun i n => Real.exp (sR qq kk i n - M i)) he
  pointwise [k0_pay13]
  have hpos : 0 < ∑ n : Fin 256, Real.exp (sR qq kk i.val n.val - M i.val) := sum_exp_pos 255 (sR qq kk i.val) _
  simp only [hM, hl, log_real hpos, ← EReal.coe_add]
  rw [shift_log 255 (sR qq kk i.val)]; rfl

/-! ## The second head -/

theorem score1 (hx : ∀ a b, x (ix2 a b) = ((qq a.val b.val : ℝ) : EReal)) (hy : ∀ a b, y (ix2 a b) = ((kk a.val b.val : ℝ) : EReal))
    (i : Fin 256) (n : Fin 256) : (k0_pay14 x y (ix2 i n) : EReal) = ((sR qq kk i.val n.val : ℝ) : EReal) := by
  pointwise [k0_pay14]
  simp only [hx, hy, scale_eq, ← EReal.coe_mul, coe_sum, sR]

/-- A row's largest score is a real number. -/
theorem max1 (hx : ∀ a b, x (ix2 a b) = ((qq a.val b.val : ℝ) : EReal)) (hy : ∀ a b, y (ix2 a b) = ((kk a.val b.val : ℝ) : EReal)) :
    ∃ M : ℕ → ℝ, ∀ (i : Fin 256) (e : Fin 1), (k0_pay15 x y (ix2 i e) : EReal) = ((M i.val : ℝ) : EReal) := by
  refine pickRow _ fun i e => ?_
  have hs := score1 x y qq kk hx hy
  pointwise [k0_pay15]
  simp only [hs]
  exact fold_max_real _

theorem exp1 (hx : ∀ a b, x (ix2 a b) = ((qq a.val b.val : ℝ) : EReal)) (hy : ∀ a b, y (ix2 a b) = ((kk a.val b.val : ℝ) : EReal))
    (M : ℕ → ℝ) (hM : ∀ (i : Fin 256) (e : Fin 1), (k0_pay15 x y (ix2 i e) : EReal) = ((M i.val : ℝ) : EReal))
    (i : Fin 256) (n : Fin 256) : (k0_pay16 x y (ix2 i n) : EReal) = ((Real.exp (sR qq kk i.val n.val - M i.val) : ℝ) : EReal) := by
  have hs := score1 x y qq kk hx hy
  pointwise [k0_pay16]
  simp only [hs, hM, ← EReal.coe_sub, Ideal.exp_coe]

theorem sum1 (w : FVec Ideal S256x256 .f32) (f : ℕ → ℕ → ℝ) (he : ∀ i n, (w (ix2 i n) : EReal) = ((f i.val n.val : ℝ) : EReal))
    (i : Fin 256) (e : Fin 1) : (k0_pay1 w (ix2 i e) : EReal) = ((∑ n : Fin 256, f i.val n.val : ℝ) : EReal) := by
  pointwise [k0_pay1]
  simp only [he, coe_sum]

/-- The two heads' outputs: the lanes below 64 are the first head's. -/
theorem out1 (u : FVec Ideal S256x128 .f32) (hx : ∀ a b, x (ix2 a b) = ((qq a.val b.val : ℝ) : EReal))
    (hy : ∀ a b, y (ix2 a b) = ((kk a.val b.val : ℝ) : EReal)) (hz : ∀ a b, z (ix2 a b) = ((vv a.val b.val : ℝ) : EReal))
    (i : Fin 256) (l : Fin 128) : (k0_pay3 (k0_pay7 z) u (k0_pay16 x y) (ix2 i l) : EReal)
      = if l.val < 64 then (u (ix2 i l) : EReal) else ((outR 256 (sR qq kk) vv i.val l.val : ℝ) : EReal) := by
  obtain ⟨M, hM⟩ := max1 x y qq kk hx hy
  have he := exp1 x y qq kk hx hy M hM
  have hl := sum1 _ (fun i n => Real.exp (sR qq kk i n - M i)) he
  pointwise [k0_pay3, k0_pay7]
  have hne : (∑ n : Fin 256, Real.exp (sR qq kk i.val n.val - M i.val)) ≠ 0 := (sum_exp_pos 255 (sR qq kk i.val) _).ne'
  simp only [he, hl, hz, ← EReal.coe_mul, coe_sum, div_real _ hne, lane_lt, select_if]
  rw [out_shift 255]

/-- The logarithm of the second head's row sums. -/
theorem lse1 (hx : ∀ a b, x (ix2 a b) = ((qq a.val b.val : ℝ) : EReal)) (hy : ∀ a b, y (ix2 a b) = ((kk a.val b.val : ℝ) : EReal))
    (e : Fin 1) (i : Fin 256) (d : Fin 1) : (k0_pay2 (k0_pay15 x y) (k0_pay16 x y) (ix3 e i d) : EReal)
      = ((lseR 256 (sR qq kk) i.val : ℝ) : EReal) := by
  obtain ⟨M, hM⟩ := max1 x y qq kk hx hy
  have he := exp1 x y qq kk hx hy M hM
  have hl := sum1 _ (fun i n => Real.exp (sR qq kk i n - M i)) he
  pointwise [k0_pay2]
  have hpos : 0 < ∑ n : Fin 256, Real.exp (sR qq kk i.val n.val - M i.val) := sum_exp_pos 255 (sR qq kk i.val) _
  simp only [hM, hl, log_real hpos, ← EReal.coe_add]
  rw [shift_log 255 (sR qq kk i.val)]; rfl

end Attn.FwdKeys256
-- ==== Proof.FwdKeys2304.lean ====
/-
  What the forward call's body computes from one block of 256 queries and the first 2304 keys, read at an entry in the real
  numbers: the scores, the shifted exponentials, their sum, and from them the output and the logarithm of the sum.
-/
module

public import proofs.«01_k».proof.Proof.FwdReal
public import proofs.«01_k».proof.Proof.Gen.Kernel2Ideal.Frame
public import Idealize.ShloMosaic.Lib.Pipeline.ValueKit
public import Idealize.ShloMosaic.Lib.Pointwise

@[expose] public section

set_option maxRecDepth 16384
noncomputable section
open Idealize.ShloMosaic Idealize.ShloMosaic.TcCoe Idealize.SL.Sem

namespace Attn.FwdKeys2304
open Cert.Kernel2Ideal Cert.Kernel2Ideal.Gen
variable (x : Vec Ideal S256x128 .bf16) (y z : Vec Ideal S2304x128 .bf16) (qq kk vv : ℕ → ℕ → ℝ)

/-! ## The first head -/

theorem score0 (hx : ∀ a b, x (ix2 a b) = ((qq a.val b.val : ℝ) : EReal)) (hy : ∀ a b, y (ix2 a b) = ((kk a.val b.val : ℝ) : EReal))
    (i : Fin 256) (n : Fin 2304) : (k0_pay18 x y (ix2 i n) : EReal) = ((sR qq kk i.val n.val : ℝ) : EReal) := by
  pointwise [k0_pay18]
  simp only [hx, hy, scale_eq, ← EReal.coe_mul, coe_sum, sR]

/-- A row's largest score is a real number. -/
theorem max0 (hx : ∀ a b, x (ix2 a b) = ((qq a.val b.val : ℝ) : EReal)) (hy : ∀ a b, y (ix2 a b) = ((kk a.val b.val : ℝ) : EReal)) :
    ∃ M : ℕ → ℝ, ∀ (i : Fin 256) (e : Fin 1), (k0_pay19 x y (ix2 i e) : EReal) = ((M i.val : ℝ) : EReal) := by
  refine pickRow _ fun i e => ?_
  have hs := score0 x y qq kk hx hy
  pointwise [k0_pay19]
  simp only [hs]
  exact fold_max_real _

theorem exp0 (hx : ∀ a b, x (ix2 a b) = ((qq a.val b.val : ℝ) : EReal)) (hy : ∀ a b, y (ix2 a b) = ((kk a.val b.val : ℝ) : EReal))
    (M : ℕ → ℝ) (hM : ∀ (i : Fin 256) (e : Fin 1), (k0_pay19 x y (ix2 i e) : EReal) = ((M i.val : ℝ) : EReal))
    (i : Fin 256) (n : Fin 2304) : (k0_pay20 x y (ix2 i n) : EReal) = ((Real.exp (sR qq kk i.val n.val - M i.val) : ℝ) : EReal) := by
  have hs := score0 x y qq kk hx hy
  pointwise [k0_pay20]
  simp only [hs, hM, ← EReal.coe_sub, Ideal.exp_coe]

theorem sum0 (f : ℕ → ℕ → ℝ) (he : ∀ i n, (k0_pay20 x y (ix2 i n) : EReal) = ((f i.val n.val : ℝ) : EReal)) (i : Fin 256) (e : Fin 1) :
    (k0_pay21 x y (ix2 i e) : EReal) = ((∑ n : Fin 2304, f i.val n.val : ℝ) : EReal) := by
  pointwise [k0_pay21]
  simp only [he, coe_sum]

/-- The first head's output, before the two heads' lanes are put together. -/
theorem out0 (hx : ∀ a b, x (ix2 a b) = ((qq a.val b.val : ℝ) : EReal)) (hy : ∀ a b, y (ix2 a b) = ((kk a.val b.val : ℝ) : EReal))
    (hz : ∀ a b, z (ix2 a b) = ((vv a.val b.val : ℝ) : EReal)) (i : Fin 256) (l : Fin 128) :
    (k0_pay22 z x y (ix2 i l) : EReal) = ((outR 2304 (sR qq kk) vv i.val l.val : ℝ) : EReal) := by
  obtain ⟨M, hM⟩ := max0 x y qq kk hx hy
  have he := exp0 x y qq kk hx hy M hM
  have hl := sum0 x y (fun i n => Real.exp (sR qq kk i n - M i)) he
  pointwise [k0_pay22, k0_pay17]
  have hne : (∑ n : Fin 2304, Real.exp (sR qq kk i.val n.val - M i.val)) ≠ 0 := (sum_exp_pos 2303 (sR qq kk i.val) _).ne'
  simp only [he, hl, hz, ← EReal.coe_mul, coe_sum, div_real _ hne]
  rw [out_shift 2303]

/-- The logarithm of the first head's row sums. -/
theorem lse0 (hx : ∀ a b, x (ix2 a b) = ((qq a.val b.val : ℝ) : EReal)) (hy : ∀ a b, y (ix2 a b) = ((kk a.val b.val : ℝ) : EReal))
    (e : Fin 1) (i : Fin 256) (d : Fin 1) : (k0_pay23 x y (ix3 e i d) : EReal) = ((lseR 2304 (sR qq kk) i.val : ℝ) : EReal) := by
  obtain ⟨M, hM⟩ := max0 x y qq kk hx hy
  have he := exp0 x y qq kk hx hy M hM
  have hl := sum0 x y (fun i n => Real.exp (sR qq kk i n - M i)) he
  pointwise [k0_pay23]
  have hpos : 0 < ∑ n : Fin 2304, Real.exp (sR qq kk i.val n.val - M i.val) := sum_exp_pos 2303 (sR qq kk i.val) _
  simp only [hM, hl, log_real hpos, ← EReal.coe_add]
  rw [shift_log 2303 (sR qq kk i.val)]; rfl

/-! ## The second head -/

theorem score1 (hx : ∀ a b, x (ix2 a b) = ((qq a.val b.val : ℝ) : EReal)) (hy : ∀ a b, y (ix2 a b) = ((kk a.val b.val : ℝ) : EReal))
    (i : Fin 256) (n : Fin 2304) : (k0_pay24 x y (ix2 i n) : EReal) = ((sR qq kk i.val n.val : ℝ) : EReal) := by
  pointwise [k0_pay24]
  simp only [hx, hy, scale_eq, ← EReal.coe_mul, coe_sum, sR]

/-- A row's largest score is a real number. -/
theorem max1 (hx : ∀ a b, x (ix2 a b) = ((qq a.val b.val : ℝ) : EReal)) (hy : ∀ a b, y (ix2 a b) = ((kk a.val b.val : ℝ) : EReal)) :
    ∃ M : ℕ → ℝ, ∀ (i : Fin 256) (e : Fin 1), (k0_pay25 x y (ix2 i e) : EReal) = ((M i.val : ℝ) : EReal) := by
  refine pickRow _ fun i e => ?_
  have hs := score1 x y qq kk hx hy
  pointwise [k0_pay25]
  simp only [hs]
  exact fold_max_real _

theorem exp1 (hx : ∀ a b, x (ix2 a b) = ((qq a.val b.val : ℝ) : EReal)) (hy : ∀ a b, y (ix2 a b) = ((kk a.val b.val : ℝ) : EReal))
    (M : ℕ → ℝ) (hM : ∀ (i : Fin 256) (e : Fin 1), (k0_pay25 x y (ix2 i e) : EReal) = ((M i.val : ℝ) : EReal))
    (i : Fin 256) (n : Fin 2304) : (k0_pay26 x y (ix2 i n) : EReal) = ((Real.exp (sR qq kk i.val n.val - M i.val) : ℝ) : EReal) := by
  have hs := score1 x y qq kk hx hy
  pointwise [k0_pay26]
  simp only [hs, hM, ← EReal.coe_sub, Ideal.exp_coe]

theorem sum1 (w : FVec Ideal S256x2304 .f32) (f : ℕ → ℕ → ℝ) (he : ∀ i n, (w (ix2 i n) : EReal) = ((f i.val n.val : ℝ) : EReal))
    (i : Fin 256) (e : Fin 1) : (k0_pay4 w (ix2 i e) : EReal) = ((∑ n : Fin 2304, f i.val n.val : ℝ) : EReal) := by
  pointwise [k0_pay4]
  simp only [he, coe_sum]

/-- The two heads' outputs: the lanes below 64 are the first head's. -/
theorem out1 (u : FVec Ideal S256x128 .f32) (hx : ∀ a b, x (ix2 a b) = ((qq a.val b.val : ℝ) : EReal))
    (hy : ∀ a b, y (ix2 a b) = ((kk a.val b.val : ℝ) : EReal)) (hz : ∀ a b, z (ix2 a b) = ((vv a.val b.val : ℝ) : EReal))
    (i : Fin 256) (l : Fin 128) : (k0_pay6 (k0_pay17 z) u (k0_pay26 x y) (ix2 i l) : EReal)
      = if l.val < 64 then (u (ix2 i l) : EReal) else ((outR 2304 (sR qq kk) vv i.val l.val : ℝ) : EReal) := by
  obtain ⟨M, hM⟩ := max1 x y qq kk hx hy
  have he := exp1 x y qq kk hx hy M hM
  have hl := sum1 _ (fun i n => Real.exp (sR qq kk i n - M i)) he
  pointwise [k0_pay6, k0_pay17]
  have hne : (∑ n : Fin 2304, Real.exp (sR qq kk i.val n.val - M i.val)) ≠ 0 := (sum_exp_pos 2303 (sR qq kk i.val) _).ne'
  simp only [he, hl, hz, ← EReal.coe_mul, coe_sum, div_real _ hne, lane_lt, select_if]
  rw [out_shift 2303]

/-- The logarithm of the second head's row sums. -/
theorem lse1 (hx : ∀ a b, x (ix2 a b) = ((qq a.val b.val : ℝ) : EReal)) (hy : ∀ a b, y (ix2 a b) = ((kk a.val b.val : ℝ) : EReal))
    (e : Fin 1) (i : Fin 256) (d : Fin 1) : (k0_pay5 (k0_pay25 x y) (k0_pay26 x y) (ix3 e i d) : EReal)
      = ((lseR 2304 (sR qq kk) i.val : ℝ) : EReal) := by
  obtain ⟨M, hM⟩ := max1 x y qq kk hx hy
  have he := exp1 x y qq kk hx hy M hM
  have hl := sum1 _ (fun i n => Real.exp (sR qq kk i n - M i)) he
  pointwise [k0_pay5]
  have hpos : 0 < ∑ n : Fin 2304, Real.exp (sR qq kk i.val n.val - M i.val) := sum_exp_pos 2303 (sR qq kk i.val) _
  simp only [hM, hl, log_real hpos, ← EReal.coe_add]
  rw [shift_log 2303 (sR qq kk i.val)]; rfl

end Attn.FwdKeys2304
-- ==== Proof.FwdOuts.lean ====
/-
  What one grid point of the forward call leaves: the outputs of the pair's two heads, and the logarithms of their rows' sums.
-/
module

public import proofs.«01_k».proof.Proof.FwdKeys256
public import proofs.«01_k».proof.Proof.FwdKeys2304
public import Idealize.ShloMosaic.Lib.Claim

@[expose] public section

set_option maxRecDepth 16384
noncomputable section
open Idealize.ShloMosaic Idealize.ShloMosaic.TcCoe Idealize.SL.Sem
namespace Attn.FwdOuts
open Cert.Kernel2Ideal Cert.Kernel2Ideal.Gen

/-! ## An entry of a buffer of pages after stores of rectangles -/
section Pages
variable {N M K n k j : ℕ} {e : EltTy} (o0 o1 o2 : ℕ)
  (inb : ∀ a, (![o0, o1, o2] : Fin 3 → ℕ) a + (![n, k, j] : Fin 3 → ℕ) a ≤ (⟨3, ![N, M, K]⟩ : Shape).size a)
  (w : (⟨3, ![n, k, j]⟩ : Shape).Idx → Elt Ideal e) (L : List (View.Piece (Elt Ideal) (⟨3, ![N, M, K]⟩ : Shape) e))

theorem place (a : Fin N) (b : Fin M) (d : Fin K) (a' : Fin n) (b' : Fin k) (d' : Fin j) (ha : a.val = o0 + a'.val)
    (hb : b.val = o1 + b'.val) (hd : d.val = o2 + d'.val) : (ix3 a b d : (⟨3, ![N, M, K]⟩ : Shape).Idx)
      = (Rect.unit (s := (⟨3, ![N, M, K]⟩ : Shape)) ![o0, o1, o2] ![n, k, j] inb).emb (ix3 a' b' d') := by
  funext x
  refine Fin.ext ?_
  fin_cases x
  · show a.val = o0 + 1 * a'.val; omega
  · show b.val = o1 + 1 * b'.val; omega
  · show d.val = o2 + 1 * d'.val; omega

/-- An entry the newest store holds. -/
theorem hit (a : Fin N) (b : Fin M) (d : Fin K) (a' : Fin n) (b' : Fin k) (d' : Fin j) (ha : a.val = o0 + a'.val)
    (hb : b.val = o1 + b'.val) (hd : d.val = o2 + d'.val) :
    View.canon ((⟨Rect.unit ![o0, o1, o2] ![n, k, j] inb, w⟩ : View.Piece (Elt Ideal) (⟨3, ![N, M, K]⟩ : Shape) e) :: L) (ix3 a b d)
      = w (ix3 a' b' d') := by
  rw [place o0 o1 o2 inb a b d a' b' d' ha hb hd]
  exact View.canon_cons_emb (Rect.unit (s := (⟨3, ![N, M, K]⟩ : Shape)) ![o0, o1, o2] ![n, k, j] inb) w L (ix3 a' b' d')

/-- An entry of another page than the newest store's. -/
theorem miss (a : Fin N) (b : Fin M) (d : Fin K) (h : a.val < o0 ∨ o0 + n ≤ a.val) :
    View.canon ((⟨Rect.unit ![o0, o1, o2] ![n, k, j] inb, w⟩ : View.Piece (Elt Ideal) (⟨3, ![N, M, K]⟩ : Shape) e) :: L) (ix3 a b d)
      = View.canon L (ix3 a b d) :=
  View.canon_cons_of_not_mem _ L (Rect.not_mem_set_of_axis (Rect.unit (s := (⟨3, ![N, M, K]⟩ : Shape)) ![o0, o1, o2] ![n, k, j] inb)
    (ix3 a b d) 0 o0 n rfl rfl rfl h)
end Pages

variable (m : (ℓ : Loc nD τ sig) → Buf (Elt Ideal) ℓ) (c : Dev nD) (t : Fin cfg0.N) (qq kk vv : ℕ → ℕ → ℝ)

/-- The second head's lanes of a block of queries or keys. -/
def up (f : ℕ → ℕ → ℝ) (a l : ℕ) : ℝ := f a (128 + l)

/-- A grid point's three blocks hold real numbers. -/
structure At : Prop where
  q : ∀ a b, (show Vec Ideal S256x256 .bf16 from iblk m c 0 t) (ix2 a b) = ((qq a.val b.val : ℝ) : EReal)
  k : ∀ a b, (show Vec Ideal S2304x256 .bf16 from iblk m c 1 t) (ix2 a b) = ((kk a.val b.val : ℝ) : EReal)
  v : ∀ a b, (show Vec Ideal S2304x128 .bf16 from iblk m c 2 t) (ix2 a b) = ((vv a.val b.val : ℝ) : EReal)

section Loads
variable (x : Vec Ideal S256x256 .bf16) (y : Vec Ideal S2304x256 .bf16) (z : Vec Ideal S2304x128 .bf16)
theorem q0 (h : ∀ a b, x (ix2 a b) = ((qq a.val b.val : ℝ) : EReal)) (a : Fin 256) (b : Fin 128) :
    (View.ld x (Rect.unit ![0, 0] ![256, 128] inb_S256x256_S256x128_0_0)) (ix2 a b) = ((qq a.val b.val : ℝ) : EReal) := by
  pointwise; rw [h]
theorem q1 (h : ∀ a b, x (ix2 a b) = ((qq a.val b.val : ℝ) : EReal)) (a : Fin 256) (b : Fin 128) :
    (View.ld x (Rect.unit ![0, 128] ![256, 128] inb_S256x256_S256x128_0_128)) (ix2 a b) = ((up qq a.val b.val : ℝ) : EReal) := by
  pointwise; rw [h]; rfl
theorem k0_256 (h : ∀ a b, y (ix2 a b) = ((kk a.val b.val : ℝ) : EReal)) (a : Fin 256) (b : Fin 128) :
    (View.ld y (Rect.unit ![0, 0] ![256, 128] inb_S2304x256_S256x128_0_0)) (ix2 a b) = ((kk a.val b.val : ℝ) : EReal) := by
  pointwise; rw [h]
theorem k1_256 (h : ∀ a b, y (ix2 a b) = ((kk a.val b.val : ℝ) : EReal)) (a : Fin 256) (b : Fin 128) :
    (View.ld y (Rect.unit ![0, 128] ![256, 128] inb_S2304x256_S256x128_0_128)) (ix2 a b) = ((up kk a.val b.val : ℝ) : EReal) := by
  pointwise; rw [h]; rfl
theorem k0_2304 (h : ∀ a b, y (ix2 a b) = ((kk a.val b.val : ℝ) : EReal)) (a : Fin 2304) (b : Fin 128) :
    (View.ld y (Rect.unit ![0, 0] ![2304, 128] inb_S2304x256_S2304x128_0_0)) (ix2 a b) = ((kk a.val b.val : ℝ) : EReal) := by
  pointwise; rw [h]
theorem k1_2304 (h : ∀ a b, y (ix2 a b) = ((kk a.val b.val : ℝ) : EReal)) (a : Fin 2304) (b : Fin 128) :
    (View.ld y (Rect.unit ![0, 128] ![2304, 128] inb_S2304x256_S2304x128_0_128)) (ix2 a b) = ((up kk a.val b.val : ℝ) : EReal) := by
  pointwise; rw [h]; rfl
theorem v0_256 (h : ∀ a b, z (ix2 a b) = ((vv a.val b.val : ℝ) : EReal)) (a : Fin 256) (b : Fin 128) :
    (View.ld z (Rect.unit ![0, 0] ![256, 128] inb_S2304x128_S256x128_0_0)) (ix2 a b) = ((vv a.val b.val : ℝ) : EReal) := by
  pointwise; rw [h]
end Loads

/-- The first block of queries: the two heads' outputs over the first 256 keys. -/
theorem out_A (h : At m c t qq kk vv) (h0 : t.val % 9 = 0) (i : Fin 256) (l : Fin 128) : (show EReal from (outsAt0 m c t.val t.isLt).1 (ix2 i l))
    = ((if l.val < 64 then outR 256 (sR qq kk) vv i.val l.val else outR 256 (sR (up qq) (up kk)) vv i.val l.val : ℝ) : EReal) := by
  rw [outsAt0_A m c t h0 (by omega)]; frame_out
  refine (FwdKeys256.out1 _ _ _ (up qq) (up kk) vv _ (q1 qq _ h.q) (k1_256 kk _ h.k) (v0_256 vv _ h.v) i l).trans ?_
  rw [FwdKeys256.out0 _ _ _ qq kk vv (q0 qq _ h.q) (k0_256 kk _ h.k) (v0_256 vv _ h.v)]
  split_ifs <;> rfl
/-- The first block of queries: the logarithms of the two heads' rows. -/
theorem lse0_A (h : At m c t qq kk vv) (h0 : t.val % 9 = 0) (i : Fin 256) (d : Fin 1) : (show EReal from (outsAt0 m c t.val t.isLt).2 (ix3 0 i d))
    = ((lseR 256 (sR qq kk) i.val : ℝ) : EReal) := by
  rw [outsAt0_A m c t h0 (by omega)]; frame_out
  rw [miss _ _ _ _ _ _ _ _ _ (Or.inl (by simp)), hit _ _ _ _ _ _ 0 i d 0 i d (by simp) (by simp) (by simp)]
  exact FwdKeys256.lse0 _ _ qq kk (q0 qq _ h.q) (k0_256 kk _ h.k) 0 i d
@[inherit_doc lse0_A] theorem lse1_A (h : At m c t qq kk vv) (h0 : t.val % 9 = 0) (i : Fin 256) (d : Fin 1) : (show EReal from (outsAt0 m c t.val t.isLt).2 (ix3 1 i d))
    = ((lseR 256 (sR (up qq) (up kk)) i.val : ℝ) : EReal) := by
  rw [outsAt0_A m c t h0 (by omega)]; frame_out
  rw [hit _ _ _ _ _ _ 1 i d 0 i d (by simp) (by simp) (by simp)]
  exact FwdKeys256.lse1 _ _ (up qq) (up kk) (q1 qq _ h.q) (k1_256 kk _ h.k) 0 i d

/-- A later block of queries: the two heads' outputs over the first 2304 keys. -/
theorem out_B (h : At m c t qq kk vv) (h0 : ¬t.val % 9 = 0) (i : Fin 256) (l : Fin 128) : (show EReal from (outsAt0 m c t.val t.isLt).1 (ix2 i l))
    = ((if l.val < 64 then outR 2304 (sR qq kk) vv i.val l.val else outR 2304 (sR (up qq) (up kk)) vv i.val l.val : ℝ) : EReal) := by
  rw [outsAt0_B m c t h0 (by omega)]; frame_out
  refine (FwdKeys2304.out1 _ _ _ (up qq) (up kk) vv _ (q1 qq _ h.q) (k1_2304 kk _ h.k) h.v i l).trans ?_
  rw [FwdKeys2304.out0 _ _ _ qq kk vv (q0 qq _ h.q) (k0_2304 kk _ h.k) h.v]
  split_ifs <;> rfl
/-- A later block of queries: the logarithms of the two heads' rows. -/
theorem lse0_B (h : At m c t qq kk vv) (h0 : ¬t.val % 9 = 0) (i : Fin 256) (d : Fin 1) : (show EReal from (outsAt0 m c t.val t.isLt).2 (ix3 0 i d))
    = ((lseR 2304 (sR qq kk) i.val : ℝ) : EReal) := by
  rw [outsAt0_B m c t h0 (by omega)]; frame_out
  rw [miss _ _ _ _ _ _ _ _ _ (Or.inl (by simp)), hit _ _ _ _ _ _ 0 i d 0 i d (by simp) (by simp) (by simp)]
  exact FwdKeys2304.lse0 _ _ qq kk (q0 qq _ h.q) (k0_2304 kk _ h.k) 0 i d
@[inherit_doc lse0_B] theorem lse1_B (h : At m c t qq kk vv) (h0 : ¬t.val % 9 = 0) (i : Fin 256) (d : Fin 1) : (show EReal from (outsAt0 m c t.val t.isLt).2 (ix3 1 i d))
    = ((lseR 2304 (sR (up qq) (up kk)) i.val : ℝ) : EReal) := by
  rw [outsAt0_B m c t h0 (by omega)]; frame_out
  rw [hit _ _ _ _ _ _ 1 i d 0 i d (by simp) (by simp) (by simp)]
  exact FwdKeys2304.lse1 _ _ (up qq) (up kk) (q1 qq _ h.q) (k1_2304 kk _ h.k) 0 i d

end Attn.FwdOuts
-- ==== Proof.FwdValue.lean ====
/-
  The two arrays the forward call leaves, entry by entry: the attention's outputs and the logarithms of its rows' sums.
-/
module

public import proofs.«01_k».proof.Proof.Real
public import proofs.«01_k».proof.Proof.FwdBlocks
public import proofs.«01_k».proof.Proof.FwdOuts
public import proofs.«01_k».proof.Proof.Gen.Kernel2Ideal.Value

@[expose] public section

set_option maxRecDepth 16384
noncomputable section
open Idealize.ShloMosaic Idealize.ShloMosaic.TcCoe Idealize.SL.Sem
namespace Attn.FwdValue
open Cert.Kernel2Ideal Cert.Kernel2Ideal.Gen Cert.Kernel2Ideal.Value
variable (X : Inp) (m : (ℓ : Loc nD τ sig) → Buf (Elt Ideal) ℓ) (c : Dev nD)

/-- The blocks of the pair of heads `p` and the block of queries `i`. -/
def qq (p i a b : ℕ) : ℝ := qpad X (256 * i + a) (256 * p + b)
@[inherit_doc qq] def kk (p n l : ℕ) : ℝ := kpad X n (256 * p + l)
@[inherit_doc qq] def vv (p n l : ℕ) : ℝ := vlane X n (128 * p + l)

theorem held (hs : FwdBlocks.Start X m c) (t : Fin cfg0.N) :
    FwdOuts.At m c t (qq X (t.val / 9) (t.val % 9)) (kk X (t.val / 9)) (vv X (t.val / 9)) :=
  ⟨FwdBlocks.blk0 X m c hs t, FwdBlocks.blk1 X m c hs t, FwdBlocks.blk2 X m c hs t⟩

/-! ## The two heads of a pair in the real numbers -/

theorem score_lo (p i a n : ℕ) : sR (qq X p i) (kk X p) a n = sc X (256 * i + a) (2 * p) n := by
  have h := Real'.score X (256 * i + a) (2 * p) n
  rw [show 128 * (2 * p) = 256 * p by ring] at h
  exact congrArg (· * SC) h
theorem score_hi (p i a n : ℕ) : sR (FwdOuts.up (qq X p i)) (FwdOuts.up (kk X p)) a n = sc X (256 * i + a) (2 * p + 1) n := by
  have h := Real'.score X (256 * i + a) (2 * p + 1) n
  have e : ∀ l : ℕ, 128 * (2 * p + 1) + l = 256 * p + (128 + l) := fun l => by ring
  simp only [e] at h
  exact congrArg (· * SC) h

theorem lse_lo (p i a N : ℕ) (hN : seen (256 * i + a) = N) : lseR N (sR (qq X p i) (kk X p)) a = lse X (256 * i + a) (2 * p) := by
  subst hN; simp only [lseR, lse, score_lo]
theorem lse_hi (p i a N : ℕ) (hN : seen (256 * i + a) = N) :
    lseR N (sR (FwdOuts.up (qq X p i)) (FwdOuts.up (kk X p))) a = lse X (256 * i + a) (2 * p + 1) := by
  subst hN; simp only [lseR, lse, score_hi]

theorem out_lo (p i a N l : ℕ) (hN : seen (256 * i + a) = N) (hl : l < 64) :
    outR N (sR (qq X p i) (kk X p)) (vv X p) a l = olane X (256 * i + a) (128 * p + l) := by
  obtain ⟨h1, h2, h3⟩ := Real'.low_lane p l hl
  simp only [outR, olane, out, prob, lse_lo X p i a N hN, score_lo, vv, vlane, h1, h2]
  subst hN; rfl
theorem out_hi (p i a N l : ℕ) (hN : seen (256 * i + a) = N) (hl : ¬l < 64) (hl' : l < 128) :
    outR N (sR (FwdOuts.up (qq X p i)) (FwdOuts.up (kk X p))) (vv X p) a l = olane X (256 * i + a) (128 * p + l) := by
  have h1 : (128 * p + l) / 64 = 2 * p + 1 := by omega
  simp only [outR, olane, out, prob, lse_hi X p i a N hN, score_hi, vv, vlane, h1]
  subst hN; rfl

/-! ## The two arrays -/

theorem seen_first (a : Fin 256) : seen (256 * 0 + a.val) = 256 := seen_ctx (by omega)
theorem seen_later (i a : ℕ) (hi : i ≠ 0) : seen (256 * i + a) = 2304 := seen_lat (by omega)

theorem eachO (hs : FwdBlocks.Start X m c) (t : Fin cfg0.N) (a : Fin 256) (l : Fin 128) :
    (show EReal from (outsAt0 m c t.val t.isLt).1 (ix2 a l))
      = ((olane X (256 * (t.val % 9) + a.val) (128 * (t.val / 9) + l.val) : ℝ) : EReal) := by
  have h := held X m c hs t
  by_cases h0 : t.val % 9 = 0
  · refine (FwdOuts.out_A m c t _ _ _ h h0 a l).trans ?_
    rw [h0]
    split_ifs with hl
    · rw [out_lo X _ _ _ _ _ (seen_first a) hl]
    · rw [out_hi X _ _ _ _ _ (seen_first a) hl l.isLt]
  · refine (FwdOuts.out_B m c t _ _ _ h h0 a l).trans ?_
    split_ifs with hl
    · rw [out_lo X _ _ _ _ _ (seen_later _ _ h0) hl]
    · rw [out_hi X _ _ _ _ _ (seen_later _ _ h0) hl l.isLt]

theorem eachL (hs : FwdBlocks.Start X m c) (t : Fin cfg0.N) (e : Fin 2) (a : Fin 256) (d : Fin 1) :
    (show EReal from (outsAt0 m c t.val t.isLt).2 (ix3 e a d))
      = ((lse X (256 * (t.val % 9) + a.val) (2 * (t.val / 9) + e.val) : ℝ) : EReal) := by
  have h := held X m c hs t
  by_cases h0 : t.val % 9 = 0
  · match e with
    | 0 => refine (FwdOuts.lse0_A m c t _ _ _ h h0 a d).trans ?_
           rw [h0, lse_lo X _ _ _ _ (seen_first a)]; rfl
    | 1 => refine (FwdOuts.lse1_A m c t _ _ _ h h0 a d).trans ?_
           rw [h0, lse_hi X _ _ _ _ (seen_first a)]; rfl
  · match e with
    | 0 => refine (FwdOuts.lse0_B m c t _ _ _ h h0 a d).trans ?_
           rw [lse_lo X _ _ _ _ (seen_later _ _ h0)]; rfl
    | 1 => refine (FwdOuts.lse1_B m c t _ _ _ h h0 a d).trans ?_
           rw [lse_hi X _ _ _ _ (seen_later _ _ h0)]; rfl

/-- The array of the outputs, at a row and a lane. -/
theorem o_eq (hs : FwdBlocks.Start X m c) (a : Fin 2304) (b : Fin 1024) :
    (show EReal from (dats m 0 c).arrAt 3 cfg0.N (ix2 a b)) = ((olane X a.val b.val : ℝ) : EReal) := by
  have hN : cfg0.N = 72 := N_0
  have hlt : 9 * (b.val / 128) + a.val / 256 < cfg0.N := by omega
  have h := congrFun (blocks3 m c ⟨_, hlt⟩ (FwdBlocks.flush3 _)) (ix2 ⟨a.val % 256, by omega⟩ ⟨b.val % 128, by omega⟩)
  rw [flushed3] at h
  have e := eachO X m c hs ⟨_, hlt⟩ ⟨a.val % 256, by omega⟩ ⟨b.val % 128, by omega⟩
  have hp := FwdBlocks.place3 ⟨_, hlt⟩ ⟨a.val % 256, by omega⟩ ⟨b.val % 128, by omega⟩
  have q1 : (9 * (b.val / 128) + a.val / 256) / 9 = b.val / 128 := by omega
  have q2 : (9 * (b.val / 128) + a.val / 256) % 9 = a.val / 256 := by omega
  have q3 : 256 * (a.val / 256) + a.val % 256 = a.val := by omega
  have q4 : 128 * (b.val / 128) + b.val % 128 = b.val := by omega
  simp only [q1, q2, q3, q4] at e hp
  refine (congrArg ((dats m 0 c).arrAt 3 cfg0.N) hp).symm.trans ?_
  exact h.trans e

/-- The array of the logarithms, at a head and a row. -/
theorem l_eq (hs : FwdBlocks.Start X m c) (a : Fin 16) (b : Fin 2304) (d : Fin 1) :
    (show EReal from (dats m 0 c).arrAt 4 cfg0.N (ix3 a b d)) = ((lse X b.val a.val : ℝ) : EReal) := by
  have hN : cfg0.N = 72 := N_0
  have hlt : 9 * (a.val / 2) + b.val / 256 < cfg0.N := by omega
  have h := congrFun (blocks4 m c ⟨_, hlt⟩ (FwdBlocks.flush4 _)) (ix3 ⟨a.val % 2, by omega⟩ ⟨b.val % 256, by omega⟩ d)
  rw [flushed4] at h
  have e := eachL X m c hs ⟨_, hlt⟩ ⟨a.val % 2, by omega⟩ ⟨b.val % 256, by omega⟩ d
  have hp := FwdBlocks.place4 ⟨_, hlt⟩ ⟨a.val % 2, by omega⟩ ⟨b.val % 256, by omega⟩ d
  have q1 : (9 * (a.val / 2) + b.val / 256) / 9 = a.val / 2 := by omega
  have q2 : (9 * (a.val / 2) + b.val / 256) % 9 = b.val / 256 := by omega
  have q3 : 2 * (a.val / 2) + a.val % 2 = a.val := by omega
  have q4 : 256 * (b.val / 256) + b.val % 256 = b.val := by omega
  simp only [q1, q2, q3, q4] at e hp
  refine (congrArg ((dats m 0 c).arrAt 4 cfg0.N) hp).symm.trans ?_
  exact h.trans e

end Attn.FwdValue
-- ==== Proof.FwdRef.lean ====
/-
  The reference of the forward call, read line by line: the scores of context and latents, the outputs, and the logarithms of
  the rows' sums.
-/
module

public import proofs.«01_k».proof.Proof.Attn
public import proofs.«01_k».proof.Proof.Gen.Reference2Ideal.Run
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384
noncomputable section
open Idealize.ShloMosaic Idealize.ShloMosaic.TcCoe Idealize.SL.Sem Idealize.ShloMosaic.StableHlo
namespace Attn.FwdRef
open Cert.Reference2Ideal Cert.Reference2Ideal.Value
variable (X : Inp) (σ : Valuation τ sig (Elt Ideal))

/-- The arguments hold the real numbers of `X`. -/
structure Holds (σ : Valuation τ sig (Elt Ideal)) : Prop where
  q : ∀ a b e, (show EReal from σ main_arg0 (ix3 a b e)) = ((X.q a.val b.val e.val : ℝ) : EReal)
  k : ∀ a b e, (show EReal from σ main_arg1 (ix3 a b e)) = ((X.k a.val b.val e.val : ℝ) : EReal)
  v : ∀ a b e, (show EReal from σ main_arg2 (ix3 a b e)) = ((X.v a.val b.val e.val : ℝ) : EReal)
  cs : ∀ a b, (show EReal from σ main_arg3 (ix2 a b)) = ((X.cs a.val b.val : ℝ) : EReal)
  sn : ∀ a b, (show EReal from σ main_arg4 (ix2 a b)) = ((X.sn a.val b.val : ℝ) : EReal)

/-! ## The host lines cut in stretches -/
def opsA : List (HloOp τ sig (Elt Ideal)) := (ops.drop 0).take 40
def opsB : List (HloOp τ sig (Elt Ideal)) := (ops.drop 40).take 4
def opsC : List (HloOp τ sig (Elt Ideal)) := (ops.drop 44).take 3
def opsD : List (HloOp τ sig (Elt Ideal)) := (ops.drop 47).take 12
def opsE : List (HloOp τ sig (Elt Ideal)) := (ops.drop 59).take 7
def opsF : List (HloOp τ sig (Elt Ideal)) := (ops.drop 66).take 3
def opsG : List (HloOp τ sig (Elt Ideal)) := (ops.drop 69).take 12
def opsH : List (HloOp τ sig (Elt Ideal)) := ops.drop 81

set_option maxHeartbeats 4000000 in
/-- The latents' queries, turned. -/
theorem a39 (hq : ∀ a b c, (show EReal from σ main_arg0 (ix3 a b c)) = ((X.q a.val b.val c.val : ℝ) : EReal))
    (hc : ∀ a b, (show EReal from σ main_arg3 (ix2 a b)) = ((X.cs a.val b.val : ℝ) : EReal))
    (hs : ∀ a b, (show EReal from σ main_arg4 (ix2 a b)) = ((X.sn a.val b.val : ℝ) : EReal))
    (a : Fin 2048) (b : Fin 16) (c : Fin 96) :
    (show EReal from after opsA σ main_v39 (ix3 a b c)) = ((qlat X a.val b.val c.val : ℝ) : EReal) := by
  simp only at hq hc hs ⊢
  repeat (after_reads_simp; pointwise [fn_main_v19, fn_main_v37, fn_main_v38, fn_main_v39])
  simp only [hq, hc, hs, ← EReal.coe_mul, ← EReal.coe_add, ← EReal.coe_sub]
  unfold qlat
  split_ifs
  all_goals first
    | (exfalso; omega)
    | (congr! 4 <;> omega)

set_option maxHeartbeats 4000000 in
/-- The latents' scores. -/
theorem b42 (hq : ∀ a b c, (show EReal from σ main_v39 (ix3 a b c)) = ((qlat X a.val b.val c.val : ℝ) : EReal))
    (hk : ∀ a b c, (show EReal from σ main_arg1 (ix3 a b c)) = ((X.k a.val b.val c.val : ℝ) : EReal))
    (h : Fin 16) (n : Fin 2048) (j : Fin 2304) :
    (show EReal from after opsB σ main_v42 (ix3 h n j)) = ((sc X (256 + n.val) h.val j.val : ℝ) : EReal) := by
  simp only at hq hk ⊢
  repeat (after_reads_simp; pointwise)
  simp only [hq, hk, scale_eq, ← EReal.coe_mul, coe_sum]
  simp only [sc, qr, if_neg (show ¬ 256 + n.val < 256 by omega), show 256 + n.val - 256 = n.val by omega]

set_option maxHeartbeats 4000000 in
/-- The context's scores. -/
theorem e61 (hq : ∀ a b c, (show EReal from σ main_arg0 (ix3 a b c)) = ((X.q a.val b.val c.val : ℝ) : EReal))
    (hk : ∀ a b c, (show EReal from σ main_arg1 (ix3 a b c)) = ((X.k a.val b.val c.val : ℝ) : EReal))
    (h : Fin 16) (n : Fin 256) (j : Fin 256) :
    (show EReal from after opsE σ main_v61 (ix3 h n j)) = ((sc X n.val h.val j.val : ℝ) : EReal) := by
  simp only at hq hk ⊢
  repeat (after_reads_simp; pointwise)
  simp only [hq, hk, scale_eq, ← EReal.coe_mul, coe_sum, zero_add]
  simp only [sc, qr, if_pos n.isLt]
set_option maxHeartbeats 4000000 in
theorem e58 (hv : ∀ a b c, (show EReal from σ main_arg2 (ix3 a b c)) = ((X.v a.val b.val c.val : ℝ) : EReal))
    (n : Fin 256) (h : Fin 16) (d : Fin 64) :
    (show EReal from after opsE σ main_v58 (ix3 n h d)) = ((X.v n.val h.val d.val : ℝ) : EReal) := by
  simp only at hv ⊢
  repeat (after_reads_simp; pointwise)
  simp only [hv, zero_add]

set_option maxHeartbeats 4000000 in
/-- The largest score of a latent row is a real number. -/
theorem lat_max (hs : ∀ a b c, (show EReal from σ main_v42 (ix3 a b c)) = ((sc X (256 + b.val) a.val c.val : ℝ) : EReal))
    (h : Fin 16) (n : Fin 2048) (j : Fin 1) :
    ∃ M : ℝ, (show EReal from after opsC σ main_v44 (ix3 h n j)) = ((M : ℝ) : EReal) := by
  simp only at hs ⊢
  repeat (after_reads_simp; pointwise)
  simp only [hs]
  exact fold_max_real _

set_option maxHeartbeats 4000000 in
/-- The output of a latent row. -/
theorem lat_out (hs : ∀ a b c, (show EReal from σ main_v42 (ix3 a b c)) = ((sc X (256 + b.val) a.val c.val : ℝ) : EReal))
    (M : ℕ → ℕ → ℝ)
    (hm : ∀ a b c, (show EReal from σ main_v44 (ix3 a b c)) = ((M b.val a.val : ℝ) : EReal))
    (hv : ∀ a b c, (show EReal from σ main_arg2 (ix3 a b c)) = ((X.v a.val b.val c.val : ℝ) : EReal))
    (n : Fin 2048) (h : Fin 16) (d : Fin 64) :
    (show EReal from after opsD σ main_v53 (ix3 n h d)) = ((out X (256 + n.val) h.val d.val : ℝ) : EReal) := by
  simp only at hs hm hv ⊢
  repeat (after_reads_simp; pointwise)
  have hne : (∑ j : Fin 2304, Real.exp (sc X (256 + n.val) h.val j.val - M n.val h.val)) ≠ 0 :=
    (sum_exp_pos 2303 _ _).ne'
  simp only [hs, hm, hv, ← EReal.coe_mul, coe_sum, ← EReal.coe_sub, Ideal.exp_coe, div_real _ hne,
    prob_lat X (show 256 ≤ 256 + n.val by omega), out_lat X (show 256 ≤ 256 + n.val by omega)]

set_option maxHeartbeats 4000000 in
/-- The logarithm of the sum of a latent row. -/
theorem lat_lse (hs : ∀ a b c, (show EReal from σ main_v42 (ix3 a b c)) = ((sc X (256 + b.val) a.val c.val : ℝ) : EReal))
    (M : ℕ → ℕ → ℝ)
    (hm : ∀ a b c, (show EReal from σ main_v44 (ix3 a b c)) = ((M b.val a.val : ℝ) : EReal))
    (h : Fin 16) (n : Fin 2048) (d : Fin 1) :
    (show EReal from after opsD σ main_v55 (ix3 h n d)) = ((lse X (256 + n.val) h.val : ℝ) : EReal) := by
  simp only at hs hm ⊢
  repeat (after_reads_simp; pointwise)
  have hpos : 0 < ∑ j : Fin 2304, Real.exp (sc X (256 + n.val) h.val j.val - M n.val h.val) :=
    sum_exp_pos 2303 _ _
  simp only [hs, hm, ← EReal.coe_mul, coe_sum, ← EReal.coe_sub, Ideal.exp_coe, log_real hpos, ← EReal.coe_add,
    lse_lat X (show 256 ≤ 256 + n.val by omega)]

set_option maxHeartbeats 4000000 in
/-- The largest score of a context row is a real number. -/
theorem ctx_max (hs : ∀ a b c, (show EReal from σ main_v61 (ix3 a b c)) = ((sc X (b.val) a.val c.val : ℝ) : EReal))
    (h : Fin 16) (n : Fin 256) (j : Fin 1) :
    ∃ M : ℝ, (show EReal from after opsF σ main_v63 (ix3 h n j)) = ((M : ℝ) : EReal) := by
  simp only at hs ⊢
  repeat (after_reads_simp; pointwise)
  simp only [hs]
  exact fold_max_real _

set_option maxHeartbeats 4000000 in
/-- The output of a context row. -/
theorem ctx_out (hs : ∀ a b c, (show EReal from σ main_v61 (ix3 a b c)) = ((sc X (b.val) a.val c.val : ℝ) : EReal))
    (M : ℕ → ℕ → ℝ)
    (hm : ∀ a b c, (show EReal from σ main_v63 (ix3 a b c)) = ((M b.val a.val : ℝ) : EReal))
    (hv : ∀ a b c, (show EReal from σ main_v58 (ix3 a b c)) = ((X.v a.val b.val c.val : ℝ) : EReal))
    (n : Fin 256) (h : Fin 16) (d : Fin 64) :
    (show EReal from after opsG σ main_v72 (ix3 n h d)) = ((out X (n.val) h.val d.val : ℝ) : EReal) := by
  simp only at hs hm hv ⊢
  repeat (after_reads_simp; pointwise)
  have hne : (∑ j : Fin 256, Real.exp (sc X (n.val) h.val j.val - M n.val h.val)) ≠ 0 :=
    (sum_exp_pos 255 _ _).ne'
  simp only [hs, hm, hv, ← EReal.coe_mul, coe_sum, ← EReal.coe_sub, Ideal.exp_coe, div_real _ hne,
    prob_ctx X n.isLt, out_ctx X n.isLt]

set_option maxHeartbeats 4000000 in
/-- The logarithm of the sum of a context row. -/
theorem ctx_lse (hs : ∀ a b c, (show EReal from σ main_v61 (ix3 a b c)) = ((sc X (b.val) a.val c.val : ℝ) : EReal))
    (M : ℕ → ℕ → ℝ)
    (hm : ∀ a b c, (show EReal from σ main_v63 (ix3 a b c)) = ((M b.val a.val : ℝ) : EReal))
    (h : Fin 16) (n : Fin 256) (d : Fin 1) :
    (show EReal from after opsG σ main_v74 (ix3 h n d)) = ((lse X (n.val) h.val : ℝ) : EReal) := by
  simp only at hs hm ⊢
  repeat (after_reads_simp; pointwise)
  have hpos : 0 < ∑ j : Fin 256, Real.exp (sc X (n.val) h.val j.val - M n.val h.val) :=
    sum_exp_pos 255 _ _
  simp only [hs, hm, ← EReal.coe_mul, coe_sum, ← EReal.coe_sub, Ideal.exp_coe, log_real hpos, ← EReal.coe_add,
    lse_ctx X n.isLt]

set_option maxHeartbeats 4000000 in
/-- The outputs of context and latents, their heads side by side. -/
theorem h76 (hk : ∀ a b c, (show EReal from σ main_v72 (ix3 a b c)) = ((out X a.val b.val c.val : ℝ) : EReal))
    (hl : ∀ a b c, (show EReal from σ main_v53 (ix3 a b c)) = ((out X (256 + a.val) b.val c.val : ℝ) : EReal))
    (a : Fin 2304) (b : Fin 1024) :
    (show EReal from after opsH σ main_v76 (ix2 a b)) = ((olane X a.val b.val : ℝ) : EReal) := by
  simp only at hk hl ⊢
  repeat (after_reads_simp; pointwise [fn_main_v75])
  simp only [hk, hl]
  unfold olane
  split_ifs
  all_goals first
    | rfl
    | (exfalso; omega)
    | (congr! 2 <;> omega)
    | (congr! 3 <;> omega)
    | (congr! 4 <;> omega)

set_option maxHeartbeats 4000000 in
/-- The logarithms of context and latents. -/
theorem h77 (hk : ∀ a b c, (show EReal from σ main_v74 (ix3 a b c)) = ((lse X b.val a.val : ℝ) : EReal))
    (hl : ∀ a b c, (show EReal from σ main_v55 (ix3 a b c)) = ((lse X (256 + b.val) a.val : ℝ) : EReal))
    (a : Fin 16) (b : Fin 2304) (c : Fin 1) :
    (show EReal from after opsH σ main_v77 (ix3 a b c)) = ((lse X b.val a.val : ℝ) : EReal) := by
  simp only at hk hl ⊢
  repeat (after_reads_simp; pointwise [fn_main_v77])
  simp only [hk, hl]
  split_ifs
  all_goals first
    | rfl
    | (exfalso; omega)
    | (congr! 2 <;> omega)
    | (congr! 3 <;> omega)
    | (congr! 4 <;> omega)

theorem keepA {σ : Valuation τ sig (Elt Ideal)} (h : Holds X σ) : Holds X (after opsA σ) := by
  refine ⟨?_, ?_, ?_, ?_, ?_⟩
  all_goals intros; simp only; after_reads_simp
  exacts [h.q _ _ _, h.k _ _ _, h.v _ _ _, h.cs _ _, h.sn _ _]

theorem keepB {σ : Valuation τ sig (Elt Ideal)} (h : Holds X σ) : Holds X (after opsB σ) := by
  refine ⟨?_, ?_, ?_, ?_, ?_⟩
  all_goals intros; simp only; after_reads_simp
  exacts [h.q _ _ _, h.k _ _ _, h.v _ _ _, h.cs _ _, h.sn _ _]

theorem keepC {σ : Valuation τ sig (Elt Ideal)} (h : Holds X σ) : Holds X (after opsC σ) := by
  refine ⟨?_, ?_, ?_, ?_, ?_⟩
  all_goals intros; simp only; after_reads_simp
  exacts [h.q _ _ _, h.k _ _ _, h.v _ _ _, h.cs _ _, h.sn _ _]

theorem keepD {σ : Valuation τ sig (Elt Ideal)} (h : Holds X σ) : Holds X (after opsD σ) := by
  refine ⟨?_, ?_, ?_, ?_, ?_⟩
  all_goals intros; simp only; after_reads_simp
  exacts [h.q _ _ _, h.k _ _ _, h.v _ _ _, h.cs _ _, h.sn _ _]

theorem keepE {σ : Valuation τ sig (Elt Ideal)} (h : Holds X σ) : Holds X (after opsE σ) := by
  refine ⟨?_, ?_, ?_, ?_, ?_⟩
  all_goals intros; simp only; after_reads_simp
  exacts [h.q _ _ _, h.k _ _ _, h.v _ _ _, h.cs _ _, h.sn _ _]

theorem keepF {σ : Valuation τ sig (Elt Ideal)} (h : Holds X σ) : Holds X (after opsF σ) := by
  refine ⟨?_, ?_, ?_, ?_, ?_⟩
  all_goals intros; simp only; after_reads_simp
  exacts [h.q _ _ _, h.k _ _ _, h.v _ _ _, h.cs _ _, h.sn _ _]

theorem keepG {σ : Valuation τ sig (Elt Ideal)} (h : Holds X σ) : Holds X (after opsG σ) := by
  refine ⟨?_, ?_, ?_, ?_, ?_⟩
  all_goals intros; simp only; after_reads_simp
  exacts [h.q _ _ _, h.k _ _ _, h.v _ _ _, h.cs _ _, h.sn _ _]

/-- A family of real numbers picked at every row and head. -/
theorem pick {H N : ℕ} (f : Fin H → Fin N → EReal) (hf : ∀ h n, ∃ M : ℝ, f h n = ((M : ℝ) : EReal)) :
    ∃ M : ℕ → ℕ → ℝ, ∀ h n, f h n = ((M n.val h.val : ℝ) : EReal) := by
  choose M hM using hf
  refine ⟨fun n h => if hh : h < H ∧ n < N then M ⟨h, hh.1⟩ ⟨n, hh.2⟩ else 0, fun h n => ?_⟩
  rw [hM]
  simp [h.isLt, n.isLt]

theorem cut (V0 : Valuation τ sig (Elt Ideal)) :
    after (ops : List (HloOp τ sig (Elt Ideal))) V0
      = after opsH (after opsG (after opsF (after opsE (after opsD (after opsC (after opsB (after opsA V0))))))) := by
  rw [← StableHlo.after_append, ← StableHlo.after_append, ← StableHlo.after_append, ← StableHlo.after_append, ← StableHlo.after_append, ← StableHlo.after_append, ← StableHlo.after_append]
  rfl

/-- What the reference's two results hold. -/
structure Ready (σ : Valuation τ sig (Elt Ideal)) : Prop where
  o : ∀ a b, (show EReal from σ main_v76 (ix2 a b)) = ((olane X a.val b.val : ℝ) : EReal)
  l : ∀ a b e, (show EReal from σ main_v77 (ix3 a b e)) = ((lse X b.val a.val : ℝ) : EReal)

theorem ready {σ : Valuation τ sig (Elt Ideal)} (h0 : Holds X σ) : Ready X (after (ops : List (HloOp τ sig (Elt Ideal))) σ) := by
  rw [cut]
  have k := keepA X h0
  have f39 := a39 X σ h0.q h0.cs h0.sn
  clear h0
  generalize after opsA σ = σA at k f39 ⊢
  have g42 := b42 X σA f39 k.k
  replace k := keepB X k
  clear f39
  generalize after opsB σA = σB at k g42 ⊢
  have f42 := g42
  clear g42
  obtain ⟨M, gM⟩ := pick (fun h n => (show EReal from after opsC σB main_v44 (ix3 h n 0)))
    (fun h n => lat_max X σB f42 h n 0)
  have g44 : ∀ a b e, (show EReal from after opsC σB main_v44 (ix3 a b e)) = ((M b.val a.val : ℝ) : EReal) := by
    intro a b e; rw [Subsingleton.elim e 0]; exact gM a b
  clear gM
  have g42 : ∀ a b e, (show EReal from after opsC σB main_v42 (ix3 a b e)) = ((sc X (256 + b.val) a.val e.val : ℝ) : EReal) := by
    intros; simp only; after_reads_simp; exact f42 _ _ _
  replace k := keepC X k
  clear f42
  generalize after opsC σB = σC at k g42 g44 ⊢
  have f42 := g42
  clear g42
  have f44 := g44
  clear g44
  have g53 := lat_out X σC f42 M f44 k.v
  have g55 := lat_lse X σC f42 M f44
  replace k := keepD X k
  clear f42 f44
  generalize after opsD σC = σD at k g53 g55 ⊢
  have f53 := g53
  clear g53
  have f55 := g55
  clear g55
  have g61 := e61 X σD k.q k.k
  have g58 := e58 X σD k.v
  have g53 : ∀ a b e, (show EReal from after opsE σD main_v53 (ix3 a b e)) = ((out X (256 + a.val) b.val e.val : ℝ) : EReal) := by
    intros; simp only; after_reads_simp; exact f53 _ _ _
  have g55 : ∀ a b e, (show EReal from after opsE σD main_v55 (ix3 a b e)) = ((lse X (256 + b.val) a.val : ℝ) : EReal) := by
    intros; simp only; after_reads_simp; exact f55 _ _ _
  replace k := keepE X k
  clear f53 f55
  generalize after opsE σD = σE at k g53 g55 g61 g58 ⊢
  have f53 := g53
  clear g53
  have f55 := g55
  clear g55
  have f61 := g61
  clear g61
  have f58 := g58
  clear g58
  obtain ⟨M', gM⟩ := pick (fun h n => (show EReal from after opsF σE main_v63 (ix3 h n 0)))
    (fun h n => ctx_max X σE f61 h n 0)
  have g63 : ∀ a b e, (show EReal from after opsF σE main_v63 (ix3 a b e)) = ((M' b.val a.val : ℝ) : EReal) := by
    intro a b e; rw [Subsingleton.elim e 0]; exact gM a b
  clear gM
  have g53 : ∀ a b e, (show EReal from after opsF σE main_v53 (ix3 a b e)) = ((out X (256 + a.val) b.val e.val : ℝ) : EReal) := by
    intros; simp only; after_reads_simp; exact f53 _ _ _
  have g55 : ∀ a b e, (show EReal from after opsF σE main_v55 (ix3 a b e)) = ((lse X (256 + b.val) a.val : ℝ) : EReal) := by
    intros; simp only; after_reads_simp; exact f55 _ _ _
  have g61 : ∀ a b e, (show EReal from after opsF σE main_v61 (ix3 a b e)) = ((sc X b.val a.val e.val : ℝ) : EReal) := by
    intros; simp only; after_reads_simp; exact f61 _ _ _
  have g58 : ∀ a b e, (show EReal from after opsF σE main_v58 (ix3 a b e)) = ((X.v a.val b.val e.val : ℝ) : EReal) := by
    intros; simp only; after_reads_simp; exact f58 _ _ _
  replace k := keepF X k
  clear f53 f55 f61 f58
  generalize after opsF σE = σF at k g53 g55 g61 g58 g63 ⊢
  have f53 := g53
  clear g53
  have f55 := g55
  clear g55
  have f61 := g61
  clear g61
  have f58 := g58
  clear g58
  have f63 := g63
  clear g63
  have g72 := ctx_out X σF f61 M' f63 f58
  have g74 := ctx_lse X σF f61 M' f63
  have g53 : ∀ a b e, (show EReal from after opsG σF main_v53 (ix3 a b e)) = ((out X (256 + a.val) b.val e.val : ℝ) : EReal) := by
    intros; simp only; after_reads_simp; exact f53 _ _ _
  have g55 : ∀ a b e, (show EReal from after opsG σF main_v55 (ix3 a b e)) = ((lse X (256 + b.val) a.val : ℝ) : EReal) := by
    intros; simp only; after_reads_simp; exact f55 _ _ _
  replace k := keepG X k
  clear f53 f55 f61 f58 f63
  generalize after opsG σF = σG at k g53 g55 g72 g74 ⊢
  have f53 := g53
  clear g53
  have f55 := g55
  clear g55
  have f72 := g72
  clear g72
  have f74 := g74
  clear g74
  exact ⟨h76 X σG f72 f53, h77 X σG f74 f55⟩

end Attn.FwdRef
-- ==== Proof.FwdAssemble.lean ====
/-
  The forward call and its reference meet: on finite arguments they leave the same outputs and the same logarithms.
-/
module

public import proofs.«01_k».proof.Defs
public import proofs.«01_k».proof.Proof.FwdValue
public import proofs.«01_k».proof.Proof.FwdRef
public import proofs.«01_k».proof.Proof.Finite
public import proofs.«01_k».proof.Proof.Gen.Pre_finite2
public import proofs.«01_k».proof.Proof.Gen.Kernel2Ideal
public import proofs.«01_k».proof.Proof.Gen.Reference2Ideal
public import Idealize.ShloMosaic.Lib.Claim
public import Idealize.ShloMosaic.Adequacy

@[expose] public section

set_option maxRecDepth 16384
noncomputable section
open Idealize.ShloMosaic Idealize.ShloMosaic.TcCoe Idealize.SL.Sem Idealize.ShloMosaic.StableHlo
namespace Attn.FwdAssemble

set_option maxHeartbeats 4000000 in
/-- The reference's host lines end, with the arguments as they were. -/
theorem frameRef : Cert.quiescent_Reference2Ideal (hReference2Ideal := Cert.Reference2Ideal.Gen.facts) := by
  intro m g _
  exact (θ_run _ _ _).mono (fun r h => ⟨fun c => (h c).2.2, sem_eq_zero_of_no_sems (by decide) r.2⟩)
    (Cert.Reference2Ideal.Value.run m g)

/-! ## The five finite arrays -/
section Arrays
open Cert.Pre_finite2 Cert.Pre_finite2.Gen Attn.Finite
variable (q k : FVec Ideal S2304x16x96 .f32) (v : FVec Ideal S2304x16x64 .f32) (c s : FVec Ideal S2048x16 .f32)

/-- The input the five arrays hold; the forward call takes no cotangent. -/
def inp : Inp := ⟨at3 q, at3 k, at3 v, at2 c, at2 s, fun _ _ => 0⟩

theorem real_q (h : (fn q k v c s).1 = fun _ => 1#1) (a b e) :
    (show EReal from q (ix3 a b e)) = (((inp q k v c s).q a.val b.val e.val : ℝ) : EReal) := by
  have h1 := congrFun h (ix3 a b e)
  exact ((congrArg _ (at3_eq q a b e)).trans (real_of_abs _ h1)).symm
theorem real_k (h : (fn q k v c s).2.1 = fun _ => 1#1) (a b e) :
    (show EReal from k (ix3 a b e)) = (((inp q k v c s).k a.val b.val e.val : ℝ) : EReal) := by
  have h1 := congrFun h (ix3 a b e)
  exact ((congrArg _ (at3_eq k a b e)).trans (real_of_abs _ h1)).symm
theorem real_v (h : (fn q k v c s).2.2.1 = fun _ => 1#1) (a b e) :
    (show EReal from v (ix3 a b e)) = (((inp q k v c s).v a.val b.val e.val : ℝ) : EReal) := by
  have h1 := congrFun h (ix3 a b e)
  exact ((congrArg _ (at3_eq v a b e)).trans (real_of_abs _ h1)).symm
theorem real_c (h : (fn q k v c s).2.2.2.1 = fun _ => 1#1) (a b) :
    (show EReal from c (ix2 a b)) = (((inp q k v c s).cs a.val b.val : ℝ) : EReal) := by
  have h1 := congrFun h (ix2 a b)
  exact ((congrArg _ (at2_eq c a b)).trans (real_of_abs _ h1)).symm
theorem real_s (h : (fn q k v c s).2.2.2.2 = fun _ => 1#1) (a b) :
    (show EReal from s (ix2 a b)) = (((inp q k v c s).sn a.val b.val : ℝ) : EReal) := by
  have h1 := congrFun h (ix2 a b)
  exact ((congrArg _ (at2_eq s a b)).trans (real_of_abs _ h1)).symm
end Arrays

section Values
variable (m : (ℓ : Loc Cert.Kernel2Ideal.nD Cert.Kernel2Ideal.τ Cert.Kernel2Ideal.sig) → Buf (Elt Ideal) ℓ)
  (m' : (ℓ : Loc Cert.Reference2Ideal.nD Cert.Reference2Ideal.τ Cert.Reference2Ideal.sig) → Buf (Elt Ideal) ℓ)

/-- The input the kernel's arguments hold on a device. -/
def X (c : Dev Cert.Kernel2Ideal.nD) : Inp :=
  inp (m (c.tc.loc Cert.Kernel2Ideal.main_arg0)) (m (c.tc.loc Cert.Kernel2Ideal.main_arg1))
    (m (c.tc.loc Cert.Kernel2Ideal.main_arg2)) (m (c.tc.loc Cert.Kernel2Ideal.main_arg3))
    (m (c.tc.loc Cert.Kernel2Ideal.main_arg4))

theorem start (hpre : Cert.Pre_Kernel2Ideal_finite2 (hPre_finite2 := Cert.Pre_finite2.Gen.facts) m) (c : Dev Cert.Kernel2Ideal.nD) :
    FwdBlocks.Start (X m c) m c := by
  obtain ⟨h0, h1, h2, h3, h4⟩ := hpre c
  exact ⟨real_q _ _ _ _ _ h0, real_k _ _ _ _ _ h1, real_v _ _ _ _ _ h2, real_c _ _ _ _ _ h3, real_s _ _ _ _ _ h4⟩

/-- The reference's arguments hold the same input. -/
theorem startRef (hs : ∀ c, FwdBlocks.Start (X m c) m c) (c : Dev Cert.Kernel2Ideal.nD)
    (hag : m' (c.tc.loc Cert.Reference2Ideal.main_arg0) = m (c.tc.loc Cert.Kernel2Ideal.main_arg0)
      ∧ m' (c.tc.loc Cert.Reference2Ideal.main_arg1) = m (c.tc.loc Cert.Kernel2Ideal.main_arg1)
      ∧ m' (c.tc.loc Cert.Reference2Ideal.main_arg2) = m (c.tc.loc Cert.Kernel2Ideal.main_arg2)
      ∧ m' (c.tc.loc Cert.Reference2Ideal.main_arg3) = m (c.tc.loc Cert.Kernel2Ideal.main_arg3)
      ∧ m' (c.tc.loc Cert.Reference2Ideal.main_arg4) = m (c.tc.loc Cert.Kernel2Ideal.main_arg4)) :
    FwdRef.Holds (X m c) (StableHlo.launchContents m' c) := by
  obtain ⟨e0, e1, e2, e3, e4⟩ := hag
  exact ⟨fun a b e => (congrFun e0 (ix3 a b e)).trans ((hs c).q a b e),
    fun a b e => (congrFun e1 (ix3 a b e)).trans ((hs c).k a b e),
    fun a b e => (congrFun e2 (ix3 a b e)).trans ((hs c).v a b e),
    fun a b => (congrFun e3 (ix2 a b)).trans ((hs c).cs a b),
    fun a b => (congrFun e4 (ix2 a b)).trans ((hs c).sn a b)⟩
end Values

open Cert.Reference2Ideal Cert.Reference2Ideal.Value in
set_option maxHeartbeats 4000000 in
/-- The reference's run with its results named and its arguments unchanged. -/
theorem runRef (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v76) = after ops (launchContents m c) main_v76
      ∧ r.2.mem ((c.tc : Thread nD τ).loc main_v77) = after ops (launchContents m c) main_v77
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨h c main_v76, h c main_v77, (h c main_arg0).trans (by after_results_simp <;> rfl),
      (h c main_arg1).trans (by after_results_simp <;> rfl), (h c main_arg2).trans (by after_results_simp <;> rfl),
      (h c main_arg3).trans (by after_results_simp <;> rfl), (h c main_arg4).trans (by after_results_simp <;> rfl)⟩)
    (run_seq scopedRefs_eq scopedSems_eq defs main (fun _ => ops) main_eq (fun _ => ops_sub) m ρ)

section Meet
variable (m : (ℓ : Loc Cert.Kernel2Ideal.nD Cert.Kernel2Ideal.τ Cert.Kernel2Ideal.sig) → Buf (Elt Ideal) ℓ)
  (c : Dev Cert.Kernel2Ideal.nD) (σ : Valuation Cert.Reference2Ideal.τ Cert.Reference2Ideal.sig (Elt Ideal))

theorem meetO (hs : FwdBlocks.Start (X m c) m c) (hr : FwdRef.Holds (X m c) σ) :
    (after Cert.Reference2Ideal.Value.ops σ Cert.Reference2Ideal.main_v76 : FVec Ideal Cert.Reference2Ideal.S2304x1024 .f32)
      = ((Cert.Kernel2Ideal.Gen.dats m 0 c).arrAt 3 Cert.Kernel2Ideal.cfg0.N : FVec Ideal Cert.Reference2Ideal.S2304x1024 .f32) := by
  funext i
  obtain ⟨a, b, rfl⟩ := FwdBlocks.coords2 i
  exact ((FwdRef.ready _ hr).o a b).trans (FwdValue.o_eq _ m c hs a b).symm
theorem meetL (hs : FwdBlocks.Start (X m c) m c) (hr : FwdRef.Holds (X m c) σ) :
    (after Cert.Reference2Ideal.Value.ops σ Cert.Reference2Ideal.main_v77 : FVec Ideal Cert.Reference2Ideal.S16x2304x1 .f32)
      = ((Cert.Kernel2Ideal.Gen.dats m 0 c).arrAt 4 Cert.Kernel2Ideal.cfg0.N : FVec Ideal Cert.Reference2Ideal.S16x2304x1 .f32) := by
  funext i
  obtain ⟨a, b, d, rfl⟩ := FwdBlocks.coords3 i
  exact ((FwdRef.ready _ hr).l a b d).trans (FwdValue.l_eq _ m c hs a b d).symm
end Meet

set_option maxHeartbeats 4000000 in
/-- On finite arguments the forward call and its reference leave the same two arrays. -/
theorem algebraic : Cert.algebraic_Kernel2Ideal_Reference2Ideal_pre_finite2 (hKernel2Ideal := Cert.Kernel2Ideal.Gen.facts)
    (hReference2Ideal := Cert.Reference2Ideal.Gen.facts) (hPre_finite2 := Cert.Pre_finite2.Gen.facts) := by
  intro m g m' g' hpre hag
  have hs := start m hpre
  refine ⟨fun c => (Cert.Kernel2Ideal.Gen.dats m 0 c).arrAt 3 Cert.Kernel2Ideal.cfg0.N,
    fun c => (Cert.Kernel2Ideal.Gen.dats m 0 c).arrAt 4 Cert.Kernel2Ideal.cfg0.N, Cert.Kernel2Ideal.Value.run_blocks m g, ?_⟩
  refine (θ_run _ _ _).mono ?_ (runRef m' g')
  intro r h c
  obtain ⟨h0, h1, ha⟩ := h c
  have hr := startRef m m' hs c (hag c)
  exact ⟨h0.trans (meetO m c _ (hs c) hr), h1.trans (meetL m c _ (hs c) hr), ha⟩

end Attn.FwdAssemble
-- ==== Proof.ProdBlocks.lean ====
/-
  What the product modules share: an index of a rank-two array by its two coordinates, and the place of a block's entry in the whole array.
-/
module

public import proofs.«01_k».proof.Proof.Canon
public import Idealize.ShloMosaic.Lib.Pipeline.ValueKit
public import Idealize.ShloMosaic.Lib.Pointwise
public import Idealize.ShloMosaic.Lib.Claim
public import Idealize.ShloMosaic.Adequacy
public import Idealize.ShloMosaic.Lib.StableHlo.RunRead

@[expose] public section

noncomputable section
open Idealize.ShloMosaic
namespace Attn.ProdBlocks
theorem coords2 {N M : ℕ} (i : (⟨2, ![N, M]⟩ : Shape).Idx) : ∃ (a : Fin N) (b : Fin M), i = ix2 a b :=
  ⟨i 0, i 1, by funext k; fin_cases k <;> rfl⟩
/-- The entry of the whole array under an entry of a block: the block's place times its extents, and the entry's own place. -/
theorem place {R C r k : ℕ} (i j : ℕ) (y : (⟨2, ![R, C]⟩ : Shape).Idx) (a : Fin r) (b : Fin k) (h0 : (y 0).val = i * r + 1 * a.val)
    (h1 : (y 1).val = j * k + 1 * b.val) (i' j' : ℕ) (hi : i = i') (hj : j = j') (A : Fin R) (B : Fin C) (hA : A.val = r * i' + a.val)
    (hB : B.val = k * j' + b.val) : y = ix2 A B := by
  subst hi hj
  funext x
  refine Fin.ext ?_
  fin_cases x
  · exact h0.trans (by show _ = A.val; rw [hA, Nat.mul_comm, Nat.one_mul])
  · exact h1.trans (by show _ = B.val; rw [hB, Nat.mul_comm, Nat.one_mul])
/-- The same of a row of an array whose rows are blocks: the block's place picks the row. -/
theorem placeRow {R C : ℕ} (i j k : ℕ) (y : (⟨3, ![R, 1, C]⟩ : Shape).Idx) (b : Fin C) (h0 : (y 0).val = i * 1 + 1 * 0)
    (h1 : (y 1).val = j * 1 + 1 * 0) (h2 : (y 2).val = k * C + 1 * b.val) (i' : ℕ) (hi : i = i') (hj : j = 0) (hk : k = 0) (A : Fin R)
    (hA : A.val = i') : y = ix3 A 0 b := by
  subst hi hj hk
  funext x
  refine Fin.ext ?_
  fin_cases x
  · exact h0.trans (by show _ = A.val; rw [hA]; omega)
  · exact h1
  · exact h2.trans (by show _ = b.val; omega)
end Attn.ProdBlocks
-- ==== Proof.Prod3.lean ====
/-
  The gradient of the second layer's input projection, block by block: its first blocks of columns over every row, its last ones over the rows past the context's.
-/
module

public import proofs.«01_k».proof.Defs
public import proofs.«01_k».proof.Proof.ProdBlocks
public import proofs.«01_k».proof.Proof.Gen.Kernel3Ideal.Value
public import proofs.«01_k».proof.Proof.Gen.Reference3Ideal.Run

@[expose] public section

set_option maxRecDepth 16384
noncomputable section
open Idealize.ShloMosaic Idealize.ShloMosaic.TcCoe Idealize.SL.Sem Idealize.ShloMosaic.StableHlo
namespace Attn.Prod3
open Cert.Kernel3Ideal Cert.Kernel3Ideal.Gen Cert.Kernel3Ideal.Value
variable (m : (ℓ : Loc nD τ sig) → Buf (Elt Ideal) ℓ) (c : Dev nD)

/-! ## The operands -/
/-- The first argument as an array of numbers. -/
def arr0 : Fin 2304 → Fin 1024 → EReal := fun a b => m ((c : Thread nD τ).loc main_arg0) (ix2 a b)
/-- The second argument as an array of numbers. -/
def arr1 : Fin 2304 → Fin 1024 → EReal := fun a b => m ((c : Thread nD τ).loc main_arg1) (ix2 a b)
/-- The third argument as an array of numbers. -/
def arr2 : Fin 2048 → Fin 1024 → EReal := fun a b => m ((c : Thread nD τ).loc main_arg2) (ix2 a b)
theorem entry0 (a : Fin 2304) (b : Fin 1024) : (show EReal from V m c main_v0 (ix2 a b)) = arr0 m c a b := by
  show (show EReal from after hostOps0 (fun b => m (c, b)) main_v0 (ix2 a b)) = _
  simp only
  repeat (after_reads_simp; pointwise)
  rfl
theorem entry1 (a : Fin 2304) (b : Fin 1024) : (show EReal from V m c main_arg1 (ix2 a b)) = arr1 m c a b :=
  congrFun (V_main_arg1 m c) (ix2 a b)
theorem entry2 (a : Fin 2048) (b : Fin 1024) : (show EReal from V m c main_arg2 (ix2 a b)) = arr2 m c a b :=
  congrFun (V_main_arg2 m c) (ix2 a b)

/-! ## The blocks' places -/
theorem index0 : ∀ t : Fin cfg0.N, win0_0.index t (0 : Fin 2) = 0 ∧ win0_0.index t (1 : Fin 2) = 0 :=
  (by decide +kernel : ∀ t : Fin grid0.N, _)
theorem index1 : ∀ t : Fin cfg0.N, t.val < 2 → win0_1.index t (0 : Fin 2) = 0 ∧ win0_1.index t (1 : Fin 2) = t.val :=
  (by decide +kernel : ∀ t : Fin grid0.N, _)
theorem index2 : ∀ t : Fin cfg0.N, 2 ≤ t.val → win0_2.index t (0 : Fin 2) = 0 ∧ win0_2.index t (1 : Fin 2) = t.val - 2 :=
  (by decide +kernel : ∀ t : Fin grid0.N, _)
theorem index3 : ∀ t : Fin cfg0.N, win0_3.index t (0 : Fin 2) = 0 ∧ win0_3.index t (1 : Fin 2) = t.val :=
  (by decide +kernel : ∀ t : Fin grid0.N, _)
theorem flush3 : ∀ t : Fin cfg0.N, (cfg0.win 3).flush t = true := (by decide +kernel : ∀ t : Fin grid0.N, _)
theorem place0 (t : Fin cfg0.N) (a : Fin 2304) (b : Fin 1024) : ((cfg0.win 0).blk t).view.emb (ix2 a b) =
    (ix2 a b : (⟨2, ![2304, 1024]⟩ : Shape).Idx) :=
  ProdBlocks.place (win0_0.index t (0 : Fin 2)) (win0_0.index t (1 : Fin 2)) _ a b rfl rfl _ _ (index0 t).1 (index0 t).2 _ _ (by simp) (by simp)
theorem place1 (t : Fin cfg0.N) (ht : t.val < 2) (a : Fin 2304) (b : Fin 512) : ((cfg0.win 1).blk t).view.emb (ix2 a b) =
    (ix2 a ⟨512 * t.val + b.val, by omega⟩ : (⟨2, ![2304, 1024]⟩ : Shape).Idx) :=
  ProdBlocks.place (win0_1.index t (0 : Fin 2)) (win0_1.index t (1 : Fin 2)) _ a b rfl rfl _ _ (index1 t ht).1 (index1 t ht).2 _ _ (by simp) (by simp)
theorem place2 (t : Fin cfg0.N) (ht : 2 ≤ t.val) (a : Fin 2048) (b : Fin 512) : ((cfg0.win 2).blk t).view.emb (ix2 a b) =
    (ix2 a ⟨512 * (t.val - 2) + b.val, by have := t.isLt; have : cfg0.N = 4 := N_0; omega⟩ : (⟨2, ![2048, 1024]⟩ : Shape).Idx) :=
  ProdBlocks.place (win0_2.index t (0 : Fin 2)) (win0_2.index t (1 : Fin 2)) _ a b rfl rfl _ _ (index2 t ht).1 (index2 t ht).2 _ _ (by simp) (by simp)
theorem place3 (t : Fin cfg0.N) (a : Fin 1024) (b : Fin 512) : ((cfg0.win 3).blk t).view.emb (ix2 a b) =
    (ix2 a ⟨512 * t.val + b.val, by have := t.isLt; have : cfg0.N = 4 := N_0; omega⟩ : (⟨2, ![1024, 2048]⟩ : Shape).Idx) :=
  ProdBlocks.place (win0_3.index t (0 : Fin 2)) (win0_3.index t (1 : Fin 2)) _ a b rfl rfl _ _ (index3 t).1 (index3 t).2 _ _ (by simp) (by simp)

/-- The first operand's block at a grid point: all of it. -/
theorem blk0 (t : Fin cfg0.N) (a : Fin 2304) (b : Fin 1024) :
    (show EReal from iblk m c 0 t (ix2 a b)) = arr0 m c a b := by
  have h := entry0 m c
  unfold iblk
  generalize V m c (Pipeline.arrRef spec0 0) = A at h ⊢
  exact (congrArg A (place0 t a b)).trans (h _ _)
/-- The second operand's block at one of the first grid points. -/
theorem blk1 (t : Fin cfg0.N) (ht : t.val < 2) (a : Fin 2304) (b : Fin 512) :
    (show EReal from iblk m c 1 t (ix2 a b)) = arr1 m c a ⟨512 * t.val + b.val, by omega⟩ := by
  have h := entry1 m c
  unfold iblk
  generalize V m c (Pipeline.arrRef spec0 1) = A at h ⊢
  exact (congrArg A (place1 t ht a b)).trans (h _ _)
/-- The third operand's block at one of the last grid points. -/
theorem blk2 (t : Fin cfg0.N) (ht : 2 ≤ t.val) (a : Fin 2048) (b : Fin 512) :
    (show EReal from iblk m c 2 t (ix2 a b)) = arr2 m c a ⟨512 * (t.val - 2) + b.val, by have := t.isLt; have : cfg0.N = 4 := N_0; omega⟩ := by
  have h := entry2 m c
  unfold iblk
  generalize V m c (Pipeline.arrRef spec0 2) = A at h ⊢
  exact (congrArg A (place2 t ht a b)).trans (h _ _)

/-! ## A grid point's product -/
set_option maxHeartbeats 1000000 in
theorem payAll (x : Vec Ideal S2304x1024 .bf16) (y : Vec Ideal S2304x512 .f32) (a : Fin 1024) (b : Fin 512) :
    (show EReal from k0_pay2 x y (ix2 a b)) = ∑ n : Fin 2304, (show EReal from x (ix2 n a)) * (show EReal from y (ix2 n b)) := by
  pointwise [k0_pay2]
set_option maxHeartbeats 1000000 in
theorem payLate (x : Vec Ideal S2048x1024 .bf16) (y : Vec Ideal S2048x512 .f32) (a : Fin 1024) (b : Fin 512) :
    (show EReal from k0_pay1 x y (ix2 a b)) = ∑ n : Fin 2048, (show EReal from x (ix2 n a)) * (show EReal from y (ix2 n b)) := by
  pointwise [k0_pay1]
/-- The rows past the context's. -/
theorem late (x : Vec Ideal S2304x1024 .bf16) (n : Fin 2048) (a : Fin 1024) :
    (show EReal from (View.ld x (Rect.unit (s := S2304x1024) ![256, 0] S2048x1024.size inb_S2304x1024_S2048x1024_256_0)) (ix2 n a))
      = (show EReal from x (ix2 ⟨256 + n.val, by omega⟩ a)) := by
  pointwise

/-- One of the first grid points. -/
theorem eachAll (t : Fin cfg0.N) (ht : t.val < 2) (a : Fin 1024) (b : Fin 512) : (show EReal from outsAt0 m c t.val t.isLt (ix2 a b))
    = ∑ n : Fin 2304, arr0 m c n a * arr1 m c n ⟨512 * t.val + b.val, by omega⟩ := by
  rw [outsAt0_A m c t ht (by omega)]; frame_out
  refine (payAll (iblk m c 0 t) (iblk m c 1 t) a b).trans ?_
  refine Finset.sum_congr rfl fun n _ => ?_
  rw [blk0, blk1 m c t ht]
/-- One of the last grid points. -/
theorem eachLate (t : Fin cfg0.N) (ht : 2 ≤ t.val) (a : Fin 1024) (b : Fin 512) : (show EReal from outsAt0 m c t.val t.isLt (ix2 a b))
    = ∑ n : Fin 2048, arr0 m c ⟨256 + n.val, by omega⟩ a
        * arr2 m c n ⟨512 * (t.val - 2) + b.val, by have := t.isLt; have : cfg0.N = 4 := N_0; omega⟩ := by
  rw [outsAt0_B m c t (by omega) ht]; frame_out
  refine (payLate (View.ld (iblk m c 0 t) (Rect.unit (s := S2304x1024) ![256, 0] S2048x1024.size inb_S2304x1024_S2048x1024_256_0)) (iblk m c 2 t) a b).trans ?_
  refine Finset.sum_congr rfl fun n _ => ?_
  rw [late, blk0, blk2 m c t ht]

/-- An entry of the array the call leaves is its block's. -/
theorem at_ (a : Fin 1024) (b : Fin 2048) : (show EReal from (dats m 0 c).arrAt 3 cfg0.N (ix2 a b))
    = (show EReal from outsAt0 m c (b.val / 512) (by have : cfg0.N = 4 := N_0; omega) (ix2 a ⟨b.val % 512, by omega⟩)) := by
  have h := congrFun (blocks3 m c ⟨b.val / 512, by have : cfg0.N = 4 := N_0; omega⟩ (flush3 _)) (ix2 a ⟨b.val % 512, by omega⟩)
  rw [flushed3] at h
  have hp := place3 ⟨b.val / 512, by have : cfg0.N = 4 := N_0; omega⟩ a ⟨b.val % 512, by omega⟩
  have q : 512 * (b.val / 512) + b.val % 512 = b.val := by omega
  simp only [q] at hp
  exact (congrArg ((dats m 0 c).arrAt 3 cfg0.N) hp).symm.trans h
/-- One of the first columns. -/
theorem valAll (a : Fin 1024) (b : Fin 2048) (hb : b.val < 1024) : (show EReal from (dats m 0 c).arrAt 3 cfg0.N (ix2 a b))
    = ∑ n : Fin 2304, arr0 m c n a * arr1 m c n ⟨b.val, hb⟩ := by
  refine (at_ m c a b).trans ((eachAll m c ⟨b.val / 512, by have : cfg0.N = 4 := N_0; omega⟩ (by show b.val / 512 < 2; omega) a _).trans ?_)
  have q : 512 * (b.val / 512) + b.val % 512 = b.val := by omega
  simp only [q]
/-- One of the last columns. -/
theorem valLate (a : Fin 1024) (b : Fin 2048) (hb : 1024 ≤ b.val) : (show EReal from (dats m 0 c).arrAt 3 cfg0.N (ix2 a b))
    = ∑ n : Fin 2048, arr0 m c ⟨256 + n.val, by omega⟩ a * arr2 m c n ⟨b.val - 1024, by omega⟩ := by
  refine (at_ m c a b).trans ((eachLate m c ⟨b.val / 512, by have : cfg0.N = 4 := N_0; omega⟩ (by show 2 ≤ b.val / 512; omega) a _).trans ?_)
  have q : 512 * (b.val / 512 - 2) + b.val % 512 = b.val - 1024 := by omega
  simp only [q]

/-! ## The reference -/
/-- A sum over all the rows: the context's, then the rest. -/
theorem split (f : Fin 2304 → EReal) : ∑ n : Fin 2304, f n
    = (∑ n : Fin 256, f ⟨n.val, by omega⟩) + ∑ n : Fin 2048, f ⟨256 + n.val, by omega⟩ :=
  Fin.sum_univ_add (a := 256) (b := 2048) f

section
open Cert.Reference3Ideal Cert.Reference3Ideal.Gen
variable (x0 x1 : FVec Ideal Cert.Reference3Ideal.S2304x1024 .f32) (x2 : FVec Ideal Cert.Reference3Ideal.S2048x1024 .f32)
/-- The reference's result as a function of its arguments. -/
def refTerm : FVec Ideal Cert.Reference3Ideal.S1024x2048 .f32 :=
  addf (transpose Cert.Reference3Ideal.S1024x2048 [1, 0] (Host.dotGeneral Cert.Reference3Ideal.dot_S2048x2048_S2048x1024_S2048x1024_0_0_1_1_n_n none (addf (pad Cert.Reference3Ideal.S2048x2048 ![0, 1024] ![0, 0] ![0, 0] x2 (constant Cert.Reference3Ideal.S_ .f32 0x00000000#32) Cert.Reference3Ideal.Facts₀.pads_S2048x1024_S2048x2048_000_102400 Cert.Reference3Ideal.Facts₀.h_S_) (pad Cert.Reference3Ideal.S2048x2048 ![0, 0] ![0, 1024] ![0, 0] (extractStridedSlice Cert.Reference3Ideal.S2048x1024 ![256, 0] x1 Cert.Reference3Ideal.Facts₀.slices_S2304x1024_S2048x1024_256_0) (constant Cert.Reference3Ideal.S_ .f32 0x00000000#32) Cert.Reference3Ideal.Facts₀.pads_S2048x1024_S2048x2048_000_010240 Cert.Reference3Ideal.Facts₀.h_S_)) (extractStridedSlice Cert.Reference3Ideal.S2048x1024 ![256, 0] x0 Cert.Reference3Ideal.Facts₀.slices_S2304x1024_S2048x1024_256_0)) Cert.Reference3Ideal.Facts₀.transposes_S2048x1024_S1024x2048_1_0) (pad Cert.Reference3Ideal.S1024x2048 ![0, 0] ![0, 1024] ![0, 0] (transpose Cert.Reference3Ideal.S1024x1024 [1, 0] (Host.dotGeneral Cert.Reference3Ideal.dot_S256x1024_S256x1024_S1024x1024_0_0_1_1_n_n none (extractStridedSlice Cert.Reference3Ideal.S256x1024 ![0, 0] x1 Cert.Reference3Ideal.Facts₀.slices_S2304x1024_S256x1024_0_0) (extractStridedSlice Cert.Reference3Ideal.S256x1024 ![0, 0] x0 Cert.Reference3Ideal.Facts₀.slices_S2304x1024_S256x1024_0_0)) Cert.Reference3Ideal.Facts₀.transposes_S1024x1024_S1024x1024_1_0) (constant Cert.Reference3Ideal.S_ .f32 0x00000000#32) Cert.Reference3Ideal.Facts₀.pads_S1024x1024_S1024x2048_000_010240 Cert.Reference3Ideal.Facts₀.h_S_)
set_option maxHeartbeats 2000000 in
theorem refAll (a : Fin 1024) (b : Fin 2048) (hb : b.val < 1024) : (show EReal from refTerm x0 x1 x2 (ix2 a b))
    = ∑ n : Fin 2304, (show EReal from x0 (ix2 n a)) * (show EReal from x1 (ix2 n ⟨b.val, hb⟩)) := by
  rw [split]
  pointwise [refTerm]
  have h : ¬(1024 ≤ b.val ∧ b.val - 1024 < 1024) := by omega
  simp only [h, hb, dif_pos, dif_neg, not_false_eq_true]
  rw [add_comm]
  refine congr (congrArg _ (Finset.sum_congr rfl fun n _ => mul_comm _ _)) (Finset.sum_congr rfl fun n _ => ?_)
  exact (congrArg (· * _) (zero_add _)).trans (mul_comm _ _)
set_option maxHeartbeats 2000000 in
theorem refLate (a : Fin 1024) (b : Fin 2048) (hb : 1024 ≤ b.val) : (show EReal from refTerm x0 x1 x2 (ix2 a b))
    = ∑ n : Fin 2048, (show EReal from x0 (ix2 ⟨256 + n.val, by omega⟩ a)) * (show EReal from x2 (ix2 n ⟨b.val - 1024, by omega⟩)) := by
  pointwise [refTerm]
  have h : 1024 ≤ b.val ∧ b.val - 1024 < 1024 := by omega
  have h' : ¬b.val < 1024 := by omega
  simp only [dif_pos h, dif_neg h']
  refine (add_zero _).trans (Finset.sum_congr rfl fun n _ => ?_)
  exact (congrArg (· * _) (add_zero _)).trans (mul_comm _ _)
end

/-- The reference's host lines end, with the arguments as they were. -/
theorem frameRef : Cert.quiescent_Reference3Ideal (hReference3Ideal := Cert.Reference3Ideal.Gen.facts) := by
  intro m g _
  exact (θ_run _ _ _).mono (fun r h => ⟨fun c => (h c).2, sem_eq_zero_of_no_sems (by decide) r.2⟩)
    (Cert.Reference3Ideal.Value.run m g)

set_option maxHeartbeats 1000000 in
/-- The call and its reference leave the same array. -/
theorem algebraic : Cert.algebraic_Kernel3Ideal_Reference3Ideal (hKernel3Ideal := Cert.Kernel3Ideal.Gen.facts) (hReference3Ideal := Cert.Reference3Ideal.Gen.facts) := by
  intro m g m' g' _ hag
  refine ⟨fun c => (dats m 0 c).arrAt 3 cfg0.N, Cert.Kernel3Ideal.Value.run_blocks m g, ?_⟩
  refine (θ_run _ _ _).mono ?_ (Cert.Reference3Ideal.Value.run m' g')
  intro r h c
  obtain ⟨h0, ha⟩ := h c
  refine ⟨h0.trans ?_, ha⟩
  obtain ⟨e0, e1, e2⟩ := hag c
  funext i
  obtain ⟨a, b, rfl⟩ := ProdBlocks.coords2 i
  by_cases hb : b.val < 1024
  · refine Eq.trans ?_ (valAll m c a b hb).symm
    refine (refAll (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) a b hb).trans ?_
    rw [e0, e1]
    rfl
  · refine Eq.trans ?_ (valLate m c a b (by omega)).symm
    refine (refLate (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) a b (by omega)).trans ?_
    rw [e0, e2]
    rfl

end Attn.Prod3
-- ==== Proof.Prod4.lean ====
/-
  One product of the backward pass: the gradient of the gate's columns of the first layer's input projection, block by block against the whole product.
-/
module

public import proofs.«01_k».proof.Defs
public import proofs.«01_k».proof.Proof.ProdBlocks
public import proofs.«01_k».proof.Proof.Gen.Kernel4Ideal.Value
public import proofs.«01_k».proof.Proof.Gen.Reference4Ideal.Run

@[expose] public section

set_option maxRecDepth 16384
noncomputable section
open Idealize.ShloMosaic Idealize.ShloMosaic.TcCoe Idealize.SL.Sem Idealize.ShloMosaic.StableHlo
namespace Attn.Prod4
open Cert.Kernel4Ideal Cert.Kernel4Ideal.Gen Cert.Kernel4Ideal.Value
variable (m : (ℓ : Loc nD τ sig) → Buf (Elt Ideal) ℓ) (c : Dev nD)

/-! ## Operand 0 -/
/-- The argument as an array of numbers. -/
def arr0 : Fin 2304 → Fin 1024 → EReal := fun a b => m ((c : Thread nD τ).loc main_arg0) (ix2 a b)
theorem entry0 (a : Fin 2304) (b : Fin 1024) : (show EReal from V m c main_v0 (ix2 a b)) = arr0 m c a b := by
  show (show EReal from after hostOps0 (fun b => m (c, b)) main_v0 (ix2 a b)) = _
  simp only
  repeat (after_reads_simp; pointwise)
  rfl
theorem index0 : ∀ t : Fin cfg0.N, win0_0.index t (0 : Fin 2) = 0 ∧ win0_0.index t (1 : Fin 2) = 0 :=
  (by decide +kernel : ∀ t : Fin grid0.N, _)
theorem place0 (t : Fin cfg0.N) (a : Fin 2304) (b : Fin 1024) : ((cfg0.win 0).blk t).view.emb (ix2 a b) =
    (ix2 a b : (⟨2, ![2304, 1024]⟩ : Shape).Idx) :=
  ProdBlocks.place (win0_0.index t (0 : Fin 2)) (win0_0.index t (1 : Fin 2)) _ a b rfl rfl _ _ (index0 t).1 (index0 t).2 _ _ (by simp) (by simp)
/-- The operand's block at a grid point. -/
theorem blk0 (t : Fin cfg0.N) (a : Fin 2304) (b : Fin 1024) :
    (show EReal from iblk m c 0 t (ix2 a b)) = arr0 m c a b := by
  have h := entry0 m c
  unfold iblk
  generalize V m c (Pipeline.arrRef spec0 0) = A at h ⊢
  exact (congrArg A (place0 t a b)).trans (h _ _)

/-! ## Operand 1 -/
/-- The argument as an array of numbers. -/
def arr1 : Fin 2304 → Fin 1024 → EReal := fun a b => m ((c : Thread nD τ).loc main_arg1) (ix2 a b)
theorem entry1 (a : Fin 2304) (b : Fin 1024) : (show EReal from V m c main_arg1 (ix2 a b)) = arr1 m c a b :=
  congrFun (V_main_arg1 m c) (ix2 a b)
theorem index1 : ∀ t : Fin cfg0.N, win0_1.index t (0 : Fin 2) = 0 ∧ win0_1.index t (1 : Fin 2) = t.val :=
  (by decide +kernel : ∀ t : Fin grid0.N, _)
theorem place1 (t : Fin cfg0.N) (a : Fin 2304) (b : Fin 512) : ((cfg0.win 1).blk t).view.emb (ix2 a b) =
    (ix2 a ⟨512 * t.val + b.val, by have := t.isLt; have : cfg0.N = 2 := N_0; omega⟩ : (⟨2, ![2304, 1024]⟩ : Shape).Idx) :=
  ProdBlocks.place (win0_1.index t (0 : Fin 2)) (win0_1.index t (1 : Fin 2)) _ a b rfl rfl _ _ (index1 t).1 (index1 t).2 _ _ (by simp) (by simp)
/-- The operand's block at a grid point. -/
theorem blk1 (t : Fin cfg0.N) (a : Fin 2304) (b : Fin 512) :
    (show EReal from iblk m c 1 t (ix2 a b)) = arr1 m c a ⟨512 * t.val + b.val, by have := t.isLt; have : cfg0.N = 2 := N_0; omega⟩ := by
  have h := entry1 m c
  unfold iblk
  generalize V m c (Pipeline.arrRef spec0 1) = A at h ⊢
  exact (congrArg A (place1 t a b)).trans (h _ _)

/-! ## The result's blocks -/
theorem index2 : ∀ t : Fin cfg0.N, win0_2.index t (0 : Fin 2) = 0 ∧ win0_2.index t (1 : Fin 2) = t.val :=
  (by decide +kernel : ∀ t : Fin grid0.N, _)
theorem place2 (t : Fin cfg0.N) (a : Fin 1024) (b : Fin 512) : ((cfg0.win 2).blk t).view.emb (ix2 a b) =
    (ix2 a ⟨512 * t.val + b.val, by have := t.isLt; have : cfg0.N = 2 := N_0; omega⟩ : (⟨2, ![1024, 1024]⟩ : Shape).Idx) :=
  ProdBlocks.place (win0_2.index t (0 : Fin 2)) (win0_2.index t (1 : Fin 2)) _ a b rfl rfl _ _ (index2 t).1 (index2 t).2 _ _ (by simp) (by simp)
theorem flush2 : ∀ t : Fin cfg0.N, (cfg0.win 2).flush t = true := (by decide +kernel : ∀ t : Fin grid0.N, _)

set_option maxHeartbeats 1000000 in
/-- One grid point's product, at an entry. -/
theorem pay (x0 : Vec Ideal S2304x1024 .bf16) (x1 : Vec Ideal S2304x512 .f32) (a : Fin 1024) (b : Fin 512) :
    (show EReal from k0_pay1 x0 x1 (ix2 a b)) = ∑ n : Fin 2304, (show EReal from x0 (ix2 n a)) * (show EReal from x1 (ix2 n b)) := by
  pointwise [k0_pay1]
theorem out (x0 : Vec Ideal S2304x1024 .bf16) (x1 : Vec Ideal S2304x512 .f32) (a : Fin 1024) (b : Fin 512) :
    (show EReal from out0_2 x0 x1 (ix2 a b)) = ∑ n : Fin 2304, (show EReal from x0 (ix2 n a)) * (show EReal from x1 (ix2 n b)) := by
  have e0 : View.ld x0 (Rect.unit (s := S2304x1024) ![0, 0] S2304x1024.size inb_S2304x1024_S2304x1024_0_0) = x0 := View.ld_unit_lit _ x0 (by decide)
  have e1 : View.ld x1 (Rect.unit (s := S2304x512) ![0, 0] S2304x512.size inb_S2304x512_S2304x512_0_0) = x1 := View.ld_unit_lit _ x1 (by decide)
  have h : out0_2 x0 x1 = k0_pay1 (View.ld x0 (Rect.unit (s := S2304x1024) ![0, 0] S2304x1024.size inb_S2304x1024_S2304x1024_0_0)) (View.ld x1 (Rect.unit (s := S2304x512) ![0, 0] S2304x512.size inb_S2304x512_S2304x512_0_0)) := View.canon_cons_unit_lit _ _ [] (by decide)
  rw [h, e0, e1]
  exact pay x0 x1 a b

theorem each (t : Fin cfg0.N) (a : Fin 1024) (b : Fin 512) :
    (show EReal from out0_2 (iblk m c 0 t) (iblk m c 1 t) (ix2 a b)) = ∑ n : Fin 2304, arr0 m c n a * arr1 m c n ⟨512 * t.val + b.val, by have := t.isLt; have : cfg0.N = 2 := N_0; omega⟩ := by
  refine (out (iblk m c 0 t) (iblk m c 1 t) a b).trans ?_
  refine Finset.sum_congr rfl fun n _ => ?_
  rw [blk0, blk1]

/-- The array the call leaves, at an entry. -/
theorem val (a : Fin 1024) (b : Fin 1024) :
    (show EReal from (dats m 0 c).arrAt 2 cfg0.N (ix2 a b)) = ∑ n : Fin 2304, arr0 m c n a * arr1 m c n b := by
  have h := congrFun (blocks2 m c ⟨b.val / 512, by have : cfg0.N = 2 := N_0; omega⟩ (flush2 _)) (ix2 a ⟨b.val % 512, by omega⟩)
  rw [flushed2] at h
  have e := each m c ⟨b.val / 512, by have : cfg0.N = 2 := N_0; omega⟩ a ⟨b.val % 512, by omega⟩
  have hp := place2 ⟨b.val / 512, by have : cfg0.N = 2 := N_0; omega⟩ a ⟨b.val % 512, by omega⟩
  have q : 512 * (b.val / 512) + b.val % 512 = b.val := by omega
  simp only [q] at e hp
  refine (congrArg ((dats m 0 c).arrAt 2 cfg0.N) hp).symm.trans ?_
  exact h.trans e

open Cert.Reference4Ideal Cert.Reference4Ideal.Gen in
set_option maxHeartbeats 1000000 in
/-- The reference's whole product, at an entry. -/
theorem ref (x0 : FVec Ideal Cert.Reference4Ideal.S2304x1024 .f32) (x1 : FVec Ideal Cert.Reference4Ideal.S2304x1024 .f32) (a : Fin 1024) (b : Fin 1024) :
    (show EReal from (transpose Cert.Reference4Ideal.S1024x1024 [1, 0] (Host.dotGeneral Cert.Reference4Ideal.dot_S2304x1024_S2304x1024_S1024x1024_0_0_1_1_n_n none x1 x0) Cert.Reference4Ideal.Facts₀.transposes_S1024x1024_S1024x1024_1_0 : FVec Ideal Cert.Reference4Ideal.S1024x1024 .f32) (ix2 a b)) = ∑ n : Fin 2304, (show EReal from x0 (ix2 n a)) * (show EReal from x1 (ix2 n b)) := by
  pointwise
  exact Finset.sum_congr rfl fun n _ => mul_comm _ _

/-- The reference's host lines end, with the arguments as they were. -/
theorem frameRef : Cert.quiescent_Reference4Ideal (hReference4Ideal := Cert.Reference4Ideal.Gen.facts) := by
  intro m g _
  exact (θ_run _ _ _).mono (fun r h => ⟨fun c => (h c).2, sem_eq_zero_of_no_sems (by decide) r.2⟩)
    (Cert.Reference4Ideal.Value.run m g)

set_option maxHeartbeats 1000000 in
/-- The call and its reference leave the same array. -/
theorem algebraic : Cert.algebraic_Kernel4Ideal_Reference4Ideal (hKernel4Ideal := Cert.Kernel4Ideal.Gen.facts) (hReference4Ideal := Cert.Reference4Ideal.Gen.facts) := by
  intro m g m' g' _ hag
  refine ⟨fun c => (dats m 0 c).arrAt 2 cfg0.N, Cert.Kernel4Ideal.Value.run_blocks m g, ?_⟩
  refine (θ_run _ _ _).mono ?_ (Cert.Reference4Ideal.Value.run m' g')
  intro r h c
  obtain ⟨h0, ha⟩ := h c
  refine ⟨h0.trans ?_, ha⟩
  obtain ⟨e0, e1⟩ := hag c
  funext i
  obtain ⟨a, b, rfl⟩ := ProdBlocks.coords2 i
  refine Eq.trans ?_ (val m c a b).symm
  refine (ref (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) a b).trans ?_
  rw [e0, e1]
  rfl

end Attn.Prod4
-- ==== Proof.Prod5.lean ====
/-
  One product of the backward pass: the gradient of the first columns of the first layer's input projection (queries, keys and values, rotary key), block by block against the whole product.
-/
module

public import proofs.«01_k».proof.Defs
public import proofs.«01_k».proof.Proof.ProdBlocks
public import proofs.«01_k».proof.Proof.Gen.Kernel5Ideal.Value
public import proofs.«01_k».proof.Proof.Gen.Reference5Ideal.Run

@[expose] public section

set_option maxRecDepth 16384
noncomputable section
open Idealize.ShloMosaic Idealize.ShloMosaic.TcCoe Idealize.SL.Sem Idealize.ShloMosaic.StableHlo
namespace Attn.Prod5
open Cert.Kernel5Ideal Cert.Kernel5Ideal.Gen Cert.Kernel5Ideal.Value
variable (m : (ℓ : Loc nD τ sig) → Buf (Elt Ideal) ℓ) (c : Dev nD)

/-! ## Operand 0 -/
/-- The argument as an array of numbers. -/
def arr0 : Fin 2304 → Fin 1024 → EReal := fun a b => m ((c : Thread nD τ).loc main_arg0) (ix2 a b)
theorem entry0 (a : Fin 2304) (b : Fin 1024) : (show EReal from V m c main_v0 (ix2 a b)) = arr0 m c a b := by
  show (show EReal from after hostOps0 (fun b => m (c, b)) main_v0 (ix2 a b)) = _
  simp only
  repeat (after_reads_simp; pointwise)
  rfl
theorem index0 : ∀ t : Fin cfg0.N, win0_0.index t (0 : Fin 2) = 0 ∧ win0_0.index t (1 : Fin 2) = 0 :=
  (by decide +kernel : ∀ t : Fin grid0.N, _)
theorem place0 (t : Fin cfg0.N) (a : Fin 2304) (b : Fin 1024) : ((cfg0.win 0).blk t).view.emb (ix2 a b) =
    (ix2 a b : (⟨2, ![2304, 1024]⟩ : Shape).Idx) :=
  ProdBlocks.place (win0_0.index t (0 : Fin 2)) (win0_0.index t (1 : Fin 2)) _ a b rfl rfl _ _ (index0 t).1 (index0 t).2 _ _ (by simp) (by simp)
/-- The operand's block at a grid point. -/
theorem blk0 (t : Fin cfg0.N) (a : Fin 2304) (b : Fin 1024) :
    (show EReal from iblk m c 0 t (ix2 a b)) = arr0 m c a b := by
  have h := entry0 m c
  unfold iblk
  generalize V m c (Pipeline.arrRef spec0 0) = A at h ⊢
  exact (congrArg A (place0 t a b)).trans (h _ _)

/-! ## Operand 1 -/
/-- The argument as an array of numbers. -/
def arr1 : Fin 2304 → Fin 512 → EReal := fun a b => m ((c : Thread nD τ).loc main_arg1) (ix2 a b)
theorem entry1 (a : Fin 2304) (b : Fin 512) : (show EReal from V m c main_arg1 (ix2 a b)) = arr1 m c a b :=
  congrFun (V_main_arg1 m c) (ix2 a b)
theorem index1 : ∀ t : Fin cfg0.N, win0_1.index t (0 : Fin 2) = 0 ∧ win0_1.index t (1 : Fin 2) = t.val :=
  (by decide +kernel : ∀ t : Fin grid0.N, _)
theorem place1 (t : Fin cfg0.N) (a : Fin 2304) (b : Fin 512) : ((cfg0.win 1).blk t).view.emb (ix2 a b) =
    (ix2 a ⟨512 * t.val + b.val, by have := t.isLt; have : cfg0.N = 1 := N_0; omega⟩ : (⟨2, ![2304, 512]⟩ : Shape).Idx) :=
  ProdBlocks.place (win0_1.index t (0 : Fin 2)) (win0_1.index t (1 : Fin 2)) _ a b rfl rfl _ _ (index1 t).1 (index1 t).2 _ _ (by simp) (by simp)
/-- The operand's block at a grid point. -/
theorem blk1 (t : Fin cfg0.N) (a : Fin 2304) (b : Fin 512) :
    (show EReal from iblk m c 1 t (ix2 a b)) = arr1 m c a ⟨512 * t.val + b.val, by have := t.isLt; have : cfg0.N = 1 := N_0; omega⟩ := by
  have h := entry1 m c
  unfold iblk
  generalize V m c (Pipeline.arrRef spec0 1) = A at h ⊢
  exact (congrArg A (place1 t a b)).trans (h _ _)

/-! ## The result's blocks -/
theorem index2 : ∀ t : Fin cfg0.N, win0_2.index t (0 : Fin 2) = 0 ∧ win0_2.index t (1 : Fin 2) = t.val :=
  (by decide +kernel : ∀ t : Fin grid0.N, _)
theorem place2 (t : Fin cfg0.N) (a : Fin 1024) (b : Fin 512) : ((cfg0.win 2).blk t).view.emb (ix2 a b) =
    (ix2 a ⟨512 * t.val + b.val, by have := t.isLt; have : cfg0.N = 1 := N_0; omega⟩ : (⟨2, ![1024, 512]⟩ : Shape).Idx) :=
  ProdBlocks.place (win0_2.index t (0 : Fin 2)) (win0_2.index t (1 : Fin 2)) _ a b rfl rfl _ _ (index2 t).1 (index2 t).2 _ _ (by simp) (by simp)
theorem flush2 : ∀ t : Fin cfg0.N, (cfg0.win 2).flush t = true := (by decide +kernel : ∀ t : Fin grid0.N, _)

set_option maxHeartbeats 1000000 in
/-- One grid point's product, at an entry. -/
theorem pay (x0 : Vec Ideal S2304x1024 .bf16) (x1 : Vec Ideal S2304x512 .f32) (a : Fin 1024) (b : Fin 512) :
    (show EReal from k0_pay1 x0 x1 (ix2 a b)) = ∑ n : Fin 2304, (show EReal from x0 (ix2 n a)) * (show EReal from x1 (ix2 n b)) := by
  pointwise [k0_pay1]
theorem out (x0 : Vec Ideal S2304x1024 .bf16) (x1 : Vec Ideal S2304x512 .f32) (a : Fin 1024) (b : Fin 512) :
    (show EReal from out0_2 x0 x1 (ix2 a b)) = ∑ n : Fin 2304, (show EReal from x0 (ix2 n a)) * (show EReal from x1 (ix2 n b)) := by
  have e0 : View.ld x0 (Rect.unit (s := S2304x1024) ![0, 0] S2304x1024.size inb_S2304x1024_S2304x1024_0_0) = x0 := View.ld_unit_lit _ x0 (by decide)
  have e1 : View.ld x1 (Rect.unit (s := S2304x512) ![0, 0] S2304x512.size inb_S2304x512_S2304x512_0_0) = x1 := View.ld_unit_lit _ x1 (by decide)
  have h : out0_2 x0 x1 = k0_pay1 (View.ld x0 (Rect.unit (s := S2304x1024) ![0, 0] S2304x1024.size inb_S2304x1024_S2304x1024_0_0)) (View.ld x1 (Rect.unit (s := S2304x512) ![0, 0] S2304x512.size inb_S2304x512_S2304x512_0_0)) := View.canon_cons_unit_lit _ _ [] (by decide)
  rw [h, e0, e1]
  exact pay x0 x1 a b

theorem each (t : Fin cfg0.N) (a : Fin 1024) (b : Fin 512) :
    (show EReal from out0_2 (iblk m c 0 t) (iblk m c 1 t) (ix2 a b)) = ∑ n : Fin 2304, arr0 m c n a * arr1 m c n ⟨512 * t.val + b.val, by have := t.isLt; have : cfg0.N = 1 := N_0; omega⟩ := by
  refine (out (iblk m c 0 t) (iblk m c 1 t) a b).trans ?_
  refine Finset.sum_congr rfl fun n _ => ?_
  rw [blk0, blk1]

/-- The array the call leaves, at an entry. -/
theorem val (a : Fin 1024) (b : Fin 512) :
    (show EReal from (dats m 0 c).arrAt 2 cfg0.N (ix2 a b)) = ∑ n : Fin 2304, arr0 m c n a * arr1 m c n b := by
  have h := congrFun (blocks2 m c ⟨b.val / 512, by have : cfg0.N = 1 := N_0; omega⟩ (flush2 _)) (ix2 a ⟨b.val % 512, by omega⟩)
  rw [flushed2] at h
  have e := each m c ⟨b.val / 512, by have : cfg0.N = 1 := N_0; omega⟩ a ⟨b.val % 512, by omega⟩
  have hp := place2 ⟨b.val / 512, by have : cfg0.N = 1 := N_0; omega⟩ a ⟨b.val % 512, by omega⟩
  have q : 512 * (b.val / 512) + b.val % 512 = b.val := by omega
  simp only [q] at e hp
  refine (congrArg ((dats m 0 c).arrAt 2 cfg0.N) hp).symm.trans ?_
  exact h.trans e

open Cert.Reference5Ideal Cert.Reference5Ideal.Gen in
set_option maxHeartbeats 1000000 in
/-- The reference's whole product, at an entry. -/
theorem ref (x0 : FVec Ideal Cert.Reference5Ideal.S2304x1024 .f32) (x1 : FVec Ideal Cert.Reference5Ideal.S2304x512 .f32) (a : Fin 1024) (b : Fin 512) :
    (show EReal from (transpose Cert.Reference5Ideal.S1024x512 [1, 0] (Host.dotGeneral Cert.Reference5Ideal.dot_S2304x512_S2304x1024_S512x1024_0_0_1_1_n_n none x1 x0) Cert.Reference5Ideal.Facts₀.transposes_S512x1024_S1024x512_1_0 : FVec Ideal Cert.Reference5Ideal.S1024x512 .f32) (ix2 a b)) = ∑ n : Fin 2304, (show EReal from x0 (ix2 n a)) * (show EReal from x1 (ix2 n b)) := by
  pointwise
  exact Finset.sum_congr rfl fun n _ => mul_comm _ _

/-- The reference's host lines end, with the arguments as they were. -/
theorem frameRef : Cert.quiescent_Reference5Ideal (hReference5Ideal := Cert.Reference5Ideal.Gen.facts) := by
  intro m g _
  exact (θ_run _ _ _).mono (fun r h => ⟨fun c => (h c).2, sem_eq_zero_of_no_sems (by decide) r.2⟩)
    (Cert.Reference5Ideal.Value.run m g)

set_option maxHeartbeats 1000000 in
/-- The call and its reference leave the same array. -/
theorem algebraic : Cert.algebraic_Kernel5Ideal_Reference5Ideal (hKernel5Ideal := Cert.Kernel5Ideal.Gen.facts) (hReference5Ideal := Cert.Reference5Ideal.Gen.facts) := by
  intro m g m' g' _ hag
  refine ⟨fun c => (dats m 0 c).arrAt 2 cfg0.N, Cert.Kernel5Ideal.Value.run_blocks m g, ?_⟩
  refine (θ_run _ _ _).mono ?_ (Cert.Reference5Ideal.Value.run m' g')
  intro r h c
  obtain ⟨h0, ha⟩ := h c
  refine ⟨h0.trans ?_, ha⟩
  obtain ⟨e0, e1⟩ := hag c
  funext i
  obtain ⟨a, b, rfl⟩ := ProdBlocks.coords2 i
  refine Eq.trans ?_ (val m c a b).symm
  refine (ref (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) a b).trans ?_
  rw [e0, e1]
  rfl

end Attn.Prod5
-- ==== Proof.Prod6.lean ====
/-
  One product of the backward pass: the gradient of the queries' up-projection, heads padded to 128 lanes, block by block against the whole product.
-/
module

public import proofs.«01_k».proof.Defs
public import proofs.«01_k».proof.Proof.ProdBlocks
public import proofs.«01_k».proof.Proof.Gen.Kernel6Ideal.Value
public import proofs.«01_k».proof.Proof.Gen.Reference6Ideal.Run

@[expose] public section

set_option maxRecDepth 16384
noncomputable section
open Idealize.ShloMosaic Idealize.ShloMosaic.TcCoe Idealize.SL.Sem Idealize.ShloMosaic.StableHlo
namespace Attn.Prod6
open Cert.Kernel6Ideal Cert.Kernel6Ideal.Gen Cert.Kernel6Ideal.Value
variable (m : (ℓ : Loc nD τ sig) → Buf (Elt Ideal) ℓ) (c : Dev nD)

/-! ## Operand 0 -/
/-- The argument as an array of numbers. -/
def arr0 : Fin 2304 → Fin 256 → EReal := fun a b => m ((c : Thread nD τ).loc main_arg0) (ix2 a b)
theorem entry0 (a : Fin 2304) (b : Fin 256) : (show EReal from V m c main_v0 (ix2 a b)) = arr0 m c a b := by
  show (show EReal from after hostOps0 (fun b => m (c, b)) main_v0 (ix2 a b)) = _
  simp only
  repeat (after_reads_simp; pointwise)
  rfl
theorem index0 : ∀ t : Fin cfg0.N, win0_0.index t (0 : Fin 2) = 0 ∧ win0_0.index t (1 : Fin 2) = 0 :=
  (by decide +kernel : ∀ t : Fin grid0.N, _)
theorem place0 (t : Fin cfg0.N) (a : Fin 2304) (b : Fin 256) : ((cfg0.win 0).blk t).view.emb (ix2 a b) =
    (ix2 a b : (⟨2, ![2304, 256]⟩ : Shape).Idx) :=
  ProdBlocks.place (win0_0.index t (0 : Fin 2)) (win0_0.index t (1 : Fin 2)) _ a b rfl rfl _ _ (index0 t).1 (index0 t).2 _ _ (by simp) (by simp)
/-- The operand's block at a grid point. -/
theorem blk0 (t : Fin cfg0.N) (a : Fin 2304) (b : Fin 256) :
    (show EReal from iblk m c 0 t (ix2 a b)) = arr0 m c a b := by
  have h := entry0 m c
  unfold iblk
  generalize V m c (Pipeline.arrRef spec0 0) = A at h ⊢
  exact (congrArg A (place0 t a b)).trans (h _ _)

/-! ## Operand 1 -/
/-- The argument as an array of numbers. -/
def arr1 : Fin 2304 → Fin 2048 → EReal := fun a b => m ((c : Thread nD τ).loc main_arg1) (ix2 a b)
theorem entry1 (a : Fin 2304) (b : Fin 2048) : (show EReal from V m c main_v1 (ix2 a b)) = arr1 m c a b := by
  show (show EReal from after hostOps0 (fun b => m (c, b)) main_v1 (ix2 a b)) = _
  simp only
  repeat (after_reads_simp; pointwise)
  rfl
theorem index1 : ∀ t : Fin cfg0.N, win0_1.index t (0 : Fin 2) = 0 ∧ win0_1.index t (1 : Fin 2) = t.val :=
  (by decide +kernel : ∀ t : Fin grid0.N, _)
theorem place1 (t : Fin cfg0.N) (a : Fin 2304) (b : Fin 512) : ((cfg0.win 1).blk t).view.emb (ix2 a b) =
    (ix2 a ⟨512 * t.val + b.val, by have := t.isLt; have : cfg0.N = 4 := N_0; omega⟩ : (⟨2, ![2304, 2048]⟩ : Shape).Idx) :=
  ProdBlocks.place (win0_1.index t (0 : Fin 2)) (win0_1.index t (1 : Fin 2)) _ a b rfl rfl _ _ (index1 t).1 (index1 t).2 _ _ (by simp) (by simp)
/-- The operand's block at a grid point. -/
theorem blk1 (t : Fin cfg0.N) (a : Fin 2304) (b : Fin 512) :
    (show EReal from iblk m c 1 t (ix2 a b)) = arr1 m c a ⟨512 * t.val + b.val, by have := t.isLt; have : cfg0.N = 4 := N_0; omega⟩ := by
  have h := entry1 m c
  unfold iblk
  generalize V m c (Pipeline.arrRef spec0 1) = A at h ⊢
  exact (congrArg A (place1 t a b)).trans (h _ _)

/-! ## The result's blocks -/
theorem index2 : ∀ t : Fin cfg0.N, win0_2.index t (0 : Fin 2) = 0 ∧ win0_2.index t (1 : Fin 2) = t.val :=
  (by decide +kernel : ∀ t : Fin grid0.N, _)
theorem place2 (t : Fin cfg0.N) (a : Fin 256) (b : Fin 512) : ((cfg0.win 2).blk t).view.emb (ix2 a b) =
    (ix2 a ⟨512 * t.val + b.val, by have := t.isLt; have : cfg0.N = 4 := N_0; omega⟩ : (⟨2, ![256, 2048]⟩ : Shape).Idx) :=
  ProdBlocks.place (win0_2.index t (0 : Fin 2)) (win0_2.index t (1 : Fin 2)) _ a b rfl rfl _ _ (index2 t).1 (index2 t).2 _ _ (by simp) (by simp)
theorem flush2 : ∀ t : Fin cfg0.N, (cfg0.win 2).flush t = true := (by decide +kernel : ∀ t : Fin grid0.N, _)

set_option maxHeartbeats 1000000 in
/-- One grid point's product, at an entry. -/
theorem pay (x0 : Vec Ideal S2304x256 .bf16) (x1 : Vec Ideal S2304x512 .bf16) (a : Fin 256) (b : Fin 512) :
    (show EReal from k0_pay1 x0 x1 (ix2 a b)) = ∑ n : Fin 2304, (show EReal from x0 (ix2 n a)) * (show EReal from x1 (ix2 n b)) := by
  pointwise [k0_pay1]
theorem out (x0 : Vec Ideal S2304x256 .bf16) (x1 : Vec Ideal S2304x512 .bf16) (a : Fin 256) (b : Fin 512) :
    (show EReal from out0_2 x0 x1 (ix2 a b)) = ∑ n : Fin 2304, (show EReal from x0 (ix2 n a)) * (show EReal from x1 (ix2 n b)) := by
  have e0 : View.ld x0 (Rect.unit (s := S2304x256) ![0, 0] S2304x256.size inb_S2304x256_S2304x256_0_0) = x0 := View.ld_unit_lit _ x0 (by decide)
  have e1 : View.ld x1 (Rect.unit (s := S2304x512) ![0, 0] S2304x512.size inb_S2304x512_S2304x512_0_0) = x1 := View.ld_unit_lit _ x1 (by decide)
  have h : out0_2 x0 x1 = k0_pay1 (View.ld x0 (Rect.unit (s := S2304x256) ![0, 0] S2304x256.size inb_S2304x256_S2304x256_0_0)) (View.ld x1 (Rect.unit (s := S2304x512) ![0, 0] S2304x512.size inb_S2304x512_S2304x512_0_0)) := View.canon_cons_unit_lit _ _ [] (by decide)
  rw [h, e0, e1]
  exact pay x0 x1 a b

theorem each (t : Fin cfg0.N) (a : Fin 256) (b : Fin 512) :
    (show EReal from out0_2 (iblk m c 0 t) (iblk m c 1 t) (ix2 a b)) = ∑ n : Fin 2304, arr0 m c n a * arr1 m c n ⟨512 * t.val + b.val, by have := t.isLt; have : cfg0.N = 4 := N_0; omega⟩ := by
  refine (out (iblk m c 0 t) (iblk m c 1 t) a b).trans ?_
  refine Finset.sum_congr rfl fun n _ => ?_
  rw [blk0, blk1]

/-- The array the call leaves, at an entry. -/
theorem val (a : Fin 256) (b : Fin 2048) :
    (show EReal from (dats m 0 c).arrAt 2 cfg0.N (ix2 a b)) = ∑ n : Fin 2304, arr0 m c n a * arr1 m c n b := by
  have h := congrFun (blocks2 m c ⟨b.val / 512, by have : cfg0.N = 4 := N_0; omega⟩ (flush2 _)) (ix2 a ⟨b.val % 512, by omega⟩)
  rw [flushed2] at h
  have e := each m c ⟨b.val / 512, by have : cfg0.N = 4 := N_0; omega⟩ a ⟨b.val % 512, by omega⟩
  have hp := place2 ⟨b.val / 512, by have : cfg0.N = 4 := N_0; omega⟩ a ⟨b.val % 512, by omega⟩
  have q : 512 * (b.val / 512) + b.val % 512 = b.val := by omega
  simp only [q] at e hp
  refine (congrArg ((dats m 0 c).arrAt 2 cfg0.N) hp).symm.trans ?_
  exact h.trans e

open Cert.Reference6Ideal Cert.Reference6Ideal.Gen in
set_option maxHeartbeats 1000000 in
/-- The reference's whole product, at an entry. -/
theorem ref (x0 : FVec Ideal Cert.Reference6Ideal.S2304x256 .f32) (x1 : FVec Ideal Cert.Reference6Ideal.S2304x2048 .f32) (a : Fin 256) (b : Fin 2048) :
    (show EReal from (transpose Cert.Reference6Ideal.S256x2048 [1, 0] (Host.dotGeneral Cert.Reference6Ideal.dot_S2304x2048_S2304x256_S2048x256_0_0_1_1_n_n none x1 x0) Cert.Reference6Ideal.Facts₀.transposes_S2048x256_S256x2048_1_0 : FVec Ideal Cert.Reference6Ideal.S256x2048 .f32) (ix2 a b)) = ∑ n : Fin 2304, (show EReal from x0 (ix2 n a)) * (show EReal from x1 (ix2 n b)) := by
  pointwise
  exact Finset.sum_congr rfl fun n _ => mul_comm _ _

/-- The reference's host lines end, with the arguments as they were. -/
theorem frameRef : Cert.quiescent_Reference6Ideal (hReference6Ideal := Cert.Reference6Ideal.Gen.facts) := by
  intro m g _
  exact (θ_run _ _ _).mono (fun r h => ⟨fun c => (h c).2, sem_eq_zero_of_no_sems (by decide) r.2⟩)
    (Cert.Reference6Ideal.Value.run m g)

set_option maxHeartbeats 1000000 in
/-- The call and its reference leave the same array. -/
theorem algebraic : Cert.algebraic_Kernel6Ideal_Reference6Ideal (hKernel6Ideal := Cert.Kernel6Ideal.Gen.facts) (hReference6Ideal := Cert.Reference6Ideal.Gen.facts) := by
  intro m g m' g' _ hag
  refine ⟨fun c => (dats m 0 c).arrAt 2 cfg0.N, Cert.Kernel6Ideal.Value.run_blocks m g, ?_⟩
  refine (θ_run _ _ _).mono ?_ (Cert.Reference6Ideal.Value.run m' g')
  intro r h c
  obtain ⟨h0, ha⟩ := h c
  refine ⟨h0.trans ?_, ha⟩
  obtain ⟨e0, e1⟩ := hag c
  funext i
  obtain ⟨a, b, rfl⟩ := ProdBlocks.coords2 i
  refine Eq.trans ?_ (val m c a b).symm
  refine (ref (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) a b).trans ?_
  rw [e0, e1]
  rfl

end Attn.Prod6
-- ==== Proof.Prod7.lean ====
/-
  One product of the backward pass: the gradient of the keys' up-projection, heads padded to 128 lanes, block by block against the whole product.
-/
module

public import proofs.«01_k».proof.Defs
public import proofs.«01_k».proof.Proof.ProdBlocks
public import proofs.«01_k».proof.Proof.Gen.Kernel7Ideal.Value
public import proofs.«01_k».proof.Proof.Gen.Reference7Ideal.Run

@[expose] public section

set_option maxRecDepth 16384
noncomputable section
open Idealize.ShloMosaic Idealize.ShloMosaic.TcCoe Idealize.SL.Sem Idealize.ShloMosaic.StableHlo
namespace Attn.Prod7
open Cert.Kernel7Ideal Cert.Kernel7Ideal.Gen Cert.Kernel7Ideal.Value
variable (m : (ℓ : Loc nD τ sig) → Buf (Elt Ideal) ℓ) (c : Dev nD)

/-! ## Operand 0 -/
/-- The argument as an array of numbers. -/
def arr0 : Fin 2304 → Fin 128 → EReal := fun a b => m ((c : Thread nD τ).loc main_arg0) (ix2 a b)
theorem entry0 (a : Fin 2304) (b : Fin 128) : (show EReal from V m c main_v0 (ix2 a b)) = arr0 m c a b := by
  show (show EReal from after hostOps0 (fun b => m (c, b)) main_v0 (ix2 a b)) = _
  simp only
  repeat (after_reads_simp; pointwise)
  rfl
theorem index0 : ∀ t : Fin cfg0.N, win0_0.index t (0 : Fin 2) = 0 ∧ win0_0.index t (1 : Fin 2) = 0 :=
  (by decide +kernel : ∀ t : Fin grid0.N, _)
theorem place0 (t : Fin cfg0.N) (a : Fin 2304) (b : Fin 128) : ((cfg0.win 0).blk t).view.emb (ix2 a b) =
    (ix2 a b : (⟨2, ![2304, 128]⟩ : Shape).Idx) :=
  ProdBlocks.place (win0_0.index t (0 : Fin 2)) (win0_0.index t (1 : Fin 2)) _ a b rfl rfl _ _ (index0 t).1 (index0 t).2 _ _ (by simp) (by simp)
/-- The operand's block at a grid point. -/
theorem blk0 (t : Fin cfg0.N) (a : Fin 2304) (b : Fin 128) :
    (show EReal from iblk m c 0 t (ix2 a b)) = arr0 m c a b := by
  have h := entry0 m c
  unfold iblk
  generalize V m c (Pipeline.arrRef spec0 0) = A at h ⊢
  exact (congrArg A (place0 t a b)).trans (h _ _)

/-! ## Operand 1 -/
/-- The argument as an array of numbers. -/
def arr1 : Fin 2304 → Fin 2048 → EReal := fun a b => m ((c : Thread nD τ).loc main_arg1) (ix2 a b)
theorem entry1 (a : Fin 2304) (b : Fin 2048) : (show EReal from V m c main_arg1 (ix2 a b)) = arr1 m c a b :=
  congrFun (V_main_arg1 m c) (ix2 a b)
theorem index1 : ∀ t : Fin cfg0.N, win0_1.index t (0 : Fin 2) = 0 ∧ win0_1.index t (1 : Fin 2) = t.val :=
  (by decide +kernel : ∀ t : Fin grid0.N, _)
theorem place1 (t : Fin cfg0.N) (a : Fin 2304) (b : Fin 512) : ((cfg0.win 1).blk t).view.emb (ix2 a b) =
    (ix2 a ⟨512 * t.val + b.val, by have := t.isLt; have : cfg0.N = 4 := N_0; omega⟩ : (⟨2, ![2304, 2048]⟩ : Shape).Idx) :=
  ProdBlocks.place (win0_1.index t (0 : Fin 2)) (win0_1.index t (1 : Fin 2)) _ a b rfl rfl _ _ (index1 t).1 (index1 t).2 _ _ (by simp) (by simp)
/-- The operand's block at a grid point. -/
theorem blk1 (t : Fin cfg0.N) (a : Fin 2304) (b : Fin 512) :
    (show EReal from iblk m c 1 t (ix2 a b)) = arr1 m c a ⟨512 * t.val + b.val, by have := t.isLt; have : cfg0.N = 4 := N_0; omega⟩ := by
  have h := entry1 m c
  unfold iblk
  generalize V m c (Pipeline.arrRef spec0 1) = A at h ⊢
  exact (congrArg A (place1 t a b)).trans (h _ _)

/-! ## The result's blocks -/
theorem index2 : ∀ t : Fin cfg0.N, win0_2.index t (0 : Fin 2) = 0 ∧ win0_2.index t (1 : Fin 2) = t.val :=
  (by decide +kernel : ∀ t : Fin grid0.N, _)
theorem place2 (t : Fin cfg0.N) (a : Fin 128) (b : Fin 512) : ((cfg0.win 2).blk t).view.emb (ix2 a b) =
    (ix2 a ⟨512 * t.val + b.val, by have := t.isLt; have : cfg0.N = 4 := N_0; omega⟩ : (⟨2, ![128, 2048]⟩ : Shape).Idx) :=
  ProdBlocks.place (win0_2.index t (0 : Fin 2)) (win0_2.index t (1 : Fin 2)) _ a b rfl rfl _ _ (index2 t).1 (index2 t).2 _ _ (by simp) (by simp)
theorem flush2 : ∀ t : Fin cfg0.N, (cfg0.win 2).flush t = true := (by decide +kernel : ∀ t : Fin grid0.N, _)

set_option maxHeartbeats 1000000 in
/-- One grid point's product, at an entry. -/
theorem pay (x0 : Vec Ideal S2304x128 .bf16) (x1 : Vec Ideal S2304x512 .f32) (a : Fin 128) (b : Fin 512) :
    (show EReal from k0_pay1 x0 x1 (ix2 a b)) = ∑ n : Fin 2304, (show EReal from x0 (ix2 n a)) * (show EReal from x1 (ix2 n b)) := by
  pointwise [k0_pay1]
theorem out (x0 : Vec Ideal S2304x128 .bf16) (x1 : Vec Ideal S2304x512 .f32) (a : Fin 128) (b : Fin 512) :
    (show EReal from out0_2 x0 x1 (ix2 a b)) = ∑ n : Fin 2304, (show EReal from x0 (ix2 n a)) * (show EReal from x1 (ix2 n b)) := by
  have e0 : View.ld x0 (Rect.unit (s := S2304x128) ![0, 0] S2304x128.size inb_S2304x128_S2304x128_0_0) = x0 := View.ld_unit_lit _ x0 (by decide)
  have e1 : View.ld x1 (Rect.unit (s := S2304x512) ![0, 0] S2304x512.size inb_S2304x512_S2304x512_0_0) = x1 := View.ld_unit_lit _ x1 (by decide)
  have h : out0_2 x0 x1 = k0_pay1 (View.ld x0 (Rect.unit (s := S2304x128) ![0, 0] S2304x128.size inb_S2304x128_S2304x128_0_0)) (View.ld x1 (Rect.unit (s := S2304x512) ![0, 0] S2304x512.size inb_S2304x512_S2304x512_0_0)) := View.canon_cons_unit_lit _ _ [] (by decide)
  rw [h, e0, e1]
  exact pay x0 x1 a b

theorem each (t : Fin cfg0.N) (a : Fin 128) (b : Fin 512) :
    (show EReal from out0_2 (iblk m c 0 t) (iblk m c 1 t) (ix2 a b)) = ∑ n : Fin 2304, arr0 m c n a * arr1 m c n ⟨512 * t.val + b.val, by have := t.isLt; have : cfg0.N = 4 := N_0; omega⟩ := by
  refine (out (iblk m c 0 t) (iblk m c 1 t) a b).trans ?_
  refine Finset.sum_congr rfl fun n _ => ?_
  rw [blk0, blk1]

/-- The array the call leaves, at an entry. -/
theorem val (a : Fin 128) (b : Fin 2048) :
    (show EReal from (dats m 0 c).arrAt 2 cfg0.N (ix2 a b)) = ∑ n : Fin 2304, arr0 m c n a * arr1 m c n b := by
  have h := congrFun (blocks2 m c ⟨b.val / 512, by have : cfg0.N = 4 := N_0; omega⟩ (flush2 _)) (ix2 a ⟨b.val % 512, by omega⟩)
  rw [flushed2] at h
  have e := each m c ⟨b.val / 512, by have : cfg0.N = 4 := N_0; omega⟩ a ⟨b.val % 512, by omega⟩
  have hp := place2 ⟨b.val / 512, by have : cfg0.N = 4 := N_0; omega⟩ a ⟨b.val % 512, by omega⟩
  have q : 512 * (b.val / 512) + b.val % 512 = b.val := by omega
  simp only [q] at e hp
  refine (congrArg ((dats m 0 c).arrAt 2 cfg0.N) hp).symm.trans ?_
  exact h.trans e

open Cert.Reference7Ideal Cert.Reference7Ideal.Gen in
set_option maxHeartbeats 1000000 in
/-- The reference's whole product, at an entry. -/
theorem ref (x0 : FVec Ideal Cert.Reference7Ideal.S2304x128 .f32) (x1 : FVec Ideal Cert.Reference7Ideal.S2304x2048 .f32) (a : Fin 128) (b : Fin 2048) :
    (show EReal from (transpose Cert.Reference7Ideal.S128x2048 [1, 0] (Host.dotGeneral Cert.Reference7Ideal.dot_S2304x2048_S2304x128_S2048x128_0_0_1_1_n_n none x1 x0) Cert.Reference7Ideal.Facts₀.transposes_S2048x128_S128x2048_1_0 : FVec Ideal Cert.Reference7Ideal.S128x2048 .f32) (ix2 a b)) = ∑ n : Fin 2304, (show EReal from x0 (ix2 n a)) * (show EReal from x1 (ix2 n b)) := by
  pointwise
  exact Finset.sum_congr rfl fun n _ => mul_comm _ _

/-- The reference's host lines end, with the arguments as they were. -/
theorem frameRef : Cert.quiescent_Reference7Ideal (hReference7Ideal := Cert.Reference7Ideal.Gen.facts) := by
  intro m g _
  exact (θ_run _ _ _).mono (fun r h => ⟨fun c => (h c).2, sem_eq_zero_of_no_sems (by decide) r.2⟩)
    (Cert.Reference7Ideal.Value.run m g)

set_option maxHeartbeats 1000000 in
/-- The call and its reference leave the same array. -/
theorem algebraic : Cert.algebraic_Kernel7Ideal_Reference7Ideal (hKernel7Ideal := Cert.Kernel7Ideal.Gen.facts) (hReference7Ideal := Cert.Reference7Ideal.Gen.facts) := by
  intro m g m' g' _ hag
  refine ⟨fun c => (dats m 0 c).arrAt 2 cfg0.N, Cert.Kernel7Ideal.Value.run_blocks m g, ?_⟩
  refine (θ_run _ _ _).mono ?_ (Cert.Reference7Ideal.Value.run m' g')
  intro r h c
  obtain ⟨h0, ha⟩ := h c
  refine ⟨h0.trans ?_, ha⟩
  obtain ⟨e0, e1⟩ := hag c
  funext i
  obtain ⟨a, b, rfl⟩ := ProdBlocks.coords2 i
  refine Eq.trans ?_ (val m c a b).symm
  refine (ref (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) a b).trans ?_
  rw [e0, e1]
  rfl

end Attn.Prod7
-- ==== Proof.Prod8.lean ====
/-
  One product of the backward pass: the gradient of the values' up-projection, block by block against the whole product.
-/
module

public import proofs.«01_k».proof.Defs
public import proofs.«01_k».proof.Proof.ProdBlocks
public import proofs.«01_k».proof.Proof.Gen.Kernel8Ideal.Value
public import proofs.«01_k».proof.Proof.Gen.Reference8Ideal.Run

@[expose] public section

set_option maxRecDepth 16384
noncomputable section
open Idealize.ShloMosaic Idealize.ShloMosaic.TcCoe Idealize.SL.Sem Idealize.ShloMosaic.StableHlo
namespace Attn.Prod8
open Cert.Kernel8Ideal Cert.Kernel8Ideal.Gen Cert.Kernel8Ideal.Value
variable (m : (ℓ : Loc nD τ sig) → Buf (Elt Ideal) ℓ) (c : Dev nD)

/-! ## Operand 0 -/
/-- The argument as an array of numbers. -/
def arr0 : Fin 2304 → Fin 128 → EReal := fun a b => m ((c : Thread nD τ).loc main_arg0) (ix2 a b)
theorem entry0 (a : Fin 2304) (b : Fin 128) : (show EReal from V m c main_v0 (ix2 a b)) = arr0 m c a b := by
  show (show EReal from after hostOps0 (fun b => m (c, b)) main_v0 (ix2 a b)) = _
  simp only
  repeat (after_reads_simp; pointwise)
  rfl
theorem index0 : ∀ t : Fin cfg0.N, win0_0.index t (0 : Fin 2) = 0 ∧ win0_0.index t (1 : Fin 2) = 0 :=
  (by decide +kernel : ∀ t : Fin grid0.N, _)
theorem place0 (t : Fin cfg0.N) (a : Fin 2304) (b : Fin 128) : ((cfg0.win 0).blk t).view.emb (ix2 a b) =
    (ix2 a b : (⟨2, ![2304, 128]⟩ : Shape).Idx) :=
  ProdBlocks.place (win0_0.index t (0 : Fin 2)) (win0_0.index t (1 : Fin 2)) _ a b rfl rfl _ _ (index0 t).1 (index0 t).2 _ _ (by simp) (by simp)
/-- The operand's block at a grid point. -/
theorem blk0 (t : Fin cfg0.N) (a : Fin 2304) (b : Fin 128) :
    (show EReal from iblk m c 0 t (ix2 a b)) = arr0 m c a b := by
  have h := entry0 m c
  unfold iblk
  generalize V m c (Pipeline.arrRef spec0 0) = A at h ⊢
  exact (congrArg A (place0 t a b)).trans (h _ _)

/-! ## Operand 1 -/
/-- The argument as an array of numbers. -/
def arr1 : Fin 2304 → Fin 1024 → EReal := fun a b => m ((c : Thread nD τ).loc main_arg1) (ix2 a b)
theorem entry1 (a : Fin 2304) (b : Fin 1024) : (show EReal from V m c main_arg1 (ix2 a b)) = arr1 m c a b :=
  congrFun (V_main_arg1 m c) (ix2 a b)
theorem index1 : ∀ t : Fin cfg0.N, win0_1.index t (0 : Fin 2) = 0 ∧ win0_1.index t (1 : Fin 2) = t.val :=
  (by decide +kernel : ∀ t : Fin grid0.N, _)
theorem place1 (t : Fin cfg0.N) (a : Fin 2304) (b : Fin 512) : ((cfg0.win 1).blk t).view.emb (ix2 a b) =
    (ix2 a ⟨512 * t.val + b.val, by have := t.isLt; have : cfg0.N = 2 := N_0; omega⟩ : (⟨2, ![2304, 1024]⟩ : Shape).Idx) :=
  ProdBlocks.place (win0_1.index t (0 : Fin 2)) (win0_1.index t (1 : Fin 2)) _ a b rfl rfl _ _ (index1 t).1 (index1 t).2 _ _ (by simp) (by simp)
/-- The operand's block at a grid point. -/
theorem blk1 (t : Fin cfg0.N) (a : Fin 2304) (b : Fin 512) :
    (show EReal from iblk m c 1 t (ix2 a b)) = arr1 m c a ⟨512 * t.val + b.val, by have := t.isLt; have : cfg0.N = 2 := N_0; omega⟩ := by
  have h := entry1 m c
  unfold iblk
  generalize V m c (Pipeline.arrRef spec0 1) = A at h ⊢
  exact (congrArg A (place1 t a b)).trans (h _ _)

/-! ## The result's blocks -/
theorem index2 : ∀ t : Fin cfg0.N, win0_2.index t (0 : Fin 2) = 0 ∧ win0_2.index t (1 : Fin 2) = t.val :=
  (by decide +kernel : ∀ t : Fin grid0.N, _)
theorem place2 (t : Fin cfg0.N) (a : Fin 128) (b : Fin 512) : ((cfg0.win 2).blk t).view.emb (ix2 a b) =
    (ix2 a ⟨512 * t.val + b.val, by have := t.isLt; have : cfg0.N = 2 := N_0; omega⟩ : (⟨2, ![128, 1024]⟩ : Shape).Idx) :=
  ProdBlocks.place (win0_2.index t (0 : Fin 2)) (win0_2.index t (1 : Fin 2)) _ a b rfl rfl _ _ (index2 t).1 (index2 t).2 _ _ (by simp) (by simp)
theorem flush2 : ∀ t : Fin cfg0.N, (cfg0.win 2).flush t = true := (by decide +kernel : ∀ t : Fin grid0.N, _)

set_option maxHeartbeats 1000000 in
/-- One grid point's product, at an entry. -/
theorem pay (x0 : Vec Ideal S2304x128 .bf16) (x1 : Vec Ideal S2304x512 .f32) (a : Fin 128) (b : Fin 512) :
    (show EReal from k0_pay1 x0 x1 (ix2 a b)) = ∑ n : Fin 2304, (show EReal from x0 (ix2 n a)) * (show EReal from x1 (ix2 n b)) := by
  pointwise [k0_pay1]
theorem out (x0 : Vec Ideal S2304x128 .bf16) (x1 : Vec Ideal S2304x512 .f32) (a : Fin 128) (b : Fin 512) :
    (show EReal from out0_2 x0 x1 (ix2 a b)) = ∑ n : Fin 2304, (show EReal from x0 (ix2 n a)) * (show EReal from x1 (ix2 n b)) := by
  have e0 : View.ld x0 (Rect.unit (s := S2304x128) ![0, 0] S2304x128.size inb_S2304x128_S2304x128_0_0) = x0 := View.ld_unit_lit _ x0 (by decide)
  have e1 : View.ld x1 (Rect.unit (s := S2304x512) ![0, 0] S2304x512.size inb_S2304x512_S2304x512_0_0) = x1 := View.ld_unit_lit _ x1 (by decide)
  have h : out0_2 x0 x1 = k0_pay1 (View.ld x0 (Rect.unit (s := S2304x128) ![0, 0] S2304x128.size inb_S2304x128_S2304x128_0_0)) (View.ld x1 (Rect.unit (s := S2304x512) ![0, 0] S2304x512.size inb_S2304x512_S2304x512_0_0)) := View.canon_cons_unit_lit _ _ [] (by decide)
  rw [h, e0, e1]
  exact pay x0 x1 a b

theorem each (t : Fin cfg0.N) (a : Fin 128) (b : Fin 512) :
    (show EReal from out0_2 (iblk m c 0 t) (iblk m c 1 t) (ix2 a b)) = ∑ n : Fin 2304, arr0 m c n a * arr1 m c n ⟨512 * t.val + b.val, by have := t.isLt; have : cfg0.N = 2 := N_0; omega⟩ := by
  refine (out (iblk m c 0 t) (iblk m c 1 t) a b).trans ?_
  refine Finset.sum_congr rfl fun n _ => ?_
  rw [blk0, blk1]

/-- The array the call leaves, at an entry. -/
theorem val (a : Fin 128) (b : Fin 1024) :
    (show EReal from (dats m 0 c).arrAt 2 cfg0.N (ix2 a b)) = ∑ n : Fin 2304, arr0 m c n a * arr1 m c n b := by
  have h := congrFun (blocks2 m c ⟨b.val / 512, by have : cfg0.N = 2 := N_0; omega⟩ (flush2 _)) (ix2 a ⟨b.val % 512, by omega⟩)
  rw [flushed2] at h
  have e := each m c ⟨b.val / 512, by have : cfg0.N = 2 := N_0; omega⟩ a ⟨b.val % 512, by omega⟩
  have hp := place2 ⟨b.val / 512, by have : cfg0.N = 2 := N_0; omega⟩ a ⟨b.val % 512, by omega⟩
  have q : 512 * (b.val / 512) + b.val % 512 = b.val := by omega
  simp only [q] at e hp
  refine (congrArg ((dats m 0 c).arrAt 2 cfg0.N) hp).symm.trans ?_
  exact h.trans e

open Cert.Reference8Ideal Cert.Reference8Ideal.Gen in
set_option maxHeartbeats 1000000 in
/-- The reference's whole product, at an entry. -/
theorem ref (x0 : FVec Ideal Cert.Reference8Ideal.S2304x128 .f32) (x1 : FVec Ideal Cert.Reference8Ideal.S2304x1024 .f32) (a : Fin 128) (b : Fin 1024) :
    (show EReal from (transpose Cert.Reference8Ideal.S128x1024 [1, 0] (Host.dotGeneral Cert.Reference8Ideal.dot_S2304x1024_S2304x128_S1024x128_0_0_1_1_n_n none x1 x0) Cert.Reference8Ideal.Facts₀.transposes_S1024x128_S128x1024_1_0 : FVec Ideal Cert.Reference8Ideal.S128x1024 .f32) (ix2 a b)) = ∑ n : Fin 2304, (show EReal from x0 (ix2 n a)) * (show EReal from x1 (ix2 n b)) := by
  pointwise
  exact Finset.sum_congr rfl fun n _ => mul_comm _ _

/-- The reference's host lines end, with the arguments as they were. -/
theorem frameRef : Cert.quiescent_Reference8Ideal (hReference8Ideal := Cert.Reference8Ideal.Gen.facts) := by
  intro m g _
  exact (θ_run _ _ _).mono (fun r h => ⟨fun c => (h c).2, sem_eq_zero_of_no_sems (by decide) r.2⟩)
    (Cert.Reference8Ideal.Value.run m g)

set_option maxHeartbeats 1000000 in
/-- The call and its reference leave the same array. -/
theorem algebraic : Cert.algebraic_Kernel8Ideal_Reference8Ideal (hKernel8Ideal := Cert.Kernel8Ideal.Gen.facts) (hReference8Ideal := Cert.Reference8Ideal.Gen.facts) := by
  intro m g m' g' _ hag
  refine ⟨fun c => (dats m 0 c).arrAt 2 cfg0.N, Cert.Kernel8Ideal.Value.run_blocks m g, ?_⟩
  refine (θ_run _ _ _).mono ?_ (Cert.Reference8Ideal.Value.run m' g')
  intro r h c
  obtain ⟨h0, ha⟩ := h c
  refine ⟨h0.trans ?_, ha⟩
  obtain ⟨e0, e1⟩ := hag c
  funext i
  obtain ⟨a, b, rfl⟩ := ProdBlocks.coords2 i
  refine Eq.trans ?_ (val m c a b).symm
  refine (ref (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) a b).trans ?_
  rw [e0, e1]
  rfl

end Attn.Prod8
-- ==== Proof.Prod9.lean ====
/-
  One product of the backward pass: the gradient of the normed compressed queries, block by block against the whole product.
-/
module

public import proofs.«01_k».proof.Defs
public import proofs.«01_k».proof.Proof.ProdBlocks
public import proofs.«01_k».proof.Proof.Gen.Kernel9Ideal.Value
public import proofs.«01_k».proof.Proof.Gen.Reference9Ideal.Run

@[expose] public section

set_option maxRecDepth 16384
noncomputable section
open Idealize.ShloMosaic Idealize.ShloMosaic.TcCoe Idealize.SL.Sem Idealize.ShloMosaic.StableHlo
namespace Attn.Prod9
open Cert.Kernel9Ideal Cert.Kernel9Ideal.Gen Cert.Kernel9Ideal.Value
variable (m : (ℓ : Loc nD τ sig) → Buf (Elt Ideal) ℓ) (c : Dev nD)

/-! ## Operand 0 -/
/-- The argument as an array of numbers. -/
def arr0 : Fin 2304 → Fin 2048 → EReal := fun a b => m ((c : Thread nD τ).loc main_arg0) (ix2 a b)
theorem entry0 (a : Fin 2304) (b : Fin 2048) : (show EReal from V m c main_v0 (ix2 a b)) = arr0 m c a b := by
  show (show EReal from after hostOps0 (fun b => m (c, b)) main_v0 (ix2 a b)) = _
  simp only
  repeat (after_reads_simp; pointwise)
  rfl
theorem index0 : ∀ t : Fin cfg0.N, win0_0.index t (0 : Fin 2) = t.val ∧ win0_0.index t (1 : Fin 2) = 0 :=
  (by decide +kernel : ∀ t : Fin grid0.N, _)
theorem place0 (t : Fin cfg0.N) (a : Fin 256) (b : Fin 2048) : ((cfg0.win 0).blk t).view.emb (ix2 a b) =
    (ix2 ⟨256 * t.val + a.val, by have := t.isLt; have : cfg0.N = 9 := N_0; omega⟩ b : (⟨2, ![2304, 2048]⟩ : Shape).Idx) :=
  ProdBlocks.place (win0_0.index t (0 : Fin 2)) (win0_0.index t (1 : Fin 2)) _ a b rfl rfl _ _ (index0 t).1 (index0 t).2 _ _ (by simp) (by simp)
/-- The operand's block at a grid point. -/
theorem blk0 (t : Fin cfg0.N) (a : Fin 256) (b : Fin 2048) :
    (show EReal from iblk m c 0 t (ix2 a b)) = arr0 m c ⟨256 * t.val + a.val, by have := t.isLt; have : cfg0.N = 9 := N_0; omega⟩ b := by
  have h := entry0 m c
  unfold iblk
  generalize V m c (Pipeline.arrRef spec0 0) = A at h ⊢
  exact (congrArg A (place0 t a b)).trans (h _ _)

/-! ## Operand 1 -/
/-- The argument as an array of numbers. -/
def arr1 : Fin 256 → Fin 2048 → EReal := fun a b => m ((c : Thread nD τ).loc main_arg1) (ix2 a b)
theorem entry1 (a : Fin 256) (b : Fin 2048) : (show EReal from V m c main_v1 (ix2 a b)) = arr1 m c a b := by
  show (show EReal from after hostOps0 (fun b => m (c, b)) main_v1 (ix2 a b)) = _
  simp only
  repeat (after_reads_simp; pointwise)
  rfl
theorem index1 : ∀ t : Fin cfg0.N, win0_1.index t (0 : Fin 2) = 0 ∧ win0_1.index t (1 : Fin 2) = 0 :=
  (by decide +kernel : ∀ t : Fin grid0.N, _)
theorem place1 (t : Fin cfg0.N) (a : Fin 256) (b : Fin 2048) : ((cfg0.win 1).blk t).view.emb (ix2 a b) =
    (ix2 a b : (⟨2, ![256, 2048]⟩ : Shape).Idx) :=
  ProdBlocks.place (win0_1.index t (0 : Fin 2)) (win0_1.index t (1 : Fin 2)) _ a b rfl rfl _ _ (index1 t).1 (index1 t).2 _ _ (by simp) (by simp)
/-- The operand's block at a grid point. -/
theorem blk1 (t : Fin cfg0.N) (a : Fin 256) (b : Fin 2048) :
    (show EReal from iblk m c 1 t (ix2 a b)) = arr1 m c a b := by
  have h := entry1 m c
  unfold iblk
  generalize V m c (Pipeline.arrRef spec0 1) = A at h ⊢
  exact (congrArg A (place1 t a b)).trans (h _ _)

/-! ## The result's blocks -/
theorem index2 : ∀ t : Fin cfg0.N, win0_2.index t (0 : Fin 2) = t.val ∧ win0_2.index t (1 : Fin 2) = 0 :=
  (by decide +kernel : ∀ t : Fin grid0.N, _)
theorem place2 (t : Fin cfg0.N) (a : Fin 256) (b : Fin 256) : ((cfg0.win 2).blk t).view.emb (ix2 a b) =
    (ix2 ⟨256 * t.val + a.val, by have := t.isLt; have : cfg0.N = 9 := N_0; omega⟩ b : (⟨2, ![2304, 256]⟩ : Shape).Idx) :=
  ProdBlocks.place (win0_2.index t (0 : Fin 2)) (win0_2.index t (1 : Fin 2)) _ a b rfl rfl _ _ (index2 t).1 (index2 t).2 _ _ (by simp) (by simp)
theorem flush2 : ∀ t : Fin cfg0.N, (cfg0.win 2).flush t = true := (by decide +kernel : ∀ t : Fin grid0.N, _)

set_option maxHeartbeats 1000000 in
/-- One grid point's product, at an entry. -/
theorem pay (x0 : Vec Ideal S256x2048 .bf16) (x1 : Vec Ideal S256x2048 .bf16) (a : Fin 256) (b : Fin 256) :
    (show EReal from k0_pay1 x0 x1 (ix2 a b)) = ∑ n : Fin 2048, (show EReal from x0 (ix2 a n)) * (show EReal from x1 (ix2 b n)) := by
  pointwise [k0_pay1]
theorem out (x0 : Vec Ideal S256x2048 .bf16) (x1 : Vec Ideal S256x2048 .bf16) (a : Fin 256) (b : Fin 256) :
    (show EReal from out0_2 x0 x1 (ix2 a b)) = ∑ n : Fin 2048, (show EReal from x0 (ix2 a n)) * (show EReal from x1 (ix2 b n)) := by
  have e0 : View.ld x0 (Rect.unit (s := S256x2048) ![0, 0] S256x2048.size inb_S256x2048_S256x2048_0_0) = x0 := View.ld_unit_lit _ x0 (by decide)
  have e1 : View.ld x1 (Rect.unit (s := S256x2048) ![0, 0] S256x2048.size inb_S256x2048_S256x2048_0_0) = x1 := View.ld_unit_lit _ x1 (by decide)
  have h : out0_2 x0 x1 = k0_pay1 (View.ld x0 (Rect.unit (s := S256x2048) ![0, 0] S256x2048.size inb_S256x2048_S256x2048_0_0)) (View.ld x1 (Rect.unit (s := S256x2048) ![0, 0] S256x2048.size inb_S256x2048_S256x2048_0_0)) := View.canon_cons_unit_lit _ _ [] (by decide)
  rw [h, e0, e1]
  exact pay x0 x1 a b

theorem each (t : Fin cfg0.N) (a : Fin 256) (b : Fin 256) :
    (show EReal from out0_2 (iblk m c 0 t) (iblk m c 1 t) (ix2 a b)) = ∑ n : Fin 2048, arr0 m c ⟨256 * t.val + a.val, by have := t.isLt; have : cfg0.N = 9 := N_0; omega⟩ n * arr1 m c b n := by
  refine (out (iblk m c 0 t) (iblk m c 1 t) a b).trans ?_
  refine Finset.sum_congr rfl fun n _ => ?_
  rw [blk0, blk1]

/-- The array the call leaves, at an entry. -/
theorem val (a : Fin 2304) (b : Fin 256) :
    (show EReal from (dats m 0 c).arrAt 2 cfg0.N (ix2 a b)) = ∑ n : Fin 2048, arr0 m c a n * arr1 m c b n := by
  have h := congrFun (blocks2 m c ⟨a.val / 256, by have : cfg0.N = 9 := N_0; omega⟩ (flush2 _)) (ix2 ⟨a.val % 256, by omega⟩ b)
  rw [flushed2] at h
  have e := each m c ⟨a.val / 256, by have : cfg0.N = 9 := N_0; omega⟩ ⟨a.val % 256, by omega⟩ b
  have hp := place2 ⟨a.val / 256, by have : cfg0.N = 9 := N_0; omega⟩ ⟨a.val % 256, by omega⟩ b
  have q : 256 * (a.val / 256) + a.val % 256 = a.val := by omega
  simp only [q] at e hp
  refine (congrArg ((dats m 0 c).arrAt 2 cfg0.N) hp).symm.trans ?_
  exact h.trans e

open Cert.Reference9Ideal Cert.Reference9Ideal.Gen in
set_option maxHeartbeats 1000000 in
/-- The reference's whole product, at an entry. -/
theorem ref (x0 : FVec Ideal Cert.Reference9Ideal.S2304x2048 .f32) (x1 : FVec Ideal Cert.Reference9Ideal.S256x2048 .f32) (a : Fin 2304) (b : Fin 256) :
    (show EReal from (Host.dotGeneral Cert.Reference9Ideal.dot_S2304x2048_S256x2048_S2304x256_1_1_0_0_n_n none x0 x1 : FVec Ideal Cert.Reference9Ideal.S2304x256 .f32) (ix2 a b)) = ∑ n : Fin 2048, (show EReal from x0 (ix2 a n)) * (show EReal from x1 (ix2 b n)) := by
  pointwise

/-- The reference's host lines end, with the arguments as they were. -/
theorem frameRef : Cert.quiescent_Reference9Ideal (hReference9Ideal := Cert.Reference9Ideal.Gen.facts) := by
  intro m g _
  exact (θ_run _ _ _).mono (fun r h => ⟨fun c => (h c).2, sem_eq_zero_of_no_sems (by decide) r.2⟩)
    (Cert.Reference9Ideal.Value.run m g)

set_option maxHeartbeats 1000000 in
/-- The call and its reference leave the same array. -/
theorem algebraic : Cert.algebraic_Kernel9Ideal_Reference9Ideal (hKernel9Ideal := Cert.Kernel9Ideal.Gen.facts) (hReference9Ideal := Cert.Reference9Ideal.Gen.facts) := by
  intro m g m' g' _ hag
  refine ⟨fun c => (dats m 0 c).arrAt 2 cfg0.N, Cert.Kernel9Ideal.Value.run_blocks m g, ?_⟩
  refine (θ_run _ _ _).mono ?_ (Cert.Reference9Ideal.Value.run m' g')
  intro r h c
  obtain ⟨h0, ha⟩ := h c
  refine ⟨h0.trans ?_, ha⟩
  obtain ⟨e0, e1⟩ := hag c
  funext i
  obtain ⟨a, b, rfl⟩ := ProdBlocks.coords2 i
  refine Eq.trans ?_ (val m c a b).symm
  refine (ref (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) a b).trans ?_
  rw [e0, e1]
  rfl

end Attn.Prod9
-- ==== Proof.Prod10.lean ====
/-
  One product of the backward pass: the gradient of the normed compressed keys and values, block by block against the whole product.
-/
module

public import proofs.«01_k».proof.Defs
public import proofs.«01_k».proof.Proof.ProdBlocks
public import proofs.«01_k».proof.Proof.Gen.Kernel10Ideal.Value
public import proofs.«01_k».proof.Proof.Gen.Reference10Ideal.Run

@[expose] public section

set_option maxRecDepth 16384
noncomputable section
open Idealize.ShloMosaic Idealize.ShloMosaic.TcCoe Idealize.SL.Sem Idealize.ShloMosaic.StableHlo
namespace Attn.Prod10
open Cert.Kernel10Ideal Cert.Kernel10Ideal.Gen Cert.Kernel10Ideal.Value
variable (m : (ℓ : Loc nD τ sig) → Buf (Elt Ideal) ℓ) (c : Dev nD)

/-! ## Operand 0 -/
/-- The argument as an array of numbers. -/
def arr0 : Fin 2304 → Fin 2048 → EReal := fun a b => m ((c : Thread nD τ).loc main_arg0) (ix2 a b)
theorem entry0 (a : Fin 2304) (b : Fin 2048) : (show EReal from V m c main_arg0 (ix2 a b)) = arr0 m c a b :=
  congrFun (V_main_arg0 m c) (ix2 a b)
theorem index0 : ∀ t : Fin cfg0.N, win0_0.index t (0 : Fin 2) = t.val ∧ win0_0.index t (1 : Fin 2) = 0 :=
  (by decide +kernel : ∀ t : Fin grid0.N, _)
theorem place0 (t : Fin cfg0.N) (a : Fin 256) (b : Fin 2048) : ((cfg0.win 0).blk t).view.emb (ix2 a b) =
    (ix2 ⟨256 * t.val + a.val, by have := t.isLt; have : cfg0.N = 9 := N_0; omega⟩ b : (⟨2, ![2304, 2048]⟩ : Shape).Idx) :=
  ProdBlocks.place (win0_0.index t (0 : Fin 2)) (win0_0.index t (1 : Fin 2)) _ a b rfl rfl _ _ (index0 t).1 (index0 t).2 _ _ (by simp) (by simp)
/-- The operand's block at a grid point. -/
theorem blk0 (t : Fin cfg0.N) (a : Fin 256) (b : Fin 2048) :
    (show EReal from iblk m c 0 t (ix2 a b)) = arr0 m c ⟨256 * t.val + a.val, by have := t.isLt; have : cfg0.N = 9 := N_0; omega⟩ b := by
  have h := entry0 m c
  unfold iblk
  generalize V m c (Pipeline.arrRef spec0 0) = A at h ⊢
  exact (congrArg A (place0 t a b)).trans (h _ _)

/-! ## Operand 1 -/
/-- The argument as an array of numbers. -/
def arr1 : Fin 128 → Fin 2048 → EReal := fun a b => m ((c : Thread nD τ).loc main_arg1) (ix2 a b)
theorem entry1 (a : Fin 128) (b : Fin 2048) : (show EReal from V m c main_v0 (ix2 a b)) = arr1 m c a b := by
  show (show EReal from after hostOps0 (fun b => m (c, b)) main_v0 (ix2 a b)) = _
  simp only
  repeat (after_reads_simp; pointwise)
  rfl
theorem index1 : ∀ t : Fin cfg0.N, win0_1.index t (0 : Fin 2) = 0 ∧ win0_1.index t (1 : Fin 2) = 0 :=
  (by decide +kernel : ∀ t : Fin grid0.N, _)
theorem place1 (t : Fin cfg0.N) (a : Fin 128) (b : Fin 2048) : ((cfg0.win 1).blk t).view.emb (ix2 a b) =
    (ix2 a b : (⟨2, ![128, 2048]⟩ : Shape).Idx) :=
  ProdBlocks.place (win0_1.index t (0 : Fin 2)) (win0_1.index t (1 : Fin 2)) _ a b rfl rfl _ _ (index1 t).1 (index1 t).2 _ _ (by simp) (by simp)
/-- The operand's block at a grid point. -/
theorem blk1 (t : Fin cfg0.N) (a : Fin 128) (b : Fin 2048) :
    (show EReal from iblk m c 1 t (ix2 a b)) = arr1 m c a b := by
  have h := entry1 m c
  unfold iblk
  generalize V m c (Pipeline.arrRef spec0 1) = A at h ⊢
  exact (congrArg A (place1 t a b)).trans (h _ _)

/-! ## Operand 2 -/
/-- The argument as an array of numbers. -/
def arr2 : Fin 2304 → Fin 1024 → EReal := fun a b => m ((c : Thread nD τ).loc main_arg2) (ix2 a b)
theorem entry2 (a : Fin 2304) (b : Fin 1024) : (show EReal from V m c main_arg2 (ix2 a b)) = arr2 m c a b :=
  congrFun (V_main_arg2 m c) (ix2 a b)
theorem index2 : ∀ t : Fin cfg0.N, win0_2.index t (0 : Fin 2) = t.val ∧ win0_2.index t (1 : Fin 2) = 0 :=
  (by decide +kernel : ∀ t : Fin grid0.N, _)
theorem place2 (t : Fin cfg0.N) (a : Fin 256) (b : Fin 1024) : ((cfg0.win 2).blk t).view.emb (ix2 a b) =
    (ix2 ⟨256 * t.val + a.val, by have := t.isLt; have : cfg0.N = 9 := N_0; omega⟩ b : (⟨2, ![2304, 1024]⟩ : Shape).Idx) :=
  ProdBlocks.place (win0_2.index t (0 : Fin 2)) (win0_2.index t (1 : Fin 2)) _ a b rfl rfl _ _ (index2 t).1 (index2 t).2 _ _ (by simp) (by simp)
/-- The operand's block at a grid point. -/
theorem blk2 (t : Fin cfg0.N) (a : Fin 256) (b : Fin 1024) :
    (show EReal from iblk m c 2 t (ix2 a b)) = arr2 m c ⟨256 * t.val + a.val, by have := t.isLt; have : cfg0.N = 9 := N_0; omega⟩ b := by
  have h := entry2 m c
  unfold iblk
  generalize V m c (Pipeline.arrRef spec0 2) = A at h ⊢
  exact (congrArg A (place2 t a b)).trans (h _ _)

/-! ## Operand 3 -/
/-- The argument as an array of numbers. -/
def arr3 : Fin 128 → Fin 1024 → EReal := fun a b => m ((c : Thread nD τ).loc main_arg3) (ix2 a b)
theorem entry3 (a : Fin 128) (b : Fin 1024) : (show EReal from V m c main_v1 (ix2 a b)) = arr3 m c a b := by
  show (show EReal from after hostOps0 (fun b => m (c, b)) main_v1 (ix2 a b)) = _
  simp only
  repeat (after_reads_simp; pointwise)
  rfl
theorem index3 : ∀ t : Fin cfg0.N, win0_3.index t (0 : Fin 2) = 0 ∧ win0_3.index t (1 : Fin 2) = 0 :=
  (by decide +kernel : ∀ t : Fin grid0.N, _)
theorem place3 (t : Fin cfg0.N) (a : Fin 128) (b : Fin 1024) : ((cfg0.win 3).blk t).view.emb (ix2 a b) =
    (ix2 a b : (⟨2, ![128, 1024]⟩ : Shape).Idx) :=
  ProdBlocks.place (win0_3.index t (0 : Fin 2)) (win0_3.index t (1 : Fin 2)) _ a b rfl rfl _ _ (index3 t).1 (index3 t).2 _ _ (by simp) (by simp)
/-- The operand's block at a grid point. -/
theorem blk3 (t : Fin cfg0.N) (a : Fin 128) (b : Fin 1024) :
    (show EReal from iblk m c 3 t (ix2 a b)) = arr3 m c a b := by
  have h := entry3 m c
  unfold iblk
  generalize V m c (Pipeline.arrRef spec0 3) = A at h ⊢
  exact (congrArg A (place3 t a b)).trans (h _ _)

/-! ## The result's blocks -/
theorem index4 : ∀ t : Fin cfg0.N, win0_4.index t (0 : Fin 2) = t.val ∧ win0_4.index t (1 : Fin 2) = 0 :=
  (by decide +kernel : ∀ t : Fin grid0.N, _)
theorem place4 (t : Fin cfg0.N) (a : Fin 256) (b : Fin 128) : ((cfg0.win 4).blk t).view.emb (ix2 a b) =
    (ix2 ⟨256 * t.val + a.val, by have := t.isLt; have : cfg0.N = 9 := N_0; omega⟩ b : (⟨2, ![2304, 128]⟩ : Shape).Idx) :=
  ProdBlocks.place (win0_4.index t (0 : Fin 2)) (win0_4.index t (1 : Fin 2)) _ a b rfl rfl _ _ (index4 t).1 (index4 t).2 _ _ (by simp) (by simp)
theorem flush4 : ∀ t : Fin cfg0.N, (cfg0.win 4).flush t = true := (by decide +kernel : ∀ t : Fin grid0.N, _)

set_option maxHeartbeats 1000000 in
/-- One grid point's product, at an entry. -/
theorem pay (x0 : Vec Ideal S256x2048 .f32) (x1 : Vec Ideal S128x2048 .bf16) (x2 : Vec Ideal S256x1024 .f32) (x3 : Vec Ideal S128x1024 .bf16) (a : Fin 256) (b : Fin 128) :
    (show EReal from k0_pay1 x0 x1 x2 x3 (ix2 a b)) = (∑ n : Fin 2048, (show EReal from x0 (ix2 a n)) * (show EReal from x1 (ix2 b n))) + ∑ n : Fin 1024, (show EReal from x2 (ix2 a n)) * (show EReal from x3 (ix2 b n)) := by
  pointwise [k0_pay1]
theorem out (x0 : Vec Ideal S256x2048 .f32) (x1 : Vec Ideal S128x2048 .bf16) (x2 : Vec Ideal S256x1024 .f32) (x3 : Vec Ideal S128x1024 .bf16) (a : Fin 256) (b : Fin 128) :
    (show EReal from out0_4 x0 x1 x2 x3 (ix2 a b)) = (∑ n : Fin 2048, (show EReal from x0 (ix2 a n)) * (show EReal from x1 (ix2 b n))) + ∑ n : Fin 1024, (show EReal from x2 (ix2 a n)) * (show EReal from x3 (ix2 b n)) := by
  have e0 : View.ld x0 (Rect.unit (s := S256x2048) ![0, 0] S256x2048.size inb_S256x2048_S256x2048_0_0) = x0 := View.ld_unit_lit _ x0 (by decide)
  have e1 : View.ld x1 (Rect.unit (s := S128x2048) ![0, 0] S128x2048.size inb_S128x2048_S128x2048_0_0) = x1 := View.ld_unit_lit _ x1 (by decide)
  have e2 : View.ld x2 (Rect.unit (s := S256x1024) ![0, 0] S256x1024.size inb_S256x1024_S256x1024_0_0) = x2 := View.ld_unit_lit _ x2 (by decide)
  have e3 : View.ld x3 (Rect.unit (s := S128x1024) ![0, 0] S128x1024.size inb_S128x1024_S128x1024_0_0) = x3 := View.ld_unit_lit _ x3 (by decide)
  have h : out0_4 x0 x1 x2 x3 = k0_pay1 (View.ld x0 (Rect.unit (s := S256x2048) ![0, 0] S256x2048.size inb_S256x2048_S256x2048_0_0)) (View.ld x1 (Rect.unit (s := S128x2048) ![0, 0] S128x2048.size inb_S128x2048_S128x2048_0_0)) (View.ld x2 (Rect.unit (s := S256x1024) ![0, 0] S256x1024.size inb_S256x1024_S256x1024_0_0)) (View.ld x3 (Rect.unit (s := S128x1024) ![0, 0] S128x1024.size inb_S128x1024_S128x1024_0_0)) := View.canon_cons_unit_lit _ _ [] (by decide)
  rw [h, e0, e1, e2, e3]
  exact pay x0 x1 x2 x3 a b

theorem each (t : Fin cfg0.N) (a : Fin 256) (b : Fin 128) :
    (show EReal from out0_4 (iblk m c 0 t) (iblk m c 1 t) (iblk m c 2 t) (iblk m c 3 t) (ix2 a b)) = (∑ n : Fin 2048, arr0 m c ⟨256 * t.val + a.val, by have := t.isLt; have : cfg0.N = 9 := N_0; omega⟩ n * arr1 m c b n) + ∑ n : Fin 1024, arr2 m c ⟨256 * t.val + a.val, by have := t.isLt; have : cfg0.N = 9 := N_0; omega⟩ n * arr3 m c b n := by
  refine (out (iblk m c 0 t) (iblk m c 1 t) (iblk m c 2 t) (iblk m c 3 t) a b).trans ?_
  refine congr (congrArg _ (Finset.sum_congr rfl fun n _ => ?_)) (Finset.sum_congr rfl fun n _ => ?_)
  · rw [blk0, blk1]
  · rw [blk2, blk3]

/-- The array the call leaves, at an entry. -/
theorem val (a : Fin 2304) (b : Fin 128) :
    (show EReal from (dats m 0 c).arrAt 4 cfg0.N (ix2 a b)) = (∑ n : Fin 2048, arr0 m c a n * arr1 m c b n) + ∑ n : Fin 1024, arr2 m c a n * arr3 m c b n := by
  have h := congrFun (blocks4 m c ⟨a.val / 256, by have : cfg0.N = 9 := N_0; omega⟩ (flush4 _)) (ix2 ⟨a.val % 256, by omega⟩ b)
  rw [flushed4] at h
  have e := each m c ⟨a.val / 256, by have : cfg0.N = 9 := N_0; omega⟩ ⟨a.val % 256, by omega⟩ b
  have hp := place4 ⟨a.val / 256, by have : cfg0.N = 9 := N_0; omega⟩ ⟨a.val % 256, by omega⟩ b
  have q : 256 * (a.val / 256) + a.val % 256 = a.val := by omega
  simp only [q] at e hp
  refine (congrArg ((dats m 0 c).arrAt 4 cfg0.N) hp).symm.trans ?_
  exact h.trans e

open Cert.Reference10Ideal Cert.Reference10Ideal.Gen in
set_option maxHeartbeats 1000000 in
/-- The reference's whole product, at an entry. -/
theorem ref (x0 : FVec Ideal Cert.Reference10Ideal.S2304x2048 .f32) (x1 : FVec Ideal Cert.Reference10Ideal.S128x2048 .f32) (x2 : FVec Ideal Cert.Reference10Ideal.S2304x1024 .f32) (x3 : FVec Ideal Cert.Reference10Ideal.S128x1024 .f32) (a : Fin 2304) (b : Fin 128) :
    (show EReal from (addf (Host.dotGeneral Cert.Reference10Ideal.dot_S2304x1024_S128x1024_S2304x128_1_1_0_0_n_n none x2 x3) (Host.dotGeneral Cert.Reference10Ideal.dot_S2304x2048_S128x2048_S2304x128_1_1_0_0_n_n none x0 x1) : FVec Ideal Cert.Reference10Ideal.S2304x128 .f32) (ix2 a b)) = (∑ n : Fin 2048, (show EReal from x0 (ix2 a n)) * (show EReal from x1 (ix2 b n))) + ∑ n : Fin 1024, (show EReal from x2 (ix2 a n)) * (show EReal from x3 (ix2 b n)) := by
  pointwise
  exact add_comm _ _

/-- The reference's host lines end, with the arguments as they were. -/
theorem frameRef : Cert.quiescent_Reference10Ideal (hReference10Ideal := Cert.Reference10Ideal.Gen.facts) := by
  intro m g _
  exact (θ_run _ _ _).mono (fun r h => ⟨fun c => (h c).2, sem_eq_zero_of_no_sems (by decide) r.2⟩)
    (Cert.Reference10Ideal.Value.run m g)

set_option maxHeartbeats 1000000 in
/-- The call and its reference leave the same array. -/
theorem algebraic : Cert.algebraic_Kernel10Ideal_Reference10Ideal (hKernel10Ideal := Cert.Kernel10Ideal.Gen.facts) (hReference10Ideal := Cert.Reference10Ideal.Gen.facts) := by
  intro m g m' g' _ hag
  refine ⟨fun c => (dats m 0 c).arrAt 4 cfg0.N, Cert.Kernel10Ideal.Value.run_blocks m g, ?_⟩
  refine (θ_run _ _ _).mono ?_ (Cert.Reference10Ideal.Value.run m' g')
  intro r h c
  obtain ⟨h0, ha⟩ := h c
  refine ⟨h0.trans ?_, ha⟩
  obtain ⟨e0, e1, e2, e3⟩ := hag c
  funext i
  obtain ⟨a, b, rfl⟩ := ProdBlocks.coords2 i
  refine Eq.trans ?_ (val m c a b).symm
  refine (ref (m' ((c.tc : Thread Cert.Reference10Ideal.nD Cert.Reference10Ideal.τ).loc Cert.Reference10Ideal.main_arg0)) (m' ((c.tc : Thread Cert.Reference10Ideal.nD Cert.Reference10Ideal.τ).loc Cert.Reference10Ideal.main_arg1)) (m' ((c.tc : Thread Cert.Reference10Ideal.nD Cert.Reference10Ideal.τ).loc Cert.Reference10Ideal.main_arg2)) (m' ((c.tc : Thread Cert.Reference10Ideal.nD Cert.Reference10Ideal.τ).loc Cert.Reference10Ideal.main_arg3)) a b).trans ?_
  rw [e0, e1, e2, e3]
  rfl

end Attn.Prod10
-- ==== Proof.NormRef.lean ====
/-
  The reference's rows: each divided by the root of its mean square, times a gain, scaled and shifted by the numbers of its batch entry.
-/
module

public import proofs.«01_k».proof.Defs
public import proofs.«01_k».proof.Proof.ProdBlocks
public import proofs.«01_k».proof.Proof.Gen.Reference12Ideal.Run

@[expose] public section

set_option maxRecDepth 16384
noncomputable section
open Idealize.ShloMosaic Idealize.ShloMosaic.TcCoe Idealize.SL.Sem Idealize.ShloMosaic.StableHlo
namespace Attn.NormRef
/-- An entry of a row `x`: the row divided by the root of its mean square, times the gain, scaled and shifted. -/
def entry (x g s t : Fin 1024 → EReal) (b : Fin 1024) : EReal :=
  x b * Ideal.rsqrt (Ideal.div (∑ n, x n * x n) (Ideal.ofBits FTy.f32 1149239296#32) + Ideal.ofBits FTy.f32 897988541#32) * g b * (1 + s b) + t b
open Cert.Reference12Ideal Cert.Reference12Ideal.Gen
variable (g : FVec Ideal S1024 .f32) (sc sh : FVec Ideal S2x1024 .f32)
/-- The context's rows. -/
def ctxRows (x : FVec Ideal S256x1024 .f32) : FVec Ideal S256x1024 .f32 :=
  (addf (mulf (mulf (mulf x (broadcastInDim S256x1024 ![0, 1] bcast_S256x1_S256x1024_0_1 (Host.rsqrt (addf (Host.divf (broadcastInDim S256x1 ![0] bcast_S256_S256x1_0 (Host.reduceAdd (mulf x x) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32)))))) (broadcastInDim S256x1024 ![0, 1] bcast_S1x1024_S256x1024_0_1 (broadcastInDim S1x1024 ![1] bcast_S1024_S1x1024_1 g))) (broadcastInDim S256x1024 ![0, 1] bcast_S1x1024_S256x1024_0_1 (broadcastInDim S1x1024 ![1] bcast_S1024_S1x1024_1 (addf (broadcastInDim S1024 ![] bcast_S_S1024 (constant S_ .f32 0x3F800000#32)) (shapeCast _ (extractStridedSlice S1x1024 ![0, 0] sc slices_S2x1024_S1x1024_0_0) shapeCasts_S1x1024_S1024))))) (broadcastInDim S256x1024 ![0, 1] bcast_S1x1024_S256x1024_0_1 (broadcastInDim S1x1024 ![1] bcast_S1024_S1x1024_1 (shapeCast _ (extractStridedSlice S1x1024 ![0, 0] sh slices_S2x1024_S1x1024_0_0) shapeCasts_S1x1024_S1024))))
/-- The latents' rows. -/
def latRows (x : FVec Ideal S2048x1024 .f32) : FVec Ideal S2048x1024 .f32 :=
  (addf (mulf (mulf (mulf x (broadcastInDim S2048x1024 ![0, 1] bcast_S2048x1_S2048x1024_0_1 (Host.rsqrt (addf (Host.divf (broadcastInDim S2048x1 ![0] bcast_S2048_S2048x1_0 (Host.reduceAdd (mulf x x) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32)))))) (broadcastInDim S2048x1024 ![0, 1] bcast_S1x1024_S2048x1024_0_1 (broadcastInDim S1x1024 ![1] bcast_S1024_S1x1024_1 g))) (broadcastInDim S2048x1024 ![0, 1] bcast_S1x1024_S2048x1024_0_1 (broadcastInDim S1x1024 ![1] bcast_S1024_S1x1024_1 (addf (broadcastInDim S1024 ![] bcast_S_S1024 (constant S_ .f32 0x3F800000#32)) (shapeCast _ (extractStridedSlice S1x1024 ![1, 0] sc slices_S2x1024_S1x1024_1_0) shapeCasts_S1x1024_S1024))))) (broadcastInDim S2048x1024 ![0, 1] bcast_S1x1024_S2048x1024_0_1 (broadcastInDim S1x1024 ![1] bcast_S1024_S1x1024_1 (shapeCast _ (extractStridedSlice S1x1024 ![1, 0] sh slices_S2x1024_S1x1024_1_0) shapeCasts_S1x1024_S1024))))
/-- All the rows, the context's first. -/
def rows (x : FVec Ideal S256x1024 .f32) (y : FVec Ideal S2048x1024 .f32) : FVec Ideal S2304x1024 .f32 :=
  concatenate S2304x1024 0 [⟨S256x1024, ctxRows g sc sh x⟩, ⟨S2048x1024, latRows g sc sh y⟩] concatenates_S256x1024_S2048x1024_S2304x1024_d0

theorem ctxRows_at (x : FVec Ideal S256x1024 .f32) (a : Fin 256) (b : Fin 1024) : (show EReal from ctxRows g sc sh x (ix2 a b))
    = entry (fun n => x (ix2 a n)) (fun n => g (ix1 n)) (fun n => sc (ix2 0 n)) (fun n => sh (ix2 0 n)) b := by
  pointwise [ctxRows, entry]
theorem latRows_at (x : FVec Ideal S2048x1024 .f32) (a : Fin 2048) (b : Fin 1024) : (show EReal from latRows g sc sh x (ix2 a b))
    = entry (fun n => x (ix2 a n)) (fun n => g (ix1 n)) (fun n => sc (ix2 1 n)) (fun n => sh (ix2 1 n)) b := by
  pointwise [latRows, entry]
/-- One of the context's rows. -/
theorem rows_ctx (x : FVec Ideal S256x1024 .f32) (y : FVec Ideal S2048x1024 .f32) (a : Fin 2304) (b : Fin 1024) (h : a.val < 256) :
    (show EReal from rows g sc sh x y (ix2 a b))
      = entry (fun n => x (ix2 ⟨a.val, h⟩ n)) (fun n => g (ix1 n)) (fun n => sc (ix2 0 n)) (fun n => sh (ix2 0 n)) b := by
  refine Eq.trans ?_ (ctxRows_at g sc sh x ⟨a.val, h⟩ b)
  pointwise [rows]
  rw [dif_pos h]
/-- One of the latents' rows. -/
theorem rows_lat (x : FVec Ideal S256x1024 .f32) (y : FVec Ideal S2048x1024 .f32) (a : Fin 2304) (b : Fin 1024) (h : 256 ≤ a.val) :
    (show EReal from rows g sc sh x y (ix2 a b))
      = entry (fun n => y (ix2 ⟨a.val - 256, by omega⟩ n)) (fun n => g (ix1 n)) (fun n => sc (ix2 1 n)) (fun n => sh (ix2 1 n)) b := by
  refine Eq.trans ?_ (latRows_at g sc sh y ⟨a.val - 256, by omega⟩ b)
  pointwise [rows]
  rw [dif_neg (by omega)]
end Attn.NormRef
-- ==== Proof.Prod11.lean ====
/-
  The second layer's normalised activations and their projection, block by block: 256 rows at a grid point.
-/
module

public import proofs.«01_k».proof.Defs
public import proofs.«01_k».proof.Proof.NormRef
public import proofs.«01_k».proof.Proof.Gen.Kernel11Ideal.Value
public import proofs.«01_k».proof.Proof.Gen.Reference11Ideal.Run

@[expose] public section

set_option maxRecDepth 16384
noncomputable section
open Idealize.ShloMosaic Idealize.ShloMosaic.TcCoe Idealize.SL.Sem Idealize.ShloMosaic.StableHlo
namespace Attn.Prod11
open Cert.Kernel11Ideal Cert.Kernel11Ideal.Gen Cert.Kernel11Ideal.Value
open Attn.NormRef (entry)
variable (m : (ℓ : Loc nD τ sig) → Buf (Elt Ideal) ℓ) (c : Dev nD)

/-! ## The operands -/
/-- The rows as an array of numbers. -/
def arrX : Fin 2304 → Fin 1024 → EReal := fun a b => m ((c : Thread nD τ).loc main_arg0) (ix2 a b)
/-- The gain. -/
def arrG : Fin 1024 → EReal := fun b => m ((c : Thread nD τ).loc main_arg1) (ix1 b)
/-- The scales. -/
def arrS : Fin 2 → Fin 1024 → EReal := fun a b => m ((c : Thread nD τ).loc main_arg2) (ix2 a b)
/-- The shifts. -/
def arrT : Fin 2 → Fin 1024 → EReal := fun a b => m ((c : Thread nD τ).loc main_arg3) (ix2 a b)
/-- The projection's weights. -/
def arrW : Fin 1024 → Fin 2048 → EReal := fun a b => m ((c : Thread nD τ).loc main_arg4) (ix2 a b)
theorem entryX (a : Fin 2304) (b : Fin 1024) : (show EReal from V m c main_arg0 (ix2 a b)) = arrX m c a b :=
  congrFun (V_main_arg0 m c) (ix2 a b)
theorem entryG (b : Fin 1024) : (show EReal from V m c main_v0 (ix3 0 0 b)) = arrG m c b := by
  show (show EReal from after hostOps0 (fun b => m (c, b)) main_v0 (ix3 0 0 b)) = _
  simp only
  repeat (after_reads_simp; pointwise)
  rfl
theorem entryS (a : Fin 2) (b : Fin 1024) : (show EReal from V m c main_v1 (ix3 a 0 b)) = arrS m c a b := by
  show (show EReal from after hostOps0 (fun b => m (c, b)) main_v1 (ix3 a 0 b)) = _
  simp only
  repeat (after_reads_simp; pointwise)
  rfl
theorem entryT (a : Fin 2) (b : Fin 1024) : (show EReal from V m c main_v2 (ix3 a 0 b)) = arrT m c a b := by
  show (show EReal from after hostOps0 (fun b => m (c, b)) main_v2 (ix3 a 0 b)) = _
  simp only
  repeat (after_reads_simp; pointwise)
  rfl
theorem entryW (a : Fin 1024) (b : Fin 2048) : (show EReal from V m c main_v3 (ix2 a b)) = arrW m c a b := by
  show (show EReal from after hostOps0 (fun b => m (c, b)) main_v3 (ix2 a b)) = _
  simp only
  repeat (after_reads_simp; pointwise)
  rfl

/-! ## The blocks' places -/
theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 3) = 0 ∧ win0_1.index t (1 : Fin 3) = 0 ∧ win0_1.index t (2 : Fin 3) = 0 :=
  (by decide +kernel : ∀ t : Fin grid0.N, _)
theorem index2 : ∀ t : Fin cfg0.N, win0_2.index t (0 : Fin 3) = min t.val 1 ∧ win0_2.index t (1 : Fin 3) = 0 ∧ win0_2.index t (2 : Fin 3) = 0 :=
  (by decide +kernel : ∀ t : Fin grid0.N, _)
theorem index3 : ∀ t : Fin cfg0.N, win0_3.index t (0 : Fin 3) = min t.val 1 ∧ win0_3.index t (1 : Fin 3) = 0 ∧ win0_3.index t (2 : Fin 3) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)
theorem index5 : ∀ t : Fin cfg0.N, win0_5.index t (0 : Fin 2) = t.val ∧ win0_5.index t (1 : Fin 2) = 0 :=
  (by decide +kernel : ∀ t : Fin grid0.N, _)
theorem index6 : ∀ t : Fin cfg0.N, win0_6.index t (0 : Fin 2) = t.val ∧ win0_6.index t (1 : Fin 2) = 0 :=
  (by decide +kernel : ∀ t : Fin grid0.N, _)
theorem flush5 : ∀ t : Fin cfg0.N, (cfg0.win 5).flush t = true := (by decide +kernel : ∀ t : Fin grid0.N, _)
theorem flush6 : ∀ t : Fin cfg0.N, (cfg0.win 6).flush t = true := (by decide +kernel : ∀ t : Fin grid0.N, _)
/-- The row of the whole under row `a` of the block at `t`. -/
abbrev whole (t : Fin cfg0.N) (a : Fin 256) : Fin 2304 := ⟨256 * t.val + a.val, by have := t.isLt; have : cfg0.N = 9 := N_0; omega⟩
/-- The batch entry whose scale and shift the block at `t` takes. -/
abbrev batch (t : Fin cfg0.N) : Fin 2 := ⟨min t.val 1, by omega⟩
theorem place0 (t : Fin cfg0.N) (a : Fin 256) (b : Fin 1024) : ((cfg0.win 0).blk t).view.emb (ix2 a b) =
    (ix2 (whole t a) b : (⟨2, ![2304, 1024]⟩ : Shape).Idx) :=
  ProdBlocks.place (win0_0.index t (0 : Fin 2)) (win0_0.index t (1 : Fin 2)) _ a b rfl rfl _ _ (index0 t).1 (index0 t).2 _ _ (by simp) (by simp)
theorem place1 (t : Fin cfg0.N) (b : Fin 1024) : ((cfg0.win 1).blk t).view.emb (ix3 0 0 b) =
    (ix3 0 0 b : (⟨3, ![1, 1, 1024]⟩ : Shape).Idx) :=
  ProdBlocks.placeRow (win0_1.index t (0 : Fin 3)) (win0_1.index t (1 : Fin 3)) (win0_1.index t (2 : Fin 3)) _ b rfl rfl rfl _ (index1 t).1 (index1 t).2.1 (index1 t).2.2 _ rfl
theorem place2 (t : Fin cfg0.N) (b : Fin 1024) : ((cfg0.win 2).blk t).view.emb (ix3 0 0 b) =
    (ix3 (batch t) 0 b : (⟨3, ![2, 1, 1024]⟩ : Shape).Idx) :=
  ProdBlocks.placeRow (win0_2.index t (0 : Fin 3)) (win0_2.index t (1 : Fin 3)) (win0_2.index t (2 : Fin 3)) _ b rfl rfl rfl _ (index2 t).1 (index2 t).2.1 (index2 t).2.2 _ rfl
theorem place3 (t : Fin cfg0.N) (b : Fin 1024) : ((cfg0.win 3).blk t).view.emb (ix3 0 0 b) =
    (ix3 (batch t) 0 b : (⟨3, ![2, 1, 1024]⟩ : Shape).Idx) :=
  ProdBlocks.placeRow (win0_3.index t (0 : Fin 3)) (win0_3.index t (1 : Fin 3)) (win0_3.index t (2 : Fin 3)) _ b rfl rfl rfl _ (index3 t).1 (index3 t).2.1 (index3 t).2.2 _ rfl
theorem place4 (t : Fin cfg0.N) (a : Fin 1024) (b : Fin 2048) : ((cfg0.win 4).blk t).view.emb (ix2 a b) =
    (ix2 a b : (⟨2, ![1024, 2048]⟩ : Shape).Idx) :=
  ProdBlocks.place (win0_4.index t (0 : Fin 2)) (win0_4.index t (1 : Fin 2)) _ a b rfl rfl _ _ (index4 t).1 (index4 t).2 _ _ (by simp) (by simp)
theorem place5 (t : Fin cfg0.N) (a : Fin 256) (b : Fin 1024) : ((cfg0.win 5).blk t).view.emb (ix2 a b) =
    (ix2 (whole t a) b : (⟨2, ![2304, 1024]⟩ : Shape).Idx) :=
  ProdBlocks.place (win0_5.index t (0 : Fin 2)) (win0_5.index t (1 : Fin 2)) _ a b rfl rfl _ _ (index5 t).1 (index5 t).2 _ _ (by simp) (by simp)
theorem place6 (t : Fin cfg0.N) (a : Fin 256) (b : Fin 2048) : ((cfg0.win 6).blk t).view.emb (ix2 a b) =
    (ix2 (whole t a) b : (⟨2, ![2304, 2048]⟩ : Shape).Idx) :=
  ProdBlocks.place (win0_6.index t (0 : Fin 2)) (win0_6.index t (1 : Fin 2)) _ a b rfl rfl _ _ (index6 t).1 (index6 t).2 _ _ (by simp) (by simp)

theorem blk0 (t : Fin cfg0.N) (a : Fin 256) (b : Fin 1024) : (show EReal from iblk m c 0 t (ix2 a b)) = arrX m c (whole t a) b := by
  have h := entryX m c
  unfold iblk
  generalize V m c (Pipeline.arrRef spec0 0) = A at h ⊢
  exact (congrArg A (place0 t a b)).trans (h _ _)
theorem blk1 (t : Fin cfg0.N) (b : Fin 1024) : (show EReal from iblk m c 1 t (ix3 0 0 b)) = arrG m c b := by
  have h := entryG m c
  unfold iblk
  generalize V m c (Pipeline.arrRef spec0 1) = A at h ⊢
  exact (congrArg A (place1 t b)).trans (h _)
theorem blk2 (t : Fin cfg0.N) (b : Fin 1024) : (show EReal from iblk m c 2 t (ix3 0 0 b)) = arrS m c (batch t) b := by
  have h := entryS m c
  unfold iblk
  generalize V m c (Pipeline.arrRef spec0 2) = A at h ⊢
  exact (congrArg A (place2 t b)).trans (h _ _)
theorem blk3 (t : Fin cfg0.N) (b : Fin 1024) : (show EReal from iblk m c 3 t (ix3 0 0 b)) = arrT m c (batch t) b := by
  have h := entryT m c
  unfold iblk
  generalize V m c (Pipeline.arrRef spec0 3) = A at h ⊢
  exact (congrArg A (place3 t b)).trans (h _ _)
theorem blk4 (t : Fin cfg0.N) (a : Fin 1024) (b : Fin 2048) : (show EReal from iblk m c 4 t (ix2 a b)) = arrW m c a b := by
  have h := entryW m c
  unfold iblk
  generalize V m c (Pipeline.arrRef spec0 4) = A at h ⊢
  exact (congrArg A (place4 t a b)).trans (h _ _)

/-! ## A grid point's rows -/
section
variable (x0 : Vec Ideal S256x1024 .f32) (x1 x2 x3 : Vec Ideal S1x1x1024 .f32) (x4 : Vec Ideal S1024x2048 .bf16)
set_option maxHeartbeats 1000000 in
theorem payRows (a : Fin 256) (b : Fin 1024) : (show EReal from k0_pay1 x0 x1 x2 x3 (ix2 a b))
    = entry (fun n => x0 (ix2 a n)) (fun n => x1 (ix3 0 0 n)) (fun n => x2 (ix3 0 0 n)) (fun n => x3 (ix3 0 0 n)) b := by
  pointwise [k0_pay1, entry]
set_option maxHeartbeats 1000000 in
theorem payProj (a : Fin 256) (b : Fin 2048) : (show EReal from k0_pay2 x0 x1 x2 x3 x4 (ix2 a b))
    = ∑ n : Fin 1024, (show EReal from k0_pay1 x0 x1 x2 x3 (ix2 a n)) * (show EReal from x4 (ix2 n b)) := by
  pointwise [k0_pay2]
theorem outRows : out0_5 x0 x1 x2 x3 x4 = k0_pay1 x0 x1 x2 x3 := by
  have e0 : View.ld x0 (Rect.unit (s := S256x1024) ![0, 0] S256x1024.size inb_S256x1024_S256x1024_0_0) = x0 := View.ld_unit_lit _ x0 (by decide)
  have e1 : View.ld x1 (Rect.unit (s := S1x1x1024) ![0, 0, 0] S1x1x1024.size inb_S1x1x1024_S1x1x1024_0_0_0) = x1 := View.ld_unit_lit _ x1 (by decide)
  have e2 : View.ld x2 (Rect.unit (s := S1x1x1024) ![0, 0, 0] S1x1x1024.size inb_S1x1x1024_S1x1x1024_0_0_0) = x2 := View.ld_unit_lit _ x2 (by decide)
  have e3 : View.ld x3 (Rect.unit (s := S1x1x1024) ![0, 0, 0] S1x1x1024.size inb_S1x1x1024_S1x1x1024_0_0_0) = x3 := View.ld_unit_lit _ x3 (by decide)
  have h : out0_5 x0 x1 x2 x3 x4 = k0_pay1 (View.ld x0 (Rect.unit (s := S256x1024) ![0, 0] S256x1024.size inb_S256x1024_S256x1024_0_0))
      (View.ld x1 (Rect.unit (s := S1x1x1024) ![0, 0, 0] S1x1x1024.size inb_S1x1x1024_S1x1x1024_0_0_0))
      (View.ld x2 (Rect.unit (s := S1x1x1024) ![0, 0, 0] S1x1x1024.size inb_S1x1x1024_S1x1x1024_0_0_0))
      (View.ld x3 (Rect.unit (s := S1x1x1024) ![0, 0, 0] S1x1x1024.size inb_S1x1x1024_S1x1x1024_0_0_0)) := View.canon_cons_unit_lit _ _ [] (by decide)
  rw [h, e0, e1, e2, e3]
theorem outProj : out0_6 x0 x1 x2 x3 x4 = k0_pay2 x0 x1 x2 x3 x4 := by
  have e0 : View.ld x0 (Rect.unit (s := S256x1024) ![0, 0] S256x1024.size inb_S256x1024_S256x1024_0_0) = x0 := View.ld_unit_lit _ x0 (by decide)
  have e1 : View.ld x1 (Rect.unit (s := S1x1x1024) ![0, 0, 0] S1x1x1024.size inb_S1x1x1024_S1x1x1024_0_0_0) = x1 := View.ld_unit_lit _ x1 (by decide)
  have e2 : View.ld x2 (Rect.unit (s := S1x1x1024) ![0, 0, 0] S1x1x1024.size inb_S1x1x1024_S1x1x1024_0_0_0) = x2 := View.ld_unit_lit _ x2 (by decide)
  have e3 : View.ld x3 (Rect.unit (s := S1x1x1024) ![0, 0, 0] S1x1x1024.size inb_S1x1x1024_S1x1x1024_0_0_0) = x3 := View.ld_unit_lit _ x3 (by decide)
  have e4 : View.ld x4 (Rect.unit (s := S1024x2048) ![0, 0] S1024x2048.size inb_S1024x2048_S1024x2048_0_0) = x4 := View.ld_unit_lit _ x4 (by decide)
  have h : out0_6 x0 x1 x2 x3 x4 = k0_pay2 (View.ld x0 (Rect.unit (s := S256x1024) ![0, 0] S256x1024.size inb_S256x1024_S256x1024_0_0))
      (View.ld x1 (Rect.unit (s := S1x1x1024) ![0, 0, 0] S1x1x1024.size inb_S1x1x1024_S1x1x1024_0_0_0))
      (View.ld x2 (Rect.unit (s := S1x1x1024) ![0, 0, 0] S1x1x1024.size inb_S1x1x1024_S1x1x1024_0_0_0))
      (View.ld x3 (Rect.unit (s := S1x1x1024) ![0, 0, 0] S1x1x1024.size inb_S1x1x1024_S1x1x1024_0_0_0))
      (View.ld x4 (Rect.unit (s := S1024x2048) ![0, 0] S1024x2048.size inb_S1024x2048_S1024x2048_0_0)) := View.canon_cons_unit_lit _ _ [] (by decide)
  rw [h, e0, e1, e2, e3, e4]
end

/-- The payload's rows at a grid point, in the arguments' own numbers. -/
theorem eachRows (t : Fin cfg0.N) (a : Fin 256) (b : Fin 1024) :
    (show EReal from k0_pay1 (iblk m c 0 t) (iblk m c 1 t) (iblk m c 2 t) (iblk m c 3 t) (ix2 a b))
      = entry (arrX m c (whole t a)) (arrG m c) (arrS m c (batch t)) (arrT m c (batch t)) b := by
  refine (payRows (iblk m c 0 t) (iblk m c 1 t) (iblk m c 2 t) (iblk m c 3 t) a b).trans ?_
  have q0 : (fun n => iblk m c 0 t (ix2 a n)) = arrX m c (whole t a) := funext fun n => blk0 m c t a n
  have q1 : (fun n => iblk m c 1 t (ix3 0 0 n)) = arrG m c := funext fun n => blk1 m c t n
  have q2 : (fun n => iblk m c 2 t (ix3 0 0 n)) = arrS m c (batch t) := funext fun n => blk2 m c t n
  have q3 : (fun n => iblk m c 3 t (ix3 0 0 n)) = arrT m c (batch t) := funext fun n => blk3 m c t n
  exact congr (congrFun (congr (congr (congrArg entry q0) q1) q2) _ |>.trans (congrArg _ q3)) rfl

/-- The point whose block holds row `a`, and its row of the block. -/
abbrev point (a : Fin 2304) : Fin cfg0.N := ⟨a.val / 256, by have : cfg0.N = 9 := N_0; omega⟩
theorem whole_point (a : Fin 2304) : whole (point a) ⟨a.val % 256, by omega⟩ = a := Fin.ext (by show 256 * (a.val / 256) + a.val % 256 = a.val; omega)
/-- An entry of the rows the call leaves. -/
theorem valRows (a : Fin 2304) (b : Fin 1024) : (show EReal from (dats m 0 c).arrAt 5 cfg0.N (ix2 a b))
    = entry (arrX m c a) (arrG m c) (arrS m c (batch (point a))) (arrT m c (batch (point a))) b := by
  have h := congrFun (blocks5 m c (point a) (flush5 _)) (ix2 ⟨a.val % 256, by omega⟩ b)
  rw [flushed5, outRows] at h
  have hp := place5 (point a) ⟨a.val % 256, by omega⟩ b
  have e := eachRows m c (point a) ⟨a.val % 256, by omega⟩ b
  rw [whole_point] at hp e
  exact (congrArg ((dats m 0 c).arrAt 5 cfg0.N) hp).symm.trans (h.trans e)
/-- An entry of the projection the call leaves. -/
theorem valProj (a : Fin 2304) (b : Fin 2048) : (show EReal from (dats m 0 c).arrAt 6 cfg0.N (ix2 a b))
    = ∑ n : Fin 1024, entry (arrX m c a) (arrG m c) (arrS m c (batch (point a))) (arrT m c (batch (point a))) n * arrW m c n b := by
  have h := congrFun (blocks6 m c (point a) (flush6 _)) (ix2 ⟨a.val % 256, by omega⟩ b)
  rw [flushed6, outProj] at h
  have hp := place6 (point a) ⟨a.val % 256, by omega⟩ b
  have e := fun n => eachRows m c (point a) ⟨a.val % 256, by omega⟩ n
  rw [whole_point] at hp
  simp only [whole_point] at e
  refine (congrArg ((dats m 0 c).arrAt 6 cfg0.N) hp).symm.trans (h.trans ((payProj (iblk m c 0 (point a)) (iblk m c 1 (point a)) (iblk m c 2 (point a)) (iblk m c 3 (point a)) (iblk m c 4 (point a)) _ b).trans ?_))
  refine Finset.sum_congr rfl fun n _ => ?_
  rw [blk4]
  exact congrArg (· * _) (e n)

/-! ## The reference -/
section
open Cert.Reference11Ideal Cert.Reference11Ideal.Gen
variable (x0 : FVec Ideal Cert.Reference11Ideal.S2304x1024 .f32) (x1 : FVec Ideal Cert.Reference11Ideal.S1024 .f32)
  (x2 x3 : FVec Ideal Cert.Reference11Ideal.S2x1024 .f32) (x4 : FVec Ideal Cert.Reference11Ideal.S1024x2048 .f32)
/-- The reference's rows as a function of its arguments. -/
def refRows : FVec Ideal Cert.Reference11Ideal.S2304x1024 .f32 :=
  NormRef.rows x1 x2 x3 (extractStridedSlice Cert.Reference11Ideal.S256x1024 ![0, 0] x0 Cert.Reference11Ideal.Facts₀.slices_S2304x1024_S256x1024_0_0)
    (extractStridedSlice Cert.Reference11Ideal.S2048x1024 ![256, 0] x0 Cert.Reference11Ideal.Facts₀.slices_S2304x1024_S2048x1024_256_0)
/-- The reference's projection. -/
def refProj : FVec Ideal Cert.Reference11Ideal.S2304x2048 .f32 :=
  Host.dotGeneral Cert.Reference11Ideal.dot_S2304x1024_S1024x2048_S2304x2048_1_0_0_1_n_n none (refRows x0 x1 x2 x3) x4
theorem refRows_at (a : Fin 2304) (b : Fin 1024) : (show EReal from refRows x0 x1 x2 x3 (ix2 a b))
    = entry (fun n => x0 (ix2 a n)) (fun n => x1 (ix1 n)) (fun n => x2 (ix2 (batch (point a)) n)) (fun n => x3 (ix2 (batch (point a)) n)) b := by
  rcases lt_or_ge a.val 256 with h | h
  · have q : batch (point a) = 0 := Fin.ext (by show min (a.val / 256) 1 = 0; omega)
    rw [q]
    refine (NormRef.rows_ctx x1 x2 x3 _ _ a b h).trans ?_
    refine congrArg (fun f => entry f _ _ _ b) (funext fun n => ?_)
    pointwise
  · have q : batch (point a) = 1 := Fin.ext (by show min (a.val / 256) 1 = 1; omega)
    rw [q]
    refine (NormRef.rows_lat x1 x2 x3 _ _ a b h).trans ?_
    refine congrArg (fun f => entry f _ _ _ b) (funext fun n => ?_)
    have q : 256 + (a.val - 256) = a.val := by omega
    pointwise
    simp only [q]
theorem refProj_at (a : Fin 2304) (b : Fin 2048) : (show EReal from refProj x0 x1 x2 x3 x4 (ix2 a b))
    = ∑ n : Fin 1024, (show EReal from refRows x0 x1 x2 x3 (ix2 a n)) * (show EReal from x4 (ix2 n b)) := by
  pointwise [refProj]
end

/-- The reference's host lines end, with the arguments as they were. -/
theorem frameRef : Cert.quiescent_Reference11Ideal (hReference11Ideal := Cert.Reference11Ideal.Gen.facts) := by
  intro m g _
  exact (θ_run _ _ _).mono (fun r h => ⟨fun c => (h c).2.2, sem_eq_zero_of_no_sems (by decide) r.2⟩)
    (Cert.Reference11Ideal.Value.run m g)

set_option maxHeartbeats 1000000 in
/-- The call and its reference leave the same two arrays. -/
theorem algebraic : Cert.algebraic_Kernel11Ideal_Reference11Ideal (hKernel11Ideal := Cert.Kernel11Ideal.Gen.facts) (hReference11Ideal := Cert.Reference11Ideal.Gen.facts) := by
  intro m g m' g' _ hag
  refine ⟨fun c => (dats m 0 c).arrAt 5 cfg0.N, fun c => (dats m 0 c).arrAt 6 cfg0.N, Cert.Kernel11Ideal.Value.run_blocks m g, ?_⟩
  refine (θ_run _ _ _).mono ?_ (Cert.Reference11Ideal.Value.run m' g')
  intro r h c
  obtain ⟨h0, h1, ha⟩ := h c
  obtain ⟨e0, e1, e2, e3, e4⟩ := hag c
  refine ⟨h0.trans ?_, h1.trans ?_, ha⟩
  · funext i
    obtain ⟨a, b, rfl⟩ := ProdBlocks.coords2 i
    refine Eq.trans ?_ (valRows m c a b).symm
    refine (refRows_at (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg1)) (m' ((c.tc : Thread Cert.Reference11Ideal.nD Cert.Reference11Ideal.τ).loc Cert.Reference11Ideal.main_arg2)) (m' ((c.tc : Thread Cert.Reference11Ideal.nD Cert.Reference11Ideal.τ).loc Cert.Reference11Ideal.main_arg3)) a b).trans ?_
    rw [e0, e1, e2, e3]
    rfl
  · funext i
    obtain ⟨a, b, rfl⟩ := ProdBlocks.coords2 i
    refine Eq.trans ?_ (valProj m c a b).symm
    refine (refProj_at (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg1)) (m' ((c.tc : Thread Cert.Reference11Ideal.nD Cert.Reference11Ideal.τ).loc Cert.Reference11Ideal.main_arg2)) (m' ((c.tc : Thread Cert.Reference11Ideal.nD Cert.Reference11Ideal.τ).loc Cert.Reference11Ideal.main_arg3)) (m' ((c.tc : Thread Cert.Reference11Ideal.nD Cert.Reference11Ideal.τ).loc Cert.Reference11Ideal.main_arg4)) a b).trans ?_
    refine Finset.sum_congr rfl fun n _ => ?_
    rw [refRows_at, e0, e1, e2, e3, e4]
    rfl

end Attn.Prod11
-- ==== Proof.Prod12.lean ====
/-
  The first layer's normalised activations and their projection, block by block: the context's 256 rows at the first grid point, 256 of the latents' at each other.
-/
module

public import proofs.«01_k».proof.Defs
public import proofs.«01_k».proof.Proof.NormRef
public import proofs.«01_k».proof.Proof.Gen.Kernel12Ideal.Value
public import proofs.«01_k».proof.Proof.Gen.Reference12Ideal.Run

@[expose] public section

set_option maxRecDepth 16384
noncomputable section
open Idealize.ShloMosaic Idealize.ShloMosaic.TcCoe Idealize.SL.Sem Idealize.ShloMosaic.StableHlo
namespace Attn.Prod12
open Cert.Kernel12Ideal Cert.Kernel12Ideal.Gen Cert.Kernel12Ideal.Value
open Attn.NormRef (entry)
variable (m : (ℓ : Loc nD τ sig) → Buf (Elt Ideal) ℓ) (c : Dev nD)

/-! ## The operands -/
/-- The context's rows as an array of numbers. -/
def arrC : Fin 256 → Fin 1024 → EReal := fun a b => m ((c : Thread nD τ).loc main_arg0) (ix2 a b)
/-- The latents' rows. -/
def arrX : Fin 2048 → Fin 1024 → EReal := fun a b => m ((c : Thread nD τ).loc main_arg1) (ix2 a b)
/-- The gain. -/
def arrG : Fin 1024 → EReal := fun b => m ((c : Thread nD τ).loc main_arg2) (ix1 b)
/-- The scales. -/
def arrS : Fin 2 → Fin 1024 → EReal := fun a b => m ((c : Thread nD τ).loc main_arg3) (ix2 a b)
/-- The shifts. -/
def arrT : Fin 2 → Fin 1024 → EReal := fun a b => m ((c : Thread nD τ).loc main_arg4) (ix2 a b)
/-- The projection's weights. -/
def arrW : Fin 1024 → Fin 1536 → EReal := fun a b => m ((c : Thread nD τ).loc main_arg5) (ix2 a b)
/-- All the rows, the context's first. -/
def arrA (a : Fin 2304) : Fin 1024 → EReal := if h : a.val < 256 then arrC m c ⟨a.val, h⟩ else arrX m c ⟨a.val - 256, by omega⟩
theorem entryC (a : Fin 256) (b : Fin 1024) : (show EReal from V m c main_arg0 (ix2 a b)) = arrC m c a b :=
  congrFun (V_main_arg0 m c) (ix2 a b)
theorem entryX (a : Fin 2048) (b : Fin 1024) : (show EReal from V m c main_arg1 (ix2 a b)) = arrX m c a b :=
  congrFun (V_main_arg1 m c) (ix2 a b)
theorem entryG (b : Fin 1024) : (show EReal from V m c main_v0 (ix3 0 0 b)) = arrG m c b := by
  show (show EReal from after hostOps0 (fun b => m (c, b)) main_v0 (ix3 0 0 b)) = _
  simp only
  repeat (after_reads_simp; pointwise)
  rfl
theorem entryS (a : Fin 2) (b : Fin 1024) : (show EReal from V m c main_v1 (ix3 a 0 b)) = arrS m c a b := by
  show (show EReal from after hostOps0 (fun b => m (c, b)) main_v1 (ix3 a 0 b)) = _
  simp only
  repeat (after_reads_simp; pointwise)
  rfl
theorem entryT (a : Fin 2) (b : Fin 1024) : (show EReal from V m c main_v2 (ix3 a 0 b)) = arrT m c a b := by
  show (show EReal from after hostOps0 (fun b => m (c, b)) main_v2 (ix3 a 0 b)) = _
  simp only
  repeat (after_reads_simp; pointwise)
  rfl
theorem entryW (a : Fin 1024) (b : Fin 1536) : (show EReal from V m c main_v3 (ix2 a b)) = arrW m c a b := by
  show (show EReal from after hostOps0 (fun b => m (c, b)) main_v3 (ix2 a b)) = _
  simp only
  repeat (after_reads_simp; pointwise)
  rfl

/-! ## The blocks' places -/
theorem index0 : ∀ t : Fin cfg0.N, win0_0.index t (0 : Fin 2) = 0 ∧ win0_0.index t (1 : Fin 2) = 0 :=
  (by decide +kernel : ∀ t : Fin grid0.N, _)
theorem index1 : ∀ t : Fin cfg0.N, win0_1.index t (0 : Fin 2) = t.val - 1 ∧ win0_1.index t (1 : Fin 2) = 0 :=
  (by decide +kernel : ∀ t : Fin grid0.N, _)
theorem index2 : ∀ t : Fin cfg0.N, win0_2.index t (0 : Fin 3) = 0 ∧ win0_2.index t (1 : Fin 3) = 0 ∧ win0_2.index t (2 : Fin 3) = 0 :=
  (by decide +kernel : ∀ t : Fin grid0.N, _)
theorem index3 : ∀ t : Fin cfg0.N, win0_3.index t (0 : Fin 3) = min t.val 1 ∧ win0_3.index t (1 : Fin 3) = 0 ∧ win0_3.index t (2 : Fin 3) = 0 :=
  (by decide +kernel : ∀ t : Fin grid0.N, _)
theorem index4 : ∀ t : Fin cfg0.N, win0_4.index t (0 : Fin 3) = min t.val 1 ∧ win0_4.index t (1 : Fin 3) = 0 ∧ win0_4.index t (2 : Fin 3) = 0 :=
  (by decide +kernel : ∀ t : Fin grid0.N, _)
theorem index5 : ∀ t : Fin cfg0.N, win0_5.index t (0 : Fin 2) = 0 ∧ win0_5.index t (1 : Fin 2) = 0 :=
  (by decide +kernel : ∀ t : Fin grid0.N, _)
theorem index6 : ∀ t : Fin cfg0.N, win0_6.index t (0 : Fin 2) = t.val ∧ win0_6.index t (1 : Fin 2) = 0 :=
  (by decide +kernel : ∀ t : Fin grid0.N, _)
theorem index7 : ∀ t : Fin cfg0.N, win0_7.index t (0 : Fin 2) = t.val ∧ win0_7.index t (1 : Fin 2) = 0 :=
  (by decide +kernel : ∀ t : Fin grid0.N, _)
theorem coord : ∀ t : Fin cfg0.N, (grid0.coords t (0 : Fin 1)).val = t.val := (by decide +kernel : ∀ t : Fin grid0.N, _)
theorem flush6 : ∀ t : Fin cfg0.N, (cfg0.win 6).flush t = true := (by decide +kernel : ∀ t : Fin grid0.N, _)
theorem flush7 : ∀ t : Fin cfg0.N, (cfg0.win 7).flush t = true := (by decide +kernel : ∀ t : Fin grid0.N, _)
/-- The row of the whole under row `a` of the block at `t`. -/
abbrev whole (t : Fin cfg0.N) (a : Fin 256) : Fin 2304 := ⟨256 * t.val + a.val, by have := t.isLt; have : cfg0.N = 9 := N_0; omega⟩
/-- The batch entry whose scale and shift the block at `t` takes. -/
abbrev batch (t : Fin cfg0.N) : Fin 2 := ⟨min t.val 1, by omega⟩
theorem place0 (t : Fin cfg0.N) (a : Fin 256) (b : Fin 1024) : ((cfg0.win 0).blk t).view.emb (ix2 a b) =
    (ix2 a b : (⟨2, ![256, 1024]⟩ : Shape).Idx) :=
  ProdBlocks.place (win0_0.index t (0 : Fin 2)) (win0_0.index t (1 : Fin 2)) _ a b rfl rfl _ _ (index0 t).1 (index0 t).2 _ _ (by simp) (by simp)
theorem place1 (t : Fin cfg0.N) (a : Fin 256) (b : Fin 1024) : ((cfg0.win 1).blk t).view.emb (ix2 a b) =
    (ix2 ⟨256 * (t.val - 1) + a.val, by have := t.isLt; have : cfg0.N = 9 := N_0; omega⟩ b : (⟨2, ![2048, 1024]⟩ : Shape).Idx) :=
  ProdBlocks.place (win0_1.index t (0 : Fin 2)) (win0_1.index t (1 : Fin 2)) _ a b rfl rfl _ _ (index1 t).1 (index1 t).2 _ _ (by simp) (by simp)
theorem place2 (t : Fin cfg0.N) (b : Fin 1024) : ((cfg0.win 2).blk t).view.emb (ix3 0 0 b) =
    (ix3 0 0 b : (⟨3, ![1, 1, 1024]⟩ : Shape).Idx) :=
  ProdBlocks.placeRow (win0_2.index t (0 : Fin 3)) (win0_2.index t (1 : Fin 3)) (win0_2.index t (2 : Fin 3)) _ b rfl rfl rfl _ (index2 t).1 (index2 t).2.1 (index2 t).2.2 _ rfl
theorem place3 (t : Fin cfg0.N) (b : Fin 1024) : ((cfg0.win 3).blk t).view.emb (ix3 0 0 b) =
    (ix3 (batch t) 0 b : (⟨3, ![2, 1, 1024]⟩ : Shape).Idx) :=
  ProdBlocks.placeRow (win0_3.index t (0 : Fin 3)) (win0_3.index t (1 : Fin 3)) (win0_3.index t (2 : Fin 3)) _ b rfl rfl rfl _ (index3 t).1 (index3 t).2.1 (index3 t).2.2 _ rfl
theorem place4 (t : Fin cfg0.N) (b : Fin 1024) : ((cfg0.win 4).blk t).view.emb (ix3 0 0 b) =
    (ix3 (batch t) 0 b : (⟨3, ![2, 1, 1024]⟩ : Shape).Idx) :=
  ProdBlocks.placeRow (win0_4.index t (0 : Fin 3)) (win0_4.index t (1 : Fin 3)) (win0_4.index t (2 : Fin 3)) _ b rfl rfl rfl _ (index4 t).1 (index4 t).2.1 (index4 t).2.2 _ rfl
theorem place5 (t : Fin cfg0.N) (a : Fin 1024) (b : Fin 1536) : ((cfg0.win 5).blk t).view.emb (ix2 a b) =
    (ix2 a b : (⟨2, ![1024, 1536]⟩ : Shape).Idx) :=
  ProdBlocks.place (win0_5.index t (0 : Fin 2)) (win0_5.index t (1 : Fin 2)) _ a b rfl rfl _ _ (index5 t).1 (index5 t).2 _ _ (by simp) (by simp)
theorem place6 (t : Fin cfg0.N) (a : Fin 256) (b : Fin 1024) : ((cfg0.win 6).blk t).view.emb (ix2 a b) =
    (ix2 (whole t a) b : (⟨2, ![2304, 1024]⟩ : Shape).Idx) :=
  ProdBlocks.place (win0_6.index t (0 : Fin 2)) (win0_6.index t (1 : Fin 2)) _ a b rfl rfl _ _ (index6 t).1 (index6 t).2 _ _ (by simp) (by simp)
theorem place7 (t : Fin cfg0.N) (a : Fin 256) (b : Fin 1536) : ((cfg0.win 7).blk t).view.emb (ix2 a b) =
    (ix2 (whole t a) b : (⟨2, ![2304, 1536]⟩ : Shape).Idx) :=
  ProdBlocks.place (win0_7.index t (0 : Fin 2)) (win0_7.index t (1 : Fin 2)) _ a b rfl rfl _ _ (index7 t).1 (index7 t).2 _ _ (by simp) (by simp)

theorem blk0 (t : Fin cfg0.N) (a : Fin 256) (b : Fin 1024) : (show EReal from iblk m c 0 t (ix2 a b)) = arrC m c a b := by
  have h := entryC m c
  unfold iblk
  generalize V m c (Pipeline.arrRef spec0 0) = A at h ⊢
  exact (congrArg A (place0 t a b)).trans (h _ _)
theorem blk1 (t : Fin cfg0.N) (a : Fin 256) (b : Fin 1024) : (show EReal from iblk m c 1 t (ix2 a b)) = arrX m c ⟨256 * (t.val - 1) + a.val, by have := t.isLt; have : cfg0.N = 9 := N_0; omega⟩ b := by
  have h := entryX m c
  unfold iblk
  generalize V m c (Pipeline.arrRef spec0 1) = A at h ⊢
  exact (congrArg A (place1 t a b)).trans (h _ _)
theorem blk2 (t : Fin cfg0.N) (b : Fin 1024) : (show EReal from iblk m c 2 t (ix3 0 0 b)) = arrG m c b := by
  have h := entryG m c
  unfold iblk
  generalize V m c (Pipeline.arrRef spec0 2) = A at h ⊢
  exact (congrArg A (place2 t b)).trans (h _)
theorem blk3 (t : Fin cfg0.N) (b : Fin 1024) : (show EReal from iblk m c 3 t (ix3 0 0 b)) = arrS m c (batch t) b := by
  have h := entryS m c
  unfold iblk
  generalize V m c (Pipeline.arrRef spec0 3) = A at h ⊢
  exact (congrArg A (place3 t b)).trans (h _ _)
theorem blk4 (t : Fin cfg0.N) (b : Fin 1024) : (show EReal from iblk m c 4 t (ix3 0 0 b)) = arrT m c (batch t) b := by
  have h := entryT m c
  unfold iblk
  generalize V m c (Pipeline.arrRef spec0 4) = A at h ⊢
  exact (congrArg A (place4 t b)).trans (h _ _)
theorem blk5 (t : Fin cfg0.N) (a : Fin 1024) (b : Fin 1536) : (show EReal from iblk m c 5 t (ix2 a b)) = arrW m c a b := by
  have h := entryW m c
  unfold iblk
  generalize V m c (Pipeline.arrRef spec0 5) = A at h ⊢
  exact (congrArg A (place5 t a b)).trans (h _ _)

/-! ## A grid point's rows -/
section
variable (i : grid0.Coords) (x0 x1 : Vec Ideal S256x1024 .f32) (x2 x3 x4 : Vec Ideal S1x1x1024 .f32) (x5 : Vec Ideal S1024x1536 .bf16)
/-- The first grid point's test. -/
theorem first (h : (i 0).val = 0) : Scalar.cmpi .slt (BitVec.ofNat 32 (i 0).val) 1#32 = 1#1 := by rw [h]; decide
/-- The others'. -/
theorem later (h : (i 0).val ≠ 0) : Scalar.cmpi .slt (BitVec.ofNat 32 (i 0).val) 1#32 = 0#1 := by
  have : ∀ n : Fin 9, n.val ≠ 0 → Scalar.cmpi .slt (BitVec.ofNat 32 n.val) 1#32 = 0#1 := by decide
  exact this (i 0) h
set_option maxHeartbeats 1000000 in
theorem payFirst (h : (i 0).val = 0) (a : Fin 256) (b : Fin 1024) : (show EReal from k0_pay1 i x0 x1 x2 x3 x4 (ix2 a b))
    = entry (fun n => x0 (ix2 a n)) (fun n => x2 (ix3 0 0 n)) (fun n => x3 (ix3 0 0 n)) (fun n => x4 (ix3 0 0 n)) b := by
  pointwise [k0_pay1, entry, first i h]
set_option maxHeartbeats 1000000 in
theorem payLater (h : (i 0).val ≠ 0) (a : Fin 256) (b : Fin 1024) : (show EReal from k0_pay1 i x0 x1 x2 x3 x4 (ix2 a b))
    = entry (fun n => x1 (ix2 a n)) (fun n => x2 (ix3 0 0 n)) (fun n => x3 (ix3 0 0 n)) (fun n => x4 (ix3 0 0 n)) b := by
  pointwise [k0_pay1, entry, later i h]
set_option maxHeartbeats 1000000 in
theorem payProj (a : Fin 256) (b : Fin 1536) : (show EReal from k0_pay2 i x0 x1 x2 x3 x4 x5 (ix2 a b))
    = ∑ n : Fin 1024, (show EReal from k0_pay1 i x0 x1 x2 x3 x4 (ix2 a n)) * (show EReal from x5 (ix2 n b)) := by
  pointwise [k0_pay2]
theorem outRows : out0_6 i x0 x1 x2 x3 x4 x5 = k0_pay1 i x0 x1 x2 x3 x4 := by
  have e0 : View.ld x0 (Rect.unit (s := S256x1024) ![0, 0] S256x1024.size inb_S256x1024_S256x1024_0_0) = x0 := View.ld_unit_lit _ x0 (by decide)
  have e1 : View.ld x1 (Rect.unit (s := S256x1024) ![0, 0] S256x1024.size inb_S256x1024_S256x1024_0_0) = x1 := View.ld_unit_lit _ x1 (by decide)
  have e2 : View.ld x2 (Rect.unit (s := S1x1x1024) ![0, 0, 0] S1x1x1024.size inb_S1x1x1024_S1x1x1024_0_0_0) = x2 := View.ld_unit_lit _ x2 (by decide)
  have e3 : View.ld x3 (Rect.unit (s := S1x1x1024) ![0, 0, 0] S1x1x1024.size inb_S1x1x1024_S1x1x1024_0_0_0) = x3 := View.ld_unit_lit _ x3 (by decide)
  have e4 : View.ld x4 (Rect.unit (s := S1x1x1024) ![0, 0, 0] S1x1x1024.size inb_S1x1x1024_S1x1x1024_0_0_0) = x4 := View.ld_unit_lit _ x4 (by decide)
  have h : out0_6 i x0 x1 x2 x3 x4 x5 = k0_pay1 i (View.ld x0 (Rect.unit (s := S256x1024) ![0, 0] S256x1024.size inb_S256x1024_S256x1024_0_0))
      (View.ld x1 (Rect.unit (s := S256x1024) ![0, 0] S256x1024.size inb_S256x1024_S256x1024_0_0))
      (View.ld x2 (Rect.unit (s := S1x1x1024) ![0, 0, 0] S1x1x1024.size inb_S1x1x1024_S1x1x1024_0_0_0))
      (View.ld x3 (Rect.unit (s := S1x1x1024) ![0, 0, 0] S1x1x1024.size inb_S1x1x1024_S1x1x1024_0_0_0))
      (View.ld x4 (Rect.unit (s := S1x1x1024) ![0, 0, 0] S1x1x1024.size inb_S1x1x1024_S1x1x1024_0_0_0)) := View.canon_cons_unit_lit _ _ [] (by decide)
  rw [h, e0, e1, e2, e3, e4]
theorem outProj : out0_7 i x0 x1 x2 x3 x4 x5 = k0_pay2 i x0 x1 x2 x3 x4 x5 := by
  have e0 : View.ld x0 (Rect.unit (s := S256x1024) ![0, 0] S256x1024.size inb_S256x1024_S256x1024_0_0) = x0 := View.ld_unit_lit _ x0 (by decide)
  have e1 : View.ld x1 (Rect.unit (s := S256x1024) ![0, 0] S256x1024.size inb_S256x1024_S256x1024_0_0) = x1 := View.ld_unit_lit _ x1 (by decide)
  have e2 : View.ld x2 (Rect.unit (s := S1x1x1024) ![0, 0, 0] S1x1x1024.size inb_S1x1x1024_S1x1x1024_0_0_0) = x2 := View.ld_unit_lit _ x2 (by decide)
  have e3 : View.ld x3 (Rect.unit (s := S1x1x1024) ![0, 0, 0] S1x1x1024.size inb_S1x1x1024_S1x1x1024_0_0_0) = x3 := View.ld_unit_lit _ x3 (by decide)
  have e4 : View.ld x4 (Rect.unit (s := S1x1x1024) ![0, 0, 0] S1x1x1024.size inb_S1x1x1024_S1x1x1024_0_0_0) = x4 := View.ld_unit_lit _ x4 (by decide)
  have e5 : View.ld x5 (Rect.unit (s := S1024x1536) ![0, 0] S1024x1536.size inb_S1024x1536_S1024x1536_0_0) = x5 := View.ld_unit_lit _ x5 (by decide)
  have h : out0_7 i x0 x1 x2 x3 x4 x5 = k0_pay2 i (View.ld x0 (Rect.unit (s := S256x1024) ![0, 0] S256x1024.size inb_S256x1024_S256x1024_0_0))
      (View.ld x1 (Rect.unit (s := S256x1024) ![0, 0] S256x1024.size inb_S256x1024_S256x1024_0_0))
      (View.ld x2 (Rect.unit (s := S1x1x1024) ![0, 0, 0] S1x1x1024.size inb_S1x1x1024_S1x1x1024_0_0_0))
      (View.ld x3 (Rect.unit (s := S1x1x1024) ![0, 0, 0] S1x1x1024.size inb_S1x1x1024_S1x1x1024_0_0_0))
      (View.ld x4 (Rect.unit (s := S1x1x1024) ![0, 0, 0] S1x1x1024.size inb_S1x1x1024_S1x1x1024_0_0_0))
      (View.ld x5 (Rect.unit (s := S1024x1536) ![0, 0] S1024x1536.size inb_S1024x1536_S1024x1536_0_0)) := View.canon_cons_unit_lit _ _ [] (by decide)
  rw [h, e0, e1, e2, e3, e4, e5]
end

/-- The payload's rows at a grid point, in the arguments' own numbers. -/
theorem eachRows (t : Fin cfg0.N) (a : Fin 256) (b : Fin 1024) :
    (show EReal from k0_pay1 (grid0.coords t) (iblk m c 0 t) (iblk m c 1 t) (iblk m c 2 t) (iblk m c 3 t) (iblk m c 4 t) (ix2 a b))
      = entry (arrA m c (whole t a)) (arrG m c) (arrS m c (batch t)) (arrT m c (batch t)) b := by
  have q2 : (fun n => iblk m c 2 t (ix3 0 0 n)) = arrG m c := funext fun n => blk2 m c t n
  have q3 : (fun n => iblk m c 3 t (ix3 0 0 n)) = arrS m c (batch t) := funext fun n => blk3 m c t n
  have q4 : (fun n => iblk m c 4 t (ix3 0 0 n)) = arrT m c (batch t) := funext fun n => blk4 m c t n
  by_cases ht : t.val = 0
  · have q0 : (fun n => iblk m c 0 t (ix2 a n)) = arrA m c (whole t a) := by
      have hw : (whole t a).val < 256 := by show 256 * t.val + a.val < 256; omega
      unfold arrA
      rw [dif_pos hw]
      have q : (⟨(whole t a).val, hw⟩ : Fin 256) = a := Fin.ext (by show 256 * t.val + a.val = a.val; omega)
      rw [q]
      exact funext fun n => blk0 m c t a n
    refine (payFirst (grid0.coords t) (iblk m c 0 t) (iblk m c 1 t) (iblk m c 2 t) (iblk m c 3 t) (iblk m c 4 t) ((coord t).trans ht) a b).trans ?_
    exact congr (congrFun (congr (congr (congrArg entry q0) q2) q3) _ |>.trans (congrArg _ q4)) rfl
  · have q1 : (fun n => iblk m c 1 t (ix2 a n)) = arrA m c (whole t a) := by
      have hw : ¬(whole t a).val < 256 := by show ¬256 * t.val + a.val < 256; omega
      unfold arrA
      rw [dif_neg hw]
      have q : (⟨(whole t a).val - 256, by have := (whole t a).isLt; omega⟩ : Fin 2048) = ⟨256 * (t.val - 1) + a.val, by have := t.isLt; have : cfg0.N = 9 := N_0; omega⟩ :=
        Fin.ext (by show 256 * t.val + a.val - 256 = 256 * (t.val - 1) + a.val; omega)
      rw [q]
      exact funext fun n => blk1 m c t a n
    refine (payLater (grid0.coords t) (iblk m c 0 t) (iblk m c 1 t) (iblk m c 2 t) (iblk m c 3 t) (iblk m c 4 t) (fun h => ht ((coord t).symm.trans h)) a b).trans ?_
    exact congr (congrFun (congr (congr (congrArg entry q1) q2) q3) _ |>.trans (congrArg _ q4)) rfl

/-- The point whose block holds row `a`, and its row of the block. -/
abbrev point (a : Fin 2304) : Fin cfg0.N := ⟨a.val / 256, by have : cfg0.N = 9 := N_0; omega⟩
theorem whole_point (a : Fin 2304) : whole (point a) ⟨a.val % 256, by omega⟩ = a := Fin.ext (by show 256 * (a.val / 256) + a.val % 256 = a.val; omega)
/-- An entry of the rows the call leaves. -/
theorem valRows (a : Fin 2304) (b : Fin 1024) : (show EReal from (dats m 0 c).arrAt 6 cfg0.N (ix2 a b))
    = entry (arrA m c a) (arrG m c) (arrS m c (batch (point a))) (arrT m c (batch (point a))) b := by
  have h := congrFun (blocks6 m c (point a) (flush6 _)) (ix2 ⟨a.val % 256, by omega⟩ b)
  rw [flushed6, outRows] at h
  have hp := place6 (point a) ⟨a.val % 256, by omega⟩ b
  have e := eachRows m c (point a) ⟨a.val % 256, by omega⟩ b
  rw [whole_point] at hp e
  exact (congrArg ((dats m 0 c).arrAt 6 cfg0.N) hp).symm.trans (h.trans e)
/-- An entry of the projection the call leaves. -/
theorem valProj (a : Fin 2304) (b : Fin 1536) : (show EReal from (dats m 0 c).arrAt 7 cfg0.N (ix2 a b))
    = ∑ n : Fin 1024, entry (arrA m c a) (arrG m c) (arrS m c (batch (point a))) (arrT m c (batch (point a))) n * arrW m c n b := by
  have h := congrFun (blocks7 m c (point a) (flush7 _)) (ix2 ⟨a.val % 256, by omega⟩ b)
  rw [flushed7, outProj] at h
  have hp := place7 (point a) ⟨a.val % 256, by omega⟩ b
  have e := fun n => eachRows m c (point a) ⟨a.val % 256, by omega⟩ n
  rw [whole_point] at hp
  simp only [whole_point] at e
  refine (congrArg ((dats m 0 c).arrAt 7 cfg0.N) hp).symm.trans (h.trans ((payProj (grid0.coords (point a)) (iblk m c 0 (point a)) (iblk m c 1 (point a)) (iblk m c 2 (point a)) (iblk m c 3 (point a)) (iblk m c 4 (point a)) (iblk m c 5 (point a)) _ b).trans ?_))
  refine Finset.sum_congr rfl fun n _ => ?_
  rw [blk5]
  exact congrArg (· * _) (e n)

/-! ## The reference -/
section
open Cert.Reference12Ideal Cert.Reference12Ideal.Gen
variable (x0 : FVec Ideal Cert.Reference12Ideal.S256x1024 .f32) (x1 : FVec Ideal Cert.Reference12Ideal.S2048x1024 .f32)
  (x2 : FVec Ideal Cert.Reference12Ideal.S1024 .f32) (x3 x4 : FVec Ideal Cert.Reference12Ideal.S2x1024 .f32)
  (x5 : FVec Ideal Cert.Reference12Ideal.S1024x1536 .f32)
/-- The reference's projection as a function of its arguments. -/
def refProj : FVec Ideal Cert.Reference12Ideal.S2304x1536 .f32 :=
  Host.dotGeneral Cert.Reference12Ideal.dot_S2304x1024_S1024x1536_S2304x1536_1_0_0_1_n_n none (NormRef.rows x2 x3 x4 x0 x1) x5
/-- All the rows of two arrays of numbers. -/
def both (p : Fin 256 → Fin 1024 → EReal) (q : Fin 2048 → Fin 1024 → EReal) (a : Fin 2304) : Fin 1024 → EReal :=
  if h : a.val < 256 then p ⟨a.val, h⟩ else q ⟨a.val - 256, by omega⟩
theorem refRows_at (a : Fin 2304) (b : Fin 1024) : (show EReal from NormRef.rows x2 x3 x4 x0 x1 (ix2 a b))
    = entry (both (fun a n => x0 (ix2 a n)) (fun a n => x1 (ix2 a n)) a) (fun n => x2 (ix1 n)) (fun n => x3 (ix2 (batch (point a)) n)) (fun n => x4 (ix2 (batch (point a)) n)) b := by
  rcases lt_or_ge a.val 256 with h | h
  · have q : batch (point a) = 0 := Fin.ext (by show min (a.val / 256) 1 = 0; omega)
    rw [q]
    refine (NormRef.rows_ctx x2 x3 x4 _ _ a b h).trans ?_
    refine congrArg (fun f => entry f _ _ _ b) ?_
    unfold both
    rw [dif_pos h]
  · have q : batch (point a) = 1 := Fin.ext (by show min (a.val / 256) 1 = 1; omega)
    rw [q]
    refine (NormRef.rows_lat x2 x3 x4 _ _ a b h).trans ?_
    refine congrArg (fun f => entry f _ _ _ b) ?_
    unfold both
    rw [dif_neg (by omega)]
theorem refProj_at (a : Fin 2304) (b : Fin 1536) : (show EReal from refProj x0 x1 x2 x3 x4 x5 (ix2 a b))
    = ∑ n : Fin 1024, (show EReal from NormRef.rows x2 x3 x4 x0 x1 (ix2 a n)) * (show EReal from x5 (ix2 n b)) := by
  pointwise [refProj]
end

/-- The reference's host lines end, with the arguments as they were. -/
theorem frameRef : Cert.quiescent_Reference12Ideal (hReference12Ideal := Cert.Reference12Ideal.Gen.facts) := by
  intro m g _
  exact (θ_run _ _ _).mono (fun r h => ⟨fun c => (h c).2.2, sem_eq_zero_of_no_sems (by decide) r.2⟩)
    (Cert.Reference12Ideal.Value.run m g)

set_option maxHeartbeats 1000000 in
/-- The call and its reference leave the same two arrays. -/
theorem algebraic : Cert.algebraic_Kernel12Ideal_Reference12Ideal (hKernel12Ideal := Cert.Kernel12Ideal.Gen.facts) (hReference12Ideal := Cert.Reference12Ideal.Gen.facts) := by
  intro m g m' g' _ hag
  refine ⟨fun c => (dats m 0 c).arrAt 6 cfg0.N, fun c => (dats m 0 c).arrAt 7 cfg0.N, Cert.Kernel12Ideal.Value.run_blocks m g, ?_⟩
  refine (θ_run _ _ _).mono ?_ (Cert.Reference12Ideal.Value.run m' g')
  intro r h c
  obtain ⟨h0, h1, ha⟩ := h c
  obtain ⟨e0, e1, e2, e3, e4, e5⟩ := hag c
  refine ⟨h0.trans ?_, h1.trans ?_, ha⟩
  · funext i
    obtain ⟨a, b, rfl⟩ := ProdBlocks.coords2 i
    refine Eq.trans ?_ (valRows m c a b).symm
    refine (refRows_at (m' ((c.tc : Thread Cert.Reference12Ideal.nD Cert.Reference12Ideal.τ).loc Cert.Reference12Ideal.main_arg0)) (m' ((c.tc : Thread Cert.Reference12Ideal.nD Cert.Reference12Ideal.τ).loc Cert.Reference12Ideal.main_arg1)) (m' ((c.tc : Thread Cert.Reference12Ideal.nD Cert.Reference12Ideal.τ).loc Cert.Reference12Ideal.main_arg2)) (m' ((c.tc : Thread Cert.Reference12Ideal.nD Cert.Reference12Ideal.τ).loc Cert.Reference12Ideal.main_arg3)) (m' ((c.tc : Thread Cert.Reference12Ideal.nD Cert.Reference12Ideal.τ).loc Cert.Reference12Ideal.main_arg4)) a b).trans ?_
    rw [e0, e1, e2, e3, e4]
    rfl
  · funext i
    obtain ⟨a, b, rfl⟩ := ProdBlocks.coords2 i
    refine Eq.trans ?_ (valProj m c a b).symm
    refine (refProj_at (m' ((c.tc : Thread Cert.Reference12Ideal.nD Cert.Reference12Ideal.τ).loc Cert.Reference12Ideal.main_arg0)) (m' ((c.tc : Thread Cert.Reference12Ideal.nD Cert.Reference12Ideal.τ).loc Cert.Reference12Ideal.main_arg1)) (m' ((c.tc : Thread Cert.Reference12Ideal.nD Cert.Reference12Ideal.τ).loc Cert.Reference12Ideal.main_arg2)) (m' ((c.tc : Thread Cert.Reference12Ideal.nD Cert.Reference12Ideal.τ).loc Cert.Reference12Ideal.main_arg3)) (m' ((c.tc : Thread Cert.Reference12Ideal.nD Cert.Reference12Ideal.τ).loc Cert.Reference12Ideal.main_arg4)) (m' ((c.tc : Thread Cert.Reference12Ideal.nD Cert.Reference12Ideal.τ).loc Cert.Reference12Ideal.main_arg5)) a b).trans ?_
    refine Finset.sum_congr rfl fun n _ => ?_
    rw [refRows_at, e0, e1, e2, e3, e4, e5]
    rfl

end Attn.Prod12
-- ==== Proof.TailRow.lean ====
/-
  One row of the layer's tail and of its gradient: every number of a row depends on that row of the activations alone, so
  the call's blocks and the reference's whole arrays are both read through these functions.
-/
module

public import Idealize.ShloMosaic.Lib.Pointwise

@[expose] public section

noncomputable section
open Idealize.ShloMosaic

namespace Attn.Tail

/-- A row of the scan's output, of the branch, of the gate's argument, of the residual and of the target, with the vectors
    and matrices of the tail. -/
structure Row where
  /-- the scan's output -/
  y : Fin 1024 → EReal
  /-- the branch -/
  u : Fin 1024 → EReal
  /-- the gate's argument -/
  z : Fin 1024 → EReal
  /-- the residual -/
  x : Fin 1024 → EReal
  /-- the target -/
  t : Fin 1024 → EReal
  /-- the branch's weights -/
  d : Fin 1024 → EReal
  /-- the sigmoid's bias -/
  b : Fin 1024 → EReal
  /-- the residual's gate -/
  g : Fin 1024 → EReal
  /-- the last gain -/
  f : Fin 1024 → EReal
  /-- the sigmoid's matrix -/
  wg : Fin 1024 → Fin 1024 → EReal
  /-- the output's matrix -/
  wo : Fin 1024 → Fin 1024 → EReal

namespace Row
variable (r : Row)
def pre (n : Fin 1024) : EReal := r.y n + r.d n * r.u n
def th (n : Fin 1024) : EReal :=
  Ideal.tanh (Ideal.ofBits FTy.f32 0x3F4C422A#32 * (r.pre n + Ideal.ofBits FTy.f32 0x3D372713#32 * (r.pre n * r.pre n * r.pre n)))
def up (n : Fin 1024) : EReal := Ideal.ofBits FTy.f32 0x3F000000#32 * (1 + r.th n)
def act (n : Fin 1024) : EReal := r.pre n * r.up n
def gl (n : Fin 1024) : EReal := (∑ k, r.act k * r.wg k n) + r.b n
def sg (n : Fin 1024) : EReal := Ideal.div 1 (1 + Ideal.exp (-r.gl n))
def half (n : Fin 1024) : EReal := r.act n * r.sg n
def sz (n : Fin 1024) : EReal := Ideal.div 1 (1 + Ideal.exp (-r.z n))
def zz (n : Fin 1024) : EReal := r.z n * r.sz n
def og (n : Fin 1024) : EReal := r.half n * r.zz n
def out (n : Fin 1024) : EReal := ∑ k, r.og k * r.wo k n
def x2 (n : Fin 1024) : EReal := r.x n + r.g n * r.out n
def ms : EReal := Ideal.div (∑ n, r.x2 n * r.x2 n) (Ideal.ofBits FTy.f32 0x44800000#32) + Ideal.ofBits FTy.f32 0x358637BD#32
def rs : EReal := Ideal.rsqrt r.ms
def nm (n : Fin 1024) : EReal := r.x2 n * r.rs
def er (n : Fin 1024) : EReal := r.nm n * r.f n - r.t n
def ct (n : Fin 1024) : EReal :=
  Ideal.div (Ideal.ofBits FTy.f32 0x3F000000#32) (Ideal.ofBits FTy.f32 0x44800000#32) * (Ideal.ofBits FTy.f32 0x40000000#32 * r.er n)
def cf (n : Fin 1024) : EReal := r.ct n * r.f n
def co : EReal :=
  Ideal.div ((∑ n, r.x2 n * r.cf n) * (Ideal.ofBits FTy.f32 0xBF000000#32 * Ideal.div r.rs r.ms)) (Ideal.ofBits FTy.f32 0x44800000#32)
def dx (n : Fin 1024) : EReal := r.cf n * r.rs + r.x2 n * r.co + r.co * r.x2 n
def dh (n : Fin 1024) : EReal := r.g n * r.dx n
def d3 (n : Fin 1024) : EReal := ∑ k, r.dh k * r.wo n k
def dm (n : Fin 1024) : EReal := r.half n * r.d3 n
def dz (n : Fin 1024) : EReal := r.dm n * r.sz n + r.z n * r.dm n * (r.sz n * (1 - r.sz n))
def dq (n : Fin 1024) : EReal := r.d3 n * r.zz n
def dgl (n : Fin 1024) : EReal := r.act n * r.dq n * (r.sg n * (1 - r.sg n))
def da (n : Fin 1024) : EReal := r.dq n * r.sg n + ∑ k, r.dgl k * r.wg n k
def dt (n : Fin 1024) : EReal :=
  Ideal.ofBits FTy.f32 0x3F4C422A#32 * (Ideal.ofBits FTy.f32 0x3F000000#32 * (r.pre n * r.da n) * ((1 + r.th n) * (1 - r.th n)))
def dy (n : Fin 1024) : EReal :=
  r.da n * r.up n + r.dt n + Ideal.ofBits FTy.f32 0x3D372713#32 * r.dt n * (Ideal.ofBits FTy.f32 0x40400000#32 * (r.pre n * r.pre n))
def du (n : Fin 1024) : EReal := r.d n * r.dy n
/-- The hyperbolic tangents the call computes its sigmoids from. -/
def tg (n : Fin 1024) : EReal := Ideal.tanh (Ideal.ofBits FTy.f32 0x3F000000#32 * r.gl n)
@[inherit_doc tg] def tz (n : Fin 1024) : EReal := Ideal.tanh (Ideal.ofBits FTy.f32 0x3F000000#32 * r.z n)
end Row

/-! ## Numbers -/
theorem half_eq : Ideal.ofBits FTy.f32 0x3F000000#32 = ((1 / 2 : ℝ) : EReal) := by
  simp [Ideal.ofBits, Ideal.ieee]; rw [← EReal.coe_mul]; norm_num
theorem two_eq : Ideal.ofBits FTy.f32 0x40000000#32 = ((2 : ℝ) : EReal) := by
  simp [Ideal.ofBits, Ideal.ieee]; rw [← EReal.coe_mul]; norm_num
theorem three_eq : Ideal.ofBits FTy.f32 0x40400000#32 = ((3 : ℝ) : EReal) := by
  simp [Ideal.ofBits, Ideal.ieee]; rw [← EReal.coe_mul]; norm_num
theorem lanes_eq : Ideal.ofBits FTy.f32 0x44800000#32 = ((1024 : ℝ) : EReal) := by
  simp [Ideal.ofBits, Ideal.ieee]; rw [← EReal.coe_mul]; norm_num
theorem share_eq : Ideal.ofBits FTy.f32 0x3A800000#32 = ((1 / 1024 : ℝ) : EReal) := by
  simp [Ideal.ofBits, Ideal.ieee]; rw [← EReal.coe_mul]; norm_num
theorem one_eq : (1 : EReal) = ((1 : ℝ) : EReal) := rfl

/-- Halving. -/
theorem half_top : ((1 / 2 : ℝ) : EReal) * ⊤ = ⊤ := EReal.coe_mul_top_of_pos (by norm_num)
theorem half_bot : ((1 / 2 : ℝ) : EReal) * ⊥ = ⊥ := EReal.coe_mul_bot_of_pos (by norm_num)

/-- A real sigmoid from a hyperbolic tangent. -/
theorem sigmoid_real (x : ℝ) : 1 / 2 * (Real.tanh (1 / 2 * x) + 1) = 1 / (1 + Real.exp (-x)) := by
  have hp := Real.exp_pos (1 / 2 * x)
  have hn := Real.exp_pos (-(1 / 2 * x))
  have e : Real.exp (-x) = Real.exp (-(1 / 2 * x)) * Real.exp (-(1 / 2 * x)) := by rw [← Real.exp_add]; congr 1; ring
  have o : Real.exp (1 / 2 * x) * Real.exp (-(1 / 2 * x)) = 1 := by rw [← Real.exp_add]; simp
  rw [Real.tanh_eq_sinh_div_cosh, Real.sinh_eq, Real.cosh_eq, e]
  generalize Real.exp (1 / 2 * x) = p at *
  generalize Real.exp (-(1 / 2 * x)) = q at *
  have h1 : p + q ≠ 0 := by positivity
  have h2 : 1 + q * q ≠ 0 := by positivity
  field_simp
  linear_combination (2 * q) * o

/-- A sigmoid as the call computes it, from a hyperbolic tangent, is the sigmoid. -/
theorem sigmoid (x : EReal) : Ideal.ofBits FTy.f32 0x3F000000#32 * (Ideal.tanh (Ideal.ofBits FTy.f32 0x3F000000#32 * x) + 1)
    = Ideal.div 1 (1 + Ideal.exp (-x)) := by
  rw [half_eq]
  induction x using EReal.rec with
  | bot =>
    rw [half_bot, Ideal.tanh_bot, EReal.neg_bot, Ideal.exp_top, one_eq, EReal.coe_add_top]
    unfold Ideal.div
    rw [if_neg EReal.top_ne_zero, EReal.inv_top, mul_zero]
    norm_cast
    norm_num
  | top =>
    rw [half_top, Ideal.tanh_top, EReal.neg_top, Ideal.exp_bot, add_zero, one_eq, Ideal.div_coe one_ne_zero]
    norm_cast
    norm_num
  | coe x =>
    have h : (1 + Real.exp (-x)) ≠ 0 := by have := Real.exp_pos (-x); positivity
    rw [← EReal.coe_mul, Ideal.tanh_coe, ← EReal.coe_neg, Ideal.exp_coe, one_eq, ← EReal.coe_add, ← EReal.coe_add, ← EReal.coe_mul,
      Ideal.div_coe h, ← EReal.coe_mul, one_mul, sigmoid_real]

/-- The sigmoid's derivative likewise. -/
theorem slope (x : EReal) : Ideal.div 1 (1 + Ideal.exp (-x)) * (1 - Ideal.div 1 (1 + Ideal.exp (-x)))
    = Ideal.ofBits FTy.f32 0x3F000000#32 * (Ideal.ofBits FTy.f32 0x3F000000#32
      * ((1 + Ideal.tanh (Ideal.ofBits FTy.f32 0x3F000000#32 * x)) * (1 - Ideal.tanh (Ideal.ofBits FTy.f32 0x3F000000#32 * x)))) := by
  rw [← sigmoid, half_eq]
  obtain ⟨q, hq⟩ : ∃ q : ℝ, Ideal.tanh (((1 / 2 : ℝ) : EReal) * x) = (q : EReal) := by
    generalize ((1 / 2 : ℝ) : EReal) * x = y
    induction y using EReal.rec with
    | bot => exact ⟨-1, Ideal.tanh_bot.trans (by rw [EReal.coe_neg]; rfl)⟩
    | top => exact ⟨1, Ideal.tanh_top⟩
    | coe y => exact ⟨_, Ideal.tanh_coe y⟩
  rw [hq, one_eq]
  norm_cast
  ring

theorem twice (x : EReal) : x + x = ((2 : ℝ) : EReal) * x := by
  have h : ((2 : ℝ) : EReal) = 1 + 1 := by rw [one_eq, ← EReal.coe_add]; norm_num
  rw [h, EReal.right_distrib_of_nonneg (by norm_num) (by norm_num), one_mul]
theorem thrice (x : EReal) : x + x + x = ((3 : ℝ) : EReal) * x := by
  have h : ((3 : ℝ) : EReal) = 2 + 1 := by
    have : (2 : EReal) = ((2 : ℝ) : EReal) := rfl
    rw [this, one_eq, ← EReal.coe_add]; norm_num
  have h2 : (2 : EReal) = ((2 : ℝ) : EReal) := rfl
  rw [h, EReal.right_distrib_of_nonneg (by norm_num) (by norm_num), one_mul, h2, ← twice]

/-- The loss's cotangent. -/
theorem cotangent (e : EReal) : e * (Ideal.ofBits FTy.f32 0x3F000000#32 * Ideal.ofBits FTy.f32 0x3A800000#32)
      + Ideal.ofBits FTy.f32 0x3F000000#32 * Ideal.ofBits FTy.f32 0x3A800000#32 * e
    = Ideal.div (Ideal.ofBits FTy.f32 0x3F000000#32) (Ideal.ofBits FTy.f32 0x44800000#32) * (Ideal.ofBits FTy.f32 0x40000000#32 * e) := by
  have h : ∀ p q : ℝ, (p : EReal) * ((q : EReal) * e) = ((p * q : ℝ) : EReal) * e := fun p q => by rw [EReal.coe_mul, mul_assoc]
  rw [half_eq, share_eq, lanes_eq, two_eq, Ideal.div_coe (by norm_num : (1024 : ℝ) ≠ 0), mul_comm e, twice]
  simp only [← EReal.coe_mul, h]
  congr 2
  ring

/-- The scan's gradient as the call adds it up. -/
theorem cubic (q w s v : EReal) : v + q * q * w + q * (w * q) + w * q * q + s = s + v + w * (Ideal.ofBits FTy.f32 0x40400000#32 * (q * q)) := by
  have e : w * (((3 : ℝ) : EReal) * (q * q)) = q * q * w + q * (w * q) + w * q * q := by
    rw [mul_left_comm, ← thrice]
    congr 1
    · congr 1
      · exact mul_comm _ _
      · rw [mul_comm w, mul_assoc, mul_comm w]
    · rw [mul_assoc]
  rw [three_eq, e]
  ac_rfl

end Attn.Tail
-- ==== Proof.TailBody.lean ====
/-
  One grid point of the tail's call: what its payloads hold at a row of the block and a lane, and what they add to the running sums.
-/
module

public import proofs.«01_k».proof.Defs
public import proofs.«01_k».proof.Proof.TailRow
public import proofs.«01_k».proof.Proof.Gen.Kernel13Ideal.Skeleton

@[expose] public section

set_option maxRecDepth 16384
noncomputable section
open Idealize.ShloMosaic Idealize.ShloMosaic.TcCoe Idealize.SL.Sem
namespace Attn.TailBody
open Attn.Tail
open Cert.Kernel13Ideal Cert.Kernel13Ideal.Gen

/-- A grid point's eleven blocks. -/
structure Inp where
  x0 : Vec Ideal S256x1024 .f32
  x1 : Vec Ideal S256x1024 .f32
  x2 : Vec Ideal S256x1024 .f32
  x3 : Vec Ideal S256x1024 .f32
  x4 : Vec Ideal S256x1024 .f32
  x5 : Vec Ideal S1x1024 .f32
  x6 : Vec Ideal S1x1024 .f32
  x7 : Vec Ideal S1x1024 .f32
  x8 : Vec Ideal S1x1024 .f32
  x9 : Vec Ideal S1024x1024 .bf16
  x10 : Vec Ideal S1024x1024 .bf16

/-- The blocks hold the rows `R`. -/
structure Held (X : Inp) (R : Fin 256 → Row) : Prop where
  y : ∀ a n, (show EReal from X.x0 (ix2 a n)) = (R a).y n
  u : ∀ a n, (show EReal from X.x1 (ix2 a n)) = (R a).u n
  z : ∀ a n, (show EReal from X.x2 (ix2 a n)) = (R a).z n
  x : ∀ a n, (show EReal from X.x3 (ix2 a n)) = (R a).x n
  t : ∀ a n, (show EReal from X.x4 (ix2 a n)) = (R a).t n
  d : ∀ a e n, (show EReal from X.x5 (ix2 e n)) = (R a).d n
  b : ∀ a e n, (show EReal from X.x6 (ix2 e n)) = (R a).b n
  g : ∀ a e n, (show EReal from X.x7 (ix2 e n)) = (R a).g n
  f : ∀ a e n, (show EReal from X.x8 (ix2 e n)) = (R a).f n
  wg : ∀ a k n, (show EReal from X.x9 (ix2 k n)) = (R a).wg k n
  wo : ∀ a k n, (show EReal from X.x10 (ix2 k n)) = (R a).wo k n

variable (X : Inp) (R : Fin 256 → Row)
/-- The constant the products start from. -/
abbrev nil : FVec Ideal S256x1024 .f32 := constant S256x1024 .f32 0x00000000#32
/-- A value of the grid point's body. -/
def v7 : FVec Ideal S1x1024 .f32 := k0_pay11 X.x7
/-- A value of the grid point's body. -/
def v10 : FVec Ideal S1x1024 .f32 := k0_pay12 X.x5
/-- A value of the grid point's body. -/
def v13 : FVec Ideal S256x1024 .f32 := k0_pay13 X.x1 X.x0 X.x5
/-- A value of the grid point's body. -/
def v15 : FVec Ideal S256x1024 .f32 := k0_pay14 X.x1 X.x0 X.x5
/-- A value of the grid point's body. -/
def v16 : FVec Ideal S256x1024 .f32 := k0_pay15 X.x1 X.x0 X.x5
/-- A value of the grid point's body. -/
def v23 : FVec Ideal S256x1024 .f32 := k0_pay16 X.x1 X.x0 X.x5
/-- A value of the grid point's body. -/
def v28 : FVec Ideal S256x1024 .f32 := k0_pay17 X.x1 X.x0 X.x5
/-- A value of the grid point's body. -/
def v30 : FVec Ideal S256x1024 .f32 := k0_pay18 X.x1 X.x0 X.x5
/-- A value of the grid point's body. -/
def v31 : FVec Ideal S256x1024 .f32 := k0_pay19 X.x1 X.x0 X.x5
/-- A value of the grid point's body. -/
def v32 : FVec Ideal S256x1024 .bf16 := k0_pay20 X.x1 X.x0 X.x5
/-- A value of the grid point's body. -/
def v34 : FVec Ideal S1024x1024 .bf16 := k0_pay21 X.x9
/-- A value of the grid point's body. -/
def v42 : FVec Ideal S256x1024 .f32 := k0_pay22 (v32 X) (v34 X) nil X.x6
/-- A value of the grid point's body. -/
def v47 : FVec Ideal S256x1024 .f32 := k0_pay23 (v32 X) (v34 X) nil X.x6
/-- A value of the grid point's body. -/
def v51 : FVec Ideal S256x1024 .f32 := k0_pay24 (v32 X) (v34 X) nil X.x6
/-- A value of the grid point's body. -/
def v52 : FVec Ideal S256x1024 .f32 := k0_pay25 (v31 X) (v32 X) (v34 X) nil X.x6
/-- A value of the grid point's body. -/
def v55 : FVec Ideal S256x1024 .f32 := k0_pay26 X.x2
/-- A value of the grid point's body. -/
def v60 : FVec Ideal S256x1024 .f32 := k0_pay27 X.x2
/-- A value of the grid point's body. -/
def v64 : FVec Ideal S256x1024 .f32 := k0_pay28 X.x2
/-- A value of the grid point's body. -/
def v65 : FVec Ideal S256x1024 .f32 := k0_pay29 X.x2
/-- A value of the grid point's body. -/
def v67 : FVec Ideal S256x1024 .bf16 := k0_pay30 X.x2 (v31 X) (v32 X) (v34 X) nil X.x6
/-- A value of the grid point's body. -/
def v70 : FVec Ideal S256x1024 .f32 := k0_pay31 X.x2 (v31 X) (v32 X) (v34 X) nil X.x6 X.x10
/-- A value of the grid point's body. -/
def v74 : FVec Ideal S256x1024 .f32 := k0_pay32 X.x2 (v7 X) (v31 X) (v32 X) (v34 X) nil X.x6 X.x10 X.x3
/-- A value of the grid point's body. -/
def v83 : FVec Ideal S256x1 .f32 := k0_pay34 (v74 X)
/-- A value of the grid point's body. -/
def v84 : FVec Ideal S256x1 .f32 := k0_pay35 (v74 X)
/-- A value of the grid point's body. -/
def v89 : FVec Ideal S256x1024 .f32 := k0_pay36 (v74 X)
/-- A value of the grid point's body. -/
def v92 : FVec Ideal S256x1024 .f32 := k0_pay37 X.x4 (v74 X) X.x8
/-- A value of the grid point's body. -/
def v105 : FVec Ideal S256x1024 .f32 := k0_pay39 X.x4 (v74 X) X.x8
/-- A value of the grid point's body. -/
def v108 : FVec Ideal S1x1024 .f32 := k0_pay40 X.x4 (v74 X) X.x8
/-- A value of the grid point's body. -/
def v110 : FVec Ideal S256x1024 .f32 := k0_pay41 X.x4 (v74 X) X.x8
/-- A value of the grid point's body. -/
def v115 : FVec Ideal S256x1024 .f32 := k0_pay42 X.x4 (v74 X) X.x8
/-- A value of the grid point's body. -/
def v121 : FVec Ideal S256x1024 .f32 := k0_pay43 X.x4 (v74 X) X.x8
/-- A value of the grid point's body. -/
def v122 : FVec Ideal S256x1024 .f32 := k0_pay44 X.x4 (v74 X) X.x8
/-- A value of the grid point's body. -/
def v125 : FVec Ideal S256x1024 .f32 := k0_pay45 (v74 X) (v115 X) (v121 X) (v122 X)
/-- A value of the grid point's body. -/
def v146 : FVec Ideal S256x1024 .bf16 := k0_pay49 (v7 X) (v74 X) (v115 X) (v121 X) (v122 X)
/-- A value of the grid point's body. -/
def v153 : FVec Ideal S1024x1024 .bf16 := k0_pay51 X.x10
/-- A value of the grid point's body. -/
def v154 : FVec Ideal S256x1024 .f32 := k0_pay52 (v146 X) (v153 X) nil
/-- A value of the grid point's body. -/
def v156 : FVec Ideal S256x1024 .f32 := k0_pay53 (v65 X) (v146 X) (v153 X) nil
/-- A value of the grid point's body. -/
def v164 : FVec Ideal S256x1024 .f32 := k0_pay54 X.x2 (v52 X) (v60 X) (v64 X) (v146 X) (v153 X) nil
/-- A value of the grid point's body. -/
def v171 : FVec Ideal S256x1024 .f32 := k0_pay55 (v31 X) (v47 X) (v65 X) (v146 X) (v153 X) nil
/-- A value of the grid point's body. -/
def v179 : FVec Ideal S256x1024 .bf16 := k0_pay57 (v31 X) (v47 X) (v65 X) (v146 X) (v153 X) nil
/-- A value of the grid point's body. -/
def v188 : FVec Ideal S256x1024 .f32 := k0_pay59 (v31 X) (v47 X) (v51 X) (v65 X) (v146 X) (v153 X) nil X.x9
/-- A value of the grid point's body. -/
def v190 : FVec Ideal S256x1024 .f32 := k0_pay60 (v30 X) (v31 X) (v47 X) (v51 X) (v65 X) (v146 X) (v153 X) nil X.x9
/-- A value of the grid point's body. -/
def v191 : FVec Ideal S256x1024 .f32 := k0_pay61 (v15 X) (v28 X) (v31 X) (v47 X) (v51 X) (v65 X) (v146 X) (v153 X) nil X.x9
/-- A value of the grid point's body. -/
def v205 : FVec Ideal S256x1024 .f32 := k0_pay1 (v13 X) (v16 X) (v190 X) (v191 X)
/-- A value of the grid point's body. -/
def v207 : FVec Ideal S256x1024 .f32 := k0_pay2 (v10 X) (v13 X) (v16 X) (v190 X) (v191 X)

/-! ## The derivatives as the call computes them -/
theorem dz_of (r : Row) (n : Fin 1024) : r.half n * r.d3 n * r.sz n
      + Ideal.ofBits FTy.f32 0x3F000000#32 * (Ideal.ofBits FTy.f32 0x3F000000#32 * (r.z n * (r.half n * r.d3 n)) * ((1 + r.tz n) * (1 - r.tz n))) = r.dz n := by
  have e : r.sz n * (1 - r.sz n) = _ := slope (r.z n)
  unfold Row.dz
  rw [e]
  unfold Row.tz Row.dm
  congr 1
  ac_rfl
theorem dgl_of (r : Row) (n : Fin 1024) : Ideal.ofBits FTy.f32 0x3F000000#32
      * (Ideal.ofBits FTy.f32 0x3F000000#32 * (r.act n * r.dq n) * ((1 + r.tg n) * (1 - r.tg n))) = r.dgl n := by
  have e : r.sg n * (1 - r.sg n) = _ := slope (r.gl n)
  unfold Row.dgl
  rw [e]
  unfold Row.tg
  ac_rfl
theorem dy_of (r : Row) (n : Fin 1024) : r.dt n + r.pre n * r.pre n * (Ideal.ofBits FTy.f32 0x3D372713#32 * r.dt n)
      + r.pre n * (Ideal.ofBits FTy.f32 0x3D372713#32 * r.dt n * r.pre n) + Ideal.ofBits FTy.f32 0x3D372713#32 * r.dt n * r.pre n * r.pre n
      + Ideal.ofBits FTy.f32 0x3F000000#32 * (r.da n * (1 + r.th n)) = r.dy n := by
  refine (cubic _ _ _ _).trans ?_
  unfold Row.dy Row.up
  rw [mul_left_comm]
variable {X : Inp} {R : Fin 256 → Row} (h : Held X R)
include h
theorem v7_at (a : Fin 256) (e : Fin 1) (n : Fin 1024) : (show EReal from v7 X (ix2 e n)) = (R a).g n := by
  show (show EReal from k0_pay11 X.x7 (ix2 e n)) = _
  pointwise [k0_pay11]
  simp only [h.g a]
theorem v10_at (a : Fin 256) (e : Fin 1) (n : Fin 1024) : (show EReal from v10 X (ix2 e n)) = (R a).d n := by
  show (show EReal from k0_pay12 X.x5 (ix2 e n)) = _
  pointwise [k0_pay12]
  simp only [h.d a]
theorem v34_at (a : Fin 256) (k n : Fin 1024) : (show EReal from v34 X (ix2 k n)) = (R a).wg k n := by
  show (show EReal from k0_pay21 X.x9 (ix2 k n)) = _
  pointwise [k0_pay21]
  simp only [h.wg a]
theorem v153_at (a : Fin 256) (k n : Fin 1024) : (show EReal from v153 X (ix2 k n)) = (R a).wo k n := by
  show (show EReal from k0_pay51 X.x10 (ix2 k n)) = _
  pointwise [k0_pay51]
  simp only [h.wo a]
theorem v13_at (a : Fin 256) (n : Fin 1024) : (show EReal from v13 X (ix2 a n)) = (R a).pre n := by
  show (show EReal from k0_pay13 X.x1 X.x0 X.x5 (ix2 a n)) = _
  pointwise [k0_pay13, k0_pay12]
  simp only [h.y, h.u, h.d a]
  rfl
theorem v15_at (a : Fin 256) (n : Fin 1024) : (show EReal from v15 X (ix2 a n)) = Ideal.ofBits FTy.f32 0x3F000000#32 * (R a).pre n := by
  have q_v13 : ∀ (a : Fin 256) (n : Fin 1024), (show EReal from k0_pay13 X.x1 X.x0 X.x5 (ix2 a n)) = _ := v13_at h
  show (show EReal from k0_pay14 X.x1 X.x0 X.x5 (ix2 a n)) = _
  pointwise [k0_pay14]
  simp only [q_v13]
theorem v16_at (a : Fin 256) (n : Fin 1024) : (show EReal from v16 X (ix2 a n)) = (R a).pre n * (R a).pre n := by
  have q_v13 : ∀ (a : Fin 256) (n : Fin 1024), (show EReal from k0_pay13 X.x1 X.x0 X.x5 (ix2 a n)) = _ := v13_at h
  show (show EReal from k0_pay15 X.x1 X.x0 X.x5 (ix2 a n)) = _
  pointwise [k0_pay15]
  simp only [q_v13]
theorem v23_at (a : Fin 256) (n : Fin 1024) : (show EReal from v23 X (ix2 a n)) = (R a).th n := by
  have q_v13 : ∀ (a : Fin 256) (n : Fin 1024), (show EReal from k0_pay13 X.x1 X.x0 X.x5 (ix2 a n)) = _ := v13_at h
  have q_v16 : ∀ (a : Fin 256) (n : Fin 1024), (show EReal from k0_pay15 X.x1 X.x0 X.x5 (ix2 a n)) = _ := v16_at h
  show (show EReal from k0_pay16 X.x1 X.x0 X.x5 (ix2 a n)) = _
  pointwise [k0_pay16]
  simp only [q_v13, q_v16]
  rfl
theorem v28_at (a : Fin 256) (n : Fin 1024) : (show EReal from v28 X (ix2 a n)) = (1 + (R a).th n) * (1 - (R a).th n) := by
  have q_v23 : ∀ (a : Fin 256) (n : Fin 1024), (show EReal from k0_pay16 X.x1 X.x0 X.x5 (ix2 a n)) = _ := v23_at h
  show (show EReal from k0_pay17 X.x1 X.x0 X.x5 (ix2 a n)) = _
  pointwise [k0_pay17]
  simp only [q_v23]
theorem v30_at (a : Fin 256) (n : Fin 1024) : (show EReal from v30 X (ix2 a n)) = 1 + (R a).th n := by
  have q_v23 : ∀ (a : Fin 256) (n : Fin 1024), (show EReal from k0_pay16 X.x1 X.x0 X.x5 (ix2 a n)) = _ := v23_at h
  show (show EReal from k0_pay18 X.x1 X.x0 X.x5 (ix2 a n)) = _
  pointwise [k0_pay18]
  simp only [q_v23]
theorem v31_at (a : Fin 256) (n : Fin 1024) : (show EReal from v31 X (ix2 a n)) = (R a).act n := by
  have q_v15 : ∀ (a : Fin 256) (n : Fin 1024), (show EReal from k0_pay14 X.x1 X.x0 X.x5 (ix2 a n)) = _ := v15_at h
  have q_v30 : ∀ (a : Fin 256) (n : Fin 1024), (show EReal from k0_pay18 X.x1 X.x0 X.x5 (ix2 a n)) = _ := v30_at h
  show (show EReal from k0_pay19 X.x1 X.x0 X.x5 (ix2 a n)) = _
  pointwise [k0_pay19]
  simp only [q_v15, q_v30]
  exact (congrArg (· * _) (mul_comm _ _)).trans (mul_assoc _ _ _)
theorem v32_at (a : Fin 256) (n : Fin 1024) : (show EReal from v32 X (ix2 a n)) = (R a).act n := by
  have q_v31 : ∀ (a : Fin 256) (n : Fin 1024), (show EReal from k0_pay19 X.x1 X.x0 X.x5 (ix2 a n)) = _ := v31_at h
  show (show EReal from k0_pay20 X.x1 X.x0 X.x5 (ix2 a n)) = _
  pointwise [k0_pay20]
  simp only [q_v31]
theorem v42_at (a : Fin 256) (n : Fin 1024) : (show EReal from v42 X (ix2 a n)) = (R a).tg n := by
  show (show EReal from k0_pay22 (v32 X) (v34 X) nil X.x6 (ix2 a n)) = _
  pointwise [k0_pay22]
  simp only [v32_at h, v34_at h a, h.b a]
  rfl
theorem v47_at (a : Fin 256) (n : Fin 1024) : (show EReal from v47 X (ix2 a n)) = (1 + (R a).tg n) * (1 - (R a).tg n) := by
  have q_v42 : ∀ (a : Fin 256) (n : Fin 1024), (show EReal from k0_pay22 (v32 X) (v34 X) nil X.x6 (ix2 a n)) = _ := v42_at h
  show (show EReal from k0_pay23 (v32 X) (v34 X) nil X.x6 (ix2 a n)) = _
  pointwise [k0_pay23]
  simp only [q_v42]
theorem v51_at (a : Fin 256) (n : Fin 1024) : (show EReal from v51 X (ix2 a n)) = (R a).sg n := by
  have q_v42 : ∀ (a : Fin 256) (n : Fin 1024), (show EReal from k0_pay22 (v32 X) (v34 X) nil X.x6 (ix2 a n)) = _ := v42_at h
  show (show EReal from k0_pay24 (v32 X) (v34 X) nil X.x6 (ix2 a n)) = _
  pointwise [k0_pay24]
  simp only [q_v42]
  exact sigmoid _
theorem v52_at (a : Fin 256) (n : Fin 1024) : (show EReal from v52 X (ix2 a n)) = (R a).half n := by
  have q_v51 : ∀ (a : Fin 256) (n : Fin 1024), (show EReal from k0_pay24 (v32 X) (v34 X) nil X.x6 (ix2 a n)) = _ := v51_at h
  show (show EReal from k0_pay25 (v31 X) (v32 X) (v34 X) nil X.x6 (ix2 a n)) = _
  pointwise [k0_pay25]
  simp only [v31_at h, q_v51]
  rfl
theorem v55_at (a : Fin 256) (n : Fin 1024) : (show EReal from v55 X (ix2 a n)) = (R a).tz n := by
  show (show EReal from k0_pay26 X.x2 (ix2 a n)) = _
  pointwise [k0_pay26]
  simp only [h.z]
  rfl
theorem v60_at (a : Fin 256) (n : Fin 1024) : (show EReal from v60 X (ix2 a n)) = (1 + (R a).tz n) * (1 - (R a).tz n) := by
  have q_v55 : ∀ (a : Fin 256) (n : Fin 1024), (show EReal from k0_pay26 X.x2 (ix2 a n)) = _ := v55_at h
  show (show EReal from k0_pay27 X.x2 (ix2 a n)) = _
  pointwise [k0_pay27]
  simp only [q_v55]
theorem v64_at (a : Fin 256) (n : Fin 1024) : (show EReal from v64 X (ix2 a n)) = (R a).sz n := by
  have q_v55 : ∀ (a : Fin 256) (n : Fin 1024), (show EReal from k0_pay26 X.x2 (ix2 a n)) = _ := v55_at h
  show (show EReal from k0_pay28 X.x2 (ix2 a n)) = _
  pointwise [k0_pay28]
  simp only [q_v55]
  exact sigmoid _
theorem v65_at (a : Fin 256) (n : Fin 1024) : (show EReal from v65 X (ix2 a n)) = (R a).zz n := by
  have q_v64 : ∀ (a : Fin 256) (n : Fin 1024), (show EReal from k0_pay28 X.x2 (ix2 a n)) = _ := v64_at h
  show (show EReal from k0_pay29 X.x2 (ix2 a n)) = _
  pointwise [k0_pay29]
  simp only [h.z, q_v64]
  rfl
theorem v67_at (a : Fin 256) (n : Fin 1024) : (show EReal from v67 X (ix2 a n)) = (R a).og n := by
  have q_v52 : ∀ (a : Fin 256) (n : Fin 1024), (show EReal from k0_pay25 (v31 X) (v32 X) (v34 X) nil X.x6 (ix2 a n)) = _ := v52_at h
  have q_v65 : ∀ (a : Fin 256) (n : Fin 1024), (show EReal from k0_pay29 X.x2 (ix2 a n)) = _ := v65_at h
  show (show EReal from k0_pay30 X.x2 (v31 X) (v32 X) (v34 X) nil X.x6 (ix2 a n)) = _
  pointwise [k0_pay30]
  simp only [q_v52, q_v65]
  rfl
theorem v70_at (a : Fin 256) (n : Fin 1024) : (show EReal from v70 X (ix2 a n)) = (R a).out n := by
  have q_v67 : ∀ (a : Fin 256) (n : Fin 1024), (show EReal from k0_pay30 X.x2 (v31 X) (v32 X) (v34 X) nil X.x6 (ix2 a n)) = _ := v67_at h
  show (show EReal from k0_pay31 X.x2 (v31 X) (v32 X) (v34 X) nil X.x6 X.x10 (ix2 a n)) = _
  pointwise [k0_pay31]
  simp only [h.wo a, q_v67]
  rfl
theorem v74_at (a : Fin 256) (n : Fin 1024) : (show EReal from v74 X (ix2 a n)) = (R a).x2 n := by
  have q_v70 : ∀ (a : Fin 256) (n : Fin 1024), (show EReal from k0_pay31 X.x2 (v31 X) (v32 X) (v34 X) nil X.x6 X.x10 (ix2 a n)) = _ := v70_at h
  show (show EReal from k0_pay32 X.x2 (v7 X) (v31 X) (v32 X) (v34 X) nil X.x6 X.x10 X.x3 (ix2 a n)) = _
  pointwise [k0_pay32]
  simp only [h.x, v7_at h a, q_v70]
  rfl
theorem v83_at (a : Fin 256) (e : Fin 1) : (show EReal from v83 X (ix2 a e)) = (R a).ms := by
  show (show EReal from k0_pay34 (v74 X) (ix2 a e)) = _
  pointwise [k0_pay34]
  simp only [v74_at h]
  rfl
theorem v84_at (a : Fin 256) (e : Fin 1) : (show EReal from v84 X (ix2 a e)) = (R a).rs := by
  have q_v83 : ∀ (a : Fin 256) (e : Fin 1), (show EReal from k0_pay34 (v74 X) (ix2 a e)) = _ := v83_at h
  show (show EReal from k0_pay35 (v74 X) (ix2 a e)) = _
  pointwise [k0_pay35]
  simp only [q_v83]
  rfl
theorem v89_at (a : Fin 256) (n : Fin 1024) : (show EReal from v89 X (ix2 a n)) = (R a).nm n := by
  have q_v84 : ∀ (a : Fin 256) (e : Fin 1), (show EReal from k0_pay35 (v74 X) (ix2 a e)) = _ := v84_at h
  show (show EReal from k0_pay36 (v74 X) (ix2 a n)) = _
  pointwise [k0_pay36]
  simp only [v74_at h, q_v84]
  rfl
theorem v92_at (a : Fin 256) (n : Fin 1024) : (show EReal from v92 X (ix2 a n)) = (R a).er n := by
  have q_v89 : ∀ (a : Fin 256) (n : Fin 1024), (show EReal from k0_pay36 (v74 X) (ix2 a n)) = _ := v89_at h
  show (show EReal from k0_pay37 X.x4 (v74 X) X.x8 (ix2 a n)) = _
  pointwise [k0_pay37, k0_pay33]
  simp only [h.f a, h.t, q_v89]
  rfl
theorem v105_at (a : Fin 256) (n : Fin 1024) : (show EReal from v105 X (ix2 a n)) = (R a).ct n := by
  have q_v92 : ∀ (a : Fin 256) (n : Fin 1024), (show EReal from k0_pay37 X.x4 (v74 X) X.x8 (ix2 a n)) = _ := v92_at h
  show (show EReal from k0_pay39 X.x4 (v74 X) X.x8 (ix2 a n)) = _
  pointwise [k0_pay39]
  simp only [q_v92]
  exact cotangent _
theorem v108_at (e : Fin 1) (n : Fin 1024) : (show EReal from v108 X (ix2 e n)) = ∑ a : Fin 256, (R a).nm n * (R a).ct n := by
  have q_v89 : ∀ (a : Fin 256) (n : Fin 1024), (show EReal from k0_pay36 (v74 X) (ix2 a n)) = _ := v89_at h
  have q_v105 : ∀ (a : Fin 256) (n : Fin 1024), (show EReal from k0_pay39 X.x4 (v74 X) X.x8 (ix2 a n)) = _ := v105_at h
  show (show EReal from k0_pay40 X.x4 (v74 X) X.x8 (ix2 e n)) = _
  pointwise [k0_pay40]
  simp only [q_v89, q_v105]
theorem v110_at (a : Fin 256) (n : Fin 1024) : (show EReal from v110 X (ix2 a n)) = (R a).cf n := by
  have q_v105 : ∀ (a : Fin 256) (n : Fin 1024), (show EReal from k0_pay39 X.x4 (v74 X) X.x8 (ix2 a n)) = _ := v105_at h
  show (show EReal from k0_pay41 X.x4 (v74 X) X.x8 (ix2 a n)) = _
  pointwise [k0_pay41, k0_pay33]
  simp only [h.f a, q_v105]
  rfl
theorem v115_at (a : Fin 256) (n : Fin 1024) : (show EReal from v115 X (ix2 a n)) = (R a).cf n * (R a).rs := by
  have q_v110 : ∀ (a : Fin 256) (n : Fin 1024), (show EReal from k0_pay41 X.x4 (v74 X) X.x8 (ix2 a n)) = _ := v110_at h
  have q_v84 : ∀ (a : Fin 256) (e : Fin 1), (show EReal from k0_pay35 (v74 X) (ix2 a e)) = _ := v84_at h
  show (show EReal from k0_pay42 X.x4 (v74 X) X.x8 (ix2 a n)) = _
  pointwise [k0_pay42]
  simp only [q_v110, q_v84]
theorem v121_at (a : Fin 256) (n : Fin 1024) : (show EReal from v121 X (ix2 a n)) = (R a).co := by
  have q_v83 : ∀ (a : Fin 256) (e : Fin 1), (show EReal from k0_pay34 (v74 X) (ix2 a e)) = _ := v83_at h
  have q_v84 : ∀ (a : Fin 256) (e : Fin 1), (show EReal from k0_pay35 (v74 X) (ix2 a e)) = _ := v84_at h
  have q_v110 : ∀ (a : Fin 256) (n : Fin 1024), (show EReal from k0_pay41 X.x4 (v74 X) X.x8 (ix2 a n)) = _ := v110_at h
  show (show EReal from k0_pay43 X.x4 (v74 X) X.x8 (ix2 a n)) = _
  pointwise [k0_pay43]
  simp only [v74_at h, q_v83, q_v84, q_v110]
  exact Fin.sum_univ_one _
theorem v122_at (a : Fin 256) (n : Fin 1024) : (show EReal from v122 X (ix2 a n)) = (R a).x2 n * (R a).co := by
  have q_v121 : ∀ (a : Fin 256) (n : Fin 1024), (show EReal from k0_pay43 X.x4 (v74 X) X.x8 (ix2 a n)) = _ := v121_at h
  show (show EReal from k0_pay44 X.x4 (v74 X) X.x8 (ix2 a n)) = _
  pointwise [k0_pay44]
  simp only [v74_at h, q_v121]
theorem v125_at (a : Fin 256) (n : Fin 1024) : (show EReal from v125 X (ix2 a n)) = (R a).dx n := by
  show (show EReal from k0_pay45 (v74 X) (v115 X) (v121 X) (v122 X) (ix2 a n)) = _
  pointwise [k0_pay45]
  simp only [v74_at h, v115_at h, v121_at h, v122_at h]
  rfl
theorem v146_at (a : Fin 256) (n : Fin 1024) : (show EReal from v146 X (ix2 a n)) = (R a).dh n := by
  have q_v125 : ∀ (a : Fin 256) (n : Fin 1024), (show EReal from k0_pay45 (v74 X) (v115 X) (v121 X) (v122 X) (ix2 a n)) = _ := v125_at h
  show (show EReal from k0_pay49 (v7 X) (v74 X) (v115 X) (v121 X) (v122 X) (ix2 a n)) = _
  pointwise [k0_pay49]
  simp only [v7_at h a, q_v125]
  rfl
theorem v154_at (a : Fin 256) (n : Fin 1024) : (show EReal from v154 X (ix2 a n)) = (R a).d3 n := by
  show (show EReal from k0_pay52 (v146 X) (v153 X) nil (ix2 a n)) = _
  pointwise [k0_pay52]
  simp only [v146_at h, v153_at h a]
  rfl
theorem v156_at (a : Fin 256) (n : Fin 1024) : (show EReal from v156 X (ix2 a n)) = (R a).dq n := by
  have q_v154 : ∀ (a : Fin 256) (n : Fin 1024), (show EReal from k0_pay52 (v146 X) (v153 X) nil (ix2 a n)) = _ := v154_at h
  show (show EReal from k0_pay53 (v65 X) (v146 X) (v153 X) nil (ix2 a n)) = _
  pointwise [k0_pay53]
  simp only [v65_at h, q_v154]
  rfl
theorem v164_at (a : Fin 256) (n : Fin 1024) : (show EReal from v164 X (ix2 a n)) = (R a).dz n := by
  have q_v154 : ∀ (a : Fin 256) (n : Fin 1024), (show EReal from k0_pay52 (v146 X) (v153 X) nil (ix2 a n)) = _ := v154_at h
  show (show EReal from k0_pay54 X.x2 (v52 X) (v60 X) (v64 X) (v146 X) (v153 X) nil (ix2 a n)) = _
  pointwise [k0_pay54]
  simp only [h.z, v52_at h, v60_at h, v64_at h, q_v154]
  exact dz_of _ _
theorem v171_at (a : Fin 256) (n : Fin 1024) : (show EReal from v171 X (ix2 a n)) = (R a).dgl n := by
  have q_v156 : ∀ (a : Fin 256) (n : Fin 1024), (show EReal from k0_pay53 (v65 X) (v146 X) (v153 X) nil (ix2 a n)) = _ := v156_at h
  show (show EReal from k0_pay55 (v31 X) (v47 X) (v65 X) (v146 X) (v153 X) nil (ix2 a n)) = _
  pointwise [k0_pay55]
  simp only [v31_at h, v47_at h, q_v156]
  exact dgl_of _ _
theorem v179_at (a : Fin 256) (n : Fin 1024) : (show EReal from v179 X (ix2 a n)) = (R a).dgl n := by
  have q_v171 : ∀ (a : Fin 256) (n : Fin 1024), (show EReal from k0_pay55 (v31 X) (v47 X) (v65 X) (v146 X) (v153 X) nil (ix2 a n)) = _ := v171_at h
  show (show EReal from k0_pay57 (v31 X) (v47 X) (v65 X) (v146 X) (v153 X) nil (ix2 a n)) = _
  pointwise [k0_pay57]
  simp only [q_v171]
theorem v188_at (a : Fin 256) (n : Fin 1024) : (show EReal from v188 X (ix2 a n)) = (R a).da n := by
  have q_v156 : ∀ (a : Fin 256) (n : Fin 1024), (show EReal from k0_pay53 (v65 X) (v146 X) (v153 X) nil (ix2 a n)) = _ := v156_at h
  have q_v179 : ∀ (a : Fin 256) (n : Fin 1024), (show EReal from k0_pay57 (v31 X) (v47 X) (v65 X) (v146 X) (v153 X) nil (ix2 a n)) = _ := v179_at h
  show (show EReal from k0_pay59 (v31 X) (v47 X) (v51 X) (v65 X) (v146 X) (v153 X) nil X.x9 (ix2 a n)) = _
  pointwise [k0_pay59]
  simp only [v51_at h, h.wg a, q_v156, q_v179]
  rfl
theorem v190_at (a : Fin 256) (n : Fin 1024) : (show EReal from v190 X (ix2 a n)) = (R a).da n * (1 + (R a).th n) := by
  have q_v188 : ∀ (a : Fin 256) (n : Fin 1024), (show EReal from k0_pay59 (v31 X) (v47 X) (v51 X) (v65 X) (v146 X) (v153 X) nil X.x9 (ix2 a n)) = _ := v188_at h
  show (show EReal from k0_pay60 (v30 X) (v31 X) (v47 X) (v51 X) (v65 X) (v146 X) (v153 X) nil X.x9 (ix2 a n)) = _
  pointwise [k0_pay60]
  simp only [v30_at h, q_v188]
theorem v191_at (a : Fin 256) (n : Fin 1024) : (show EReal from v191 X (ix2 a n)) = Ideal.ofBits FTy.f32 0x3F000000#32 * ((R a).pre n * (R a).da n) * ((1 + (R a).th n) * (1 - (R a).th n)) := by
  have q_v188 : ∀ (a : Fin 256) (n : Fin 1024), (show EReal from k0_pay59 (v31 X) (v47 X) (v51 X) (v65 X) (v146 X) (v153 X) nil X.x9 (ix2 a n)) = _ := v188_at h
  show (show EReal from k0_pay61 (v15 X) (v28 X) (v31 X) (v47 X) (v51 X) (v65 X) (v146 X) (v153 X) nil X.x9 (ix2 a n)) = _
  pointwise [k0_pay61]
  simp only [v15_at h, v28_at h, q_v188]
  rw [mul_assoc (Ideal.ofBits FTy.f32 1056964608#32)]
theorem v205_at (a : Fin 256) (n : Fin 1024) : (show EReal from v205 X (ix2 a n)) = (R a).dy n := by
  show (show EReal from k0_pay1 (v13 X) (v16 X) (v190 X) (v191 X) (ix2 a n)) = _
  pointwise [k0_pay1]
  simp only [v13_at h, v16_at h, v190_at h, v191_at h]
  exact dy_of _ _
theorem v207_at (a : Fin 256) (n : Fin 1024) : (show EReal from v207 X (ix2 a n)) = (R a).du n := by
  have q_v205 : ∀ (a : Fin 256) (n : Fin 1024), (show EReal from k0_pay1 (v13 X) (v16 X) (v190 X) (v191 X) (ix2 a n)) = _ := v205_at h
  show (show EReal from k0_pay2 (v10 X) (v13 X) (v16 X) (v190 X) (v191 X) (ix2 a n)) = _
  pointwise [k0_pay2]
  simp only [v10_at h a, q_v205]
  rfl

/-! ## The running sums -/
theorem addFg (w : FVec Ideal S1x1024 .f32) (e : Fin 1) (n : Fin 1024) : (show EReal from k0_pay47 (v108 X) w (ix2 e n))
    = (show EReal from w (ix2 e n)) + ∑ a : Fin 256, (R a).nm n * (R a).ct n := by
  pointwise [k0_pay47]
  simp only [v108_at h]
theorem addGt (w : FVec Ideal S1x1024 .f32) (e : Fin 1) (n : Fin 1024) : (show EReal from k0_pay48 (v70 X) (v74 X) (v115 X) (v121 X) (v122 X) w (ix2 e n))
    = (show EReal from w (ix2 e n)) + ∑ a : Fin 256, (R a).dx n * (R a).out n := by
  have q : ∀ (a : Fin 256) (n : Fin 1024), (show EReal from k0_pay45 (v74 X) (v115 X) (v121 X) (v122 X) (ix2 a n)) = _ := v125_at h
  pointwise [k0_pay48]
  simp only [q, v70_at h]
theorem addB (w : FVec Ideal S1x1024 .f32) (e : Fin 1) (n : Fin 1024) : (show EReal from k0_pay56 (v31 X) (v47 X) (v65 X) (v146 X) (v153 X) nil w (ix2 e n))
    = (show EReal from w (ix2 e n)) + ∑ a : Fin 256, (R a).dgl n := by
  have q : ∀ (a : Fin 256) (n : Fin 1024), (show EReal from k0_pay55 (v31 X) (v47 X) (v65 X) (v146 X) (v153 X) nil (ix2 a n)) = _ := v171_at h
  pointwise [k0_pay56]
  simp only [q]
theorem addD (w : FVec Ideal S1x1024 .f32) (e : Fin 1) (n : Fin 1024) : (show EReal from k0_pay3 X.x1 (v13 X) (v16 X) (v190 X) (v191 X) w (ix2 e n))
    = (show EReal from w (ix2 e n)) + ∑ a : Fin 256, (R a).dy n * (R a).u n := by
  have q : ∀ (a : Fin 256) (n : Fin 1024), (show EReal from k0_pay1 (v13 X) (v16 X) (v190 X) (v191 X) (ix2 a n)) = _ := v205_at h
  pointwise [k0_pay3]
  simp only [q, h.u]
theorem addWg (w : FVec Ideal S1024x1024 .f32) (k n : Fin 1024) : (show EReal from k0_pay58 (v31 X) (v32 X) (v47 X) (v65 X) (v146 X) (v153 X) nil w (ix2 k n))
    = (show EReal from w (ix2 k n)) + ∑ a : Fin 256, (R a).dgl n * (R a).act k := by
  have q : ∀ (a : Fin 256) (n : Fin 1024), (show EReal from k0_pay57 (v31 X) (v47 X) (v65 X) (v146 X) (v153 X) nil (ix2 a n)) = _ := v179_at h
  pointwise [k0_pay58]
  simp only [q, v32_at h, mul_comm]
theorem addWo (w : FVec Ideal S1024x1024 .f32) (k n : Fin 1024) : (show EReal from k0_pay50 (v7 X) (v67 X) (v74 X) (v115 X) (v121 X) (v122 X) w (ix2 k n))
    = (show EReal from w (ix2 k n)) + ∑ a : Fin 256, (R a).dh n * (R a).og k := by
  have q : ∀ (a : Fin 256) (n : Fin 1024), (show EReal from k0_pay49 (v7 X) (v74 X) (v115 X) (v121 X) (v122 X) (ix2 a n)) = _ := v146_at h
  pointwise [k0_pay50]
  simp only [q, v67_at h, mul_comm]

end Attn.TailBody
-- ==== Proof.TailOuts.lean ====
/-
  What one grid point of the tail's call leaves: the four blocks, and the six running sums.
-/
module

public import proofs.«01_k».proof.Defs
public import proofs.«01_k».proof.Proof.TailBody
public import proofs.«01_k».proof.Proof.Canon
public import proofs.«01_k».proof.Proof.Gen.Kernel13Ideal.Value

@[expose] public section

set_option maxRecDepth 16384
noncomputable section
open Idealize.ShloMosaic Idealize.ShloMosaic.TcCoe Idealize.SL.Sem
namespace Attn.TailOuts
open Attn.Tail Attn.TailBody
open Cert.Kernel13Ideal Cert.Kernel13Ideal.Gen
variable (m : (ℓ : Loc nD τ sig) → Buf (Elt Ideal) ℓ) (c : Dev nD) (t : Fin cfg0.N)

/-! ## What the running sums start from -/
theorem zeroFg (e : Fin 1) (n : Fin 1024) : ((k0_pay5 : FVec Ideal S1x1024 .f32) (ix2 e n) : EReal) = 0 := by pointwise [k0_pay5]
theorem zeroGt (e : Fin 1) (n : Fin 1024) : ((k0_pay6 : FVec Ideal S1x1024 .f32) (ix2 e n) : EReal) = 0 := by pointwise [k0_pay6]
theorem zeroB (e : Fin 1) (n : Fin 1024) : ((k0_pay7 : FVec Ideal S1x1024 .f32) (ix2 e n) : EReal) = 0 := by pointwise [k0_pay7]
theorem zeroD (e : Fin 1) (n : Fin 1024) : ((k0_pay8 : FVec Ideal S1x1024 .f32) (ix2 e n) : EReal) = 0 := by pointwise [k0_pay8]
theorem zeroWg (k n : Fin 1024) : ((k0_pay9 : FVec Ideal S1024x1024 .f32) (ix2 k n) : EReal) = 0 := by pointwise [k0_pay9]
theorem zeroWo (k n : Fin 1024) : ((k0_pay10 : FVec Ideal S1024x1024 .f32) (ix2 k n) : EReal) = 0 := by pointwise [k0_pay10]

/-- A grid point's blocks. -/
abbrev inp : Inp := ⟨iblk m c 0 t, iblk m c 1 t, iblk m c 2 t, iblk m c 3 t, iblk m c 4 t, iblk m c 5 t, iblk m c 6 t, iblk m c 7 t, iblk m c 8 t, iblk m c 9 t, iblk m c 10 t⟩

/-! ## The values, folded -/
theorem v7_is : k0_pay11 (iblk m c 7 t) = v7 (inp m c t) := rfl
theorem v10_is : k0_pay12 (iblk m c 5 t) = v10 (inp m c t) := rfl
theorem v13_is : k0_pay13 (iblk m c 1 t) (iblk m c 0 t) (iblk m c 5 t) = v13 (inp m c t) := rfl
theorem v15_is : k0_pay14 (iblk m c 1 t) (iblk m c 0 t) (iblk m c 5 t) = v15 (inp m c t) := rfl
theorem v16_is : k0_pay15 (iblk m c 1 t) (iblk m c 0 t) (iblk m c 5 t) = v16 (inp m c t) := rfl
theorem v23_is : k0_pay16 (iblk m c 1 t) (iblk m c 0 t) (iblk m c 5 t) = v23 (inp m c t) := rfl
theorem v28_is : k0_pay17 (iblk m c 1 t) (iblk m c 0 t) (iblk m c 5 t) = v28 (inp m c t) := rfl
theorem v30_is : k0_pay18 (iblk m c 1 t) (iblk m c 0 t) (iblk m c 5 t) = v30 (inp m c t) := rfl
theorem v31_is : k0_pay19 (iblk m c 1 t) (iblk m c 0 t) (iblk m c 5 t) = v31 (inp m c t) := rfl
theorem v32_is : k0_pay20 (iblk m c 1 t) (iblk m c 0 t) (iblk m c 5 t) = v32 (inp m c t) := rfl
theorem v34_is : k0_pay21 (iblk m c 9 t) = v34 (inp m c t) := rfl
theorem v42_is : k0_pay22 (v32 (inp m c t)) (v34 (inp m c t)) nil (iblk m c 6 t) = v42 (inp m c t) := rfl
theorem v47_is : k0_pay23 (v32 (inp m c t)) (v34 (inp m c t)) nil (iblk m c 6 t) = v47 (inp m c t) := rfl
theorem v51_is : k0_pay24 (v32 (inp m c t)) (v34 (inp m c t)) nil (iblk m c 6 t) = v51 (inp m c t) := rfl
theorem v52_is : k0_pay25 (v31 (inp m c t)) (v32 (inp m c t)) (v34 (inp m c t)) nil (iblk m c 6 t) = v52 (inp m c t) := rfl
theorem v55_is : k0_pay26 (iblk m c 2 t) = v55 (inp m c t) := rfl
theorem v60_is : k0_pay27 (iblk m c 2 t) = v60 (inp m c t) := rfl
theorem v64_is : k0_pay28 (iblk m c 2 t) = v64 (inp m c t) := rfl
theorem v65_is : k0_pay29 (iblk m c 2 t) = v65 (inp m c t) := rfl
theorem v67_is : k0_pay30 (iblk m c 2 t) (v31 (inp m c t)) (v32 (inp m c t)) (v34 (inp m c t)) nil (iblk m c 6 t) = v67 (inp m c t) := rfl
theorem v70_is : k0_pay31 (iblk m c 2 t) (v31 (inp m c t)) (v32 (inp m c t)) (v34 (inp m c t)) nil (iblk m c 6 t) (iblk m c 10 t) = v70 (inp m c t) := rfl
theorem v74_is : k0_pay32 (iblk m c 2 t) (v7 (inp m c t)) (v31 (inp m c t)) (v32 (inp m c t)) (v34 (inp m c t)) nil (iblk m c 6 t) (iblk m c 10 t) (iblk m c 3 t) = v74 (inp m c t) := rfl
theorem v83_is : k0_pay34 (v74 (inp m c t)) = v83 (inp m c t) := rfl
theorem v84_is : k0_pay35 (v74 (inp m c t)) = v84 (inp m c t) := rfl
theorem v89_is : k0_pay36 (v74 (inp m c t)) = v89 (inp m c t) := rfl
theorem v92_is : k0_pay37 (iblk m c 4 t) (v74 (inp m c t)) (iblk m c 8 t) = v92 (inp m c t) := rfl
theorem v105_is : k0_pay39 (iblk m c 4 t) (v74 (inp m c t)) (iblk m c 8 t) = v105 (inp m c t) := rfl
theorem v108_is : k0_pay40 (iblk m c 4 t) (v74 (inp m c t)) (iblk m c 8 t) = v108 (inp m c t) := rfl
theorem v110_is : k0_pay41 (iblk m c 4 t) (v74 (inp m c t)) (iblk m c 8 t) = v110 (inp m c t) := rfl
theorem v115_is : k0_pay42 (iblk m c 4 t) (v74 (inp m c t)) (iblk m c 8 t) = v115 (inp m c t) := rfl
theorem v121_is : k0_pay43 (iblk m c 4 t) (v74 (inp m c t)) (iblk m c 8 t) = v121 (inp m c t) := rfl
theorem v122_is : k0_pay44 (iblk m c 4 t) (v74 (inp m c t)) (iblk m c 8 t) = v122 (inp m c t) := rfl
theorem v125_is : k0_pay45 (v74 (inp m c t)) (v115 (inp m c t)) (v121 (inp m c t)) (v122 (inp m c t)) = v125 (inp m c t) := rfl
theorem v146_is : k0_pay49 (v7 (inp m c t)) (v74 (inp m c t)) (v115 (inp m c t)) (v121 (inp m c t)) (v122 (inp m c t)) = v146 (inp m c t) := rfl
theorem v153_is : k0_pay51 (iblk m c 10 t) = v153 (inp m c t) := rfl
theorem v154_is : k0_pay52 (v146 (inp m c t)) (v153 (inp m c t)) nil = v154 (inp m c t) := rfl
theorem v156_is : k0_pay53 (v65 (inp m c t)) (v146 (inp m c t)) (v153 (inp m c t)) nil = v156 (inp m c t) := rfl
theorem v164_is : k0_pay54 (iblk m c 2 t) (v52 (inp m c t)) (v60 (inp m c t)) (v64 (inp m c t)) (v146 (inp m c t)) (v153 (inp m c t)) nil = v164 (inp m c t) := rfl
theorem v171_is : k0_pay55 (v31 (inp m c t)) (v47 (inp m c t)) (v65 (inp m c t)) (v146 (inp m c t)) (v153 (inp m c t)) nil = v171 (inp m c t) := rfl
theorem v179_is : k0_pay57 (v31 (inp m c t)) (v47 (inp m c t)) (v65 (inp m c t)) (v146 (inp m c t)) (v153 (inp m c t)) nil = v179 (inp m c t) := rfl
theorem v188_is : k0_pay59 (v31 (inp m c t)) (v47 (inp m c t)) (v51 (inp m c t)) (v65 (inp m c t)) (v146 (inp m c t)) (v153 (inp m c t)) nil (iblk m c 9 t) = v188 (inp m c t) := rfl
theorem v190_is : k0_pay60 (v30 (inp m c t)) (v31 (inp m c t)) (v47 (inp m c t)) (v51 (inp m c t)) (v65 (inp m c t)) (v146 (inp m c t)) (v153 (inp m c t)) nil (iblk m c 9 t) = v190 (inp m c t) := rfl
theorem v191_is : k0_pay61 (v15 (inp m c t)) (v28 (inp m c t)) (v31 (inp m c t)) (v47 (inp m c t)) (v51 (inp m c t)) (v65 (inp m c t)) (v146 (inp m c t)) (v153 (inp m c t)) nil (iblk m c 9 t) = v191 (inp m c t) := rfl
theorem v205_is : k0_pay1 (v13 (inp m c t)) (v16 (inp m c t)) (v190 (inp m c t)) (v191 (inp m c t)) = v205 (inp m c t) := rfl
theorem v207_is : k0_pay2 (v10 (inp m c t)) (v13 (inp m c t)) (v16 (inp m c t)) (v190 (inp m c t)) (v191 (inp m c t)) = v207 (inp m c t) := rfl
/-- A payload of the point's blocks is the value it is the name of. -/
theorem folds :
    k0_pay11 (iblk m c 7 t) = v7 (inp m c t)
    ∧ k0_pay12 (iblk m c 5 t) = v10 (inp m c t)
    ∧ k0_pay13 (iblk m c 1 t) (iblk m c 0 t) (iblk m c 5 t) = v13 (inp m c t)
    ∧ k0_pay14 (iblk m c 1 t) (iblk m c 0 t) (iblk m c 5 t) = v15 (inp m c t)
    ∧ k0_pay15 (iblk m c 1 t) (iblk m c 0 t) (iblk m c 5 t) = v16 (inp m c t)
    ∧ k0_pay16 (iblk m c 1 t) (iblk m c 0 t) (iblk m c 5 t) = v23 (inp m c t)
    ∧ k0_pay17 (iblk m c 1 t) (iblk m c 0 t) (iblk m c 5 t) = v28 (inp m c t)
    ∧ k0_pay18 (iblk m c 1 t) (iblk m c 0 t) (iblk m c 5 t) = v30 (inp m c t)
    ∧ k0_pay19 (iblk m c 1 t) (iblk m c 0 t) (iblk m c 5 t) = v31 (inp m c t)
    ∧ k0_pay20 (iblk m c 1 t) (iblk m c 0 t) (iblk m c 5 t) = v32 (inp m c t)
    ∧ k0_pay21 (iblk m c 9 t) = v34 (inp m c t)
    ∧ k0_pay22 (v32 (inp m c t)) (v34 (inp m c t)) nil (iblk m c 6 t) = v42 (inp m c t)
    ∧ k0_pay23 (v32 (inp m c t)) (v34 (inp m c t)) nil (iblk m c 6 t) = v47 (inp m c t)
    ∧ k0_pay24 (v32 (inp m c t)) (v34 (inp m c t)) nil (iblk m c 6 t) = v51 (inp m c t)
    ∧ k0_pay25 (v31 (inp m c t)) (v32 (inp m c t)) (v34 (inp m c t)) nil (iblk m c 6 t) = v52 (inp m c t)
    ∧ k0_pay26 (iblk m c 2 t) = v55 (inp m c t)
    ∧ k0_pay27 (iblk m c 2 t) = v60 (inp m c t)
    ∧ k0_pay28 (iblk m c 2 t) = v64 (inp m c t)
    ∧ k0_pay29 (iblk m c 2 t) = v65 (inp m c t)
    ∧ k0_pay30 (iblk m c 2 t) (v31 (inp m c t)) (v32 (inp m c t)) (v34 (inp m c t)) nil (iblk m c 6 t) = v67 (inp m c t)
    ∧ k0_pay31 (iblk m c 2 t) (v31 (inp m c t)) (v32 (inp m c t)) (v34 (inp m c t)) nil (iblk m c 6 t) (iblk m c 10 t) = v70 (inp m c t)
    ∧ k0_pay32 (iblk m c 2 t) (v7 (inp m c t)) (v31 (inp m c t)) (v32 (inp m c t)) (v34 (inp m c t)) nil (iblk m c 6 t) (iblk m c 10 t) (iblk m c 3 t) = v74 (inp m c t)
    ∧ k0_pay34 (v74 (inp m c t)) = v83 (inp m c t)
    ∧ k0_pay35 (v74 (inp m c t)) = v84 (inp m c t)
    ∧ k0_pay36 (v74 (inp m c t)) = v89 (inp m c t)
    ∧ k0_pay37 (iblk m c 4 t) (v74 (inp m c t)) (iblk m c 8 t) = v92 (inp m c t)
    ∧ k0_pay39 (iblk m c 4 t) (v74 (inp m c t)) (iblk m c 8 t) = v105 (inp m c t)
    ∧ k0_pay40 (iblk m c 4 t) (v74 (inp m c t)) (iblk m c 8 t) = v108 (inp m c t)
    ∧ k0_pay41 (iblk m c 4 t) (v74 (inp m c t)) (iblk m c 8 t) = v110 (inp m c t)
    ∧ k0_pay42 (iblk m c 4 t) (v74 (inp m c t)) (iblk m c 8 t) = v115 (inp m c t)
    ∧ k0_pay43 (iblk m c 4 t) (v74 (inp m c t)) (iblk m c 8 t) = v121 (inp m c t)
    ∧ k0_pay44 (iblk m c 4 t) (v74 (inp m c t)) (iblk m c 8 t) = v122 (inp m c t)
    ∧ k0_pay45 (v74 (inp m c t)) (v115 (inp m c t)) (v121 (inp m c t)) (v122 (inp m c t)) = v125 (inp m c t)
    ∧ k0_pay49 (v7 (inp m c t)) (v74 (inp m c t)) (v115 (inp m c t)) (v121 (inp m c t)) (v122 (inp m c t)) = v146 (inp m c t)
    ∧ k0_pay51 (iblk m c 10 t) = v153 (inp m c t)
    ∧ k0_pay52 (v146 (inp m c t)) (v153 (inp m c t)) nil = v154 (inp m c t)
    ∧ k0_pay53 (v65 (inp m c t)) (v146 (inp m c t)) (v153 (inp m c t)) nil = v156 (inp m c t)
    ∧ k0_pay54 (iblk m c 2 t) (v52 (inp m c t)) (v60 (inp m c t)) (v64 (inp m c t)) (v146 (inp m c t)) (v153 (inp m c t)) nil = v164 (inp m c t)
    ∧ k0_pay55 (v31 (inp m c t)) (v47 (inp m c t)) (v65 (inp m c t)) (v146 (inp m c t)) (v153 (inp m c t)) nil = v171 (inp m c t)
    ∧ k0_pay57 (v31 (inp m c t)) (v47 (inp m c t)) (v65 (inp m c t)) (v146 (inp m c t)) (v153 (inp m c t)) nil = v179 (inp m c t)
    ∧ k0_pay59 (v31 (inp m c t)) (v47 (inp m c t)) (v51 (inp m c t)) (v65 (inp m c t)) (v146 (inp m c t)) (v153 (inp m c t)) nil (iblk m c 9 t) = v188 (inp m c t)
    ∧ k0_pay60 (v30 (inp m c t)) (v31 (inp m c t)) (v47 (inp m c t)) (v51 (inp m c t)) (v65 (inp m c t)) (v146 (inp m c t)) (v153 (inp m c t)) nil (iblk m c 9 t) = v190 (inp m c t)
    ∧ k0_pay61 (v15 (inp m c t)) (v28 (inp m c t)) (v31 (inp m c t)) (v47 (inp m c t)) (v51 (inp m c t)) (v65 (inp m c t)) (v146 (inp m c t)) (v153 (inp m c t)) nil (iblk m c 9 t) = v191 (inp m c t)
    ∧ k0_pay1 (v13 (inp m c t)) (v16 (inp m c t)) (v190 (inp m c t)) (v191 (inp m c t)) = v205 (inp m c t)
    ∧ k0_pay2 (v10 (inp m c t)) (v13 (inp m c t)) (v16 (inp m c t)) (v190 (inp m c t)) (v191 (inp m c t)) = v207 (inp m c t) :=
  ⟨v7_is m c t, v10_is m c t, v13_is m c t, v15_is m c t, v16_is m c t, v23_is m c t, v28_is m c t, v30_is m c t, v31_is m c t, v32_is m c t, v34_is m c t, v42_is m c t, v47_is m c t, v51_is m c t, v52_is m c t, v55_is m c t, v60_is m c t, v64_is m c t, v65_is m c t, v67_is m c t, v70_is m c t, v74_is m c t, v83_is m c t, v84_is m c t, v89_is m c t, v92_is m c t, v105_is m c t, v108_is m c t, v110_is m c t, v115_is m c t, v121_is m c t, v122_is m c t, v125_is m c t, v146_is m c t, v153_is m c t, v154_is m c t, v156_is m c t, v164_is m c t, v171_is m c t, v179_is m c t, v188_is m c t, v190_is m c t, v191_is m c t, v205_is m c t, v207_is m c t⟩

variable {m c t} {R : Fin 256 → Row} (h : Held (inp m c t) R)
include h

set_option maxHeartbeats 1000000 in
/-- The block of the residual's gradient. -/
theorem dx (a : Fin 256) (n : Fin 1024) : (show EReal from (outsAt0 m c t.val t.isLt).2.1 (ix2 a n)) = (R a).dx n := by
  by_cases h0 : t.val % 8 = 0
  · rw [outsAt0_A m c t h0]; frame_out
    simp only [folds m c t]
    exact v125_at h a n
  · rw [outsAt0_B m c t h0]; frame_out
    simp only [folds m c t]
    exact v125_at h a n
set_option maxHeartbeats 1000000 in
/-- The block of the scan's gradient. -/
theorem dy (a : Fin 256) (n : Fin 1024) : (show EReal from (outsAt0 m c t.val t.isLt).2.2.1 (ix2 a n)) = (R a).dy n := by
  by_cases h0 : t.val % 8 = 0
  · rw [outsAt0_A m c t h0]; frame_out
    simp only [folds m c t]
    exact v205_at h a n
  · rw [outsAt0_B m c t h0]; frame_out
    simp only [folds m c t]
    exact v205_at h a n
set_option maxHeartbeats 1000000 in
/-- The block of the branch's gradient. -/
theorem du (a : Fin 256) (n : Fin 1024) : (show EReal from (outsAt0 m c t.val t.isLt).2.2.2.1 (ix2 a n)) = (R a).du n := by
  by_cases h0 : t.val % 8 = 0
  · rw [outsAt0_A m c t h0]; frame_out
    simp only [folds m c t]
    exact v207_at h a n
  · rw [outsAt0_B m c t h0]; frame_out
    simp only [folds m c t]
    exact v207_at h a n
set_option maxHeartbeats 1000000 in
/-- The block of the gradient of the gate's argument. -/
theorem dz (a : Fin 256) (n : Fin 1024) : (show EReal from (outsAt0 m c t.val t.isLt).2.2.2.2.1 (ix2 a n)) = (R a).dz n := by
  by_cases h0 : t.val % 8 = 0
  · rw [outsAt0_A m c t h0]; frame_out
    simp only [folds m c t]
    exact v164_at h a n
  · rw [outsAt0_B m c t h0]; frame_out
    simp only [folds m c t]
    exact v164_at h a n
set_option maxHeartbeats 1000000 in
/-- The running sum of the last gain's gradient after the first block. -/
theorem firstFg (h0 : t.val % 8 = 0) (e : Fin 1) (n : Fin 1024) : (show EReal from (outsAt0 m c t.val t.isLt).2.2.2.2.2.1 (ix2 e n))
    = ∑ a : Fin 256, (R a).nm n * (R a).ct n := by
  rw [outsAt0_A m c t h0]; frame_out
  simp only [folds m c t]
  refine (addFg h _ e n).trans ?_
  exact (congrArg (· + _) (zeroFg e n)).trans (zero_add _)
set_option maxHeartbeats 1000000 in
/-- A later block adds its part to it. -/
theorem laterFg (h0 : ¬t.val % 8 = 0) (e : Fin 1) (n : Fin 1024) : (show EReal from (outsAt0 m c t.val t.isLt).2.2.2.2.2.1 (ix2 e n))
    = (show EReal from (outsAt0 m c (t.val - 1) (by omega)).2.2.2.2.2.1 (ix2 e n)) + ∑ a : Fin 256, (R a).nm n * (R a).ct n := by
  rw [outsAt0_B m c t h0]; frame_out
  simp only [folds m c t]
  exact addFg h _ e n
set_option maxHeartbeats 1000000 in
/-- The running sum of the residual's gate's gradient after the first block. -/
theorem firstGt (h0 : t.val % 8 = 0) (e : Fin 1) (n : Fin 1024) : (show EReal from (outsAt0 m c t.val t.isLt).2.2.2.2.2.2.1 (ix2 e n))
    = ∑ a : Fin 256, (R a).dx n * (R a).out n := by
  rw [outsAt0_A m c t h0]; frame_out
  simp only [folds m c t]
  refine (addGt h _ e n).trans ?_
  exact (congrArg (· + _) (zeroGt e n)).trans (zero_add _)
set_option maxHeartbeats 1000000 in
/-- A later block adds its part to it. -/
theorem laterGt (h0 : ¬t.val % 8 = 0) (e : Fin 1) (n : Fin 1024) : (show EReal from (outsAt0 m c t.val t.isLt).2.2.2.2.2.2.1 (ix2 e n))
    = (show EReal from (outsAt0 m c (t.val - 1) (by omega)).2.2.2.2.2.2.1 (ix2 e n)) + ∑ a : Fin 256, (R a).dx n * (R a).out n := by
  rw [outsAt0_B m c t h0]; frame_out
  simp only [folds m c t]
  exact addGt h _ e n
set_option maxHeartbeats 1000000 in
/-- The running sum of the sigmoid's bias's gradient after the first block. -/
theorem firstB (h0 : t.val % 8 = 0) (e : Fin 1) (n : Fin 1024) : (show EReal from (outsAt0 m c t.val t.isLt).2.2.2.2.2.2.2.1 (ix2 e n))
    = ∑ a : Fin 256, (R a).dgl n := by
  rw [outsAt0_A m c t h0]; frame_out
  simp only [folds m c t]
  refine (addB h _ e n).trans ?_
  exact (congrArg (· + _) (zeroB e n)).trans (zero_add _)
set_option maxHeartbeats 1000000 in
/-- A later block adds its part to it. -/
theorem laterB (h0 : ¬t.val % 8 = 0) (e : Fin 1) (n : Fin 1024) : (show EReal from (outsAt0 m c t.val t.isLt).2.2.2.2.2.2.2.1 (ix2 e n))
    = (show EReal from (outsAt0 m c (t.val - 1) (by omega)).2.2.2.2.2.2.2.1 (ix2 e n)) + ∑ a : Fin 256, (R a).dgl n := by
  rw [outsAt0_B m c t h0]; frame_out
  simp only [folds m c t]
  exact addB h _ e n
set_option maxHeartbeats 1000000 in
/-- The running sum of the branch's weights's gradient after the first block. -/
theorem firstD (h0 : t.val % 8 = 0) (e : Fin 1) (n : Fin 1024) : (show EReal from (outsAt0 m c t.val t.isLt).2.2.2.2.2.2.2.2.1 (ix2 e n))
    = ∑ a : Fin 256, (R a).dy n * (R a).u n := by
  rw [outsAt0_A m c t h0]; frame_out
  simp only [folds m c t]
  refine (addD h _ e n).trans ?_
  exact (congrArg (· + _) (zeroD e n)).trans (zero_add _)
set_option maxHeartbeats 1000000 in
/-- A later block adds its part to it. -/
theorem laterD (h0 : ¬t.val % 8 = 0) (e : Fin 1) (n : Fin 1024) : (show EReal from (outsAt0 m c t.val t.isLt).2.2.2.2.2.2.2.2.1 (ix2 e n))
    = (show EReal from (outsAt0 m c (t.val - 1) (by omega)).2.2.2.2.2.2.2.2.1 (ix2 e n)) + ∑ a : Fin 256, (R a).dy n * (R a).u n := by
  rw [outsAt0_B m c t h0]; frame_out
  simp only [folds m c t]
  exact addD h _ e n
set_option maxHeartbeats 1000000 in
/-- The running sum of the sigmoid's matrix's gradient after the first block. -/
theorem firstWg (h0 : t.val % 8 = 0) (k n : Fin 1024) : (show EReal from (outsAt0 m c t.val t.isLt).2.2.2.2.2.2.2.2.2.1 (ix2 k n))
    = ∑ a : Fin 256, (R a).dgl n * (R a).act k := by
  rw [outsAt0_A m c t h0]; frame_out
  simp only [folds m c t]
  refine (addWg h _ k n).trans ?_
  exact (congrArg (· + _) (zeroWg k n)).trans (zero_add _)
set_option maxHeartbeats 1000000 in
/-- A later block adds its part to it. -/
theorem laterWg (h0 : ¬t.val % 8 = 0) (k n : Fin 1024) : (show EReal from (outsAt0 m c t.val t.isLt).2.2.2.2.2.2.2.2.2.1 (ix2 k n))
    = (show EReal from (outsAt0 m c (t.val - 1) (by omega)).2.2.2.2.2.2.2.2.2.1 (ix2 k n)) + ∑ a : Fin 256, (R a).dgl n * (R a).act k := by
  rw [outsAt0_B m c t h0]; frame_out
  simp only [folds m c t]
  exact addWg h _ k n
set_option maxHeartbeats 1000000 in
/-- The running sum of the output's matrix's gradient after the first block. -/
theorem firstWo (h0 : t.val % 8 = 0) (k n : Fin 1024) : (show EReal from (outsAt0 m c t.val t.isLt).2.2.2.2.2.2.2.2.2.2 (ix2 k n))
    = ∑ a : Fin 256, (R a).dh n * (R a).og k := by
  rw [outsAt0_A m c t h0]; frame_out
  simp only [folds m c t]
  refine (addWo h _ k n).trans ?_
  exact (congrArg (· + _) (zeroWo k n)).trans (zero_add _)
set_option maxHeartbeats 1000000 in
/-- A later block adds its part to it. -/
theorem laterWo (h0 : ¬t.val % 8 = 0) (k n : Fin 1024) : (show EReal from (outsAt0 m c t.val t.isLt).2.2.2.2.2.2.2.2.2.2 (ix2 k n))
    = (show EReal from (outsAt0 m c (t.val - 1) (by omega)).2.2.2.2.2.2.2.2.2.2 (ix2 k n)) + ∑ a : Fin 256, (R a).dh n * (R a).og k := by
  rw [outsAt0_B m c t h0]; frame_out
  simp only [folds m c t]
  exact addWo h _ k n

end Attn.TailOuts
-- ==== Proof.TailRef.lean ====
/-
  The reference of the layer's tail and of its gradient, read row by row: what each of its values holds at a row and a lane.
-/
module

public import proofs.«01_k».proof.Defs
public import proofs.«01_k».proof.Proof.TailRow
public import proofs.«01_k».proof.Proof.Gen.Reference13Ideal.Run

@[expose] public section

set_option maxRecDepth 16384
noncomputable section
open Idealize.ShloMosaic Idealize.ShloMosaic.TcCoe Idealize.SL.Sem Idealize.ShloMosaic.StableHlo
namespace Attn.TailRef
open Attn.Tail
open Cert.Reference13Ideal Cert.Reference13Ideal.Gen Cert.Reference13Ideal.Value
variable (σ : Valuation τ sig (Elt Ideal))

/-- The row of the tail's arguments under latent row `a`. -/
def row (a : Fin 2048) : Row where
  y n := σ (Proc.devRef .tc main_arg0) (ix2 a n)
  u n := σ (Proc.devRef .tc main_arg1) (ix2 (⟨256 + a.val, by omega⟩ : Fin 2304) (⟨n.val, by omega⟩ : Fin 2048))
  z n := σ (Proc.devRef .tc main_arg1) (ix2 (⟨256 + a.val, by omega⟩ : Fin 2304) (⟨1024 + n.val, by omega⟩ : Fin 2048))
  x n := σ (Proc.devRef .tc main_arg2) (ix2 (⟨256 + a.val, by omega⟩ : Fin 2304) n)
  t n := σ (Proc.devRef .tc main_arg3) (ix2 a n)
  d n := σ (Proc.devRef .tc main_arg4) (ix1 n)
  b n := σ (Proc.devRef .tc main_arg5) (ix1 n)
  g n := σ (Proc.devRef .tc main_arg6) (ix1 n)
  f n := σ (Proc.devRef .tc main_arg7) (ix1 n)
  wg k n := σ (Proc.devRef .tc main_arg8) (ix2 k n)
  wo k n := σ (Proc.devRef .tc main_arg9) (ix2 k n)

theorem v0 (a : Fin 2048) (n : Fin 1024) : (show EReal from res_main_v0 σ (ix2 a n)) = (row σ a).u n := by
  pointwise [res_main_v0]
  rfl
theorem v1 (a : Fin 2048) (n : Fin 1024) : (show EReal from res_main_v1 σ (ix2 a n)) = (row σ a).z n := by
  pointwise [res_main_v1]
  rfl
theorem v3 (e : Fin 1) (n : Fin 1024) (r : Fin 2048) : (show EReal from res_main_v3 σ (ix2 e n)) = (row σ r).d n := by
  pointwise [res_main_v3]
  rfl
theorem v45 (e : Fin 1) (n : Fin 1024) (r : Fin 2048) : (show EReal from res_main_v45 σ (ix2 e n)) = (row σ r).g n := by
  pointwise [res_main_v45]
  rfl
theorem v62 (e : Fin 1) (n : Fin 1024) (r : Fin 2048) : (show EReal from res_main_v62 σ (ix2 e n)) = (row σ r).f n := by
  pointwise [res_main_v62]
  rfl
theorem v6 (a : Fin 2048) (n : Fin 1024) : (show EReal from res_main_v6 σ (ix2 a n)) = (row σ a).pre n := by
  pointwise [res_main_v6]
  simp only [v0 σ, v3 σ _ _ a]
  rfl
theorem v17 (a : Fin 2048) (n : Fin 1024) : (show EReal from res_main_v17 σ (ix2 a n)) = (row σ a).th n := by
  pointwise [res_main_v17]
  simp only [v6 σ]
  rfl
theorem v26 (a : Fin 2048) (n : Fin 1024) : (show EReal from res_main_v26 σ (ix2 a n)) = (row σ a).up n := by
  pointwise [res_main_v26]
  simp only [v17 σ]
  rfl
theorem v27 (a : Fin 2048) (n : Fin 1024) : (show EReal from res_main_v27 σ (ix2 a n)) = (row σ a).act n := by
  pointwise [res_main_v27]
  simp only [v6 σ, v26 σ]
  rfl
theorem v37 (a : Fin 2048) (n : Fin 1024) : (show EReal from res_main_v37 σ (ix2 a n)) = (row σ a).sg n := by
  pointwise [res_main_v37]
  simp only [v27 σ]
  rfl
theorem v41 (a : Fin 2048) (n : Fin 1024) : (show EReal from res_main_v41 σ (ix2 a n)) = (row σ a).half n := by
  pointwise [res_main_v41]
  simp only [v27 σ, v37 σ]
  rfl
theorem v42_2 (a : Fin 2048) (n : Fin 1024) : (show EReal from res_main_v42_2 σ (ix2 a n)) = (row σ a).sz n := by
  pointwise [res_main_v42_2]
  simp only [v1 σ]
  rfl
theorem v42_0 (a : Fin 2048) (n : Fin 1024) : (show EReal from res_main_v42_0 σ (ix2 a n)) = (row σ a).zz n := by
  pointwise [res_main_v42_0]
  simp only [v1 σ, v42_2 σ]
  rfl
theorem v43 (a : Fin 2048) (n : Fin 1024) : (show EReal from res_main_v43 σ (ix2 a n)) = (row σ a).og n := by
  pointwise [res_main_v43]
  simp only [v41 σ, v42_0 σ]
  rfl
theorem v44 (a : Fin 2048) (n : Fin 1024) : (show EReal from res_main_v44 σ (ix2 a n)) = (row σ a).out n := by
  pointwise [res_main_v44]
  simp only [v43 σ]
  rfl
theorem v48 (a : Fin 2048) (n : Fin 1024) : (show EReal from res_main_v48 σ (ix2 a n)) = (row σ a).x2 n := by
  pointwise [res_main_v48]
  simp only [v44 σ, v45 σ _ _ a]
  rfl
theorem v55 (a : Fin 2048) (e : Fin 1) : (show EReal from res_main_v55 σ (ix2 a e)) = (row σ a).ms := by
  pointwise [res_main_v55]
  simp only [v48 σ]
  rfl
theorem v56 (a : Fin 2048) (e : Fin 1) : (show EReal from res_main_v56 σ (ix2 a e)) = (row σ a).rs := by
  pointwise [res_main_v56]
  simp only [v55 σ]
  rfl
theorem v61 (a : Fin 2048) (n : Fin 1024) : (show EReal from res_main_v61 σ (ix2 a n)) = (row σ a).nm n := by
  pointwise [res_main_v61]
  simp only [v48 σ, v56 σ]
  rfl
theorem v65 (a : Fin 2048) (n : Fin 1024) : (show EReal from res_main_v65 σ (ix2 a n)) = (row σ a).er n := by
  pointwise [res_main_v65]
  simp only [v61 σ, v62 σ _ _ a]
  rfl
theorem v79 (a : Fin 2048) (n : Fin 1024) : (show EReal from res_main_v79 σ (ix2 a n)) = (row σ a).ct n := by
  pointwise [res_main_v79]
  simp only [v65 σ]
  rfl
theorem v84 (a : Fin 2048) (n : Fin 1024) : (show EReal from res_main_v84 σ (ix2 a n)) = (row σ a).cf n := by
  pointwise [res_main_v84]
  simp only [v79 σ, v62 σ _ _ a]
  rfl
theorem v95 (a : Fin 2048) (n : Fin 1024) : (show EReal from res_main_v95 σ (ix2 a n)) = (row σ a).co := by
  pointwise [res_main_v95]
  simp only [v48 σ, v84 σ, v55 σ, v56 σ]
  exact Fin.sum_univ_one _
theorem v99 (a : Fin 2048) (n : Fin 1024) : (show EReal from res_main_v99 σ (ix2 a n)) = (row σ a).dx n := by
  pointwise [res_main_v99]
  simp only [v84 σ, v56 σ, v48 σ, v95 σ]
  rfl
theorem v101 (a : Fin 2048) (n : Fin 1024) : (show EReal from res_main_v101 σ (ix2 a n)) = (row σ a).dh n := by
  pointwise [res_main_v101]
  simp only [v99 σ, v45 σ _ _ a]
  rfl
theorem v108 (a : Fin 2048) (n : Fin 1024) : (show EReal from res_main_v108 σ (ix2 a n)) = (row σ a).d3 n := by
  pointwise [res_main_v108]
  simp only [v101 σ]
  rfl
theorem v109 (a : Fin 2048) (n : Fin 1024) : (show EReal from res_main_v109 σ (ix2 a n)) = (row σ a).dm n := by
  pointwise [res_main_v109]
  simp only [v41 σ, v108 σ]
  rfl
theorem v110 (a : Fin 2048) (n : Fin 1024) : (show EReal from res_main_v110 σ (ix2 a n)) = (row σ a).dq n := by
  pointwise [res_main_v110]
  simp only [v108 σ, v42_0 σ]
  rfl
theorem v114 (a : Fin 2048) (n : Fin 1024) : (show EReal from res_main_v114 σ (ix2 a n)) = (row σ a).dgl n := by
  pointwise [res_main_v114]
  simp only [v27 σ, v110 σ, v37 σ]
  rfl
theorem v121 (a : Fin 2048) (n : Fin 1024) : (show EReal from res_main_v121 σ (ix2 a n)) = (row σ a).da n := by
  pointwise [res_main_v121]
  simp only [v110 σ, v37 σ, v114 σ]
  rfl
theorem v128 (a : Fin 2048) (n : Fin 1024) : (show EReal from res_main_v128 σ (ix2 a n)) = (row σ a).dt n := by
  pointwise [res_main_v128]
  simp only [v6 σ, v121 σ, v17 σ]
  rfl
theorem v133 (a : Fin 2048) (n : Fin 1024) : (show EReal from res_main_v133 σ (ix2 a n)) = (row σ a).dy n := by
  pointwise [res_main_v133]
  simp only [v121 σ, v26 σ, v128 σ, v6 σ]
  rfl

/-! ## The results -/
theorem du (a : Fin 2048) (n : Fin 1024) : (show EReal from (mulf (broadcastInDim S2048x1024 ![0, 1] bcast_S1x1024_S2048x1024_0_1 (res_main_v3 σ)) (res_main_v133 σ)) (ix2 a n)) = (row σ a).du n := by
  pointwise []
  simp only [v3 σ _ _ a, v133 σ]
  rfl
theorem dz (a : Fin 2048) (n : Fin 1024) : (show EReal from (addf (mulf (res_main_v109 σ) (res_main_v42_2 σ)) (mulf (mulf (res_main_v1 σ) (res_main_v109 σ)) (mulf (res_main_v42_2 σ) (subf (broadcastInDim S2048x1024 ![] bcast_S_S2048x1024 (constant S_ .f32 0x3F800000#32)) (res_main_v42_2 σ))))) (ix2 a n)) = (row σ a).dz n := by
  pointwise []
  simp only [v109 σ, v42_2 σ, v1 σ]
  rfl
/-- A column's sum as the reference takes it, in two steps. -/
theorem columns (A : FVec Ideal S2048x1024 .f32) (e : Fin 1) (n : Fin 1024) : (show EReal from (shapeCast S1x1024 (Host.reduceAdd (shapeCast S1x1024 (Host.reduceAdd A (constant S_ .f32 0x00000000#32) reducesTo_S2048x1024_S1024_d0 h_S_) shapeCasts_S1024_S1x1024) (constant S_ .f32 0x00000000#32) reducesTo_S1x1024_S1024_d0 h_S_) shapeCasts_S1024_S1x1024 : FVec Ideal S1x1024 .f32) (ix2 e n)) = ∑ a : Fin 2048, (show EReal from A (ix2 a n)) := by
  pointwise []
  exact Fin.sum_univ_one _
theorem dfg (a : Fin 2048) (n : Fin 1024) : (show EReal from (mulf (res_main_v61 σ) (res_main_v79 σ)) (ix2 a n)) = (row σ a).nm n * (row σ a).ct n := by
  pointwise []
  simp only [v61 σ, v79 σ]
theorem dgt (a : Fin 2048) (n : Fin 1024) : (show EReal from (mulf (res_main_v99 σ) (res_main_v44 σ)) (ix2 a n)) = (row σ a).dx n * (row σ a).out n := by
  pointwise []
  simp only [v99 σ, v44 σ]
theorem dd (a : Fin 2048) (n : Fin 1024) : (show EReal from (mulf (res_main_v133 σ) (res_main_v0 σ)) (ix2 a n)) = (row σ a).dy n * (row σ a).u n := by
  pointwise []
  simp only [v133 σ, v0 σ]
/-- The product of two arrays over their rows, transposed. -/
def products (A B : FVec Ideal S2048x1024 .f32) : FVec Ideal S1024x1024 .f32 :=
  transpose S1024x1024 [1, 0] (Host.dotGeneral dot_S2048x1024_S2048x1024_S1024x1024_0_0_1_1_n_n none A B) transposes_S1024x1024_S1024x1024_1_0
theorem products_at (A B : FVec Ideal S2048x1024 .f32) (k n : Fin 1024) : (show EReal from products A B (ix2 k n))
    = ∑ a : Fin 2048, (show EReal from A (ix2 a n)) * (show EReal from B (ix2 a k)) := by
  pointwise [products]
theorem dwg (k n : Fin 1024) : (show EReal from products (res_main_v114 σ) (res_main_v27 σ) (ix2 k n)) = ∑ a : Fin 2048, (row σ a).dgl n * (row σ a).act k :=
  (products_at _ _ k n).trans (Finset.sum_congr rfl fun a _ => by simp only [v114 σ, v27 σ])
theorem dwo (k n : Fin 1024) : (show EReal from products (res_main_v101 σ) (res_main_v43 σ) (ix2 k n)) = ∑ a : Fin 2048, (row σ a).dh n * (row σ a).og k :=
  (products_at _ _ k n).trans (Finset.sum_congr rfl fun a _ => by simp only [v101 σ, v43 σ])

end Attn.TailRef
-- ==== Proof.Prod13.lean ====
/-
  The layer's tail and its gradient: the call's operands, its eight blocks of 256 latent rows one after the other, and the arrays it leaves.
-/
module

public import proofs.«01_k».proof.Defs
public import proofs.«01_k».proof.Proof.TailOuts
public import proofs.«01_k».proof.Proof.TailRef
public import proofs.«01_k».proof.Proof.ProdBlocks
public import proofs.«01_k».proof.Proof.Gen.Kernel13Ideal.Value

@[expose] public section

set_option maxRecDepth 16384
noncomputable section
open Idealize.ShloMosaic Idealize.ShloMosaic.TcCoe Idealize.SL.Sem Idealize.ShloMosaic.StableHlo
namespace Attn.Prod13
open Attn.Tail
open Cert.Kernel13Ideal Cert.Kernel13Ideal.Gen Cert.Kernel13Ideal.Value

/-! ## Sums over blocks of rows -/
/-- The row of the whole under row `a` of block `n`. -/
abbrev wholeAt (n : ℕ) (hn : n < cfg0.N) (a : Fin 256) : Fin 2048 := ⟨256 * n + a.val, by have : cfg0.N = 8 := N_0; omega⟩
theorem blocks_sum (G : Fin 2048 → EReal) : ∑ i : Fin 8, ∑ a : Fin 256, G ⟨256 * i.val + a.val, by omega⟩ = ∑ a, G a := by
  rw [← Fintype.sum_prod_type']
  refine Fintype.sum_equiv ((finProdFinEquiv (m := 8) (n := 256)).trans (finCongr (by norm_num))) _ _ fun p => congrArg G (Fin.ext ?_)
  show 256 * p.1.val + p.2.val = p.2.val + 256 * p.1.val
  omega
/-- A running sum over the eight blocks is the sum over all the rows. -/
theorem sweep (f : (n : ℕ) → n < cfg0.N → EReal) (G : Fin 2048 → EReal)
    (h0 : ∀ hn, f 0 hn = ∑ a, G (wholeAt 0 hn a)) (hs : ∀ n hn hn', f (n + 1) hn = f n hn' + ∑ a, G (wholeAt (n + 1) hn a))
    (h7 : 7 < cfg0.N) : f 7 h7 = ∑ a, G a := by
  have hN : cfg0.N = 8 := N_0
  have q : ∀ (n : ℕ) (hn : n < cfg0.N), f n hn = ∑ i : Fin (n + 1), ∑ a, G (wholeAt i.val (by have := i.isLt; omega) a) := by
    intro n
    induction n with
    | zero => intro hn; rw [h0 hn, Fin.sum_univ_one]; rfl
    | succ n ih => intro hn; rw [hs n hn (by omega), ih (by omega), Fin.sum_univ_castSucc (n := n + 1)]; rfl
  exact (q 7 h7).trans (blocks_sum G)

variable (m : (ℓ : Loc nD τ sig) → Buf (Elt Ideal) ℓ) (c : Dev nD)
/-! ## The operands -/
/-- The row of the call's arguments under latent row `a`. -/
def row (a : Fin 2048) : Row where
  y n := m ((c : Thread nD τ).loc main_arg0) (ix2 a n)
  u n := m ((c : Thread nD τ).loc main_arg1) (ix2 (⟨256 + a.val, by omega⟩ : Fin 2304) (⟨n.val, by omega⟩ : Fin 2048))
  z n := m ((c : Thread nD τ).loc main_arg1) (ix2 (⟨256 + a.val, by omega⟩ : Fin 2304) (⟨1024 + n.val, by omega⟩ : Fin 2048))
  x n := m ((c : Thread nD τ).loc main_arg2) (ix2 (⟨256 + a.val, by omega⟩ : Fin 2304) n)
  t n := m ((c : Thread nD τ).loc main_arg3) (ix2 a n)
  d n := m ((c : Thread nD τ).loc main_arg4) (ix1 n)
  b n := m ((c : Thread nD τ).loc main_arg5) (ix1 n)
  g n := m ((c : Thread nD τ).loc main_arg6) (ix1 n)
  f n := m ((c : Thread nD τ).loc main_arg7) (ix1 n)
  wg k n := m ((c : Thread nD τ).loc main_arg8) (ix2 k n)
  wo k n := m ((c : Thread nD τ).loc main_arg9) (ix2 k n)
theorem entry5 (a : Fin 2048) (e : Fin 1) (n : Fin 1024) : (show EReal from V m c main_v0 (ix2 e n)) = (row m c a).d n := by
  show (show EReal from after hostOps0 (fun b => m (c, b)) main_v0 (ix2 e n)) = _
  simp only
  repeat (after_reads_simp; pointwise)
  rfl
theorem entry6 (a : Fin 2048) (e : Fin 1) (n : Fin 1024) : (show EReal from V m c main_v1 (ix2 e n)) = (row m c a).b n := by
  show (show EReal from after hostOps0 (fun b => m (c, b)) main_v1 (ix2 e n)) = _
  simp only
  repeat (after_reads_simp; pointwise)
  rfl
theorem entry7 (a : Fin 2048) (e : Fin 1) (n : Fin 1024) : (show EReal from V m c main_v2 (ix2 e n)) = (row m c a).g n := by
  show (show EReal from after hostOps0 (fun b => m (c, b)) main_v2 (ix2 e n)) = _
  simp only
  repeat (after_reads_simp; pointwise)
  rfl
theorem entry8 (a : Fin 2048) (e : Fin 1) (n : Fin 1024) : (show EReal from V m c main_v3 (ix2 e n)) = (row m c a).f n := by
  show (show EReal from after hostOps0 (fun b => m (c, b)) main_v3 (ix2 e n)) = _
  simp only
  repeat (after_reads_simp; pointwise)
  rfl
theorem entry9 (a : Fin 2048) (k n : Fin 1024) : (show EReal from V m c main_v4 (ix2 k n)) = (row m c a).wg k n := by
  show (show EReal from after hostOps0 (fun b => m (c, b)) main_v4 (ix2 k n)) = _
  simp only
  repeat (after_reads_simp; pointwise)
  rfl
theorem entry10 (a : Fin 2048) (k n : Fin 1024) : (show EReal from V m c main_v5 (ix2 k n)) = (row m c a).wo k n := by
  show (show EReal from after hostOps0 (fun b => m (c, b)) main_v5 (ix2 k n)) = _
  simp only
  repeat (after_reads_simp; pointwise)
  rfl

/-! ## The blocks' places -/
/-- The row of the whole under row `a` of the block at `t`. -/
abbrev whole (t : Fin cfg0.N) (a : Fin 256) : Fin 2048 := wholeAt t.val t.isLt a
/-- The same row of the arrays that begin with the context's. -/
abbrev later (t : Fin cfg0.N) (a : Fin 256) : Fin 2304 := ⟨256 + (whole t a).val, by omega⟩
theorem index0 : ∀ t : Fin cfg0.N, win0_0.index t (0 : Fin 2) = t.val ∧ win0_0.index t (1 : Fin 2) = 0 := (by decide +kernel : ∀ t : Fin grid0.N, _)
theorem index1 : ∀ t : Fin cfg0.N, win0_1.index t (0 : Fin 2) = t.val + 1 ∧ win0_1.index t (1 : Fin 2) = 0 := (by decide +kernel : ∀ t : Fin grid0.N, _)
theorem index2 : ∀ t : Fin cfg0.N, win0_2.index t (0 : Fin 2) = t.val + 1 ∧ win0_2.index t (1 : Fin 2) = 1 := (by decide +kernel : ∀ t : Fin grid0.N, _)
theorem index3 : ∀ t : Fin cfg0.N, win0_3.index t (0 : Fin 2) = t.val + 1 ∧ win0_3.index t (1 : Fin 2) = 0 := (by decide +kernel : ∀ t : Fin grid0.N, _)
theorem index4 : ∀ t : Fin cfg0.N, win0_4.index t (0 : Fin 2) = t.val ∧ win0_4.index t (1 : Fin 2) = 0 := (by decide +kernel : ∀ t : Fin grid0.N, _)
theorem index5 : ∀ t : Fin cfg0.N, win0_5.index t (0 : Fin 2) = 0 ∧ win0_5.index t (1 : Fin 2) = 0 := (by decide +kernel : ∀ t : Fin grid0.N, _)
theorem index6 : ∀ t : Fin cfg0.N, win0_6.index t (0 : Fin 2) = 0 ∧ win0_6.index t (1 : Fin 2) = 0 := (by decide +kernel : ∀ t : Fin grid0.N, _)
theorem index7 : ∀ t : Fin cfg0.N, win0_7.index t (0 : Fin 2) = 0 ∧ win0_7.index t (1 : Fin 2) = 0 := (by decide +kernel : ∀ t : Fin grid0.N, _)
theorem index8 : ∀ t : Fin cfg0.N, win0_8.index t (0 : Fin 2) = 0 ∧ win0_8.index t (1 : Fin 2) = 0 := (by decide +kernel : ∀ t : Fin grid0.N, _)
theorem index9 : ∀ t : Fin cfg0.N, win0_9.index t (0 : Fin 2) = 0 ∧ win0_9.index t (1 : Fin 2) = 0 := (by decide +kernel : ∀ t : Fin grid0.N, _)
theorem index10 : ∀ t : Fin cfg0.N, win0_10.index t (0 : Fin 2) = 0 ∧ win0_10.index t (1 : Fin 2) = 0 := (by decide +kernel : ∀ t : Fin grid0.N, _)
theorem index12 : ∀ t : Fin cfg0.N, win0_12.index t (0 : Fin 2) = t.val ∧ win0_12.index t (1 : Fin 2) = 0 := (by decide +kernel : ∀ t : Fin grid0.N, _)
theorem index13 : ∀ t : Fin cfg0.N, win0_13.index t (0 : Fin 2) = t.val ∧ win0_13.index t (1 : Fin 2) = 0 := (by decide +kernel : ∀ t : Fin grid0.N, _)
theorem index14 : ∀ t : Fin cfg0.N, win0_14.index t (0 : Fin 2) = t.val ∧ win0_14.index t (1 : Fin 2) = 0 := (by decide +kernel : ∀ t : Fin grid0.N, _)
theorem index15 : ∀ t : Fin cfg0.N, win0_15.index t (0 : Fin 2) = t.val ∧ win0_15.index t (1 : Fin 2) = 0 := (by decide +kernel : ∀ t : Fin grid0.N, _)
theorem index16 : ∀ t : Fin cfg0.N, win0_16.index t (0 : Fin 2) = 0 ∧ win0_16.index t (1 : Fin 2) = 0 := (by decide +kernel : ∀ t : Fin grid0.N, _)
theorem index17 : ∀ t : Fin cfg0.N, win0_17.index t (0 : Fin 2) = 0 ∧ win0_17.index t (1 : Fin 2) = 0 := (by decide +kernel : ∀ t : Fin grid0.N, _)
theorem index18 : ∀ t : Fin cfg0.N, win0_18.index t (0 : Fin 2) = 0 ∧ win0_18.index t (1 : Fin 2) = 0 := (by decide +kernel : ∀ t : Fin grid0.N, _)
theorem index19 : ∀ t : Fin cfg0.N, win0_19.index t (0 : Fin 2) = 0 ∧ win0_19.index t (1 : Fin 2) = 0 := (by decide +kernel : ∀ t : Fin grid0.N, _)
theorem index20 : ∀ t : Fin cfg0.N, win0_20.index t (0 : Fin 2) = 0 ∧ win0_20.index t (1 : Fin 2) = 0 := (by decide +kernel : ∀ t : Fin grid0.N, _)
theorem index21 : ∀ t : Fin cfg0.N, win0_21.index t (0 : Fin 2) = 0 ∧ win0_21.index t (1 : Fin 2) = 0 := (by decide +kernel : ∀ t : Fin grid0.N, _)
theorem flush12 : ∀ t : Fin cfg0.N, (cfg0.win 12).flush t = true := (by decide +kernel : ∀ t : Fin grid0.N, _)
theorem flush13 : ∀ t : Fin cfg0.N, (cfg0.win 13).flush t = true := (by decide +kernel : ∀ t : Fin grid0.N, _)
theorem flush14 : ∀ t : Fin cfg0.N, (cfg0.win 14).flush t = true := (by decide +kernel : ∀ t : Fin grid0.N, _)
theorem flush15 : ∀ t : Fin cfg0.N, (cfg0.win 15).flush t = true := (by decide +kernel : ∀ t : Fin grid0.N, _)
theorem place0 (t : Fin cfg0.N) (a : Fin 256) (b : Fin 1024) : ((cfg0.win 0).blk t).view.emb (ix2 a b) =
    (ix2 (whole t a) b : (⟨2, ![2048, 1024]⟩ : Shape).Idx) :=
  ProdBlocks.place (win0_0.index t (0 : Fin 2)) (win0_0.index t (1 : Fin 2)) _ a b rfl rfl _ _ (index0 t).1 (index0 t).2 _ _ (by simp; try omega) (by simp; try omega)
theorem place1 (t : Fin cfg0.N) (a : Fin 256) (b : Fin 1024) : ((cfg0.win 1).blk t).view.emb (ix2 a b) =
    (ix2 (later t a) (⟨b.val, by omega⟩ : Fin 2048) : (⟨2, ![2304, 2048]⟩ : Shape).Idx) :=
  ProdBlocks.place (win0_1.index t (0 : Fin 2)) (win0_1.index t (1 : Fin 2)) _ a b rfl rfl _ _ (index1 t).1 (index1 t).2 _ _ (by simp; try omega) (by simp; try omega)
theorem place2 (t : Fin cfg0.N) (a : Fin 256) (b : Fin 1024) : ((cfg0.win 2).blk t).view.emb (ix2 a b) =
    (ix2 (later t a) (⟨1024 + b.val, by omega⟩ : Fin 2048) : (⟨2, ![2304, 2048]⟩ : Shape).Idx) :=
  ProdBlocks.place (win0_2.index t (0 : Fin 2)) (win0_2.index t (1 : Fin 2)) _ a b rfl rfl _ _ (index2 t).1 (index2 t).2 _ _ (by simp; try omega) (by simp; try omega)
theorem place3 (t : Fin cfg0.N) (a : Fin 256) (b : Fin 1024) : ((cfg0.win 3).blk t).view.emb (ix2 a b) =
    (ix2 (later t a) b : (⟨2, ![2304, 1024]⟩ : Shape).Idx) :=
  ProdBlocks.place (win0_3.index t (0 : Fin 2)) (win0_3.index t (1 : Fin 2)) _ a b rfl rfl _ _ (index3 t).1 (index3 t).2 _ _ (by simp; try omega) (by simp; try omega)
theorem place4 (t : Fin cfg0.N) (a : Fin 256) (b : Fin 1024) : ((cfg0.win 4).blk t).view.emb (ix2 a b) =
    (ix2 (whole t a) b : (⟨2, ![2048, 1024]⟩ : Shape).Idx) :=
  ProdBlocks.place (win0_4.index t (0 : Fin 2)) (win0_4.index t (1 : Fin 2)) _ a b rfl rfl _ _ (index4 t).1 (index4 t).2 _ _ (by simp; try omega) (by simp; try omega)
theorem place5 (t : Fin cfg0.N) (a : Fin 1) (b : Fin 1024) : ((cfg0.win 5).blk t).view.emb (ix2 a b) =
    (ix2 a b : (⟨2, ![1, 1024]⟩ : Shape).Idx) :=
  ProdBlocks.place (win0_5.index t (0 : Fin 2)) (win0_5.index t (1 : Fin 2)) _ a b rfl rfl _ _ (index5 t).1 (index5 t).2 _ _ (by simp; try omega) (by simp; try omega)
theorem place6 (t : Fin cfg0.N) (a : Fin 1) (b : Fin 1024) : ((cfg0.win 6).blk t).view.emb (ix2 a b) =
    (ix2 a b : (⟨2, ![1, 1024]⟩ : Shape).Idx) :=
  ProdBlocks.place (win0_6.index t (0 : Fin 2)) (win0_6.index t (1 : Fin 2)) _ a b rfl rfl _ _ (index6 t).1 (index6 t).2 _ _ (by simp; try omega) (by simp; try omega)
theorem place7 (t : Fin cfg0.N) (a : Fin 1) (b : Fin 1024) : ((cfg0.win 7).blk t).view.emb (ix2 a b) =
    (ix2 a b : (⟨2, ![1, 1024]⟩ : Shape).Idx) :=
  ProdBlocks.place (win0_7.index t (0 : Fin 2)) (win0_7.index t (1 : Fin 2)) _ a b rfl rfl _ _ (index7 t).1 (index7 t).2 _ _ (by simp; try omega) (by simp; try omega)
theorem place8 (t : Fin cfg0.N) (a : Fin 1) (b : Fin 1024) : ((cfg0.win 8).blk t).view.emb (ix2 a b) =
    (ix2 a b : (⟨2, ![1, 1024]⟩ : Shape).Idx) :=
  ProdBlocks.place (win0_8.index t (0 : Fin 2)) (win0_8.index t (1 : Fin 2)) _ a b rfl rfl _ _ (index8 t).1 (index8 t).2 _ _ (by simp; try omega) (by simp; try omega)
theorem place9 (t : Fin cfg0.N) (a : Fin 1024) (b : Fin 1024) : ((cfg0.win 9).blk t).view.emb (ix2 a b) =
    (ix2 a b : (⟨2, ![1024, 1024]⟩ : Shape).Idx) :=
  ProdBlocks.place (win0_9.index t (0 : Fin 2)) (win0_9.index t (1 : Fin 2)) _ a b rfl rfl _ _ (index9 t).1 (index9 t).2 _ _ (by simp; try omega) (by simp; try omega)
theorem place10 (t : Fin cfg0.N) (a : Fin 1024) (b : Fin 1024) : ((cfg0.win 10).blk t).view.emb (ix2 a b) =
    (ix2 a b : (⟨2, ![1024, 1024]⟩ : Shape).Idx) :=
  ProdBlocks.place (win0_10.index t (0 : Fin 2)) (win0_10.index t (1 : Fin 2)) _ a b rfl rfl _ _ (index10 t).1 (index10 t).2 _ _ (by simp; try omega) (by simp; try omega)
theorem place12 (t : Fin cfg0.N) (a : Fin 256) (b : Fin 1024) : ((cfg0.win 12).blk t).view.emb (ix2 a b) =
    (ix2 (whole t a) b : (⟨2, ![2048, 1024]⟩ : Shape).Idx) :=
  ProdBlocks.place (win0_12.index t (0 : Fin 2)) (win0_12.index t (1 : Fin 2)) _ a b rfl rfl _ _ (index12 t).1 (index12 t).2 _ _ (by simp; try omega) (by simp; try omega)
theorem place13 (t : Fin cfg0.N) (a : Fin 256) (b : Fin 1024) : ((cfg0.win 13).blk t).view.emb (ix2 a b) =
    (ix2 (whole t a) b : (⟨2, ![2048, 1024]⟩ : Shape).Idx) :=
  ProdBlocks.place (win0_13.index t (0 : Fin 2)) (win0_13.index t (1 : Fin 2)) _ a b rfl rfl _ _ (index13 t).1 (index13 t).2 _ _ (by simp; try omega) (by simp; try omega)
theorem place14 (t : Fin cfg0.N) (a : Fin 256) (b : Fin 1024) : ((cfg0.win 14).blk t).view.emb (ix2 a b) =
    (ix2 (whole t a) b : (⟨2, ![2048, 1024]⟩ : Shape).Idx) :=
  ProdBlocks.place (win0_14.index t (0 : Fin 2)) (win0_14.index t (1 : Fin 2)) _ a b rfl rfl _ _ (index14 t).1 (index14 t).2 _ _ (by simp; try omega) (by simp; try omega)
theorem place15 (t : Fin cfg0.N) (a : Fin 256) (b : Fin 1024) : ((cfg0.win 15).blk t).view.emb (ix2 a b) =
    (ix2 (whole t a) b : (⟨2, ![2048, 1024]⟩ : Shape).Idx) :=
  ProdBlocks.place (win0_15.index t (0 : Fin 2)) (win0_15.index t (1 : Fin 2)) _ a b rfl rfl _ _ (index15 t).1 (index15 t).2 _ _ (by simp; try omega) (by simp; try omega)
theorem place16 (t : Fin cfg0.N) (a : Fin 1) (b : Fin 1024) : ((cfg0.win 16).blk t).view.emb (ix2 a b) =
    (ix2 a b : (⟨2, ![1, 1024]⟩ : Shape).Idx) :=
  ProdBlocks.place (win0_16.index t (0 : Fin 2)) (win0_16.index t (1 : Fin 2)) _ a b rfl rfl _ _ (index16 t).1 (index16 t).2 _ _ (by simp; try omega) (by simp; try omega)
theorem place17 (t : Fin cfg0.N) (a : Fin 1) (b : Fin 1024) : ((cfg0.win 17).blk t).view.emb (ix2 a b) =
    (ix2 a b : (⟨2, ![1, 1024]⟩ : Shape).Idx) :=
  ProdBlocks.place (win0_17.index t (0 : Fin 2)) (win0_17.index t (1 : Fin 2)) _ a b rfl rfl _ _ (index17 t).1 (index17 t).2 _ _ (by simp; try omega) (by simp; try omega)
theorem place18 (t : Fin cfg0.N) (a : Fin 1) (b : Fin 1024) : ((cfg0.win 18).blk t).view.emb (ix2 a b) =
    (ix2 a b : (⟨2, ![1, 1024]⟩ : Shape).Idx) :=
  ProdBlocks.place (win0_18.index t (0 : Fin 2)) (win0_18.index t (1 : Fin 2)) _ a b rfl rfl _ _ (index18 t).1 (index18 t).2 _ _ (by simp; try omega) (by simp; try omega)
theorem place19 (t : Fin cfg0.N) (a : Fin 1) (b : Fin 1024) : ((cfg0.win 19).blk t).view.emb (ix2 a b) =
    (ix2 a b : (⟨2, ![1, 1024]⟩ : Shape).Idx) :=
  ProdBlocks.place (win0_19.index t (0 : Fin 2)) (win0_19.index t (1 : Fin 2)) _ a b rfl rfl _ _ (index19 t).1 (index19 t).2 _ _ (by simp; try omega) (by simp; try omega)
theorem place20 (t : Fin cfg0.N) (a : Fin 1024) (b : Fin 1024) : ((cfg0.win 20).blk t).view.emb (ix2 a b) =
    (ix2 a b : (⟨2, ![1024, 1024]⟩ : Shape).Idx) :=
  ProdBlocks.place (win0_20.index t (0 : Fin 2)) (win0_20.index t (1 : Fin 2)) _ a b rfl rfl _ _ (index20 t).1 (index20 t).2 _ _ (by simp; try omega) (by simp; try omega)
theorem place21 (t : Fin cfg0.N) (a : Fin 1024) (b : Fin 1024) : ((cfg0.win 21).blk t).view.emb (ix2 a b) =
    (ix2 a b : (⟨2, ![1024, 1024]⟩ : Shape).Idx) :=
  ProdBlocks.place (win0_21.index t (0 : Fin 2)) (win0_21.index t (1 : Fin 2)) _ a b rfl rfl _ _ (index21 t).1 (index21 t).2 _ _ (by simp; try omega) (by simp; try omega)

/-! ## The blocks -/
theorem blk0 (t : Fin cfg0.N) (a : Fin 256) (n : Fin 1024) : (show EReal from iblk m c 0 t (ix2 a n)) = (row m c (whole t a)).y n := by
  have h := V_main_arg0 m c
  unfold iblk
  change V m c (Pipeline.arrRef spec0 0) = _ at h
  generalize V m c (Pipeline.arrRef spec0 0) = A at h ⊢
  exact (congrArg A (place0 t a n)).trans (congrFun h _)
theorem blk1 (t : Fin cfg0.N) (a : Fin 256) (n : Fin 1024) : (show EReal from iblk m c 1 t (ix2 a n)) = (row m c (whole t a)).u n := by
  have h := V_main_arg1 m c
  unfold iblk
  change V m c (Pipeline.arrRef spec0 1) = _ at h
  generalize V m c (Pipeline.arrRef spec0 1) = A at h ⊢
  exact (congrArg A (place1 t a n)).trans (congrFun h _)
theorem blk2 (t : Fin cfg0.N) (a : Fin 256) (n : Fin 1024) : (show EReal from iblk m c 2 t (ix2 a n)) = (row m c (whole t a)).z n := by
  have h := V_main_arg1 m c
  unfold iblk
  change V m c (Pipeline.arrRef spec0 2) = _ at h
  generalize V m c (Pipeline.arrRef spec0 2) = A at h ⊢
  exact (congrArg A (place2 t a n)).trans (congrFun h _)
theorem blk3 (t : Fin cfg0.N) (a : Fin 256) (n : Fin 1024) : (show EReal from iblk m c 3 t (ix2 a n)) = (row m c (whole t a)).x n := by
  have h := V_main_arg2 m c
  unfold iblk
  change V m c (Pipeline.arrRef spec0 3) = _ at h
  generalize V m c (Pipeline.arrRef spec0 3) = A at h ⊢
  exact (congrArg A (place3 t a n)).trans (congrFun h _)
theorem blk4 (t : Fin cfg0.N) (a : Fin 256) (n : Fin 1024) : (show EReal from iblk m c 4 t (ix2 a n)) = (row m c (whole t a)).t n := by
  have h := V_main_arg3 m c
  unfold iblk
  change V m c (Pipeline.arrRef spec0 4) = _ at h
  generalize V m c (Pipeline.arrRef spec0 4) = A at h ⊢
  exact (congrArg A (place4 t a n)).trans (congrFun h _)
theorem blk5 (t : Fin cfg0.N) (a : Fin 2048) (e : Fin 1) (n : Fin 1024) : (show EReal from iblk m c 5 t (ix2 e n)) = (row m c a).d n := by
  have h := entry5 m c a
  unfold iblk
  generalize V m c (Pipeline.arrRef spec0 5) = A at h ⊢
  exact (congrArg A (place5 t e n)).trans (h _ _)
theorem blk6 (t : Fin cfg0.N) (a : Fin 2048) (e : Fin 1) (n : Fin 1024) : (show EReal from iblk m c 6 t (ix2 e n)) = (row m c a).b n := by
  have h := entry6 m c a
  unfold iblk
  generalize V m c (Pipeline.arrRef spec0 6) = A at h ⊢
  exact (congrArg A (place6 t e n)).trans (h _ _)
theorem blk7 (t : Fin cfg0.N) (a : Fin 2048) (e : Fin 1) (n : Fin 1024) : (show EReal from iblk m c 7 t (ix2 e n)) = (row m c a).g n := by
  have h := entry7 m c a
  unfold iblk
  generalize V m c (Pipeline.arrRef spec0 7) = A at h ⊢
  exact (congrArg A (place7 t e n)).trans (h _ _)
theorem blk8 (t : Fin cfg0.N) (a : Fin 2048) (e : Fin 1) (n : Fin 1024) : (show EReal from iblk m c 8 t (ix2 e n)) = (row m c a).f n := by
  have h := entry8 m c a
  unfold iblk
  generalize V m c (Pipeline.arrRef spec0 8) = A at h ⊢
  exact (congrArg A (place8 t e n)).trans (h _ _)
theorem blk9 (t : Fin cfg0.N) (a : Fin 2048) (k n : Fin 1024) : (show EReal from iblk m c 9 t (ix2 k n)) = (row m c a).wg k n := by
  have h := entry9 m c a
  unfold iblk
  generalize V m c (Pipeline.arrRef spec0 9) = A at h ⊢
  exact (congrArg A (place9 t k n)).trans (h _ _)
theorem blk10 (t : Fin cfg0.N) (a : Fin 2048) (k n : Fin 1024) : (show EReal from iblk m c 10 t (ix2 k n)) = (row m c a).wo k n := by
  have h := entry10 m c a
  unfold iblk
  generalize V m c (Pipeline.arrRef spec0 10) = A at h ⊢
  exact (congrArg A (place10 t k n)).trans (h _ _)
theorem held (t : Fin cfg0.N) : TailBody.Held (TailOuts.inp m c t) (fun a => row m c (whole t a)) :=
  ⟨blk0 m c t, blk1 m c t, blk2 m c t, blk3 m c t, blk4 m c t, fun a => blk5 m c t _, fun a => blk6 m c t _, fun a => blk7 m c t _,
    fun a => blk8 m c t _, fun a => blk9 m c t _, fun a => blk10 m c t _⟩

/-! ## The arrays the call leaves -/
/-- The point whose block holds row `a`. -/
abbrev point (a : Fin 2048) : Fin cfg0.N := ⟨a.val / 256, by have : cfg0.N = 8 := N_0; omega⟩
theorem whole_point (a : Fin 2048) : whole (point a) ⟨a.val % 256, by omega⟩ = a := Fin.ext (by show 256 * (a.val / 256) + a.val % 256 = a.val; omega)
/-- The last point. -/
abbrev last : Fin cfg0.N := ⟨7, by have : cfg0.N = 8 := N_0; omega⟩
theorem val12 (a : Fin 2048) (n : Fin 1024) : (show EReal from (dats m 0 c).arrAt 12 cfg0.N (ix2 a n)) = (row m c a).dx n := by
  have h := congrFun (blocks12 m c (point a) (flush12 _)) (ix2 ⟨a.val % 256, by omega⟩ n)
  rw [flushed12] at h
  have hp := place12 (point a) ⟨a.val % 256, by omega⟩ n
  have e := TailOuts.dx (held m c (point a)) ⟨a.val % 256, by omega⟩ n
  simp only [whole_point] at hp e
  exact (congrArg ((dats m 0 c).arrAt 12 cfg0.N) hp).symm.trans (h.trans e)
theorem val13 (a : Fin 2048) (n : Fin 1024) : (show EReal from (dats m 0 c).arrAt 13 cfg0.N (ix2 a n)) = (row m c a).dy n := by
  have h := congrFun (blocks13 m c (point a) (flush13 _)) (ix2 ⟨a.val % 256, by omega⟩ n)
  rw [flushed13] at h
  have hp := place13 (point a) ⟨a.val % 256, by omega⟩ n
  have e := TailOuts.dy (held m c (point a)) ⟨a.val % 256, by omega⟩ n
  simp only [whole_point] at hp e
  exact (congrArg ((dats m 0 c).arrAt 13 cfg0.N) hp).symm.trans (h.trans e)
theorem val14 (a : Fin 2048) (n : Fin 1024) : (show EReal from (dats m 0 c).arrAt 14 cfg0.N (ix2 a n)) = (row m c a).du n := by
  have h := congrFun (blocks14 m c (point a) (flush14 _)) (ix2 ⟨a.val % 256, by omega⟩ n)
  rw [flushed14] at h
  have hp := place14 (point a) ⟨a.val % 256, by omega⟩ n
  have e := TailOuts.du (held m c (point a)) ⟨a.val % 256, by omega⟩ n
  simp only [whole_point] at hp e
  exact (congrArg ((dats m 0 c).arrAt 14 cfg0.N) hp).symm.trans (h.trans e)
theorem val15 (a : Fin 2048) (n : Fin 1024) : (show EReal from (dats m 0 c).arrAt 15 cfg0.N (ix2 a n)) = (row m c a).dz n := by
  have h := congrFun (blocks15 m c (point a) (flush15 _)) (ix2 ⟨a.val % 256, by omega⟩ n)
  rw [flushed15] at h
  have hp := place15 (point a) ⟨a.val % 256, by omega⟩ n
  have e := TailOuts.dz (held m c (point a)) ⟨a.val % 256, by omega⟩ n
  simp only [whole_point] at hp e
  exact (congrArg ((dats m 0 c).arrAt 15 cfg0.N) hp).symm.trans (h.trans e)
theorem val16 (e : Fin 1) (n : Fin 1024) : (show EReal from (dats m 0 c).arrAt 16 cfg0.N (ix2 e n)) = ∑ a : Fin 2048, (row m c a).nm n * (row m c a).ct n := by
  have d : ∀ t t' : Fin cfg0.N, (cfg0.win 16).flush t = true → (cfg0.win 16).flush t' = true → t ≠ t' →
      Disjoint ((cfg0.win 16).blk t).view.set ((cfg0.win 16).blk t').view.set := fun t t' f f' hne =>
    absurd (Fin.ext (by have := (flush0_16 t).mp f; have := (flush0_16 t').mp f'; have := t.isLt; have := t'.isLt; have : cfg0.N = 8 := N_0; omega)) hne
  have h := congrFun ((dats m 0 c).read_blk_arrAt_eq_flushed 16 d cfg0.N last last.isLt ((flush0_16 last).mpr rfl)) (ix2 e n)
  rw [flushed16] at h
  have hp := place16 last e n
  have e := sweep (fun i hi => (show EReal from (outsAt0 m c i hi).2.2.2.2.2.1 (ix2 e n))) (fun a => (row m c a).nm n * (row m c a).ct n)
    (fun hn => TailOuts.firstFg (held m c ⟨0, hn⟩) rfl e n)
    (fun i hn hn' => TailOuts.laterFg (held m c ⟨i + 1, hn⟩) (by have : cfg0.N = 8 := N_0; show ¬(i + 1) % 8 = 0; omega) e n) last.isLt
  exact (congrArg ((dats m 0 c).arrAt 16 cfg0.N) hp).symm.trans (h.trans e)
theorem val17 (e : Fin 1) (n : Fin 1024) : (show EReal from (dats m 0 c).arrAt 17 cfg0.N (ix2 e n)) = ∑ a : Fin 2048, (row m c a).dx n * (row m c a).out n := by
  have d : ∀ t t' : Fin cfg0.N, (cfg0.win 17).flush t = true → (cfg0.win 17).flush t' = true → t ≠ t' →
      Disjoint ((cfg0.win 17).blk t).view.set ((cfg0.win 17).blk t').view.set := fun t t' f f' hne =>
    absurd (Fin.ext (by have := (flush0_17 t).mp f; have := (flush0_17 t').mp f'; have := t.isLt; have := t'.isLt; have : cfg0.N = 8 := N_0; omega)) hne
  have h := congrFun ((dats m 0 c).read_blk_arrAt_eq_flushed 17 d cfg0.N last last.isLt ((flush0_17 last).mpr rfl)) (ix2 e n)
  rw [flushed17] at h
  have hp := place17 last e n
  have e := sweep (fun i hi => (show EReal from (outsAt0 m c i hi).2.2.2.2.2.2.1 (ix2 e n))) (fun a => (row m c a).dx n * (row m c a).out n)
    (fun hn => TailOuts.firstGt (held m c ⟨0, hn⟩) rfl e n)
    (fun i hn hn' => TailOuts.laterGt (held m c ⟨i + 1, hn⟩) (by have : cfg0.N = 8 := N_0; show ¬(i + 1) % 8 = 0; omega) e n) last.isLt
  exact (congrArg ((dats m 0 c).arrAt 17 cfg0.N) hp).symm.trans (h.trans e)
theorem val18 (e : Fin 1) (n : Fin 1024) : (show EReal from (dats m 0 c).arrAt 18 cfg0.N (ix2 e n)) = ∑ a : Fin 2048, (row m c a).dgl n := by
  have d : ∀ t t' : Fin cfg0.N, (cfg0.win 18).flush t = true → (cfg0.win 18).flush t' = true → t ≠ t' →
      Disjoint ((cfg0.win 18).blk t).view.set ((cfg0.win 18).blk t').view.set := fun t t' f f' hne =>
    absurd (Fin.ext (by have := (flush0_18 t).mp f; have := (flush0_18 t').mp f'; have := t.isLt; have := t'.isLt; have : cfg0.N = 8 := N_0; omega)) hne
  have h := congrFun ((dats m 0 c).read_blk_arrAt_eq_flushed 18 d cfg0.N last last.isLt ((flush0_18 last).mpr rfl)) (ix2 e n)
  rw [flushed18] at h
  have hp := place18 last e n
  have e := sweep (fun i hi => (show EReal from (outsAt0 m c i hi).2.2.2.2.2.2.2.1 (ix2 e n))) (fun a => (row m c a).dgl n)
    (fun hn => TailOuts.firstB (held m c ⟨0, hn⟩) rfl e n)
    (fun i hn hn' => TailOuts.laterB (held m c ⟨i + 1, hn⟩) (by have : cfg0.N = 8 := N_0; show ¬(i + 1) % 8 = 0; omega) e n) last.isLt
  exact (congrArg ((dats m 0 c).arrAt 18 cfg0.N) hp).symm.trans (h.trans e)
theorem val19 (e : Fin 1) (n : Fin 1024) : (show EReal from (dats m 0 c).arrAt 19 cfg0.N (ix2 e n)) = ∑ a : Fin 2048, (row m c a).dy n * (row m c a).u n := by
  have d : ∀ t t' : Fin cfg0.N, (cfg0.win 19).flush t = true → (cfg0.win 19).flush t' = true → t ≠ t' →
      Disjoint ((cfg0.win 19).blk t).view.set ((cfg0.win 19).blk t').view.set := fun t t' f f' hne =>
    absurd (Fin.ext (by have := (flush0_19 t).mp f; have := (flush0_19 t').mp f'; have := t.isLt; have := t'.isLt; have : cfg0.N = 8 := N_0; omega)) hne
  have h := congrFun ((dats m 0 c).read_blk_arrAt_eq_flushed 19 d cfg0.N last last.isLt ((flush0_19 last).mpr rfl)) (ix2 e n)
  rw [flushed19] at h
  have hp := place19 last e n
  have e := sweep (fun i hi => (show EReal from (outsAt0 m c i hi).2.2.2.2.2.2.2.2.1 (ix2 e n))) (fun a => (row m c a).dy n * (row m c a).u n)
    (fun hn => TailOuts.firstD (held m c ⟨0, hn⟩) rfl e n)
    (fun i hn hn' => TailOuts.laterD (held m c ⟨i + 1, hn⟩) (by have : cfg0.N = 8 := N_0; show ¬(i + 1) % 8 = 0; omega) e n) last.isLt
  exact (congrArg ((dats m 0 c).arrAt 19 cfg0.N) hp).symm.trans (h.trans e)
theorem val20 (k : Fin 1024) (n : Fin 1024) : (show EReal from (dats m 0 c).arrAt 20 cfg0.N (ix2 k n)) = ∑ a : Fin 2048, (row m c a).dgl n * (row m c a).act k := by
  have d : ∀ t t' : Fin cfg0.N, (cfg0.win 20).flush t = true → (cfg0.win 20).flush t' = true → t ≠ t' →
      Disjoint ((cfg0.win 20).blk t).view.set ((cfg0.win 20).blk t').view.set := fun t t' f f' hne =>
    absurd (Fin.ext (by have := (flush0_20 t).mp f; have := (flush0_20 t').mp f'; have := t.isLt; have := t'.isLt; have : cfg0.N = 8 := N_0; omega)) hne
  have h := congrFun ((dats m 0 c).read_blk_arrAt_eq_flushed 20 d cfg0.N last last.isLt ((flush0_20 last).mpr rfl)) (ix2 k n)
  rw [flushed20] at h
  have hp := place20 last k n
  have e := sweep (fun i hi => (show EReal from (outsAt0 m c i hi).2.2.2.2.2.2.2.2.2.1 (ix2 k n))) (fun a => (row m c a).dgl n * (row m c a).act k)
    (fun hn => TailOuts.firstWg (held m c ⟨0, hn⟩) rfl k n)
    (fun i hn hn' => TailOuts.laterWg (held m c ⟨i + 1, hn⟩) (by have : cfg0.N = 8 := N_0; show ¬(i + 1) % 8 = 0; omega) k n) last.isLt
  exact (congrArg ((dats m 0 c).arrAt 20 cfg0.N) hp).symm.trans (h.trans e)
theorem val21 (k : Fin 1024) (n : Fin 1024) : (show EReal from (dats m 0 c).arrAt 21 cfg0.N (ix2 k n)) = ∑ a : Fin 2048, (row m c a).dh n * (row m c a).og k := by
  have d : ∀ t t' : Fin cfg0.N, (cfg0.win 21).flush t = true → (cfg0.win 21).flush t' = true → t ≠ t' →
      Disjoint ((cfg0.win 21).blk t).view.set ((cfg0.win 21).blk t').view.set := fun t t' f f' hne =>
    absurd (Fin.ext (by have := (flush0_21 t).mp f; have := (flush0_21 t').mp f'; have := t.isLt; have := t'.isLt; have : cfg0.N = 8 := N_0; omega)) hne
  have h := congrFun ((dats m 0 c).read_blk_arrAt_eq_flushed 21 d cfg0.N last last.isLt ((flush0_21 last).mpr rfl)) (ix2 k n)
  rw [flushed21] at h
  have hp := place21 last k n
  have e := sweep (fun i hi => (show EReal from (outsAt0 m c i hi).2.2.2.2.2.2.2.2.2.2 (ix2 k n))) (fun a => (row m c a).dh n * (row m c a).og k)
    (fun hn => TailOuts.firstWo (held m c ⟨0, hn⟩) rfl k n)
    (fun i hn hn' => TailOuts.laterWo (held m c ⟨i + 1, hn⟩) (by have : cfg0.N = 8 := N_0; show ¬(i + 1) % 8 = 0; omega) k n) last.isLt
  exact (congrArg ((dats m 0 c).arrAt 21 cfg0.N) hp).symm.trans (h.trans e)

/-- The reference's host lines end, with the arguments as they were. -/
theorem frameRef : Cert.quiescent_Reference13Ideal (hReference13Ideal := Cert.Reference13Ideal.Gen.facts) := by
  intro m g _
  exact (θ_run _ _ _).mono (fun r h => ⟨fun c => (h c).2.2.2.2.2.2.2.2.2.2, sem_eq_zero_of_no_sems (by decide) r.2⟩)
    (Cert.Reference13Ideal.Value.run m g)

set_option maxHeartbeats 1000000 in
/-- The call and its reference leave the same ten arrays. -/
theorem algebraic : Cert.algebraic_Kernel13Ideal_Reference13Ideal (hKernel13Ideal := Cert.Kernel13Ideal.Gen.facts) (hReference13Ideal := Cert.Reference13Ideal.Gen.facts) := by
  intro m g m' g' _ hag
  refine ⟨fun c => (dats m 0 c).arrAt 12 cfg0.N, fun c => (dats m 0 c).arrAt 13 cfg0.N, fun c => (dats m 0 c).arrAt 14 cfg0.N, fun c => (dats m 0 c).arrAt 15 cfg0.N, fun c => (dats m 0 c).arrAt 16 cfg0.N, fun c => (dats m 0 c).arrAt 17 cfg0.N, fun c => (dats m 0 c).arrAt 18 cfg0.N, fun c => (dats m 0 c).arrAt 19 cfg0.N, fun c => (dats m 0 c).arrAt 20 cfg0.N, fun c => (dats m 0 c).arrAt 21 cfg0.N,
    (θ_run _ _ _).mono (fun r h c => (h c).2) (Cert.Kernel13Ideal.Value.run_blocks m g), ?_⟩
  refine (θ_run _ _ _).mono ?_ (Cert.Reference13Ideal.Value.run m' g')
  intro r h c
  obtain ⟨h0, h1, h2, h3, h4, h5, h6, h7, h8, h9, ha⟩ := h c
  have hr : TailRef.row (launchContents m' c) = row m c := by
    obtain ⟨e0, e1, e2, e3, e4, e5, e6, e7, e8, e9⟩ := hag c
    funext a
    show Row.mk (fun n => m' ((c.tc : Thread Cert.Reference13Ideal.nD Cert.Reference13Ideal.τ).loc Cert.Reference13Ideal.main_arg0) (ix2 a n)) _ _ _ _ _ _ _ _ _ _ = _
    unfold row
    congr 1
    · exact congrArg (fun A (n : Fin 1024) => A (ix2 a n)) e0
    · exact congrArg (fun A (n : Fin 1024) => A (ix2 (⟨256 + a.val, by omega⟩ : Fin 2304) (⟨n.val, by omega⟩ : Fin 2048))) e1
    · exact congrArg (fun A (n : Fin 1024) => A (ix2 (⟨256 + a.val, by omega⟩ : Fin 2304) (⟨1024 + n.val, by omega⟩ : Fin 2048))) e1
    · exact congrArg (fun A (n : Fin 1024) => A (ix2 (⟨256 + a.val, by omega⟩ : Fin 2304) n)) e2
    · exact congrArg (fun A (n : Fin 1024) => A (ix2 a n)) e3
    · exact congrArg (fun A (n : Fin 1024) => A (ix1 n)) e4
    · exact congrArg (fun A (n : Fin 1024) => A (ix1 n)) e5
    · exact congrArg (fun A (n : Fin 1024) => A (ix1 n)) e6
    · exact congrArg (fun A (n : Fin 1024) => A (ix1 n)) e7
    · exact congrArg (fun A (k n : Fin 1024) => A (ix2 k n)) e8
    · exact congrArg (fun A (k n : Fin 1024) => A (ix2 k n)) e9
  generalize launchContents m' c = σ at *
  refine ⟨h0.trans ?_, h1.trans ?_, h2.trans ?_, h3.trans ?_, h4.trans ?_, h5.trans ?_, h6.trans ?_, h7.trans ?_, h8.trans ?_, h9.trans ?_, ha⟩
  · funext i
    obtain ⟨a, n, rfl⟩ := ProdBlocks.coords2 i
    refine Eq.trans ?_ (val12 m c a n).symm
    rw [← hr]
    exact TailRef.v99 σ a n
  · funext i
    obtain ⟨a, n, rfl⟩ := ProdBlocks.coords2 i
    refine Eq.trans ?_ (val13 m c a n).symm
    rw [← hr]
    exact TailRef.v133 σ a n
  · funext i
    obtain ⟨a, n, rfl⟩ := ProdBlocks.coords2 i
    refine Eq.trans ?_ (val14 m c a n).symm
    rw [← hr]
    exact TailRef.du σ a n
  · funext i
    obtain ⟨a, n, rfl⟩ := ProdBlocks.coords2 i
    refine Eq.trans ?_ (val15 m c a n).symm
    rw [← hr]
    exact TailRef.dz σ a n
  · funext i
    obtain ⟨a, n, rfl⟩ := ProdBlocks.coords2 i
    refine Eq.trans ?_ (val16 m c a n).symm
    rw [← hr]
    exact (TailRef.columns _ a n).trans (Finset.sum_congr rfl fun x _ => TailRef.dfg σ x n)
  · funext i
    obtain ⟨a, n, rfl⟩ := ProdBlocks.coords2 i
    refine Eq.trans ?_ (val17 m c a n).symm
    rw [← hr]
    exact (TailRef.columns _ a n).trans (Finset.sum_congr rfl fun x _ => TailRef.dgt σ x n)
  · funext i
    obtain ⟨a, n, rfl⟩ := ProdBlocks.coords2 i
    refine Eq.trans ?_ (val18 m c a n).symm
    rw [← hr]
    exact (TailRef.columns _ a n).trans (Finset.sum_congr rfl fun x _ => TailRef.v114 σ x n)
  · funext i
    obtain ⟨a, n, rfl⟩ := ProdBlocks.coords2 i
    refine Eq.trans ?_ (val19 m c a n).symm
    rw [← hr]
    exact (TailRef.columns _ a n).trans (Finset.sum_congr rfl fun x _ => TailRef.dd σ x n)
  · funext i
    obtain ⟨a, n, rfl⟩ := ProdBlocks.coords2 i
    refine Eq.trans ?_ (val20 m c a n).symm
    rw [← hr]
    exact TailRef.dwg σ a n
  · funext i
    obtain ⟨a, n, rfl⟩ := ProdBlocks.coords2 i
    refine Eq.trans ?_ (val21 m c a n).symm
    rw [← hr]
    exact TailRef.dwo σ a n

end Attn.Prod13
-- ==== Proof.Prod14.lean ====
/-
  The first layer's output: the attention's output times the gate, projected, and added to the residual, 256 rows at a grid point (the context's at the first).
-/
module

public import proofs.«01_k».proof.Defs
public import proofs.«01_k».proof.Proof.ProdBlocks
public import proofs.«01_k».proof.Proof.TailRow
public import proofs.«01_k».proof.Proof.Gen.Kernel14Ideal.Value
public import proofs.«01_k».proof.Proof.Gen.Reference14Ideal.Run

@[expose] public section

set_option maxRecDepth 16384
noncomputable section
open Idealize.ShloMosaic Idealize.ShloMosaic.TcCoe Idealize.SL.Sem Idealize.ShloMosaic.StableHlo
namespace Attn.Prod14

/-! ## One number -/
/-- A number times the gate of another. -/
def gated (o z : EReal) : EReal := o * (z * Ideal.div 1 (1 + Ideal.exp (-z)))

/-- All the rows of two arrays of numbers, the first one's first. -/
def both (p : Fin 256 → Fin 1024 → EReal) (q : Fin 2048 → Fin 1024 → EReal) (a : Fin 2304) : Fin 1024 → EReal :=
  if h : a.val < 256 then p ⟨a.val, h⟩ else q ⟨a.val - 256, by omega⟩

/-! ## The reference -/
section
open Cert.Reference14Ideal Cert.Reference14Ideal.Gen
variable (x0 : FVec Ideal S2304x1024 .f32) (x1 : FVec Ideal S2304x1536 .f32)
  (x2 : FVec Ideal S256x1024 .f32) (x3 : FVec Ideal S2048x1024 .f32)
  (x4 : FVec Ideal S2x1024 .f32) (x5 : FVec Ideal S1024x1024 .f32)
/-- The reference's gated rows as a function of its arguments. -/
def refGate : FVec Ideal S2304x1024 .f32 := (mulf x0 (mulf (extractStridedSlice S2304x1024 ![0, 0] x1 slices_S2304x1536_S2304x1024_0_0) (Host.divf (broadcastInDim S2304x1024 ![] bcast_S_S2304x1024 (constant S_ .f32 0x3F800000#32)) (addf (broadcastInDim S2304x1024 ![] bcast_S_S2304x1024 (constant S_ .f32 0x3F800000#32)) (Host.exp (Host.negf (extractStridedSlice S2304x1024 ![0, 0] x1 slices_S2304x1536_S2304x1024_0_0)))))))
/-- Its projection. -/
def refOut (y : FVec Ideal S2304x1024 .f32) : FVec Ideal S2304x1024 .f32 :=
  Host.dotGeneral dot_S2304x1024_S1024x1024_S2304x1024_1_0_0_1_n_n none y x5
/-- The context's rows of its result. -/
def refCtx (y : FVec Ideal S2304x1024 .f32) : FVec Ideal S256x1024 .f32 :=
  addf x2 (mulf (broadcastInDim S256x1024 ![0, 1] bcast_S1x1024_S256x1024_0_1 (broadcastInDim S1x1024 ![1] bcast_S1024_S1x1024_1 (shapeCast _ (extractStridedSlice S1x1024 ![0, 0] x4 slices_S2x1024_S1x1024_0_0) shapeCasts_S1x1024_S1024))) (extractStridedSlice S256x1024 ![0, 0] y slices_S2304x1024_S256x1024_0_0))
/-- The latents' rows. -/
def refLat (y : FVec Ideal S2304x1024 .f32) : FVec Ideal S2048x1024 .f32 :=
  addf x3 (mulf (broadcastInDim S2048x1024 ![0, 1] bcast_S1x1024_S2048x1024_0_1 (broadcastInDim S1x1024 ![1] bcast_S1024_S1x1024_1 (shapeCast _ (extractStridedSlice S1x1024 ![1, 0] x4 slices_S2x1024_S1x1024_1_0) shapeCasts_S1x1024_S1024))) (extractStridedSlice S2048x1024 ![256, 0] y slices_S2304x1024_S2048x1024_256_0))
/-- All the rows. -/
def refTop (y : FVec Ideal S2304x1024 .f32) : FVec Ideal S2304x1024 .f32 :=
  concatenate S2304x1024 0 [⟨S256x1024, refCtx x2 x4 y⟩, ⟨S2048x1024, refLat x3 x4 y⟩] concatenates_S256x1024_S2048x1024_S2304x1024_d0
theorem refGate_at (a : Fin 2304) (b : Fin 1024) : (show EReal from refGate x0 x1 (ix2 a b))
    = gated (x0 (ix2 a b)) (x1 (ix2 a ⟨b.val, by omega⟩)) := by
  pointwise [refGate, gated]
theorem refOut_at (y : FVec Ideal S2304x1024 .f32) (a : Fin 2304) (b : Fin 1024) : (show EReal from refOut x5 y (ix2 a b))
    = ∑ n : Fin 1024, (show EReal from y (ix2 a n)) * (show EReal from x5 (ix2 n b)) := by
  pointwise [refOut]
theorem refCtx_at (y : FVec Ideal S2304x1024 .f32) (a : Fin 256) (b : Fin 1024) : (show EReal from refCtx x2 x4 y (ix2 a b))
    = (show EReal from x2 (ix2 a b)) + (show EReal from x4 (ix2 0 b)) * (show EReal from y (ix2 ⟨a.val, by omega⟩ b)) := by
  pointwise [refCtx]
theorem refLat_at (y : FVec Ideal S2304x1024 .f32) (a : Fin 2048) (b : Fin 1024) : (show EReal from refLat x3 x4 y (ix2 a b))
    = (show EReal from x3 (ix2 a b)) + (show EReal from x4 (ix2 1 b)) * (show EReal from y (ix2 ⟨256 + a.val, by omega⟩ b)) := by
  pointwise [refLat]
theorem refTop_at (y : FVec Ideal S2304x1024 .f32) (a : Fin 2304) (b : Fin 1024) : (show EReal from refTop x2 x3 x4 y (ix2 a b))
    = both (fun a n => x2 (ix2 a n)) (fun a n => x3 (ix2 a n)) a b + (show EReal from x4 (ix2 ((⟨min (a.val / 256) 1, by omega⟩ : Fin 2)) b)) * (show EReal from y (ix2 a b)) := by
  unfold both
  rcases lt_or_ge a.val 256 with h | h
  · have q : (⟨min (a.val / 256) 1, by omega⟩ : Fin 2) = 0 := Fin.ext (by show min (a.val / 256) 1 = 0; omega)
    rw [q, dif_pos h]
    refine Eq.trans ?_ (refCtx_at x2 x4 y ⟨a.val, h⟩ b)
    pointwise [refTop]
    rw [dif_pos h]
  · have q : (⟨min (a.val / 256) 1, by omega⟩ : Fin 2) = 1 := Fin.ext (by show min (a.val / 256) 1 = 1; omega)
    rw [q, dif_neg (by omega)]
    have hr : (⟨256 + (a.val - 256), by omega⟩ : Fin 2304) = a := Fin.ext (by show 256 + (a.val - 256) = a.val; omega)
    refine Eq.trans ?_ ((refLat_at x3 x4 y ⟨a.val - 256, by omega⟩ b).trans (by rw [hr]))
    pointwise [refTop]
    rw [dif_neg (by omega)]
end

open Cert.Kernel14Ideal Cert.Kernel14Ideal.Gen Cert.Kernel14Ideal.Value
variable (m : (ℓ : Loc nD τ sig) → Buf (Elt Ideal) ℓ) (c : Dev nD)

/-! ## The operands -/
/-- The attention's output. -/
def arrO : Fin 2304 → Fin 1024 → EReal := fun a b => m ((c : Thread nD τ).loc main_arg0) (ix2 a b)
/-- The projection's result, whose first 1024 columns are the gate's. -/
def arrP : Fin 2304 → Fin 1536 → EReal := fun a b => m ((c : Thread nD τ).loc main_arg1) (ix2 a b)
/-- The gate's columns. -/
def arrZ (a : Fin 2304) (b : Fin 1024) : EReal := arrP m c a ⟨b.val, by omega⟩
/-- The context's rows of the residual. -/
def arrC : Fin 256 → Fin 1024 → EReal := fun a b => m ((c : Thread nD τ).loc main_arg2) (ix2 a b)
/-- The latents' rows. -/
def arrX : Fin 2048 → Fin 1024 → EReal := fun a b => m ((c : Thread nD τ).loc main_arg3) (ix2 a b)
/-- The residual's gate of each batch entry. -/
def arrG : Fin 2 → Fin 1024 → EReal := fun a b => m ((c : Thread nD τ).loc main_arg4) (ix2 a b)
/-- The projection's weights. -/
def arrW : Fin 1024 → Fin 1024 → EReal := fun a b => m ((c : Thread nD τ).loc main_arg5) (ix2 a b)
theorem entryO (a : Fin 2304) (b : Fin 1024) : (show EReal from V m c main_arg0 (ix2 a b)) = arrO m c a b := congrFun (V_main_arg0 m c) (ix2 a b)
theorem entryP (a : Fin 2304) (b : Fin 1536) : (show EReal from V m c main_arg1 (ix2 a b)) = arrP m c a b := congrFun (V_main_arg1 m c) (ix2 a b)
theorem entryC (a : Fin 256) (b : Fin 1024) : (show EReal from V m c main_arg2 (ix2 a b)) = arrC m c a b := congrFun (V_main_arg2 m c) (ix2 a b)
theorem entryX (a : Fin 2048) (b : Fin 1024) : (show EReal from V m c main_arg3 (ix2 a b)) = arrX m c a b := congrFun (V_main_arg3 m c) (ix2 a b)
theorem entryG (a : Fin 2) (b : Fin 1024) : (show EReal from V m c main_v0 (ix3 a 0 b)) = arrG m c a b := by
  show (show EReal from after hostOps0 (fun b => m (c, b)) main_v0 (ix3 a 0 b)) = _
  simp only
  repeat (after_reads_simp; pointwise)
  rfl
theorem entryW (a : Fin 1024) (b : Fin 1024) : (show EReal from V m c main_v1 (ix2 a b)) = arrW m c a b := by
  show (show EReal from after hostOps0 (fun b => m (c, b)) main_v1 (ix2 a b)) = _
  simp only
  repeat (after_reads_simp; pointwise)
  rfl

/-! ## The blocks' places -/
theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = t.val ∧ win0_1.index t (1 : Fin 2) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 2) = t.val - 1 ∧ win0_3.index t (1 : Fin 2) = 0 :=
  (by decide +kernel : ∀ t : Fin grid0.N, _)
theorem index4 : ∀ t : Fin cfg0.N, win0_4.index t (0 : Fin 3) = min t.val 1 ∧ win0_4.index t (1 : Fin 3) = 0 ∧ win0_4.index t (2 : Fin 3) = 0 :=
  (by decide +kernel : ∀ t : Fin grid0.N, _)
theorem index5 : ∀ t : Fin cfg0.N, win0_5.index t (0 : Fin 2) = 0 ∧ win0_5.index t (1 : Fin 2) = 0 :=
  (by decide +kernel : ∀ t : Fin grid0.N, _)
theorem index6 : ∀ t : Fin cfg0.N, win0_6.index t (0 : Fin 2) = t.val ∧ win0_6.index t (1 : Fin 2) = 0 :=
  (by decide +kernel : ∀ t : Fin grid0.N, _)
theorem index7 : ∀ t : Fin cfg0.N, win0_7.index t (0 : Fin 2) = t.val ∧ win0_7.index t (1 : Fin 2) = 0 :=
  (by decide +kernel : ∀ t : Fin grid0.N, _)
theorem index8 : ∀ t : Fin cfg0.N, win0_8.index t (0 : Fin 2) = t.val ∧ win0_8.index t (1 : Fin 2) = 0 :=
  (by decide +kernel : ∀ t : Fin grid0.N, _)
theorem coord : ∀ t : Fin cfg0.N, (grid0.coords t (0 : Fin 1)).val = t.val := (by decide +kernel : ∀ t : Fin grid0.N, _)
theorem flush6 : ∀ t : Fin cfg0.N, (cfg0.win 6).flush t = true := (by decide +kernel : ∀ t : Fin grid0.N, _)
theorem flush7 : ∀ t : Fin cfg0.N, (cfg0.win 7).flush t = true := (by decide +kernel : ∀ t : Fin grid0.N, _)
theorem flush8 : ∀ t : Fin cfg0.N, (cfg0.win 8).flush t = true := (by decide +kernel : ∀ t : Fin grid0.N, _)
/-- The row of the whole under row `a` of the block at `t`. -/
abbrev whole (t : Fin cfg0.N) (a : Fin 256) : Fin 2304 := ⟨256 * t.val + a.val, by have := t.isLt; have : cfg0.N = 9 := N_0; omega⟩
/-- The batch entry whose gate the block at `t` takes. -/
abbrev batch (t : Fin cfg0.N) : Fin 2 := ⟨min t.val 1, by omega⟩
/-- The latents' row under row `a` of the block at `t`. -/
abbrev lat (t : Fin cfg0.N) (a : Fin 256) : Fin 2048 := ⟨256 * (t.val - 1) + a.val, by have := t.isLt; have : cfg0.N = 9 := N_0; omega⟩
theorem place0 (t : Fin cfg0.N) (a : Fin 256) (b : Fin 1024) : ((cfg0.win 0).blk t).view.emb (ix2 a b) =
    (ix2 (whole t a) b : (⟨2, ![2304, 1024]⟩ : Shape).Idx) :=
  ProdBlocks.place (win0_0.index t (0 : Fin 2)) (win0_0.index t (1 : Fin 2)) _ a b rfl rfl _ _ (index0 t).1 (index0 t).2 _ _ (by simp) (by simp)
theorem place2 (t : Fin cfg0.N) (a : Fin 256) (b : Fin 1024) : ((cfg0.win 2).blk t).view.emb (ix2 a b) =
    (ix2 a b : (⟨2, ![256, 1024]⟩ : Shape).Idx) :=
  ProdBlocks.place (win0_2.index t (0 : Fin 2)) (win0_2.index t (1 : Fin 2)) _ a b rfl rfl _ _ (index2 t).1 (index2 t).2 _ _ (by simp) (by simp)
theorem place3 (t : Fin cfg0.N) (a : Fin 256) (b : Fin 1024) : ((cfg0.win 3).blk t).view.emb (ix2 a b) =
    (ix2 (lat t a) b : (⟨2, ![2048, 1024]⟩ : Shape).Idx) :=
  ProdBlocks.place (win0_3.index t (0 : Fin 2)) (win0_3.index t (1 : Fin 2)) _ a b rfl rfl _ _ (index3 t).1 (index3 t).2 _ _ (by simp) (by simp)
theorem place4 (t : Fin cfg0.N) (b : Fin 1024) : ((cfg0.win 4).blk t).view.emb (ix3 0 0 b) =
    (ix3 (batch t) 0 b : (⟨3, ![2, 1, 1024]⟩ : Shape).Idx) :=
  ProdBlocks.placeRow (win0_4.index t (0 : Fin 3)) (win0_4.index t (1 : Fin 3)) (win0_4.index t (2 : Fin 3)) _ b rfl rfl rfl _ (index4 t).1 (index4 t).2.1 (index4 t).2.2 _ rfl
theorem place5 (t : Fin cfg0.N) (a : Fin 1024) (b : Fin 1024) : ((cfg0.win 5).blk t).view.emb (ix2 a b) =
    (ix2 a b : (⟨2, ![1024, 1024]⟩ : Shape).Idx) :=
  ProdBlocks.place (win0_5.index t (0 : Fin 2)) (win0_5.index t (1 : Fin 2)) _ a b rfl rfl _ _ (index5 t).1 (index5 t).2 _ _ (by simp) (by simp)
theorem place6 (t : Fin cfg0.N) (a : Fin 256) (b : Fin 1024) : ((cfg0.win 6).blk t).view.emb (ix2 a b) =
    (ix2 (whole t a) b : (⟨2, ![2304, 1024]⟩ : Shape).Idx) :=
  ProdBlocks.place (win0_6.index t (0 : Fin 2)) (win0_6.index t (1 : Fin 2)) _ a b rfl rfl _ _ (index6 t).1 (index6 t).2 _ _ (by simp) (by simp)
theorem place7 (t : Fin cfg0.N) (a : Fin 256) (b : Fin 1024) : ((cfg0.win 7).blk t).view.emb (ix2 a b) =
    (ix2 (whole t a) b : (⟨2, ![2304, 1024]⟩ : Shape).Idx) :=
  ProdBlocks.place (win0_7.index t (0 : Fin 2)) (win0_7.index t (1 : Fin 2)) _ a b rfl rfl _ _ (index7 t).1 (index7 t).2 _ _ (by simp) (by simp)
theorem place8 (t : Fin cfg0.N) (a : Fin 256) (b : Fin 1024) : ((cfg0.win 8).blk t).view.emb (ix2 a b) =
    (ix2 (whole t a) b : (⟨2, ![2304, 1024]⟩ : Shape).Idx) :=
  ProdBlocks.place (win0_8.index t (0 : Fin 2)) (win0_8.index t (1 : Fin 2)) _ a b rfl rfl _ _ (index8 t).1 (index8 t).2 _ _ (by simp) (by simp)
theorem blk0 (t : Fin cfg0.N) (a : Fin 256) (b : Fin 1024) : (show EReal from iblk m c 0 t (ix2 a b)) = arrO m c (whole t a) b := by
  have h := entryO m c
  unfold iblk
  generalize V m c (Pipeline.arrRef spec0 0) = A at h ⊢
  exact (congrArg A (place0 t a b)).trans (h _ _)
/-- The gate's block: no part of it is cut. -/
theorem blk1 (t : Fin cfg0.N) (a : Fin 256) (b : Fin 1024) : (show EReal from X0_1 m c t (ix2 a b)) = arrZ m c (whole t a) b := by
  have h := entryP m c
  unfold X0_1 Pipeline.Window.fill
  rw [dif_pos (moved0_1 t _)]
  unfold iblk
  generalize V m c (Pipeline.arrRef spec0 1) = A at h ⊢
  refine Eq.trans (congrArg A ?_) (h (whole t a) ⟨b.val, by omega⟩)
  exact ProdBlocks.place (win0_1.index t (0 : Fin 2)) (win0_1.index t (1 : Fin 2)) _ a b rfl rfl _ _ (index1 t).1 (index1 t).2 _ _ (by simp) (by simp)
theorem blk2 (t : Fin cfg0.N) (a : Fin 256) (b : Fin 1024) : (show EReal from iblk m c 2 t (ix2 a b)) = arrC m c a b := by
  have h := entryC m c
  unfold iblk
  generalize V m c (Pipeline.arrRef spec0 2) = A at h ⊢
  exact (congrArg A (place2 t a b)).trans (h _ _)
theorem blk3 (t : Fin cfg0.N) (a : Fin 256) (b : Fin 1024) : (show EReal from iblk m c 3 t (ix2 a b)) = arrX m c (lat t a) b := by
  have h := entryX m c
  unfold iblk
  generalize V m c (Pipeline.arrRef spec0 3) = A at h ⊢
  exact (congrArg A (place3 t a b)).trans (h _ _)
theorem blk4 (t : Fin cfg0.N) (b : Fin 1024) : (show EReal from iblk m c 4 t (ix3 0 0 b)) = arrG m c (batch t) b := by
  have h := entryG m c
  unfold iblk
  generalize V m c (Pipeline.arrRef spec0 4) = A at h ⊢
  exact (congrArg A (place4 t b)).trans (h _ _)
theorem blk5 (t : Fin cfg0.N) (a : Fin 1024) (b : Fin 1024) : (show EReal from iblk m c 5 t (ix2 a b)) = arrW m c a b := by
  have h := entryW m c
  unfold iblk
  generalize V m c (Pipeline.arrRef spec0 5) = A at h ⊢
  exact (congrArg A (place5 t a b)).trans (h _ _)

/-! ## A grid point's rows -/
section
variable (i : grid0.Coords) (o z x y : Vec Ideal S256x1024 .f32) (g : Vec Ideal S1x1x1024 .f32) (w : Vec Ideal S1024x1024 .bf16)
/-- The first grid point's test. -/
theorem first (h : (i 0).val = 0) : Scalar.cmpi .slt (BitVec.ofNat 32 (i 0).val) 1#32 = 1#1 := by rw [h]; decide
/-- The others'. -/
theorem later (h : (i 0).val ≠ 0) : Scalar.cmpi .slt (BitVec.ofNat 32 (i 0).val) 1#32 = 0#1 := by
  have : ∀ n : Fin 9, n.val ≠ 0 → Scalar.cmpi .slt (BitVec.ofNat 32 n.val) 1#32 = 0#1 := by decide
  exact this (i 0) h
theorem payGate (a : Fin 256) (b : Fin 1024) : (show EReal from k0_pay1 o z (ix2 a b)) = gated (o (ix2 a b)) (z (ix2 a b)) := by
  pointwise [k0_pay1]
  simp only [gated, Tail.sigmoid]
theorem payOut (a : Fin 256) (b : Fin 1024) : (show EReal from k0_pay2 o z w (ix2 a b))
    = ∑ n : Fin 1024, gated (o (ix2 a n)) (z (ix2 a n)) * (show EReal from w (ix2 n b)) := by
  refine Eq.trans (b := ∑ n : Fin 1024, (show EReal from k0_pay1 o z (ix2 a n)) * (show EReal from w (ix2 n b))) ?_ ?_
  · pointwise [k0_pay2]
  · exact Finset.sum_congr rfl fun n _ => congrArg (· * _) (payGate o z a n)
theorem payFirst (h : (i 0).val = 0) (a : Fin 256) (b : Fin 1024) : (show EReal from k0_pay3 i o z w x y g (ix2 a b))
    = (show EReal from x (ix2 a b)) + (show EReal from g (ix3 0 0 b)) * (show EReal from k0_pay2 o z w (ix2 a b)) := by
  pointwise [k0_pay3, first i h]
theorem payLater (h : (i 0).val ≠ 0) (a : Fin 256) (b : Fin 1024) : (show EReal from k0_pay3 i o z w x y g (ix2 a b))
    = (show EReal from y (ix2 a b)) + (show EReal from g (ix3 0 0 b)) * (show EReal from k0_pay2 o z w (ix2 a b)) := by
  pointwise [k0_pay3, later i h]
end

/-! ## What a grid point leaves, in the arguments' own numbers -/
/-- An entry of the gated rows. -/
def og (a : Fin 2304) (b : Fin 1024) : EReal := gated (arrO m c a b) (arrZ m c a b)
/-- An entry of their projection. -/
def out (a : Fin 2304) (b : Fin 1024) : EReal := ∑ n : Fin 1024, og m c a n * arrW m c n b
theorem eachGate (t : Fin cfg0.N) (a : Fin 256) (b : Fin 1024) :
    (show EReal from k0_pay1 (iblk m c 0 t) (X0_1 m c t) (ix2 a b)) = og m c (whole t a) b := by
  refine (payGate (iblk m c 0 t) (X0_1 m c t) a b).trans ?_
  exact congr (congrArg gated (blk0 m c t a b)) (blk1 m c t a b)
theorem eachOut (t : Fin cfg0.N) (a : Fin 256) (b : Fin 1024) :
    (show EReal from k0_pay2 (iblk m c 0 t) (X0_1 m c t) (iblk m c 5 t) (ix2 a b)) = out m c (whole t a) b := by
  refine (payOut (iblk m c 0 t) (X0_1 m c t) (iblk m c 5 t) a b).trans ?_
  refine Finset.sum_congr rfl fun n _ => ?_
  exact congr (congrArg (· * ·) (congr (congrArg gated (blk0 m c t a n)) (blk1 m c t a n))) (blk5 m c t n b)
theorem eachTop (t : Fin cfg0.N) (a : Fin 256) (b : Fin 1024) :
    (show EReal from k0_pay3 (grid0.coords t) (iblk m c 0 t) (X0_1 m c t) (iblk m c 5 t) (iblk m c 2 t) (iblk m c 3 t) (iblk m c 4 t) (ix2 a b))
      = both (arrC m c) (arrX m c) (whole t a) b + arrG m c (batch t) b * out m c (whole t a) b := by
  have e := congr (congrArg (· * ·) (blk4 m c t b)) (eachOut m c t a b)
  by_cases ht : t.val = 0
  · refine (payFirst (grid0.coords t) _ _ _ _ _ _ ((coord t).trans ht) a b).trans ?_
    refine congrArg₂ (fun x y : EReal => x + y) ?_ e
    have hw : (whole t a).val < 256 := by show 256 * t.val + a.val < 256; omega
    unfold both
    rw [dif_pos hw]
    have q : (⟨(whole t a).val, hw⟩ : Fin 256) = a := Fin.ext (by show 256 * t.val + a.val = a.val; omega)
    rw [q]
    exact blk2 m c t a b
  · refine (payLater (grid0.coords t) _ _ _ _ _ _ (fun h => ht ((coord t).symm.trans h)) a b).trans ?_
    refine congrArg₂ (fun x y : EReal => x + y) ?_ e
    have hw : ¬(whole t a).val < 256 := by show ¬256 * t.val + a.val < 256; omega
    unfold both
    rw [dif_neg hw]
    have q : (⟨(whole t a).val - 256, by have := (whole t a).isLt; omega⟩ : Fin 2048) = lat t a :=
      Fin.ext (by show 256 * t.val + a.val - 256 = 256 * (t.val - 1) + a.val; omega)
    rw [q]
    exact blk3 m c t a b

/-! ## The whole arrays -/
/-- The point whose block holds row `a`, and its row of the block. -/
abbrev point (a : Fin 2304) : Fin cfg0.N := ⟨a.val / 256, by have : cfg0.N = 9 := N_0; omega⟩
theorem whole_point (a : Fin 2304) : whole (point a) ⟨a.val % 256, by omega⟩ = a := Fin.ext (by show 256 * (a.val / 256) + a.val % 256 = a.val; omega)
theorem leftGate (t : Fin cfg0.N) (a : Fin 256) (b : Fin 1024) : (show EReal from (outsAt0 m c t).2.1 (ix2 a b)) = og m c (whole t a) b := by
  unfold outsAt0
  frame_out
  exact eachGate m c t a b
theorem valGate (a : Fin 2304) (b : Fin 1024) : (show EReal from (dats m 0 c).arrAt 7 cfg0.N (ix2 a b)) = og m c a b := by
  have h := congrFun (blocks7 m c (point a) (flush7 _)) (ix2 ⟨a.val % 256, by omega⟩ b)
  rw [flushed7] at h
  have hp := place7 (point a) ⟨a.val % 256, by omega⟩ b
  have e := leftGate m c (point a) ⟨a.val % 256, by omega⟩ b
  rw [whole_point] at hp e
  exact (congrArg ((dats m 0 c).arrAt 7 cfg0.N) hp).symm.trans (h.trans e)
theorem leftOut (t : Fin cfg0.N) (a : Fin 256) (b : Fin 1024) : (show EReal from (outsAt0 m c t).2.2 (ix2 a b)) = out m c (whole t a) b := by
  unfold outsAt0
  frame_out
  exact eachOut m c t a b
theorem valOut (a : Fin 2304) (b : Fin 1024) : (show EReal from (dats m 0 c).arrAt 8 cfg0.N (ix2 a b)) = out m c a b := by
  have h := congrFun (blocks8 m c (point a) (flush8 _)) (ix2 ⟨a.val % 256, by omega⟩ b)
  rw [flushed8] at h
  have hp := place8 (point a) ⟨a.val % 256, by omega⟩ b
  have e := leftOut m c (point a) ⟨a.val % 256, by omega⟩ b
  rw [whole_point] at hp e
  exact (congrArg ((dats m 0 c).arrAt 8 cfg0.N) hp).symm.trans (h.trans e)
theorem leftTop (t : Fin cfg0.N) (a : Fin 256) (b : Fin 1024) : (show EReal from (outsAt0 m c t).1 (ix2 a b)) = both (arrC m c) (arrX m c) (whole t a) b + arrG m c (batch t) b * out m c (whole t a) b := by
  unfold outsAt0
  frame_out
  exact eachTop m c t a b
theorem valTop (a : Fin 2304) (b : Fin 1024) : (show EReal from (dats m 0 c).arrAt 6 cfg0.N (ix2 a b)) = both (arrC m c) (arrX m c) a b + arrG m c (batch (point a)) b * out m c a b := by
  have h := congrFun (blocks6 m c (point a) (flush6 _)) (ix2 ⟨a.val % 256, by omega⟩ b)
  rw [flushed6] at h
  have hp := place6 (point a) ⟨a.val % 256, by omega⟩ b
  have e := leftTop m c (point a) ⟨a.val % 256, by omega⟩ b
  rw [whole_point] at hp e
  exact (congrArg ((dats m 0 c).arrAt 6 cfg0.N) hp).symm.trans (h.trans e)

/-- The reference's host lines end, with the arguments as they were. -/
theorem frameRef : Cert.quiescent_Reference14Ideal (hReference14Ideal := Cert.Reference14Ideal.Gen.facts) := by
  intro m g _
  exact (θ_run _ _ _).mono (fun r h => ⟨fun c => (h c).2.2.2, sem_eq_zero_of_no_sems (by decide) r.2⟩)
    (Cert.Reference14Ideal.Value.run m g)

set_option maxHeartbeats 1000000 in
/-- The call and its reference leave the same three arrays. -/
theorem algebraic : Cert.algebraic_Kernel14Ideal_Reference14Ideal (hKernel14Ideal := Cert.Kernel14Ideal.Gen.facts) (hReference14Ideal := Cert.Reference14Ideal.Gen.facts) := by
  intro m g m' g' _ hag
  refine ⟨fun c => (dats m 0 c).arrAt 6 cfg0.N, fun c => (dats m 0 c).arrAt 7 cfg0.N, fun c => (dats m 0 c).arrAt 8 cfg0.N, Cert.Kernel14Ideal.Value.run_blocks m g, ?_⟩
  refine (θ_run _ _ _).mono ?_ (Cert.Reference14Ideal.Value.run m' g')
  intro r h c
  obtain ⟨h0, h1, h2, ha⟩ := h c
  obtain ⟨e0, e1, e2, e3, e4, e5⟩ := hag c
  rw [e0, e1] at h1
  rw [e0, e1, e5] at h2
  rw [e0, e1, e2, e3, e4, e5] at h0
  have hg := fun a n => refGate_at (m ((c : Thread nD τ).loc main_arg0)) (m ((c : Thread nD τ).loc main_arg1)) a n
  have ho : ∀ a n, (show EReal from refOut (m ((c : Thread nD τ).loc main_arg5)) (refGate (m ((c : Thread nD τ).loc main_arg0)) (m ((c : Thread nD τ).loc main_arg1))) (ix2 a n)) = out m c a n := fun a n =>
    (refOut_at (m ((c : Thread nD τ).loc main_arg5)) _ a n).trans (Finset.sum_congr rfl fun k _ => congrArg (· * _) (hg a k))
  refine ⟨h0.trans ?_, h1.trans ?_, h2.trans ?_, ha⟩
  · funext i
    obtain ⟨a, n, rfl⟩ := ProdBlocks.coords2 i
    refine Eq.trans ?_ (valTop m c a n).symm
    refine (refTop_at (m ((c : Thread nD τ).loc main_arg2)) (m ((c : Thread nD τ).loc main_arg3)) (m ((c : Thread nD τ).loc main_arg4)) (refOut (m ((c : Thread nD τ).loc main_arg5)) (refGate (m ((c : Thread nD τ).loc main_arg0)) (m ((c : Thread nD τ).loc main_arg1)))) a n).trans ?_
    exact congrArg (fun q => both (arrC m c) (arrX m c) a n + arrG m c (batch (point a)) n * q) (ho a n)
  · funext i
    obtain ⟨a, n, rfl⟩ := ProdBlocks.coords2 i
    exact (hg a n).trans (valGate m c a n).symm
  · funext i
    obtain ⟨a, n, rfl⟩ := ProdBlocks.coords2 i
    exact (ho a n).trans (valOut m c a n).symm

end Attn.Prod14
-- ==== Proof.lean ====
/-
  The certificate: the frames from the generated runs, the preservation trivially (no operation is replaced), and the
  equalities with the references from Assemble.lean, FwdAssemble.lean and the product modules.
-/

module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Pre_finite2
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Assemble
public import proofs.«01_k».proof.Proof.FwdAssemble
public import proofs.«01_k».proof.Proof.Prod3
public import proofs.«01_k».proof.Proof.Prod4
public import proofs.«01_k».proof.Proof.Prod5
public import proofs.«01_k».proof.Proof.Prod6
public import proofs.«01_k».proof.Proof.Prod7
public import proofs.«01_k».proof.Proof.Prod8
public import proofs.«01_k».proof.Proof.Prod9
public import proofs.«01_k».proof.Proof.Prod10
public import proofs.«01_k».proof.Proof.Prod11
public import proofs.«01_k».proof.Proof.Prod12
public import proofs.«01_k».proof.Proof.Prod13
public import proofs.«01_k».proof.Proof.Prod14
public import Idealize.ShloMosaic.Adequacy
public import Idealize.ShloMosaic.Init

@[expose] public section

noncomputable section

namespace Cert.Proof

open Idealize.ShloMosaic Idealize.SL.Sem Cert.Kernel

/-- All claims of the certificate. -/
theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Kernel8.Gen.facts,
  Cert.Kernel8Ideal.Gen.facts,
  Cert.Reference8Ideal.Gen.facts,
  Cert.Kernel9.Gen.facts,
  Cert.Kernel9Ideal.Gen.facts,
  Cert.Reference9Ideal.Gen.facts,
  Cert.Kernel10.Gen.facts,
  Cert.Kernel10Ideal.Gen.facts,
  Cert.Reference10Ideal.Gen.facts,
  Cert.Kernel11.Gen.facts,
  Cert.Kernel11Ideal.Gen.facts,
  Cert.Reference11Ideal.Gen.facts,
  Cert.Kernel12.Gen.facts,
  Cert.Kernel12Ideal.Gen.facts,
  Cert.Reference12Ideal.Gen.facts,
  Cert.Kernel13.Gen.facts,
  Cert.Kernel13Ideal.Gen.facts,
  Cert.Reference13Ideal.Gen.facts,
  Cert.Kernel14.Gen.facts,
  Cert.Kernel14Ideal.Gen.facts,
  Cert.Reference14Ideal.Gen.facts,
  Cert.Pre_finite.Gen.facts,
  Cert.Pre_finite2.Gen.facts,
  fun m ρ _ => Cert.Kernel.Gen.frame m ρ,
  fun m ρ _ => Cert.KernelIdeal.Gen.frame m ρ,
  fun m ρ _ => Cert.KernelIdeal.Gen.frame m ρ,
  fun m ρ _ => Attn.Assemble.frameRef m ρ trivial,
  fun m ρ _ => Attn.Assemble.frameRef m ρ trivial,
  fun m ρ _ => Cert.Kernel2.Gen.frame m ρ,
  fun m ρ _ => Cert.Kernel2Ideal.Gen.frame m ρ,
  fun m ρ _ => Cert.Kernel2Ideal.Gen.frame m ρ,
  fun m ρ _ => Attn.FwdAssemble.frameRef m ρ trivial,
  fun m ρ _ => Attn.FwdAssemble.frameRef m ρ trivial,
  fun m ρ _ => Cert.Kernel3.Gen.frame m ρ,
  fun m ρ _ => Cert.Kernel3Ideal.Gen.frame m ρ,
  Attn.Prod3.frameRef,
  fun m ρ _ => Cert.Kernel4.Gen.frame m ρ,
  fun m ρ _ => Cert.Kernel4Ideal.Gen.frame m ρ,
  Attn.Prod4.frameRef,
  fun m ρ _ => Cert.Kernel5.Gen.frame m ρ,
  fun m ρ _ => Cert.Kernel5Ideal.Gen.frame m ρ,
  Attn.Prod5.frameRef,
  fun m ρ _ => Cert.Kernel6.Gen.frame m ρ,
  fun m ρ _ => Cert.Kernel6Ideal.Gen.frame m ρ,
  Attn.Prod6.frameRef,
  fun m ρ _ => Cert.Kernel7.Gen.frame m ρ,
  fun m ρ _ => Cert.Kernel7Ideal.Gen.frame m ρ,
  Attn.Prod7.frameRef,
  fun m ρ _ => Cert.Kernel8.Gen.frame m ρ,
  fun m ρ _ => Cert.Kernel8Ideal.Gen.frame m ρ,
  Attn.Prod8.frameRef,
  fun m ρ _ => Cert.Kernel9.Gen.frame m ρ,
  fun m ρ _ => Cert.Kernel9Ideal.Gen.frame m ρ,
  Attn.Prod9.frameRef,
  fun m ρ _ => Cert.Kernel10.Gen.frame m ρ,
  fun m ρ _ => Cert.Kernel10Ideal.Gen.frame m ρ,
  Attn.Prod10.frameRef,
  fun m ρ _ => Cert.Kernel11.Gen.frame m ρ,
  fun m ρ _ => Cert.Kernel11Ideal.Gen.frame m ρ,
  Attn.Prod11.frameRef,
  fun m ρ _ => Cert.Kernel12.Gen.frame m ρ,
  fun m ρ _ => Cert.Kernel12Ideal.Gen.frame m ρ,
  Attn.Prod12.frameRef,
  fun m ρ _ => Cert.Kernel13.Gen.frame m ρ,
  fun m ρ _ => Cert.Kernel13Ideal.Gen.frame m ρ,
  Attn.Prod13.frameRef,
  fun m ρ _ => Cert.Kernel14.Gen.frame m ρ,
  fun m ρ _ => Cert.Kernel14Ideal.Gen.frame m ρ,
  Attn.Prod14.frameRef,
  trivial,
  Attn.Assemble.algebraic,
  trivial,
  Attn.FwdAssemble.algebraic,
  trivial,
  Attn.Prod3.algebraic,
  trivial,
  Attn.Prod4.algebraic,
  trivial,
  Attn.Prod5.algebraic,
  trivial,
  Attn.Prod6.algebraic,
  trivial,
  Attn.Prod7.algebraic,
  trivial,
  Attn.Prod8.algebraic,
  trivial,
  Attn.Prod9.algebraic,
  trivial,
  Attn.Prod10.algebraic,
  trivial,
  Attn.Prod11.algebraic,
  trivial,
  Attn.Prod12.algebraic,
  trivial,
  Attn.Prod13.algebraic,
  trivial,
  Attn.Prod14.algebraic⟩

end Cert.Proof
